-- ==== Defs.lean ====
def Pre_KScan (m : (ℓ : Loc Cert.KScan.nD Cert.KScan.τ Cert.KScan.sig) → Buf (Elt Bits) ℓ) : Prop :=
  True

def Pre_KScanIdeal (m : (ℓ : Loc Cert.KScanIdeal.nD Cert.KScanIdeal.τ Cert.KScanIdeal.sig) → Buf (Elt Ideal) ℓ) : Prop :=
  True

def Pre_RScanIdeal (m : (ℓ : Loc Cert.RScanIdeal.nD Cert.RScanIdeal.τ Cert.RScanIdeal.sig) → Buf (Elt Ideal) ℓ) : Prop :=
  True

def Pre_KPowers (m : (ℓ : Loc Cert.KPowers.nD Cert.KPowers.τ Cert.KPowers.sig) → Buf (Elt Bits) ℓ) : Prop :=
  True

def Pre_KPowersIdeal (m : (ℓ : Loc Cert.KPowersIdeal.nD Cert.KPowersIdeal.τ Cert.KPowersIdeal.sig) → Buf (Elt Ideal) ℓ) : Prop :=
  True

def Pre_RPowersIdeal (m : (ℓ : Loc Cert.RPowersIdeal.nD Cert.RPowersIdeal.τ Cert.RPowersIdeal.sig) → Buf (Elt Ideal) ℓ) : Prop :=
  True

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_RMergeIdeal (m : (ℓ : Loc Cert.RMergeIdeal.nD Cert.RMergeIdeal.τ Cert.RMergeIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KJoin (m : (ℓ : Loc Cert.KJoin.nD Cert.KJoin.τ Cert.KJoin.sig) → Buf (Elt Bits) ℓ) : Prop :=
  True

def Pre_KJoinIdeal (m : (ℓ : Loc Cert.KJoinIdeal.nD Cert.KJoinIdeal.τ Cert.KJoinIdeal.sig) → Buf (Elt Ideal) ℓ) : Prop :=
  True

def Pre_RJoinIdeal (m : (ℓ : Loc Cert.RJoinIdeal.nD Cert.RJoinIdeal.τ Cert.RJoinIdeal.sig) → Buf (Elt Ideal) ℓ) : Prop :=
  True

def Pre_KEnter (m : (ℓ : Loc Cert.KEnter.nD Cert.KEnter.τ Cert.KEnter.sig) → Buf (Elt Bits) ℓ) : Prop :=
  True

def Pre_KEnterIdeal (m : (ℓ : Loc Cert.KEnterIdeal.nD Cert.KEnterIdeal.τ Cert.KEnterIdeal.sig) → Buf (Elt Ideal) ℓ) : Prop :=
  True

def Pre_REnterIdeal (m : (ℓ : Loc Cert.REnterIdeal.nD Cert.REnterIdeal.τ Cert.REnterIdeal.sig) → Buf (Elt Ideal) ℓ) : Prop :=
  True

def Pre_KGrid (m : (ℓ : Loc Cert.KGrid.nD Cert.KGrid.τ Cert.KGrid.sig) → Buf (Elt Bits) ℓ) : Prop :=
  True

def Pre_KGridIdeal (m : (ℓ : Loc Cert.KGridIdeal.nD Cert.KGridIdeal.τ Cert.KGridIdeal.sig) → Buf (Elt Ideal) ℓ) : Prop :=
  True

def Pre_RGridIdeal (m : (ℓ : Loc Cert.RGridIdeal.nD Cert.RGridIdeal.τ Cert.RGridIdeal.sig) → Buf (Elt Ideal) ℓ) : Prop :=
  True

def Pre_KLast (m : (ℓ : Loc Cert.KLast.nD Cert.KLast.τ Cert.KLast.sig) → Buf (Elt Bits) ℓ) : Prop :=
  True

def Pre_KLastIdeal (m : (ℓ : Loc Cert.KLastIdeal.nD Cert.KLastIdeal.τ Cert.KLastIdeal.sig) → Buf (Elt Ideal) ℓ) : Prop :=
  True

def Pre_RLastIdeal (m : (ℓ : Loc Cert.RLastIdeal.nD Cert.RLastIdeal.τ Cert.RLastIdeal.sig) → Buf (Elt Ideal) ℓ) : Prop :=
  True

def Pre_KAda (m : (ℓ : Loc Cert.KAda.nD Cert.KAda.τ Cert.KAda.sig) → Buf (Elt Bits) ℓ) : Prop :=
  True

def Pre_KAdaIdeal (m : (ℓ : Loc Cert.KAdaIdeal.nD Cert.KAdaIdeal.τ Cert.KAdaIdeal.sig) → Buf (Elt Ideal) ℓ) : Prop :=
  True

def Pre_RAdaIdeal (m : (ℓ : Loc Cert.RAdaIdeal.nD Cert.RAdaIdeal.τ Cert.RAdaIdeal.sig) → Buf (Elt Ideal) ℓ) : Prop :=
  True

def Pre_KMlp (m : (ℓ : Loc Cert.KMlp.nD Cert.KMlp.τ Cert.KMlp.sig) → Buf (Elt Bits) ℓ) : Prop :=
  True

def Pre_KMlpIdeal (m : (ℓ : Loc Cert.KMlpIdeal.nD Cert.KMlpIdeal.τ Cert.KMlpIdeal.sig) → Buf (Elt Ideal) ℓ) : Prop :=
  True

def Pre_RMlpIdeal (m : (ℓ : Loc Cert.RMlpIdeal.nD Cert.RMlpIdeal.τ Cert.RMlpIdeal.sig) → Buf (Elt Ideal) ℓ) : Prop :=
  True

def quiescent_KScan [hKScan : Cert.KScan.Facts] : Prop :=
  ∀ (m : (ℓ : Loc Cert.KScan.nD Cert.KScan.τ Cert.KScan.sig) → Buf (Elt Bits) ℓ) (g : Dev Cert.KScan.nD → PrngReg), Pre_KScan m →
    θ_run (Cert.KScan.defs (F := Bits)) (onTc (τ := Cert.KScan.τ) (Cert.KScan.main (F := Bits))) ⟨m, fun _ => 0, g⟩ (fun r => (∀ c : Dev Cert.KScan.nD,
      r.2.mem ((c.tc : Thread Cert.KScan.nD Cert.KScan.τ).loc Cert.KScan.main_arg0) = m ((c.tc : Thread Cert.KScan.nD Cert.KScan.τ).loc Cert.KScan.main_arg0)
      ∧ r.2.mem ((c.tc : Thread Cert.KScan.nD Cert.KScan.τ).loc Cert.KScan.main_arg1) = m ((c.tc : Thread Cert.KScan.nD Cert.KScan.τ).loc Cert.KScan.main_arg1)
      ∧ r.2.mem ((c.tc : Thread Cert.KScan.nD Cert.KScan.τ).loc Cert.KScan.main_arg2) = m ((c.tc : Thread Cert.KScan.nD Cert.KScan.τ).loc Cert.KScan.main_arg2)
      ∧ r.2.mem ((c.tc : Thread Cert.KScan.nD Cert.KScan.τ).loc Cert.KScan.main_arg3) = m ((c.tc : Thread Cert.KScan.nD Cert.KScan.τ).loc Cert.KScan.main_arg3)
      ∧ r.2.mem ((c.tc : Thread Cert.KScan.nD Cert.KScan.τ).loc Cert.KScan.main_arg4) = m ((c.tc : Thread Cert.KScan.nD Cert.KScan.τ).loc Cert.KScan.main_arg4))
      ∧ r.2.sem = fun _ => 0)

def quiescent_KScanIdeal [hKScanIdeal : Cert.KScanIdeal.Facts] : Prop :=
  ∀ (m : (ℓ : Loc Cert.KScanIdeal.nD Cert.KScanIdeal.τ Cert.KScanIdeal.sig) → Buf (Elt Ideal) ℓ) (g : Dev Cert.KScanIdeal.nD → PrngReg), Pre_KScanIdeal m →
    θ_run (Cert.KScanIdeal.defs (F := Ideal)) (onTc (τ := Cert.KScanIdeal.τ) (Cert.KScanIdeal.main (F := Ideal))) ⟨m, fun _ => 0, g⟩ (fun r => (∀ c : Dev Cert.KScanIdeal.nD,
      r.2.mem ((c.tc : Thread Cert.KScanIdeal.nD Cert.KScanIdeal.τ).loc Cert.KScanIdeal.main_arg0) = m ((c.tc : Thread Cert.KScanIdeal.nD Cert.KScanIdeal.τ).loc Cert.KScanIdeal.main_arg0)
      ∧ r.2.mem ((c.tc : Thread Cert.KScanIdeal.nD Cert.KScanIdeal.τ).loc Cert.KScanIdeal.main_arg1) = m ((c.tc : Thread Cert.KScanIdeal.nD Cert.KScanIdeal.τ).loc Cert.KScanIdeal.main_arg1)
      ∧ r.2.mem ((c.tc : Thread Cert.KScanIdeal.nD Cert.KScanIdeal.τ).loc Cert.KScanIdeal.main_arg2) = m ((c.tc : Thread Cert.KScanIdeal.nD Cert.KScanIdeal.τ).loc Cert.KScanIdeal.main_arg2)
      ∧ r.2.mem ((c.tc : Thread Cert.KScanIdeal.nD Cert.KScanIdeal.τ).loc Cert.KScanIdeal.main_arg3) = m ((c.tc : Thread Cert.KScanIdeal.nD Cert.KScanIdeal.τ).loc Cert.KScanIdeal.main_arg3)
      ∧ r.2.mem ((c.tc : Thread Cert.KScanIdeal.nD Cert.KScanIdeal.τ).loc Cert.KScanIdeal.main_arg4) = m ((c.tc : Thread Cert.KScanIdeal.nD Cert.KScanIdeal.τ).loc Cert.KScanIdeal.main_arg4))
      ∧ r.2.sem = fun _ => 0)

def quiescent_RScanIdeal [hRScanIdeal : Cert.RScanIdeal.Facts] : Prop :=
  ∀ (m : (ℓ : Loc Cert.RScanIdeal.nD Cert.RScanIdeal.τ Cert.RScanIdeal.sig) → Buf (Elt Ideal) ℓ) (g : Dev Cert.RScanIdeal.nD → PrngReg), Pre_RScanIdeal m →
    θ_run (Cert.RScanIdeal.defs (F := Ideal)) (onTc (τ := Cert.RScanIdeal.τ) (Cert.RScanIdeal.main (F := Ideal))) ⟨m, fun _ => 0, g⟩ (fun r => (∀ c : Dev Cert.RScanIdeal.nD,
      r.2.mem ((c.tc : Thread Cert.RScanIdeal.nD Cert.RScanIdeal.τ).loc Cert.RScanIdeal.main_arg0) = m ((c.tc : Thread Cert.RScanIdeal.nD Cert.RScanIdeal.τ).loc Cert.RScanIdeal.main_arg0)
      ∧ r.2.mem ((c.tc : Thread Cert.RScanIdeal.nD Cert.RScanIdeal.τ).loc Cert.RScanIdeal.main_arg1) = m ((c.tc : Thread Cert.RScanIdeal.nD Cert.RScanIdeal.τ).loc Cert.RScanIdeal.main_arg1)
      ∧ r.2.mem ((c.tc : Thread Cert.RScanIdeal.nD Cert.RScanIdeal.τ).loc Cert.RScanIdeal.main_arg2) = m ((c.tc : Thread Cert.RScanIdeal.nD Cert.RScanIdeal.τ).loc Cert.RScanIdeal.main_arg2)
      ∧ r.2.mem ((c.tc : Thread Cert.RScanIdeal.nD Cert.RScanIdeal.τ).loc Cert.RScanIdeal.main_arg3) = m ((c.tc : Thread Cert.RScanIdeal.nD Cert.RScanIdeal.τ).loc Cert.RScanIdeal.main_arg3)
      ∧ r.2.mem ((c.tc : Thread Cert.RScanIdeal.nD Cert.RScanIdeal.τ).loc Cert.RScanIdeal.main_arg4) = m ((c.tc : Thread Cert.RScanIdeal.nD Cert.RScanIdeal.τ).loc Cert.RScanIdeal.main_arg4))
      ∧ r.2.sem = fun _ => 0)

def quiescent_KPowers [hKPowers : Cert.KPowers.Facts] : Prop :=
  ∀ (m : (ℓ : Loc Cert.KPowers.nD Cert.KPowers.τ Cert.KPowers.sig) → Buf (Elt Bits) ℓ) (g : Dev Cert.KPowers.nD → PrngReg), Pre_KPowers m →
    θ_run (Cert.KPowers.defs (F := Bits)) (onTc (τ := Cert.KPowers.τ) (Cert.KPowers.main (F := Bits))) ⟨m, fun _ => 0, g⟩ (fun r => (∀ c : Dev Cert.KPowers.nD,
      r.2.mem ((c.tc : Thread Cert.KPowers.nD Cert.KPowers.τ).loc Cert.KPowers.main_arg0) = m ((c.tc : Thread Cert.KPowers.nD Cert.KPowers.τ).loc Cert.KPowers.main_arg0)
      ∧ r.2.mem ((c.tc : Thread Cert.KPowers.nD Cert.KPowers.τ).loc Cert.KPowers.main_arg1) = m ((c.tc : Thread Cert.KPowers.nD Cert.KPowers.τ).loc Cert.KPowers.main_arg1)
      ∧ r.2.mem ((c.tc : Thread Cert.KPowers.nD Cert.KPowers.τ).loc Cert.KPowers.main_arg2) = m ((c.tc : Thread Cert.KPowers.nD Cert.KPowers.τ).loc Cert.KPowers.main_arg2)
      ∧ r.2.mem ((c.tc : Thread Cert.KPowers.nD Cert.KPowers.τ).loc Cert.KPowers.main_arg3) = m ((c.tc : Thread Cert.KPowers.nD Cert.KPowers.τ).loc Cert.KPowers.main_arg3)
      ∧ r.2.mem ((c.tc : Thread Cert.KPowers.nD Cert.KPowers.τ).loc Cert.KPowers.main_arg4) = m ((c.tc : Thread Cert.KPowers.nD Cert.KPowers.τ).loc Cert.KPowers.main_arg4)
      ∧ r.2.mem ((c.tc : Thread Cert.KPowers.nD Cert.KPowers.τ).loc Cert.KPowers.main_arg5) = m ((c.tc : Thread Cert.KPowers.nD Cert.KPowers.τ).loc Cert.KPowers.main_arg5)
      ∧ r.2.mem ((c.tc : Thread Cert.KPowers.nD Cert.KPowers.τ).loc Cert.KPowers.main_arg6) = m ((c.tc : Thread Cert.KPowers.nD Cert.KPowers.τ).loc Cert.KPowers.main_arg6))
      ∧ r.2.sem = fun _ => 0)

def quiescent_KPowersIdeal [hKPowersIdeal : Cert.KPowersIdeal.Facts] : Prop :=
  ∀ (m : (ℓ : Loc Cert.KPowersIdeal.nD Cert.KPowersIdeal.τ Cert.KPowersIdeal.sig) → Buf (Elt Ideal) ℓ) (g : Dev Cert.KPowersIdeal.nD → PrngReg), Pre_KPowersIdeal m →
    θ_run (Cert.KPowersIdeal.defs (F := Ideal)) (onTc (τ := Cert.KPowersIdeal.τ) (Cert.KPowersIdeal.main (F := Ideal))) ⟨m, fun _ => 0, g⟩ (fun r => (∀ c : Dev Cert.KPowersIdeal.nD,
      r.2.mem ((c.tc : Thread Cert.KPowersIdeal.nD Cert.KPowersIdeal.τ).loc Cert.KPowersIdeal.main_arg0) = m ((c.tc : Thread Cert.KPowersIdeal.nD Cert.KPowersIdeal.τ).loc Cert.KPowersIdeal.main_arg0)
      ∧ r.2.mem ((c.tc : Thread Cert.KPowersIdeal.nD Cert.KPowersIdeal.τ).loc Cert.KPowersIdeal.main_arg1) = m ((c.tc : Thread Cert.KPowersIdeal.nD Cert.KPowersIdeal.τ).loc Cert.KPowersIdeal.main_arg1)
      ∧ r.2.mem ((c.tc : Thread Cert.KPowersIdeal.nD Cert.KPowersIdeal.τ).loc Cert.KPowersIdeal.main_arg2) = m ((c.tc : Thread Cert.KPowersIdeal.nD Cert.KPowersIdeal.τ).loc Cert.KPowersIdeal.main_arg2)
      ∧ r.2.mem ((c.tc : Thread Cert.KPowersIdeal.nD Cert.KPowersIdeal.τ).loc Cert.KPowersIdeal.main_arg3) = m ((c.tc : Thread Cert.KPowersIdeal.nD Cert.KPowersIdeal.τ).loc Cert.KPowersIdeal.main_arg3)
      ∧ r.2.mem ((c.tc : Thread Cert.KPowersIdeal.nD Cert.KPowersIdeal.τ).loc Cert.KPowersIdeal.main_arg4) = m ((c.tc : Thread Cert.KPowersIdeal.nD Cert.KPowersIdeal.τ).loc Cert.KPowersIdeal.main_arg4)
      ∧ r.2.mem ((c.tc : Thread Cert.KPowersIdeal.nD Cert.KPowersIdeal.τ).loc Cert.KPowersIdeal.main_arg5) = m ((c.tc : Thread Cert.KPowersIdeal.nD Cert.KPowersIdeal.τ).loc Cert.KPowersIdeal.main_arg5)
      ∧ r.2.mem ((c.tc : Thread Cert.KPowersIdeal.nD Cert.KPowersIdeal.τ).loc Cert.KPowersIdeal.main_arg6) = m ((c.tc : Thread Cert.KPowersIdeal.nD Cert.KPowersIdeal.τ).loc Cert.KPowersIdeal.main_arg6))
      ∧ r.2.sem = fun _ => 0)

def quiescent_RPowersIdeal [hRPowersIdeal : Cert.RPowersIdeal.Facts] : Prop :=
  ∀ (m : (ℓ : Loc Cert.RPowersIdeal.nD Cert.RPowersIdeal.τ Cert.RPowersIdeal.sig) → Buf (Elt Ideal) ℓ) (g : Dev Cert.RPowersIdeal.nD → PrngReg), Pre_RPowersIdeal m →
    θ_run (Cert.RPowersIdeal.defs (F := Ideal)) (onTc (τ := Cert.RPowersIdeal.τ) (Cert.RPowersIdeal.main (F := Ideal))) ⟨m, fun _ => 0, g⟩ (fun r => (∀ c : Dev Cert.RPowersIdeal.nD,
      r.2.mem ((c.tc : Thread Cert.RPowersIdeal.nD Cert.RPowersIdeal.τ).loc Cert.RPowersIdeal.main_arg0) = m ((c.tc : Thread Cert.RPowersIdeal.nD Cert.RPowersIdeal.τ).loc Cert.RPowersIdeal.main_arg0)
      ∧ r.2.mem ((c.tc : Thread Cert.RPowersIdeal.nD Cert.RPowersIdeal.τ).loc Cert.RPowersIdeal.main_arg1) = m ((c.tc : Thread Cert.RPowersIdeal.nD Cert.RPowersIdeal.τ).loc Cert.RPowersIdeal.main_arg1)
      ∧ r.2.mem ((c.tc : Thread Cert.RPowersIdeal.nD Cert.RPowersIdeal.τ).loc Cert.RPowersIdeal.main_arg2) = m ((c.tc : Thread Cert.RPowersIdeal.nD Cert.RPowersIdeal.τ).loc Cert.RPowersIdeal.main_arg2)
      ∧ r.2.mem ((c.tc : Thread Cert.RPowersIdeal.nD Cert.RPowersIdeal.τ).loc Cert.RPowersIdeal.main_arg3) = m ((c.tc : Thread Cert.RPowersIdeal.nD Cert.RPowersIdeal.τ).loc Cert.RPowersIdeal.main_arg3)
      ∧ r.2.mem ((c.tc : Thread Cert.RPowersIdeal.nD Cert.RPowersIdeal.τ).loc Cert.RPowersIdeal.main_arg4) = m ((c.tc : Thread Cert.RPowersIdeal.nD Cert.RPowersIdeal.τ).loc Cert.RPowersIdeal.main_arg4)
      ∧ r.2.mem ((c.tc : Thread Cert.RPowersIdeal.nD Cert.RPowersIdeal.τ).loc Cert.RPowersIdeal.main_arg5) = m ((c.tc : Thread Cert.RPowersIdeal.nD Cert.RPowersIdeal.τ).loc Cert.RPowersIdeal.main_arg5)
      ∧ r.2.mem ((c.tc : Thread Cert.RPowersIdeal.nD Cert.RPowersIdeal.τ).loc Cert.RPowersIdeal.main_arg6) = m ((c.tc : Thread Cert.RPowersIdeal.nD Cert.RPowersIdeal.τ).loc Cert.RPowersIdeal.main_arg6))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2)
      ∧ r.2.mem ((c.tc : Thread Cert.KUp.nD Cert.KUp.τ).loc Cert.KUp.main_arg3) = m ((c.tc : Thread Cert.KUp.nD Cert.KUp.τ).loc Cert.KUp.main_arg3))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3)
      ∧ r.2.mem ((c.tc : Thread Cert.KDown.nD Cert.KDown.τ).loc Cert.KDown.main_arg4) = m ((c.tc : Thread Cert.KDown.nD Cert.KDown.τ).loc Cert.KDown.main_arg4))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3)
      ∧ r.2.mem ((c.tc : Thread Cert.KDownIdeal.nD Cert.KDownIdeal.τ).loc Cert.KDownIdeal.main_arg4) = m ((c.tc : Thread Cert.KDownIdeal.nD Cert.KDownIdeal.τ).loc Cert.KDownIdeal.main_arg4))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3)
      ∧ r.2.mem ((c.tc : Thread Cert.RDownIdeal.nD Cert.RDownIdeal.τ).loc Cert.RDownIdeal.main_arg4) = m ((c.tc : Thread Cert.RDownIdeal.nD Cert.RDownIdeal.τ).loc Cert.RDownIdeal.main_arg4))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2)
      ∧ r.2.mem ((c.tc : Thread Cert.KMerge.nD Cert.KMerge.τ).loc Cert.KMerge.main_arg3) = m ((c.tc : Thread Cert.KMerge.nD Cert.KMerge.τ).loc Cert.KMerge.main_arg3)
      ∧ r.2.mem ((c.tc : Thread Cert.KMerge.nD Cert.KMerge.τ).loc Cert.KMerge.main_arg4) = m ((c.tc : Thread Cert.KMerge.nD Cert.KMerge.τ).loc Cert.KMerge.main_arg4)
      ∧ r.2.mem ((c.tc : Thread Cert.KMerge.nD Cert.KMerge.τ).loc Cert.KMerge.main_arg5) = m ((c.tc : Thread Cert.KMerge.nD Cert.KMerge.τ).loc Cert.KMerge.main_arg5)
      ∧ r.2.mem ((c.tc : Thread Cert.KMerge.nD Cert.KMerge.τ).loc Cert.KMerge.main_arg6) = m ((c.tc : Thread Cert.KMerge.nD Cert.KMerge.τ).loc Cert.KMerge.main_arg6)
      ∧ r.2.mem ((c.tc : Thread Cert.KMerge.nD Cert.KMerge.τ).loc Cert.KMerge.main_arg7) = m ((c.tc : Thread Cert.KMerge.nD Cert.KMerge.τ).loc Cert.KMerge.main_arg7)
      ∧ r.2.mem ((c.tc : Thread Cert.KMerge.nD Cert.KMerge.τ).loc Cert.KMerge.main_arg8) = m ((c.tc : Thread Cert.KMerge.nD Cert.KMerge.τ).loc Cert.KMerge.main_arg8)
      ∧ r.2.mem ((c.tc : Thread Cert.KMerge.nD Cert.KMerge.τ).loc Cert.KMerge.main_arg9) = m ((c.tc : Thread Cert.KMerge.nD Cert.KMerge.τ).loc Cert.KMerge.main_arg9)
      ∧ r.2.mem ((c.tc : Thread Cert.KMerge.nD Cert.KMerge.τ).loc Cert.KMerge.main_arg10) = m ((c.tc : Thread Cert.KMerge.nD Cert.KMerge.τ).loc Cert.KMerge.main_arg10)
      ∧ r.2.mem ((c.tc : Thread Cert.KMerge.nD Cert.KMerge.τ).loc Cert.KMerge.main_arg11) = m ((c.tc : Thread Cert.KMerge.nD Cert.KMerge.τ).loc Cert.KMerge.main_arg11))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
      ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
      ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6)
      ∧ r.2.mem ((c.tc : Thread Cert.KMergeIdeal.nD Cert.KMergeIdeal.τ).loc Cert.KMergeIdeal.main_arg7) = m ((c.tc : Thread Cert.KMergeIdeal.nD Cert.KMergeIdeal.τ).loc Cert.KMergeIdeal.main_arg7)
      ∧ r.2.mem ((c.tc : Thread Cert.KMergeIdeal.nD Cert.KMergeIdeal.τ).loc Cert.KMergeIdeal.main_arg8) = m ((c.tc : Thread Cert.KMergeIdeal.nD Cert.KMergeIdeal.τ).loc Cert.KMergeIdeal.main_arg8)
      ∧ r.2.mem ((c.tc : Thread Cert.KMergeIdeal.nD Cert.KMergeIdeal.τ).loc Cert.KMergeIdeal.main_arg9) = m ((c.tc : Thread Cert.KMergeIdeal.nD Cert.KMergeIdeal.τ).loc Cert.KMergeIdeal.main_arg9)
      ∧ r.2.mem ((c.tc : Thread Cert.KMergeIdeal.nD Cert.KMergeIdeal.τ).loc Cert.KMergeIdeal.main_arg10) = m ((c.tc : Thread Cert.KMergeIdeal.nD Cert.KMergeIdeal.τ).loc Cert.KMergeIdeal.main_arg10)
      ∧ r.2.mem ((c.tc : Thread Cert.KMergeIdeal.nD Cert.KMergeIdeal.τ).loc Cert.KMergeIdeal.main_arg11) = m ((c.tc : Thread Cert.KMergeIdeal.nD Cert.KMergeIdeal.τ).loc Cert.KMergeIdeal.main_arg11))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4)
      ∧ r.2.mem ((c.tc : Thread Cert.RMergeIdeal.nD Cert.RMergeIdeal.τ).loc Cert.RMergeIdeal.main_arg5) = m ((c.tc : Thread Cert.RMergeIdeal.nD Cert.RMergeIdeal.τ).loc Cert.RMergeIdeal.main_arg5)
      ∧ r.2.mem ((c.tc : Thread Cert.RMergeIdeal.nD Cert.RMergeIdeal.τ).loc Cert.RMergeIdeal.main_arg6) = m ((c.tc : Thread Cert.RMergeIdeal.nD Cert.RMergeIdeal.τ).loc Cert.RMergeIdeal.main_arg6)
      ∧ r.2.mem ((c.tc : Thread Cert.RMergeIdeal.nD Cert.RMergeIdeal.τ).loc Cert.RMergeIdeal.main_arg7) = m ((c.tc : Thread Cert.RMergeIdeal.nD Cert.RMergeIdeal.τ).loc Cert.RMergeIdeal.main_arg7)
      ∧ r.2.mem ((c.tc : Thread Cert.RMergeIdeal.nD Cert.RMergeIdeal.τ).loc Cert.RMergeIdeal.main_arg8) = m ((c.tc : Thread Cert.RMergeIdeal.nD Cert.RMergeIdeal.τ).loc Cert.RMergeIdeal.main_arg8)
      ∧ r.2.mem ((c.tc : Thread Cert.RMergeIdeal.nD Cert.RMergeIdeal.τ).loc Cert.RMergeIdeal.main_arg9) = m ((c.tc : Thread Cert.RMergeIdeal.nD Cert.RMergeIdeal.τ).loc Cert.RMergeIdeal.main_arg9)
      ∧ r.2.mem ((c.tc : Thread Cert.RMergeIdeal.nD Cert.RMergeIdeal.τ).loc Cert.RMergeIdeal.main_arg10) = m ((c.tc : Thread Cert.RMergeIdeal.nD Cert.RMergeIdeal.τ).loc Cert.RMergeIdeal.main_arg10)
      ∧ r.2.mem ((c.tc : Thread Cert.RMergeIdeal.nD Cert.RMergeIdeal.τ).loc Cert.RMergeIdeal.main_arg11) = m ((c.tc : Thread Cert.RMergeIdeal.nD Cert.RMergeIdeal.τ).loc Cert.RMergeIdeal.main_arg11))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1)
      ∧ r.2.mem ((c.tc : Thread Cert.KIn.nD Cert.KIn.τ).loc Cert.KIn.main_arg2) = m ((c.tc : Thread Cert.KIn.nD Cert.KIn.τ).loc Cert.KIn.main_arg2)
      ∧ r.2.mem ((c.tc : Thread Cert.KIn.nD Cert.KIn.τ).loc Cert.KIn.main_arg3) = m ((c.tc : Thread Cert.KIn.nD Cert.KIn.τ).loc Cert.KIn.main_arg3)
      ∧ r.2.mem ((c.tc : Thread Cert.KIn.nD Cert.KIn.τ).loc Cert.KIn.main_arg4) = m ((c.tc : Thread Cert.KIn.nD Cert.KIn.τ).loc Cert.KIn.main_arg4))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4))
      ∧ r.2.sem = fun _ => 0)

def quiescent_KJoin [hKJoin : Cert.KJoin.Facts] : Prop :=
  ∀ (m : (ℓ : Loc Cert.KJoin.nD Cert.KJoin.τ Cert.KJoin.sig) → Buf (Elt Bits) ℓ) (g : Dev Cert.KJoin.nD → PrngReg), Pre_KJoin m →
    θ_run (Cert.KJoin.defs (F := Bits)) (onTc (τ := Cert.KJoin.τ) (Cert.KJoin.main (F := Bits))) ⟨m, fun _ => 0, g⟩ (fun r => (∀ c : Dev Cert.KJoin.nD,
      r.2.mem ((c.tc : Thread Cert.KJoin.nD Cert.KJoin.τ).loc Cert.KJoin.main_arg0) = m ((c.tc : Thread Cert.KJoin.nD Cert.KJoin.τ).loc Cert.KJoin.main_arg0)
      ∧ r.2.mem ((c.tc : Thread Cert.KJoin.nD Cert.KJoin.τ).loc Cert.KJoin.main_arg1) = m ((c.tc : Thread Cert.KJoin.nD Cert.KJoin.τ).loc Cert.KJoin.main_arg1)
      ∧ r.2.mem ((c.tc : Thread Cert.KJoin.nD Cert.KJoin.τ).loc Cert.KJoin.main_arg2) = m ((c.tc : Thread Cert.KJoin.nD Cert.KJoin.τ).loc Cert.KJoin.main_arg2)
      ∧ r.2.mem ((c.tc : Thread Cert.KJoin.nD Cert.KJoin.τ).loc Cert.KJoin.main_arg3) = m ((c.tc : Thread Cert.KJoin.nD Cert.KJoin.τ).loc Cert.KJoin.main_arg3)
      ∧ r.2.mem ((c.tc : Thread Cert.KJoin.nD Cert.KJoin.τ).loc Cert.KJoin.main_arg4) = m ((c.tc : Thread Cert.KJoin.nD Cert.KJoin.τ).loc Cert.KJoin.main_arg4)
      ∧ r.2.mem ((c.tc : Thread Cert.KJoin.nD Cert.KJoin.τ).loc Cert.KJoin.main_arg5) = m ((c.tc : Thread Cert.KJoin.nD Cert.KJoin.τ).loc Cert.KJoin.main_arg5)
      ∧ r.2.mem ((c.tc : Thread Cert.KJoin.nD Cert.KJoin.τ).loc Cert.KJoin.main_arg6) = m ((c.tc : Thread Cert.KJoin.nD Cert.KJoin.τ).loc Cert.KJoin.main_arg6)
      ∧ r.2.mem ((c.tc : Thread Cert.KJoin.nD Cert.KJoin.τ).loc Cert.KJoin.main_arg7) = m ((c.tc : Thread Cert.KJoin.nD Cert.KJoin.τ).loc Cert.KJoin.main_arg7)
      ∧ r.2.mem ((c.tc : Thread Cert.KJoin.nD Cert.KJoin.τ).loc Cert.KJoin.main_arg8) = m ((c.tc : Thread Cert.KJoin.nD Cert.KJoin.τ).loc Cert.KJoin.main_arg8)
      ∧ r.2.mem ((c.tc : Thread Cert.KJoin.nD Cert.KJoin.τ).loc Cert.KJoin.main_arg9) = m ((c.tc : Thread Cert.KJoin.nD Cert.KJoin.τ).loc Cert.KJoin.main_arg9)
      ∧ r.2.mem ((c.tc : Thread Cert.KJoin.nD Cert.KJoin.τ).loc Cert.KJoin.main_arg10) = m ((c.tc : Thread Cert.KJoin.nD Cert.KJoin.τ).loc Cert.KJoin.main_arg10)
      ∧ r.2.mem ((c.tc : Thread Cert.KJoin.nD Cert.KJoin.τ).loc Cert.KJoin.main_arg11) = m ((c.tc : Thread Cert.KJoin.nD Cert.KJoin.τ).loc Cert.KJoin.main_arg11))
      ∧ r.2.sem = fun _ => 0)

def quiescent_KJoinIdeal [hKJoinIdeal : Cert.KJoinIdeal.Facts] : Prop :=
  ∀ (m : (ℓ : Loc Cert.KJoinIdeal.nD Cert.KJoinIdeal.τ Cert.KJoinIdeal.sig) → Buf (Elt Ideal) ℓ) (g : Dev Cert.KJoinIdeal.nD → PrngReg), Pre_KJoinIdeal m →
    θ_run (Cert.KJoinIdeal.defs (F := Ideal)) (onTc (τ := Cert.KJoinIdeal.τ) (Cert.KJoinIdeal.main (F := Ideal))) ⟨m, fun _ => 0, g⟩ (fun r => (∀ c : Dev Cert.KJoinIdeal.nD,
      r.2.mem ((c.tc : Thread Cert.KJoinIdeal.nD Cert.KJoinIdeal.τ).loc Cert.KJoinIdeal.main_arg0) = m ((c.tc : Thread Cert.KJoinIdeal.nD Cert.KJoinIdeal.τ).loc Cert.KJoinIdeal.main_arg0)
      ∧ r.2.mem ((c.tc : Thread Cert.KJoinIdeal.nD Cert.KJoinIdeal.τ).loc Cert.KJoinIdeal.main_arg1) = m ((c.tc : Thread Cert.KJoinIdeal.nD Cert.KJoinIdeal.τ).loc Cert.KJoinIdeal.main_arg1)
      ∧ r.2.mem ((c.tc : Thread Cert.KJoinIdeal.nD Cert.KJoinIdeal.τ).loc Cert.KJoinIdeal.main_arg2) = m ((c.tc : Thread Cert.KJoinIdeal.nD Cert.KJoinIdeal.τ).loc Cert.KJoinIdeal.main_arg2)
      ∧ r.2.mem ((c.tc : Thread Cert.KJoinIdeal.nD Cert.KJoinIdeal.τ).loc Cert.KJoinIdeal.main_arg3) = m ((c.tc : Thread Cert.KJoinIdeal.nD Cert.KJoinIdeal.τ).loc Cert.KJoinIdeal.main_arg3)
      ∧ r.2.mem ((c.tc : Thread Cert.KJoinIdeal.nD Cert.KJoinIdeal.τ).loc Cert.KJoinIdeal.main_arg4) = m ((c.tc : Thread Cert.KJoinIdeal.nD Cert.KJoinIdeal.τ).loc Cert.KJoinIdeal.main_arg4)
      ∧ r.2.mem ((c.tc : Thread Cert.KJoinIdeal.nD Cert.KJoinIdeal.τ).loc Cert.KJoinIdeal.main_arg5) = m ((c.tc : Thread Cert.KJoinIdeal.nD Cert.KJoinIdeal.τ).loc Cert.KJoinIdeal.main_arg5)
      ∧ r.2.mem ((c.tc : Thread Cert.KJoinIdeal.nD Cert.KJoinIdeal.τ).loc Cert.KJoinIdeal.main_arg6) = m ((c.tc : Thread Cert.KJoinIdeal.nD Cert.KJoinIdeal.τ).loc Cert.KJoinIdeal.main_arg6)
      ∧ r.2.mem ((c.tc : Thread Cert.KJoinIdeal.nD Cert.KJoinIdeal.τ).loc Cert.KJoinIdeal.main_arg7) = m ((c.tc : Thread Cert.KJoinIdeal.nD Cert.KJoinIdeal.τ).loc Cert.KJoinIdeal.main_arg7)
      ∧ r.2.mem ((c.tc : Thread Cert.KJoinIdeal.nD Cert.KJoinIdeal.τ).loc Cert.KJoinIdeal.main_arg8) = m ((c.tc : Thread Cert.KJoinIdeal.nD Cert.KJoinIdeal.τ).loc Cert.KJoinIdeal.main_arg8)
      ∧ r.2.mem ((c.tc : Thread Cert.KJoinIdeal.nD Cert.KJoinIdeal.τ).loc Cert.KJoinIdeal.main_arg9) = m ((c.tc : Thread Cert.KJoinIdeal.nD Cert.KJoinIdeal.τ).loc Cert.KJoinIdeal.main_arg9)
      ∧ r.2.mem ((c.tc : Thread Cert.KJoinIdeal.nD Cert.KJoinIdeal.τ).loc Cert.KJoinIdeal.main_arg10) = m ((c.tc : Thread Cert.KJoinIdeal.nD Cert.KJoinIdeal.τ).loc Cert.KJoinIdeal.main_arg10)
      ∧ r.2.mem ((c.tc : Thread Cert.KJoinIdeal.nD Cert.KJoinIdeal.τ).loc Cert.KJoinIdeal.main_arg11) = m ((c.tc : Thread Cert.KJoinIdeal.nD Cert.KJoinIdeal.τ).loc Cert.KJoinIdeal.main_arg11))
      ∧ r.2.sem = fun _ => 0)

def quiescent_RJoinIdeal [hRJoinIdeal : Cert.RJoinIdeal.Facts] : Prop :=
  ∀ (m : (ℓ : Loc Cert.RJoinIdeal.nD Cert.RJoinIdeal.τ Cert.RJoinIdeal.sig) → Buf (Elt Ideal) ℓ) (g : Dev Cert.RJoinIdeal.nD → PrngReg), Pre_RJoinIdeal m →
    θ_run (Cert.RJoinIdeal.defs (F := Ideal)) (onTc (τ := Cert.RJoinIdeal.τ) (Cert.RJoinIdeal.main (F := Ideal))) ⟨m, fun _ => 0, g⟩ (fun r => (∀ c : Dev Cert.RJoinIdeal.nD,
      r.2.mem ((c.tc : Thread Cert.RJoinIdeal.nD Cert.RJoinIdeal.τ).loc Cert.RJoinIdeal.main_arg0) = m ((c.tc : Thread Cert.RJoinIdeal.nD Cert.RJoinIdeal.τ).loc Cert.RJoinIdeal.main_arg0)
      ∧ r.2.mem ((c.tc : Thread Cert.RJoinIdeal.nD Cert.RJoinIdeal.τ).loc Cert.RJoinIdeal.main_arg1) = m ((c.tc : Thread Cert.RJoinIdeal.nD Cert.RJoinIdeal.τ).loc Cert.RJoinIdeal.main_arg1)
      ∧ r.2.mem ((c.tc : Thread Cert.RJoinIdeal.nD Cert.RJoinIdeal.τ).loc Cert.RJoinIdeal.main_arg2) = m ((c.tc : Thread Cert.RJoinIdeal.nD Cert.RJoinIdeal.τ).loc Cert.RJoinIdeal.main_arg2)
      ∧ r.2.mem ((c.tc : Thread Cert.RJoinIdeal.nD Cert.RJoinIdeal.τ).loc Cert.RJoinIdeal.main_arg3) = m ((c.tc : Thread Cert.RJoinIdeal.nD Cert.RJoinIdeal.τ).loc Cert.RJoinIdeal.main_arg3)
      ∧ r.2.mem ((c.tc : Thread Cert.RJoinIdeal.nD Cert.RJoinIdeal.τ).loc Cert.RJoinIdeal.main_arg4) = m ((c.tc : Thread Cert.RJoinIdeal.nD Cert.RJoinIdeal.τ).loc Cert.RJoinIdeal.main_arg4)
      ∧ r.2.mem ((c.tc : Thread Cert.RJoinIdeal.nD Cert.RJoinIdeal.τ).loc Cert.RJoinIdeal.main_arg5) = m ((c.tc : Thread Cert.RJoinIdeal.nD Cert.RJoinIdeal.τ).loc Cert.RJoinIdeal.main_arg5)
      ∧ r.2.mem ((c.tc : Thread Cert.RJoinIdeal.nD Cert.RJoinIdeal.τ).loc Cert.RJoinIdeal.main_arg6) = m ((c.tc : Thread Cert.RJoinIdeal.nD Cert.RJoinIdeal.τ).loc Cert.RJoinIdeal.main_arg6)
      ∧ r.2.mem ((c.tc : Thread Cert.RJoinIdeal.nD Cert.RJoinIdeal.τ).loc Cert.RJoinIdeal.main_arg7) = m ((c.tc : Thread Cert.RJoinIdeal.nD Cert.RJoinIdeal.τ).loc Cert.RJoinIdeal.main_arg7)
      ∧ r.2.mem ((c.tc : Thread Cert.RJoinIdeal.nD Cert.RJoinIdeal.τ).loc Cert.RJoinIdeal.main_arg8) = m ((c.tc : Thread Cert.RJoinIdeal.nD Cert.RJoinIdeal.τ).loc Cert.RJoinIdeal.main_arg8)
      ∧ r.2.mem ((c.tc : Thread Cert.RJoinIdeal.nD Cert.RJoinIdeal.τ).loc Cert.RJoinIdeal.main_arg9) = m ((c.tc : Thread Cert.RJoinIdeal.nD Cert.RJoinIdeal.τ).loc Cert.RJoinIdeal.main_arg9)
      ∧ r.2.mem ((c.tc : Thread Cert.RJoinIdeal.nD Cert.RJoinIdeal.τ).loc Cert.RJoinIdeal.main_arg10) = m ((c.tc : Thread Cert.RJoinIdeal.nD Cert.RJoinIdeal.τ).loc Cert.RJoinIdeal.main_arg10)
      ∧ r.2.mem ((c.tc : Thread Cert.RJoinIdeal.nD Cert.RJoinIdeal.τ).loc Cert.RJoinIdeal.main_arg11) = m ((c.tc : Thread Cert.RJoinIdeal.nD Cert.RJoinIdeal.τ).loc Cert.RJoinIdeal.main_arg11))
      ∧ r.2.sem = fun _ => 0)

def quiescent_KEnter [hKEnter : Cert.KEnter.Facts] : Prop :=
  ∀ (m : (ℓ : Loc Cert.KEnter.nD Cert.KEnter.τ Cert.KEnter.sig) → Buf (Elt Bits) ℓ) (g : Dev Cert.KEnter.nD → PrngReg), Pre_KEnter m →
    θ_run (Cert.KEnter.defs (F := Bits)) (onTc (τ := Cert.KEnter.τ) (Cert.KEnter.main (F := Bits))) ⟨m, fun _ => 0, g⟩ (fun r => (∀ c : Dev Cert.KEnter.nD,
      r.2.mem ((c.tc : Thread Cert.KEnter.nD Cert.KEnter.τ).loc Cert.KEnter.main_arg0) = m ((c.tc : Thread Cert.KEnter.nD Cert.KEnter.τ).loc Cert.KEnter.main_arg0)
      ∧ r.2.mem ((c.tc : Thread Cert.KEnter.nD Cert.KEnter.τ).loc Cert.KEnter.main_arg1) = m ((c.tc : Thread Cert.KEnter.nD Cert.KEnter.τ).loc Cert.KEnter.main_arg1)
      ∧ r.2.mem ((c.tc : Thread Cert.KEnter.nD Cert.KEnter.τ).loc Cert.KEnter.main_arg2) = m ((c.tc : Thread Cert.KEnter.nD Cert.KEnter.τ).loc Cert.KEnter.main_arg2)
      ∧ r.2.mem ((c.tc : Thread Cert.KEnter.nD Cert.KEnter.τ).loc Cert.KEnter.main_arg3) = m ((c.tc : Thread Cert.KEnter.nD Cert.KEnter.τ).loc Cert.KEnter.main_arg3)
      ∧ r.2.mem ((c.tc : Thread Cert.KEnter.nD Cert.KEnter.τ).loc Cert.KEnter.main_arg4) = m ((c.tc : Thread Cert.KEnter.nD Cert.KEnter.τ).loc Cert.KEnter.main_arg4))
      ∧ r.2.sem = fun _ => 0)

def quiescent_KEnterIdeal [hKEnterIdeal : Cert.KEnterIdeal.Facts] : Prop :=
  ∀ (m : (ℓ : Loc Cert.KEnterIdeal.nD Cert.KEnterIdeal.τ Cert.KEnterIdeal.sig) → Buf (Elt Ideal) ℓ) (g : Dev Cert.KEnterIdeal.nD → PrngReg), Pre_KEnterIdeal m →
    θ_run (Cert.KEnterIdeal.defs (F := Ideal)) (onTc (τ := Cert.KEnterIdeal.τ) (Cert.KEnterIdeal.main (F := Ideal))) ⟨m, fun _ => 0, g⟩ (fun r => (∀ c : Dev Cert.KEnterIdeal.nD,
      r.2.mem ((c.tc : Thread Cert.KEnterIdeal.nD Cert.KEnterIdeal.τ).loc Cert.KEnterIdeal.main_arg0) = m ((c.tc : Thread Cert.KEnterIdeal.nD Cert.KEnterIdeal.τ).loc Cert.KEnterIdeal.main_arg0)
      ∧ r.2.mem ((c.tc : Thread Cert.KEnterIdeal.nD Cert.KEnterIdeal.τ).loc Cert.KEnterIdeal.main_arg1) = m ((c.tc : Thread Cert.KEnterIdeal.nD Cert.KEnterIdeal.τ).loc Cert.KEnterIdeal.main_arg1)
      ∧ r.2.mem ((c.tc : Thread Cert.KEnterIdeal.nD Cert.KEnterIdeal.τ).loc Cert.KEnterIdeal.main_arg2) = m ((c.tc : Thread Cert.KEnterIdeal.nD Cert.KEnterIdeal.τ).loc Cert.KEnterIdeal.main_arg2)
      ∧ r.2.mem ((c.tc : Thread Cert.KEnterIdeal.nD Cert.KEnterIdeal.τ).loc Cert.KEnterIdeal.main_arg3) = m ((c.tc : Thread Cert.KEnterIdeal.nD Cert.KEnterIdeal.τ).loc Cert.KEnterIdeal.main_arg3)
      ∧ r.2.mem ((c.tc : Thread Cert.KEnterIdeal.nD Cert.KEnterIdeal.τ).loc Cert.KEnterIdeal.main_arg4) = m ((c.tc : Thread Cert.KEnterIdeal.nD Cert.KEnterIdeal.τ).loc Cert.KEnterIdeal.main_arg4))
      ∧ r.2.sem = fun _ => 0)

def quiescent_REnterIdeal [hREnterIdeal : Cert.REnterIdeal.Facts] : Prop :=
  ∀ (m : (ℓ : Loc Cert.REnterIdeal.nD Cert.REnterIdeal.τ Cert.REnterIdeal.sig) → Buf (Elt Ideal) ℓ) (g : Dev Cert.REnterIdeal.nD → PrngReg), Pre_REnterIdeal m →
    θ_run (Cert.REnterIdeal.defs (F := Ideal)) (onTc (τ := Cert.REnterIdeal.τ) (Cert.REnterIdeal.main (F := Ideal))) ⟨m, fun _ => 0, g⟩ (fun r => (∀ c : Dev Cert.REnterIdeal.nD,
      r.2.mem ((c.tc : Thread Cert.REnterIdeal.nD Cert.REnterIdeal.τ).loc Cert.REnterIdeal.main_arg0) = m ((c.tc : Thread Cert.REnterIdeal.nD Cert.REnterIdeal.τ).loc Cert.REnterIdeal.main_arg0)
      ∧ r.2.mem ((c.tc : Thread Cert.REnterIdeal.nD Cert.REnterIdeal.τ).loc Cert.REnterIdeal.main_arg1) = m ((c.tc : Thread Cert.REnterIdeal.nD Cert.REnterIdeal.τ).loc Cert.REnterIdeal.main_arg1)
      ∧ r.2.mem ((c.tc : Thread Cert.REnterIdeal.nD Cert.REnterIdeal.τ).loc Cert.REnterIdeal.main_arg2) = m ((c.tc : Thread Cert.REnterIdeal.nD Cert.REnterIdeal.τ).loc Cert.REnterIdeal.main_arg2)
      ∧ r.2.mem ((c.tc : Thread Cert.REnterIdeal.nD Cert.REnterIdeal.τ).loc Cert.REnterIdeal.main_arg3) = m ((c.tc : Thread Cert.REnterIdeal.nD Cert.REnterIdeal.τ).loc Cert.REnterIdeal.main_arg3)
      ∧ r.2.mem ((c.tc : Thread Cert.REnterIdeal.nD Cert.REnterIdeal.τ).loc Cert.REnterIdeal.main_arg4) = m ((c.tc : Thread Cert.REnterIdeal.nD Cert.REnterIdeal.τ).loc Cert.REnterIdeal.main_arg4))
      ∧ r.2.sem = fun _ => 0)

def quiescent_KGrid [hKGrid : Cert.KGrid.Facts] : Prop :=
  ∀ (m : (ℓ : Loc Cert.KGrid.nD Cert.KGrid.τ Cert.KGrid.sig) → Buf (Elt Bits) ℓ) (g : Dev Cert.KGrid.nD → PrngReg), Pre_KGrid m →
    θ_run (Cert.KGrid.defs (F := Bits)) (onTc (τ := Cert.KGrid.τ) (Cert.KGrid.main (F := Bits))) ⟨m, fun _ => 0, g⟩ (fun r => (∀ c : Dev Cert.KGrid.nD,
      r.2.mem ((c.tc : Thread Cert.KGrid.nD Cert.KGrid.τ).loc Cert.KGrid.main_arg0) = m ((c.tc : Thread Cert.KGrid.nD Cert.KGrid.τ).loc Cert.KGrid.main_arg0)
      ∧ r.2.mem ((c.tc : Thread Cert.KGrid.nD Cert.KGrid.τ).loc Cert.KGrid.main_arg1) = m ((c.tc : Thread Cert.KGrid.nD Cert.KGrid.τ).loc Cert.KGrid.main_arg1)
      ∧ r.2.mem ((c.tc : Thread Cert.KGrid.nD Cert.KGrid.τ).loc Cert.KGrid.main_arg2) = m ((c.tc : Thread Cert.KGrid.nD Cert.KGrid.τ).loc Cert.KGrid.main_arg2)
      ∧ r.2.mem ((c.tc : Thread Cert.KGrid.nD Cert.KGrid.τ).loc Cert.KGrid.main_arg3) = m ((c.tc : Thread Cert.KGrid.nD Cert.KGrid.τ).loc Cert.KGrid.main_arg3))
      ∧ r.2.sem = fun _ => 0)

def quiescent_KGridIdeal [hKGridIdeal : Cert.KGridIdeal.Facts] : Prop :=
  ∀ (m : (ℓ : Loc Cert.KGridIdeal.nD Cert.KGridIdeal.τ Cert.KGridIdeal.sig) → Buf (Elt Ideal) ℓ) (g : Dev Cert.KGridIdeal.nD → PrngReg), Pre_KGridIdeal m →
    θ_run (Cert.KGridIdeal.defs (F := Ideal)) (onTc (τ := Cert.KGridIdeal.τ) (Cert.KGridIdeal.main (F := Ideal))) ⟨m, fun _ => 0, g⟩ (fun r => (∀ c : Dev Cert.KGridIdeal.nD,
      r.2.mem ((c.tc : Thread Cert.KGridIdeal.nD Cert.KGridIdeal.τ).loc Cert.KGridIdeal.main_arg0) = m ((c.tc : Thread Cert.KGridIdeal.nD Cert.KGridIdeal.τ).loc Cert.KGridIdeal.main_arg0)
      ∧ r.2.mem ((c.tc : Thread Cert.KGridIdeal.nD Cert.KGridIdeal.τ).loc Cert.KGridIdeal.main_arg1) = m ((c.tc : Thread Cert.KGridIdeal.nD Cert.KGridIdeal.τ).loc Cert.KGridIdeal.main_arg1)
      ∧ r.2.mem ((c.tc : Thread Cert.KGridIdeal.nD Cert.KGridIdeal.τ).loc Cert.KGridIdeal.main_arg2) = m ((c.tc : Thread Cert.KGridIdeal.nD Cert.KGridIdeal.τ).loc Cert.KGridIdeal.main_arg2)
      ∧ r.2.mem ((c.tc : Thread Cert.KGridIdeal.nD Cert.KGridIdeal.τ).loc Cert.KGridIdeal.main_arg3) = m ((c.tc : Thread Cert.KGridIdeal.nD Cert.KGridIdeal.τ).loc Cert.KGridIdeal.main_arg3))
      ∧ r.2.sem = fun _ => 0)

def quiescent_RGridIdeal [hRGridIdeal : Cert.RGridIdeal.Facts] : Prop :=
  ∀ (m : (ℓ : Loc Cert.RGridIdeal.nD Cert.RGridIdeal.τ Cert.RGridIdeal.sig) → Buf (Elt Ideal) ℓ) (g : Dev Cert.RGridIdeal.nD → PrngReg), Pre_RGridIdeal m →
    θ_run (Cert.RGridIdeal.defs (F := Ideal)) (onTc (τ := Cert.RGridIdeal.τ) (Cert.RGridIdeal.main (F := Ideal))) ⟨m, fun _ => 0, g⟩ (fun r => (∀ c : Dev Cert.RGridIdeal.nD,
      r.2.mem ((c.tc : Thread Cert.RGridIdeal.nD Cert.RGridIdeal.τ).loc Cert.RGridIdeal.main_arg0) = m ((c.tc : Thread Cert.RGridIdeal.nD Cert.RGridIdeal.τ).loc Cert.RGridIdeal.main_arg0)
      ∧ r.2.mem ((c.tc : Thread Cert.RGridIdeal.nD Cert.RGridIdeal.τ).loc Cert.RGridIdeal.main_arg1) = m ((c.tc : Thread Cert.RGridIdeal.nD Cert.RGridIdeal.τ).loc Cert.RGridIdeal.main_arg1)
      ∧ r.2.mem ((c.tc : Thread Cert.RGridIdeal.nD Cert.RGridIdeal.τ).loc Cert.RGridIdeal.main_arg2) = m ((c.tc : Thread Cert.RGridIdeal.nD Cert.RGridIdeal.τ).loc Cert.RGridIdeal.main_arg2)
      ∧ r.2.mem ((c.tc : Thread Cert.RGridIdeal.nD Cert.RGridIdeal.τ).loc Cert.RGridIdeal.main_arg3) = m ((c.tc : Thread Cert.RGridIdeal.nD Cert.RGridIdeal.τ).loc Cert.RGridIdeal.main_arg3))
      ∧ r.2.sem = fun _ => 0)

def quiescent_KLast [hKLast : Cert.KLast.Facts] : Prop :=
  ∀ (m : (ℓ : Loc Cert.KLast.nD Cert.KLast.τ Cert.KLast.sig) → Buf (Elt Bits) ℓ) (g : Dev Cert.KLast.nD → PrngReg), Pre_KLast m →
    θ_run (Cert.KLast.defs (F := Bits)) (onTc (τ := Cert.KLast.τ) (Cert.KLast.main (F := Bits))) ⟨m, fun _ => 0, g⟩ (fun r => (∀ c : Dev Cert.KLast.nD,
      r.2.mem ((c.tc : Thread Cert.KLast.nD Cert.KLast.τ).loc Cert.KLast.main_arg0) = m ((c.tc : Thread Cert.KLast.nD Cert.KLast.τ).loc Cert.KLast.main_arg0)
      ∧ r.2.mem ((c.tc : Thread Cert.KLast.nD Cert.KLast.τ).loc Cert.KLast.main_arg1) = m ((c.tc : Thread Cert.KLast.nD Cert.KLast.τ).loc Cert.KLast.main_arg1)
      ∧ r.2.mem ((c.tc : Thread Cert.KLast.nD Cert.KLast.τ).loc Cert.KLast.main_arg2) = m ((c.tc : Thread Cert.KLast.nD Cert.KLast.τ).loc Cert.KLast.main_arg2)
      ∧ r.2.mem ((c.tc : Thread Cert.KLast.nD Cert.KLast.τ).loc Cert.KLast.main_arg3) = m ((c.tc : Thread Cert.KLast.nD Cert.KLast.τ).loc Cert.KLast.main_arg3)
      ∧ r.2.mem ((c.tc : Thread Cert.KLast.nD Cert.KLast.τ).loc Cert.KLast.main_arg4) = m ((c.tc : Thread Cert.KLast.nD Cert.KLast.τ).loc Cert.KLast.main_arg4))
      ∧ r.2.sem = fun _ => 0)

def quiescent_KLastIdeal [hKLastIdeal : Cert.KLastIdeal.Facts] : Prop :=
  ∀ (m : (ℓ : Loc Cert.KLastIdeal.nD Cert.KLastIdeal.τ Cert.KLastIdeal.sig) → Buf (Elt Ideal) ℓ) (g : Dev Cert.KLastIdeal.nD → PrngReg), Pre_KLastIdeal m →
    θ_run (Cert.KLastIdeal.defs (F := Ideal)) (onTc (τ := Cert.KLastIdeal.τ) (Cert.KLastIdeal.main (F := Ideal))) ⟨m, fun _ => 0, g⟩ (fun r => (∀ c : Dev Cert.KLastIdeal.nD,
      r.2.mem ((c.tc : Thread Cert.KLastIdeal.nD Cert.KLastIdeal.τ).loc Cert.KLastIdeal.main_arg0) = m ((c.tc : Thread Cert.KLastIdeal.nD Cert.KLastIdeal.τ).loc Cert.KLastIdeal.main_arg0)
      ∧ r.2.mem ((c.tc : Thread Cert.KLastIdeal.nD Cert.KLastIdeal.τ).loc Cert.KLastIdeal.main_arg1) = m ((c.tc : Thread Cert.KLastIdeal.nD Cert.KLastIdeal.τ).loc Cert.KLastIdeal.main_arg1)
      ∧ r.2.mem ((c.tc : Thread Cert.KLastIdeal.nD Cert.KLastIdeal.τ).loc Cert.KLastIdeal.main_arg2) = m ((c.tc : Thread Cert.KLastIdeal.nD Cert.KLastIdeal.τ).loc Cert.KLastIdeal.main_arg2)
      ∧ r.2.mem ((c.tc : Thread Cert.KLastIdeal.nD Cert.KLastIdeal.τ).loc Cert.KLastIdeal.main_arg3) = m ((c.tc : Thread Cert.KLastIdeal.nD Cert.KLastIdeal.τ).loc Cert.KLastIdeal.main_arg3)
      ∧ r.2.mem ((c.tc : Thread Cert.KLastIdeal.nD Cert.KLastIdeal.τ).loc Cert.KLastIdeal.main_arg4) = m ((c.tc : Thread Cert.KLastIdeal.nD Cert.KLastIdeal.τ).loc Cert.KLastIdeal.main_arg4))
      ∧ r.2.sem = fun _ => 0)

def quiescent_RLastIdeal [hRLastIdeal : Cert.RLastIdeal.Facts] : Prop :=
  ∀ (m : (ℓ : Loc Cert.RLastIdeal.nD Cert.RLastIdeal.τ Cert.RLastIdeal.sig) → Buf (Elt Ideal) ℓ) (g : Dev Cert.RLastIdeal.nD → PrngReg), Pre_RLastIdeal m →
    θ_run (Cert.RLastIdeal.defs (F := Ideal)) (onTc (τ := Cert.RLastIdeal.τ) (Cert.RLastIdeal.main (F := Ideal))) ⟨m, fun _ => 0, g⟩ (fun r => (∀ c : Dev Cert.RLastIdeal.nD,
      r.2.mem ((c.tc : Thread Cert.RLastIdeal.nD Cert.RLastIdeal.τ).loc Cert.RLastIdeal.main_arg0) = m ((c.tc : Thread Cert.RLastIdeal.nD Cert.RLastIdeal.τ).loc Cert.RLastIdeal.main_arg0)
      ∧ r.2.mem ((c.tc : Thread Cert.RLastIdeal.nD Cert.RLastIdeal.τ).loc Cert.RLastIdeal.main_arg1) = m ((c.tc : Thread Cert.RLastIdeal.nD Cert.RLastIdeal.τ).loc Cert.RLastIdeal.main_arg1)
      ∧ r.2.mem ((c.tc : Thread Cert.RLastIdeal.nD Cert.RLastIdeal.τ).loc Cert.RLastIdeal.main_arg2) = m ((c.tc : Thread Cert.RLastIdeal.nD Cert.RLastIdeal.τ).loc Cert.RLastIdeal.main_arg2)
      ∧ r.2.mem ((c.tc : Thread Cert.RLastIdeal.nD Cert.RLastIdeal.τ).loc Cert.RLastIdeal.main_arg3) = m ((c.tc : Thread Cert.RLastIdeal.nD Cert.RLastIdeal.τ).loc Cert.RLastIdeal.main_arg3)
      ∧ r.2.mem ((c.tc : Thread Cert.RLastIdeal.nD Cert.RLastIdeal.τ).loc Cert.RLastIdeal.main_arg4) = m ((c.tc : Thread Cert.RLastIdeal.nD Cert.RLastIdeal.τ).loc Cert.RLastIdeal.main_arg4))
      ∧ r.2.sem = fun _ => 0)

def quiescent_KAda [hKAda : Cert.KAda.Facts] : Prop :=
  ∀ (m : (ℓ : Loc Cert.KAda.nD Cert.KAda.τ Cert.KAda.sig) → Buf (Elt Bits) ℓ) (g : Dev Cert.KAda.nD → PrngReg), Pre_KAda m →
    θ_run (Cert.KAda.defs (F := Bits)) (onTc (τ := Cert.KAda.τ) (Cert.KAda.main (F := Bits))) ⟨m, fun _ => 0, g⟩ (fun r => (∀ c : Dev Cert.KAda.nD,
      r.2.mem ((c.tc : Thread Cert.KAda.nD Cert.KAda.τ).loc Cert.KAda.main_arg0) = m ((c.tc : Thread Cert.KAda.nD Cert.KAda.τ).loc Cert.KAda.main_arg0)
      ∧ r.2.mem ((c.tc : Thread Cert.KAda.nD Cert.KAda.τ).loc Cert.KAda.main_arg1) = m ((c.tc : Thread Cert.KAda.nD Cert.KAda.τ).loc Cert.KAda.main_arg1)
      ∧ r.2.mem ((c.tc : Thread Cert.KAda.nD Cert.KAda.τ).loc Cert.KAda.main_arg2) = m ((c.tc : Thread Cert.KAda.nD Cert.KAda.τ).loc Cert.KAda.main_arg2))
      ∧ r.2.sem = fun _ => 0)

def quiescent_KAdaIdeal [hKAdaIdeal : Cert.KAdaIdeal.Facts] : Prop :=
  ∀ (m : (ℓ : Loc Cert.KAdaIdeal.nD Cert.KAdaIdeal.τ Cert.KAdaIdeal.sig) → Buf (Elt Ideal) ℓ) (g : Dev Cert.KAdaIdeal.nD → PrngReg), Pre_KAdaIdeal m →
    θ_run (Cert.KAdaIdeal.defs (F := Ideal)) (onTc (τ := Cert.KAdaIdeal.τ) (Cert.KAdaIdeal.main (F := Ideal))) ⟨m, fun _ => 0, g⟩ (fun r => (∀ c : Dev Cert.KAdaIdeal.nD,
      r.2.mem ((c.tc : Thread Cert.KAdaIdeal.nD Cert.KAdaIdeal.τ).loc Cert.KAdaIdeal.main_arg0) = m ((c.tc : Thread Cert.KAdaIdeal.nD Cert.KAdaIdeal.τ).loc Cert.KAdaIdeal.main_arg0)
      ∧ r.2.mem ((c.tc : Thread Cert.KAdaIdeal.nD Cert.KAdaIdeal.τ).loc Cert.KAdaIdeal.main_arg1) = m ((c.tc : Thread Cert.KAdaIdeal.nD Cert.KAdaIdeal.τ).loc Cert.KAdaIdeal.main_arg1)
      ∧ r.2.mem ((c.tc : Thread Cert.KAdaIdeal.nD Cert.KAdaIdeal.τ).loc Cert.KAdaIdeal.main_arg2) = m ((c.tc : Thread Cert.KAdaIdeal.nD Cert.KAdaIdeal.τ).loc Cert.KAdaIdeal.main_arg2))
      ∧ r.2.sem = fun _ => 0)

def quiescent_RAdaIdeal [hRAdaIdeal : Cert.RAdaIdeal.Facts] : Prop :=
  ∀ (m : (ℓ : Loc Cert.RAdaIdeal.nD Cert.RAdaIdeal.τ Cert.RAdaIdeal.sig) → Buf (Elt Ideal) ℓ) (g : Dev Cert.RAdaIdeal.nD → PrngReg), Pre_RAdaIdeal m →
    θ_run (Cert.RAdaIdeal.defs (F := Ideal)) (onTc (τ := Cert.RAdaIdeal.τ) (Cert.RAdaIdeal.main (F := Ideal))) ⟨m, fun _ => 0, g⟩ (fun r => (∀ c : Dev Cert.RAdaIdeal.nD,
      r.2.mem ((c.tc : Thread Cert.RAdaIdeal.nD Cert.RAdaIdeal.τ).loc Cert.RAdaIdeal.main_arg0) = m ((c.tc : Thread Cert.RAdaIdeal.nD Cert.RAdaIdeal.τ).loc Cert.RAdaIdeal.main_arg0)
      ∧ r.2.mem ((c.tc : Thread Cert.RAdaIdeal.nD Cert.RAdaIdeal.τ).loc Cert.RAdaIdeal.main_arg1) = m ((c.tc : Thread Cert.RAdaIdeal.nD Cert.RAdaIdeal.τ).loc Cert.RAdaIdeal.main_arg1)
      ∧ r.2.mem ((c.tc : Thread Cert.RAdaIdeal.nD Cert.RAdaIdeal.τ).loc Cert.RAdaIdeal.main_arg2) = m ((c.tc : Thread Cert.RAdaIdeal.nD Cert.RAdaIdeal.τ).loc Cert.RAdaIdeal.main_arg2))
      ∧ r.2.sem = fun _ => 0)

def quiescent_KMlp [hKMlp : Cert.KMlp.Facts] : Prop :=
  ∀ (m : (ℓ : Loc Cert.KMlp.nD Cert.KMlp.τ Cert.KMlp.sig) → Buf (Elt Bits) ℓ) (g : Dev Cert.KMlp.nD → PrngReg), Pre_KMlp m →
    θ_run (Cert.KMlp.defs (F := Bits)) (onTc (τ := Cert.KMlp.τ) (Cert.KMlp.main (F := Bits))) ⟨m, fun _ => 0, g⟩ (fun r => (∀ c : Dev Cert.KMlp.nD,
      r.2.mem ((c.tc : Thread Cert.KMlp.nD Cert.KMlp.τ).loc Cert.KMlp.main_arg0) = m ((c.tc : Thread Cert.KMlp.nD Cert.KMlp.τ).loc Cert.KMlp.main_arg0)
      ∧ r.2.mem ((c.tc : Thread Cert.KMlp.nD Cert.KMlp.τ).loc Cert.KMlp.main_arg1) = m ((c.tc : Thread Cert.KMlp.nD Cert.KMlp.τ).loc Cert.KMlp.main_arg1)
      ∧ r.2.mem ((c.tc : Thread Cert.KMlp.nD Cert.KMlp.τ).loc Cert.KMlp.main_arg2) = m ((c.tc : Thread Cert.KMlp.nD Cert.KMlp.τ).loc Cert.KMlp.main_arg2)
      ∧ r.2.mem ((c.tc : Thread Cert.KMlp.nD Cert.KMlp.τ).loc Cert.KMlp.main_arg3) = m ((c.tc : Thread Cert.KMlp.nD Cert.KMlp.τ).loc Cert.KMlp.main_arg3)
      ∧ r.2.mem ((c.tc : Thread Cert.KMlp.nD Cert.KMlp.τ).loc Cert.KMlp.main_arg4) = m ((c.tc : Thread Cert.KMlp.nD Cert.KMlp.τ).loc Cert.KMlp.main_arg4)
      ∧ r.2.mem ((c.tc : Thread Cert.KMlp.nD Cert.KMlp.τ).loc Cert.KMlp.main_arg5) = m ((c.tc : Thread Cert.KMlp.nD Cert.KMlp.τ).loc Cert.KMlp.main_arg5)
      ∧ r.2.mem ((c.tc : Thread Cert.KMlp.nD Cert.KMlp.τ).loc Cert.KMlp.main_arg6) = m ((c.tc : Thread Cert.KMlp.nD Cert.KMlp.τ).loc Cert.KMlp.main_arg6)
      ∧ r.2.mem ((c.tc : Thread Cert.KMlp.nD Cert.KMlp.τ).loc Cert.KMlp.main_arg7) = m ((c.tc : Thread Cert.KMlp.nD Cert.KMlp.τ).loc Cert.KMlp.main_arg7))
      ∧ r.2.sem = fun _ => 0)

def quiescent_KMlpIdeal [hKMlpIdeal : Cert.KMlpIdeal.Facts] : Prop :=
  ∀ (m : (ℓ : Loc Cert.KMlpIdeal.nD Cert.KMlpIdeal.τ Cert.KMlpIdeal.sig) → Buf (Elt Ideal) ℓ) (g : Dev Cert.KMlpIdeal.nD → PrngReg), Pre_KMlpIdeal m →
    θ_run (Cert.KMlpIdeal.defs (F := Ideal)) (onTc (τ := Cert.KMlpIdeal.τ) (Cert.KMlpIdeal.main (F := Ideal))) ⟨m, fun _ => 0, g⟩ (fun r => (∀ c : Dev Cert.KMlpIdeal.nD,
      r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
      ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
      ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
      ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
      ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4)
      ∧ r.2.mem ((c.tc : Thread Cert.KMlpIdeal.nD Cert.KMlpIdeal.τ).loc Cert.KMlpIdeal.main_arg5) = m ((c.tc : Thread Cert.KMlpIdeal.nD Cert.KMlpIdeal.τ).loc Cert.KMlpIdeal.main_arg5)
      ∧ r.2.mem ((c.tc : Thread Cert.KMlpIdeal.nD Cert.KMlpIdeal.τ).loc Cert.KMlpIdeal.main_arg6) = m ((c.tc : Thread Cert.KMlpIdeal.nD Cert.KMlpIdeal.τ).loc Cert.KMlpIdeal.main_arg6)
      ∧ r.2.mem ((c.tc : Thread Cert.KMlpIdeal.nD Cert.KMlpIdeal.τ).loc Cert.KMlpIdeal.main_arg7) = m ((c.tc : Thread Cert.KMlpIdeal.nD Cert.KMlpIdeal.τ).loc Cert.KMlpIdeal.main_arg7))
      ∧ r.2.sem = fun _ => 0)

def quiescent_RMlpIdeal [hRMlpIdeal : Cert.RMlpIdeal.Facts] : Prop :=
  ∀ (m : (ℓ : Loc Cert.RMlpIdeal.nD Cert.RMlpIdeal.τ Cert.RMlpIdeal.sig) → Buf (Elt Ideal) ℓ) (g : Dev Cert.RMlpIdeal.nD → PrngReg), Pre_RMlpIdeal m →
    θ_run (Cert.RMlpIdeal.defs (F := Ideal)) (onTc (τ := Cert.RMlpIdeal.τ) (Cert.RMlpIdeal.main (F := Ideal))) ⟨m, fun _ => 0, g⟩ (fun r => (∀ c : Dev Cert.RMlpIdeal.nD,
      r.2.mem ((c.tc : Thread Cert.RMlpIdeal.nD Cert.RMlpIdeal.τ).loc Cert.RMlpIdeal.main_arg0) = m ((c.tc : Thread Cert.RMlpIdeal.nD Cert.RMlpIdeal.τ).loc Cert.RMlpIdeal.main_arg0)
      ∧ r.2.mem ((c.tc : Thread Cert.RMlpIdeal.nD Cert.RMlpIdeal.τ).loc Cert.RMlpIdeal.main_arg1) = m ((c.tc : Thread Cert.RMlpIdeal.nD Cert.RMlpIdeal.τ).loc Cert.RMlpIdeal.main_arg1)
      ∧ r.2.mem ((c.tc : Thread Cert.RMlpIdeal.nD Cert.RMlpIdeal.τ).loc Cert.RMlpIdeal.main_arg2) = m ((c.tc : Thread Cert.RMlpIdeal.nD Cert.RMlpIdeal.τ).loc Cert.RMlpIdeal.main_arg2)
      ∧ r.2.mem ((c.tc : Thread Cert.RMlpIdeal.nD Cert.RMlpIdeal.τ).loc Cert.RMlpIdeal.main_arg3) = m ((c.tc : Thread Cert.RMlpIdeal.nD Cert.RMlpIdeal.τ).loc Cert.RMlpIdeal.main_arg3)
      ∧ r.2.mem ((c.tc : Thread Cert.RMlpIdeal.nD Cert.RMlpIdeal.τ).loc Cert.RMlpIdeal.main_arg4) = m ((c.tc : Thread Cert.RMlpIdeal.nD Cert.RMlpIdeal.τ).loc Cert.RMlpIdeal.main_arg4)
      ∧ r.2.mem ((c.tc : Thread Cert.RMlpIdeal.nD Cert.RMlpIdeal.τ).loc Cert.RMlpIdeal.main_arg5) = m ((c.tc : Thread Cert.RMlpIdeal.nD Cert.RMlpIdeal.τ).loc Cert.RMlpIdeal.main_arg5)
      ∧ r.2.mem ((c.tc : Thread Cert.RMlpIdeal.nD Cert.RMlpIdeal.τ).loc Cert.RMlpIdeal.main_arg6) = m ((c.tc : Thread Cert.RMlpIdeal.nD Cert.RMlpIdeal.τ).loc Cert.RMlpIdeal.main_arg6)
      ∧ r.2.mem ((c.tc : Thread Cert.RMlpIdeal.nD Cert.RMlpIdeal.τ).loc Cert.RMlpIdeal.main_arg7) = m ((c.tc : Thread Cert.RMlpIdeal.nD Cert.RMlpIdeal.τ).loc Cert.RMlpIdeal.main_arg7))
      ∧ r.2.sem = fun _ => 0)

def preserves_KScan_KScanIdeal : Prop :=
  True

def algebraic_KScanIdeal_RScanIdeal [hKScanIdeal : Cert.KScanIdeal.Facts] [hRScanIdeal : Cert.RScanIdeal.Facts] : Prop :=
  ∀ (m : (ℓ : Loc Cert.KScanIdeal.nD Cert.KScanIdeal.τ Cert.KScanIdeal.sig) → Buf (Elt Ideal) ℓ) (g : Dev Cert.KScanIdeal.nD → PrngReg)
    (m' : (ℓ : Loc Cert.RScanIdeal.nD Cert.RScanIdeal.τ Cert.RScanIdeal.sig) → Buf (Elt Ideal) ℓ) (g' : Dev Cert.RScanIdeal.nD → PrngReg), Pre_KScanIdeal m →
    (∀ c : Dev Cert.KScanIdeal.nD,
      m' ((c.tc : Thread Cert.RScanIdeal.nD Cert.RScanIdeal.τ).loc Cert.RScanIdeal.main_arg0) = m ((c.tc : Thread Cert.KScanIdeal.nD Cert.KScanIdeal.τ).loc Cert.KScanIdeal.main_arg0)
      ∧ m' ((c.tc : Thread Cert.RScanIdeal.nD Cert.RScanIdeal.τ).loc Cert.RScanIdeal.main_arg1) = m ((c.tc : Thread Cert.KScanIdeal.nD Cert.KScanIdeal.τ).loc Cert.KScanIdeal.main_arg1)
      ∧ m' ((c.tc : Thread Cert.RScanIdeal.nD Cert.RScanIdeal.τ).loc Cert.RScanIdeal.main_arg2) = m ((c.tc : Thread Cert.KScanIdeal.nD Cert.KScanIdeal.τ).loc Cert.KScanIdeal.main_arg2)
      ∧ m' ((c.tc : Thread Cert.RScanIdeal.nD Cert.RScanIdeal.τ).loc Cert.RScanIdeal.main_arg3) = m ((c.tc : Thread Cert.KScanIdeal.nD Cert.KScanIdeal.τ).loc Cert.KScanIdeal.main_arg3)
      ∧ m' ((c.tc : Thread Cert.RScanIdeal.nD Cert.RScanIdeal.τ).loc Cert.RScanIdeal.main_arg4) = m ((c.tc : Thread Cert.KScanIdeal.nD Cert.KScanIdeal.τ).loc Cert.KScanIdeal.main_arg4)) →
    ∃ (v0 : (c : Dev Cert.KScanIdeal.nD) → Buf (Elt Ideal) ((c.tc : Thread Cert.KScanIdeal.nD Cert.KScanIdeal.τ).loc Cert.KScanIdeal.main_v0_0)) (v1 : (c : Dev Cert.KScanIdeal.nD) → Buf (Elt Ideal) ((c.tc : Thread Cert.KScanIdeal.nD Cert.KScanIdeal.τ).loc Cert.KScanIdeal.main_v0_1)),
      θ_run (Cert.KScanIdeal.defs (F := Ideal)) (onTc (τ := Cert.KScanIdeal.τ) (Cert.KScanIdeal.main (F := Ideal))) ⟨m, fun _ => 0, g⟩ (fun r => ∀ c : Dev Cert.KScanIdeal.nD,
          r.2.mem ((c.tc : Thread Cert.KScanIdeal.nD Cert.KScanIdeal.τ).loc Cert.KScanIdeal.main_v0_0) = v0 c
          ∧ r.2.mem ((c.tc : Thread Cert.KScanIdeal.nD Cert.KScanIdeal.τ).loc Cert.KScanIdeal.main_v0_1) = v1 c
          ∧ r.2.mem ((c.tc : Thread Cert.KScanIdeal.nD Cert.KScanIdeal.τ).loc Cert.KScanIdeal.main_arg0) = m ((c.tc : Thread Cert.KScanIdeal.nD Cert.KScanIdeal.τ).loc Cert.KScanIdeal.main_arg0)
          ∧ r.2.mem ((c.tc : Thread Cert.KScanIdeal.nD Cert.KScanIdeal.τ).loc Cert.KScanIdeal.main_arg1) = m ((c.tc : Thread Cert.KScanIdeal.nD Cert.KScanIdeal.τ).loc Cert.KScanIdeal.main_arg1)
          ∧ r.2.mem ((c.tc : Thread Cert.KScanIdeal.nD Cert.KScanIdeal.τ).loc Cert.KScanIdeal.main_arg2) = m ((c.tc : Thread Cert.KScanIdeal.nD Cert.KScanIdeal.τ).loc Cert.KScanIdeal.main_arg2)
          ∧ r.2.mem ((c.tc : Thread Cert.KScanIdeal.nD Cert.KScanIdeal.τ).loc Cert.KScanIdeal.main_arg3) = m ((c.tc : Thread Cert.KScanIdeal.nD Cert.KScanIdeal.τ).loc Cert.KScanIdeal.main_arg3)
          ∧ r.2.mem ((c.tc : Thread Cert.KScanIdeal.nD Cert.KScanIdeal.τ).loc Cert.KScanIdeal.main_arg4) = m ((c.tc : Thread Cert.KScanIdeal.nD Cert.KScanIdeal.τ).loc Cert.KScanIdeal.main_arg4))
      ∧ θ_run (Cert.RScanIdeal.defs (F := Ideal)) (onTc (τ := Cert.RScanIdeal.τ) (Cert.RScanIdeal.main (F := Ideal))) ⟨m', fun _ => 0, g'⟩ (fun r => ∀ c : Dev Cert.RScanIdeal.nD,
          r.2.mem ((c.tc : Thread Cert.RScanIdeal.nD Cert.RScanIdeal.τ).loc Cert.RScanIdeal.main_v75) = v0 c
          ∧ r.2.mem ((c.tc : Thread Cert.RScanIdeal.nD Cert.RScanIdeal.τ).loc Cert.RScanIdeal.main_v62) = v1 c
          ∧ r.2.mem ((c.tc : Thread Cert.RScanIdeal.nD Cert.RScanIdeal.τ).loc Cert.RScanIdeal.main_arg0) = m' ((c.tc : Thread Cert.RScanIdeal.nD Cert.RScanIdeal.τ).loc Cert.RScanIdeal.main_arg0)
          ∧ r.2.mem ((c.tc : Thread Cert.RScanIdeal.nD Cert.RScanIdeal.τ).loc Cert.RScanIdeal.main_arg1) = m' ((c.tc : Thread Cert.RScanIdeal.nD Cert.RScanIdeal.τ).loc Cert.RScanIdeal.main_arg1)
          ∧ r.2.mem ((c.tc : Thread Cert.RScanIdeal.nD Cert.RScanIdeal.τ).loc Cert.RScanIdeal.main_arg2) = m' ((c.tc : Thread Cert.RScanIdeal.nD Cert.RScanIdeal.τ).loc Cert.RScanIdeal.main_arg2)
          ∧ r.2.mem ((c.tc : Thread Cert.RScanIdeal.nD Cert.RScanIdeal.τ).loc Cert.RScanIdeal.main_arg3) = m' ((c.tc : Thread Cert.RScanIdeal.nD Cert.RScanIdeal.τ).loc Cert.RScanIdeal.main_arg3)
          ∧ r.2.mem ((c.tc : Thread Cert.RScanIdeal.nD Cert.RScanIdeal.τ).loc Cert.RScanIdeal.main_arg4) = m' ((c.tc : Thread Cert.RScanIdeal.nD Cert.RScanIdeal.τ).loc Cert.RScanIdeal.main_arg4))

def preserves_KPowers_KPowersIdeal : Prop :=
  True

def algebraic_KPowersIdeal_RPowersIdeal [hKPowersIdeal : Cert.KPowersIdeal.Facts] [hRPowersIdeal : Cert.RPowersIdeal.Facts] : Prop :=
  ∀ (m : (ℓ : Loc Cert.KPowersIdeal.nD Cert.KPowersIdeal.τ Cert.KPowersIdeal.sig) → Buf (Elt Ideal) ℓ) (g : Dev Cert.KPowersIdeal.nD → PrngReg)
    (m' : (ℓ : Loc Cert.RPowersIdeal.nD Cert.RPowersIdeal.τ Cert.RPowersIdeal.sig) → Buf (Elt Ideal) ℓ) (g' : Dev Cert.RPowersIdeal.nD → PrngReg), Pre_KPowersIdeal m →
    (∀ c : Dev Cert.KPowersIdeal.nD,
      m' ((c.tc : Thread Cert.RPowersIdeal.nD Cert.RPowersIdeal.τ).loc Cert.RPowersIdeal.main_arg0) = m ((c.tc : Thread Cert.KPowersIdeal.nD Cert.KPowersIdeal.τ).loc Cert.KPowersIdeal.main_arg0)
      ∧ m' ((c.tc : Thread Cert.RPowersIdeal.nD Cert.RPowersIdeal.τ).loc Cert.RPowersIdeal.main_arg1) = m ((c.tc : Thread Cert.KPowersIdeal.nD Cert.KPowersIdeal.τ).loc Cert.KPowersIdeal.main_arg1)
      ∧ m' ((c.tc : Thread Cert.RPowersIdeal.nD Cert.RPowersIdeal.τ).loc Cert.RPowersIdeal.main_arg2) = m ((c.tc : Thread Cert.KPowersIdeal.nD Cert.KPowersIdeal.τ).loc Cert.KPowersIdeal.main_arg2)
      ∧ m' ((c.tc : Thread Cert.RPowersIdeal.nD Cert.RPowersIdeal.τ).loc Cert.RPowersIdeal.main_arg3) = m ((c.tc : Thread Cert.KPowersIdeal.nD Cert.KPowersIdeal.τ).loc Cert.KPowersIdeal.main_arg3)
      ∧ m' ((c.tc : Thread Cert.RPowersIdeal.nD Cert.RPowersIdeal.τ).loc Cert.RPowersIdeal.main_arg4) = m ((c.tc : Thread Cert.KPowersIdeal.nD Cert.KPowersIdeal.τ).loc Cert.KPowersIdeal.main_arg4)
      ∧ m' ((c.tc : Thread Cert.RPowersIdeal.nD Cert.RPowersIdeal.τ).loc Cert.RPowersIdeal.main_arg5) = m ((c.tc : Thread Cert.KPowersIdeal.nD Cert.KPowersIdeal.τ).loc Cert.KPowersIdeal.main_arg5)
      ∧ m' ((c.tc : Thread Cert.RPowersIdeal.nD Cert.RPowersIdeal.τ).loc Cert.RPowersIdeal.main_arg6) = m ((c.tc : Thread Cert.KPowersIdeal.nD Cert.KPowersIdeal.τ).loc Cert.KPowersIdeal.main_arg6)) →
    ∃ (v0 : (c : Dev Cert.KPowersIdeal.nD) → Buf (Elt Ideal) ((c.tc : Thread Cert.KPowersIdeal.nD Cert.KPowersIdeal.τ).loc Cert.KPowersIdeal.main_v13_0)) (v1 : (c : Dev Cert.KPowersIdeal.nD) → Buf (Elt Ideal) ((c.tc : Thread Cert.KPowersIdeal.nD Cert.KPowersIdeal.τ).loc Cert.KPowersIdeal.main_v13_1)) (v2 : (c : Dev Cert.KPowersIdeal.nD) → Buf (Elt Ideal) ((c.tc : Thread Cert.KPowersIdeal.nD Cert.KPowersIdeal.τ).loc Cert.KPowersIdeal.main_v13_2)) (v3 : (c : Dev Cert.KPowersIdeal.nD) → Buf (Elt Ideal) ((c.tc : Thread Cert.KPowersIdeal.nD Cert.KPowersIdeal.τ).loc Cert.KPowersIdeal.main_v13_3)) (v4 : (c : Dev Cert.KPowersIdeal.nD) → Buf (Elt Ideal) ((c.tc : Thread Cert.KPowersIdeal.nD Cert.KPowersIdeal.τ).loc Cert.KPowersIdeal.main_v13_4)) (v5 : (c : Dev Cert.KPowersIdeal.nD) → Buf (Elt Ideal) ((c.tc : Thread Cert.KPowersIdeal.nD Cert.KPowersIdeal.τ).loc Cert.KPowersIdeal.main_v13_5)) (v6 : (c : Dev Cert.KPowersIdeal.nD) → Buf (Elt Ideal) ((c.tc : Thread Cert.KPowersIdeal.nD Cert.KPowersIdeal.τ).loc Cert.KPowersIdeal.main_v13_6)),
      θ_run (Cert.KPowersIdeal.defs (F := Ideal)) (onTc (τ := Cert.KPowersIdeal.τ) (Cert.KPowersIdeal.main (F := Ideal))) ⟨m, fun _ => 0, g⟩ (fun r => ∀ c : Dev Cert.KPowersIdeal.nD,
          r.2.mem ((c.tc : Thread Cert.KPowersIdeal.nD Cert.KPowersIdeal.τ).loc Cert.KPowersIdeal.main_v13_0) = v0 c
          ∧ r.2.mem ((c.tc : Thread Cert.KPowersIdeal.nD Cert.KPowersIdeal.τ).loc Cert.KPowersIdeal.main_v13_1) = v1 c
          ∧ r.2.mem ((c.tc : Thread Cert.KPowersIdeal.nD Cert.KPowersIdeal.τ).loc Cert.KPowersIdeal.main_v13_2) = v2 c
          ∧ r.2.mem ((c.tc : Thread Cert.KPowersIdeal.nD Cert.KPowersIdeal.τ).loc Cert.KPowersIdeal.main_v13_3) = v3 c
          ∧ r.2.mem ((c.tc : Thread Cert.KPowersIdeal.nD Cert.KPowersIdeal.τ).loc Cert.KPowersIdeal.main_v13_4) = v4 c
          ∧ r.2.mem ((c.tc : Thread Cert.KPowersIdeal.nD Cert.KPowersIdeal.τ).loc Cert.KPowersIdeal.main_v13_5) = v5 c
          ∧ r.2.mem ((c.tc : Thread Cert.KPowersIdeal.nD Cert.KPowersIdeal.τ).loc Cert.KPowersIdeal.main_v13_6) = v6 c
          ∧ r.2.mem ((c.tc : Thread Cert.KPowersIdeal.nD Cert.KPowersIdeal.τ).loc Cert.KPowersIdeal.main_arg0) = m ((c.tc : Thread Cert.KPowersIdeal.nD Cert.KPowersIdeal.τ).loc Cert.KPowersIdeal.main_arg0)
          ∧ r.2.mem ((c.tc : Thread Cert.KPowersIdeal.nD Cert.KPowersIdeal.τ).loc Cert.KPowersIdeal.main_arg1) = m ((c.tc : Thread Cert.KPowersIdeal.nD Cert.KPowersIdeal.τ).loc Cert.KPowersIdeal.main_arg1)
          ∧ r.2.mem ((c.tc : Thread Cert.KPowersIdeal.nD Cert.KPowersIdeal.τ).loc Cert.KPowersIdeal.main_arg2) = m ((c.tc : Thread Cert.KPowersIdeal.nD Cert.KPowersIdeal.τ).loc Cert.KPowersIdeal.main_arg2)
          ∧ r.2.mem ((c.tc : Thread Cert.KPowersIdeal.nD Cert.KPowersIdeal.τ).loc Cert.KPowersIdeal.main_arg3) = m ((c.tc : Thread Cert.KPowersIdeal.nD Cert.KPowersIdeal.τ).loc Cert.KPowersIdeal.main_arg3)
          ∧ r.2.mem ((c.tc : Thread Cert.KPowersIdeal.nD Cert.KPowersIdeal.τ).loc Cert.KPowersIdeal.main_arg4) = m ((c.tc : Thread Cert.KPowersIdeal.nD Cert.KPowersIdeal.τ).loc Cert.KPowersIdeal.main_arg4)
          ∧ r.2.mem ((c.tc : Thread Cert.KPowersIdeal.nD Cert.KPowersIdeal.τ).loc Cert.KPowersIdeal.main_arg5) = m ((c.tc : Thread Cert.KPowersIdeal.nD Cert.KPowersIdeal.τ).loc Cert.KPowersIdeal.main_arg5)
          ∧ r.2.mem ((c.tc : Thread Cert.KPowersIdeal.nD Cert.KPowersIdeal.τ).loc Cert.KPowersIdeal.main_arg6) = m ((c.tc : Thread Cert.KPowersIdeal.nD Cert.KPowersIdeal.τ).loc Cert.KPowersIdeal.main_arg6))
      ∧ θ_run (Cert.RPowersIdeal.defs (F := Ideal)) (onTc (τ := Cert.RPowersIdeal.τ) (Cert.RPowersIdeal.main (F := Ideal))) ⟨m', fun _ => 0, g'⟩ (fun r => ∀ c : Dev Cert.RPowersIdeal.nD,
          r.2.mem ((c.tc : Thread Cert.RPowersIdeal.nD Cert.RPowersIdeal.τ).loc Cert.RPowersIdeal.main_v90) = v0 c
          ∧ r.2.mem ((c.tc : Thread Cert.RPowersIdeal.nD Cert.RPowersIdeal.τ).loc Cert.RPowersIdeal.main_v118) = v1 c
          ∧ r.2.mem ((c.tc : Thread Cert.RPowersIdeal.nD Cert.RPowersIdeal.τ).loc Cert.RPowersIdeal.main_v125) = v2 c
          ∧ r.2.mem ((c.tc : Thread Cert.RPowersIdeal.nD Cert.RPowersIdeal.τ).loc Cert.RPowersIdeal.main_v155) = v3 c
          ∧ r.2.mem ((c.tc : Thread Cert.RPowersIdeal.nD Cert.RPowersIdeal.τ).loc Cert.RPowersIdeal.main_v177) = v4 c
          ∧ r.2.mem ((c.tc : Thread Cert.RPowersIdeal.nD Cert.RPowersIdeal.τ).loc Cert.RPowersIdeal.main_v174) = v5 c
          ∧ r.2.mem ((c.tc : Thread Cert.RPowersIdeal.nD Cert.RPowersIdeal.τ).loc Cert.RPowersIdeal.main_v176) = v6 c
          ∧ r.2.mem ((c.tc : Thread Cert.RPowersIdeal.nD Cert.RPowersIdeal.τ).loc Cert.RPowersIdeal.main_arg0) = m' ((c.tc : Thread Cert.RPowersIdeal.nD Cert.RPowersIdeal.τ).loc Cert.RPowersIdeal.main_arg0)
          ∧ r.2.mem ((c.tc : Thread Cert.RPowersIdeal.nD Cert.RPowersIdeal.τ).loc Cert.RPowersIdeal.main_arg1) = m' ((c.tc : Thread Cert.RPowersIdeal.nD Cert.RPowersIdeal.τ).loc Cert.RPowersIdeal.main_arg1)
          ∧ r.2.mem ((c.tc : Thread Cert.RPowersIdeal.nD Cert.RPowersIdeal.τ).loc Cert.RPowersIdeal.main_arg2) = m' ((c.tc : Thread Cert.RPowersIdeal.nD Cert.RPowersIdeal.τ).loc Cert.RPowersIdeal.main_arg2)
          ∧ r.2.mem ((c.tc : Thread Cert.RPowersIdeal.nD Cert.RPowersIdeal.τ).loc Cert.RPowersIdeal.main_arg3) = m' ((c.tc : Thread Cert.RPowersIdeal.nD Cert.RPowersIdeal.τ).loc Cert.RPowersIdeal.main_arg3)
          ∧ r.2.mem ((c.tc : Thread Cert.RPowersIdeal.nD Cert.RPowersIdeal.τ).loc Cert.RPowersIdeal.main_arg4) = m' ((c.tc : Thread Cert.RPowersIdeal.nD Cert.RPowersIdeal.τ).loc Cert.RPowersIdeal.main_arg4)
          ∧ r.2.mem ((c.tc : Thread Cert.RPowersIdeal.nD Cert.RPowersIdeal.τ).loc Cert.RPowersIdeal.main_arg5) = m' ((c.tc : Thread Cert.RPowersIdeal.nD Cert.RPowersIdeal.τ).loc Cert.RPowersIdeal.main_arg5)
          ∧ r.2.mem ((c.tc : Thread Cert.RPowersIdeal.nD Cert.RPowersIdeal.τ).loc Cert.RPowersIdeal.main_arg6) = m' ((c.tc : Thread Cert.RPowersIdeal.nD Cert.RPowersIdeal.τ).loc Cert.RPowersIdeal.main_arg6))

def preserves_KUp_KUpIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)
      ∧ m' ((c.tc : Thread Cert.RUpIdeal.nD Cert.RUpIdeal.τ).loc Cert.RUpIdeal.main_arg3) = m ((c.tc : Thread Cert.KUpIdeal.nD Cert.KUpIdeal.τ).loc Cert.KUpIdeal.main_arg3)) →
    ∃ (v0 : (c : Dev Cert.KUpIdeal.nD) → Buf (Elt Ideal) ((c.tc : Thread Cert.KUpIdeal.nD Cert.KUpIdeal.τ).loc Cert.KUpIdeal.main_v6)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v6) = v0 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
          ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v91) = v0 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)
      ∧ m' ((c.tc : Thread Cert.RDownIdeal.nD Cert.RDownIdeal.τ).loc Cert.RDownIdeal.main_arg4) = m ((c.tc : Thread Cert.KDownIdeal.nD Cert.KDownIdeal.τ).loc Cert.KDownIdeal.main_arg4)) →
    ∃ (v0 : (c : Dev Cert.KDownIdeal.nD) → Buf (Elt Ideal) ((c.tc : Thread Cert.KDownIdeal.nD Cert.KDownIdeal.τ).loc Cert.KDownIdeal.main_v3)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v3) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3)
          ∧ r.2.mem ((c.tc : Thread Cert.KDownIdeal.nD Cert.KDownIdeal.τ).loc Cert.KDownIdeal.main_arg4) = m ((c.tc : Thread Cert.KDownIdeal.nD Cert.KDownIdeal.τ).loc Cert.KDownIdeal.main_arg4))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v20) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3)
          ∧ r.2.mem ((c.tc : Thread Cert.RDownIdeal.nD Cert.RDownIdeal.τ).loc Cert.RDownIdeal.main_arg4) = m' ((c.tc : Thread Cert.RDownIdeal.nD Cert.RDownIdeal.τ).loc Cert.RDownIdeal.main_arg4))

def preserves_KMerge_KMergeIdeal : Prop :=
  True

def algebraic_KMergeIdeal_RMergeIdeal [hKMergeIdeal : Cert.KMergeIdeal.Facts] [hRMergeIdeal : Cert.RMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)
      ∧ m' ((c.tc : Thread Cert.RMergeIdeal.nD Cert.RMergeIdeal.τ).loc Cert.RMergeIdeal.main_arg3) = m ((c.tc : Thread Cert.KMergeIdeal.nD Cert.KMergeIdeal.τ).loc Cert.KMergeIdeal.main_arg3)
      ∧ m' ((c.tc : Thread Cert.RMergeIdeal.nD Cert.RMergeIdeal.τ).loc Cert.RMergeIdeal.main_arg4) = m ((c.tc : Thread Cert.KMergeIdeal.nD Cert.KMergeIdeal.τ).loc Cert.KMergeIdeal.main_arg4)
      ∧ m' ((c.tc : Thread Cert.RMergeIdeal.nD Cert.RMergeIdeal.τ).loc Cert.RMergeIdeal.main_arg5) = m ((c.tc : Thread Cert.KMergeIdeal.nD Cert.KMergeIdeal.τ).loc Cert.KMergeIdeal.main_arg5)
      ∧ m' ((c.tc : Thread Cert.RMergeIdeal.nD Cert.RMergeIdeal.τ).loc Cert.RMergeIdeal.main_arg6) = m ((c.tc : Thread Cert.KMergeIdeal.nD Cert.KMergeIdeal.τ).loc Cert.KMergeIdeal.main_arg6)
      ∧ m' ((c.tc : Thread Cert.RMergeIdeal.nD Cert.RMergeIdeal.τ).loc Cert.RMergeIdeal.main_arg7) = m ((c.tc : Thread Cert.KMergeIdeal.nD Cert.KMergeIdeal.τ).loc Cert.KMergeIdeal.main_arg7)
      ∧ m' ((c.tc : Thread Cert.RMergeIdeal.nD Cert.RMergeIdeal.τ).loc Cert.RMergeIdeal.main_arg8) = m ((c.tc : Thread Cert.KMergeIdeal.nD Cert.KMergeIdeal.τ).loc Cert.KMergeIdeal.main_arg8)
      ∧ m' ((c.tc : Thread Cert.RMergeIdeal.nD Cert.RMergeIdeal.τ).loc Cert.RMergeIdeal.main_arg9) = m ((c.tc : Thread Cert.KMergeIdeal.nD Cert.KMergeIdeal.τ).loc Cert.KMergeIdeal.main_arg9)
      ∧ m' ((c.tc : Thread Cert.RMergeIdeal.nD Cert.RMergeIdeal.τ).loc Cert.RMergeIdeal.main_arg10) = m ((c.tc : Thread Cert.KMergeIdeal.nD Cert.KMergeIdeal.τ).loc Cert.KMergeIdeal.main_arg10)
      ∧ m' ((c.tc : Thread Cert.RMergeIdeal.nD Cert.RMergeIdeal.τ).loc Cert.RMergeIdeal.main_arg11) = m ((c.tc : Thread Cert.KMergeIdeal.nD Cert.KMergeIdeal.τ).loc Cert.KMergeIdeal.main_arg11)) →
    ∃ (v0 : (c : Dev Cert.KMergeIdeal.nD) → Buf (Elt Ideal) ((c.tc : Thread Cert.KMergeIdeal.nD Cert.KMergeIdeal.τ).loc Cert.KMergeIdeal.main_v15_0)) (v1 : (c : Dev Cert.KMergeIdeal.nD) → Buf (Elt Ideal) ((c.tc : Thread Cert.KMergeIdeal.nD Cert.KMergeIdeal.τ).loc Cert.KMergeIdeal.main_v15_1)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v15_0) = v0 c
          ∧ r.2.mem ((c.tc : Thread Cert.KMergeIdeal.nD Cert.KMergeIdeal.τ).loc Cert.KMergeIdeal.main_v15_1) = v1 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
          ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
          ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
          ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
          ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6)
          ∧ r.2.mem ((c.tc : Thread Cert.KMergeIdeal.nD Cert.KMergeIdeal.τ).loc Cert.KMergeIdeal.main_arg7) = m ((c.tc : Thread Cert.KMergeIdeal.nD Cert.KMergeIdeal.τ).loc Cert.KMergeIdeal.main_arg7)
          ∧ r.2.mem ((c.tc : Thread Cert.KMergeIdeal.nD Cert.KMergeIdeal.τ).loc Cert.KMergeIdeal.main_arg8) = m ((c.tc : Thread Cert.KMergeIdeal.nD Cert.KMergeIdeal.τ).loc Cert.KMergeIdeal.main_arg8)
          ∧ r.2.mem ((c.tc : Thread Cert.KMergeIdeal.nD Cert.KMergeIdeal.τ).loc Cert.KMergeIdeal.main_arg9) = m ((c.tc : Thread Cert.KMergeIdeal.nD Cert.KMergeIdeal.τ).loc Cert.KMergeIdeal.main_arg9)
          ∧ r.2.mem ((c.tc : Thread Cert.KMergeIdeal.nD Cert.KMergeIdeal.τ).loc Cert.KMergeIdeal.main_arg10) = m ((c.tc : Thread Cert.KMergeIdeal.nD Cert.KMergeIdeal.τ).loc Cert.KMergeIdeal.main_arg10)
          ∧ r.2.mem ((c.tc : Thread Cert.KMergeIdeal.nD Cert.KMergeIdeal.τ).loc Cert.KMergeIdeal.main_arg11) = m ((c.tc : Thread Cert.KMergeIdeal.nD Cert.KMergeIdeal.τ).loc Cert.KMergeIdeal.main_arg11))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v57) = v0 c
          ∧ r.2.mem ((c.tc : Thread Cert.RMergeIdeal.nD Cert.RMergeIdeal.τ).loc Cert.RMergeIdeal.main_v78) = v1 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2)
          ∧ r.2.mem ((c.tc : Thread Cert.RMergeIdeal.nD Cert.RMergeIdeal.τ).loc Cert.RMergeIdeal.main_arg3) = m' ((c.tc : Thread Cert.RMergeIdeal.nD Cert.RMergeIdeal.τ).loc Cert.RMergeIdeal.main_arg3)
          ∧ r.2.mem ((c.tc : Thread Cert.RMergeIdeal.nD Cert.RMergeIdeal.τ).loc Cert.RMergeIdeal.main_arg4) = m' ((c.tc : Thread Cert.RMergeIdeal.nD Cert.RMergeIdeal.τ).loc Cert.RMergeIdeal.main_arg4)
          ∧ r.2.mem ((c.tc : Thread Cert.RMergeIdeal.nD Cert.RMergeIdeal.τ).loc Cert.RMergeIdeal.main_arg5) = m' ((c.tc : Thread Cert.RMergeIdeal.nD Cert.RMergeIdeal.τ).loc Cert.RMergeIdeal.main_arg5)
          ∧ r.2.mem ((c.tc : Thread Cert.RMergeIdeal.nD Cert.RMergeIdeal.τ).loc Cert.RMergeIdeal.main_arg6) = m' ((c.tc : Thread Cert.RMergeIdeal.nD Cert.RMergeIdeal.τ).loc Cert.RMergeIdeal.main_arg6)
          ∧ r.2.mem ((c.tc : Thread Cert.RMergeIdeal.nD Cert.RMergeIdeal.τ).loc Cert.RMergeIdeal.main_arg7) = m' ((c.tc : Thread Cert.RMergeIdeal.nD Cert.RMergeIdeal.τ).loc Cert.RMergeIdeal.main_arg7)
          ∧ r.2.mem ((c.tc : Thread Cert.RMergeIdeal.nD Cert.RMergeIdeal.τ).loc Cert.RMergeIdeal.main_arg8) = m' ((c.tc : Thread Cert.RMergeIdeal.nD Cert.RMergeIdeal.τ).loc Cert.RMergeIdeal.main_arg8)
          ∧ r.2.mem ((c.tc : Thread Cert.RMergeIdeal.nD Cert.RMergeIdeal.τ).loc Cert.RMergeIdeal.main_arg9) = m' ((c.tc : Thread Cert.RMergeIdeal.nD Cert.RMergeIdeal.τ).loc Cert.RMergeIdeal.main_arg9)
          ∧ r.2.mem ((c.tc : Thread Cert.RMergeIdeal.nD Cert.RMergeIdeal.τ).loc Cert.RMergeIdeal.main_arg10) = m' ((c.tc : Thread Cert.RMergeIdeal.nD Cert.RMergeIdeal.τ).loc Cert.RMergeIdeal.main_arg10)
          ∧ r.2.mem ((c.tc : Thread Cert.RMergeIdeal.nD Cert.RMergeIdeal.τ).loc Cert.RMergeIdeal.main_arg11) = m' ((c.tc : Thread Cert.RMergeIdeal.nD Cert.RMergeIdeal.τ).loc Cert.RMergeIdeal.main_arg11))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)
      ∧ m' ((c.tc : Thread Cert.RInIdeal.nD Cert.RInIdeal.τ).loc Cert.RInIdeal.main_arg2) = m ((c.tc : Thread Cert.KInIdeal.nD Cert.KInIdeal.τ).loc Cert.KInIdeal.main_arg2)
      ∧ m' ((c.tc : Thread Cert.RInIdeal.nD Cert.RInIdeal.τ).loc Cert.RInIdeal.main_arg3) = m ((c.tc : Thread Cert.KInIdeal.nD Cert.KInIdeal.τ).loc Cert.KInIdeal.main_arg3)
      ∧ m' ((c.tc : Thread Cert.RInIdeal.nD Cert.RInIdeal.τ).loc Cert.RInIdeal.main_arg4) = m ((c.tc : Thread Cert.KInIdeal.nD Cert.KInIdeal.τ).loc Cert.KInIdeal.main_arg4)) →
    ∃ (v0 : (c : Dev Cert.KInIdeal.nD) → Buf (Elt Ideal) ((c.tc : Thread Cert.KInIdeal.nD Cert.KInIdeal.τ).loc Cert.KInIdeal.main_v7)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v7) = v0 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
          ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
          ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
          ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v42) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1)
          ∧ r.2.mem ((c.tc : Thread Cert.RInIdeal.nD Cert.RInIdeal.τ).loc Cert.RInIdeal.main_arg2) = m' ((c.tc : Thread Cert.RInIdeal.nD Cert.RInIdeal.τ).loc Cert.RInIdeal.main_arg2)
          ∧ r.2.mem ((c.tc : Thread Cert.RInIdeal.nD Cert.RInIdeal.τ).loc Cert.RInIdeal.main_arg3) = m' ((c.tc : Thread Cert.RInIdeal.nD Cert.RInIdeal.τ).loc Cert.RInIdeal.main_arg3)
          ∧ r.2.mem ((c.tc : Thread Cert.RInIdeal.nD Cert.RInIdeal.τ).loc Cert.RInIdeal.main_arg4) = m' ((c.tc : Thread Cert.RInIdeal.nD Cert.RInIdeal.τ).loc Cert.RInIdeal.main_arg4))

def preserves_KJoin_KJoinIdeal : Prop :=
  True

def algebraic_KJoinIdeal_RJoinIdeal [hKJoinIdeal : Cert.KJoinIdeal.Facts] [hRJoinIdeal : Cert.RJoinIdeal.Facts] : Prop :=
  ∀ (m : (ℓ : Loc Cert.KJoinIdeal.nD Cert.KJoinIdeal.τ Cert.KJoinIdeal.sig) → Buf (Elt Ideal) ℓ) (g : Dev Cert.KJoinIdeal.nD → PrngReg)
    (m' : (ℓ : Loc Cert.RJoinIdeal.nD Cert.RJoinIdeal.τ Cert.RJoinIdeal.sig) → Buf (Elt Ideal) ℓ) (g' : Dev Cert.RJoinIdeal.nD → PrngReg), Pre_KJoinIdeal m →
    (∀ c : Dev Cert.KJoinIdeal.nD,
      m' ((c.tc : Thread Cert.RJoinIdeal.nD Cert.RJoinIdeal.τ).loc Cert.RJoinIdeal.main_arg0) = m ((c.tc : Thread Cert.KJoinIdeal.nD Cert.KJoinIdeal.τ).loc Cert.KJoinIdeal.main_arg0)
      ∧ m' ((c.tc : Thread Cert.RJoinIdeal.nD Cert.RJoinIdeal.τ).loc Cert.RJoinIdeal.main_arg1) = m ((c.tc : Thread Cert.KJoinIdeal.nD Cert.KJoinIdeal.τ).loc Cert.KJoinIdeal.main_arg1)
      ∧ m' ((c.tc : Thread Cert.RJoinIdeal.nD Cert.RJoinIdeal.τ).loc Cert.RJoinIdeal.main_arg2) = m ((c.tc : Thread Cert.KJoinIdeal.nD Cert.KJoinIdeal.τ).loc Cert.KJoinIdeal.main_arg2)
      ∧ m' ((c.tc : Thread Cert.RJoinIdeal.nD Cert.RJoinIdeal.τ).loc Cert.RJoinIdeal.main_arg3) = m ((c.tc : Thread Cert.KJoinIdeal.nD Cert.KJoinIdeal.τ).loc Cert.KJoinIdeal.main_arg3)
      ∧ m' ((c.tc : Thread Cert.RJoinIdeal.nD Cert.RJoinIdeal.τ).loc Cert.RJoinIdeal.main_arg4) = m ((c.tc : Thread Cert.KJoinIdeal.nD Cert.KJoinIdeal.τ).loc Cert.KJoinIdeal.main_arg4)
      ∧ m' ((c.tc : Thread Cert.RJoinIdeal.nD Cert.RJoinIdeal.τ).loc Cert.RJoinIdeal.main_arg5) = m ((c.tc : Thread Cert.KJoinIdeal.nD Cert.KJoinIdeal.τ).loc Cert.KJoinIdeal.main_arg5)
      ∧ m' ((c.tc : Thread Cert.RJoinIdeal.nD Cert.RJoinIdeal.τ).loc Cert.RJoinIdeal.main_arg6) = m ((c.tc : Thread Cert.KJoinIdeal.nD Cert.KJoinIdeal.τ).loc Cert.KJoinIdeal.main_arg6)
      ∧ m' ((c.tc : Thread Cert.RJoinIdeal.nD Cert.RJoinIdeal.τ).loc Cert.RJoinIdeal.main_arg7) = m ((c.tc : Thread Cert.KJoinIdeal.nD Cert.KJoinIdeal.τ).loc Cert.KJoinIdeal.main_arg7)
      ∧ m' ((c.tc : Thread Cert.RJoinIdeal.nD Cert.RJoinIdeal.τ).loc Cert.RJoinIdeal.main_arg8) = m ((c.tc : Thread Cert.KJoinIdeal.nD Cert.KJoinIdeal.τ).loc Cert.KJoinIdeal.main_arg8)
      ∧ m' ((c.tc : Thread Cert.RJoinIdeal.nD Cert.RJoinIdeal.τ).loc Cert.RJoinIdeal.main_arg9) = m ((c.tc : Thread Cert.KJoinIdeal.nD Cert.KJoinIdeal.τ).loc Cert.KJoinIdeal.main_arg9)
      ∧ m' ((c.tc : Thread Cert.RJoinIdeal.nD Cert.RJoinIdeal.τ).loc Cert.RJoinIdeal.main_arg10) = m ((c.tc : Thread Cert.KJoinIdeal.nD Cert.KJoinIdeal.τ).loc Cert.KJoinIdeal.main_arg10)
      ∧ m' ((c.tc : Thread Cert.RJoinIdeal.nD Cert.RJoinIdeal.τ).loc Cert.RJoinIdeal.main_arg11) = m ((c.tc : Thread Cert.KJoinIdeal.nD Cert.KJoinIdeal.τ).loc Cert.KJoinIdeal.main_arg11)) →
    ∃ (v0 : (c : Dev Cert.KJoinIdeal.nD) → Buf (Elt Ideal) ((c.tc : Thread Cert.KJoinIdeal.nD Cert.KJoinIdeal.τ).loc Cert.KJoinIdeal.main_v15_0)) (v1 : (c : Dev Cert.KJoinIdeal.nD) → Buf (Elt Ideal) ((c.tc : Thread Cert.KJoinIdeal.nD Cert.KJoinIdeal.τ).loc Cert.KJoinIdeal.main_v15_1)),
      θ_run (Cert.KJoinIdeal.defs (F := Ideal)) (onTc (τ := Cert.KJoinIdeal.τ) (Cert.KJoinIdeal.main (F := Ideal))) ⟨m, fun _ => 0, g⟩ (fun r => ∀ c : Dev Cert.KJoinIdeal.nD,
          r.2.mem ((c.tc : Thread Cert.KJoinIdeal.nD Cert.KJoinIdeal.τ).loc Cert.KJoinIdeal.main_v15_0) = v0 c
          ∧ r.2.mem ((c.tc : Thread Cert.KJoinIdeal.nD Cert.KJoinIdeal.τ).loc Cert.KJoinIdeal.main_v15_1) = v1 c
          ∧ r.2.mem ((c.tc : Thread Cert.KJoinIdeal.nD Cert.KJoinIdeal.τ).loc Cert.KJoinIdeal.main_arg0) = m ((c.tc : Thread Cert.KJoinIdeal.nD Cert.KJoinIdeal.τ).loc Cert.KJoinIdeal.main_arg0)
          ∧ r.2.mem ((c.tc : Thread Cert.KJoinIdeal.nD Cert.KJoinIdeal.τ).loc Cert.KJoinIdeal.main_arg1) = m ((c.tc : Thread Cert.KJoinIdeal.nD Cert.KJoinIdeal.τ).loc Cert.KJoinIdeal.main_arg1)
          ∧ r.2.mem ((c.tc : Thread Cert.KJoinIdeal.nD Cert.KJoinIdeal.τ).loc Cert.KJoinIdeal.main_arg2) = m ((c.tc : Thread Cert.KJoinIdeal.nD Cert.KJoinIdeal.τ).loc Cert.KJoinIdeal.main_arg2)
          ∧ r.2.mem ((c.tc : Thread Cert.KJoinIdeal.nD Cert.KJoinIdeal.τ).loc Cert.KJoinIdeal.main_arg3) = m ((c.tc : Thread Cert.KJoinIdeal.nD Cert.KJoinIdeal.τ).loc Cert.KJoinIdeal.main_arg3)
          ∧ r.2.mem ((c.tc : Thread Cert.KJoinIdeal.nD Cert.KJoinIdeal.τ).loc Cert.KJoinIdeal.main_arg4) = m ((c.tc : Thread Cert.KJoinIdeal.nD Cert.KJoinIdeal.τ).loc Cert.KJoinIdeal.main_arg4)
          ∧ r.2.mem ((c.tc : Thread Cert.KJoinIdeal.nD Cert.KJoinIdeal.τ).loc Cert.KJoinIdeal.main_arg5) = m ((c.tc : Thread Cert.KJoinIdeal.nD Cert.KJoinIdeal.τ).loc Cert.KJoinIdeal.main_arg5)
          ∧ r.2.mem ((c.tc : Thread Cert.KJoinIdeal.nD Cert.KJoinIdeal.τ).loc Cert.KJoinIdeal.main_arg6) = m ((c.tc : Thread Cert.KJoinIdeal.nD Cert.KJoinIdeal.τ).loc Cert.KJoinIdeal.main_arg6)
          ∧ r.2.mem ((c.tc : Thread Cert.KJoinIdeal.nD Cert.KJoinIdeal.τ).loc Cert.KJoinIdeal.main_arg7) = m ((c.tc : Thread Cert.KJoinIdeal.nD Cert.KJoinIdeal.τ).loc Cert.KJoinIdeal.main_arg7)
          ∧ r.2.mem ((c.tc : Thread Cert.KJoinIdeal.nD Cert.KJoinIdeal.τ).loc Cert.KJoinIdeal.main_arg8) = m ((c.tc : Thread Cert.KJoinIdeal.nD Cert.KJoinIdeal.τ).loc Cert.KJoinIdeal.main_arg8)
          ∧ r.2.mem ((c.tc : Thread Cert.KJoinIdeal.nD Cert.KJoinIdeal.τ).loc Cert.KJoinIdeal.main_arg9) = m ((c.tc : Thread Cert.KJoinIdeal.nD Cert.KJoinIdeal.τ).loc Cert.KJoinIdeal.main_arg9)
          ∧ r.2.mem ((c.tc : Thread Cert.KJoinIdeal.nD Cert.KJoinIdeal.τ).loc Cert.KJoinIdeal.main_arg10) = m ((c.tc : Thread Cert.KJoinIdeal.nD Cert.KJoinIdeal.τ).loc Cert.KJoinIdeal.main_arg10)
          ∧ r.2.mem ((c.tc : Thread Cert.KJoinIdeal.nD Cert.KJoinIdeal.τ).loc Cert.KJoinIdeal.main_arg11) = m ((c.tc : Thread Cert.KJoinIdeal.nD Cert.KJoinIdeal.τ).loc Cert.KJoinIdeal.main_arg11))
      ∧ θ_run (Cert.RJoinIdeal.defs (F := Ideal)) (onTc (τ := Cert.RJoinIdeal.τ) (Cert.RJoinIdeal.main (F := Ideal))) ⟨m', fun _ => 0, g'⟩ (fun r => ∀ c : Dev Cert.RJoinIdeal.nD,
          r.2.mem ((c.tc : Thread Cert.RJoinIdeal.nD Cert.RJoinIdeal.τ).loc Cert.RJoinIdeal.main_v78) = v0 c
          ∧ r.2.mem ((c.tc : Thread Cert.RJoinIdeal.nD Cert.RJoinIdeal.τ).loc Cert.RJoinIdeal.main_v80) = v1 c
          ∧ r.2.mem ((c.tc : Thread Cert.RJoinIdeal.nD Cert.RJoinIdeal.τ).loc Cert.RJoinIdeal.main_arg0) = m' ((c.tc : Thread Cert.RJoinIdeal.nD Cert.RJoinIdeal.τ).loc Cert.RJoinIdeal.main_arg0)
          ∧ r.2.mem ((c.tc : Thread Cert.RJoinIdeal.nD Cert.RJoinIdeal.τ).loc Cert.RJoinIdeal.main_arg1) = m' ((c.tc : Thread Cert.RJoinIdeal.nD Cert.RJoinIdeal.τ).loc Cert.RJoinIdeal.main_arg1)
          ∧ r.2.mem ((c.tc : Thread Cert.RJoinIdeal.nD Cert.RJoinIdeal.τ).loc Cert.RJoinIdeal.main_arg2) = m' ((c.tc : Thread Cert.RJoinIdeal.nD Cert.RJoinIdeal.τ).loc Cert.RJoinIdeal.main_arg2)
          ∧ r.2.mem ((c.tc : Thread Cert.RJoinIdeal.nD Cert.RJoinIdeal.τ).loc Cert.RJoinIdeal.main_arg3) = m' ((c.tc : Thread Cert.RJoinIdeal.nD Cert.RJoinIdeal.τ).loc Cert.RJoinIdeal.main_arg3)
          ∧ r.2.mem ((c.tc : Thread Cert.RJoinIdeal.nD Cert.RJoinIdeal.τ).loc Cert.RJoinIdeal.main_arg4) = m' ((c.tc : Thread Cert.RJoinIdeal.nD Cert.RJoinIdeal.τ).loc Cert.RJoinIdeal.main_arg4)
          ∧ r.2.mem ((c.tc : Thread Cert.RJoinIdeal.nD Cert.RJoinIdeal.τ).loc Cert.RJoinIdeal.main_arg5) = m' ((c.tc : Thread Cert.RJoinIdeal.nD Cert.RJoinIdeal.τ).loc Cert.RJoinIdeal.main_arg5)
          ∧ r.2.mem ((c.tc : Thread Cert.RJoinIdeal.nD Cert.RJoinIdeal.τ).loc Cert.RJoinIdeal.main_arg6) = m' ((c.tc : Thread Cert.RJoinIdeal.nD Cert.RJoinIdeal.τ).loc Cert.RJoinIdeal.main_arg6)
          ∧ r.2.mem ((c.tc : Thread Cert.RJoinIdeal.nD Cert.RJoinIdeal.τ).loc Cert.RJoinIdeal.main_arg7) = m' ((c.tc : Thread Cert.RJoinIdeal.nD Cert.RJoinIdeal.τ).loc Cert.RJoinIdeal.main_arg7)
          ∧ r.2.mem ((c.tc : Thread Cert.RJoinIdeal.nD Cert.RJoinIdeal.τ).loc Cert.RJoinIdeal.main_arg8) = m' ((c.tc : Thread Cert.RJoinIdeal.nD Cert.RJoinIdeal.τ).loc Cert.RJoinIdeal.main_arg8)
          ∧ r.2.mem ((c.tc : Thread Cert.RJoinIdeal.nD Cert.RJoinIdeal.τ).loc Cert.RJoinIdeal.main_arg9) = m' ((c.tc : Thread Cert.RJoinIdeal.nD Cert.RJoinIdeal.τ).loc Cert.RJoinIdeal.main_arg9)
          ∧ r.2.mem ((c.tc : Thread Cert.RJoinIdeal.nD Cert.RJoinIdeal.τ).loc Cert.RJoinIdeal.main_arg10) = m' ((c.tc : Thread Cert.RJoinIdeal.nD Cert.RJoinIdeal.τ).loc Cert.RJoinIdeal.main_arg10)
          ∧ r.2.mem ((c.tc : Thread Cert.RJoinIdeal.nD Cert.RJoinIdeal.τ).loc Cert.RJoinIdeal.main_arg11) = m' ((c.tc : Thread Cert.RJoinIdeal.nD Cert.RJoinIdeal.τ).loc Cert.RJoinIdeal.main_arg11))

def preserves_KEnter_KEnterIdeal : Prop :=
  True

def algebraic_KEnterIdeal_REnterIdeal [hKEnterIdeal : Cert.KEnterIdeal.Facts] [hREnterIdeal : Cert.REnterIdeal.Facts] : Prop :=
  ∀ (m : (ℓ : Loc Cert.KEnterIdeal.nD Cert.KEnterIdeal.τ Cert.KEnterIdeal.sig) → Buf (Elt Ideal) ℓ) (g : Dev Cert.KEnterIdeal.nD → PrngReg)
    (m' : (ℓ : Loc Cert.REnterIdeal.nD Cert.REnterIdeal.τ Cert.REnterIdeal.sig) → Buf (Elt Ideal) ℓ) (g' : Dev Cert.REnterIdeal.nD → PrngReg), Pre_KEnterIdeal m →
    (∀ c : Dev Cert.KEnterIdeal.nD,
      m' ((c.tc : Thread Cert.REnterIdeal.nD Cert.REnterIdeal.τ).loc Cert.REnterIdeal.main_arg0) = m ((c.tc : Thread Cert.KEnterIdeal.nD Cert.KEnterIdeal.τ).loc Cert.KEnterIdeal.main_arg0)
      ∧ m' ((c.tc : Thread Cert.REnterIdeal.nD Cert.REnterIdeal.τ).loc Cert.REnterIdeal.main_arg1) = m ((c.tc : Thread Cert.KEnterIdeal.nD Cert.KEnterIdeal.τ).loc Cert.KEnterIdeal.main_arg1)
      ∧ m' ((c.tc : Thread Cert.REnterIdeal.nD Cert.REnterIdeal.τ).loc Cert.REnterIdeal.main_arg2) = m ((c.tc : Thread Cert.KEnterIdeal.nD Cert.KEnterIdeal.τ).loc Cert.KEnterIdeal.main_arg2)
      ∧ m' ((c.tc : Thread Cert.REnterIdeal.nD Cert.REnterIdeal.τ).loc Cert.REnterIdeal.main_arg3) = m ((c.tc : Thread Cert.KEnterIdeal.nD Cert.KEnterIdeal.τ).loc Cert.KEnterIdeal.main_arg3)
      ∧ m' ((c.tc : Thread Cert.REnterIdeal.nD Cert.REnterIdeal.τ).loc Cert.REnterIdeal.main_arg4) = m ((c.tc : Thread Cert.KEnterIdeal.nD Cert.KEnterIdeal.τ).loc Cert.KEnterIdeal.main_arg4)) →
    ∃ (v0 : (c : Dev Cert.KEnterIdeal.nD) → Buf (Elt Ideal) ((c.tc : Thread Cert.KEnterIdeal.nD Cert.KEnterIdeal.τ).loc Cert.KEnterIdeal.main_v7)),
      θ_run (Cert.KEnterIdeal.defs (F := Ideal)) (onTc (τ := Cert.KEnterIdeal.τ) (Cert.KEnterIdeal.main (F := Ideal))) ⟨m, fun _ => 0, g⟩ (fun r => ∀ c : Dev Cert.KEnterIdeal.nD,
          r.2.mem ((c.tc : Thread Cert.KEnterIdeal.nD Cert.KEnterIdeal.τ).loc Cert.KEnterIdeal.main_v7) = v0 c
          ∧ r.2.mem ((c.tc : Thread Cert.KEnterIdeal.nD Cert.KEnterIdeal.τ).loc Cert.KEnterIdeal.main_arg0) = m ((c.tc : Thread Cert.KEnterIdeal.nD Cert.KEnterIdeal.τ).loc Cert.KEnterIdeal.main_arg0)
          ∧ r.2.mem ((c.tc : Thread Cert.KEnterIdeal.nD Cert.KEnterIdeal.τ).loc Cert.KEnterIdeal.main_arg1) = m ((c.tc : Thread Cert.KEnterIdeal.nD Cert.KEnterIdeal.τ).loc Cert.KEnterIdeal.main_arg1)
          ∧ r.2.mem ((c.tc : Thread Cert.KEnterIdeal.nD Cert.KEnterIdeal.τ).loc Cert.KEnterIdeal.main_arg2) = m ((c.tc : Thread Cert.KEnterIdeal.nD Cert.KEnterIdeal.τ).loc Cert.KEnterIdeal.main_arg2)
          ∧ r.2.mem ((c.tc : Thread Cert.KEnterIdeal.nD Cert.KEnterIdeal.τ).loc Cert.KEnterIdeal.main_arg3) = m ((c.tc : Thread Cert.KEnterIdeal.nD Cert.KEnterIdeal.τ).loc Cert.KEnterIdeal.main_arg3)
          ∧ r.2.mem ((c.tc : Thread Cert.KEnterIdeal.nD Cert.KEnterIdeal.τ).loc Cert.KEnterIdeal.main_arg4) = m ((c.tc : Thread Cert.KEnterIdeal.nD Cert.KEnterIdeal.τ).loc Cert.KEnterIdeal.main_arg4))
      ∧ θ_run (Cert.REnterIdeal.defs (F := Ideal)) (onTc (τ := Cert.REnterIdeal.τ) (Cert.REnterIdeal.main (F := Ideal))) ⟨m', fun _ => 0, g'⟩ (fun r => ∀ c : Dev Cert.REnterIdeal.nD,
          r.2.mem ((c.tc : Thread Cert.REnterIdeal.nD Cert.REnterIdeal.τ).loc Cert.REnterIdeal.main_v40) = v0 c
          ∧ r.2.mem ((c.tc : Thread Cert.REnterIdeal.nD Cert.REnterIdeal.τ).loc Cert.REnterIdeal.main_arg0) = m' ((c.tc : Thread Cert.REnterIdeal.nD Cert.REnterIdeal.τ).loc Cert.REnterIdeal.main_arg0)
          ∧ r.2.mem ((c.tc : Thread Cert.REnterIdeal.nD Cert.REnterIdeal.τ).loc Cert.REnterIdeal.main_arg1) = m' ((c.tc : Thread Cert.REnterIdeal.nD Cert.REnterIdeal.τ).loc Cert.REnterIdeal.main_arg1)
          ∧ r.2.mem ((c.tc : Thread Cert.REnterIdeal.nD Cert.REnterIdeal.τ).loc Cert.REnterIdeal.main_arg2) = m' ((c.tc : Thread Cert.REnterIdeal.nD Cert.REnterIdeal.τ).loc Cert.REnterIdeal.main_arg2)
          ∧ r.2.mem ((c.tc : Thread Cert.REnterIdeal.nD Cert.REnterIdeal.τ).loc Cert.REnterIdeal.main_arg3) = m' ((c.tc : Thread Cert.REnterIdeal.nD Cert.REnterIdeal.τ).loc Cert.REnterIdeal.main_arg3)
          ∧ r.2.mem ((c.tc : Thread Cert.REnterIdeal.nD Cert.REnterIdeal.τ).loc Cert.REnterIdeal.main_arg4) = m' ((c.tc : Thread Cert.REnterIdeal.nD Cert.REnterIdeal.τ).loc Cert.REnterIdeal.main_arg4))

def preserves_KGrid_KGridIdeal : Prop :=
  True

def algebraic_KGridIdeal_RGridIdeal [hKGridIdeal : Cert.KGridIdeal.Facts] [hRGridIdeal : Cert.RGridIdeal.Facts] : Prop :=
  ∀ (m : (ℓ : Loc Cert.KGridIdeal.nD Cert.KGridIdeal.τ Cert.KGridIdeal.sig) → Buf (Elt Ideal) ℓ) (g : Dev Cert.KGridIdeal.nD → PrngReg)
    (m' : (ℓ : Loc Cert.RGridIdeal.nD Cert.RGridIdeal.τ Cert.RGridIdeal.sig) → Buf (Elt Ideal) ℓ) (g' : Dev Cert.RGridIdeal.nD → PrngReg), Pre_KGridIdeal m →
    (∀ c : Dev Cert.KGridIdeal.nD,
      m' ((c.tc : Thread Cert.RGridIdeal.nD Cert.RGridIdeal.τ).loc Cert.RGridIdeal.main_arg0) = m ((c.tc : Thread Cert.KGridIdeal.nD Cert.KGridIdeal.τ).loc Cert.KGridIdeal.main_arg0)
      ∧ m' ((c.tc : Thread Cert.RGridIdeal.nD Cert.RGridIdeal.τ).loc Cert.RGridIdeal.main_arg1) = m ((c.tc : Thread Cert.KGridIdeal.nD Cert.KGridIdeal.τ).loc Cert.KGridIdeal.main_arg1)
      ∧ m' ((c.tc : Thread Cert.RGridIdeal.nD Cert.RGridIdeal.τ).loc Cert.RGridIdeal.main_arg2) = m ((c.tc : Thread Cert.KGridIdeal.nD Cert.KGridIdeal.τ).loc Cert.KGridIdeal.main_arg2)
      ∧ m' ((c.tc : Thread Cert.RGridIdeal.nD Cert.RGridIdeal.τ).loc Cert.RGridIdeal.main_arg3) = m ((c.tc : Thread Cert.KGridIdeal.nD Cert.KGridIdeal.τ).loc Cert.KGridIdeal.main_arg3)) →
    ∃ (v0 : (c : Dev Cert.KGridIdeal.nD) → Buf (Elt Ideal) ((c.tc : Thread Cert.KGridIdeal.nD Cert.KGridIdeal.τ).loc Cert.KGridIdeal.main_v6)),
      θ_run (Cert.KGridIdeal.defs (F := Ideal)) (onTc (τ := Cert.KGridIdeal.τ) (Cert.KGridIdeal.main (F := Ideal))) ⟨m, fun _ => 0, g⟩ (fun r => ∀ c : Dev Cert.KGridIdeal.nD,
          r.2.mem ((c.tc : Thread Cert.KGridIdeal.nD Cert.KGridIdeal.τ).loc Cert.KGridIdeal.main_v6) = v0 c
          ∧ r.2.mem ((c.tc : Thread Cert.KGridIdeal.nD Cert.KGridIdeal.τ).loc Cert.KGridIdeal.main_arg0) = m ((c.tc : Thread Cert.KGridIdeal.nD Cert.KGridIdeal.τ).loc Cert.KGridIdeal.main_arg0)
          ∧ r.2.mem ((c.tc : Thread Cert.KGridIdeal.nD Cert.KGridIdeal.τ).loc Cert.KGridIdeal.main_arg1) = m ((c.tc : Thread Cert.KGridIdeal.nD Cert.KGridIdeal.τ).loc Cert.KGridIdeal.main_arg1)
          ∧ r.2.mem ((c.tc : Thread Cert.KGridIdeal.nD Cert.KGridIdeal.τ).loc Cert.KGridIdeal.main_arg2) = m ((c.tc : Thread Cert.KGridIdeal.nD Cert.KGridIdeal.τ).loc Cert.KGridIdeal.main_arg2)
          ∧ r.2.mem ((c.tc : Thread Cert.KGridIdeal.nD Cert.KGridIdeal.τ).loc Cert.KGridIdeal.main_arg3) = m ((c.tc : Thread Cert.KGridIdeal.nD Cert.KGridIdeal.τ).loc Cert.KGridIdeal.main_arg3))
      ∧ θ_run (Cert.RGridIdeal.defs (F := Ideal)) (onTc (τ := Cert.RGridIdeal.τ) (Cert.RGridIdeal.main (F := Ideal))) ⟨m', fun _ => 0, g'⟩ (fun r => ∀ c : Dev Cert.RGridIdeal.nD,
          r.2.mem ((c.tc : Thread Cert.RGridIdeal.nD Cert.RGridIdeal.τ).loc Cert.RGridIdeal.main_v91) = v0 c
          ∧ r.2.mem ((c.tc : Thread Cert.RGridIdeal.nD Cert.RGridIdeal.τ).loc Cert.RGridIdeal.main_arg0) = m' ((c.tc : Thread Cert.RGridIdeal.nD Cert.RGridIdeal.τ).loc Cert.RGridIdeal.main_arg0)
          ∧ r.2.mem ((c.tc : Thread Cert.RGridIdeal.nD Cert.RGridIdeal.τ).loc Cert.RGridIdeal.main_arg1) = m' ((c.tc : Thread Cert.RGridIdeal.nD Cert.RGridIdeal.τ).loc Cert.RGridIdeal.main_arg1)
          ∧ r.2.mem ((c.tc : Thread Cert.RGridIdeal.nD Cert.RGridIdeal.τ).loc Cert.RGridIdeal.main_arg2) = m' ((c.tc : Thread Cert.RGridIdeal.nD Cert.RGridIdeal.τ).loc Cert.RGridIdeal.main_arg2)
          ∧ r.2.mem ((c.tc : Thread Cert.RGridIdeal.nD Cert.RGridIdeal.τ).loc Cert.RGridIdeal.main_arg3) = m' ((c.tc : Thread Cert.RGridIdeal.nD Cert.RGridIdeal.τ).loc Cert.RGridIdeal.main_arg3))

def preserves_KLast_KLastIdeal : Prop :=
  True

def algebraic_KLastIdeal_RLastIdeal [hKLastIdeal : Cert.KLastIdeal.Facts] [hRLastIdeal : Cert.RLastIdeal.Facts] : Prop :=
  ∀ (m : (ℓ : Loc Cert.KLastIdeal.nD Cert.KLastIdeal.τ Cert.KLastIdeal.sig) → Buf (Elt Ideal) ℓ) (g : Dev Cert.KLastIdeal.nD → PrngReg)
    (m' : (ℓ : Loc Cert.RLastIdeal.nD Cert.RLastIdeal.τ Cert.RLastIdeal.sig) → Buf (Elt Ideal) ℓ) (g' : Dev Cert.RLastIdeal.nD → PrngReg), Pre_KLastIdeal m →
    (∀ c : Dev Cert.KLastIdeal.nD,
      m' ((c.tc : Thread Cert.RLastIdeal.nD Cert.RLastIdeal.τ).loc Cert.RLastIdeal.main_arg0) = m ((c.tc : Thread Cert.KLastIdeal.nD Cert.KLastIdeal.τ).loc Cert.KLastIdeal.main_arg0)
      ∧ m' ((c.tc : Thread Cert.RLastIdeal.nD Cert.RLastIdeal.τ).loc Cert.RLastIdeal.main_arg1) = m ((c.tc : Thread Cert.KLastIdeal.nD Cert.KLastIdeal.τ).loc Cert.KLastIdeal.main_arg1)
      ∧ m' ((c.tc : Thread Cert.RLastIdeal.nD Cert.RLastIdeal.τ).loc Cert.RLastIdeal.main_arg2) = m ((c.tc : Thread Cert.KLastIdeal.nD Cert.KLastIdeal.τ).loc Cert.KLastIdeal.main_arg2)
      ∧ m' ((c.tc : Thread Cert.RLastIdeal.nD Cert.RLastIdeal.τ).loc Cert.RLastIdeal.main_arg3) = m ((c.tc : Thread Cert.KLastIdeal.nD Cert.KLastIdeal.τ).loc Cert.KLastIdeal.main_arg3)
      ∧ m' ((c.tc : Thread Cert.RLastIdeal.nD Cert.RLastIdeal.τ).loc Cert.RLastIdeal.main_arg4) = m ((c.tc : Thread Cert.KLastIdeal.nD Cert.KLastIdeal.τ).loc Cert.KLastIdeal.main_arg4)) →
    ∃ (v0 : (c : Dev Cert.KLastIdeal.nD) → Buf (Elt Ideal) ((c.tc : Thread Cert.KLastIdeal.nD Cert.KLastIdeal.τ).loc Cert.KLastIdeal.main_v3)),
      θ_run (Cert.KLastIdeal.defs (F := Ideal)) (onTc (τ := Cert.KLastIdeal.τ) (Cert.KLastIdeal.main (F := Ideal))) ⟨m, fun _ => 0, g⟩ (fun r => ∀ c : Dev Cert.KLastIdeal.nD,
          r.2.mem ((c.tc : Thread Cert.KLastIdeal.nD Cert.KLastIdeal.τ).loc Cert.KLastIdeal.main_v3) = v0 c
          ∧ r.2.mem ((c.tc : Thread Cert.KLastIdeal.nD Cert.KLastIdeal.τ).loc Cert.KLastIdeal.main_arg0) = m ((c.tc : Thread Cert.KLastIdeal.nD Cert.KLastIdeal.τ).loc Cert.KLastIdeal.main_arg0)
          ∧ r.2.mem ((c.tc : Thread Cert.KLastIdeal.nD Cert.KLastIdeal.τ).loc Cert.KLastIdeal.main_arg1) = m ((c.tc : Thread Cert.KLastIdeal.nD Cert.KLastIdeal.τ).loc Cert.KLastIdeal.main_arg1)
          ∧ r.2.mem ((c.tc : Thread Cert.KLastIdeal.nD Cert.KLastIdeal.τ).loc Cert.KLastIdeal.main_arg2) = m ((c.tc : Thread Cert.KLastIdeal.nD Cert.KLastIdeal.τ).loc Cert.KLastIdeal.main_arg2)
          ∧ r.2.mem ((c.tc : Thread Cert.KLastIdeal.nD Cert.KLastIdeal.τ).loc Cert.KLastIdeal.main_arg3) = m ((c.tc : Thread Cert.KLastIdeal.nD Cert.KLastIdeal.τ).loc Cert.KLastIdeal.main_arg3)
          ∧ r.2.mem ((c.tc : Thread Cert.KLastIdeal.nD Cert.KLastIdeal.τ).loc Cert.KLastIdeal.main_arg4) = m ((c.tc : Thread Cert.KLastIdeal.nD Cert.KLastIdeal.τ).loc Cert.KLastIdeal.main_arg4))
      ∧ θ_run (Cert.RLastIdeal.defs (F := Ideal)) (onTc (τ := Cert.RLastIdeal.τ) (Cert.RLastIdeal.main (F := Ideal))) ⟨m', fun _ => 0, g'⟩ (fun r => ∀ c : Dev Cert.RLastIdeal.nD,
          r.2.mem ((c.tc : Thread Cert.RLastIdeal.nD Cert.RLastIdeal.τ).loc Cert.RLastIdeal.main_v23) = v0 c
          ∧ r.2.mem ((c.tc : Thread Cert.RLastIdeal.nD Cert.RLastIdeal.τ).loc Cert.RLastIdeal.main_arg0) = m' ((c.tc : Thread Cert.RLastIdeal.nD Cert.RLastIdeal.τ).loc Cert.RLastIdeal.main_arg0)
          ∧ r.2.mem ((c.tc : Thread Cert.RLastIdeal.nD Cert.RLastIdeal.τ).loc Cert.RLastIdeal.main_arg1) = m' ((c.tc : Thread Cert.RLastIdeal.nD Cert.RLastIdeal.τ).loc Cert.RLastIdeal.main_arg1)
          ∧ r.2.mem ((c.tc : Thread Cert.RLastIdeal.nD Cert.RLastIdeal.τ).loc Cert.RLastIdeal.main_arg2) = m' ((c.tc : Thread Cert.RLastIdeal.nD Cert.RLastIdeal.τ).loc Cert.RLastIdeal.main_arg2)
          ∧ r.2.mem ((c.tc : Thread Cert.RLastIdeal.nD Cert.RLastIdeal.τ).loc Cert.RLastIdeal.main_arg3) = m' ((c.tc : Thread Cert.RLastIdeal.nD Cert.RLastIdeal.τ).loc Cert.RLastIdeal.main_arg3)
          ∧ r.2.mem ((c.tc : Thread Cert.RLastIdeal.nD Cert.RLastIdeal.τ).loc Cert.RLastIdeal.main_arg4) = m' ((c.tc : Thread Cert.RLastIdeal.nD Cert.RLastIdeal.τ).loc Cert.RLastIdeal.main_arg4))

def preserves_KAda_KAdaIdeal : Prop :=
  True

def algebraic_KAdaIdeal_RAdaIdeal [hKAdaIdeal : Cert.KAdaIdeal.Facts] [hRAdaIdeal : Cert.RAdaIdeal.Facts] : Prop :=
  ∀ (m : (ℓ : Loc Cert.KAdaIdeal.nD Cert.KAdaIdeal.τ Cert.KAdaIdeal.sig) → Buf (Elt Ideal) ℓ) (g : Dev Cert.KAdaIdeal.nD → PrngReg)
    (m' : (ℓ : Loc Cert.RAdaIdeal.nD Cert.RAdaIdeal.τ Cert.RAdaIdeal.sig) → Buf (Elt Ideal) ℓ) (g' : Dev Cert.RAdaIdeal.nD → PrngReg), Pre_KAdaIdeal m →
    (∀ c : Dev Cert.KAdaIdeal.nD,
      m' ((c.tc : Thread Cert.RAdaIdeal.nD Cert.RAdaIdeal.τ).loc Cert.RAdaIdeal.main_arg0) = m ((c.tc : Thread Cert.KAdaIdeal.nD Cert.KAdaIdeal.τ).loc Cert.KAdaIdeal.main_arg0)
      ∧ m' ((c.tc : Thread Cert.RAdaIdeal.nD Cert.RAdaIdeal.τ).loc Cert.RAdaIdeal.main_arg1) = m ((c.tc : Thread Cert.KAdaIdeal.nD Cert.KAdaIdeal.τ).loc Cert.KAdaIdeal.main_arg1)
      ∧ m' ((c.tc : Thread Cert.RAdaIdeal.nD Cert.RAdaIdeal.τ).loc Cert.RAdaIdeal.main_arg2) = m ((c.tc : Thread Cert.KAdaIdeal.nD Cert.KAdaIdeal.τ).loc Cert.KAdaIdeal.main_arg2)) →
    ∃ (v0 : (c : Dev Cert.KAdaIdeal.nD) → Buf (Elt Ideal) ((c.tc : Thread Cert.KAdaIdeal.nD Cert.KAdaIdeal.τ).loc Cert.KAdaIdeal.main_v3)),
      θ_run (Cert.KAdaIdeal.defs (F := Ideal)) (onTc (τ := Cert.KAdaIdeal.τ) (Cert.KAdaIdeal.main (F := Ideal))) ⟨m, fun _ => 0, g⟩ (fun r => ∀ c : Dev Cert.KAdaIdeal.nD,
          r.2.mem ((c.tc : Thread Cert.KAdaIdeal.nD Cert.KAdaIdeal.τ).loc Cert.KAdaIdeal.main_v3) = v0 c
          ∧ r.2.mem ((c.tc : Thread Cert.KAdaIdeal.nD Cert.KAdaIdeal.τ).loc Cert.KAdaIdeal.main_arg0) = m ((c.tc : Thread Cert.KAdaIdeal.nD Cert.KAdaIdeal.τ).loc Cert.KAdaIdeal.main_arg0)
          ∧ r.2.mem ((c.tc : Thread Cert.KAdaIdeal.nD Cert.KAdaIdeal.τ).loc Cert.KAdaIdeal.main_arg1) = m ((c.tc : Thread Cert.KAdaIdeal.nD Cert.KAdaIdeal.τ).loc Cert.KAdaIdeal.main_arg1)
          ∧ r.2.mem ((c.tc : Thread Cert.KAdaIdeal.nD Cert.KAdaIdeal.τ).loc Cert.KAdaIdeal.main_arg2) = m ((c.tc : Thread Cert.KAdaIdeal.nD Cert.KAdaIdeal.τ).loc Cert.KAdaIdeal.main_arg2))
      ∧ θ_run (Cert.RAdaIdeal.defs (F := Ideal)) (onTc (τ := Cert.RAdaIdeal.τ) (Cert.RAdaIdeal.main (F := Ideal))) ⟨m', fun _ => 0, g'⟩ (fun r => ∀ c : Dev Cert.RAdaIdeal.nD,
          r.2.mem ((c.tc : Thread Cert.RAdaIdeal.nD Cert.RAdaIdeal.τ).loc Cert.RAdaIdeal.main_v6) = v0 c
          ∧ r.2.mem ((c.tc : Thread Cert.RAdaIdeal.nD Cert.RAdaIdeal.τ).loc Cert.RAdaIdeal.main_arg0) = m' ((c.tc : Thread Cert.RAdaIdeal.nD Cert.RAdaIdeal.τ).loc Cert.RAdaIdeal.main_arg0)
          ∧ r.2.mem ((c.tc : Thread Cert.RAdaIdeal.nD Cert.RAdaIdeal.τ).loc Cert.RAdaIdeal.main_arg1) = m' ((c.tc : Thread Cert.RAdaIdeal.nD Cert.RAdaIdeal.τ).loc Cert.RAdaIdeal.main_arg1)
          ∧ r.2.mem ((c.tc : Thread Cert.RAdaIdeal.nD Cert.RAdaIdeal.τ).loc Cert.RAdaIdeal.main_arg2) = m' ((c.tc : Thread Cert.RAdaIdeal.nD Cert.RAdaIdeal.τ).loc Cert.RAdaIdeal.main_arg2))

def preserves_KMlp_KMlpIdeal : Prop :=
  True

def algebraic_KMlpIdeal_RMlpIdeal [hKMlpIdeal : Cert.KMlpIdeal.Facts] [hRMlpIdeal : Cert.RMlpIdeal.Facts] : Prop :=
  ∀ (m : (ℓ : Loc Cert.KMlpIdeal.nD Cert.KMlpIdeal.τ Cert.KMlpIdeal.sig) → Buf (Elt Ideal) ℓ) (g : Dev Cert.KMlpIdeal.nD → PrngReg)
    (m' : (ℓ : Loc Cert.RMlpIdeal.nD Cert.RMlpIdeal.τ Cert.RMlpIdeal.sig) → Buf (Elt Ideal) ℓ) (g' : Dev Cert.RMlpIdeal.nD → PrngReg), Pre_KMlpIdeal m →
    (∀ c : Dev Cert.KMlpIdeal.nD,
      m' ((c.tc : Thread Cert.RMlpIdeal.nD Cert.RMlpIdeal.τ).loc Cert.RMlpIdeal.main_arg0) = m ((c.tc : Thread Cert.KMlpIdeal.nD Cert.KMlpIdeal.τ).loc Cert.KMlpIdeal.main_arg0)
      ∧ m' ((c.tc : Thread Cert.RMlpIdeal.nD Cert.RMlpIdeal.τ).loc Cert.RMlpIdeal.main_arg1) = m ((c.tc : Thread Cert.KMlpIdeal.nD Cert.KMlpIdeal.τ).loc Cert.KMlpIdeal.main_arg1)
      ∧ m' ((c.tc : Thread Cert.RMlpIdeal.nD Cert.RMlpIdeal.τ).loc Cert.RMlpIdeal.main_arg2) = m ((c.tc : Thread Cert.KMlpIdeal.nD Cert.KMlpIdeal.τ).loc Cert.KMlpIdeal.main_arg2)
      ∧ m' ((c.tc : Thread Cert.RMlpIdeal.nD Cert.RMlpIdeal.τ).loc Cert.RMlpIdeal.main_arg3) = m ((c.tc : Thread Cert.KMlpIdeal.nD Cert.KMlpIdeal.τ).loc Cert.KMlpIdeal.main_arg3)
      ∧ m' ((c.tc : Thread Cert.RMlpIdeal.nD Cert.RMlpIdeal.τ).loc Cert.RMlpIdeal.main_arg4) = m ((c.tc : Thread Cert.KMlpIdeal.nD Cert.KMlpIdeal.τ).loc Cert.KMlpIdeal.main_arg4)
      ∧ m' ((c.tc : Thread Cert.RMlpIdeal.nD Cert.RMlpIdeal.τ).loc Cert.RMlpIdeal.main_arg5) = m ((c.tc : Thread Cert.KMlpIdeal.nD Cert.KMlpIdeal.τ).loc Cert.KMlpIdeal.main_arg5)
      ∧ m' ((c.tc : Thread Cert.RMlpIdeal.nD Cert.RMlpIdeal.τ).loc Cert.RMlpIdeal.main_arg6) = m ((c.tc : Thread Cert.KMlpIdeal.nD Cert.KMlpIdeal.τ).loc Cert.KMlpIdeal.main_arg6)
      ∧ m' ((c.tc : Thread Cert.RMlpIdeal.nD Cert.RMlpIdeal.τ).loc Cert.RMlpIdeal.main_arg7) = m ((c.tc : Thread Cert.KMlpIdeal.nD Cert.KMlpIdeal.τ).loc Cert.KMlpIdeal.main_arg7)) →
    ∃ (v0 : (c : Dev Cert.KMlpIdeal.nD) → Buf (Elt Ideal) ((c.tc : Thread Cert.KMlpIdeal.nD Cert.KMlpIdeal.τ).loc Cert.KMlpIdeal.main_v14)),
      θ_run (Cert.KMlpIdeal.defs (F := Ideal)) (onTc (τ := Cert.KMlpIdeal.τ) (Cert.KMlpIdeal.main (F := Ideal))) ⟨m, fun _ => 0, g⟩ (fun r => ∀ c : Dev Cert.KMlpIdeal.nD,
          r.2.mem ((c.tc : Thread Cert.KMlpIdeal.nD Cert.KMlpIdeal.τ).loc Cert.KMlpIdeal.main_v14) = v0 c
          ∧ r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
          ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
          ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
          ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
          ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4)
          ∧ r.2.mem ((c.tc : Thread Cert.KMlpIdeal.nD Cert.KMlpIdeal.τ).loc Cert.KMlpIdeal.main_arg5) = m ((c.tc : Thread Cert.KMlpIdeal.nD Cert.KMlpIdeal.τ).loc Cert.KMlpIdeal.main_arg5)
          ∧ r.2.mem ((c.tc : Thread Cert.KMlpIdeal.nD Cert.KMlpIdeal.τ).loc Cert.KMlpIdeal.main_arg6) = m ((c.tc : Thread Cert.KMlpIdeal.nD Cert.KMlpIdeal.τ).loc Cert.KMlpIdeal.main_arg6)
          ∧ r.2.mem ((c.tc : Thread Cert.KMlpIdeal.nD Cert.KMlpIdeal.τ).loc Cert.KMlpIdeal.main_arg7) = m ((c.tc : Thread Cert.KMlpIdeal.nD Cert.KMlpIdeal.τ).loc Cert.KMlpIdeal.main_arg7))
      ∧ θ_run (Cert.RMlpIdeal.defs (F := Ideal)) (onTc (τ := Cert.RMlpIdeal.τ) (Cert.RMlpIdeal.main (F := Ideal))) ⟨m', fun _ => 0, g'⟩ (fun r => ∀ c : Dev Cert.RMlpIdeal.nD,
          r.2.mem ((c.tc : Thread Cert.RMlpIdeal.nD Cert.RMlpIdeal.τ).loc Cert.RMlpIdeal.main_v33) = v0 c
          ∧ r.2.mem ((c.tc : Thread Cert.RMlpIdeal.nD Cert.RMlpIdeal.τ).loc Cert.RMlpIdeal.main_arg0) = m' ((c.tc : Thread Cert.RMlpIdeal.nD Cert.RMlpIdeal.τ).loc Cert.RMlpIdeal.main_arg0)
          ∧ r.2.mem ((c.tc : Thread Cert.RMlpIdeal.nD Cert.RMlpIdeal.τ).loc Cert.RMlpIdeal.main_arg1) = m' ((c.tc : Thread Cert.RMlpIdeal.nD Cert.RMlpIdeal.τ).loc Cert.RMlpIdeal.main_arg1)
          ∧ r.2.mem ((c.tc : Thread Cert.RMlpIdeal.nD Cert.RMlpIdeal.τ).loc Cert.RMlpIdeal.main_arg2) = m' ((c.tc : Thread Cert.RMlpIdeal.nD Cert.RMlpIdeal.τ).loc Cert.RMlpIdeal.main_arg2)
          ∧ r.2.mem ((c.tc : Thread Cert.RMlpIdeal.nD Cert.RMlpIdeal.τ).loc Cert.RMlpIdeal.main_arg3) = m' ((c.tc : Thread Cert.RMlpIdeal.nD Cert.RMlpIdeal.τ).loc Cert.RMlpIdeal.main_arg3)
          ∧ r.2.mem ((c.tc : Thread Cert.RMlpIdeal.nD Cert.RMlpIdeal.τ).loc Cert.RMlpIdeal.main_arg4) = m' ((c.tc : Thread Cert.RMlpIdeal.nD Cert.RMlpIdeal.τ).loc Cert.RMlpIdeal.main_arg4)
          ∧ r.2.mem ((c.tc : Thread Cert.RMlpIdeal.nD Cert.RMlpIdeal.τ).loc Cert.RMlpIdeal.main_arg5) = m' ((c.tc : Thread Cert.RMlpIdeal.nD Cert.RMlpIdeal.τ).loc Cert.RMlpIdeal.main_arg5)
          ∧ r.2.mem ((c.tc : Thread Cert.RMlpIdeal.nD Cert.RMlpIdeal.τ).loc Cert.RMlpIdeal.main_arg6) = m' ((c.tc : Thread Cert.RMlpIdeal.nD Cert.RMlpIdeal.τ).loc Cert.RMlpIdeal.main_arg6)
          ∧ r.2.mem ((c.tc : Thread Cert.RMlpIdeal.nD Cert.RMlpIdeal.τ).loc Cert.RMlpIdeal.main_arg7) = m' ((c.tc : Thread Cert.RMlpIdeal.nD Cert.RMlpIdeal.τ).loc Cert.RMlpIdeal.main_arg7))

def Claim : Prop :=
  ∃ (hKScan : Cert.KScan.Facts) (hKScanIdeal : Cert.KScanIdeal.Facts) (hRScanIdeal : Cert.RScanIdeal.Facts) (hKPowers : Cert.KPowers.Facts) (hKPowersIdeal : Cert.KPowersIdeal.Facts) (hRPowersIdeal : Cert.RPowersIdeal.Facts) (hKUp : Cert.KUp.Facts) (hKUpIdeal : Cert.KUpIdeal.Facts) (hRUpIdeal : Cert.RUpIdeal.Facts) (hKDown : Cert.KDown.Facts) (hKDownIdeal : Cert.KDownIdeal.Facts) (hRDownIdeal : Cert.RDownIdeal.Facts) (hKMerge : Cert.KMerge.Facts) (hKMergeIdeal : Cert.KMergeIdeal.Facts) (hRMergeIdeal : Cert.RMergeIdeal.Facts) (hKIn : Cert.KIn.Facts) (hKInIdeal : Cert.KInIdeal.Facts) (hRInIdeal : Cert.RInIdeal.Facts) (hKJoin : Cert.KJoin.Facts) (hKJoinIdeal : Cert.KJoinIdeal.Facts) (hRJoinIdeal : Cert.RJoinIdeal.Facts) (hKEnter : Cert.KEnter.Facts) (hKEnterIdeal : Cert.KEnterIdeal.Facts) (hREnterIdeal : Cert.REnterIdeal.Facts) (hKGrid : Cert.KGrid.Facts) (hKGridIdeal : Cert.KGridIdeal.Facts) (hRGridIdeal : Cert.RGridIdeal.Facts) (hKLast : Cert.KLast.Facts) (hKLastIdeal : Cert.KLastIdeal.Facts) (hRLastIdeal : Cert.RLastIdeal.Facts) (hKAda : Cert.KAda.Facts) (hKAdaIdeal : Cert.KAdaIdeal.Facts) (hRAdaIdeal : Cert.RAdaIdeal.Facts) (hKMlp : Cert.KMlp.Facts) (hKMlpIdeal : Cert.KMlpIdeal.Facts) (hRMlpIdeal : Cert.RMlpIdeal.Facts),
    quiescent_KScan (hKScan := hKScan)
    ∧ quiescent_KScanIdeal (hKScanIdeal := hKScanIdeal)
    ∧ quiescent_RScanIdeal (hRScanIdeal := hRScanIdeal)
    ∧ quiescent_KPowers (hKPowers := hKPowers)
    ∧ quiescent_KPowersIdeal (hKPowersIdeal := hKPowersIdeal)
    ∧ quiescent_RPowersIdeal (hRPowersIdeal := hRPowersIdeal)
    ∧ quiescent_KUp (hKUp := hKUp)
    ∧ quiescent_KUpIdeal (hKUpIdeal := hKUpIdeal)
    ∧ quiescent_RUpIdeal (hRUpIdeal := hRUpIdeal)
    ∧ quiescent_KDown (hKDown := hKDown)
    ∧ quiescent_KDownIdeal (hKDownIdeal := hKDownIdeal)
    ∧ quiescent_RDownIdeal (hRDownIdeal := hRDownIdeal)
    ∧ quiescent_KMerge (hKMerge := hKMerge)
    ∧ quiescent_KMergeIdeal (hKMergeIdeal := hKMergeIdeal)
    ∧ quiescent_RMergeIdeal (hRMergeIdeal := hRMergeIdeal)
    ∧ quiescent_KIn (hKIn := hKIn)
    ∧ quiescent_KInIdeal (hKInIdeal := hKInIdeal)
    ∧ quiescent_RInIdeal (hRInIdeal := hRInIdeal)
    ∧ quiescent_KJoin (hKJoin := hKJoin)
    ∧ quiescent_KJoinIdeal (hKJoinIdeal := hKJoinIdeal)
    ∧ quiescent_RJoinIdeal (hRJoinIdeal := hRJoinIdeal)
    ∧ quiescent_KEnter (hKEnter := hKEnter)
    ∧ quiescent_KEnterIdeal (hKEnterIdeal := hKEnterIdeal)
    ∧ quiescent_REnterIdeal (hREnterIdeal := hREnterIdeal)
    ∧ quiescent_KGrid (hKGrid := hKGrid)
    ∧ quiescent_KGridIdeal (hKGridIdeal := hKGridIdeal)
    ∧ quiescent_RGridIdeal (hRGridIdeal := hRGridIdeal)
    ∧ quiescent_KLast (hKLast := hKLast)
    ∧ quiescent_KLastIdeal (hKLastIdeal := hKLastIdeal)
    ∧ quiescent_RLastIdeal (hRLastIdeal := hRLastIdeal)
    ∧ quiescent_KAda (hKAda := hKAda)
    ∧ quiescent_KAdaIdeal (hKAdaIdeal := hKAdaIdeal)
    ∧ quiescent_RAdaIdeal (hRAdaIdeal := hRAdaIdeal)
    ∧ quiescent_KMlp (hKMlp := hKMlp)
    ∧ quiescent_KMlpIdeal (hKMlpIdeal := hKMlpIdeal)
    ∧ quiescent_RMlpIdeal (hRMlpIdeal := hRMlpIdeal)
    ∧ preserves_KScan_KScanIdeal
    ∧ algebraic_KScanIdeal_RScanIdeal (hKScanIdeal := hKScanIdeal) (hRScanIdeal := hRScanIdeal)
    ∧ preserves_KPowers_KPowersIdeal
    ∧ algebraic_KPowersIdeal_RPowersIdeal (hKPowersIdeal := hKPowersIdeal) (hRPowersIdeal := hRPowersIdeal)
    ∧ preserves_KUp_KUpIdeal
    ∧ algebraic_KUpIdeal_RUpIdeal (hKUpIdeal := hKUpIdeal) (hRUpIdeal := hRUpIdeal)
    ∧ preserves_KDown_KDownIdeal
    ∧ algebraic_KDownIdeal_RDownIdeal (hKDownIdeal := hKDownIdeal) (hRDownIdeal := hRDownIdeal)
    ∧ preserves_KMerge_KMergeIdeal
    ∧ algebraic_KMergeIdeal_RMergeIdeal (hKMergeIdeal := hKMergeIdeal) (hRMergeIdeal := hRMergeIdeal)
    ∧ preserves_KIn_KInIdeal
    ∧ algebraic_KInIdeal_RInIdeal (hKInIdeal := hKInIdeal) (hRInIdeal := hRInIdeal)
    ∧ preserves_KJoin_KJoinIdeal
    ∧ algebraic_KJoinIdeal_RJoinIdeal (hKJoinIdeal := hKJoinIdeal) (hRJoinIdeal := hRJoinIdeal)
    ∧ preserves_KEnter_KEnterIdeal
    ∧ algebraic_KEnterIdeal_REnterIdeal (hKEnterIdeal := hKEnterIdeal) (hREnterIdeal := hREnterIdeal)
    ∧ preserves_KGrid_KGridIdeal
    ∧ algebraic_KGridIdeal_RGridIdeal (hKGridIdeal := hKGridIdeal) (hRGridIdeal := hRGridIdeal)
    ∧ preserves_KLast_KLastIdeal
    ∧ algebraic_KLastIdeal_RLastIdeal (hKLastIdeal := hKLastIdeal) (hRLastIdeal := hRLastIdeal)
    ∧ preserves_KAda_KAdaIdeal
    ∧ algebraic_KAdaIdeal_RAdaIdeal (hKAdaIdeal := hKAdaIdeal) (hRAdaIdeal := hRAdaIdeal)
    ∧ preserves_KMlp_KMlpIdeal
    ∧ algebraic_KMlpIdeal_RMlpIdeal (hKMlpIdeal := hKMlpIdeal) (hRMlpIdeal := hRMlpIdeal)
-- ==== KScan.lean ====
abbrev S64x512x256 : Shape := ⟨3, ![64, 512, 256]⟩
abbrev S64x256x768 : Shape := ⟨3, ![64, 256, 768]⟩
abbrev S64x256x256 : Shape := ⟨3, ![64, 256, 256]⟩
abbrev S64x1x256 : Shape := ⟨3, ![64, 1, 256]⟩
abbrev S64x32x256 : Shape := ⟨3, ![64, 32, 256]⟩
abbrev S2x512x256 : Shape := ⟨3, ![2, 512, 256]⟩
abbrev S2x256x768 : Shape := ⟨3, ![2, 256, 768]⟩
abbrev S2x256x256 : Shape := ⟨3, ![2, 256, 256]⟩
abbrev S2x1x256 : Shape := ⟨3, ![2, 1, 256]⟩
abbrev S2x32x256 : Shape := ⟨3, ![2, 32, 256]⟩
abbrev S1x512x256 : Shape := ⟨3, ![1, 512, 256]⟩
abbrev S512x256 : Shape := ⟨2, ![512, 256]⟩
abbrev S1x256x768 : Shape := ⟨3, ![1, 256, 768]⟩
abbrev S256x768 : Shape := ⟨2, ![256, 768]⟩
abbrev S512x768 : Shape := ⟨2, ![512, 768]⟩
abbrev S32x128 : Shape := ⟨2, ![32, 128]⟩
abbrev S1x32x256 : Shape := ⟨3, ![1, 32, 256]⟩
abbrev S32x256 : Shape := ⟨2, ![32, 256]⟩
abbrev S1x32x128 : Shape := ⟨3, ![1, 32, 128]⟩
abbrev S1x1x256 : Shape := ⟨3, ![1, 1, 256]⟩
abbrev S1x256 : Shape := ⟨2, ![1, 256]⟩
abbrev S1x128 : Shape := ⟨2, ![1, 128]⟩
abbrev S1x256x256 : Shape := ⟨3, ![1, 256, 256]⟩
abbrev S256x256 : Shape := ⟨2, ![256, 256]⟩

abbrev nBuf : Space → Nat
  | .hbm => 7
  | .vmem => 17
  | .smem => 0
  | _ => 0

abbrev bufTy : (tb : Table) → Fin (tcTables nBuf tb) → BufTy
  | .hbm, ⟨0, _⟩ => ⟨S64x512x256, .bf16⟩
  | .hbm, ⟨1, _⟩ => ⟨S64x256x768, .bf16⟩
  | .hbm, ⟨2, _⟩ => ⟨S64x256x256, .bf16⟩
  | .hbm, ⟨3, _⟩ => ⟨S64x1x256, .f32⟩
  | .hbm, ⟨4, _⟩ => ⟨S64x32x256, .f32⟩
  | .hbm, ⟨5, _⟩ => ⟨S64x512x256, .bf16⟩
  | .hbm, ⟨6, _⟩ => ⟨S64x32x256, .f32⟩
  | .local _ .vmem, ⟨0, _⟩ => ⟨S2x512x256, .bf16⟩
  | .local _ .vmem, ⟨1, _⟩ => ⟨S2x512x256, .bf16⟩
  | .local _ .vmem, ⟨2, _⟩ => ⟨S2x256x768, .bf16⟩
  | .local _ .vmem, ⟨3, _⟩ => ⟨S2x256x768, .bf16⟩
  | .local _ .vmem, ⟨4, _⟩ => ⟨S2x256x256, .bf16⟩
  | .local _ .vmem, ⟨5, _⟩ => ⟨S2x256x256, .bf16⟩
  | .local _ .vmem, ⟨6, _⟩ => ⟨S2x1x256, .f32⟩
  | .local _ .vmem, ⟨7, _⟩ => ⟨S2x1x256, .f32⟩
  | .local _ .vmem, ⟨8, _⟩ => ⟨S2x32x256, .f32⟩
  | .local _ .vmem, ⟨9, _⟩ => ⟨S2x32x256, .f32⟩
  | .local _ .vmem, ⟨10, _⟩ => ⟨S2x512x256, .bf16⟩
  | .local _ .vmem, ⟨11, _⟩ => ⟨S2x512x256, .bf16⟩
  | .local _ .vmem, ⟨12, _⟩ => ⟨S2x32x256, .f32⟩
  | .local _ .vmem, ⟨13, _⟩ => ⟨S2x32x256, .f32⟩
  | .local _ .vmem, ⟨14, _⟩ => ⟨S2x512x256, .f32⟩
  | .local _ .vmem, ⟨15, _⟩ => ⟨S2x512x256, .f32⟩
  | .local _ .vmem, ⟨16, _⟩ => ⟨S2x512x256, .f32⟩
  | _, _ => ⟨S64x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v49 : BitVec 32 := Scalar.addi c0_i32 c16_i32
  let c1_i32 : BitVec 32 := 1#32
  ⟨c0_i32, v49, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v85 : BitVec 32 := Scalar.muli arg11 c32_i32
  v85
def k0_mult2 (k0_t1 : Fin k0_t1_loop.trips) : BitVec 32 :=
  let c15_i32 : BitVec 32 := 15#32
  let c0_i32 : BitVec 32 := 0#32
  let c1_i32 : BitVec 32 := 1#32
  let arg11 : BitVec 32 := Scf.iv c0_i32 c1_i32 k0_t1
  let v87 : BitVec 32 := Scalar.subi c15_i32 arg11
  let c32_i32_72 : BitVec 32 := 32#32
  let v88 : BitVec 32 := Scalar.muli v87 c32_i32_72
  v88
def k0_off1 (k0_t1 : Fin k0_t1_loop.trips) : Fin 3 → Nat :=
  let c0_73 : Index := 0#32
  let c0_i32 : BitVec 32 := 0#32
  let c1_i32 : BitVec 32 := 1#32
  let arg11 : BitVec 32 := Scf.iv c0_i32 c1_i32 k0_t1
  let c32_i32 : BitVec 32 := 32#32
  let v85 : BitVec 32 := Scalar.muli arg11 c32_i32
  let v86 : BitVec 32 := v85
  let v90 : Index := Scalar.indexCast v86
  let c0_74 : Index := 0#32
  ![0, v90.toNat, 0]
def k0_off2 (k0_t1 : Fin k0_t1_loop.trips) : Fin 3 → Nat :=
  let c0_77 : Index := 0#32
  let c15_i32 : BitVec 32 := 15#32
  let c0_i32 : BitVec 32 := 0#32
  let c1_i32 : BitVec 32 := 1#32
  let arg11 : BitVec 32 := Scf.iv c0_i32 c1_i32 k0_t1
  let v87 : BitVec 32 := Scalar.subi c15_i32 arg11
  let c32_i32_72 : BitVec 32 := 32#32
  let v88 : BitVec 32 := Scalar.muli v87 c32_i32_72
  let v89 : BitVec 32 := v88
  let v98 : Index := Scalar.indexCast v89
  let c0_78 : Index := 0#32
  ![0, v98.toNat, 0]
def k0_off3 (k0_t1 : Fin k0_t1_loop.trips) : Fin 3 → Nat :=
  let c0_81 : Index := 0#32
  let c0_i32 : BitVec 32 := 0#32
  let c1_i32 : BitVec 32 := 1#32
  let arg11 : BitVec 32 := Scf.iv c0_i32 c1_i32 k0_t1
  let c32_i32 : BitVec 32 := 32#32
  let v85 : BitVec 32 := Scalar.muli arg11 c32_i32
  let v86 : BitVec 32 := v85
  let v106 : Index := Scalar.indexCast v86
  let c128 : Index := 128#32
  ![0, v106.toNat, 128]
def k0_off4 (k0_t1 : Fin k0_t1_loop.trips) : Fin 3 → Nat :=
  let c0_84 : Index := 0#32
  let c15_i32 : BitVec 32 := 15#32
  let c0_i32 : BitVec 32 := 0#32
  let c1_i32 : BitVec 32 := 1#32
  let arg11 : BitVec 32 := Scf.iv c0_i32 c1_i32 k0_t1
  let v87 : BitVec 32 := Scalar.subi c15_i32 arg11
  let c32_i32_72 : BitVec 32 := 32#32
  let v88 : BitVec 32 := Scalar.muli v87 c32_i32_72
  let v89 : BitVec 32 := v88
  let v114 : Index := Scalar.indexCast v89
  let c128_85 : Index := 128#32
  ![0, v114.toNat, 128]
def k0_off5 (k0_t1 : Fin k0_t1_loop.trips) : Fin 3 → Nat :=
  let c1_99 : Index := 1#32
  let c0_i32 : BitVec 32 := 0#32
  let c1_i32 : BitVec 32 := 1#32
  let arg11 : BitVec 32 := Scf.iv c0_i32 c1_i32 k0_t1
  let c32_i32 : BitVec 32 := 32#32
  let v85 : BitVec 32 := Scalar.muli arg11 c32_i32
  let v86 : BitVec 32 := v85
  let v152 : Index := Scalar.indexCast v86
  let c0_100 : Index := 0#32
  ![1, v152.toNat, 0]
def k0_off6 (k0_t1 : Fin k0_t1_loop.trips) : Fin 3 → Nat :=
  let c1_103 : Index := 1#32
  let c15_i32 : BitVec 32 := 15#32
  let c0_i32 : BitVec 32 := 0#32
  let c1_i32 : BitVec 32 := 1#32
  let arg11 : BitVec 32 := Scf.iv c0_i32 c1_i32 k0_t1
  let v87 : BitVec 32 := Scalar.subi c15_i32 arg11
  let c32_i32_72 : BitVec 32 := 32#32
  let v88 : BitVec 32 := Scalar.muli v87 c32_i32_72
  let v89 : BitVec 32 := v88
  let v160 : Index := Scalar.indexCast v89
  let c0_104 : Index := 0#32
  ![1, v160.toNat, 0]
def k0_off7 (k0_t1 : Fin k0_t1_loop.trips) : Fin 3 → Nat :=
  let c1_107 : Index := 1#32
  let c0_i32 : BitVec 32 := 0#32
  let c1_i32 : BitVec 32 := 1#32
  let arg11 : BitVec 32 := Scf.iv c0_i32 c1_i32 k0_t1
  let c32_i32 : BitVec 32 := 32#32
  let v85 : BitVec 32 := Scalar.muli arg11 c32_i32
  let v86 : BitVec 32 := v85
  let v168 : Index := Scalar.indexCast v86
  let c128_108 : Index := 128#32
  ![1, v168.toNat, 128]
def k0_off8 (k0_t1 : Fin k0_t1_loop.trips) : Fin 3 → Nat :=
  let c1_111 : Index := 1#32
  let c15_i32 : BitVec 32 := 15#32
  let c0_i32 : BitVec 32 := 0#32
  let c1_i32 : BitVec 32 := 1#32
  let arg11 : BitVec 32 := Scf.iv c0_i32 c1_i32 k0_t1
  let v87 : BitVec 32 := Scalar.subi c15_i32 arg11
  let c32_i32_72 : BitVec 32 := 32#32
  let v88 : BitVec 32 := Scalar.muli v87 c32_i32_72
  let v89 : BitVec 32 := v88
  let v176 : Index := Scalar.indexCast v89
  let c128_112 : Index := 128#32
  ![1, v176.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RScanIdeal.lean ====
abbrev S64x512x256 : Shape := ⟨3, ![64, 512, 256]⟩
abbrev S64x256x768 : Shape := ⟨3, ![64, 256, 768]⟩
abbrev S64x256x256 : Shape := ⟨3, ![64, 256, 256]⟩
abbrev S64x1x256 : Shape := ⟨3, ![64, 1, 256]⟩
abbrev S64x32x256 : Shape := ⟨3, ![64, 32, 256]⟩
abbrev S64x16x32x256 : Shape := ⟨4, ![64, 16, 32, 256]⟩
abbrev S16x64x32x256 : Shape := ⟨4, ![16, 64, 32, 256]⟩
abbrev S16x64x32x64 : Shape := ⟨4, ![16, 64, 32, 64]⟩
abbrev S16x1x64x32x64 : Shape := ⟨5, ![16, 1, 64, 32, 64]⟩
abbrev S16x2x64x32x64 : Shape := ⟨5, ![16, 2, 64, 32, 64]⟩
abbrev S64x1x64 : Shape := ⟨3, ![64, 1, 64]⟩
abbrev S1x64x1x64 : Shape := ⟨4, ![1, 64, 1, 64]⟩
abbrev S2x64x1x64 : Shape := ⟨4, ![2, 64, 1, 64]⟩
abbrev S64x32x64 : Shape := ⟨3, ![64, 32, 64]⟩
abbrev S1x64x32x64 : Shape := ⟨4, ![1, 64, 32, 64]⟩
abbrev S2x64x32x64 : Shape := ⟨4, ![2, 64, 32, 64]⟩
abbrev S_ : Shape := ⟨0, ![]⟩
abbrev S1x2x64x32x64 : Shape := ⟨5, ![1, 2, 64, 32, 64]⟩

abbrev nBuf : Space → Nat
  | .hbm => 132
  | .vmem => 0
  | .smem => 0
  | _ => 0

abbrev hbmTy0_0 (i : Nat) : BufTy := match i % 128 with
  | 0 => ⟨S64x512x256, .bf16⟩
  | 1 => ⟨S64x256x768, .bf16⟩
  | 2 => ⟨S64x256x256, .bf16⟩
  | 3 => ⟨S64x1x256, .f32⟩
  | 4 => ⟨S64x32x256, .f32⟩
  | 5 => ⟨S64x256x256, .bf16⟩
  | 6 => ⟨S64x512x256, .f32⟩
  | 7 => ⟨S64x256x256, .f32⟩
  | 8 => ⟨S64x512x256, .f32⟩
  | 9 => ⟨S64x16x32x256, .f32⟩
  | 10 => ⟨S16x64x32x256, .f32⟩
  | 11 => ⟨S16x64x32x64, .f32⟩
  | 12 => ⟨S16x64x32x64, .f32⟩
  | 13 => ⟨S16x64x32x64, .f32⟩
  | 14 => ⟨S16x1x64x32x64, .f32⟩
  | 15 => ⟨S16x1x64x32x64, .f32⟩
  | 16 => ⟨S16x2x64x32x64, .f32⟩
  | 17 => ⟨S16x64x32x64, .f32⟩
  | 18 => ⟨S16x64x32x64, .f32⟩
  | 19 => ⟨S16x64x32x64, .f32⟩
  | 20 => ⟨S16x1x64x32x64, .f32⟩
  | 21 => ⟨S16x1x64x32x64, .f32⟩
  | 22 => ⟨S16x2x64x32x64, .f32⟩
  | 23 => ⟨S64x1x64, .f32⟩
  | 24 => ⟨S64x1x64, .f32⟩
  | 25 => ⟨S1x64x1x64, .f32⟩
  | 26 => ⟨S1x64x1x64, .f32⟩
  | 27 => ⟨S2x64x1x64, .f32⟩
  | 28 => ⟨S64x1x64, .f32⟩
  | 29 => ⟨S64x1x64, .f32⟩
  | 30 => ⟨S1x64x1x64, .f32⟩
  | 31 => ⟨S1x64x1x64, .f32⟩
  | 32 => ⟨S2x64x1x64, .f32⟩
  | 33 => ⟨S64x32x64, .f32⟩
  | 34 => ⟨S64x32x64, .f32⟩
  | 35 => ⟨S1x64x32x64, .f32⟩
  | 36 => ⟨S1x64x32x64, .f32⟩
  | 37 => ⟨S2x64x32x64, .f32⟩
  | 38 => ⟨S64x32x64, .f32⟩
  | 39 => ⟨S64x32x64, .f32⟩
  | 40 => ⟨S1x64x32x64, .f32⟩
  | 41 => ⟨S1x64x32x64, .f32⟩
  | 42 => ⟨S2x64x32x64, .f32⟩
  | 43 => ⟨S_, .f32⟩
  | 44 => ⟨S16x2x64x32x64, .f32⟩
  | 45 => ⟨S_, .f32⟩
  | 46 => ⟨S16x2x64x32x64, .f32⟩
  | 47 => ⟨S_, .i32⟩
  | 48 => ⟨S16x2x64x32x64, .f32⟩
  | 49 => ⟨S16x2x64x32x64, .f32⟩
  | 50 => ⟨S2x64x1x64, .f32⟩
  | 51 => ⟨S2x64x1x64, .f32⟩
  | 52 => ⟨S_, .i32⟩
  | 53 => ⟨S2x64x32x64, .f32⟩
  | 54 => ⟨S2x64x32x64, .f32⟩
  | 55 => ⟨S16x2x64x32x64, .f32⟩
  | 56 => ⟨S16x2x64x32x64, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S1x2x64x32x64, .f32⟩
  | 64 => ⟨S2x64x32x64, .f32⟩
  | 65 => ⟨S_, .i32⟩
  | 66 => ⟨S_, .i32⟩
  | 67 => ⟨S_, .i32⟩
  | 68 => ⟨S_, .i32⟩
  | 69 => ⟨S1x2x64x32x64, .f32⟩
  | 70 => ⟨S2x64x32x64, .f32⟩
  | 71 => ⟨S2x64x32x64, .f32⟩
  | 72 => ⟨S2x64x32x64, .f32⟩
  | 73 => ⟨S2x64x32x64, .f32⟩
  | 74 => ⟨S2x64x32x64, .f32⟩
  | 75 => ⟨S2x64x32x64, .f32⟩
  | 76 => ⟨S2x64x32x64, .f32⟩
  | 77 => ⟨S2x64x32x64, .f32⟩
  | 78 => ⟨S2x64x32x64, .f32⟩
  | 79 => ⟨S2x64x32x64, .f32⟩
  | 80 => ⟨S2x64x32x64, .f32⟩
  | 81 => ⟨S2x64x32x64, .f32⟩
  | 82 => ⟨S2x64x32x64, .f32⟩
  | 83 => ⟨S1x2x64x32x64, .f32⟩
  | 84 => ⟨S_, .i32⟩
  | 85 => ⟨S_, .i32⟩
  | 86 => ⟨S_, .i32⟩
  | 87 => ⟨S_, .i32⟩
  | 88 => ⟨S16x2x64x32x64, .f32⟩
  | 89 => ⟨S1x2x64x32x64, .f32⟩
  | 90 => ⟨S_, .i32⟩
  | 91 => ⟨S_, .i32⟩
  | 92 => ⟨S_, .i32⟩
  | 93 => ⟨S_, .i32⟩
  | 94 => ⟨S16x2x64x32x64, .f32⟩
  | 95 => ⟨S_, .i32⟩
  | 96 => ⟨S_, .i32⟩
  | 97 => ⟨S16x1x64x32x64, .f32⟩
  | 98 => ⟨S16x64x32x64, .f32⟩
  | 99 => ⟨S16x1x64x32x64, .f32⟩
  | 100 => ⟨S16x1x64x32x64, .f32⟩
  | 101 => ⟨S16x64x32x64, .f32⟩
  | 102 => ⟨S16x1x64x32x64, .f32⟩
  | 103 => ⟨S16x64x32x64, .f32⟩
  | 104 => ⟨S16x1x64x32x64, .f32⟩
  | 105 => ⟨S16x1x64x32x64, .f32⟩
  | 106 => ⟨S16x64x32x64, .f32⟩
  | 107 => ⟨S16x64x32x256, .f32⟩
  | 108 => ⟨S64x16x32x256, .f32⟩
  | 109 => ⟨S64x512x256, .f32⟩
  | 110 => ⟨S1x64x32x64, .f32⟩
  | 111 => ⟨S64x32x64, .f32⟩
  | 112 => ⟨S1x64x32x64, .f32⟩
  | 113 => ⟨S64x32x64, .f32⟩
  | 114 => ⟨S1x64x32x64, .f32⟩
  | 115 => ⟨S64x32x64, .f32⟩
  | 116 => ⟨S1x64x32x64, .f32⟩
  | 117 => ⟨S64x32x64, .f32⟩
  | 118 => ⟨S64x32x256, .f32⟩
  | 119 => ⟨S64x256x256, .bf16⟩
  | 120 => ⟨S64x512x256, .f32⟩
  | 121 => ⟨S64x256x256, .f32⟩
  | 122 => ⟨S64x512x256, .f32⟩
  | 123 => ⟨S64x256x256, .bf16⟩
  | 124 => ⟨S64x512x256, .f32⟩
  | 125 => ⟨S64x256x256, .f32⟩
  | 126 => ⟨S64x512x256, .f32⟩
  | 127 => ⟨S64x512x256, .f32⟩
  | _ => ⟨S64x512x256, .bf16⟩

abbrev hbmTy0_1 (i : Nat) : BufTy := match i % 128 with
  | 0 => ⟨S64x256x256, .f32⟩
  | 1 => ⟨S64x512x256, .f32⟩
  | 2 => ⟨S64x512x256, .f32⟩
  | 3 => ⟨S64x512x256, .bf16⟩
  | _ => ⟨S64x512x256, .bf16⟩

abbrev hbmTy (i : Nat) : BufTy := match i / 128 with
  | 0 => hbmTy0_0 i
  | 1 => hbmTy0_1 i
  | _ => ⟨S64x512x256, .bf16⟩

abbrev bufTy : (tb : Table) → Fin (tcTables nBuf tb) → BufTy
  | .hbm, ⟨i, _⟩ => hbmTy i
  | _, _ => ⟨S64x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst : Ref sig .tc := ⟨.hbm, 43, rfl⟩
abbrev main_v38 : Ref sig .tc := ⟨.hbm, 44, rfl⟩
abbrev main_cst_0 : Ref sig .tc := ⟨.hbm, 45, rfl⟩
abbrev main_v39 : Ref sig .tc := ⟨.hbm, 46, rfl⟩
abbrev main_c : Ref sig .tc := ⟨.hbm, 47, rfl⟩
abbrev main_v40_0 : Ref sig .tc := ⟨.hbm, 48, rfl⟩
abbrev main_v40_1 : Ref sig .tc := ⟨.hbm, 49, rfl⟩
abbrev main_v40_2 : Ref sig .tc := ⟨.hbm, 50, rfl⟩
abbrev main_v40_3 : Ref sig .tc := ⟨.hbm, 51, rfl⟩
abbrev main_v40_4 : Ref sig .tc := ⟨.hbm, 52, rfl⟩
abbrev main_v40_5 : Ref sig .tc := ⟨.hbm, 53, rfl⟩
abbrev main_v40_6 : Ref sig .tc := ⟨.hbm, 54, rfl⟩
abbrev main_v40_7 : Ref sig .tc := ⟨.hbm, 55, rfl⟩
abbrev main_v40_8 : Ref sig .tc := ⟨.hbm, 56, rfl⟩
abbrev main_while0c_c_9 : Ref sig .tc := ⟨.hbm, 57, rfl⟩
abbrev main_while0c_v76 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_c_2 : Ref sig .tc := ⟨.hbm, 62, rfl⟩
abbrev main_while0b_call0_v0 : Ref sig .tc := ⟨.hbm, 63, rfl⟩
abbrev main_while0b_v76 : Ref sig .tc := ⟨.hbm, 64, rfl⟩
abbrev main_while0b_call1_c : Ref sig .tc := ⟨.hbm, 65, rfl⟩
abbrev main_while0b_call1_c_0 : Ref sig .tc := ⟨.hbm, 66, rfl⟩
abbrev main_while0b_call1_c_1 : Ref sig .tc := ⟨.hbm, 67, rfl⟩
abbrev main_while0b_call1_c_2 : Ref sig .tc := ⟨.hbm, 68, rfl⟩
abbrev main_while0b_call1_v0 : Ref sig .tc := ⟨.hbm, 69, rfl⟩
abbrev main_while0b_v77 : Ref sig .tc := ⟨.hbm, 70, rfl⟩
abbrev main_while0b_v78 : Ref sig .tc := ⟨.hbm, 71, rfl⟩
abbrev main_while0b_v79 : Ref sig .tc := ⟨.hbm, 72, rfl⟩
abbrev main_while0b_v80 : Ref sig .tc := ⟨.hbm, 73, rfl⟩
abbrev main_while0b_v81 : Ref sig .tc := ⟨.hbm, 74, rfl⟩
abbrev main_while0b_v82 : Ref sig .tc := ⟨.hbm, 75, rfl⟩
abbrev main_while0b_v83 : Ref sig .tc := ⟨.hbm, 76, rfl⟩
abbrev main_while0b_v84 : Ref sig .tc := ⟨.hbm, 77, rfl⟩
abbrev main_while0b_v85 : Ref sig .tc := ⟨.hbm, 78, rfl⟩
abbrev main_while0b_v86 : Ref sig .tc := ⟨.hbm, 79, rfl⟩
abbrev main_while0b_v87 : Ref sig .tc := ⟨.hbm, 80, rfl⟩
abbrev main_while0b_v88 : Ref sig .tc := ⟨.hbm, 81, rfl⟩
abbrev main_while0b_v89 : Ref sig .tc := ⟨.hbm, 82, rfl⟩
abbrev main_while0b_call2_v0 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_c_1 : Ref sig .tc := ⟨.hbm, 86, rfl⟩
abbrev main_while0b_call2_c_2 : Ref sig .tc := ⟨.hbm, 87, rfl⟩
abbrev main_while0b_v90 : Ref sig .tc := ⟨.hbm, 88, rfl⟩
abbrev main_while0b_call3_v0 : Ref sig .tc := ⟨.hbm, 89, rfl⟩
abbrev main_while0b_call3_c : Ref sig .tc := ⟨.hbm, 90, rfl⟩
abbrev main_while0b_call3_c_0 : Ref sig .tc := ⟨.hbm, 91, rfl⟩
abbrev main_while0b_call3_c_1 : Ref sig .tc := ⟨.hbm, 92, rfl⟩
abbrev main_while0b_call3_c_2 : Ref sig .tc := ⟨.hbm, 93, rfl⟩
abbrev main_while0b_v91 : Ref sig .tc := ⟨.hbm, 94, rfl⟩
abbrev main_while0b_c_9 : Ref sig .tc := ⟨.hbm, 95, rfl⟩
abbrev main_while0b_v92 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩

abbrev nD : Nat := 1
abbrev τ : Topo := Topo.v7x

variable {F : FTy → Type} [FloatOps F]

abbrev main_while0_count : Scf.Loop 32 := ⟨0#32, 16#32, 1#32⟩
-- ==== KPowers.lean ====
abbrev S1x2x64x64 : Shape := ⟨4, ![1, 2, 64, 64]⟩
abbrev S1x2x64 : Shape := ⟨3, ![1, 2, 64]⟩
abbrev S1x2x64x64x16 : Shape := ⟨5, ![1, 2, 64, 64, 16]⟩
abbrev S1x2x64x16x64 : Shape := ⟨5, ![1, 2, 64, 16, 64]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x64x1x1 : Shape := ⟨4, ![2, 64, 1, 1]⟩
abbrev S2x64x1x64 : Shape := ⟨4, ![2, 64, 1, 64]⟩
abbrev S2x64x256x16 : Shape := ⟨4, ![2, 64, 256, 16]⟩
abbrev S2x64x16x16x64 : Shape := ⟨5, ![2, 64, 16, 16, 64]⟩
abbrev S1x1x1x64 : Shape := ⟨4, ![1, 1, 1, 64]⟩
abbrev S1x1x16x64 : Shape := ⟨4, ![1, 1, 16, 64]⟩
abbrev S1x1x256x16 : Shape := ⟨4, ![1, 1, 256, 16]⟩
abbrev S1x1x16x16x64 : Shape := ⟨5, ![1, 1, 16, 16, 64]⟩
abbrev S1x64 : Shape := ⟨2, ![1, 64]⟩
abbrev S1x1 : Shape := ⟨2, ![1, 1]⟩
abbrev S16x64 : Shape := ⟨2, ![16, 64]⟩
abbrev S16x1x1 : Shape := ⟨3, ![16, 1, 1]⟩
abbrev S1x1x64 : Shape := ⟨3, ![1, 1, 64]⟩
abbrev S16x1x64 : Shape := ⟨3, ![16, 1, 64]⟩
abbrev S1x16x64 : Shape := ⟨3, ![1, 16, 64]⟩
abbrev S16x16x64 : Shape := ⟨3, ![16, 16, 64]⟩
abbrev S256x64 : Shape := ⟨2, ![256, 64]⟩
abbrev S256x16 : Shape := ⟨2, ![256, 16]⟩

abbrev nBuf : Space → Nat
  | .hbm => 27
  | .vmem => 28
  | .smem => 0
  | _ => 0

abbrev bufTy : (tb : Table) → Fin (tcTables nBuf tb) → BufTy
  | .hbm, ⟨0, _⟩ => ⟨S1x2x64x64, .f32⟩
  | .hbm, ⟨1, _⟩ => ⟨S1x2x64x64, .f32⟩
  | .hbm, ⟨2, _⟩ => ⟨S1x2x64, .f32⟩
  | .hbm, ⟨3, _⟩ => ⟨S1x2x64x64x16, .f32⟩
  | .hbm, ⟨4, _⟩ => ⟨S1x2x64x64x16, .f32⟩
  | .hbm, ⟨5, _⟩ => ⟨S1x2x64x16x64, .f32⟩
  | .hbm, ⟨6, _⟩ => ⟨S1x2x64x16x64, .f32⟩
  | .hbm, ⟨7, _⟩ => ⟨S2x64x64, .f32⟩
  | .hbm, ⟨8, _⟩ => ⟨S2x64x64, .f32⟩
  | .hbm, ⟨9, _⟩ => ⟨S2x64, .f32⟩
  | .hbm, ⟨10, _⟩ => ⟨S2x64x64x16, .f32⟩
  | .hbm, ⟨11, _⟩ => ⟨S2x64x64x16, .f32⟩
  | .hbm, ⟨12, _⟩ => ⟨S2x64x16x64, .f32⟩
  | .hbm, ⟨13, _⟩ => ⟨S2x64x16x64, .f32⟩
  | .hbm, ⟨14, _⟩ => ⟨S2x64x1x1, .f32⟩
  | .hbm, ⟨15, _⟩ => ⟨S2x64x1x64, .f32⟩
  | .hbm, ⟨16, _⟩ => ⟨S2x64x1x64, .f32⟩
  | .hbm, ⟨17, _⟩ => ⟨S2x64x1x64, .f32⟩
  | .hbm, ⟨18, _⟩ => ⟨S2x64x16x64, .f32⟩
  | .hbm, ⟨19, _⟩ => ⟨S2x64x16x64, .f32⟩
  | .hbm, ⟨20, _⟩ => ⟨S2x64x256x16, .f32⟩
  | .hbm, ⟨21, _⟩ => ⟨S2x64x16x16x64, .f32⟩
  | .hbm, ⟨22, _⟩ => ⟨S2x64x16x16x64, .f32⟩
  | .hbm, ⟨23, _⟩ => ⟨S2x64x16x16x64, .f32⟩
  | .hbm, ⟨24, _⟩ => ⟨S2x64x16x16x64, .f32⟩
  | .hbm, ⟨25, _⟩ => ⟨S2x64x1x64, .f32⟩
  | .hbm, ⟨26, _⟩ => ⟨S2x64x1x64, .f32⟩
  | .local _ .vmem, ⟨0, _⟩ => ⟨S1x1x1x64, .f32⟩
  | .local _ .vmem, ⟨1, _⟩ => ⟨S1x1x1x64, .f32⟩
  | .local _ .vmem, ⟨2, _⟩ => ⟨S1x1x1x64, .f32⟩
  | .local _ .vmem, ⟨3, _⟩ => ⟨S1x1x1x64, .f32⟩
  | .local _ .vmem, ⟨4, _⟩ => ⟨S1x1x1x64, .f32⟩
  | .local _ .vmem, ⟨5, _⟩ => ⟨S1x1x1x64, .f32⟩
  | .local _ .vmem, ⟨6, _⟩ => ⟨S1x1x16x64, .f32⟩
  | .local _ .vmem, ⟨7, _⟩ => ⟨S1x1x16x64, .f32⟩
  | .local _ .vmem, ⟨8, _⟩ => ⟨S1x1x16x64, .f32⟩
  | .local _ .vmem, ⟨9, _⟩ => ⟨S1x1x16x64, .f32⟩
  | .local _ .vmem, ⟨10, _⟩ => ⟨S1x1x16x64, .f32⟩
  | .local _ .vmem, ⟨11, _⟩ => ⟨S1x1x16x64, .f32⟩
  | .local _ .vmem, ⟨12, _⟩ => ⟨S1x1x16x64, .f32⟩
  | .local _ .vmem, ⟨13, _⟩ => ⟨S1x1x16x64, .f32⟩
  | .local _ .vmem, ⟨14, _⟩ => ⟨S1x1x256x16, .f32⟩
  | .local _ .vmem, ⟨15, _⟩ => ⟨S1x1x256x16, .f32⟩
  | .local _ .vmem, ⟨16, _⟩ => ⟨S1x1x16x16x64, .f32⟩
  | .local _ .vmem, ⟨17, _⟩ => ⟨S1x1x16x16x64, .f32⟩
  | .local _ .vmem, ⟨18, _⟩ => ⟨S1x1x16x16x64, .f32⟩
  | .local _ .vmem, ⟨19, _⟩ => ⟨S1x1x16x16x64, .f32⟩
  | .local _ .vmem, ⟨20, _⟩ => ⟨S1x1x16x16x64, .f32⟩
  | .local _ .vmem, ⟨21, _⟩ => ⟨S1x1x16x16x64, .f32⟩
  | .local _ .vmem, ⟨22, _⟩ => ⟨S1x1x16x16x64, .f32⟩
  | .local _ .vmem, ⟨23, _⟩ => ⟨S1x1x16x16x64, .f32⟩
  | .local _ .vmem, ⟨24, _⟩ => ⟨S1x1x1x64, .f32⟩
  | .local _ .vmem, ⟨25, _⟩ => ⟨S1x1x1x64, .f32⟩
  | .local _ .vmem, ⟨26, _⟩ => ⟨S1x1x1x64, .f32⟩
  | .local _ .vmem, ⟨27, _⟩ => ⟨S1x1x1x64, .f32⟩
  | _, _ => ⟨S1x2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev main_v13_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x16x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x16x16x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RPowersIdeal.lean ====
abbrev S1x2x64x64 : Shape := ⟨4, ![1, 2, 64, 64]⟩
abbrev S1x2x64 : Shape := ⟨3, ![1, 2, 64]⟩
abbrev S1x2x64x64x16 : Shape := ⟨5, ![1, 2, 64, 64, 16]⟩
abbrev S1x2x64x16x64 : Shape := ⟨5, ![1, 2, 64, 16, 64]⟩
abbrev S2x64x64 : Shape := ⟨3, ![2, 64, 64]⟩
abbrev S_ : Shape := ⟨0, ![]⟩
abbrev S2x64 : Shape := ⟨2, ![2, 64]⟩
abbrev S2x64x1 : Shape := ⟨3, ![2, 64, 1]⟩
abbrev S2x64x64x1 : Shape := ⟨4, ![2, 64, 64, 1]⟩
abbrev S2x64x64x16 : Shape := ⟨4, ![2, 64, 64, 16]⟩
abbrev S2x64x16x64 : Shape := ⟨4, ![2, 64, 16, 64]⟩
abbrev S2x64x1x16x64 : Shape := ⟨5, ![2, 64, 1, 16, 64]⟩
abbrev S16 : Shape := ⟨1, ![16]⟩
abbrev S16x1 : Shape := ⟨2, ![16, 1]⟩
abbrev S2x64x1x64 : Shape := ⟨4, ![2, 64, 1, 64]⟩
abbrev S1x1x16x1 : Shape := ⟨4, ![1, 1, 16, 1]⟩
abbrev S2x64x16x1x64 : Shape := ⟨5, ![2, 64, 16, 1, 64]⟩
abbrev S2x64x16x16x64 : Shape := ⟨5, ![2, 64, 16, 16, 64]⟩
abbrev S2x64x16x16x16 : Shape := ⟨5, ![2, 64, 16, 16, 16]⟩
abbrev S2x64x256x16 : Shape := ⟨4, ![2, 64, 256, 16]⟩
abbrev S1x16 : Shape := ⟨2, ![1, 16]⟩
abbrev S2x16 : Shape := ⟨2, ![2, 16]⟩
abbrev S2x1x16x1 : Shape := ⟨4, ![2, 1, 16, 1]⟩
abbrev S1x1 : Shape := ⟨2, ![1, 1]⟩
abbrev S1x1x1x1 : Shape := ⟨4, ![1, 1, 1, 1]⟩

abbrev nBuf : Space → Nat
  | .hbm => 191
  | .vmem => 0
  | .smem => 0
  | _ => 0

abbrev hbmTy0_0 (i : Nat) : BufTy := match i % 128 with
  | 0 => ⟨S1x2x64x64, .f32⟩
  | 1 => ⟨S1x2x64x64, .f32⟩
  | 2 => ⟨S1x2x64, .f32⟩
  | 3 => ⟨S1x2x64x64x16, .f32⟩
  | 4 => ⟨S1x2x64x64x16, .f32⟩
  | 5 => ⟨S1x2x64x16x64, .f32⟩
  | 6 => ⟨S1x2x64x16x64, .f32⟩
  | 7 => ⟨S2x64x64, .f32⟩
  | 8 => ⟨S_, .f32⟩
  | 9 => ⟨S2x64x64, .f32⟩
  | 10 => ⟨S2x64x64, .f32⟩
  | 11 => ⟨S2x64x64, .f32⟩
  | 12 => ⟨S2x64, .f32⟩
  | 13 => ⟨S2x64, .f32⟩
  | 14 => ⟨S2x64x1, .f32⟩
  | 15 => ⟨S2x64x64, .f32⟩
  | 16 => ⟨S2x64x64, .f32⟩
  | 17 => ⟨S2x64x64, .f32⟩
  | 18 => ⟨S2x64x64, .f32⟩
  | 19 => ⟨S2x64x64, .f32⟩
  | 20 => ⟨S2x64x64, .f32⟩
  | 21 => ⟨S2x64x64, .f32⟩
  | 22 => ⟨S_, .f32⟩
  | 23 => ⟨S2x64x64, .f32⟩
  | 24 => ⟨S2x64x64, .f32⟩
  | 25 => ⟨S2x64x64, .f32⟩
  | 26 => ⟨S2x64x64, .f32⟩
  | 27 => ⟨S2x64x64, .f32⟩
  | 28 => ⟨S2x64x64, .f32⟩
  | 29 => ⟨S2x64x64, .f32⟩
  | 30 => ⟨S2x64x64, .f32⟩
  | 31 => ⟨S2x64x64, .f32⟩
  | 32 => ⟨S2x64x64, .f32⟩
  | 33 => ⟨S2x64x64, .f32⟩
  | 34 => ⟨S2x64x64, .f32⟩
  | 35 => ⟨S2x64x64, .f32⟩
  | 36 => ⟨S2x64x64, .f32⟩
  | 37 => ⟨S2x64x64, .f32⟩
  | 38 => ⟨S2x64x64, .f32⟩
  | 39 => ⟨S2x64x64x1, .f32⟩
  | 40 => ⟨S2x64x64x1, .f32⟩
  | 41 => ⟨S2x64x64x16, .f32⟩
  | 42 => ⟨S2x64x64x16, .f32⟩
  | 43 => ⟨S2x64x64x16, .f32⟩
  | 44 => ⟨S2x64x64x16, .f32⟩
  | 45 => ⟨S2x64x64x16, .f32⟩
  | 46 => ⟨S2x64x64x16, .f32⟩
  | 47 => ⟨S2x64x64x16, .f32⟩
  | 48 => ⟨S2x64x64x16, .f32⟩
  | 49 => ⟨S2x64x64x16, .f32⟩
  | 50 => ⟨S2x64x64x16, .f32⟩
  | 51 => ⟨S2x64x64x16, .f32⟩
  | 52 => ⟨S2x64x64x16, .f32⟩
  | 53 => ⟨S2x64x16x64, .f32⟩
  | 54 => ⟨S2x64x1x16x64, .f32⟩
  | 55 => ⟨S2x64x16x64, .f32⟩
  | 56 => ⟨S2x64x1x16x64, .f32⟩
  | 57 => ⟨S2x64x16x64, .f32⟩
  | 58 => ⟨S2x64x1x16x64, .f32⟩
  | 59 => ⟨S2x64x16x64, .f32⟩
  | 60 => ⟨S2x64x1x16x64, .f32⟩
  | 61 => ⟨S16, .f32⟩
  | 62 => ⟨S16x1, .f32⟩
  | 63 => ⟨S2x64x1x64, .f32⟩
  | 64 => ⟨S1x1x16x1, .f32⟩
  | 65 => ⟨S2x64x16x64, .f32⟩
  | 66 => ⟨S2x64x16x64, .f32⟩
  | 67 => ⟨S2x64x16x64, .f32⟩
  | 68 => ⟨S2x64x16x64, .f32⟩
  | 69 => ⟨S2x64x1x64, .f32⟩
  | 70 => ⟨S1x1x16x1, .f32⟩
  | 71 => ⟨S2x64x16x64, .f32⟩
  | 72 => ⟨S2x64x16x64, .f32⟩
  | 73 => ⟨S2x64x16x64, .f32⟩
  | 74 => ⟨S2x64x16x64, .f32⟩
  | 75 => ⟨S2x64x16x64, .f32⟩
  | 76 => ⟨S2x64x16x64, .f32⟩
  | 77 => ⟨S2x64x16x64, .f32⟩
  | 78 => ⟨S2x64x16x1x64, .f32⟩
  | 79 => ⟨S2x64x16x1x64, .f32⟩
  | 80 => ⟨S2x64x16x16x64, .f32⟩
  | 81 => ⟨S2x64x16x16x64, .f32⟩
  | 82 => ⟨S2x64x16x16x64, .f32⟩
  | 83 => ⟨S2x64x16x16x64, .f32⟩
  | 84 => ⟨S2x64x16x16x64, .f32⟩
  | 85 => ⟨S2x64x16x16x64, .f32⟩
  | 86 => ⟨S2x64x16x16x64, .f32⟩
  | 87 => ⟨S2x64x16x16x64, .f32⟩
  | 88 => ⟨S2x64x16x16x64, .f32⟩
  | 89 => ⟨S2x64x16x16x64, .f32⟩
  | 90 => ⟨S2x64x16x16x64, .f32⟩
  | 91 => ⟨S2x64x16x16x64, .f32⟩
  | 92 => ⟨S2x64x16x16x64, .f32⟩
  | 93 => ⟨S2x64x16x16x64, .f32⟩
  | 94 => ⟨S2x64x16x64, .f32⟩
  | 95 => ⟨S2x64x16x16x16, .f32⟩
  | 96 => ⟨S2x64x16x64, .f32⟩
  | 97 => ⟨S2x64x16x16x16, .f32⟩
  | 98 => ⟨S2x64x16x16x16, .f32⟩
  | 99 => ⟨S2x64x256x16, .f32⟩
  | 100 => ⟨S_, .f32⟩
  | 101 => ⟨S16, .f32⟩
  | 102 => ⟨S16, .f32⟩
  | 103 => ⟨S1x16, .f32⟩
  | 104 => ⟨S1x16, .f32⟩
  | 105 => ⟨S2x16, .f32⟩
  | 106 => ⟨S2x1x16x1, .f32⟩
  | 107 => ⟨S2x64x1x64, .f32⟩
  | 108 => ⟨S2x64x16x64, .f32⟩
  | 109 => ⟨S2x64x16x64, .f32⟩
  | 110 => ⟨S2x64x16x64, .f32⟩
  | 111 => ⟨S2x64x16x64, .f32⟩
  | 112 => ⟨S2x64x1x64, .f32⟩
  | 113 => ⟨S2x64x16x64, .f32⟩
  | 114 => ⟨S2x64x16x64, .f32⟩
  | 115 => ⟨S2x64x16x64, .f32⟩
  | 116 => ⟨S2x64x16x64, .f32⟩
  | 117 => ⟨S2x64x16x64, .f32⟩
  | 118 => ⟨S2x64x16x64, .f32⟩
  | 119 => ⟨S2x64x16x64, .f32⟩
  | 120 => ⟨S2x64x16x1x64, .f32⟩
  | 121 => ⟨S2x64x16x1x64, .f32⟩
  | 122 => ⟨S2x64x16x16x64, .f32⟩
  | 123 => ⟨S2x64x16x16x64, .f32⟩
  | 124 => ⟨S2x64x16x16x64, .f32⟩
  | 125 => ⟨S2x64x16x16x64, .f32⟩
  | 126 => ⟨S2x64x16x16x64, .f32⟩
  | 127 => ⟨S2x64x16x16x64, .f32⟩
  | _ => ⟨S1x2x64x64, .f32⟩

abbrev hbmTy0_1 (i : Nat) : BufTy := match i % 128 with
  | 0 => ⟨S2x64x16x16x64, .f32⟩
  | 1 => ⟨S2x64x16x16x64, .f32⟩
  | 2 => ⟨S2x64x16x16x64, .f32⟩
  | 3 => ⟨S2x64x16x16x64, .f32⟩
  | 4 => ⟨S2x64x16x16x64, .f32⟩
  | 5 => ⟨S2x64x16x16x64, .f32⟩
  | 6 => ⟨S2x64x16x16x64, .f32⟩
  | 7 => ⟨S2x64x16x16x64, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S1x16, .f32⟩
  | 15 => ⟨S1x16, .f32⟩
  | 16 => ⟨S2x16, .f32⟩
  | 17 => ⟨S2x1x16x1, .f32⟩
  | 18 => ⟨S2x64x1x64, .f32⟩
  | 19 => ⟨S2x64x16x64, .f32⟩
  | 20 => ⟨S2x64x16x64, .f32⟩
  | 21 => ⟨S2x64x16x64, .f32⟩
  | 22 => ⟨S2x64x16x64, .f32⟩
  | 23 => ⟨S2x64x1x64, .f32⟩
  | 24 => ⟨S2x64x16x64, .f32⟩
  | 25 => ⟨S2x64x16x64, .f32⟩
  | 26 => ⟨S2x64x16x64, .f32⟩
  | 27 => ⟨S2x64x16x64, .f32⟩
  | 28 => ⟨S2x64x16x64, .f32⟩
  | 29 => ⟨S2x64x16x64, .f32⟩
  | 30 => ⟨S2x64x16x64, .f32⟩
  | 31 => ⟨S2x64x16x1x64, .f32⟩
  | 32 => ⟨S2x64x16x1x64, .f32⟩
  | 33 => ⟨S2x64x16x16x64, .f32⟩
  | 34 => ⟨S2x64x16x16x64, .f32⟩
  | 35 => ⟨S2x64x16x16x64, .f32⟩
  | 36 => ⟨S2x64x16x16x64, .f32⟩
  | 37 => ⟨S2x64x16x16x64, .f32⟩
  | 38 => ⟨S2x64x16x16x64, .f32⟩
  | 39 => ⟨S2x64x16x16x64, .f32⟩
  | 40 => ⟨S2x64x16x16x64, .f32⟩
  | 41 => ⟨S2x64x16x16x64, .f32⟩
  | 42 => ⟨S2x64x16x16x64, .f32⟩
  | 43 => ⟨S2x64x16x16x64, .f32⟩
  | 44 => ⟨S2x64x16x16x64, .f32⟩
  | 45 => ⟨S2x64x16x16x64, .f32⟩
  | 46 => ⟨S2x64x16x16x64, .f32⟩
  | 47 => ⟨S_, .f32⟩
  | 48 => ⟨S1x1, .f32⟩
  | 49 => ⟨S2x64x1x64, .f32⟩
  | 50 => ⟨S1x1x1x1, .f32⟩
  | 51 => ⟨S2x64x1x64, .f32⟩
  | 52 => ⟨S2x64x1x64, .f32⟩
  | 53 => ⟨S2x64x1x64, .f32⟩
  | 54 => ⟨S2x64x1x64, .f32⟩
  | 55 => ⟨S1x1x1x1, .f32⟩
  | 56 => ⟨S2x64x1x64, .f32⟩
  | 57 => ⟨S2x64x1x64, .f32⟩
  | 58 => ⟨S2x64x1x64, .f32⟩
  | 59 => ⟨S2x64x1x64, .f32⟩
  | 60 => ⟨S2x64x1x64, .f32⟩
  | 61 => ⟨S2x64x1x64, .f32⟩
  | 62 => ⟨S2x64x16x16x64, .f32⟩
  | _ => ⟨S1x2x64x64, .f32⟩

abbrev hbmTy (i : Nat) : BufTy := match i / 128 with
  | 0 => hbmTy0_0 i
  | 1 => hbmTy0_1 i
  | _ => ⟨S1x2x64x64, .f32⟩

abbrev bufTy : (tb : Table) → Fin (tcTables nBuf tb) → BufTy
  | .hbm, ⟨i, _⟩ => hbmTy i
  | _, _ => ⟨S1x2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_cst_1 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_cst_2 : Ref sig .tc := ⟨.hbm, 136, rfl⟩
abbrev main_v126 : Ref sig .tc := ⟨.hbm, 137, rfl⟩
abbrev main_v127 : Ref sig .tc := ⟨.hbm, 138, rfl⟩
abbrev main_cst_3 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_cst_4 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩

abbrev nD : Nat := 1
abbrev τ : Topo := Topo.v7x

variable {F : FTy → Type} [FloatOps F]
-- ==== KUp.lean ====
abbrev S8192x2048 : Shape := ⟨2, ![8192, 2048]⟩
abbrev S1x2048x11264 : Shape := ⟨3, ![1, 2048, 11264]⟩
abbrev S1x3x3x11264 : Shape := ⟨4, ![1, 3, 3, 11264]⟩
abbrev S1x11264 : Shape := ⟨2, ![1, 11264]⟩
abbrev S2048x11264 : Shape := ⟨2, ![2048, 11264]⟩
abbrev S3x3x11264 : Shape := ⟨3, ![3, 3, 11264]⟩
abbrev S11264 : Shape := ⟨1, ![11264]⟩
abbrev S9x11264 : Shape := ⟨2, ![9, 11264]⟩
abbrev S8192x5632 : Shape := ⟨2, ![8192, 5632]⟩
abbrev S4096x2048 : Shape := ⟨2, ![4096, 2048]⟩
abbrev S2048x256 : Shape := ⟨2, ![2048, 256]⟩
abbrev S9x256 : Shape := ⟨2, ![9, 256]⟩
abbrev S1x256 : Shape := ⟨2, ![1, 256]⟩
abbrev S4096x256 : Shape := ⟨2, ![4096, 256]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x3x11264, .f32⟩
  | .hbm, ⟨3, _⟩ => ⟨S1x11264, .f32⟩
  | .hbm, ⟨4, _⟩ => ⟨S2048x11264, .f32⟩
  | .hbm, ⟨5, _⟩ => ⟨S2048x11264, .bf16⟩
  | .hbm, ⟨6, _⟩ => ⟨S3x3x11264, .f32⟩
  | .hbm, ⟨7, _⟩ => ⟨S11264, .f32⟩
  | .hbm, ⟨8, _⟩ => ⟨S9x11264, .f32⟩
  | .hbm, ⟨9, _⟩ => ⟨S1x11264, .f32⟩
  | .hbm, ⟨10, _⟩ => ⟨S8192x5632, .bf16⟩
  | .local _ .vmem, ⟨0, _⟩ => ⟨S4096x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S9x256, .f32⟩
  | .local _ .vmem, ⟨6, _⟩ => ⟨S9x256, .f32⟩
  | .local _ .vmem, ⟨7, _⟩ => ⟨S9x256, .f32⟩
  | .local _ .vmem, ⟨8, _⟩ => ⟨S9x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S4096x256, .bf16⟩
  | .local _ .vmem, ⟨14, _⟩ => ⟨S4096x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S9x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S9x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RUpIdeal.lean ====
abbrev S8192x2048 : Shape := ⟨2, ![8192, 2048]⟩
abbrev S1x2048x11264 : Shape := ⟨3, ![1, 2048, 11264]⟩
abbrev S1x3x3x11264 : Shape := ⟨4, ![1, 3, 3, 11264]⟩
abbrev S1x11264 : Shape := ⟨2, ![1, 11264]⟩
abbrev S32x256x2048 : Shape := ⟨3, ![32, 256, 2048]⟩
abbrev S2048x11264 : Shape := ⟨2, ![2048, 11264]⟩
abbrev S32x256x11264 : Shape := ⟨3, ![32, 256, 11264]⟩
abbrev S3x3x11264 : Shape := ⟨3, ![3, 3, 11264]⟩
abbrev S11264 : Shape := ⟨1, ![11264]⟩
abbrev S32x1x256x11264 : Shape := ⟨4, ![32, 1, 256, 11264]⟩
abbrev S_ : Shape := ⟨0, ![]⟩
abbrev S32x3x258x11264 : Shape := ⟨4, ![32, 3, 258, 11264]⟩
abbrev S1x1x11264 : Shape := ⟨3, ![1, 1, 11264]⟩
abbrev S1x1x1x11264 : Shape := ⟨4, ![1, 1, 1, 11264]⟩
abbrev S32x256x5632 : Shape := ⟨3, ![32, 256, 5632]⟩
abbrev S8192x5632 : Shape := ⟨2, ![8192, 5632]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x3x11264, .f32⟩
  | .hbm, ⟨3, _⟩ => ⟨S1x11264, .f32⟩
  | .hbm, ⟨4, _⟩ => ⟨S8192x2048, .f32⟩
  | .hbm, ⟨5, _⟩ => ⟨S32x256x2048, .f32⟩
  | .hbm, ⟨6, _⟩ => ⟨S2048x11264, .f32⟩
  | .hbm, ⟨7, _⟩ => ⟨S32x256x11264, .f32⟩
  | .hbm, ⟨8, _⟩ => ⟨S3x3x11264, .f32⟩
  | .hbm, ⟨9, _⟩ => ⟨S11264, .f32⟩
  | .hbm, ⟨10, _⟩ => ⟨S32x1x256x11264, .f32⟩
  | .hbm, ⟨11, _⟩ => ⟨S_, .i32⟩
  | .hbm, ⟨12, _⟩ => ⟨S_, .f32⟩
  | .hbm, ⟨13, _⟩ => ⟨S32x3x258x11264, .f32⟩
  | .hbm, ⟨14, _⟩ => ⟨S32x1x256x11264, .f32⟩
  | .hbm, ⟨15, _⟩ => ⟨S1x1x11264, .f32⟩
  | .hbm, ⟨16, _⟩ => ⟨S11264, .f32⟩
  | .hbm, ⟨17, _⟩ => ⟨S1x1x1x11264, .f32⟩
  | .hbm, ⟨18, _⟩ => ⟨S32x1x256x11264, .f32⟩
  | .hbm, ⟨19, _⟩ => ⟨S32x1x256x11264, .f32⟩
  | .hbm, ⟨20, _⟩ => ⟨S1x1x1x11264, .f32⟩
  | .hbm, ⟨21, _⟩ => ⟨S32x1x256x11264, .f32⟩
  | .hbm, ⟨22, _⟩ => ⟨S32x1x256x11264, .f32⟩
  | .hbm, ⟨23, _⟩ => ⟨S32x1x256x11264, .f32⟩
  | .hbm, ⟨24, _⟩ => ⟨S1x1x11264, .f32⟩
  | .hbm, ⟨25, _⟩ => ⟨S11264, .f32⟩
  | .hbm, ⟨26, _⟩ => ⟨S1x1x1x11264, .f32⟩
  | .hbm, ⟨27, _⟩ => ⟨S32x1x256x11264, .f32⟩
  | .hbm, ⟨28, _⟩ => ⟨S32x1x256x11264, .f32⟩
  | .hbm, ⟨29, _⟩ => ⟨S32x1x256x11264, .f32⟩
  | .hbm, ⟨30, _⟩ => ⟨S32x1x256x11264, .f32⟩
  | .hbm, ⟨31, _⟩ => ⟨S1x1x11264, .f32⟩
  | .hbm, ⟨32, _⟩ => ⟨S11264, .f32⟩
  | .hbm, ⟨33, _⟩ => ⟨S1x1x1x11264, .f32⟩
  | .hbm, ⟨34, _⟩ => ⟨S32x1x256x11264, .f32⟩
  | .hbm, ⟨35, _⟩ => ⟨S32x1x256x11264, .f32⟩
  | .hbm, ⟨36, _⟩ => ⟨S32x1x256x11264, .f32⟩
  | .hbm, ⟨37, _⟩ => ⟨S32x1x256x11264, .f32⟩
  | .hbm, ⟨38, _⟩ => ⟨S1x1x11264, .f32⟩
  | .hbm, ⟨39, _⟩ => ⟨S11264, .f32⟩
  | .hbm, ⟨40, _⟩ => ⟨S1x1x1x11264, .f32⟩
  | .hbm, ⟨41, _⟩ => ⟨S32x1x256x11264, .f32⟩
  | .hbm, ⟨42, _⟩ => ⟨S32x1x256x11264, .f32⟩
  | .hbm, ⟨43, _⟩ => ⟨S32x1x256x11264, .f32⟩
  | .hbm, ⟨44, _⟩ => ⟨S32x1x256x11264, .f32⟩
  | .hbm, ⟨45, _⟩ => ⟨S1x1x11264, .f32⟩
  | .hbm, ⟨46, _⟩ => ⟨S11264, .f32⟩
  | .hbm, ⟨47, _⟩ => ⟨S1x1x1x11264, .f32⟩
  | .hbm, ⟨48, _⟩ => ⟨S32x1x256x11264, .f32⟩
  | .hbm, ⟨49, _⟩ => ⟨S32x1x256x11264, .f32⟩
  | .hbm, ⟨50, _⟩ => ⟨S32x1x256x11264, .f32⟩
  | .hbm, ⟨51, _⟩ => ⟨S32x1x256x11264, .f32⟩
  | .hbm, ⟨52, _⟩ => ⟨S1x1x11264, .f32⟩
  | .hbm, ⟨53, _⟩ => ⟨S11264, .f32⟩
  | .hbm, ⟨54, _⟩ => ⟨S1x1x1x11264, .f32⟩
  | .hbm, ⟨55, _⟩ => ⟨S32x1x256x11264, .f32⟩
  | .hbm, ⟨56, _⟩ => ⟨S32x1x256x11264, .f32⟩
  | .hbm, ⟨57, _⟩ => ⟨S32x1x256x11264, .f32⟩
  | .hbm, ⟨58, _⟩ => ⟨S32x1x256x11264, .f32⟩
  | .hbm, ⟨59, _⟩ => ⟨S1x1x11264, .f32⟩
  | .hbm, ⟨60, _⟩ => ⟨S11264, .f32⟩
  | .hbm, ⟨61, _⟩ => ⟨S1x1x1x11264, .f32⟩
  | .hbm, ⟨62, _⟩ => ⟨S32x1x256x11264, .f32⟩
  | .hbm, ⟨63, _⟩ => ⟨S32x1x256x11264, .f32⟩
  | .hbm, ⟨64, _⟩ => ⟨S32x1x256x11264, .f32⟩
  | .hbm, ⟨65, _⟩ => ⟨S32x1x256x11264, .f32⟩
  | .hbm, ⟨66, _⟩ => ⟨S1x1x11264, .f32⟩
  | .hbm, ⟨67, _⟩ => ⟨S11264, .f32⟩
  | .hbm, ⟨68, _⟩ => ⟨S1x1x1x11264, .f32⟩
  | .hbm, ⟨69, _⟩ => ⟨S32x1x256x11264, .f32⟩
  | .hbm, ⟨70, _⟩ => ⟨S32x1x256x11264, .f32⟩
  | .hbm, ⟨71, _⟩ => ⟨S32x1x256x11264, .f32⟩
  | .hbm, ⟨72, _⟩ => ⟨S32x1x256x11264, .f32⟩
  | .hbm, ⟨73, _⟩ => ⟨S1x1x11264, .f32⟩
  | .hbm, ⟨74, _⟩ => ⟨S11264, .f32⟩
  | .hbm, ⟨75, _⟩ => ⟨S1x1x1x11264, .f32⟩
  | .hbm, ⟨76, _⟩ => ⟨S32x1x256x11264, .f32⟩
  | .hbm, ⟨77, _⟩ => ⟨S32x1x256x11264, .f32⟩
  | .hbm, ⟨78, _⟩ => ⟨S32x1x256x11264, .f32⟩
  | .hbm, ⟨79, _⟩ => ⟨S32x256x11264, .f32⟩
  | .hbm, ⟨80, _⟩ => ⟨S32x256x5632, .f32⟩
  | .hbm, ⟨81, _⟩ => ⟨S32x256x5632, .f32⟩
  | .hbm, ⟨82, _⟩ => ⟨S32x256x5632, .f32⟩
  | .hbm, ⟨83, _⟩ => ⟨S32x256x5632, .f32⟩
  | .hbm, ⟨84, _⟩ => ⟨S_, .f32⟩
  | .hbm, ⟨85, _⟩ => ⟨S32x256x5632, .f32⟩
  | .hbm, ⟨86, _⟩ => ⟨S32x256x5632, .f32⟩
  | .hbm, ⟨87, _⟩ => ⟨S32x256x5632, .f32⟩
  | .hbm, ⟨88, _⟩ => ⟨S_, .f32⟩
  | .hbm, ⟨89, _⟩ => ⟨S32x256x5632, .f32⟩
  | .hbm, ⟨90, _⟩ => ⟨S32x256x5632, .f32⟩
  | .hbm, ⟨91, _⟩ => ⟨S32x256x5632, .f32⟩
  | .hbm, ⟨92, _⟩ => ⟨S_, .f32⟩
  | .hbm, ⟨93, _⟩ => ⟨S32x256x5632, .f32⟩
  | .hbm, ⟨94, _⟩ => ⟨S32x256x5632, .f32⟩
  | .hbm, ⟨95, _⟩ => ⟨S_, .f32⟩
  | .hbm, ⟨96, _⟩ => ⟨S32x256x5632, .f32⟩
  | .hbm, ⟨97, _⟩ => ⟨S32x256x5632, .f32⟩
  | .hbm, ⟨98, _⟩ => ⟨S32x256x5632, .f32⟩
  | .hbm, ⟨99, _⟩ => ⟨S32x256x5632, .f32⟩
  | .hbm, ⟨100, _⟩ => ⟨S8192x5632, .f32⟩
  | .hbm, ⟨101, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_cst : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_cst_0 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_cst_1 : Ref sig .tc := ⟨.hbm, 92, rfl⟩
abbrev main_v84 : Ref sig .tc := ⟨.hbm, 93, rfl⟩
abbrev main_v85 : Ref sig .tc := ⟨.hbm, 94, rfl⟩
abbrev main_cst_2 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩

abbrev nD : Nat := 1
abbrev τ : Topo := Topo.v7x

variable {F : FTy → Type} [FloatOps F]
-- ==== KDown.lean ====
abbrev S8192x5632 : Shape := ⟨2, ![8192, 5632]⟩
abbrev S1x5632x2048 : Shape := ⟨3, ![1, 5632, 2048]⟩
abbrev S8192x2048 : Shape := ⟨2, ![8192, 2048]⟩
abbrev S8x6x1x2048 : Shape := ⟨4, ![8, 6, 1, 2048]⟩
abbrev S2048 : Shape := ⟨1, ![2048]⟩
abbrev S5632x2048 : Shape := ⟨2, ![5632, 2048]⟩
abbrev S1x2048 : Shape := ⟨2, ![1, 2048]⟩
abbrev S256x5632 : Shape := ⟨2, ![256, 5632]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S5632x2048, .f32⟩
  | .hbm, ⟨6, _⟩ => ⟨S5632x2048, .bf16⟩
  | .hbm, ⟨7, _⟩ => ⟨S1x2048, .f32⟩
  | .hbm, ⟨8, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, c5_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RDownIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S8x6x1x2048 : Shape := ⟨4, ![8, 6, 1, 2048]⟩
abbrev S2048 : Shape := ⟨1, ![2048]⟩
abbrev S1x1x1x2048 : Shape := ⟨4, ![1, 1, 1, 2048]⟩
abbrev S1x2048 : Shape := ⟨2, ![1, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S1x1x1x2048, .f32⟩
  | .hbm, ⟨6, _⟩ => ⟨S1x2048, .f32⟩
  | .hbm, ⟨7, _⟩ => ⟨S8192x5632, .f32⟩
  | .hbm, ⟨8, _⟩ => ⟨S5632x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KMerge.lean ====
abbrev S8192x1024 : Shape := ⟨2, ![8192, 1024]⟩
abbrev S8192x8192 : Shape := ⟨2, ![8192, 8192]⟩
abbrev S32x256x2048 : Shape := ⟨3, ![32, 256, 2048]⟩
abbrev S8x6x1x2048 : Shape := ⟨4, ![8, 6, 1, 2048]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S1024 : Shape := ⟨1, ![1024]⟩
abbrev S1024x1024 : Shape := ⟨2, ![1024, 1024]⟩
abbrev S1024x2048 : Shape := ⟨2, ![1024, 2048]⟩
abbrev S2048x2048 : Shape := ⟨2, ![2048, 2048]⟩
abbrev S2048 : Shape := ⟨1, ![2048]⟩
abbrev S256x1024 : Shape := ⟨2, ![256, 1024]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 29
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .bf16⟩
  | .hbm, ⟨3, _⟩ => ⟨S32x256x2048, .f32⟩
  | .hbm, ⟨4, _⟩ => ⟨S8x6x1x2048, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S1x2048, .f32⟩
  | .hbm, ⟨12, _⟩ => ⟨S8192x2048, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1024x2048, .f32⟩
  | .hbm, ⟨18, _⟩ => ⟨S1024x2048, .bf16⟩
  | .hbm, ⟨19, _⟩ => ⟨S1024x2048, .f32⟩
  | .hbm, ⟨20, _⟩ => ⟨S1024x2048, .bf16⟩
  | .hbm, ⟨21, _⟩ => ⟨S2048x2048, .f32⟩
  | .hbm, ⟨22, _⟩ => ⟨S2048x2048, .bf16⟩
  | .hbm, ⟨23, _⟩ => ⟨S2048, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S8192x2048, .f32⟩
  | .hbm, ⟨28, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x1x1x2048, .f32⟩
  | .local _ .vmem, ⟨19, _⟩ => ⟨S1x2048, .f32⟩
  | .local _ .vmem, ⟨20, _⟩ => ⟨S1x1x1x2048, .f32⟩
  | .local _ .vmem, ⟨21, _⟩ => ⟨S1x1x1x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RMergeIdeal.lean ====
abbrev S8192x1024 : Shape := ⟨2, ![8192, 1024]⟩
abbrev S8192x8192 : Shape := ⟨2, ![8192, 8192]⟩
abbrev S32x256x2048 : Shape := ⟨3, ![32, 256, 2048]⟩
abbrev S8x6x1x2048 : Shape := ⟨4, ![8, 6, 1, 2048]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S1x1x1x2048 : Shape := ⟨4, ![1, 1, 1, 2048]⟩
abbrev S1024 : Shape := ⟨1, ![1024]⟩
abbrev S_ : Shape := ⟨0, ![]⟩
abbrev S1024x1024 : Shape := ⟨2, ![1024, 1024]⟩
abbrev S1024x2048 : Shape := ⟨2, ![1024, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .bf16⟩
  | .hbm, ⟨3, _⟩ => ⟨S32x256x2048, .f32⟩
  | .hbm, ⟨4, _⟩ => ⟨S8x6x1x2048, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S1x2048, .f32⟩
  | .hbm, ⟨12, _⟩ => ⟨S8192x1024, .bf16⟩
  | .hbm, ⟨13, _⟩ => ⟨S8192x1024, .f32⟩
  | .hbm, ⟨14, _⟩ => ⟨S8192x2048, .bf16⟩
  | .hbm, ⟨15, _⟩ => ⟨S8192x2048, .f32⟩
  | .hbm, ⟨16, _⟩ => ⟨S8192x2048, .bf16⟩
  | .hbm, ⟨17, _⟩ => ⟨S8192x2048, .f32⟩
  | .hbm, ⟨18, _⟩ => ⟨S1x1x1x2048, .f32⟩
  | .hbm, ⟨19, _⟩ => ⟨S1x2048, .f32⟩
  | .hbm, ⟨20, _⟩ => ⟨S1x1x1x2048, .f32⟩
  | .hbm, ⟨21, _⟩ => ⟨S1x2048, .f32⟩
  | .hbm, ⟨22, _⟩ => ⟨S1x1x1x2048, .f32⟩
  | .hbm, ⟨23, _⟩ => ⟨S1x2048, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024x1024, .f32⟩
  | .hbm, ⟨48, _⟩ => ⟨S8192x1024, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1024x2048, .f32⟩
  | .hbm, ⟨64, _⟩ => ⟨S8192x2048, .f32⟩
  | .hbm, ⟨65, _⟩ => ⟨S8192x2048, .f32⟩
  | .hbm, ⟨66, _⟩ => ⟨S1024x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S2048x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S2048, .f32⟩
  | .hbm, ⟨77, _⟩ => ⟨S8192x2048, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x2048, .f32⟩
  | .hbm, ⟨89, _⟩ => ⟨S8192x2048, .f32⟩
  | .hbm, ⟨90, _⟩ => ⟨S1x2048, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S1x2048, .f32⟩
  | .hbm, ⟨95, _⟩ => ⟨S1x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== KIn.lean ====
abbrev S32x256x2048 : Shape := ⟨3, ![32, 256, 2048]⟩
abbrev S8x6x1x2048 : Shape := ⟨4, ![8, 6, 1, 2048]⟩
abbrev S1x2048 : Shape := ⟨2, ![1, 2048]⟩
abbrev S1x2048x8192 : Shape := ⟨3, ![1, 2048, 8192]⟩
abbrev S1x8192 : Shape := ⟨2, ![1, 8192]⟩
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S8192x8192 : Shape := ⟨2, ![8192, 8192]⟩
abbrev S1024x2048 : Shape := ⟨2, ![1024, 2048]⟩
abbrev S1x1x1x2048 : Shape := ⟨4, ![1, 1, 1, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S32x256x2048, .f32⟩
  | .hbm, ⟨1, _⟩ => ⟨S8x6x1x2048, .f32⟩
  | .hbm, ⟨2, _⟩ => ⟨S1x2048, .f32⟩
  | .hbm, ⟨3, _⟩ => ⟨S1x2048x8192, .f32⟩
  | .hbm, ⟨4, _⟩ => ⟨S1x8192, .f32⟩
  | .hbm, ⟨5, _⟩ => ⟨S8192x2048, .f32⟩
  | .hbm, ⟨6, _⟩ => ⟨S2048, .f32⟩
  | .hbm, ⟨7, _⟩ => ⟨S2048x8192, .f32⟩
  | .hbm, ⟨8, _⟩ => ⟨S2048x8192, .bf16⟩
  | .hbm, ⟨9, _⟩ => ⟨S8192, .f32⟩
  | .hbm, ⟨10, _⟩ => ⟨S1x2048, .f32⟩
  | .hbm, ⟨11, _⟩ => ⟨S1x8192, .f32⟩
  | .hbm, ⟨12, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c4_i32 : BitVec 32 := 4#32
  let v11 : BitVec 1 := Scalar.cmpi .slt arg1 c4_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c4_i32_7 : BitVec 32 := 4#32
  let v14 : BitVec 1 := Scalar.cmpi .sge arg1 c4_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RInIdeal.lean ====
abbrev S32x256x2048 : Shape := ⟨3, ![32, 256, 2048]⟩
abbrev S8x6x1x2048 : Shape := ⟨4, ![8, 6, 1, 2048]⟩
abbrev S1x2048 : Shape := ⟨2, ![1, 2048]⟩
abbrev S1x2048x8192 : Shape := ⟨3, ![1, 2048, 8192]⟩
abbrev S1x8192 : Shape := ⟨2, ![1, 8192]⟩
abbrev S1x1x1x2048 : Shape := ⟨4, ![1, 1, 1, 2048]⟩
abbrev S2048 : Shape := ⟨1, ![2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S2048x8192 : Shape := ⟨2, ![2048, 8192]⟩
abbrev S32x256x8192 : Shape := ⟨3, ![32, 256, 8192]⟩
abbrev S8192 : Shape := ⟨1, ![8192]⟩
abbrev S1x1x8192 : Shape := ⟨3, ![1, 1, 8192]⟩
abbrev S8192x8192 : Shape := ⟨2, ![8192, 8192]⟩
abbrev S8192x4096 : Shape := ⟨2, ![8192, 4096]⟩

abbrev nBuf : Space → Nat
  | .hbm => 54
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S8x6x1x2048, .f32⟩
  | .hbm, ⟨2, _⟩ => ⟨S1x2048, .f32⟩
  | .hbm, ⟨3, _⟩ => ⟨S1x2048x8192, .f32⟩
  | .hbm, ⟨4, _⟩ => ⟨S1x8192, .f32⟩
  | .hbm, ⟨5, _⟩ => ⟨S1x1x1x2048, .f32⟩
  | .hbm, ⟨6, _⟩ => ⟨S1x2048, .f32⟩
  | .hbm, ⟨7, _⟩ => ⟨S1x1x1x2048, .f32⟩
  | .hbm, ⟨8, _⟩ => ⟨S1x2048, .f32⟩
  | .hbm, ⟨9, _⟩ => ⟨S2048, .f32⟩
  | .hbm, ⟨10, _⟩ => ⟨S32x256x2048, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x2048, .f32⟩
  | .hbm, ⟨22, _⟩ => ⟨S32x256x2048, .f32⟩
  | .hbm, ⟨23, _⟩ => ⟨S1x1x2048, .f32⟩
  | .hbm, ⟨24, _⟩ => ⟨S32x256x2048, .f32⟩
  | .hbm, ⟨25, _⟩ => ⟨S32x256x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x1x2048, .f32⟩
  | .hbm, ⟨30, _⟩ => ⟨S32x256x2048, .f32⟩
  | .hbm, ⟨31, _⟩ => ⟨S32x256x2048, .f32⟩
  | .hbm, ⟨32, _⟩ => ⟨S1x1x2048, .f32⟩
  | .hbm, ⟨33, _⟩ => ⟨S32x256x2048, .f32⟩
  | .hbm, ⟨34, _⟩ => ⟨S32x256x2048, .f32⟩
  | .hbm, ⟨35, _⟩ => ⟨S2048x8192, .f32⟩
  | .hbm, ⟨36, _⟩ => ⟨S32x256x8192, .f32⟩
  | .hbm, ⟨37, _⟩ => ⟨S8192, .f32⟩
  | .hbm, ⟨38, _⟩ => ⟨S1x1x8192, .f32⟩
  | .hbm, ⟨39, _⟩ => ⟨S32x256x8192, .f32⟩
  | .hbm, ⟨40, _⟩ => ⟨S32x256x8192, .f32⟩
  | .hbm, ⟨41, _⟩ => ⟨S8192x8192, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S8192x8192, .f32⟩
  | .hbm, ⟨53, _⟩ => ⟨S8192x8192, .bf16⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== KJoin.lean ====
abbrev S8192x1024 : Shape := ⟨2, ![8192, 1024]⟩
abbrev S8192x8192 : Shape := ⟨2, ![8192, 8192]⟩
abbrev S2x4096x2048 : Shape := ⟨3, ![2, 4096, 2048]⟩
abbrev S8x6x1x2048 : Shape := ⟨4, ![8, 6, 1, 2048]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S1024 : Shape := ⟨1, ![1024]⟩
abbrev S1024x1024 : Shape := ⟨2, ![1024, 1024]⟩
abbrev S1024x2048 : Shape := ⟨2, ![1024, 2048]⟩
abbrev S2048x2048 : Shape := ⟨2, ![2048, 2048]⟩
abbrev S2048 : Shape := ⟨1, ![2048]⟩
abbrev S256x1024 : Shape := ⟨2, ![256, 1024]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 29
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .bf16⟩
  | .hbm, ⟨3, _⟩ => ⟨S2x4096x2048, .f32⟩
  | .hbm, ⟨4, _⟩ => ⟨S8x6x1x2048, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S1x2048, .f32⟩
  | .hbm, ⟨12, _⟩ => ⟨S8192x2048, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1024x2048, .f32⟩
  | .hbm, ⟨18, _⟩ => ⟨S1024x2048, .bf16⟩
  | .hbm, ⟨19, _⟩ => ⟨S1024x2048, .f32⟩
  | .hbm, ⟨20, _⟩ => ⟨S1024x2048, .bf16⟩
  | .hbm, ⟨21, _⟩ => ⟨S2048x2048, .f32⟩
  | .hbm, ⟨22, _⟩ => ⟨S2048x2048, .bf16⟩
  | .hbm, ⟨23, _⟩ => ⟨S2048, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S8192x2048, .f32⟩
  | .hbm, ⟨28, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x1x1x2048, .f32⟩
  | .local _ .vmem, ⟨19, _⟩ => ⟨S1x1x1x2048, .f32⟩
  | .local _ .vmem, ⟨20, _⟩ => ⟨S1x2048, .f32⟩
  | .local _ .vmem, ⟨21, _⟩ => ⟨S1x1x1x2048, .f32⟩
  | .local _ .vmem, ⟨22, _⟩ => ⟨S1x1x1x2048, .f32⟩
  | .local _ .vmem, ⟨23, _⟩ => ⟨S1x1x1x2048, .f32⟩
  | .local _ .vmem, ⟨24, _⟩ => ⟨S1x1x1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c2_i32 : BitVec 32 := 2#32
  let c0_i32_5 : BitVec 32 := 0#32
  let c0_i32_6 : BitVec 32 := 0#32
  let c0_i32_7 : BitVec 32 := 0#32
  ![v18.toNat, c2_i32.toNat, c0_i32_5.toNat, c0_i32_6.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c4_i32 : BitVec 32 := 4#32
  let c0_i32_5 : BitVec 32 := 0#32
  let c0_i32_6 : BitVec 32 := 0#32
  let c0_i32_7 : BitVec 32 := 0#32
  ![v18.toNat, c4_i32.toNat, c0_i32_5.toNat, c0_i32_6.toNat]

def cc0_transform_15 (i : grid0.Coords) : Fin 4 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c3_i32 : BitVec 32 := 3#32
  let c0_i32_5 : BitVec 32 := 0#32
  let c0_i32_6 : BitVec 32 := 0#32
  let c0_i32_7 : BitVec 32 := 0#32
  ![v18.toNat, c3_i32.toNat, c0_i32_5.toNat, c0_i32_6.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RJoinIdeal.lean ====
abbrev S8192x1024 : Shape := ⟨2, ![8192, 1024]⟩
abbrev S8192x8192 : Shape := ⟨2, ![8192, 8192]⟩
abbrev S2x4096x2048 : Shape := ⟨3, ![2, 4096, 2048]⟩
abbrev S8x6x1x2048 : Shape := ⟨4, ![8, 6, 1, 2048]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S2x1x1x2048 : Shape := ⟨4, ![2, 1, 1, 2048]⟩
abbrev S2x1x2048 : Shape := ⟨3, ![2, 1, 2048]⟩
abbrev S1024 : Shape := ⟨1, ![1024]⟩
abbrev S_ : Shape := ⟨0, ![]⟩
abbrev S1024x1024 : Shape := ⟨2, ![1024, 1024]⟩
abbrev S1024x2048 : Shape := ⟨2, ![1024, 2048]⟩
abbrev S2048x2048 : Shape := ⟨2, ![2048, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .bf16⟩
  | .hbm, ⟨3, _⟩ => ⟨S2x4096x2048, .f32⟩
  | .hbm, ⟨4, _⟩ => ⟨S8x6x1x2048, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S1x2048, .f32⟩
  | .hbm, ⟨12, _⟩ => ⟨S8192x1024, .bf16⟩
  | .hbm, ⟨13, _⟩ => ⟨S8192x1024, .f32⟩
  | .hbm, ⟨14, _⟩ => ⟨S8192x2048, .bf16⟩
  | .hbm, ⟨15, _⟩ => ⟨S8192x2048, .f32⟩
  | .hbm, ⟨16, _⟩ => ⟨S8192x2048, .bf16⟩
  | .hbm, ⟨17, _⟩ => ⟨S8192x2048, .f32⟩
  | .hbm, ⟨18, _⟩ => ⟨S2x1x1x2048, .f32⟩
  | .hbm, ⟨19, _⟩ => ⟨S2x1x2048, .f32⟩
  | .hbm, ⟨20, _⟩ => ⟨S2x1x1x2048, .f32⟩
  | .hbm, ⟨21, _⟩ => ⟨S2x1x2048, .f32⟩
  | .hbm, ⟨22, _⟩ => ⟨S2x1x1x2048, .f32⟩
  | .hbm, ⟨23, _⟩ => ⟨S2x1x2048, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024x1024, .f32⟩
  | .hbm, ⟨48, _⟩ => ⟨S8192x1024, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1024x2048, .f32⟩
  | .hbm, ⟨64, _⟩ => ⟨S8192x2048, .f32⟩
  | .hbm, ⟨65, _⟩ => ⟨S8192x2048, .f32⟩
  | .hbm, ⟨66, _⟩ => ⟨S1024x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S2048x2048, .f32⟩
  | .hbm, ⟨71, _⟩ => ⟨S8192x2048, .f32⟩
  | .hbm, ⟨72, _⟩ => ⟨S2x4096x2048, .f32⟩
  | .hbm, ⟨73, _⟩ => ⟨S2x4096x2048, .f32⟩
  | .hbm, ⟨74, _⟩ => ⟨S2x4096x2048, .f32⟩
  | .hbm, ⟨75, _⟩ => ⟨S2x4096x2048, .f32⟩
  | .hbm, ⟨76, _⟩ => ⟨S2048, .f32⟩
  | .hbm, ⟨77, _⟩ => ⟨S2x4096x2048, .f32⟩
  | .hbm, ⟨78, _⟩ => ⟨S_, .f32⟩
  | .hbm, ⟨79, _⟩ => ⟨S2x4096, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .f32⟩
  | .hbm, ⟨84, _⟩ => ⟨S_, .f32⟩
  | .hbm, ⟨85, _⟩ => ⟨S2x4096x1, .f32⟩
  | .hbm, ⟨86, _⟩ => ⟨S2x4096x1, .f32⟩
  | .hbm, ⟨87, _⟩ => ⟨S2x4096x1, .f32⟩
  | .hbm, ⟨88, _⟩ => ⟨S2x4096x2048, .f32⟩
  | .hbm, ⟨89, _⟩ => ⟨S2x4096x2048, .f32⟩
  | .hbm, ⟨90, _⟩ => ⟨S1x1x2048, .f32⟩
  | .hbm, ⟨91, _⟩ => ⟨S2x4096x2048, .f32⟩
  | .hbm, ⟨92, _⟩ => ⟨S2x4096x2048, .f32⟩
  | .hbm, ⟨93, _⟩ => ⟨S_, .f32⟩
  | .hbm, ⟨94, _⟩ => ⟨S2x1x2048, .f32⟩
  | .hbm, ⟨95, _⟩ => ⟨S2x1x2048, .f32⟩
  | .hbm, ⟨96, _⟩ => ⟨S2x4096x2048, .f32⟩
  | .hbm, ⟨97, _⟩ => ⟨S2x4096x2048, .f32⟩
  | .hbm, ⟨98, _⟩ => ⟨S2x4096x2048, .f32⟩
  | .hbm, ⟨99, _⟩ => ⟨S2x4096x2048, .f32⟩
  | .hbm, ⟨100, _⟩ => ⟨S8192x2048, .f32⟩
  | .hbm, ⟨101, _⟩ => ⟨S8192x2048, .f32⟩
  | .hbm, ⟨102, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== KEnter.lean ====
abbrev S2x4096x2048 : Shape := ⟨3, ![2, 4096, 2048]⟩
abbrev S8x6x1x2048 : Shape := ⟨4, ![8, 6, 1, 2048]⟩
abbrev S1x2048 : Shape := ⟨2, ![1, 2048]⟩
abbrev S1x2048x8192 : Shape := ⟨3, ![1, 2048, 8192]⟩
abbrev S1x8192 : Shape := ⟨2, ![1, 8192]⟩
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S8192x8192 : Shape := ⟨2, ![8192, 8192]⟩
abbrev S1024x2048 : Shape := ⟨2, ![1024, 2048]⟩
abbrev S1x1x1x2048 : Shape := ⟨4, ![1, 1, 1, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S8x6x1x2048, .f32⟩
  | .hbm, ⟨2, _⟩ => ⟨S1x2048, .f32⟩
  | .hbm, ⟨3, _⟩ => ⟨S1x2048x8192, .f32⟩
  | .hbm, ⟨4, _⟩ => ⟨S1x8192, .f32⟩
  | .hbm, ⟨5, _⟩ => ⟨S8192x2048, .f32⟩
  | .hbm, ⟨6, _⟩ => ⟨S2048, .f32⟩
  | .hbm, ⟨7, _⟩ => ⟨S2048x8192, .f32⟩
  | .hbm, ⟨8, _⟩ => ⟨S2048x8192, .bf16⟩
  | .hbm, ⟨9, _⟩ => ⟨S8192, .f32⟩
  | .hbm, ⟨10, _⟩ => ⟨S1x2048, .f32⟩
  | .hbm, ⟨11, _⟩ => ⟨S1x8192, .f32⟩
  | .hbm, ⟨12, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c4_i32 : BitVec 32 := 4#32
  let v11 : BitVec 1 := Scalar.cmpi .slt arg1 c4_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c4_i32_7 : BitVec 32 := 4#32
  let v14 : BitVec 1 := Scalar.cmpi .sge arg1 c4_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c0_i32_6 : BitVec 32 := 0#32
  let c0_i32_7 : BitVec 32 := 0#32
  let c0_i32_8 : BitVec 32 := 0#32
  ![v18.toNat, c1_i32_5.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  let c0_i32_8 : BitVec 32 := 0#32
  ![v18.toNat, c0_i32_5.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== REnterIdeal.lean ====
abbrev S2x4096x2048 : Shape := ⟨3, ![2, 4096, 2048]⟩
abbrev S8x6x1x2048 : Shape := ⟨4, ![8, 6, 1, 2048]⟩
abbrev S1x2048 : Shape := ⟨2, ![1, 2048]⟩
abbrev S1x2048x8192 : Shape := ⟨3, ![1, 2048, 8192]⟩
abbrev S1x8192 : Shape := ⟨2, ![1, 8192]⟩
abbrev S2x1x1x2048 : Shape := ⟨4, ![2, 1, 1, 2048]⟩
abbrev S2x1x2048 : Shape := ⟨3, ![2, 1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x8192 : Shape := ⟨2, ![2048, 8192]⟩
abbrev S2x4096x8192 : Shape := ⟨3, ![2, 4096, 8192]⟩
abbrev S8192 : Shape := ⟨1, ![8192]⟩
abbrev S1x1x8192 : Shape := ⟨3, ![1, 1, 8192]⟩
abbrev S8192x8192 : Shape := ⟨2, ![8192, 8192]⟩
abbrev S8192x4096 : Shape := ⟨2, ![8192, 4096]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x6x1x2048, .f32⟩
  | .hbm, ⟨2, _⟩ => ⟨S1x2048, .f32⟩
  | .hbm, ⟨3, _⟩ => ⟨S1x2048x8192, .f32⟩
  | .hbm, ⟨4, _⟩ => ⟨S1x8192, .f32⟩
  | .hbm, ⟨5, _⟩ => ⟨S2x1x1x2048, .f32⟩
  | .hbm, ⟨6, _⟩ => ⟨S2x1x2048, .f32⟩
  | .hbm, ⟨7, _⟩ => ⟨S2x1x1x2048, .f32⟩
  | .hbm, ⟨8, _⟩ => ⟨S2x1x2048, .f32⟩
  | .hbm, ⟨9, _⟩ => ⟨S2048, .f32⟩
  | .hbm, ⟨10, _⟩ => ⟨S2x4096x2048, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x2048, .f32⟩
  | .hbm, ⟨22, _⟩ => ⟨S2x4096x2048, .f32⟩
  | .hbm, ⟨23, _⟩ => ⟨S1x1x2048, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2048x8192, .f32⟩
  | .hbm, ⟨34, _⟩ => ⟨S2x4096x8192, .f32⟩
  | .hbm, ⟨35, _⟩ => ⟨S8192, .f32⟩
  | .hbm, ⟨36, _⟩ => ⟨S1x1x8192, .f32⟩
  | .hbm, ⟨37, _⟩ => ⟨S2x4096x8192, .f32⟩
  | .hbm, ⟨38, _⟩ => ⟨S2x4096x8192, .f32⟩
  | .hbm, ⟨39, _⟩ => ⟨S8192x8192, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S8192x8192, .f32⟩
  | .hbm, ⟨51, _⟩ => ⟨S8192x8192, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== KGrid.lean ====
abbrev S8192x2048 : Shape := ⟨2, ![8192, 2048]⟩
abbrev S1x2048x11264 : Shape := ⟨3, ![1, 2048, 11264]⟩
abbrev S1x3x3x11264 : Shape := ⟨4, ![1, 3, 3, 11264]⟩
abbrev S1x11264 : Shape := ⟨2, ![1, 11264]⟩
abbrev S2048x11264 : Shape := ⟨2, ![2048, 11264]⟩
abbrev S3x3x11264 : Shape := ⟨3, ![3, 3, 11264]⟩
abbrev S11264 : Shape := ⟨1, ![11264]⟩
abbrev S9x11264 : Shape := ⟨2, ![9, 11264]⟩
abbrev S8192x5632 : Shape := ⟨2, ![8192, 5632]⟩
abbrev S4096x2048 : Shape := ⟨2, ![4096, 2048]⟩
abbrev S2048x256 : Shape := ⟨2, ![2048, 256]⟩
abbrev S9x256 : Shape := ⟨2, ![9, 256]⟩
abbrev S1x256 : Shape := ⟨2, ![1, 256]⟩
abbrev S4096x256 : Shape := ⟨2, ![4096, 256]⟩
abbrev S4160x256 : Shape := ⟨2, ![4160, 256]⟩
abbrev S64x256 : Shape := ⟨2, ![64, 256]⟩

abbrev nBuf : Space → Nat
  | .hbm => 11
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x3x11264, .f32⟩
  | .hbm, ⟨3, _⟩ => ⟨S1x11264, .f32⟩
  | .hbm, ⟨4, _⟩ => ⟨S2048x11264, .f32⟩
  | .hbm, ⟨5, _⟩ => ⟨S2048x11264, .bf16⟩
  | .hbm, ⟨6, _⟩ => ⟨S3x3x11264, .f32⟩
  | .hbm, ⟨7, _⟩ => ⟨S11264, .f32⟩
  | .hbm, ⟨8, _⟩ => ⟨S9x11264, .f32⟩
  | .hbm, ⟨9, _⟩ => ⟨S1x11264, .f32⟩
  | .hbm, ⟨10, _⟩ => ⟨S8192x5632, .bf16⟩
  | .local _ .vmem, ⟨0, _⟩ => ⟨S4096x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S9x256, .f32⟩
  | .local _ .vmem, ⟨6, _⟩ => ⟨S9x256, .f32⟩
  | .local _ .vmem, ⟨7, _⟩ => ⟨S9x256, .f32⟩
  | .local _ .vmem, ⟨8, _⟩ => ⟨S9x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S4096x256, .bf16⟩
  | .local _ .vmem, ⟨14, _⟩ => ⟨S4096x256, .bf16⟩
  | .local _ .vmem, ⟨15, _⟩ => ⟨S4160x256, .f32⟩
  | .local _ .vmem, ⟨16, _⟩ => ⟨S4160x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S9x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S9x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RGridIdeal.lean ====
abbrev S8192x2048 : Shape := ⟨2, ![8192, 2048]⟩
abbrev S1x2048x11264 : Shape := ⟨3, ![1, 2048, 11264]⟩
abbrev S1x3x3x11264 : Shape := ⟨4, ![1, 3, 3, 11264]⟩
abbrev S1x11264 : Shape := ⟨2, ![1, 11264]⟩
abbrev S2x4096x2048 : Shape := ⟨3, ![2, 4096, 2048]⟩
abbrev S2048x11264 : Shape := ⟨2, ![2048, 11264]⟩
abbrev S2x4096x11264 : Shape := ⟨3, ![2, 4096, 11264]⟩
abbrev S3x3x11264 : Shape := ⟨3, ![3, 3, 11264]⟩
abbrev S11264 : Shape := ⟨1, ![11264]⟩
abbrev S2x64x64x11264 : Shape := ⟨4, ![2, 64, 64, 11264]⟩
abbrev S_ : Shape := ⟨0, ![]⟩
abbrev S2x66x66x11264 : Shape := ⟨4, ![2, 66, 66, 11264]⟩
abbrev S1x1x11264 : Shape := ⟨3, ![1, 1, 11264]⟩
abbrev S1x1x1x11264 : Shape := ⟨4, ![1, 1, 1, 11264]⟩
abbrev S2x4096x5632 : Shape := ⟨3, ![2, 4096, 5632]⟩
abbrev S8192x5632 : Shape := ⟨2, ![8192, 5632]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x3x11264, .f32⟩
  | .hbm, ⟨3, _⟩ => ⟨S1x11264, .f32⟩
  | .hbm, ⟨4, _⟩ => ⟨S8192x2048, .f32⟩
  | .hbm, ⟨5, _⟩ => ⟨S2x4096x2048, .f32⟩
  | .hbm, ⟨6, _⟩ => ⟨S2048x11264, .f32⟩
  | .hbm, ⟨7, _⟩ => ⟨S2x4096x11264, .f32⟩
  | .hbm, ⟨8, _⟩ => ⟨S3x3x11264, .f32⟩
  | .hbm, ⟨9, _⟩ => ⟨S11264, .f32⟩
  | .hbm, ⟨10, _⟩ => ⟨S2x64x64x11264, .f32⟩
  | .hbm, ⟨11, _⟩ => ⟨S_, .i32⟩
  | .hbm, ⟨12, _⟩ => ⟨S_, .f32⟩
  | .hbm, ⟨13, _⟩ => ⟨S2x66x66x11264, .f32⟩
  | .hbm, ⟨14, _⟩ => ⟨S2x64x64x11264, .f32⟩
  | .hbm, ⟨15, _⟩ => ⟨S1x1x11264, .f32⟩
  | .hbm, ⟨16, _⟩ => ⟨S11264, .f32⟩
  | .hbm, ⟨17, _⟩ => ⟨S1x1x1x11264, .f32⟩
  | .hbm, ⟨18, _⟩ => ⟨S2x64x64x11264, .f32⟩
  | .hbm, ⟨19, _⟩ => ⟨S2x64x64x11264, .f32⟩
  | .hbm, ⟨20, _⟩ => ⟨S1x1x1x11264, .f32⟩
  | .hbm, ⟨21, _⟩ => ⟨S2x64x64x11264, .f32⟩
  | .hbm, ⟨22, _⟩ => ⟨S2x64x64x11264, .f32⟩
  | .hbm, ⟨23, _⟩ => ⟨S2x64x64x11264, .f32⟩
  | .hbm, ⟨24, _⟩ => ⟨S1x1x11264, .f32⟩
  | .hbm, ⟨25, _⟩ => ⟨S11264, .f32⟩
  | .hbm, ⟨26, _⟩ => ⟨S1x1x1x11264, .f32⟩
  | .hbm, ⟨27, _⟩ => ⟨S2x64x64x11264, .f32⟩
  | .hbm, ⟨28, _⟩ => ⟨S2x64x64x11264, .f32⟩
  | .hbm, ⟨29, _⟩ => ⟨S2x64x64x11264, .f32⟩
  | .hbm, ⟨30, _⟩ => ⟨S2x64x64x11264, .f32⟩
  | .hbm, ⟨31, _⟩ => ⟨S1x1x11264, .f32⟩
  | .hbm, ⟨32, _⟩ => ⟨S11264, .f32⟩
  | .hbm, ⟨33, _⟩ => ⟨S1x1x1x11264, .f32⟩
  | .hbm, ⟨34, _⟩ => ⟨S2x64x64x11264, .f32⟩
  | .hbm, ⟨35, _⟩ => ⟨S2x64x64x11264, .f32⟩
  | .hbm, ⟨36, _⟩ => ⟨S2x64x64x11264, .f32⟩
  | .hbm, ⟨37, _⟩ => ⟨S2x64x64x11264, .f32⟩
  | .hbm, ⟨38, _⟩ => ⟨S1x1x11264, .f32⟩
  | .hbm, ⟨39, _⟩ => ⟨S11264, .f32⟩
  | .hbm, ⟨40, _⟩ => ⟨S1x1x1x11264, .f32⟩
  | .hbm, ⟨41, _⟩ => ⟨S2x64x64x11264, .f32⟩
  | .hbm, ⟨42, _⟩ => ⟨S2x64x64x11264, .f32⟩
  | .hbm, ⟨43, _⟩ => ⟨S2x64x64x11264, .f32⟩
  | .hbm, ⟨44, _⟩ => ⟨S2x64x64x11264, .f32⟩
  | .hbm, ⟨45, _⟩ => ⟨S1x1x11264, .f32⟩
  | .hbm, ⟨46, _⟩ => ⟨S11264, .f32⟩
  | .hbm, ⟨47, _⟩ => ⟨S1x1x1x11264, .f32⟩
  | .hbm, ⟨48, _⟩ => ⟨S2x64x64x11264, .f32⟩
  | .hbm, ⟨49, _⟩ => ⟨S2x64x64x11264, .f32⟩
  | .hbm, ⟨50, _⟩ => ⟨S2x64x64x11264, .f32⟩
  | .hbm, ⟨51, _⟩ => ⟨S2x64x64x11264, .f32⟩
  | .hbm, ⟨52, _⟩ => ⟨S1x1x11264, .f32⟩
  | .hbm, ⟨53, _⟩ => ⟨S11264, .f32⟩
  | .hbm, ⟨54, _⟩ => ⟨S1x1x1x11264, .f32⟩
  | .hbm, ⟨55, _⟩ => ⟨S2x64x64x11264, .f32⟩
  | .hbm, ⟨56, _⟩ => ⟨S2x64x64x11264, .f32⟩
  | .hbm, ⟨57, _⟩ => ⟨S2x64x64x11264, .f32⟩
  | .hbm, ⟨58, _⟩ => ⟨S2x64x64x11264, .f32⟩
  | .hbm, ⟨59, _⟩ => ⟨S1x1x11264, .f32⟩
  | .hbm, ⟨60, _⟩ => ⟨S11264, .f32⟩
  | .hbm, ⟨61, _⟩ => ⟨S1x1x1x11264, .f32⟩
  | .hbm, ⟨62, _⟩ => ⟨S2x64x64x11264, .f32⟩
  | .hbm, ⟨63, _⟩ => ⟨S2x64x64x11264, .f32⟩
  | .hbm, ⟨64, _⟩ => ⟨S2x64x64x11264, .f32⟩
  | .hbm, ⟨65, _⟩ => ⟨S2x64x64x11264, .f32⟩
  | .hbm, ⟨66, _⟩ => ⟨S1x1x11264, .f32⟩
  | .hbm, ⟨67, _⟩ => ⟨S11264, .f32⟩
  | .hbm, ⟨68, _⟩ => ⟨S1x1x1x11264, .f32⟩
  | .hbm, ⟨69, _⟩ => ⟨S2x64x64x11264, .f32⟩
  | .hbm, ⟨70, _⟩ => ⟨S2x64x64x11264, .f32⟩
  | .hbm, ⟨71, _⟩ => ⟨S2x64x64x11264, .f32⟩
  | .hbm, ⟨72, _⟩ => ⟨S2x64x64x11264, .f32⟩
  | .hbm, ⟨73, _⟩ => ⟨S1x1x11264, .f32⟩
  | .hbm, ⟨74, _⟩ => ⟨S11264, .f32⟩
  | .hbm, ⟨75, _⟩ => ⟨S1x1x1x11264, .f32⟩
  | .hbm, ⟨76, _⟩ => ⟨S2x64x64x11264, .f32⟩
  | .hbm, ⟨77, _⟩ => ⟨S2x64x64x11264, .f32⟩
  | .hbm, ⟨78, _⟩ => ⟨S2x64x64x11264, .f32⟩
  | .hbm, ⟨79, _⟩ => ⟨S2x4096x11264, .f32⟩
  | .hbm, ⟨80, _⟩ => ⟨S2x4096x5632, .f32⟩
  | .hbm, ⟨81, _⟩ => ⟨S2x4096x5632, .f32⟩
  | .hbm, ⟨82, _⟩ => ⟨S2x4096x5632, .f32⟩
  | .hbm, ⟨83, _⟩ => ⟨S2x4096x5632, .f32⟩
  | .hbm, ⟨84, _⟩ => ⟨S_, .f32⟩
  | .hbm, ⟨85, _⟩ => ⟨S2x4096x5632, .f32⟩
  | .hbm, ⟨86, _⟩ => ⟨S2x4096x5632, .f32⟩
  | .hbm, ⟨87, _⟩ => ⟨S2x4096x5632, .f32⟩
  | .hbm, ⟨88, _⟩ => ⟨S_, .f32⟩
  | .hbm, ⟨89, _⟩ => ⟨S2x4096x5632, .f32⟩
  | .hbm, ⟨90, _⟩ => ⟨S2x4096x5632, .f32⟩
  | .hbm, ⟨91, _⟩ => ⟨S2x4096x5632, .f32⟩
  | .hbm, ⟨92, _⟩ => ⟨S_, .f32⟩
  | .hbm, ⟨93, _⟩ => ⟨S2x4096x5632, .f32⟩
  | .hbm, ⟨94, _⟩ => ⟨S2x4096x5632, .f32⟩
  | .hbm, ⟨95, _⟩ => ⟨S_, .f32⟩
  | .hbm, ⟨96, _⟩ => ⟨S2x4096x5632, .f32⟩
  | .hbm, ⟨97, _⟩ => ⟨S2x4096x5632, .f32⟩
  | .hbm, ⟨98, _⟩ => ⟨S2x4096x5632, .f32⟩
  | .hbm, ⟨99, _⟩ => ⟨S2x4096x5632, .f32⟩
  | .hbm, ⟨100, _⟩ => ⟨S8192x5632, .f32⟩
  | .hbm, ⟨101, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_cst : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_cst_0 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_cst_1 : Ref sig .tc := ⟨.hbm, 92, rfl⟩
abbrev main_v84 : Ref sig .tc := ⟨.hbm, 93, rfl⟩
abbrev main_v85 : Ref sig .tc := ⟨.hbm, 94, rfl⟩
abbrev main_cst_2 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩

abbrev nD : Nat := 1
abbrev τ : Topo := Topo.v7x

variable {F : FTy → Type} [FloatOps F]
-- ==== KLast.lean ====
abbrev S8192x5632 : Shape := ⟨2, ![8192, 5632]⟩
abbrev S1x5632x2048 : Shape := ⟨3, ![1, 5632, 2048]⟩
abbrev S8192x2048 : Shape := ⟨2, ![8192, 2048]⟩
abbrev S8x6x1x2048 : Shape := ⟨4, ![8, 6, 1, 2048]⟩
abbrev S2048 : Shape := ⟨1, ![2048]⟩
abbrev S5632x2048 : Shape := ⟨2, ![5632, 2048]⟩
abbrev S1x2048 : Shape := ⟨2, ![1, 2048]⟩
abbrev S256x5632 : Shape := ⟨2, ![256, 5632]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S5632x2048, .f32⟩
  | .hbm, ⟨6, _⟩ => ⟨S5632x2048, .bf16⟩
  | .hbm, ⟨7, _⟩ => ⟨S1x2048, .f32⟩
  | .hbm, ⟨8, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c5_i32 : BitVec 32 := 5#32
  let c0_i32_5 : BitVec 32 := 0#32
  let c0_i32_6 : BitVec 32 := 0#32
  let c0_i32_7 : BitVec 32 := 0#32
  ![v18.toNat, c5_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RLastIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S8x6x1x2048 : Shape := ⟨4, ![8, 6, 1, 2048]⟩
abbrev S2048 : Shape := ⟨1, ![2048]⟩
abbrev S5632x2048 : Shape := ⟨2, ![5632, 2048]⟩
abbrev S2x4096x2048 : Shape := ⟨3, ![2, 4096, 2048]⟩
abbrev S2x1x1x2048 : Shape := ⟨4, ![2, 1, 1, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2x1x1x2048, .f32⟩
  | .hbm, ⟨11, _⟩ => ⟨S2x1x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S1x1x2048, .f32⟩
  | .hbm, ⟨29, _⟩ => ⟨S2x4096x2048, .f32⟩
  | .hbm, ⟨30, _⟩ => ⟨S2x4096x2048, .f32⟩
  | .hbm, ⟨31, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== KAda.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RAdaIdeal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KMlp.lean ====
abbrev S512x128 : Shape := ⟨2, ![512, 128]⟩
abbrev S1x33x64 : Shape := ⟨3, ![1, 33, 64]⟩
abbrev S1x64 : Shape := ⟨2, ![1, 64]⟩
abbrev S1x64x64 : Shape := ⟨3, ![1, 64, 64]⟩
abbrev S_ : Shape := ⟨0, ![]⟩
abbrev S128x64 : Shape := ⟨2, ![128, 64]⟩
abbrev S33x64 : Shape := ⟨2, ![33, 64]⟩
abbrev S1 : Shape := ⟨1, ![1]⟩
abbrev S64 : Shape := ⟨1, ![64]⟩
abbrev S64x64 : Shape := ⟨2, ![64, 64]⟩
abbrev S512x64 : Shape := ⟨2, ![512, 64]⟩

abbrev nBuf : Space → Nat
  | .hbm => 25
  | .vmem => 9
  | .smem => 0
  | _ => 0

abbrev bufTy : (tb : Table) → Fin (tcTables nBuf tb) → BufTy
  | .hbm, ⟨0, _⟩ => ⟨S512x128, .f32⟩
  | .hbm, ⟨1, _⟩ => ⟨S1x33x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64x64, .f32⟩
  | .hbm, ⟨6, _⟩ => ⟨S1x64, .f32⟩
  | .hbm, ⟨7, _⟩ => ⟨S1x64, .f32⟩
  | .hbm, ⟨8, _⟩ => ⟨S_, .f32⟩
  | .hbm, ⟨9, _⟩ => ⟨S128x64, .f32⟩
  | .hbm, ⟨10, _⟩ => ⟨S33x64, .f32⟩
  | .hbm, ⟨11, _⟩ => ⟨S_, .i32⟩
  | .hbm, ⟨12, _⟩ => ⟨S1, .i32⟩
  | .hbm, ⟨13, _⟩ => ⟨S128x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S512x64, .f32⟩
  | .local _ .vmem, ⟨0, _⟩ => ⟨S512x128, .f32⟩
  | .local _ .vmem, ⟨1, _⟩ => ⟨S128x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S512x64, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== RMlpIdeal.lean ====
abbrev S512x128 : Shape := ⟨2, ![512, 128]⟩
abbrev S1x33x64 : Shape := ⟨3, ![1, 33, 64]⟩
abbrev S1x64 : Shape := ⟨2, ![1, 64]⟩
abbrev S1x64x64 : Shape := ⟨3, ![1, 64, 64]⟩
abbrev S64 : Shape := ⟨1, ![64]⟩
abbrev S512x33 : Shape := ⟨2, ![512, 33]⟩
abbrev S33x64 : Shape := ⟨2, ![33, 64]⟩
abbrev S512x64 : Shape := ⟨2, ![512, 64]⟩
abbrev S64x64 : Shape := ⟨2, ![64, 64]⟩

abbrev nBuf : Space → Nat
  | .hbm => 42
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S1x33x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64x64, .f32⟩
  | .hbm, ⟨6, _⟩ => ⟨S1x64, .f32⟩
  | .hbm, ⟨7, _⟩ => ⟨S1x64, .f32⟩
  | .hbm, ⟨8, _⟩ => ⟨S64, .f32⟩
  | .hbm, ⟨9, _⟩ => ⟨S512x33, .f32⟩
  | .hbm, ⟨10, _⟩ => ⟨S33x64, .f32⟩
  | .hbm, ⟨11, _⟩ => ⟨S512x64, .f32⟩
  | .hbm, ⟨12, _⟩ => ⟨S64, .f32⟩
  | .hbm, ⟨13, _⟩ => ⟨S1x64, .f32⟩
  | .hbm, ⟨14, _⟩ => ⟨S512x64, .f32⟩
  | .hbm, ⟨15, _⟩ => ⟨S512x64, .f32⟩
  | .hbm, ⟨16, _⟩ => ⟨S1x64, .f32⟩
  | .hbm, ⟨17, _⟩ => ⟨S512x64, .f32⟩
  | .hbm, ⟨18, _⟩ => ⟨S512x64, .f32⟩
  | .hbm, ⟨19, _⟩ => ⟨S512x64, .f32⟩
  | .hbm, ⟨20, _⟩ => ⟨S64, .f32⟩
  | .hbm, ⟨21, _⟩ => ⟨S64x64, .f32⟩
  | .hbm, ⟨22, _⟩ => ⟨S512x64, .f32⟩
  | .hbm, ⟨23, _⟩ => ⟨S64, .f32⟩
  | .hbm, ⟨24, _⟩ => ⟨S1x64, .f32⟩
  | .hbm, ⟨25, _⟩ => ⟨S512x64, .f32⟩
  | .hbm, ⟨26, _⟩ => ⟨S512x64, .f32⟩
  | .hbm, ⟨27, _⟩ => ⟨S1x64, .f32⟩
  | .hbm, ⟨28, _⟩ => ⟨S512x64, .f32⟩
  | .hbm, ⟨29, _⟩ => ⟨S512x64, .f32⟩
  | .hbm, ⟨30, _⟩ => ⟨S512x64, .f32⟩
  | .hbm, ⟨31, _⟩ => ⟨S64, .f32⟩
  | .hbm, ⟨32, _⟩ => ⟨S64x64, .f32⟩
  | .hbm, ⟨33, _⟩ => ⟨S512x64, .f32⟩
  | .hbm, ⟨34, _⟩ => ⟨S64, .f32⟩
  | .hbm, ⟨35, _⟩ => ⟨S1x64, .f32⟩
  | .hbm, ⟨36, _⟩ => ⟨S512x64, .f32⟩
  | .hbm, ⟨37, _⟩ => ⟨S512x64, .f32⟩
  | .hbm, ⟨38, _⟩ => ⟨S1x64, .f32⟩
  | .hbm, ⟨39, _⟩ => ⟨S512x64, .f32⟩
  | .hbm, ⟨40, _⟩ => ⟨S512x64, .f32⟩
  | .hbm, ⟨41, _⟩ => ⟨S512x64, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.ScanLoop.lean ====
/- The S5 scan's loop (`KScan`): what the loop's state and the scratch of the states hold after each chunk. -/
module

public import proofs.«01_k».proof.Defs
public import proofs.«01_k».proof.Proof.Gen.KScanIdeal.Value
public import Idealize.ShloMosaic.Lib.Pointwise
public import Idealize.ShloMosaic.Lib.Exec
public import Idealize.ShloMosaic.Lib.VecWindow

@[expose] public section

set_option maxRecDepth 16384

noncomputable section

open Idealize.ShloMosaic Idealize.ShloMosaic.TcCoe Idealize.SL.Sem

namespace Cert.Scan

/-- One lane's complex recurrence `s ↦ λ s + x`, on real and imaginary parts, from the state `a + b i`. -/
def scan (lr li a b : EReal) (x y : ℕ → EReal) : ℕ → EReal × EReal
  | 0 => (a, b)
  | k + 1 => (lr * (scan lr li a b x y k).1 - li * (scan lr li a b x y k).2 + x k,
              lr * (scan lr li a b x y k).2 + li * (scan lr li a b x y k).1 + y k)

open Cert.KScanIdeal Cert.KScanIdeal.Gen

/-- The lanes of the real and of the imaginary part. -/
abbrev lo (l : Fin 128) : Fin 256 := ⟨l.val, by omega⟩
abbrev hi (l : Fin 128) : Fin 256 := ⟨128 + l.val, by omega⟩

/-- The row that lane `l` of sequence `b` takes at step `k`: the forward lanes go up through the chunks and the backward lanes down. -/
def rowOf (k : ℕ) (b : Fin 32) (l : Fin 128) : Fin 512 := ⟨(if l.val < 64 then 32 * k + b.val else 480 - 32 * k + b.val) % 512, Nat.mod_lt _ (by decide)⟩

theorem sel_apply (a b : FVec Ideal S32x128 .f32) (r : Fin 32) (l : Fin 128) :
    select k0_pay27 a b (ix2 r l) = if l.val < 64 then a (ix2 r l) else b (ix2 r l) := by
  have h : k0_pay27 (ix2 r l) = if l.val < 64 then 1#1 else 0#1 := by
    revert r l
    have : ∀ l : Fin 128, k0_pay27 (ix2 0 l) = if l.val < 64 then 1#1 else 0#1 := by decide +kernel
    exact fun r l => this l
  show (if k0_pay27 (ix2 r l) = 1#1 then _ else _) = _
  rw [h]
  by_cases hl : l.val < 64
  · rw [if_pos hl, if_pos rfl, if_pos hl]
  · rw [if_neg hl, if_neg (by decide), if_neg hl]

theorem up_apply (a : FVec Ideal S32x128 .f32) (g : Fin 1) (r : Fin 32) (l : Fin 128) :
    shapeCast S1x32x128 a shapeCasts_S32x128_S1x32x128 (ix3 g r l) = a (ix2 r l) := by pointwise
theorem down_apply (a : FVec Ideal S1x32x128 .f32) (r : Fin 32) (l : Fin 128) :
    shapeCast S32x128 a shapeCasts_S1x32x128_S32x128 (ix2 r l) = a (ix3 0 r l) := by pointwise

/-- `P` with the lanes of one direction of `w` over chunk `q` of group `g`, in the real (`h = 0`) or the imaginary (`h = 1`) half. -/
def over (P : FVec Ideal S2x512x256 .f32) (g q h : ℕ) (fwd : Prop) [Decidable fwd] (w : FVec Ideal S32x128 .f32) : FVec Ideal S2x512x256 .f32 := fun y =>
  if (y 0).val = g ∧ (y 1).val / 32 = q ∧ (y 2).val / 128 = h ∧ ((y 2).val % 128 < 64 ↔ fwd)
    then w (ix2 ⟨(y 1).val % 32, Nat.mod_lt _ (by decide)⟩ ⟨(y 2).val % 128, Nat.mod_lt _ (by decide)⟩) else P y

theorem put_apply (P : FVec Ideal S2x512x256 .f32) (g q h : ℕ) (off : Fin 3 → ℕ) (h0 : off 0 = g) (h1 : off 1 = 32 * q) (h2 : off 2 = 128 * h)
    (w : FVec Ideal S32x128 .f32) (y : S2x512x256.Idx) :
    VecWindow.put P off S1x32x128.size (shapeCast S1x32x128 w shapeCasts_S32x128_S1x32x128) y
      = if (y 0).val = g ∧ (y 1).val / 32 = q ∧ (y 2).val / 128 = h
          then w (ix2 ⟨(y 1).val % 32, Nat.mod_lt _ (by decide)⟩ ⟨(y 2).val % 128, Nat.mod_lt _ (by decide)⟩) else P y := by
  unfold VecWindow.put
  by_cases hy : (y 0).val = g ∧ (y 1).val / 32 = q ∧ (y 2).val / 128 = h
  · have hh : ∀ a : Fin 3, off a ≤ (y a).val ∧ (y a).val < off a + S1x32x128.size a := by
      intro a
      match a with
      | ⟨0, _⟩ => show off 0 ≤ (y 0).val ∧ (y 0).val < off 0 + 1; omega
      | ⟨1, _⟩ => show off 1 ≤ (y 1).val ∧ (y 1).val < off 1 + 32; omega
      | ⟨2, _⟩ => show off 2 ≤ (y 2).val ∧ (y 2).val < off 2 + 128; omega
    rw [dif_pos hh, if_pos hy]
    refine Eq.trans (congrArg _ ?_) (up_apply w 0 ⟨(y 1).val % 32, Nat.mod_lt _ (by decide)⟩ ⟨(y 2).val % 128, Nat.mod_lt _ (by decide)⟩)
    refine funext fun a => Fin.ext ?_
    match a with
    | ⟨0, _⟩ => show (y 0).val - off 0 = 0; omega
    | ⟨1, _⟩ => show (y 1).val - off 1 = (y 1).val % 32; omega
    | ⟨2, _⟩ => show (y 2).val - off 2 = (y 2).val % 128; omega
  · have hh : ¬ ∀ a : Fin 3, off a ≤ (y a).val ∧ (y a).val < off a + S1x32x128.size a := fun H => by
      have a0 : off 0 ≤ (y 0).val ∧ (y 0).val < off 0 + 1 := H 0
      have a1 : off 1 ≤ (y 1).val ∧ (y 1).val < off 1 + 32 := H 1
      have a2 : off 2 ≤ (y 2).val ∧ (y 2).val < off 2 + 128 := H 2
      exact hy ⟨by omega, by omega, by omega⟩
    rw [dif_neg hh, if_neg hy]

theorem window_apply (P : FVec Ideal S2x512x256 .f32) (off : Fin 3 → ℕ) (inb : ∀ a, off a + S1x32x128.size a ≤ S2x512x256.size a)
    (y : S2x512x256.Idx) (q h : ℕ) (h0 : off 0 = (y 0).val) (h1 : off 1 = 32 * q) (h2 : off 2 = 128 * h) (e1 : (y 1).val / 32 = q) (e2 : (y 2).val / 128 = h) :
    shapeCast S32x128 (VecWindow.window P off S1x32x128.size inb) shapeCasts_S1x32x128_S32x128 (ix2 ⟨(y 1).val % 32, Nat.mod_lt _ (by decide)⟩ ⟨(y 2).val % 128, Nat.mod_lt _ (by decide)⟩) = P y := by
  refine (down_apply _ _ _).trans (congrArg P ?_)
  refine funext fun a => Fin.ext ?_
  match a with
  | ⟨0, _⟩ => show off 0 + 1 * 0 = (y 0).val; omega
  | ⟨1, _⟩ => show off 1 + 1 * ((y 1).val % 32) = (y 1).val; omega
  | ⟨2, _⟩ => show off 2 + 1 * ((y 2).val % 128) = (y 2).val; omega

/-- A masked store of the forward lanes. -/
theorem put_fwd (P : FVec Ideal S2x512x256 .f32) (g q h : ℕ) (off : Fin 3 → ℕ) (h0 : off 0 = g) (h1 : off 1 = 32 * q) (h2 : off 2 = 128 * h)
    (inb : ∀ a, off a + S1x32x128.size a ≤ S2x512x256.size a) (w : FVec Ideal S32x128 .f32) :
    VecWindow.put P off S1x32x128.size (shapeCast S1x32x128 (select k0_pay27 w (shapeCast S32x128 (VecWindow.window P off S1x32x128.size inb) shapeCasts_S1x32x128_S32x128)) shapeCasts_S32x128_S1x32x128)
      = over P g q h True w := by
  funext y
  rw [put_apply P g q h off h0 h1 h2]
  unfold over
  by_cases hy : (y 0).val = g ∧ (y 1).val / 32 = q ∧ (y 2).val / 128 = h
  · rw [if_pos hy, sel_apply]
    by_cases hl : (y 2).val % 128 < 64
    · rw [if_pos hl, if_pos ⟨hy.1, hy.2.1, hy.2.2, by simpa using hl⟩]
    · rw [if_neg hl, if_neg (fun H => hl (H.2.2.2.2 trivial))]
      exact window_apply P off inb y q h (h0.trans hy.1.symm) h1 h2 hy.2.1 hy.2.2
  · rw [if_neg hy, if_neg (fun H => hy ⟨H.1, H.2.1, H.2.2.1⟩)]

/-- A masked store of the backward lanes. -/
theorem put_bwd (P : FVec Ideal S2x512x256 .f32) (g q h : ℕ) (off : Fin 3 → ℕ) (h0 : off 0 = g) (h1 : off 1 = 32 * q) (h2 : off 2 = 128 * h)
    (inb : ∀ a, off a + S1x32x128.size a ≤ S2x512x256.size a) (w : FVec Ideal S32x128 .f32) :
    VecWindow.put P off S1x32x128.size (shapeCast S1x32x128 (select k0_pay27 (shapeCast S32x128 (VecWindow.window P off S1x32x128.size inb) shapeCasts_S1x32x128_S32x128) w) shapeCasts_S32x128_S1x32x128)
      = over P g q h False w := by
  funext y
  rw [put_apply P g q h off h0 h1 h2]
  unfold over
  by_cases hy : (y 0).val = g ∧ (y 1).val / 32 = q ∧ (y 2).val / 128 = h
  · rw [if_pos hy, sel_apply]
    by_cases hl : (y 2).val % 128 < 64
    · rw [if_pos hl, if_neg (fun H => H.2.2.2.1 hl)]
      exact window_apply P off inb y q h (h0.trans hy.1.symm) h1 h2 hy.2.1 hy.2.2
    · rw [if_neg hl, if_pos ⟨hy.1, hy.2.1, hy.2.2, by simpa using hl⟩]
  · rw [if_neg hy, if_neg (fun H => hy ⟨H.1, H.2.1, H.2.2.1⟩)]

theorem window_over (P : FVec Ideal S2x512x256 .f32) (g q h : ℕ) (fwd : Prop) [Decidable fwd] (w : FVec Ideal S32x128 .f32) (off : Fin 3 → ℕ) (h' : ℕ) (h2 : off 2 = 128 * h')
    (inb : ∀ a, off a + S1x32x128.size a ≤ S2x512x256.size a) (hd : off 0 ≠ g ∨ h' ≠ h) :
    VecWindow.window (over P g q h fwd w) off S1x32x128.size inb = VecWindow.window P off S1x32x128.size inb := by
  refine funext fun (j : S1x32x128.Idx) => ?_
  refine if_neg fun H => ?_
  have j0 : (j 0).val < 1 := (j 0).isLt
  have j2 : (j 2).val < 128 := (j 2).isLt
  have a0 : off 0 + 1 * (j 0).val = g := H.1
  have a2 : (off 2 + 1 * (j 2).val) / 128 = h := H.2.2.1
  omega

section
variable (v : View sig .tc .vmem S2x512x256 .f32) (f f' : v.ty.Contents (Elt Ideal)) (L : List (View.Piece (Elt Ideal) S2x512x256 .f32))
  (off : Fin 3 → ℕ) (g q h : ℕ) (h0 : off 0 = g) (h1 : off 1 = 32 * q) (h2 : off 2 = 128 * h)
  (inb inb' : ∀ a, off a + S1x32x128.size a ≤ S2x512x256.size a) (w : FVec Ideal S32x128 .f32)
  (hf : VecWindow.window (v.read (Elt Ideal) f') off S1x32x128.size inb = VecWindow.window (v.read (Elt Ideal) (v.writes (Elt Ideal) f L)) off S1x32x128.size inb)
include h0 h1 h2 hf

/-- A load, a choice of the forward lanes, and a store over earlier stores. -/
theorem store_fwd : v.read (Elt Ideal) (v.writes (Elt Ideal) f (⟨Rect.unit (s := S2x512x256) off S1x32x128.size inb,
      shapeCast S1x32x128 (select k0_pay27 w (shapeCast S32x128 (v.readAt (Elt Ideal) (Rect.unit (s := S2x512x256) off S1x32x128.size inb').toLoadRect f') shapeCasts_S1x32x128_S32x128)) shapeCasts_S32x128_S1x32x128⟩ :: L))
    = over (v.read (Elt Ideal) (v.writes (Elt Ideal) f L)) g q h True w := by
  rw [View.read_writes_cons_put v f inb _ L rfl, View.readAt_unit v f' inb' rfl inb, hf]
  exact put_fwd _ g q h off h0 h1 h2 inb w

/-- The same for the backward lanes. -/
theorem store_bwd : v.read (Elt Ideal) (v.writes (Elt Ideal) f (⟨Rect.unit (s := S2x512x256) off S1x32x128.size inb,
      shapeCast S1x32x128 (select k0_pay27 (shapeCast S32x128 (v.readAt (Elt Ideal) (Rect.unit (s := S2x512x256) off S1x32x128.size inb').toLoadRect f') shapeCasts_S1x32x128_S32x128) w) shapeCasts_S32x128_S1x32x128⟩ :: L))
    = over (v.read (Elt Ideal) (v.writes (Elt Ideal) f L)) g q h False w := by
  rw [View.read_writes_cons_put v f inb _ L rfl, View.readAt_unit v f' inb' rfl inb, hf]
  exact put_bwd _ g q h off h0 h1 h2 inb w
end

theorem load_apply (v : View sig .tc .vmem S2x512x256 .f32) (f : v.ty.Contents (Elt Ideal)) (off : Fin 3 → ℕ) (inb : ∀ a, off a + S1x32x128.size a ≤ S2x512x256.size a)
    (r : Fin 32) (l : Fin 128) (g : Fin 2) (R : Fin 512) (C : Fin 256) (h0 : off 0 = g.val) (h1 : off 1 + r.val = R.val) (h2 : off 2 + l.val = C.val) :
    v.readAt (Elt Ideal) (Rect.unit (s := S2x512x256) off S1x32x128.size inb).toLoadRect f (ix3 0 r l) = v.read (Elt Ideal) f (ix3 g R C) := by
  refine congrArg (v.read (Elt Ideal) f) (funext fun a => Fin.ext ?_)
  match a with
  | ⟨0, _⟩ => show off 0 + 1 * 0 = g.val; omega
  | ⟨1, _⟩ => show off 1 + 1 * r.val = R.val; omega
  | ⟨2, _⟩ => show off 2 + 1 * l.val = C.val; omega

/-- The two chunks' loads and the choice between them read the lane's own row. -/
theorem load_pair (v : View sig .tc .vmem S2x512x256 .f32) (f : v.ty.Contents (Elt Ideal)) (k : ℕ) (hk : k ≤ 15) (r : Fin 32) (l : Fin 128) (g : Fin 2) (C : Fin 256)
    (off off' : Fin 3 → ℕ) (inb : ∀ a, off a + S1x32x128.size a ≤ S2x512x256.size a) (inb' : ∀ a, off' a + S1x32x128.size a ≤ S2x512x256.size a)
    (h0 : off 0 = g.val) (h1 : off 1 = 32 * k) (h2 : off 2 + l.val = C.val) (h0' : off' 0 = g.val) (h1' : off' 1 = 480 - 32 * k) (h2' : off' 2 + l.val = C.val) :
    (if l.val < 64 then v.readAt (Elt Ideal) (Rect.unit (s := S2x512x256) off S1x32x128.size inb).toLoadRect f (ix3 0 r l)
      else v.readAt (Elt Ideal) (Rect.unit (s := S2x512x256) off' S1x32x128.size inb').toLoadRect f (ix3 0 r l)) = v.read (Elt Ideal) f (ix3 g (rowOf k r l) C) := by
  by_cases hl : l.val < 64
  · rw [if_pos hl]
    exact load_apply v f off inb r l g _ C h0 (by show _ = (if l.val < 64 then 32 * k + r.val else 480 - 32 * k + r.val) % 512; rw [if_pos hl]; omega) h2
  · rw [if_neg hl]
    exact load_apply v f off' inb' r l g _ C h0' (by show _ = (if l.val < 64 then 32 * k + r.val else 480 - 32 * k + r.val) % 512; rw [if_neg hl]; omega) h2'

theorem load_lam (v : View sig .tc .vmem S2x1x256 .f32) (f : v.ty.Contents (Elt Ideal)) (off : Fin 3 → ℕ) (inb : ∀ a, off a + S1x1x256.size a ≤ S2x1x256.size a)
    (l : Fin 256) (g : Fin 2) (h0 : off 0 = g.val) (h1 : off 1 = 0) (h2 : off 2 = 0) :
    v.readAt (Elt Ideal) (Rect.unit (s := S2x1x256) off S1x1x256.size inb).toLoadRect f (ix3 0 0 l) = v.read (Elt Ideal) f (ix3 g 0 l) := by
  refine congrArg (v.read (Elt Ideal) f) (funext fun a => Fin.ext ?_)
  match a with
  | ⟨0, _⟩ => show off 0 + 1 * 0 = g.val; omega
  | ⟨1, _⟩ => show off 1 + 1 * 0 = 0; omega
  | ⟨2, _⟩ => show off 2 + 1 * l.val = l.val; omega

theorem pay12_apply (a0 a1 : FVec Ideal S32x128 .f32) (u w : FVec Ideal S1x32x128 .f32) (lam : FVec Ideal S1x1x256 .f32) (r : Fin 32) (l : Fin 128) :
    k0_pay12 k0_pay27 a0 a1 u w lam (ix2 r l)
      = lam (ix3 0 0 (lo l)) * a0 (ix2 r l) - lam (ix3 0 0 (hi l)) * a1 (ix2 r l) + (if l.val < 64 then u (ix3 0 r l) else w (ix3 0 r l)) := by
  rw [← down_apply u, ← down_apply w, ← sel_apply]
  unfold k0_pay12 k0_pay10 k0_pay11 k0_pay9
  dsimp only
  generalize select k0_pay27 _ _ = S
  pointwise
theorem pay13_apply (a0 a1 : FVec Ideal S32x128 .f32) (u w : FVec Ideal S1x32x128 .f32) (lam : FVec Ideal S1x1x256 .f32) (r : Fin 32) (l : Fin 128) :
    k0_pay13 k0_pay27 a0 a1 u w lam (ix2 r l)
      = lam (ix3 0 0 (lo l)) * a1 (ix2 r l) + lam (ix3 0 0 (hi l)) * a0 (ix2 r l) + (if l.val < 64 then u (ix3 0 r l) else w (ix3 0 r l)) := by
  rw [← down_apply u, ← down_apply w, ← sel_apply]
  unfold k0_pay13 k0_pay10 k0_pay11 k0_pay9
  dsimp only
  generalize select k0_pay27 _ _ = S
  pointwise

/-- The second group's update is the first's. -/
theorem pay36_eq (a0 a1 : FVec Ideal S32x128 .f32) (u w : FVec Ideal S1x32x128 .f32) (lam : FVec Ideal S1x1x256 .f32) :
    k0_pay36 a0 a1 (select k0_pay27 (shapeCast S32x128 u shapeCasts_S1x32x128_S32x128) (shapeCast S32x128 w shapeCasts_S1x32x128_S32x128)) lam = k0_pay12 k0_pay27 a0 a1 u w lam := rfl
theorem pay37_eq (a0 a1 : FVec Ideal S32x128 .f32) (u w : FVec Ideal S1x32x128 .f32) (lam : FVec Ideal S1x1x256 .f32) :
    k0_pay37 a0 a1 (select k0_pay27 (shapeCast S32x128 u shapeCasts_S1x32x128_S32x128) (shapeCast S32x128 w shapeCasts_S1x32x128_S32x128)) lam = k0_pay13 k0_pay27 a0 a1 u w lam := rfl

/-- The states before each chunk, of every lane: what the loop's chunks up to the `k`th have put over `P`. -/
def turn (y : S2x512x256.Idx) : ℕ := if (y 2).val % 128 < 64 then (y 1).val / 32 else 15 - (y 1).val / 32
def filled (S : Fin 2 → Fin 32 → Fin 128 → ℕ → EReal × EReal) (P : FVec Ideal S2x512x256 .f32) (k : ℕ) : FVec Ideal S2x512x256 .f32 := fun y =>
  if turn y < k then
    (if (y 2).val / 128 = 0 then (S (y 0) ⟨(y 1).val % 32, Nat.mod_lt _ (by decide)⟩ ⟨(y 2).val % 128, Nat.mod_lt _ (by decide)⟩ (turn y)).1
      else (S (y 0) ⟨(y 1).val % 32, Nat.mod_lt _ (by decide)⟩ ⟨(y 2).val % 128, Nat.mod_lt _ (by decide)⟩ (turn y)).2)
  else P y

theorem filled_succ (S : Fin 2 → Fin 32 → Fin 128 → ℕ → EReal × EReal) (P : FVec Ideal S2x512x256 .f32) (k : ℕ) (hk : k ≤ 15) (w0 w1 w2 w3 : FVec Ideal S32x128 .f32)
    (hw0 : ∀ r l, (w0 (ix2 r l), w1 (ix2 r l)) = S 0 r l k) (hw1 : ∀ r l, (w2 (ix2 r l), w3 (ix2 r l)) = S 1 r l k) :
    over (over (over (over (over (over (over (over (filled S P k) 0 k 0 True w0) 0 (15 - k) 0 False w0) 0 k 1 True w1) 0 (15 - k) 1 False w1)
          1 k 0 True w2) 1 (15 - k) 0 False w2) 1 k 1 True w3) 1 (15 - k) 1 False w3 = filled S P (k + 1) := by
  funext y
  have y0 : (y 0).val < 2 := (y 0).isLt
  have y1 : (y 1).val < 512 := (y 1).isLt
  have y2 : (y 2).val < 256 := (y 2).isLt
  have a0 : ∀ r l, w0 (ix2 r l) = (S 0 r l k).1 := fun r l => congrArg Prod.fst (hw0 r l)
  have a1 : ∀ r l, w1 (ix2 r l) = (S 0 r l k).2 := fun r l => congrArg Prod.snd (hw0 r l)
  have a2 : ∀ r l, w2 (ix2 r l) = (S 1 r l k).1 := fun r l => congrArg Prod.fst (hw1 r l)
  have a3 : ∀ r l, w3 (ix2 r l) = (S 1 r l k).2 := fun r l => congrArg Prod.snd (hw1 r l)
  unfold over filled
  simp only [a0, a1, a2, a3, iff_true, iff_false]
  have ht : turn y = k ↔ ((y 2).val % 128 < 64 ∧ (y 1).val / 32 = k) ∨ (¬ (y 2).val % 128 < 64 ∧ (y 1).val / 32 = 15 - k) := by
    unfold turn
    split <;> omega
  have e0 : (y 0).val = 0 → y 0 = (0 : Fin 2) := fun h => Fin.ext h
  have e1 : (y 0).val = 1 → y 0 = (1 : Fin 2) := fun h => Fin.ext h
  generalize turn y = t at ht ⊢
  have hg : (y 0).val = 0 ∨ (y 0).val = 1 := by omega
  have hh : (y 2).val / 128 = 0 ∨ (y 2).val / 128 = 1 := by omega
  rcases hg with hg | hg <;> rcases hh with hh | hh <;> by_cases hl : (y 2).val % 128 < 64
  all_goals
    simp only [hl, not_true, not_false_eq_true, true_and, false_and, or_false, false_or] at ht
    simp only [hg, hh, hl, zero_ne_one, one_ne_zero, not_true, not_false_eq_true, true_and, false_and, and_true, and_false, if_true, if_false, ← ht]
    first | rw [e0 hg] | rw [e1 hg]
    by_cases hq : t = k
    · subst hq
      simp only [if_true, Nat.lt_succ_self]
    · simp only [hq, if_false, show (t < k + 1) = (t < k) from propext (by omega)]

section
variable (𝒱 : Variants) (c : Dev nD) (bd : Option 𝒱.V) (i : grid0.Coords) (arg1 : Memref sig .tc .vmem S2x512x256 .bf16) (harg1 : arg1.IsWhole) (arg2 : Memref sig .tc .vmem S2x256x768 .bf16) (harg2 : arg2.IsWhole) (arg3 : Memref sig .tc .vmem S2x256x256 .bf16) (harg3 : arg3.IsWhole) (arg4 : Memref sig .tc .vmem S2x1x256 .f32) (harg4 : arg4.IsWhole) (arg5 : Memref sig .tc .vmem S2x32x256 .f32) (harg5 : arg5.IsWhole) (arg6 : Memref sig .tc .vmem S2x512x256 .bf16) (harg6 : arg6.IsWhole) (arg7 : Memref sig .tc .vmem S2x32x256 .f32) (harg7 : arg7.IsWhole) (arg8 : Memref sig .tc .vmem S2x512x256 .f32) (harg8 : arg8.IsWhole) (arg9 : Memref sig .tc .vmem S2x512x256 .f32) (harg9 : arg9.IsWhole) (arg10 : Memref sig .tc .vmem S2x512x256 .f32) (harg10 : arg10.IsWhole) (v29 : FVec Ideal S1x512x256 .f32) (X4 : BufTy.Contents (Elt Ideal) arg4.view.ty) (X9 : BufTy.Contents (Elt Ideal) arg9.view.ty)

theorem trips_le (k : Fin k0_t1_loop.trips) : k.val ≤ 15 := by
  have := k0_t1_abs.2.1
  have := k.isLt
  omega

variable (acc : FVec Ideal S32x128 .f32 × FVec Ideal S32x128 .f32 × FVec Ideal S32x128 .f32 × FVec Ideal S32x128 .f32) (f : BufTy.Contents (Elt Ideal) arg10.view.ty)

/-- What a trip's eight stores leave: each group's state in its chunk, the forward lanes in chunk `k` and the backward lanes in chunk `15 - k`. -/
theorem tripL_read (k : Fin k0_t1_loop.trips) :
    arg10.view.read (Elt Ideal) (arg10.view.writes (Elt Ideal) f (tripL_k0_t1 (F := Ideal) 𝒱 c bd i arg1 harg1 arg2 harg2 arg3 harg3 arg4 harg4 arg5 harg5 arg6 harg6 arg7 harg7 arg8 harg8 arg9 harg9 arg10 harg10 v29 X4 X9 k acc f))
      = over (over (over (over (over (over (over (over (arg10.view.read (Elt Ideal) f) 0 k 0 True acc.1) 0 (15 - k) 0 False acc.1) 0 k 1 True acc.2.1) 0 (15 - k) 1 False acc.2.1)
          1 k 0 True acc.2.2.1) 1 (15 - k) 0 False acc.2.2.1) 1 k 1 True acc.2.2.2) 1 (15 - k) 1 False acc.2.2.2 := by
  have hk := trips_le k
  have o1 := k0_off1_eq k
  have o2 := k0_off2_eq k
  have o3 := k0_off3_eq k
  have o4 := k0_off4_eq k
  have o5 := k0_off5_eq k
  have o6 := k0_off6_eq k
  have o7 := k0_off7_eq k
  have o8 := k0_off8_eq k
  have hb : ∀ {x : ℕ}, x = 480 - 32 * k.val → x = 32 * (15 - k.val) := fun h => by omega
  have r1 : arg10.view.read (Elt Ideal) (arg10.view.writes (Elt Ideal) f (trip_k0_t1.sl.HW_arg10_1 arg10 k acc f)) = over (arg10.view.read (Elt Ideal) f) 0 k 0 True acc.1 :=
    store_fwd arg10.view f f [] (k0_off1 k) 0 k 0 (congrFun o1 0) (congrFun o1 1) (congrFun o1 2) (k0_off1_inb k) (k0_off1_inb k) acc.1 rfl
  let P := arg10.view.read (Elt Ideal) f
  let P1 := over P 0 k 0 True acc.1
  let P2 := over P1 0 (15 - k) 0 False acc.1
  let P3 := over P2 0 k 1 True acc.2.1
  let P4 := over P3 0 (15 - k) 1 False acc.2.1
  let P5 := over P4 1 k 0 True acc.2.2.1
  let P6 := over P5 1 (15 - k) 0 False acc.2.2.1
  let P7 := over P6 1 k 1 True acc.2.2.2
  have r2 : arg10.view.read (Elt Ideal) (arg10.view.writes (Elt Ideal) f (⟨Rect.unit (s := S2x512x256) (k0_off2 k) S1x32x128.size (k0_off2_inb k), trip_k0_t1.sl.v105 arg10 k acc f⟩ :: trip_k0_t1.sl.HW_arg10_1 arg10 k acc f)) = P2 :=
    (store_bwd arg10.view f _ (trip_k0_t1.sl.HW_arg10_1 arg10 k acc f) (k0_off2 k) 0 (15 - k) 0 (congrFun o2 0) (hb (congrFun o2 1)) (congrFun o2 2) (k0_off2_inb k) (k0_off2_inb k) acc.1 rfl).trans
      (congrArg (fun x => over x 0 (15 - k.val) 0 False acc.1) r1)
  have r3 : arg10.view.read (Elt Ideal) (arg10.view.writes (Elt Ideal) f (trip_k0_t1.sl.HW_arg10_3 arg10 k acc f)) = P3 := by
    refine (store_fwd arg10.view f f _ (k0_off3 k) 0 k 1 (congrFun o3 0) (congrFun o3 1) (congrFun o3 2) (k0_off3_inb k) (k0_off3_inb k) acc.2.1 ?_).trans
      (congrArg (fun x => over x 0 k.val 1 True acc.2.1) r2)
    refine Eq.trans ?_ (congrArg (fun x => VecWindow.window x _ _ _) r2).symm
    dsimp only [P2, P1]
    rw [window_over _ _ _ _ _ _ _ 1 (congrFun o3 2) _ (Or.inr (by decide)), window_over _ _ _ _ _ _ _ 1 (congrFun o3 2) _ (Or.inr (by decide))]
  have r4 : arg10.view.read (Elt Ideal) (arg10.view.writes (Elt Ideal) f (⟨Rect.unit (s := S2x512x256) (k0_off4 k) S1x32x128.size (k0_off4_inb k), trip_k0_t1.sl.v121 arg10 k acc f⟩ :: trip_k0_t1.sl.HW_arg10_3 arg10 k acc f)) = P4 :=
    (store_bwd arg10.view f _ (trip_k0_t1.sl.HW_arg10_3 arg10 k acc f) (k0_off4 k) 0 (15 - k) 1 (congrFun o4 0) (hb (congrFun o4 1)) (congrFun o4 2) (k0_off4_inb k) (k0_off4_inb k) acc.2.1 rfl).trans
      (congrArg (fun x => over x 0 (15 - k.val) 1 False acc.2.1) r3)
  have r5 : arg10.view.read (Elt Ideal) (arg10.view.writes (Elt Ideal) f (trip_k0_t1.sl.HW_arg10_5 arg10 k acc f)) = P5 := by
    refine (store_fwd arg10.view f f _ (k0_off5 k) 1 k 0 (congrFun o5 0) (congrFun o5 1) (congrFun o5 2) (k0_off5_inb k) (k0_off5_inb k) acc.2.2.1 ?_).trans
      (congrArg (fun x => over x 1 k.val 0 True acc.2.2.1) r4)
    refine Eq.trans ?_ (congrArg (fun x => VecWindow.window x _ _ _) r4).symm
    have h : k0_off5 k 0 ≠ 0 := fun h => by have := congrFun o5 0; rw [h] at this; exact absurd this (show (0 : ℕ) ≠ 1 by decide)
    dsimp only [P4, P3, P2, P1]
    rw [window_over _ _ _ _ _ _ _ 0 (congrFun o5 2) _ (Or.inl h), window_over _ _ _ _ _ _ _ 0 (congrFun o5 2) _ (Or.inl h), window_over _ _ _ _ _ _ _ 0 (congrFun o5 2) _ (Or.inl h), window_over _ _ _ _ _ _ _ 0 (congrFun o5 2) _ (Or.inl h)]
  have r6 : arg10.view.read (Elt Ideal) (arg10.view.writes (Elt Ideal) f (⟨Rect.unit (s := S2x512x256) (k0_off6 k) S1x32x128.size (k0_off6_inb k), trip_k0_t1.sl.v167 arg10 k acc f⟩ :: trip_k0_t1.sl.HW_arg10_5 arg10 k acc f)) = P6 :=
    (store_bwd arg10.view f _ (trip_k0_t1.sl.HW_arg10_5 arg10 k acc f) (k0_off6 k) 1 (15 - k) 0 (congrFun o6 0) (hb (congrFun o6 1)) (congrFun o6 2) (k0_off6_inb k) (k0_off6_inb k) acc.2.2.1 rfl).trans
      (congrArg (fun x => over x 1 (15 - k.val) 0 False acc.2.2.1) r5)
  have r7 : arg10.view.read (Elt Ideal) (arg10.view.writes (Elt Ideal) f (trip_k0_t1.sl.HW_arg10_7 arg10 k acc f)) = P7 := by
    refine (store_fwd arg10.view f f _ (k0_off7 k) 1 k 1 (congrFun o7 0) (congrFun o7 1) (congrFun o7 2) (k0_off7_inb k) (k0_off7_inb k) acc.2.2.2 ?_).trans
      (congrArg (fun x => over x 1 k.val 1 True acc.2.2.2) r6)
    refine Eq.trans ?_ (congrArg (fun x => VecWindow.window x _ _ _) r6).symm
    have h : k0_off7 k 0 ≠ 0 := fun h => by have := congrFun o7 0; rw [h] at this; exact absurd this (show (0 : ℕ) ≠ 1 by decide)
    dsimp only [P6, P5, P4, P3, P2, P1]
    rw [window_over _ _ _ _ _ _ _ 1 (congrFun o7 2) _ (Or.inr (by decide)), window_over _ _ _ _ _ _ _ 1 (congrFun o7 2) _ (Or.inr (by decide)), window_over _ _ _ _ _ _ _ 1 (congrFun o7 2) _ (Or.inl h), window_over _ _ _ _ _ _ _ 1 (congrFun o7 2) _ (Or.inl h), window_over _ _ _ _ _ _ _ 1 (congrFun o7 2) _ (Or.inl h), window_over _ _ _ _ _ _ _ 1 (congrFun o7 2) _ (Or.inl h)]
  have r8 : arg10.view.read (Elt Ideal) (arg10.view.writes (Elt Ideal) f (⟨Rect.unit (s := S2x512x256) (k0_off8 k) S1x32x128.size (k0_off8_inb k), trip_k0_t1.sl.v183 arg10 k acc f⟩ :: trip_k0_t1.sl.HW_arg10_7 arg10 k acc f)) = over P7 1 (15 - k) 1 False acc.2.2.2 :=
    (store_bwd arg10.view f _ (trip_k0_t1.sl.HW_arg10_7 arg10 k acc f) (k0_off8 k) 1 (15 - k) 1 (congrFun o8 0) (hb (congrFun o8 1)) (congrFun o8 2) (k0_off8_inb k) (k0_off8_inb k) acc.2.2.2 rfl).trans
      (congrArg (fun x => over x 1 (15 - k.val) 1 False acc.2.2.2) r7)
  unfold tripL_k0_t1 trip_k0_t1
  exact r8

/-- What a trip makes of the state of the first group, at one lane. -/
theorem tripR_read0 (k : Fin k0_t1_loop.trips) (r : Fin 32) (l : Fin 128) :
    ((tripR_k0_t1 (F := Ideal) 𝒱 c bd i arg1 harg1 arg2 harg2 arg3 harg3 arg4 harg4 arg5 harg5 arg6 harg6 arg7 harg7 arg8 harg8 arg9 harg9 arg10 harg10 v29 X4 X9 k acc f).1 (ix2 r l), (tripR_k0_t1 (F := Ideal) 𝒱 c bd i arg1 harg1 arg2 harg2 arg3 harg3 arg4 harg4 arg5 harg5 arg6 harg6 arg7 harg7 arg8 harg8 arg9 harg9 arg10 harg10 v29 X4 X9 k acc f).2.1 (ix2 r l))
      = (arg4.view.read (Elt Ideal) X4 (ix3 0 0 (lo l)) * acc.1 (ix2 r l) - arg4.view.read (Elt Ideal) X4 (ix3 0 0 (hi l)) * acc.2.1 (ix2 r l) + arg9.view.read (Elt Ideal) X9 (ix3 0 (rowOf k r l) (lo l)),
         arg4.view.read (Elt Ideal) X4 (ix3 0 0 (lo l)) * acc.2.1 (ix2 r l) + arg4.view.read (Elt Ideal) X4 (ix3 0 0 (hi l)) * acc.1 (ix2 r l) + arg9.view.read (Elt Ideal) X9 (ix3 0 (rowOf k r l) (hi l))) := by
  have hk := trips_le k
  unfold tripR_k0_t1 trip_k0_t1
  have a := pay12_apply acc.1 acc.2.1 (arg9.view.readAt (Elt Ideal) (Rect.unit (s := S2x512x256) (k0_off1 k) S1x32x128.size (k0_off1_inb k)).toLoadRect X9)
    (arg9.view.readAt (Elt Ideal) (Rect.unit (s := S2x512x256) (k0_off2 k) S1x32x128.size (k0_off2_inb k)).toLoadRect X9)
    (arg4.view.readAt (Elt Ideal) (Rect.unit (s := S2x1x256) ![0, 0, 0] S1x1x256.size inb_S2x1x256_S1x1x256_0_0_0).toLoadRect X4) r l
  have b := pay13_apply acc.1 acc.2.1 (arg9.view.readAt (Elt Ideal) (Rect.unit (s := S2x512x256) (k0_off3 k) S1x32x128.size (k0_off3_inb k)).toLoadRect X9)
    (arg9.view.readAt (Elt Ideal) (Rect.unit (s := S2x512x256) (k0_off4 k) S1x32x128.size (k0_off4_inb k)).toLoadRect X9)
    (arg4.view.readAt (Elt Ideal) (Rect.unit (s := S2x1x256) ![0, 0, 0] S1x1x256.size inb_S2x1x256_S1x1x256_0_0_0).toLoadRect X4) r l
  refine Prod.ext (Eq.trans a ?_) (Eq.trans b ?_)
  · rw [load_lam _ _ _ _ _ 0 rfl rfl rfl, load_lam _ _ _ _ _ 0 rfl rfl rfl]
    refine congrArg _ (load_pair arg9.view X9 k.val hk r l 0 (lo l) (k0_off1 k) (k0_off2 k) (k0_off1_inb k) (k0_off2_inb k) ?_ ?_ ?_ ?_ ?_ ?_)
    · exact congrFun (k0_off1_eq k) 0
    · exact congrFun (k0_off1_eq k) 1
    · rw [congrFun (k0_off1_eq k) 2]; exact Nat.zero_add _
    · exact congrFun (k0_off2_eq k) 0
    · exact congrFun (k0_off2_eq k) 1
    · rw [congrFun (k0_off2_eq k) 2]; exact Nat.zero_add _
  · rw [load_lam _ _ _ _ _ 0 rfl rfl rfl, load_lam _ _ _ _ _ 0 rfl rfl rfl]
    refine congrArg _ (load_pair arg9.view X9 k.val hk r l 0 (hi l) (k0_off3 k) (k0_off4 k) (k0_off3_inb k) (k0_off4_inb k) ?_ ?_ ?_ ?_ ?_ ?_)
    · exact congrFun (k0_off3_eq k) 0
    · exact congrFun (k0_off3_eq k) 1
    · rw [congrFun (k0_off3_eq k) 2]; rfl
    · exact congrFun (k0_off4_eq k) 0
    · exact congrFun (k0_off4_eq k) 1
    · rw [congrFun (k0_off4_eq k) 2]; rfl

/-- The same of the second group. -/
theorem tripR_read1 (k : Fin k0_t1_loop.trips) (r : Fin 32) (l : Fin 128) :
    ((tripR_k0_t1 (F := Ideal) 𝒱 c bd i arg1 harg1 arg2 harg2 arg3 harg3 arg4 harg4 arg5 harg5 arg6 harg6 arg7 harg7 arg8 harg8 arg9 harg9 arg10 harg10 v29 X4 X9 k acc f).2.2.1 (ix2 r l), (tripR_k0_t1 (F := Ideal) 𝒱 c bd i arg1 harg1 arg2 harg2 arg3 harg3 arg4 harg4 arg5 harg5 arg6 harg6 arg7 harg7 arg8 harg8 arg9 harg9 arg10 harg10 v29 X4 X9 k acc f).2.2.2 (ix2 r l))
      = (arg4.view.read (Elt Ideal) X4 (ix3 1 0 (lo l)) * acc.2.2.1 (ix2 r l) - arg4.view.read (Elt Ideal) X4 (ix3 1 0 (hi l)) * acc.2.2.2 (ix2 r l) + arg9.view.read (Elt Ideal) X9 (ix3 1 (rowOf k r l) (lo l)),
         arg4.view.read (Elt Ideal) X4 (ix3 1 0 (lo l)) * acc.2.2.2 (ix2 r l) + arg4.view.read (Elt Ideal) X4 (ix3 1 0 (hi l)) * acc.2.2.1 (ix2 r l) + arg9.view.read (Elt Ideal) X9 (ix3 1 (rowOf k r l) (hi l))) := by
  have hk := trips_le k
  unfold tripR_k0_t1 trip_k0_t1
  have a := pay12_apply acc.2.2.1 acc.2.2.2 (arg9.view.readAt (Elt Ideal) (Rect.unit (s := S2x512x256) (k0_off5 k) S1x32x128.size (k0_off5_inb k)).toLoadRect X9)
    (arg9.view.readAt (Elt Ideal) (Rect.unit (s := S2x512x256) (k0_off6 k) S1x32x128.size (k0_off6_inb k)).toLoadRect X9)
    (arg4.view.readAt (Elt Ideal) (Rect.unit (s := S2x1x256) ![1, 0, 0] S1x1x256.size inb_S2x1x256_S1x1x256_1_0_0).toLoadRect X4) r l
  have b := pay13_apply acc.2.2.1 acc.2.2.2 (arg9.view.readAt (Elt Ideal) (Rect.unit (s := S2x512x256) (k0_off7 k) S1x32x128.size (k0_off7_inb k)).toLoadRect X9)
    (arg9.view.readAt (Elt Ideal) (Rect.unit (s := S2x512x256) (k0_off8 k) S1x32x128.size (k0_off8_inb k)).toLoadRect X9)
    (arg4.view.readAt (Elt Ideal) (Rect.unit (s := S2x1x256) ![1, 0, 0] S1x1x256.size inb_S2x1x256_S1x1x256_1_0_0).toLoadRect X4) r l
  refine Prod.ext (Eq.trans a ?_) (Eq.trans b ?_)
  · rw [load_lam _ _ _ _ _ 1 rfl rfl rfl, load_lam _ _ _ _ _ 1 rfl rfl rfl]
    refine congrArg _ (load_pair arg9.view X9 k.val hk r l 1 (lo l) (k0_off5 k) (k0_off6 k) (k0_off5_inb k) (k0_off6_inb k) ?_ ?_ ?_ ?_ ?_ ?_)
    · exact congrFun (k0_off5_eq k) 0
    · exact congrFun (k0_off5_eq k) 1
    · rw [congrFun (k0_off5_eq k) 2]; exact Nat.zero_add _
    · exact congrFun (k0_off6_eq k) 0
    · exact congrFun (k0_off6_eq k) 1
    · rw [congrFun (k0_off6_eq k) 2]; exact Nat.zero_add _
  · rw [load_lam _ _ _ _ _ 1 rfl rfl rfl, load_lam _ _ _ _ _ 1 rfl rfl rfl]
    refine congrArg _ (load_pair arg9.view X9 k.val hk r l 1 (hi l) (k0_off7 k) (k0_off8 k) (k0_off7_inb k) (k0_off8_inb k) ?_ ?_ ?_ ?_ ?_ ?_)
    · exact congrFun (k0_off7_eq k) 0
    · exact congrFun (k0_off7_eq k) 1
    · rw [congrFun (k0_off7_eq k) 2]; rfl
    · exact congrFun (k0_off8_eq k) 0
    · exact congrFun (k0_off8_eq k) 1
    · rw [congrFun (k0_off8_eq k) 2]; rfl

/-- One lane of the kernel's recurrence, from the scratch of the inputs, the multipliers and the starting states. -/
abbrev lane (X : FVec Ideal S2x512x256 .f32) (lam : FVec Ideal S2x1x256 .f32) (s0 : FVec Ideal S2x32x256 .f32) (g : Fin 2) (b : Fin 32) (l : Fin 128) : ℕ → EReal × EReal :=
  scan (lam (ix3 g 0 (lo l))) (lam (ix3 g 0 (hi l))) (s0 (ix3 g b (lo l))) (s0 (ix3 g b (hi l))) (fun k => X (ix3 g (rowOf k b l) (lo l))) (fun k => X (ix3 g (rowOf k b l) (hi l)))

/-- After `k` trips the loop's state is the recurrence after `k` steps, and the scratch of the states holds the states before the chunks so far. -/
theorem loop_inv (G : BufTy.Contents (Elt Ideal) arg10.view.ty) (s0 : FVec Ideal S2x32x256 .f32)
    (h0 : ∀ r l, (acc.1 (ix2 r l), acc.2.1 (ix2 r l)) = (s0 (ix3 0 r (lo l)), s0 (ix3 0 r (hi l))))
    (h1 : ∀ r l, (acc.2.2.1 (ix2 r l), acc.2.2.2 (ix2 r l)) = (s0 (ix3 1 r (lo l)), s0 (ix3 1 r (hi l)))) :
    ∀ k, k ≤ k0_t1_loop.trips →
      (∀ r l, ((st_k0_t1 (F := Ideal) 𝒱 c bd i arg1 harg1 arg2 harg2 arg3 harg3 arg4 harg4 arg5 harg5 arg6 harg6 arg7 harg7 arg8 harg8 arg9 harg9 arg10 harg10 v29 X4 X9 G acc k).1.1 (ix2 r l), (st_k0_t1 (F := Ideal) 𝒱 c bd i arg1 harg1 arg2 harg2 arg3 harg3 arg4 harg4 arg5 harg5 arg6 harg6 arg7 harg7 arg8 harg8 arg9 harg9 arg10 harg10 v29 X4 X9 G acc k).1.2.1 (ix2 r l))
        = lane (arg9.view.read (Elt Ideal) X9) (arg4.view.read (Elt Ideal) X4) s0 0 r l k)
      ∧ (∀ r l, ((st_k0_t1 (F := Ideal) 𝒱 c bd i arg1 harg1 arg2 harg2 arg3 harg3 arg4 harg4 arg5 harg5 arg6 harg6 arg7 harg7 arg8 harg8 arg9 harg9 arg10 harg10 v29 X4 X9 G acc k).1.2.2.1 (ix2 r l), (st_k0_t1 (F := Ideal) 𝒱 c bd i arg1 harg1 arg2 harg2 arg3 harg3 arg4 harg4 arg5 harg5 arg6 harg6 arg7 harg7 arg8 harg8 arg9 harg9 arg10 harg10 v29 X4 X9 G acc k).1.2.2.2 (ix2 r l))
        = lane (arg9.view.read (Elt Ideal) X9) (arg4.view.read (Elt Ideal) X4) s0 1 r l k)
      ∧ arg10.view.read (Elt Ideal) (arg10.view.writes (Elt Ideal) G (st_k0_t1 (F := Ideal) 𝒱 c bd i arg1 harg1 arg2 harg2 arg3 harg3 arg4 harg4 arg5 harg5 arg6 harg6 arg7 harg7 arg8 harg8 arg9 harg9 arg10 harg10 v29 X4 X9 G acc k).2)
        = filled (lane (arg9.view.read (Elt Ideal) X9) (arg4.view.read (Elt Ideal) X4) s0) (arg10.view.read (Elt Ideal) G) k
  | 0, _ => by
    refine ⟨h0, h1, ?_⟩
    funext y
    exact (if_neg (Nat.not_lt_zero _)).symm
  | k + 1, hk => by
    obtain ⟨i0, i1, i2⟩ := loop_inv G s0 h0 h1 k (Nat.le_of_succ_le hk)
    rw [st_k0_t1_succ (F := Ideal) 𝒱 c bd i arg1 harg1 arg2 harg2 arg3 harg3 arg4 harg4 arg5 harg5 arg6 harg6 arg7 harg7 arg8 harg8 arg9 harg9 arg10 harg10 v29 X4 X9 G acc ⟨k, hk⟩]
    generalize st_k0_t1 (F := Ideal) 𝒱 c bd i arg1 harg1 arg2 harg2 arg3 harg3 arg4 harg4 arg5 harg5 arg6 harg6 arg7 harg7 arg8 harg8 arg9 harg9 arg10 harg10 v29 X4 X9 G acc k = st at i0 i1 i2 ⊢
    dsimp only
    have e0 : ∀ r l, st.1.1 (ix2 r l) = _ := fun r l => congrArg Prod.fst (i0 r l)
    have e1 : ∀ r l, st.1.2.1 (ix2 r l) = _ := fun r l => congrArg Prod.snd (i0 r l)
    have e2 : ∀ r l, st.1.2.2.1 (ix2 r l) = _ := fun r l => congrArg Prod.fst (i1 r l)
    have e3 : ∀ r l, st.1.2.2.2 (ix2 r l) = _ := fun r l => congrArg Prod.snd (i1 r l)
    refine ⟨fun r l => ?_, fun r l => ?_, ?_⟩
    · rw [tripR_read0, e0, e1]; rfl
    · rw [tripR_read1, e2, e3]; rfl
    · rw [View.writes_append, tripL_read, i2]
      exact filled_succ _ _ k (trips_le ⟨k, hk⟩) _ _ _ _ i0 i1
end

end Cert.Scan
end
-- ==== Proof.ScanBody.lean ====
/- The S5 scan's body (`KScan`): what one grid point's two groups come out as. -/
module

public import proofs.«01_k».proof.Defs
public import proofs.«01_k».proof.Proof.ScanLoop
public import proofs.«01_k».proof.Proof.Gen.KScanIdeal.Value
public import Idealize.ShloMosaic.Lib.Pointwise
public import Idealize.ShloMosaic.Lib.Exec
public import Idealize.ShloMosaic.Lib.Pipeline.Value

@[expose] public section

set_option maxRecDepth 16384

noncomputable section

open Idealize.ShloMosaic Idealize.ShloMosaic.TcCoe Idealize.SL.Sem

namespace Cert.Scan

open Cert.KScanIdeal Cert.KScanIdeal.Gen

/-- The columns of the two local operators and of the scan's input operator in the joint operator. -/
abbrev colA (l : Fin 256) : Fin 768 := ⟨l.val, by omega⟩
abbrev colB (l : Fin 256) : Fin 768 := ⟨256 + l.val, by omega⟩
abbrev colC (l : Fin 256) : Fin 768 := ⟨512 + l.val, by omega⟩

/-- One group's rows times one of the joint operator's columns. -/
def dot (u : FVec Ideal S2x512x256 .bf16) (w : FVec Ideal S2x256x768 .bf16) (g : Fin 2) (r : Fin 512) (j : Fin 768) : EReal :=
  ∑ k : Fin 256, u (ix3 g r k) * w (ix3 g k j)

/-- What the scan takes in, and what the rows give without the states. -/
def taken (u : FVec Ideal S2x512x256 .bf16) (w : FVec Ideal S2x256x768 .bf16) : FVec Ideal S2x512x256 .f32 := fun y => dot u w (y 0) (y 1) (colC (y 2))
def within (u : FVec Ideal S2x512x256 .bf16) (w : FVec Ideal S2x256x768 .bf16) : FVec Ideal S2x512x256 .f32 := fun y => dot u w (y 0) (y 1) (colA (y 2)) + dot u w (y 0) (y 1) (colB (y 2))

theorem pay22_apply (a : FVec Ideal S1x512x256 .bf16) (w : FVec Ideal S1x256x768 .bf16) (r : Fin 512) (l : Fin 256) :
    k0_pay22 (F := Ideal) a w (ix3 0 r l) = (∑ k : Fin 256, a (ix3 0 r k) * w (ix3 0 k (colA l))) + ∑ k : Fin 256, a (ix3 0 r k) * w (ix3 0 k (colB l)) := by
  pointwise [k0_pay22, k0_pay21]

theorem pay23_apply (a : FVec Ideal S1x512x256 .bf16) (w : FVec Ideal S1x256x768 .bf16) (r : Fin 512) (l : Fin 256) :
    k0_pay23 (F := Ideal) a w (ix3 0 r l) = ∑ k : Fin 256, a (ix3 0 r k) * w (ix3 0 k (colC l)) := by
  pointwise [k0_pay23, k0_pay21]

theorem pay25_eq (a : FVec Ideal S1x512x256 .bf16) (w : FVec Ideal S1x256x768 .bf16) : k0_pay25 (F := Ideal) a w = k0_pay22 a w := rfl
theorem pay26_eq (a : FVec Ideal S1x512x256 .bf16) (w : FVec Ideal S1x256x768 .bf16) : k0_pay26 (F := Ideal) a w = k0_pay23 a w := rfl

theorem pay29_apply (a : FVec Ideal S1x32x256 .f32) (r : Fin 32) (l : Fin 128) : k0_pay29 (F := Ideal) a (ix2 r l) = a (ix3 0 r (lo l)) := by
  pointwise [k0_pay29]
theorem pay30_apply (a : FVec Ideal S1x32x256 .f32) (r : Fin 32) (l : Fin 128) : k0_pay30 (F := Ideal) a (ix2 r l) = a (ix3 0 r (hi l)) := by
  pointwise [k0_pay30]
theorem pay31_eq (a : FVec Ideal S1x32x256 .f32) : k0_pay31 (F := Ideal) a = k0_pay29 a := rfl
theorem pay32_eq (a : FVec Ideal S1x32x256 .f32) : k0_pay32 (F := Ideal) a = k0_pay30 a := rfl

theorem pay3_apply (y p : FVec Ideal S1x512x256 .f32) (w : FVec Ideal S1x256x256 .bf16) (r : Fin 512) (l : Fin 256) :
    k0_pay3 (F := Ideal) y p w (ix3 0 r l) = y (ix3 0 r l) + ∑ k : Fin 256, p (ix3 0 r k) * w (ix3 0 k l) := by
  pointwise [k0_pay3]

theorem pay1_eq (y p : FVec Ideal S1x512x256 .f32) (w : FVec Ideal S1x256x256 .bf16) :
    k0_pay1 (F := Ideal) (k0_pay38 y) (k0_pay39 p) (k0_pay40 w) = k0_pay3 y p w := rfl

/-- The two halves of a lane's state put side by side. -/
theorem pay2_apply (a b : FVec Ideal S32x128 .f32) (r : Fin 32) (l : Fin 256) :
    k0_pay2 (F := Ideal) a b (ix3 0 r l) = if h : l.val < 128 then a (ix2 r ⟨l.val, h⟩) else b (ix2 r ⟨l.val - 128, by omega⟩) := by
  pointwise [k0_pay2]
theorem pay4_eq (a b : FVec Ideal S32x128 .f32) : k0_pay4 (F := Ideal) a b = k0_pay2 a b := rfl

section
variable {κ : Kind} {sp : Space} {e : EltTy} {n k : ℕ} (v : View sig κ sp (⟨3, ![2, n, k]⟩ : Shape) e)

/-- One group's window read from its buffer. -/
theorem load_group (f : v.ty.Contents (Elt Ideal)) (off : Fin 3 → ℕ) (inb : ∀ a : Fin 3, off a + (![1, n, k] : Fin 3 → ℕ) a ≤ (![2, n, k] : Fin 3 → ℕ) a) (g : Fin 2) (h0 : off 0 = g.val) (h1 : off 1 = 0) (h2 : off 2 = 0)
    (r : Fin n) (l : Fin k) :
    v.readAt (Elt Ideal) (Rect.unit (s := (⟨3, ![2, n, k]⟩ : Shape)) off (![1, n, k] : Fin 3 → ℕ) inb).toLoadRect f (ix3 (0 : Fin 1) r l) = v.read (Elt Ideal) f (ix3 g r l) := by
  refine congrArg (v.read (Elt Ideal) f) (funext fun a => Fin.ext ?_)
  match a with
  | ⟨0, _⟩ => show off 0 + 1 * 0 = g.val; omega
  | ⟨1, _⟩ => show off 1 + 1 * r.val = r.val; omega
  | ⟨2, _⟩ => show off 2 + 1 * l.val = l.val; omega

/-- A buffer whose two groups are stored one after the other. -/
theorem two_apply (f : v.ty.Contents (Elt Ideal)) (i1 : ∀ a : Fin 3, (![1, 0, 0] : Fin 3 → ℕ) a + (![1, n, k] : Fin 3 → ℕ) a ≤ (![2, n, k] : Fin 3 → ℕ) a) (i0 : ∀ a : Fin 3, (![0, 0, 0] : Fin 3 → ℕ) a + (![1, n, k] : Fin 3 → ℕ) a ≤ (![2, n, k] : Fin 3 → ℕ) a)
    (w1 w0 : (⟨3, ![1, n, k]⟩ : Shape).Idx → Elt Ideal e) (g : Fin 2) (r : Fin n) (l : Fin k) :
    v.read (Elt Ideal) (v.writes (Elt Ideal) f [⟨Rect.unit (s := (⟨3, ![2, n, k]⟩ : Shape)) ![1, 0, 0] (![1, n, k] : Fin 3 → ℕ) i1, w1⟩, ⟨Rect.unit (s := (⟨3, ![2, n, k]⟩ : Shape)) ![0, 0, 0] (![1, n, k] : Fin 3 → ℕ) i0, w0⟩]) (ix3 g r l)
      = if g = 0 then w0 (ix3 0 r l) else w1 (ix3 0 r l) := by
  obtain rfl | rfl : g = 0 ∨ g = 1 := by omega
  · rw [if_pos rfl]
    rw [View.read_writes_cons_unit_of_not_mem v f i1 w1 _ (ix3 0 r l) rfl (0 : Fin 3) (Or.inl (show (0 : ℕ) < 1 by decide))]
    exact View.read_writes_cons_unit_of_mem v f i0 w0 _ (ix3 0 r l) (ix3 (0 : Fin 1) r l) rfl fun a => match a with
      | ⟨0, _⟩ => rfl
      | ⟨1, _⟩ => (Nat.zero_add _).symm
      | ⟨2, _⟩ => (Nat.zero_add _).symm
  · rw [if_neg (by decide)]
    exact View.read_writes_cons_unit_of_mem v f i1 w1 _ (ix3 1 r l) (ix3 (0 : Fin 1) r l) rfl fun a => match a with
      | ⟨0, _⟩ => rfl
      | ⟨1, _⟩ => (Nat.zero_add _).symm
      | ⟨2, _⟩ => (Nat.zero_add _).symm
end

section
variable (c : Dev nD) (i : grid0.Coords) (arg1 : Memref sig .tc .vmem S2x512x256 .bf16) (harg1 : arg1.IsWhole) (arg2 : Memref sig .tc .vmem S2x256x768 .bf16) (harg2 : arg2.IsWhole) (arg3 : Memref sig .tc .vmem S2x256x256 .bf16) (harg3 : arg3.IsWhole) (arg4 : Memref sig .tc .vmem S2x1x256 .f32) (harg4 : arg4.IsWhole) (arg5 : Memref sig .tc .vmem S2x32x256 .f32) (harg5 : arg5.IsWhole) (arg6 : Memref sig .tc .vmem S2x512x256 .bf16) (harg6 : arg6.IsWhole) (arg7 : Memref sig .tc .vmem S2x32x256 .f32) (harg7 : arg7.IsWhole) (arg8 : Memref sig .tc .vmem S2x512x256 .f32) (harg8 : arg8.IsWhole) (arg9 : Memref sig .tc .vmem S2x512x256 .f32) (harg9 : arg9.IsWhole) (arg10 : Memref sig .tc .vmem S2x512x256 .f32) (harg10 : arg10.IsWhole) (x0 : FVec Ideal S2x512x256 .bf16) (x1 : FVec Ideal S2x256x768 .bf16) (x2 : FVec Ideal S2x256x256 .bf16) (x3 : FVec Ideal S2x1x256 .f32) (x4 : FVec Ideal S2x32x256 .f32)

/-- The scratch of the scan's inputs. -/
theorem taken_read : arg9.view.read (Elt Ideal) (arg9.view.writes (Elt Ideal) arg9.view.junk (kernelRun0_A.sl.HS1_2 (F := Ideal) c arg1 harg1 arg2 harg2 x0 x1)) = taken x0 x1 := by
  funext y
  obtain ⟨g, r, l, rfl⟩ : ∃ (g : Fin 2) (r : Fin 512) (l : Fin 256), y = ix3 g r l := ⟨y 0, y 1, y 2, (ix3_eta y).symm⟩
  unfold kernelRun0_A.sl.HS1_2 kernelRun0_A.sl.r
  refine (two_apply (n := 512) (k := 256) arg9.view _ _ _ _ _ g r l).trans ?_
  rw [pay26_eq]
  obtain rfl | rfl : g = 0 ∨ g = 1 := by omega
  · refine (if_pos rfl).trans ((pay23_apply _ _ r l).trans ?_)
    refine (Finset.sum_congr rfl fun k _ => ?_ : _ = dot x0 x1 0 r (colC l))
    rw [load_group (n := 512) (k := 256) arg1.view _ _ _ 0 rfl rfl rfl, load_group (n := 256) (k := 768) arg2.view _ _ _ 0 rfl rfl rfl, harg1.read_unread, harg2.read_unread]
  · refine (if_neg (by decide)).trans ((pay23_apply _ _ r l).trans ?_)
    refine (Finset.sum_congr rfl fun k _ => ?_ : _ = dot x0 x1 1 r (colC l))
    rw [load_group (n := 512) (k := 256) arg1.view _ _ _ 1 rfl rfl rfl, load_group (n := 256) (k := 768) arg2.view _ _ _ 1 rfl rfl rfl, harg1.read_unread, harg2.read_unread]

/-- The scratch of what the rows give without the states. -/
theorem within_read : arg8.view.read (Elt Ideal) (arg8.view.writes (Elt Ideal) arg8.view.junk (kernelRun0_A.sl.HS0_2 (F := Ideal) c arg1 harg1 arg2 harg2 x0 x1)) = within x0 x1 := by
  funext y
  obtain ⟨g, r, l, rfl⟩ : ∃ (g : Fin 2) (r : Fin 512) (l : Fin 256), y = ix3 g r l := ⟨y 0, y 1, y 2, (ix3_eta y).symm⟩
  unfold kernelRun0_A.sl.HS0_2
  refine (two_apply (n := 512) (k := 256) arg8.view _ _ _ _ _ g r l).trans ?_
  rw [pay25_eq]
  obtain rfl | rfl : g = 0 ∨ g = 1 := by omega
  · refine (if_pos rfl).trans ((pay22_apply _ _ r l).trans (congrArg₂ _ (Finset.sum_congr rfl fun k _ => ?_) (Finset.sum_congr rfl fun k _ => ?_)))
    all_goals (rw [load_group (n := 512) (k := 256) arg1.view _ _ _ 0 rfl rfl rfl, load_group (n := 256) (k := 768) arg2.view _ _ _ 0 rfl rfl rfl, harg1.read_unread, harg2.read_unread]; rfl)
  · refine (if_neg (by decide)).trans ((pay22_apply _ _ r l).trans (congrArg₂ _ (Finset.sum_congr rfl fun k _ => ?_) (Finset.sum_congr rfl fun k _ => ?_)))
    all_goals (rw [load_group (n := 512) (k := 256) arg1.view _ _ _ 1 rfl rfl rfl, load_group (n := 256) (k := 768) arg2.view _ _ _ 1 rfl rfl rfl, harg1.read_unread, harg2.read_unread]; rfl)

/-- The state before each chunk, at the chunk's rows. -/
def before (S : Fin 2 → Fin 32 → Fin 128 → ℕ → EReal × EReal) : FVec Ideal S2x512x256 .f32 := fun y =>
  if (y 2).val / 128 = 0 then (S (y 0) ⟨(y 1).val % 32, Nat.mod_lt _ (by decide)⟩ ⟨(y 2).val % 128, Nat.mod_lt _ (by decide)⟩ (turn y)).1
  else (S (y 0) ⟨(y 1).val % 32, Nat.mod_lt _ (by decide)⟩ ⟨(y 2).val % 128, Nat.mod_lt _ (by decide)⟩ (turn y)).2

theorem trips_eq : k0_t1_loop.trips = 16 := by decide

theorem filled_all (S : Fin 2 → Fin 32 → Fin 128 → ℕ → EReal × EReal) (P : FVec Ideal S2x512x256 .f32) : filled S P k0_t1_loop.trips = before S := by
  funext y
  have h : turn y < k0_t1_loop.trips := by
    rw [trips_eq]
    have : (y 1).val < 512 := (y 1).isLt
    unfold turn
    split <;> omega
  exact if_pos h

/-- The loop's end: the last states and the scratch of the states. -/
theorem ends :
    (∀ r l, (kernelRun0_A.sl.r_1 (F := Ideal) c i arg1 harg1 arg2 harg2 arg3 harg3 arg4 harg4 arg5 harg5 arg6 harg6 arg7 harg7 arg8 harg8 arg9 harg9 arg10 harg10 x0 x1 x3 x4 (ix2 r l), kernelRun0_A.sl.r_2 (F := Ideal) c i arg1 harg1 arg2 harg2 arg3 harg3 arg4 harg4 arg5 harg5 arg6 harg6 arg7 harg7 arg8 harg8 arg9 harg9 arg10 harg10 x0 x1 x3 x4 (ix2 r l)) = lane (taken x0 x1) x3 x4 0 r l 16)
    ∧ (∀ r l, (kernelRun0_A.sl.r_3 (F := Ideal) c i arg1 harg1 arg2 harg2 arg3 harg3 arg4 harg4 arg5 harg5 arg6 harg6 arg7 harg7 arg8 harg8 arg9 harg9 arg10 harg10 x0 x1 x3 x4 (ix2 r l), kernelRun0_A.sl.r_4 (F := Ideal) c i arg1 harg1 arg2 harg2 arg3 harg3 arg4 harg4 arg5 harg5 arg6 harg6 arg7 harg7 arg8 harg8 arg9 harg9 arg10 harg10 x0 x1 x3 x4 (ix2 r l)) = lane (taken x0 x1) x3 x4 1 r l 16)
    ∧ (∀ r l, kernelRun0_A.sl.v53 (F := Ideal) c i arg1 harg1 arg2 harg2 arg3 harg3 arg4 harg4 arg5 harg5 arg6 harg6 arg7 harg7 arg8 harg8 arg9 harg9 arg10 harg10 x0 x1 x3 x4 (ix3 0 r l) = before (lane (taken x0 x1) x3 x4) (ix3 0 r l))
    ∧ (∀ r l, kernelRun0_A.sl.v70 (F := Ideal) c i arg1 harg1 arg2 harg2 arg3 harg3 arg4 harg4 arg5 harg5 arg6 harg6 arg7 harg7 arg8 harg8 arg9 harg9 arg10 harg10 x0 x1 x3 x4 (ix3 0 r l) = before (lane (taken x0 x1) x3 x4) (ix3 1 r l)) := by
  unfold kernelRun0_A.sl.r_1 kernelRun0_A.sl.r_2 kernelRun0_A.sl.r_3 kernelRun0_A.sl.r_4 kernelRun0_A.sl.v53 kernelRun0_A.sl.v70
  have key := loop_inv Variants.none c none i arg1 harg1 arg2 harg2 arg3 harg3 arg4 harg4 arg5 harg5 arg6 harg6 arg7 harg7 arg8 harg8 arg9 harg9 arg10 harg10 (kernelRun0_A.sl.r (F := Ideal) c arg1 harg1 arg2 harg2 x0 x1) (harg4.unread x3)
    (arg9.view.writes (Elt Ideal) arg9.view.junk (kernelRun0_A.sl.HS1_2 (F := Ideal) c arg1 harg1 arg2 harg2 x0 x1))
    (k0_pay29 (F := Ideal) (View.readAt (Elt Ideal) arg5.view (Rect.unit (s := S2x32x256) ![0, 0, 0] S1x32x256.size inb_S2x32x256_S1x32x256_0_0_0).toLoadRect (harg5.unread x4)),
      k0_pay30 (F := Ideal) (View.readAt (Elt Ideal) arg5.view (Rect.unit (s := S2x32x256) ![0, 0, 0] S1x32x256.size inb_S2x32x256_S1x32x256_0_0_0).toLoadRect (harg5.unread x4)),
      k0_pay31 (F := Ideal) (View.readAt (Elt Ideal) arg5.view (Rect.unit (s := S2x32x256) ![1, 0, 0] S1x32x256.size inb_S2x32x256_S1x32x256_1_0_0).toLoadRect (harg5.unread x4)),
      k0_pay32 (F := Ideal) (View.readAt (Elt Ideal) arg5.view (Rect.unit (s := S2x32x256) ![1, 0, 0] S1x32x256.size inb_S2x32x256_S1x32x256_1_0_0).toLoadRect (harg5.unread x4)))
    (arg10.view.writes (Elt Ideal) arg10.view.junk (kernelRun0_A.sl.HS2_1 (F := Ideal))) x4
    (fun r l => by
      dsimp only
      rw [pay29_apply, pay30_apply, load_group (n := 32) (k := 256) arg5.view _ _ _ 0 rfl rfl rfl, load_group (n := 32) (k := 256) arg5.view _ _ _ 0 rfl rfl rfl, harg5.read_unread])
    (fun r l => by
      dsimp only
      rw [pay31_eq, pay32_eq, pay29_apply, pay30_apply, load_group (n := 32) (k := 256) arg5.view _ _ _ 1 rfl rfl rfl, load_group (n := 32) (k := 256) arg5.view _ _ _ 1 rfl rfl rfl, harg5.read_unread])
    k0_t1_loop.trips le_rfl
  rw [taken_read, harg4.read_unread, filled_all] at key
  obtain ⟨k0, k1, k2⟩ := key
  refine ⟨fun r l => (k0 r l).trans (by rw [trips_eq]), fun r l => (k1 r l).trans (by rw [trips_eq]), fun r l => ?_, fun r l => ?_⟩
  · refine (load_group (n := 512) (k := 256) arg10.view _ _ _ 0 rfl rfl rfl r l).trans ?_
    rw [View.writes_append]
    exact congrFun k2 _
  · refine (load_group (n := 512) (k := 256) arg10.view _ _ _ 1 rfl rfl rfl r l).trans ?_
    rw [View.writes_append]
    exact congrFun k2 _

/-- The states after the last chunk, real parts before imaginary parts. -/
def last (S : Fin 2 → Fin 32 → Fin 128 → ℕ → EReal × EReal) : FVec Ideal S2x32x256 .f32 := fun y =>
  if h : (y 2).val < 128 then (S (y 0) (y 1) ⟨(y 2).val, h⟩ 16).1
  else (S (y 0) (y 1) ⟨(y 2).val - 128, by have : (y 2).val < 256 := (y 2).isLt; omega⟩ 16).2

theorem pay2_last (S : Fin 2 → Fin 32 → Fin 128 → ℕ → EReal × EReal) (g : Fin 2) (a b : FVec Ideal S32x128 .f32) (h : ∀ r l, (a (ix2 r l), b (ix2 r l)) = S g r l 16) (r : Fin 32) (l : Fin 256) :
    k0_pay2 (F := Ideal) a b (ix3 0 r l) = last S (ix3 g r l) := by
  rw [pay2_apply]
  have ha : ∀ r l, a (ix2 r l) = (S g r l 16).1 := fun r l => congrArg Prod.fst (h r l)
  have hb : ∀ r l, b (ix2 r l) = (S g r l 16).2 := fun r l => congrArg Prod.snd (h r l)
  simp only [ha, hb]
  rfl

theorem out6 : out0_A_6 (F := Ideal) c i arg1 harg1 arg2 harg2 arg3 harg3 arg4 harg4 arg5 harg5 arg6 harg6 arg7 harg7 arg8 harg8 arg9 harg9 arg10 harg10 x0 x1 x2 x3 x4 = last (lane (taken x0 x1) x3 x4) := by
  obtain ⟨e0, e1, -, -⟩ := ends c i arg1 harg1 arg2 harg2 arg3 harg3 arg4 harg4 arg5 harg5 arg6 harg6 arg7 harg7 arg8 harg8 arg9 harg9 arg10 harg10 x0 x1 x3 x4
  funext y
  obtain ⟨g, r, l, rfl⟩ : ∃ (g : Fin 2) (r : Fin 32) (l : Fin 256), y = ix3 g r l := ⟨y 0, y 1, y 2, (ix3_eta y).symm⟩
  unfold out0_A_6 kernelRun0_A
  refine (two_apply (n := 32) (k := 256) VO0_6 _ _ _ _ _ g r l).trans ?_
  obtain rfl | rfl : g = 0 ∨ g = 1 := by omega
  · exact (if_pos rfl).trans (pay2_last _ 0 _ _ e0 r l)
  · exact (if_neg (by decide)).trans (pay2_last _ 1 _ _ e1 r l)

/-- The group's rows: what they give themselves, and the state before the chunk through the second operator. -/
def rows (u : FVec Ideal S2x512x256 .bf16) (w : FVec Ideal S2x256x768 .bf16) (w2 : FVec Ideal S2x256x256 .bf16) (S : Fin 2 → Fin 32 → Fin 128 → ℕ → EReal × EReal) : FVec Ideal S2x512x256 .bf16 := fun y =>
  within u w y + ∑ k : Fin 256, before S (ix3 (y 0) (y 1) k) * w2 (ix3 (y 0) k (y 2))

theorem out5 : out0_A_5 (F := Ideal) c i arg1 harg1 arg2 harg2 arg3 harg3 arg4 harg4 arg5 harg5 arg6 harg6 arg7 harg7 arg8 harg8 arg9 harg9 arg10 harg10 x0 x1 x2 x3 x4 = rows x0 x1 x2 (lane (taken x0 x1) x3 x4) := by
  obtain ⟨-, -, e0, e1⟩ := ends c i arg1 harg1 arg2 harg2 arg3 harg3 arg4 harg4 arg5 harg5 arg6 harg6 arg7 harg7 arg8 harg8 arg9 harg9 arg10 harg10 x0 x1 x3 x4
  funext y
  obtain ⟨g, r, l, rfl⟩ : ∃ (g : Fin 2) (r : Fin 512) (l : Fin 256), y = ix3 g r l := ⟨y 0, y 1, y 2, (ix3_eta y).symm⟩
  unfold out0_A_5 kernelRun0_A
  refine (two_apply (n := 512) (k := 256) VO0_5 _ _ _ _ _ g r l).trans ?_
  obtain rfl | rfl : g = 0 ∨ g = 1 := by omega
  · refine (if_pos rfl).trans ?_
    unfold kernelRun0_A.sl.r_5 kernelRun0_A.sl.r_6 kernelRun0_A.sl.r_7
    rw [pay1_eq, pay3_apply]
    refine congrArg₂ _ ?_ (Finset.sum_congr rfl fun k _ => congrArg₂ _ (e0 r k) ?_)
    · unfold kernelRun0_A.sl.v51
      refine (load_group (n := 512) (k := 256) arg8.view _ _ _ 0 rfl rfl rfl r l).trans ?_
      exact congrFun (within_read c arg1 harg1 arg2 harg2 arg8 x0 x1) _
    · rw [load_group (n := 256) (k := 256) arg3.view _ _ _ 0 rfl rfl rfl, harg3.read_unread]; rfl
  · refine (if_neg (by decide)).trans ?_
    rw [pay3_apply]
    refine congrArg₂ _ ?_ (Finset.sum_congr rfl fun k _ => congrArg₂ _ (e1 r k) ?_)
    · unfold kernelRun0_A.sl.v68
      refine (load_group (n := 512) (k := 256) arg8.view _ _ _ 1 rfl rfl rfl r l).trans ?_
      exact congrFun (within_read c arg1 harg1 arg2 harg2 arg8 x0 x1) _
    · rw [load_group (n := 256) (k := 256) arg3.view _ _ _ 1 rfl rfl rfl, harg3.read_unread]; rfl
end

end Cert.Scan
end
-- ==== Proof.ScanRun.lean ====
/- The S5 scan's reference (`RScan`): its loop's sixteen trips as steps of one state. -/
module

public import proofs.«01_k».proof.Defs
public import proofs.«01_k».proof.Proof.Gen.RScanIdeal.Run
public import proofs.«01_k».proof.Proof.Gen.RScanIdeal.Step

@[expose] public section

set_option maxRecDepth 65536

noncomputable section

open Idealize.ShloMosaic Idealize.ShloMosaic.TcCoe Idealize.SL.Sem Idealize.ShloMosaic.StableHlo

namespace Cert.ScanRun

open Cert.RScanIdeal Cert.RScanIdeal.Gen Cert.RScanIdeal.Value
open Cert.RScanIdeal.Step (State)

/-- What the loop carries, as one state. -/
def stateOf (V : Valuation τ sig (Elt Ideal)) : State Ideal :=
  { main_v40_5 := V (Proc.devRef .tc main_v40_5), main_v40_6 := V (Proc.devRef .tc main_v40_6)
    main_v40_7 := V (Proc.devRef .tc main_v40_7), main_v40_8 := V (Proc.devRef .tc main_v40_8)
    main_v40_0 := V (Proc.devRef .tc main_v40_0), main_v40_1 := V (Proc.devRef .tc main_v40_1)
    main_v40_2 := V (Proc.devRef .tc main_v40_2), main_v40_3 := V (Proc.devRef .tc main_v40_3) }

/-- The counter reads `j`. -/
def At (V : Valuation τ sig (Elt Ideal)) (j : ℕ) : Prop :=
  V (Proc.devRef .tc main_v40_4) = (constantI S_ 32 (BitVec.ofNat 32 j) : (⟨S_, .i32⟩ : BufTy).Contents (Elt Ideal))

theorem at_step (V : Valuation τ sig (Elt Ideal)) (j : ℕ) (h : At V j) : At (STEP V) (j + 1) := by
  unfold At at h ⊢
  rw [STEP_main_v40_4]
  unfold step_main_v40_4
  rw [h]
  exact funext fun _ => (BitVec.ofNat_add j 1).symm

theorem state_step (V : Valuation τ sig (Elt Ideal)) (j : ℕ) (h : At V j) : stateOf (STEP V) = Step.step j (stateOf V) := by
  have e5 : STEP V (Proc.devRef .tc main_v40_5) = Step.b17 j (stateOf V) := by
    rw [STEP_main_v40_5]; unfold step_main_v40_5; rw [h]; rfl
  have e6 : STEP V (Proc.devRef .tc main_v40_6) = Step.b23 j (stateOf V) := by
    rw [STEP_main_v40_6]; unfold step_main_v40_6; rw [h]; rfl
  have e7 : STEP V (Proc.devRef .tc main_v40_7) = Step.b29 j (stateOf V) := by
    rw [STEP_main_v40_7]; unfold step_main_v40_7; rw [h]; rfl
  have e8 : STEP V (Proc.devRef .tc main_v40_8) = Step.b35 j (stateOf V) := by
    rw [STEP_main_v40_8]; unfold step_main_v40_8; rw [h]; rfl
  unfold Step.step
  rw [← e5, ← e6, ← e7, ← e8]
  unfold stateOf
  dsimp only
  rw [STEP_main_v40_0, STEP_main_v40_1, STEP_main_v40_2, STEP_main_v40_3]

variable (m : (ℓ : Loc nD τ sig) → Buf (Elt Ideal) ℓ) (c : Dev nD)

abbrev start : State Ideal := Step.init (F := Ideal) (m ((c.tc : Thread nD τ).loc main_arg0)) (m ((c.tc : Thread nD τ).loc main_arg1)) (m ((c.tc : Thread nD τ).loc main_arg3)) (m ((c.tc : Thread nD τ).loc main_arg4))

set_option maxHeartbeats 400000 in
theorem at_entry : At (entryContents preI m c) 0 := by
  unfold At
  simp only [entryContents, afterL_cons, afterL_nil]
  after_reads_simp; rfl

set_option maxHeartbeats 4000000 in
theorem state_entry : stateOf (entryContents preI m c) = start m c := by
  unfold stateOf
  simp only [entryContents, afterL_cons, afterL_nil]
  after_reads_simp; rfl

/-- `k` steps from a state, counted from 0. -/
def steps (s : State Ideal) : ℕ → State Ideal
  | 0 => s
  | k + 1 => Step.step k (steps s k)

theorem iterate : ∀ k, At (STEP^[k] (entryContents preI m c)) k ∧ stateOf (STEP^[k] (entryContents preI m c)) = steps (start m c) k
  | 0 => ⟨at_entry m c, state_entry m c⟩
  | k + 1 => by
    obtain ⟨ha, hs⟩ := iterate k
    rw [Function.iterate_succ_apply']
    exact ⟨at_step _ k ha, (state_step _ k ha).trans (congrArg (Step.step k) hs)⟩

theorem of_75 (V : Valuation τ sig (Elt Ideal)) : out_main_v75 V = Step.R_main_v75 (stateOf V) (V (Proc.devRef .tc main_arg0)) (V (Proc.devRef .tc main_arg1)) (V (Proc.devRef .tc main_arg2)) := by
  unfold out_main_v75 Step.R_main_v75 stateOf
  rfl

theorem of_62 (V : Valuation τ sig (Elt Ideal)) : out_main_v62 V = Step.R_main_v62 (stateOf V) := by
  unfold out_main_v62 Step.R_main_v62 stateOf
  rfl

theorem out_75 : out_main_v75 (STEP^[16] (entryContents preI m c))
    = Step.R_main_v75 (steps (start m c) 16) (m ((c.tc : Thread nD τ).loc main_arg0)) (m ((c.tc : Thread nD τ).loc main_arg1)) (m ((c.tc : Thread nD τ).loc main_arg2)) := by
  rw [of_75, iter_main_arg0, iter_main_arg1, iter_main_arg2, (iterate m c 16).2]

theorem out_62 : out_main_v62 (STEP^[16] (entryContents preI m c)) = Step.R_main_v62 (steps (start m c) 16) := by
  rw [of_62, (iterate m c 16).2]

end Cert.ScanRun
end
-- ==== Proof.ScanRef.lean ====
/- The S5 scan's reference (`RScan`), element by element: its loop is the recurrence of each lane, and its results are read from it. -/
module

public import proofs.«01_k».proof.Defs
public import proofs.«01_k».proof.Proof.ScanBody
public import proofs.«01_k».proof.Proof.ScanRun
public import Idealize.ShloMosaic.Lib.Pointwise
public import Idealize.ShloMosaic.Lib.DynamicIndex

@[expose] public section

set_option maxRecDepth 16384

noncomputable section

open Idealize.ShloMosaic Idealize.ShloMosaic.TcCoe Idealize.SL.Sem

namespace Cert.Scan

open Cert.RScanIdeal Cert.RScanIdeal.Gen Cert.RScanIdeal.Step
open Cert.ScanRun (steps)

/-- One row of a group times one column of its joint operator. -/
def gdot (u : FVec Ideal S64x512x256 .bf16) (w : FVec Ideal S64x256x768 .bf16) (g : Fin 64) (r : Fin 512) (j : Fin 768) : EReal :=
  ∑ k : Fin 256, u (ix3 g r k) * w (ix3 g k j)

/-- One lane of a group's recurrence. -/
def glane (u : FVec Ideal S64x512x256 .bf16) (w : FVec Ideal S64x256x768 .bf16) (lam : FVec Ideal S64x1x256 .f32) (s0 : FVec Ideal S64x32x256 .f32) (g : Fin 64) (b : Fin 32) (l : Fin 128) : ℕ → EReal × EReal :=
  scan (lam (ix3 g 0 (lo l))) (lam (ix3 g 0 (hi l))) (s0 (ix3 g b (lo l))) (s0 (ix3 g b (hi l))) (fun k => gdot u w g (rowOf k b l) (colC (lo l))) (fun k => gdot u w g (rowOf k b l) (colC (hi l)))

/-- Lane `l` of direction `d`. -/
abbrev dl (d : Fin 2) (l : Fin 64) : Fin 128 := ⟨64 * d.val + l.val, by omega⟩

variable (u : FVec Ideal S64x512x256 .bf16) (w : FVec Ideal S64x256x768 .bf16) (w2 : FVec Ideal S64x256x256 .bf16) (lam : FVec Ideal S64x1x256 .f32) (s0 : FVec Ideal S64x32x256 .f32)

theorem dl_fwd (l : Fin 64) : dl 0 l = ⟨l.val, by omega⟩ := Fin.ext (show 64 * 0 + l.val = l.val by omega)
theorem dl_bwd (l : Fin 64) : dl 1 l = ⟨64 + l.val, by omega⟩ := rfl
theorem hi_bwd (l : Fin 64) : hi ⟨64 + l.val, by omega⟩ = ⟨192 + l.val, by omega⟩ := Fin.ext (show 128 + (64 + l.val) = 192 + l.val by omega)
theorem row_fwd (q : Fin 16) (b : Fin 32) (l : Fin 64) : rowOf q.val b ⟨l.val, by omega⟩ = ⟨32 * q.val + b.val, by omega⟩ :=
  Fin.ext (by show (if l.val < 64 then _ else _) % 512 = _; rw [if_pos l.isLt]; show _ = 32 * q.val + b.val; omega)
theorem row_bwd (q : Fin 16) (b : Fin 32) (l : Fin 64) : rowOf q.val b ⟨64 + l.val, by omega⟩ = ⟨32 * q.rev.val + b.val, by omega⟩ :=
  Fin.ext (by
    show (if 64 + l.val < 64 then _ else _) % 512 = 32 * q.rev.val + b.val
    rw [if_neg (by omega), Fin.val_rev]
    omega)

theorem lam_re (d : Fin 2) (g : Fin 64) (l : Fin 64) : A_main_v22 (F := Ideal) u w lam s0 (ix4 d g 0 l) = lam (ix3 g 0 (lo (dl d l))) := by
  obtain rfl | rfl : d = 0 ∨ d = 1 := by omega
  · rw [dl_fwd]; pointwise [A_main_v22, A_main_v20, A_main_v21, A_main_v18, A_main_v19]
  · rw [dl_bwd]; pointwise [A_main_v22, A_main_v20, A_main_v21, A_main_v18, A_main_v19]

theorem lam_im (d : Fin 2) (g : Fin 64) (l : Fin 64) : A_main_v27 (F := Ideal) u w lam s0 (ix4 d g 0 l) = lam (ix3 g 0 (hi (dl d l))) := by
  obtain rfl | rfl : d = 0 ∨ d = 1 := by omega
  · rw [dl_fwd]; pointwise [A_main_v27, A_main_v25, A_main_v26, A_main_v23, A_main_v24]
  · rw [dl_bwd]; pointwise [A_main_v27, A_main_v25, A_main_v26, A_main_v23, A_main_v24]; rw [hi_bwd]

theorem start_re (d : Fin 2) (g : Fin 64) (b : Fin 32) (l : Fin 64) : A_main_v32 (F := Ideal) u w lam s0 (ix4 d g b l) = s0 (ix3 g b (lo (dl d l))) := by
  obtain rfl | rfl : d = 0 ∨ d = 1 := by omega
  · rw [dl_fwd]; pointwise [A_main_v32, A_main_v30, A_main_v31, A_main_v28, A_main_v29]
  · rw [dl_bwd]; pointwise [A_main_v32, A_main_v30, A_main_v31, A_main_v28, A_main_v29]

theorem start_im (d : Fin 2) (g : Fin 64) (b : Fin 32) (l : Fin 64) : A_main_v37 (F := Ideal) u w lam s0 (ix4 d g b l) = s0 (ix3 g b (hi (dl d l))) := by
  obtain rfl | rfl : d = 0 ∨ d = 1 := by omega
  · rw [dl_fwd]; pointwise [A_main_v37, A_main_v35, A_main_v36, A_main_v33, A_main_v34]
  · rw [dl_bwd]; pointwise [A_main_v37, A_main_v35, A_main_v36, A_main_v33, A_main_v34]; rw [hi_bwd]

theorem v3_apply (g : Fin 64) (r : Fin 512) (l : Fin 256) : A_main_v3 (F := Ideal) u w lam s0 (ix3 g r l) = gdot u w g r (colC l) := by
  unfold gdot
  pointwise [A_main_v3, A_main_v2, A_main_v1, A_main_v0]

theorem v5_apply (q : Fin 16) (g : Fin 64) (b : Fin 32) (l : Fin 256) : A_main_v5 (F := Ideal) u w lam s0 (ix4 q g b l) = gdot u w g ⟨32 * q.val + b.val, by omega⟩ (colC l) := by
  rw [← v3_apply u w lam s0]
  simp only [Nat.mul_comm 32]
  pointwise [A_main_v5, A_main_v4]

theorem taken_re (q : Fin 16) (d : Fin 2) (g : Fin 64) (b : Fin 32) (l : Fin 64) : A_main_v11 (F := Ideal) u w lam s0 (ix5 q d g b l) = gdot u w g (rowOf q.val b (dl d l)) (colC (lo (dl d l))) := by
  obtain rfl | rfl : d = 0 ∨ d = 1 := by omega
  · rw [dl_fwd, row_fwd]
    pointwise [A_main_v11, A_main_v10, A_main_v9, A_main_v8, A_main_v7, A_main_v6]
    exact v5_apply u w lam s0 q g b _
  · rw [dl_bwd, row_bwd]
    pointwise [A_main_v11, A_main_v10, A_main_v9, A_main_v8, A_main_v7, A_main_v6]
    exact v5_apply u w lam s0 q.rev g b _

theorem taken_im (q : Fin 16) (d : Fin 2) (g : Fin 64) (b : Fin 32) (l : Fin 64) : A_main_v17 (F := Ideal) u w lam s0 (ix5 q d g b l) = gdot u w g (rowOf q.val b (dl d l)) (colC (hi (dl d l))) := by
  obtain rfl | rfl : d = 0 ∨ d = 1 := by omega
  · rw [dl_fwd, row_fwd]
    pointwise [A_main_v17, A_main_v16, A_main_v15, A_main_v14, A_main_v13, A_main_v12]
    exact v5_apply u w lam s0 q g b _
  · rw [dl_bwd, row_bwd]
    pointwise [A_main_v17, A_main_v16, A_main_v15, A_main_v14, A_main_v13, A_main_v12]
    refine (v5_apply u w lam s0 q.rev g b _).trans (congrArg (gdot u w g _) (Fin.ext ?_))
    show 512 + (192 + l.val) = 512 + (128 + (64 + l.val))
    omega

theorem slices_at (j : ℕ) (hj : j < 16) : S16x2x64x32x64.Slices (![j, 0, 0, 0, 0] : Fin 5 → ℕ) S1x2x64x32x64 :=
  ⟨rfl, fun a => match a with
    | ⟨0, _⟩ => show j + 1 ≤ 16 by omega
    | ⟨1, _⟩ => show 0 + 2 ≤ 2 by omega
    | ⟨2, _⟩ => show 0 + 64 ≤ 64 by omega
    | ⟨3, _⟩ => show 0 + 32 ≤ 32 by omega
    | ⟨4, _⟩ => show 0 + 64 ≤ 64 by omega⟩

/-- The words a trip's slices start at are its number and zeros. -/
theorem starts_at (j : ℕ) (hj : j < 16) (a : Fin 5) :
    (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a (Shape.Idx.first h_S_) : BitVec 32)).toInt = (((![j, 0, 0, 0, 0] : Fin 5 → ℕ) a : ℕ) : Int) :=
  match a with
  | ⟨0, _⟩ => toInt_ofNat_of_lt (by omega)
  | ⟨1, _⟩ => rfl
  | ⟨2, _⟩ => rfl
  | ⟨3, _⟩ => rfl
  | ⟨4, _⟩ => rfl

theorem slice_apply (j : ℕ) (hj : j < 16) (x : FVec Ideal S16x2x64x32x64 .f32) (st : Fin 5 → Int) (h : S16x2x64x32x64.Slices (fun _ => 0) S1x2x64x32x64)
    (hst : ∀ a, st a = (((![j, 0, 0, 0, 0] : Fin 5 → ℕ) a : ℕ) : Int)) (d : Fin 2) (g : Fin 64) (b : Fin 32) (l : Fin 64) :
    Host.dynamicSlice S1x2x64x32x64 x st h (ix5 0 d g b l) = x (ix5 ⟨j, hj⟩ d g b l) := by
  rw [Host.dynamicSlice_eq_extractStridedSlice S1x2x64x32x64 x st (![j, 0, 0, 0, 0] : Fin 5 → ℕ) h (slices_at j hj) hst]
  pointwise

theorem update_apply (j : ℕ) (hj : j < 16) (x : FVec Ideal S16x2x64x32x64 .f32) (y : FVec Ideal S1x2x64x32x64 .f32) (st : Fin 5 → Int) (h : S16x2x64x32x64.Slices (fun _ => 0) S1x2x64x32x64)
    (hst : ∀ a, st a = (((![j, 0, 0, 0, 0] : Fin 5 → ℕ) a : ℕ) : Int)) (q : Fin 16) (d : Fin 2) (g : Fin 64) (b : Fin 32) (l : Fin 64) :
    Host.dynamicUpdateSlice x y st h (ix5 q d g b l) = if q.val = j then y (ix5 0 d g b l) else x (ix5 q d g b l) := by
  rw [Host.dynamicUpdateSlice_eq_updateSlice x y st h (![j, 0, 0, 0, 0] : Fin 5 → ℕ)
    (fun a => by have := (slices_at j hj).2 a; rw [hst a]; omega) (slices_at j hj)]
  pointwise
  by_cases hq : q.val = j
  · rw [if_pos hq, dif_pos (by omega)]
    exact congrArg (fun z : Fin 1 => y (ix5 z d g b l)) (Subsingleton.elim _ _)
  · rw [if_neg hq, dif_neg (by omega)]

theorem new_re (j : ℕ) (hj : j < 16) (s : State Ideal) (d : Fin 2) (g : Fin 64) (b : Fin 32) (l : Fin 64) : b5 (F := Ideal) j s (ix4 d g b l) = s.main_v40_0 (ix5 ⟨j, hj⟩ d g b l) := by
  have e : b4 (F := Ideal) j s (ix5 0 d g b l) = s.main_v40_0 (ix5 ⟨j, hj⟩ d g b l) := slice_apply j hj s.main_v40_0 _ _ (starts_at j hj) d g b l
  rw [← e]
  pointwise [b5]

theorem new_im (j : ℕ) (hj : j < 16) (s : State Ideal) (d : Fin 2) (g : Fin 64) (b : Fin 32) (l : Fin 64) : b11 (F := Ideal) j s (ix4 d g b l) = s.main_v40_1 (ix5 ⟨j, hj⟩ d g b l) := by
  have e : b10 (F := Ideal) j s (ix5 0 d g b l) = s.main_v40_1 (ix5 ⟨j, hj⟩ d g b l) := slice_apply j hj s.main_v40_1 _ _ (starts_at j hj) d g b l
  rw [← e]
  pointwise [b11]

/-- One step of the state's two parts, element by element. -/
theorem step_re (j : ℕ) (hj : j < 16) (s : State Ideal) (d : Fin 2) (g : Fin 64) (b : Fin 32) (l : Fin 64) :
    b17 (F := Ideal) j s (ix4 d g b l) = s.main_v40_2 (ix4 d g 0 l) * s.main_v40_5 (ix4 d g b l) - s.main_v40_3 (ix4 d g 0 l) * s.main_v40_6 (ix4 d g b l) + s.main_v40_0 (ix5 ⟨j, hj⟩ d g b l) := by
  rw [← new_re j hj s]
  pointwise [b17, b16, b15, b14, b13, b12]

theorem step_im (j : ℕ) (hj : j < 16) (s : State Ideal) (d : Fin 2) (g : Fin 64) (b : Fin 32) (l : Fin 64) :
    b23 (F := Ideal) j s (ix4 d g b l) = s.main_v40_2 (ix4 d g 0 l) * s.main_v40_6 (ix4 d g b l) + s.main_v40_3 (ix4 d g 0 l) * s.main_v40_5 (ix4 d g b l) + s.main_v40_1 (ix5 ⟨j, hj⟩ d g b l) := by
  rw [← new_im j hj s]
  pointwise [b23, b22, b21, b20, b19, b18]

/-- A step keeps the state it starts from in the stack's entry of its number. -/
theorem put_re (j : ℕ) (hj : j < 16) (s : State Ideal) (q : Fin 16) (d : Fin 2) (g : Fin 64) (b : Fin 32) (l : Fin 64) :
    b29 (F := Ideal) j s (ix5 q d g b l) = if q.val = j then s.main_v40_5 (ix4 d g b l) else s.main_v40_7 (ix5 q d g b l) := by
  refine (update_apply j hj s.main_v40_7 (b24 (F := Ideal) j s) _ _ (starts_at j hj) q d g b l).trans ?_
  have e : b24 (F := Ideal) j s (ix5 0 d g b l) = s.main_v40_5 (ix4 d g b l) := by pointwise [b24]
  rw [e]

theorem put_im (j : ℕ) (hj : j < 16) (s : State Ideal) (q : Fin 16) (d : Fin 2) (g : Fin 64) (b : Fin 32) (l : Fin 64) :
    b35 (F := Ideal) j s (ix5 q d g b l) = if q.val = j then s.main_v40_6 (ix4 d g b l) else s.main_v40_8 (ix5 q d g b l) := by
  refine (update_apply j hj s.main_v40_8 (b30 (F := Ideal) j s) _ _ (starts_at j hj) q d g b l).trans ?_
  have e : b30 (F := Ideal) j s (ix5 0 d g b l) = s.main_v40_6 (ix4 d g b l) := by pointwise [b30]
  rw [e]

/-- After `k` steps the state is each lane's recurrence after `k` steps, and the stacks hold the states before the steps so far. -/
theorem steps_eq : ∀ k, k ≤ 16 →
    (∀ d g b l, (steps (init (F := Ideal) u w lam s0) k).main_v40_5 (ix4 d g b l) = (glane u w lam s0 g b (dl d l) k).1)
    ∧ (∀ d g b l, (steps (init (F := Ideal) u w lam s0) k).main_v40_6 (ix4 d g b l) = (glane u w lam s0 g b (dl d l) k).2)
    ∧ (∀ (q : Fin 16) d g b l, q.val < k → (steps (init (F := Ideal) u w lam s0) k).main_v40_7 (ix5 q d g b l) = (glane u w lam s0 g b (dl d l) q.val).1)
    ∧ (∀ (q : Fin 16) d g b l, q.val < k → (steps (init (F := Ideal) u w lam s0) k).main_v40_8 (ix5 q d g b l) = (glane u w lam s0 g b (dl d l) q.val).2)
    ∧ (steps (init (F := Ideal) u w lam s0) k).main_v40_0 = A_main_v11 u w lam s0 ∧ (steps (init (F := Ideal) u w lam s0) k).main_v40_1 = A_main_v17 u w lam s0
    ∧ (steps (init (F := Ideal) u w lam s0) k).main_v40_2 = A_main_v22 u w lam s0 ∧ (steps (init (F := Ideal) u w lam s0) k).main_v40_3 = A_main_v27 u w lam s0
  | 0, _ => ⟨fun d g b l => start_re u w lam s0 d g b l, fun d g b l => start_im u w lam s0 d g b l, fun _ _ _ _ _ h => absurd h (Nat.not_lt_zero _),
      fun _ _ _ _ _ h => absurd h (Nat.not_lt_zero _), rfl, rfl, rfl, rfl⟩
  | k + 1, hk => by
    obtain ⟨h5, h6, h7, h8, h0, h1, h2, h3⟩ := steps_eq k (Nat.le_of_succ_le hk)
    have hk' : k < 16 := hk
    show (∀ d g b l, (step k (steps (init (F := Ideal) u w lam s0) k)).main_v40_5 (ix4 d g b l) = _) ∧ (∀ d g b l, (step k (steps (init (F := Ideal) u w lam s0) k)).main_v40_6 (ix4 d g b l) = _)
      ∧ (∀ (q : Fin 16) d g b l, q.val < k + 1 → (step k (steps (init (F := Ideal) u w lam s0) k)).main_v40_7 (ix5 q d g b l) = _) ∧ (∀ (q : Fin 16) d g b l, q.val < k + 1 → (step k (steps (init (F := Ideal) u w lam s0) k)).main_v40_8 (ix5 q d g b l) = _)
      ∧ (steps (init (F := Ideal) u w lam s0) k).main_v40_0 = _ ∧ (steps (init (F := Ideal) u w lam s0) k).main_v40_1 = _ ∧ (steps (init (F := Ideal) u w lam s0) k).main_v40_2 = _ ∧ (steps (init (F := Ideal) u w lam s0) k).main_v40_3 = _
    rw [step_main_v40_5, step_main_v40_6, step_main_v40_7, step_main_v40_8]
    generalize steps (init (F := Ideal) u w lam s0) k = st at h5 h6 h7 h8 h0 h1 h2 h3 ⊢
    refine ⟨fun d g b l => ?_, fun d g b l => ?_, fun q d g b l hq => ?_, fun q d g b l hq => ?_, h0, h1, h2, h3⟩
    · rw [step_re k hk', h5, h6, h0, h2, h3, lam_re, lam_im, taken_re]; rfl
    · rw [step_im k hk', h5, h6, h1, h2, h3, lam_re, lam_im, taken_im]; rfl
    · rw [put_re k hk', h5]
      by_cases e : q.val = k
      · rw [if_pos e, e]
      · rw [if_neg e]; exact h7 q d g b l (by omega)
    · rw [put_im k hk', h6]
      by_cases e : q.val = k
      · rw [if_pos e, e]
      · rw [if_neg e]; exact h8 q d g b l (by omega)

end Cert.Scan
end
-- ==== Proof.ScanEnd.lean ====
/- The S5 scan's reference (`RScan`), element by element: its results in terms of the recurrence of each lane. -/
module

public import proofs.«01_k».proof.Defs
public import proofs.«01_k».proof.Proof.ScanBody
public import proofs.«01_k».proof.Proof.ScanRun
public import proofs.«01_k».proof.Proof.ScanRef
public import Idealize.ShloMosaic.Lib.Pointwise
public import Idealize.ShloMosaic.Lib.DynamicIndex

@[expose] public section

set_option maxRecDepth 16384

noncomputable section

open Idealize.ShloMosaic Idealize.ShloMosaic.TcCoe Idealize.SL.Sem

namespace Cert.Scan

open Cert.RScanIdeal Cert.RScanIdeal.Gen Cert.RScanIdeal.Step
open Cert.ScanRun (steps)

/-- The states before the chunks, chunk by chunk: the forward and the backward lanes' first parts, then their second parts, the backward ones read from the last chunk to the first. -/
def kept (s : State Ideal) : FVec Ideal S16x64x32x256 .f32 :=
  (concatenate S16x64x32x256 3 [⟨S16x64x32x64, ((shapeCast _ (extractStridedSlice S16x1x64x32x64 ![0, 0, 0, 0, 0] (s.main_v40_7) slices_S16x2x64x32x64_S16x1x64x32x64_0_0_0_0_0) shapeCasts_S16x1x64x32x64_S16x64x32x64) : (⟨S16x64x32x64, .f32⟩ : BufTy).Contents (Elt Ideal))⟩, ⟨S16x64x32x64, ((shapeCast _ (Host.reverse [0] (extractStridedSlice S16x1x64x32x64 ![0, 1, 0, 0, 0] (s.main_v40_7) slices_S16x2x64x32x64_S16x1x64x32x64_0_1_0_0_0)) shapeCasts_S16x1x64x32x64_S16x64x32x64) : (⟨S16x64x32x64, .f32⟩ : BufTy).Contents (Elt Ideal))⟩, ⟨S16x64x32x64, ((shapeCast _ (extractStridedSlice S16x1x64x32x64 ![0, 0, 0, 0, 0] (s.main_v40_8) slices_S16x2x64x32x64_S16x1x64x32x64_0_0_0_0_0) shapeCasts_S16x1x64x32x64_S16x64x32x64) : (⟨S16x64x32x64, .f32⟩ : BufTy).Contents (Elt Ideal))⟩, ⟨S16x64x32x64, ((shapeCast _ (Host.reverse [0] (extractStridedSlice S16x1x64x32x64 ![0, 1, 0, 0, 0] (s.main_v40_8) slices_S16x2x64x32x64_S16x1x64x32x64_0_1_0_0_0)) shapeCasts_S16x1x64x32x64_S16x64x32x64) : (⟨S16x64x32x64, .f32⟩ : BufTy).Contents (Elt Ideal))⟩] concatenates_S16x64x32x64_S16x64x32x64_S16x64x32x64_S16x64x32x64_S16x64x32x256_d3 : (⟨S16x64x32x256, .f32⟩ : BufTy).Contents (Elt Ideal))

/-- The same by rows of a group. -/
def keptRows (s : State Ideal) : FVec Ideal S64x512x256 .f32 :=
  shapeCast _ (transpose S64x16x32x256 [1, 0, 2, 3] (kept s) transposes_S16x64x32x256_S64x16x32x256_1_0_2_3) shapeCasts_S64x16x32x256_S64x512x256

theorem keptRows_apply (s : State Ideal) (g : Fin 64) (r : Fin 512) (c : Fin 256) :
    keptRows s (ix3 g r c) = kept s (ix4 ⟨r.val / 32, by omega⟩ g ⟨r.val % 32, by omega⟩ c) := by
  pointwise [keptRows]

theorem kept_0 (s : State Ideal) (q : Fin 16) (g : Fin 64) (b : Fin 32) (l : Fin 64) : kept s (ix4 q g b ⟨l.val, by omega⟩) = s.main_v40_7 (ix5 q 0 g b l) := by
  pointwise [kept]
theorem kept_1 (s : State Ideal) (q : Fin 16) (g : Fin 64) (b : Fin 32) (l : Fin 64) : kept s (ix4 q g b ⟨64 + l.val, by omega⟩) = s.main_v40_7 (ix5 q.rev 1 g b l) := by
  pointwise [kept]
  rfl
theorem kept_2 (s : State Ideal) (q : Fin 16) (g : Fin 64) (b : Fin 32) (l : Fin 64) : kept s (ix4 q g b ⟨128 + l.val, by omega⟩) = s.main_v40_8 (ix5 q 0 g b l) := by
  pointwise [kept]
  rw [dif_neg (by omega), dif_neg (by omega), dif_pos (by omega)]
  exact congrArg (fun z => s.main_v40_8 (ix5 q 0 g b z)) (Fin.ext (show 128 + l.val - 64 - 64 = l.val by omega))
theorem kept_3 (s : State Ideal) (q : Fin 16) (g : Fin 64) (b : Fin 32) (l : Fin 64) : kept s (ix4 q g b ⟨192 + l.val, by omega⟩) = s.main_v40_8 (ix5 q.rev 1 g b l) := by
  pointwise [kept]
  rw [dif_neg (by omega), dif_neg (by omega), dif_neg (by omega)]
  exact congrArg (fun z => s.main_v40_8 (ix5 q.rev 1 g b z)) (Fin.ext (show 192 + l.val - 64 - 64 - 64 = l.val by omega))

theorem ends_0 (s : State Ideal) (g : Fin 64) (b : Fin 32) (l : Fin 64) : R_main_v62 s (ix3 g b ⟨l.val, by omega⟩) = s.main_v40_5 (ix4 0 g b l) := by
  pointwise [R_main_v62]
theorem ends_1 (s : State Ideal) (g : Fin 64) (b : Fin 32) (l : Fin 64) : R_main_v62 s (ix3 g b ⟨64 + l.val, by omega⟩) = s.main_v40_5 (ix4 1 g b l) := by
  pointwise [R_main_v62]
theorem ends_2 (s : State Ideal) (g : Fin 64) (b : Fin 32) (l : Fin 64) : R_main_v62 s (ix3 g b ⟨128 + l.val, by omega⟩) = s.main_v40_6 (ix4 0 g b l) := by
  pointwise [R_main_v62]
  rw [dif_neg (by omega), dif_neg (by omega), dif_pos (by omega)]
  exact congrArg (fun z => s.main_v40_6 (ix4 0 g b z)) (Fin.ext (show 128 + l.val - 64 - 64 = l.val by omega))
theorem ends_3 (s : State Ideal) (g : Fin 64) (b : Fin 32) (l : Fin 64) : R_main_v62 s (ix3 g b ⟨192 + l.val, by omega⟩) = s.main_v40_6 (ix4 1 g b l) := by
  pointwise [R_main_v62]
  rw [dif_neg (by omega), dif_neg (by omega), dif_neg (by omega)]
  exact congrArg (fun z => s.main_v40_6 (ix4 1 g b z)) (Fin.ext (show 192 + l.val - 64 - 64 - 64 = l.val by omega))

theorem rows_eq (s : State Ideal) (u : FVec Ideal S64x512x256 .bf16) (w : FVec Ideal S64x256x768 .bf16) (w2 : FVec Ideal S64x256x256 .bf16) (g : Fin 64) (r : Fin 512) (l : Fin 256) :
    R_main_v75 (F := Ideal) s u w w2 (ix3 g r l) = gdot u w g r (colA l) + gdot u w g r (colB l) + ∑ k : Fin 256, keptRows s (ix3 g r k) * w2 (ix3 g k l) := by
  have e : R_main_v75 (F := Ideal) s u w w2 = truncf .bf16 (addf (addf (Host.dotGeneral dot_S64x512x256_S64x256x256_S64x512x256_2_1_1_2_0_0 none (extf .f32 u bitsLt_bf16_f32) (extf .f32 (extractStridedSlice S64x256x256 ![0, 0, 0] w slices_S64x256x768_S64x256x256_0_0_0) bitsLt_bf16_f32)) (Host.dotGeneral dot_S64x512x256_S64x256x256_S64x512x256_2_1_1_2_0_0 none (extf .f32 u bitsLt_bf16_f32) (extf .f32 (extractStridedSlice S64x256x256 ![0, 0, 256] w slices_S64x256x768_S64x256x256_0_0_256) bitsLt_bf16_f32))) (Host.dotGeneral dot_S64x512x256_S64x256x256_S64x512x256_2_1_1_2_0_0 none (keptRows s) (extf .f32 w2 bitsLt_bf16_f32))) bitsLt_bf16_f32 := by unfold keptRows kept R_main_v75; rfl
  rw [e]
  unfold gdot
  pointwise

/-- The states before the chunks as the rows read them, one lane's first part and its second part. -/
theorem before_lo (S : Fin 32 → Fin 128 → ℕ → EReal × EReal) (r : Fin 512) (l : Fin 128) :
    before (fun _ => S) (ix3 0 r (lo l)) = (S ⟨r.val % 32, by omega⟩ l (if l.val < 64 then r.val / 32 else 15 - r.val / 32)).1 := by
  show (if l.val / 128 = 0 then (S ⟨r.val % 32, _⟩ ⟨l.val % 128, _⟩ (if l.val % 128 < 64 then r.val / 32 else 15 - r.val / 32)).1 else _) = _
  have e : (⟨l.val % 128, Nat.mod_lt _ (by decide)⟩ : Fin 128) = l := Fin.ext (show l.val % 128 = l.val by omega)
  rw [if_pos (by omega), e, Nat.mod_eq_of_lt l.isLt]
theorem before_hi (S : Fin 32 → Fin 128 → ℕ → EReal × EReal) (r : Fin 512) (l : Fin 128) :
    before (fun _ => S) (ix3 0 r (hi l)) = (S ⟨r.val % 32, by omega⟩ l (if l.val < 64 then r.val / 32 else 15 - r.val / 32)).2 := by
  show (if (128 + l.val) / 128 = 0 then _ else (S ⟨r.val % 32, _⟩ ⟨(128 + l.val) % 128, _⟩ (if (128 + l.val) % 128 < 64 then r.val / 32 else 15 - r.val / 32)).2) = _
  have e : (⟨(128 + l.val) % 128, Nat.mod_lt _ (by decide)⟩ : Fin 128) = l := Fin.ext (show (128 + l.val) % 128 = l.val by omega)
  have e' : (128 + l.val) % 128 = l.val := by omega
  rw [if_neg (by omega), e, e']

/-- A column of 256 is one of the four parts of 64. -/
theorem col_cases (c : Fin 256) : (∃ l : Fin 64, c = ⟨l.val, by omega⟩) ∨ (∃ l : Fin 64, c = ⟨64 + l.val, by omega⟩) ∨ (∃ l : Fin 64, c = ⟨128 + l.val, by omega⟩) ∨ ∃ l : Fin 64, c = ⟨192 + l.val, by omega⟩ := by
  by_cases h0 : c.val < 64
  · exact Or.inl ⟨⟨c.val, h0⟩, rfl⟩
  by_cases h1 : c.val < 128
  · exact Or.inr (Or.inl ⟨⟨c.val - 64, by omega⟩, Fin.ext (show c.val = 64 + (c.val - 64) by omega)⟩)
  by_cases h2 : c.val < 192
  · exact Or.inr (Or.inr (Or.inl ⟨⟨c.val - 128, by omega⟩, Fin.ext (show c.val = 128 + (c.val - 128) by omega)⟩))
  · exact Or.inr (Or.inr (Or.inr ⟨⟨c.val - 192, by omega⟩, Fin.ext (show c.val = 192 + (c.val - 192) by omega)⟩))

variable (u : FVec Ideal S64x512x256 .bf16) (w : FVec Ideal S64x256x768 .bf16) (lam : FVec Ideal S64x1x256 .f32) (s0 : FVec Ideal S64x32x256 .f32)

/-- What the rows of the reference read after its loop: the states before the chunks. -/
theorem keptRows_eq (g : Fin 64) (r : Fin 512) (c : Fin 256) :
    keptRows (steps (init (F := Ideal) u w lam s0) 16) (ix3 g r c) = before (fun _ => glane u w lam s0 g) (ix3 0 r c) := by
  obtain ⟨-, -, h7, h8, -⟩ := steps_eq u w lam s0 16 (Nat.le_refl 16)
  rw [keptRows_apply]
  obtain ⟨l, rfl⟩ | ⟨l, rfl⟩ | ⟨l, rfl⟩ | ⟨l, rfl⟩ := col_cases c
  · rw [kept_0, h7 _ _ _ _ _ (Fin.isLt _), dl_fwd]
    refine Eq.trans ?_ (before_lo (glane u w lam s0 g) r ⟨l.val, by omega⟩).symm
    rw [if_pos l.isLt]
  · rw [kept_1, h7 _ _ _ _ _ (Fin.isLt _), dl_bwd]
    refine Eq.trans ?_ (before_lo (glane u w lam s0 g) r ⟨64 + l.val, by omega⟩).symm
    have e : (⟨r.val / 32, by omega⟩ : Fin 16).rev.val = 15 - r.val / 32 := by rw [Fin.val_rev]; show 16 - (r.val / 32 + 1) = _; omega
    rw [if_neg (by show ¬ 64 + l.val < 64; omega), e]
  · rw [kept_2, h8 _ _ _ _ _ (Fin.isLt _), dl_fwd]
    refine Eq.trans ?_ (before_hi (glane u w lam s0 g) r ⟨l.val, by omega⟩).symm
    rw [if_pos l.isLt]
  · rw [kept_3, h8 _ _ _ _ _ (Fin.isLt _), dl_bwd, ← hi_bwd]
    refine Eq.trans ?_ (before_hi (glane u w lam s0 g) r ⟨64 + l.val, by omega⟩).symm
    have e : (⟨r.val / 32, by omega⟩ : Fin 16).rev.val = 15 - r.val / 32 := by rw [Fin.val_rev]; show 16 - (r.val / 32 + 1) = _; omega
    rw [if_neg (by show ¬ 64 + l.val < 64; omega), e]

/-- The reference's first result: the rows without the states and what the states add to them. -/
theorem ref_rows (w2 : FVec Ideal S64x256x256 .bf16) (g : Fin 64) (r : Fin 512) (l : Fin 256) :
    R_main_v75 (F := Ideal) (steps (init (F := Ideal) u w lam s0) 16) u w w2 (ix3 g r l)
      = gdot u w g r (colA l) + gdot u w g r (colB l) + ∑ k : Fin 256, before (fun _ => glane u w lam s0 g) (ix3 0 r k) * w2 (ix3 g k l) := by
  rw [rows_eq]
  simp only [keptRows_eq]

theorem last_lo (S : Fin 32 → Fin 128 → ℕ → EReal × EReal) (b : Fin 32) (l : Fin 128) : last (fun _ => S) (ix3 0 b (lo l)) = (S b l 16).1 := by
  show (if h : l.val < 128 then (S b ⟨l.val, h⟩ 16).1 else _) = _
  rw [dif_pos l.isLt]
theorem last_hi (S : Fin 32 → Fin 128 → ℕ → EReal × EReal) (b : Fin 32) (l : Fin 128) : last (fun _ => S) (ix3 0 b (hi l)) = (S b l 16).2 := by
  show (if h : 128 + l.val < 128 then _ else (S b ⟨128 + l.val - 128, _⟩ 16).2) = _
  rw [dif_neg (by omega)]
  exact congrArg (fun z => (S b z 16).2) (Fin.ext (show 128 + l.val - 128 = l.val by omega))

/-- The reference's second result: the states after the last chunk. -/
theorem ref_ends (g : Fin 64) (b : Fin 32) (c : Fin 256) :
    R_main_v62 (F := Ideal) (steps (init (F := Ideal) u w lam s0) 16) (ix3 g b c) = last (fun _ => glane u w lam s0 g) (ix3 0 b c) := by
  obtain ⟨h5, h6, -⟩ := steps_eq u w lam s0 16 (Nat.le_refl 16)
  obtain ⟨l, rfl⟩ | ⟨l, rfl⟩ | ⟨l, rfl⟩ | ⟨l, rfl⟩ := col_cases c
  · rw [ends_0, h5, dl_fwd]; exact (last_lo (glane u w lam s0 g) b ⟨l.val, by omega⟩).symm
  · rw [ends_1, h5, dl_bwd]; exact (last_lo (glane u w lam s0 g) b ⟨64 + l.val, by omega⟩).symm
  · rw [ends_2, h6, dl_fwd]; exact (last_hi (glane u w lam s0 g) b ⟨l.val, by omega⟩).symm
  · rw [ends_3, h6, dl_bwd, ← hi_bwd]; exact (last_hi (glane u w lam s0 g) b ⟨64 + l.val, by omega⟩).symm

end Cert.Scan
end
-- ==== Proof.Scan.lean ====
/- The S5 scan (`KScan`): what its two result arrays hold, and the claims about it. -/
module

public import proofs.«01_k».proof.Defs
public import proofs.«01_k».proof.Proof.ScanBody
public import proofs.«01_k».proof.Proof.ScanRun
public import proofs.«01_k».proof.Proof.ScanEnd
public import proofs.«01_k».proof.Proof.Gen.KScan.Frame
public import proofs.«01_k».proof.Proof.Gen.KScanIdeal.Value
public import proofs.«01_k».proof.Proof.Gen.RScanIdeal.Run
public import proofs.«01_k».proof.Proof.Gen.RScanIdeal.Step
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KScanIdeal.Hand

open Cert.KScanIdeal Cert.KScanIdeal.Gen
open Cert.Scan

variable (m : (ℓ : Loc nD τ sig) → Buf (Elt Ideal) ℓ) (ρ : Dev nD → PrngReg)

/-- The reference's first result of device `c`'s arguments: what the kernel's first result array is shown to hold. -/
abbrev G5 (c : Dev nD) : Vec Ideal S64x512x256 .bf16 :=
  Cert.RScanIdeal.Step.R_main_v75 (F := Ideal) (Cert.ScanRun.steps (Cert.RScanIdeal.Step.init (F := Ideal) (m ((c : Thread nD τ).loc main_arg0)) (m ((c : Thread nD τ).loc main_arg1)) (m ((c : Thread nD τ).loc main_arg3)) (m ((c : Thread nD τ).loc main_arg4))) 16)
    (m ((c : Thread nD τ).loc main_arg0)) (m ((c : Thread nD τ).loc main_arg1)) (m ((c : Thread nD τ).loc main_arg2))
/-- The reference's second result of device `c`'s arguments: what the kernel's second result array is shown to hold. -/
abbrev G6 (c : Dev nD) : Vec Ideal S64x32x256 .f32 :=
  Cert.RScanIdeal.Step.R_main_v62 (F := Ideal) (Cert.ScanRun.steps (Cert.RScanIdeal.Step.init (F := Ideal) (m ((c : Thread nD τ).loc main_arg0)) (m ((c : Thread nD τ).loc main_arg1)) (m ((c : Thread nD τ).loc main_arg3)) (m ((c : Thread nD τ).loc main_arg4))) 16)

/-- Where the windows' blocks lie at each grid point: two groups, all their rows and columns. -/
theorem index0 : ∀ t : Fin cfg0.N, win0_0.index t 0 = t.val ∧ win0_0.index t 1 = 0 ∧ win0_0.index t 2 = 0 := by
  show ∀ t : Fin grid0.N, _
  decide +kernel
theorem index1 : ∀ t : Fin cfg0.N, win0_1.index t 0 = t.val ∧ win0_1.index t 1 = 0 ∧ win0_1.index t 2 = 0 := by
  show ∀ t : Fin grid0.N, _
  decide +kernel
theorem index2 : ∀ t : Fin cfg0.N, win0_2.index t 0 = t.val ∧ win0_2.index t 1 = 0 ∧ win0_2.index t 2 = 0 := by
  show ∀ t : Fin grid0.N, _
  decide +kernel
theorem index3 : ∀ t : Fin cfg0.N, win0_3.index t 0 = t.val ∧ win0_3.index t 1 = 0 ∧ win0_3.index t 2 = 0 := by
  show ∀ t : Fin grid0.N, _
  decide +kernel
theorem index4 : ∀ t : Fin cfg0.N, win0_4.index t 0 = t.val ∧ win0_4.index t 1 = 0 ∧ win0_4.index t 2 = 0 := by
  show ∀ t : Fin grid0.N, _
  decide +kernel
theorem index5 : ∀ t : Fin cfg0.N, win0_5.index t 0 = t.val ∧ win0_5.index t 1 = 0 ∧ win0_5.index t 2 = 0 := by
  show ∀ t : Fin grid0.N, _
  decide +kernel
theorem index6 : ∀ t : Fin cfg0.N, win0_6.index t 0 = t.val ∧ win0_6.index t 1 = 0 ∧ win0_6.index t 2 = 0 := by
  show ∀ t : Fin grid0.N, _
  decide +kernel

theorem lt_N (t : Fin cfg0.N) : t.val < 32 := lt_of_lt_of_eq t.isLt N_0

/-- Group `g` of point `t`'s two. -/
abbrev grp (t : Fin cfg0.N) (g : Fin 2) : Fin 64 := ⟨t.val * 2 + g.val, by have := lt_N t; omega⟩

theorem iblk0 (c : Dev nD) (t : Fin cfg0.N) (g : Fin 2) (r : Fin 512) (l : Fin 256) :
    (iblk m c 0 t : Vec Ideal S2x512x256 .bf16) (ix3 g r l) = (m ((c : Thread nD τ).loc main_arg0) : Vec Ideal S64x512x256 .bf16) (ix3 (grp t g) r l) := by
  have e := index0 t
  rw [← V_main_arg0 m c]
  unfold iblk
  refine congrArg (V m c main_arg0 : Vec Ideal S64x512x256 .bf16) (funext fun a => Fin.ext ?_)
  match a with
  | ⟨0, _⟩ => show win0_0.index t 0 * 2 + 1 * g.val = t.val * 2 + g.val; rw [e.1]; omega
  | ⟨1, _⟩ => show win0_0.index t 1 * 512 + 1 * r.val = r.val; rw [e.2.1]; omega
  | ⟨2, _⟩ => show win0_0.index t 2 * 256 + 1 * l.val = l.val; rw [e.2.2]; omega

theorem iblk1 (c : Dev nD) (t : Fin cfg0.N) (g : Fin 2) (r : Fin 256) (l : Fin 768) :
    (iblk m c 1 t : Vec Ideal S2x256x768 .bf16) (ix3 g r l) = (m ((c : Thread nD τ).loc main_arg1) : Vec Ideal S64x256x768 .bf16) (ix3 (grp t g) r l) := by
  have e := index1 t
  rw [← V_main_arg1 m c]
  unfold iblk
  refine congrArg (V m c main_arg1 : Vec Ideal S64x256x768 .bf16) (funext fun a => Fin.ext ?_)
  match a with
  | ⟨0, _⟩ => show win0_1.index t 0 * 2 + 1 * g.val = t.val * 2 + g.val; rw [e.1]; omega
  | ⟨1, _⟩ => show win0_1.index t 1 * 256 + 1 * r.val = r.val; rw [e.2.1]; omega
  | ⟨2, _⟩ => show win0_1.index t 2 * 768 + 1 * l.val = l.val; rw [e.2.2]; omega

theorem iblk2 (c : Dev nD) (t : Fin cfg0.N) (g : Fin 2) (r : Fin 256) (l : Fin 256) :
    (iblk m c 2 t : Vec Ideal S2x256x256 .bf16) (ix3 g r l) = (m ((c : Thread nD τ).loc main_arg2) : Vec Ideal S64x256x256 .bf16) (ix3 (grp t g) r l) := by
  have e := index2 t
  rw [← V_main_arg2 m c]
  unfold iblk
  refine congrArg (V m c main_arg2 : Vec Ideal S64x256x256 .bf16) (funext fun a => Fin.ext ?_)
  match a with
  | ⟨0, _⟩ => show win0_2.index t 0 * 2 + 1 * g.val = t.val * 2 + g.val; rw [e.1]; omega
  | ⟨1, _⟩ => show win0_2.index t 1 * 256 + 1 * r.val = r.val; rw [e.2.1]; omega
  | ⟨2, _⟩ => show win0_2.index t 2 * 256 + 1 * l.val = l.val; rw [e.2.2]; omega

theorem iblk3 (c : Dev nD) (t : Fin cfg0.N) (g : Fin 2) (r : Fin 1) (l : Fin 256) :
    (iblk m c 3 t : Vec Ideal S2x1x256 .f32) (ix3 g r l) = (m ((c : Thread nD τ).loc main_arg3) : Vec Ideal S64x1x256 .f32) (ix3 (grp t g) r l) := by
  have e := index3 t
  rw [← V_main_arg3 m c]
  unfold iblk
  refine congrArg (V m c main_arg3 : Vec Ideal S64x1x256 .f32) (funext fun a => Fin.ext ?_)
  match a with
  | ⟨0, _⟩ => show win0_3.index t 0 * 2 + 1 * g.val = t.val * 2 + g.val; rw [e.1]; omega
  | ⟨1, _⟩ => show win0_3.index t 1 * 1 + 1 * r.val = r.val; rw [e.2.1]; omega
  | ⟨2, _⟩ => show win0_3.index t 2 * 256 + 1 * l.val = l.val; rw [e.2.2]; omega

theorem iblk4 (c : Dev nD) (t : Fin cfg0.N) (g : Fin 2) (r : Fin 32) (l : Fin 256) :
    (iblk m c 4 t : Vec Ideal S2x32x256 .f32) (ix3 g r l) = (m ((c : Thread nD τ).loc main_arg4) : Vec Ideal S64x32x256 .f32) (ix3 (grp t g) r l) := by
  have e := index4 t
  rw [← V_main_arg4 m c]
  unfold iblk
  refine congrArg (V m c main_arg4 : Vec Ideal S64x32x256 .f32) (funext fun a => Fin.ext ?_)
  match a with
  | ⟨0, _⟩ => show win0_4.index t 0 * 2 + 1 * g.val = t.val * 2 + g.val; rw [e.1]; omega
  | ⟨1, _⟩ => show win0_4.index t 1 * 32 + 1 * r.val = r.val; rw [e.2.1]; omega
  | ⟨2, _⟩ => show win0_4.index t 2 * 256 + 1 * l.val = l.val; rw [e.2.2]; omega

/-- A row times a column within point `t`'s blocks is the same group's in the whole arrays. -/
theorem dot_eq (c : Dev nD) (t : Fin cfg0.N) (g : Fin 2) (r : Fin 512) (j : Fin 768) :
    dot (iblk m c 0 t) (iblk m c 1 t) g r j = gdot (m ((c : Thread nD τ).loc main_arg0)) (m ((c : Thread nD τ).loc main_arg1)) (grp t g) r j := by
  unfold dot gdot
  simp only [iblk0, iblk1]

/-- So is a lane's recurrence. -/
theorem lane_eq (c : Dev nD) (t : Fin cfg0.N) (g : Fin 2) :
    lane (taken (iblk m c 0 t) (iblk m c 1 t)) (iblk m c 3 t) (iblk m c 4 t) g = glane (m ((c : Thread nD τ).loc main_arg0)) (m ((c : Thread nD τ).loc main_arg1)) (m ((c : Thread nD τ).loc main_arg3)) (m ((c : Thread nD τ).loc main_arg4)) (grp t g) := by
  funext b l
  show scan _ _ _ _ (fun k => dot (iblk m c 0 t) (iblk m c 1 t) g (rowOf k b l) (colC (lo l))) (fun k => dot (iblk m c 0 t) (iblk m c 1 t) g (rowOf k b l) (colC (hi l))) = _
  simp only [dot_eq, iblk3, iblk4]
  rfl

/-- What point `t` writes back is block `t` of the reference's result. -/
theorem flushed5_eq (c : Dev nD) (t : Fin cfg0.N) :
    (dats m 0 c).flushed 5 t = (win0_5.blk t).view.read (Elt Ideal) (G5 m c) := by
  rw [Value.flushed5_A, out5]
  have e := index5 t
  refine funext fun (j : S2x512x256.Idx) => ?_
  obtain ⟨g, r, l, rfl⟩ : ∃ (g : Fin 2) (r : Fin 512) (l : Fin 256), j = ix3 g r l := ⟨j 0, j 1, j 2, (ix3_eta j).symm⟩
  show rows (iblk m c 0 t) (iblk m c 1 t) (iblk m c 2 t) (lane (taken (iblk m c 0 t) (iblk m c 1 t)) (iblk m c 3 t) (iblk m c 4 t)) (ix3 g r l) = G5 m c _
  have hs : rows (iblk m c 0 t) (iblk m c 1 t) (iblk m c 2 t) (lane (taken (iblk m c 0 t) (iblk m c 1 t)) (iblk m c 3 t) (iblk m c 4 t)) (ix3 g r l) = G5 m c (ix3 (grp t g) r l) := by
    refine Eq.trans ?_ (ref_rows (m ((c : Thread nD τ).loc main_arg0)) (m ((c : Thread nD τ).loc main_arg1)) (m ((c : Thread nD τ).loc main_arg3)) (m ((c : Thread nD τ).loc main_arg4)) (m ((c : Thread nD τ).loc main_arg2)) (grp t g) r l).symm
    show dot (iblk m c 0 t) (iblk m c 1 t) g r (colA l) + dot (iblk m c 0 t) (iblk m c 1 t) g r (colB l) + ∑ k : Fin 256, before (fun _ => (lane (taken (iblk m c 0 t) (iblk m c 1 t)) (iblk m c 3 t) (iblk m c 4 t)) g) (ix3 0 r k) * (iblk m c 2 t : Vec Ideal S2x256x256 .bf16) (ix3 g k l) = _
    rw [lane_eq]
    simp only [dot_eq, iblk2]
  refine hs.trans (congrArg (G5 m c) (funext fun a => Fin.ext ?_))
  match a with
  | ⟨0, _⟩ => show t.val * 2 + g.val = win0_5.index t 0 * 2 + 1 * g.val; rw [e.1]; omega
  | ⟨1, _⟩ => show r.val = win0_5.index t 1 * 512 + 1 * r.val; rw [e.2.1]; omega
  | ⟨2, _⟩ => show l.val = win0_5.index t 2 * 256 + 1 * l.val; rw [e.2.2]; omega

/-- An index is in block `t` when its group is. -/
theorem mem_blk5 (t : Fin cfg0.N) (i : S64x512x256.Idx) :
    i ∈ ((cfg0.win 5).blk t).view.set ↔ t.val * 2 ≤ (i 0 : Nat) ∧ (i 0 : Nat) < t.val * 2 + 2 := by
  show i ∈ ((View.whole main_v0_0).slice (win0_5.rect t)).set ↔ _
  rw [View.set_slice_whole, Rect.mem_set_unit]
  have e := index5 t
  have h1 : (i 1 : Nat) < 512 := (i 1).isLt
  have h2 : (i 2 : Nat) < 256 := (i 2).isLt
  refine ⟨fun h => ?_, fun h a => ?_⟩
  · have : win0_5.index t 0 * 2 ≤ (i 0 : Nat) ∧ (i 0 : Nat) < win0_5.index t 0 * 2 + 2 := h 0
    rw [e.1] at this; exact this
  · match a with
    | ⟨0, _⟩ => show win0_5.index t 0 * 2 ≤ (i 0 : Nat) ∧ (i 0 : Nat) < win0_5.index t 0 * 2 + 2
                rw [e.1]; exact h
    | ⟨1, _⟩ => show win0_5.index t 1 * 512 ≤ (i 1 : Nat) ∧ (i 1 : Nat) < win0_5.index t 1 * 512 + 512
                rw [e.2.1]; exact ⟨by norm_num, by norm_num; exact h1⟩
    | ⟨2, _⟩ => show win0_5.index t 2 * 256 ≤ (i 2 : Nat) ∧ (i 2 : Nat) < win0_5.index t 2 * 256 + 256
                rw [e.2.2]; exact ⟨by norm_num, by norm_num; exact h2⟩

theorem cover5 (i : S64x512x256.Idx) : ∃ t : Fin cfg0.N, (cfg0.win 5).flush t = true ∧ i ∈ ((cfg0.win 5).blk t).view.set := by
  have h0 : (i 0 : Nat) < 64 := (i 0).isLt
  have hN : cfg0.N = 32 := N_0
  refine ⟨⟨(i 0 : Nat) / 2, by omega⟩, flush0_5 _, ?_⟩
  rw [mem_blk5]
  dsimp only
  generalize (i 0 : Nat) = a at *
  omega

/-- The result array ends holding the reference's result. -/
theorem final5 (c : Dev nD) : (dats m 0 c).arrAt 5 cfg0.N = G5 m c :=
  (dats m 0 c).arrAt_eq_of_cover 5 (G5 m c) (fun t _ => flushed5_eq m c t) cover5

/-- What point `t` writes back is block `t` of the reference's result. -/
theorem flushed6_eq (c : Dev nD) (t : Fin cfg0.N) :
    (dats m 0 c).flushed 6 t = (win0_6.blk t).view.read (Elt Ideal) (G6 m c) := by
  rw [Value.flushed6_A, out6]
  have e := index6 t
  refine funext fun (j : S2x32x256.Idx) => ?_
  obtain ⟨g, r, l, rfl⟩ : ∃ (g : Fin 2) (r : Fin 32) (l : Fin 256), j = ix3 g r l := ⟨j 0, j 1, j 2, (ix3_eta j).symm⟩
  show last (lane (taken (iblk m c 0 t) (iblk m c 1 t)) (iblk m c 3 t) (iblk m c 4 t)) (ix3 g r l) = G6 m c _
  have hs : last (lane (taken (iblk m c 0 t) (iblk m c 1 t)) (iblk m c 3 t) (iblk m c 4 t)) (ix3 g r l) = G6 m c (ix3 (grp t g) r l) := by
    refine Eq.trans ?_ (ref_ends (m ((c : Thread nD τ).loc main_arg0)) (m ((c : Thread nD τ).loc main_arg1)) (m ((c : Thread nD τ).loc main_arg3)) (m ((c : Thread nD τ).loc main_arg4)) (grp t g) r l).symm
    show last (fun _ => (lane (taken (iblk m c 0 t) (iblk m c 1 t)) (iblk m c 3 t) (iblk m c 4 t)) g) (ix3 0 r l) = _
    rw [lane_eq]
  refine hs.trans (congrArg (G6 m c) (funext fun a => Fin.ext ?_))
  match a with
  | ⟨0, _⟩ => show t.val * 2 + g.val = win0_6.index t 0 * 2 + 1 * g.val; rw [e.1]; omega
  | ⟨1, _⟩ => show r.val = win0_6.index t 1 * 32 + 1 * r.val; rw [e.2.1]; omega
  | ⟨2, _⟩ => show l.val = win0_6.index t 2 * 256 + 1 * l.val; rw [e.2.2]; omega

/-- An index is in block `t` when its group is. -/
theorem mem_blk6 (t : Fin cfg0.N) (i : S64x32x256.Idx) :
    i ∈ ((cfg0.win 6).blk t).view.set ↔ t.val * 2 ≤ (i 0 : Nat) ∧ (i 0 : Nat) < t.val * 2 + 2 := by
  show i ∈ ((View.whole main_v0_1).slice (win0_6.rect t)).set ↔ _
  rw [View.set_slice_whole, Rect.mem_set_unit]
  have e := index6 t
  have h1 : (i 1 : Nat) < 32 := (i 1).isLt
  have h2 : (i 2 : Nat) < 256 := (i 2).isLt
  refine ⟨fun h => ?_, fun h a => ?_⟩
  · have : win0_6.index t 0 * 2 ≤ (i 0 : Nat) ∧ (i 0 : Nat) < win0_6.index t 0 * 2 + 2 := h 0
    rw [e.1] at this; exact this
  · match a with
    | ⟨0, _⟩ => show win0_6.index t 0 * 2 ≤ (i 0 : Nat) ∧ (i 0 : Nat) < win0_6.index t 0 * 2 + 2
                rw [e.1]; exact h
    | ⟨1, _⟩ => show win0_6.index t 1 * 32 ≤ (i 1 : Nat) ∧ (i 1 : Nat) < win0_6.index t 1 * 32 + 32
                rw [e.2.1]; exact ⟨by norm_num, by norm_num; exact h1⟩
    | ⟨2, _⟩ => show win0_6.index t 2 * 256 ≤ (i 2 : Nat) ∧ (i 2 : Nat) < win0_6.index t 2 * 256 + 256
                rw [e.2.2]; exact ⟨by norm_num, by norm_num; exact h2⟩

theorem cover6 (i : S64x32x256.Idx) : ∃ t : Fin cfg0.N, (cfg0.win 6).flush t = true ∧ i ∈ ((cfg0.win 6).blk t).view.set := by
  have h0 : (i 0 : Nat) < 64 := (i 0).isLt
  have hN : cfg0.N = 32 := N_0
  refine ⟨⟨(i 0 : Nat) / 2, by omega⟩, flush0_6 _, ?_⟩
  rw [mem_blk6]
  dsimp only
  generalize (i 0 : Nat) = a at *
  omega

/-- The result array ends holding the reference's result. -/
theorem final6 (c : Dev nD) : (dats m 0 c).arrAt 6 cfg0.N = G6 m c :=
  (dats m 0 c).arrAt_eq_of_cover 6 (G6 m c) (fun t _ => flushed6_eq m c t) cover6

end Cert.KScanIdeal.Hand

namespace Cert.Proof.ScanClaims

theorem frame_k : Cert.quiescent_KScan := fun m ρ _ => Cert.KScan.Gen.frame m ρ
theorem frame_ki : Cert.quiescent_KScanIdeal := fun m ρ _ => Cert.KScanIdeal.Gen.frame m ρ
/-- The reference is host operations and one host loop: its run leaves its arguments as they were. -/
theorem frame_ri : Cert.quiescent_RScanIdeal := fun m ρ _ =>
  (θ_run Cert.RScanIdeal.defs _ _).mono (fun r h => ⟨fun c => (h c).2.2, Idealize.ShloMosaic.sem_eq_zero_of_no_sems (by decide) r.2⟩)
    (Cert.RScanIdeal.Value.run (F := Ideal) m ρ)

theorem preserves : Cert.preserves_KScan_KScanIdeal := trivial

/-- The kernel and its reference compute the same two results. -/
theorem algebraic : Cert.algebraic_KScanIdeal_RScanIdeal := by
  intro m ρ m' ρ' _ hag
  refine ⟨fun c => Cert.KScanIdeal.Hand.G5 m c, fun c => Cert.KScanIdeal.Hand.G6 m c, ?_, ?_⟩
  · exact (θ_run Cert.KScanIdeal.defs _ _).mono
      (fun _ h c => ⟨(h c).1.trans (Cert.KScanIdeal.Hand.final5 m c), (h c).2.1.trans (Cert.KScanIdeal.Hand.final6 m c), (h c).2.2⟩)
      (Cert.KScanIdeal.Value.run_blocks (F := Ideal) m ρ)
  · refine (θ_run Cert.RScanIdeal.defs _ _).mono
      (fun _ h c => ⟨((h c).1.trans (Cert.ScanRun.out_75 m' c)).trans ?_, ((h c).2.1.trans (Cert.ScanRun.out_62 m' c)).trans ?_, (h c).2.2⟩)
      (Cert.RScanIdeal.Value.run (F := Ideal) m' ρ')
    · obtain ⟨h0, h1, h2, h3, h4⟩ := hag c
      unfold Cert.ScanRun.start
      rw [h0, h1, h2, h3, h4]
    · obtain ⟨h0, h1, h2, h3, h4⟩ := hag c
      unfold Cert.ScanRun.start
      rw [h0, h1, h3, h4]

end Cert.Proof.ScanClaims
end
-- ==== Proof.Powers.lean ====
/- The S5 parameters (`KPowers`): what a chunk's steps multiply the states by, add to them and read from them, against the reference. -/
module

public import proofs.«01_k».proof.Defs
public import proofs.«01_k».proof.Proof.Gen.KPowers.Frame
public import proofs.«01_k».proof.Proof.Gen.KPowersIdeal.Value
public import proofs.«01_k».proof.Proof.Gen.RPowersIdeal.Run
public import proofs.«01_k».proof.Proof.Gen.RPowersIdeal.Read
public import Idealize.ShloMosaic.Lib.Pointwise
public import Idealize.ShloMosaic.Lib.Pipeline.Value
public import Idealize.ShloMosaic.Lib.Quiescent
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.Powers

/-- The largest real part that a state's rate may have. -/
abbrev top : EReal := Scalar.ofBits (F := Ideal) .f32 0xB8D1B717#32

/-- The product of two complex numbers, each given by its two parts. -/
def mulR (a b c d : EReal) : EReal := a * c - b * d
def mulI (a b c d : EReal) : EReal := a * d + b * c

/-- The rate of a state over one step: the real part `x`, kept below the largest, and the imaginary part `y`, times the length of the step. -/
def rateR (x d : EReal) : EReal := min x top * Ideal.exp d
def rateI (y d : EReal) : EReal := y * Ideal.exp d

/-- The exponential of `e` times a rate. -/
def powR (e a b : EReal) : EReal := Ideal.exp (e * a) * Ideal.cos (e * b)
def powI (e a b : EReal) : EReal := Ideal.exp (e * a) * Ideal.sin (e * b)

/-- What a step's input is multiplied by: the exponential of the rate, less one, over the rate. -/
def gainR (x y d : EReal) : EReal :=
  Ideal.div ((powR 1 (rateR x d) (rateI y d) - 1) * min x top + powI 1 (rateR x d) (rateI y d) * y) (min x top * min x top + y * y)
def gainI (x y d : EReal) : EReal :=
  Ideal.div (powI 1 (rateR x d) (rateI y d) * min x top - (powR 1 (rateR x d) (rateI y d) - 1) * y) (min x top * min x top + y * y)

/-- The number of a step of a chunk. -/
abbrev stepE (n : Fin 16) : EReal := FloatOps.sitofp (F := Ideal) .f32 (BitVec.ofNat 32 n.val)

/-- The numbers 15 and 16. -/
abbrev fifteen : EReal := Scalar.ofBits (F := Ideal) .f32 0x41700000#32
abbrev sixteen : EReal := Scalar.ofBits (F := Ideal) .f32 0x41800000#32

/-- The steps from step `n` to the end of the chunk, and from its start, in each direction. -/
def toEnd (d : Fin 2) (n : Fin 16) : EReal := if d.val < 1 then fifteen - stepE n else stepE n
def fromStart (d : Fin 2) (n : Fin 16) : EReal := if d.val < 1 then stepE n + 1 else sixteen - stepE n

/-- The bit that tells the kernel that a grid point is of the backward direction. -/
abbrev back (d : Fin 2) : BitVec 1 := Scalar.cmpi .eq (BitVec.ofNat 32 d.val) 1#32

section
open Cert.KPowersIdeal Cert.KPowersIdeal.Gen

variable (x y d : Vec Ideal S1x1x1x64 .f32)

theorem pay9_apply (p : Fin 64) : k0_pay9 (F := Ideal) x d (ix2 0 p) = rateR (x (ix4 0 0 0 p)) (d (ix4 0 0 0 p)) := by
  unfold rateR
  pointwise [k0_pay9, k0_pay6, k0_pay8]

theorem pay10_apply (p : Fin 64) : k0_pay10 (F := Ideal) y d (ix2 0 p) = rateI (y (ix4 0 0 0 p)) (d (ix4 0 0 0 p)) := by
  unfold rateI
  pointwise [k0_pay10, k0_pay7, k0_pay8]

theorem pay16_apply (p : Fin 64) : k0_pay16 (F := Ideal) x y d (ix2 0 p) = gainR (x (ix4 0 0 0 p)) (y (ix4 0 0 0 p)) (d (ix4 0 0 0 p)) := by
  unfold gainR powR powI rateR rateI
  pointwise [k0_pay16, k0_pay15, k0_pay14, k0_pay13, k0_pay12, k0_pay11, k0_pay10, k0_pay9, k0_pay8, k0_pay7, k0_pay6]

theorem pay17_apply (p : Fin 64) : k0_pay17 (F := Ideal) x y d (ix2 0 p) = gainI (x (ix4 0 0 0 p)) (y (ix4 0 0 0 p)) (d (ix4 0 0 0 p)) := by
  unfold gainI powR powI rateR rateI
  pointwise [k0_pay17, k0_pay15, k0_pay14, k0_pay13, k0_pay12, k0_pay11, k0_pay10, k0_pay9, k0_pay8, k0_pay7, k0_pay6]

theorem pay20_apply (q r : FVec Ideal S1x64 .f32) (u v : Vec Ideal S1x1x16x64 .f32) (c : Fin 16) (p : Fin 64) :
    k0_pay20 (F := Ideal) q r u v (ix2 c p) = mulR (q (ix2 0 p)) (r (ix2 0 p)) (u (ix4 0 0 c p)) (v (ix4 0 0 c p)) := by
  unfold mulR
  pointwise [k0_pay20, k0_pay18, k0_pay19]

theorem pay21_apply (q r : FVec Ideal S1x64 .f32) (u v : Vec Ideal S1x1x16x64 .f32) (c : Fin 16) (p : Fin 64) :
    k0_pay21 (F := Ideal) q r u v (ix2 c p) = mulI (q (ix2 0 p)) (r (ix2 0 p)) (u (ix4 0 0 c p)) (v (ix4 0 0 c p)) := by
  unfold mulI
  pointwise [k0_pay21, k0_pay18, k0_pay19]

theorem pay22_apply (u : Vec Ideal S1x1x16x64 .f32) (c : Fin 16) (p : Fin 64) : k0_pay22 (F := Ideal) u (ix2 c p) = u (ix4 0 0 c p) := by
  pointwise [k0_pay22]

theorem pay23_apply (u : Vec Ideal S1x1x16x64 .f32) (c : Fin 16) (p : Fin 64) : k0_pay23 (F := Ideal) u (ix2 c p) = u (ix4 0 0 c p) := by
  pointwise [k0_pay23]

theorem pay24_apply (n : Fin 16) : k0_pay24 (F := Ideal) (ix3 n 0 0) = stepE n := by
  pointwise [k0_pay24]

theorem pay32_apply (b : Fin 2) (n : Fin 16) : k0_pay32 (F := Ideal) (back b) k0_pay24 (ix3 n 0 0) = toEnd b n := by
  unfold toEnd
  rw [← pay24_apply]
  generalize k0_pay24 (F := Ideal) = X
  match b with
  | ⟨0, _⟩ => exact (rfl : _ = _ )
  | ⟨1, _⟩ => exact (rfl : _ = _ )

theorem pay38_apply (b : Fin 2) (n : Fin 16) : k0_pay38 (F := Ideal) (back b) k0_pay24 (ix3 n 0 0) = fromStart b n := by
  unfold fromStart
  rw [← pay24_apply]
  generalize k0_pay24 (F := Ideal) = X
  match b with
  | ⟨0, _⟩ => show _ = X (ix3 n 0 0) + 1
              rw [← Idealize.ShloMosaic.Ideal.ofBits_one_f32]
              rfl
  | ⟨1, _⟩ => rfl

variable (ar ai : FVec Ideal S1x64 .f32)

theorem pay34_apply (b : Fin 2) (n : Fin 16) (p : Fin 64) :
    k0_pay34 (F := Ideal) (back b) ar ai k0_pay24 (ix3 n 0 p) = powR (toEnd b n) (ar (ix2 0 p)) (ai (ix2 0 p)) := by
  rw [← pay32_apply]
  unfold powR k0_pay34 k0_pay33
  generalize k0_pay32 (F := Ideal) (back b) k0_pay24 = X
  pointwise

theorem pay35_apply (b : Fin 2) (n : Fin 16) (p : Fin 64) :
    k0_pay35 (F := Ideal) (back b) ar ai k0_pay24 (ix3 n 0 p) = powI (toEnd b n) (ar (ix2 0 p)) (ai (ix2 0 p)) := by
  rw [← pay32_apply]
  unfold powI k0_pay35 k0_pay33
  generalize k0_pay32 (F := Ideal) (back b) k0_pay24 = X
  pointwise

theorem pay40_apply (b : Fin 2) (n : Fin 16) (p : Fin 64) :
    k0_pay40 (F := Ideal) (back b) ar ai k0_pay24 (ix3 n 0 p) = powR (fromStart b n) (ar (ix2 0 p)) (ai (ix2 0 p)) := by
  rw [← pay38_apply]
  unfold powR k0_pay40 k0_pay39
  generalize k0_pay38 (F := Ideal) (back b) k0_pay24 = X
  pointwise

theorem pay41_apply (b : Fin 2) (n : Fin 16) (p : Fin 64) :
    k0_pay41 (F := Ideal) (back b) ar ai k0_pay24 (ix3 n 0 p) = powI (fromStart b n) (ar (ix2 0 p)) (ai (ix2 0 p)) := by
  rw [← pay38_apply]
  unfold powI k0_pay41 k0_pay39
  generalize k0_pay38 (F := Ideal) (back b) k0_pay24 = X
  pointwise

theorem pay36_apply (b : Fin 2) (u v : FVec Ideal S16x64 .f32) (n c : Fin 16) (p : Fin 64) :
    k0_pay36 (F := Ideal) (back b) ar ai u v k0_pay24 (ix5 0 0 n c p)
      = mulR (powR (toEnd b n) (ar (ix2 0 p)) (ai (ix2 0 p))) (powI (toEnd b n) (ar (ix2 0 p)) (ai (ix2 0 p))) (u (ix2 c p)) (v (ix2 c p)) := by
  rw [← pay34_apply, ← pay35_apply]
  unfold mulR k0_pay36
  generalize k0_pay34 (F := Ideal) (back b) ar ai k0_pay24 = X
  generalize k0_pay35 (F := Ideal) (back b) ar ai k0_pay24 = Y
  pointwise

theorem pay37_apply (u v : FVec Ideal S16x64 .f32) (er ei : FVec Ideal S16x1x64 .f32) (n c : Fin 16) (p : Fin 64) :
    k0_pay37 (F := Ideal) u v er ei (ix5 0 0 n c p) = mulI (er (ix3 n 0 p)) (ei (ix3 n 0 p)) (u (ix2 c p)) (v (ix2 c p)) := by
  unfold mulI
  pointwise [k0_pay37]

theorem pay42_apply (b : Fin 2) (u v : FVec Ideal S16x64 .f32) (n c : Fin 16) (p : Fin 64) :
    k0_pay42 (F := Ideal) (back b) ar ai u v k0_pay24 (ix5 0 0 n c p)
      = mulR (u (ix2 c p)) (v (ix2 c p)) (powR (fromStart b n) (ar (ix2 0 p)) (ai (ix2 0 p))) (powI (fromStart b n) (ar (ix2 0 p)) (ai (ix2 0 p))) := by
  rw [← pay40_apply, ← pay41_apply]
  unfold mulR k0_pay42
  generalize k0_pay40 (F := Ideal) (back b) ar ai k0_pay24 = X
  generalize k0_pay41 (F := Ideal) (back b) ar ai k0_pay24 = Y
  pointwise

theorem pay1_apply (u v : FVec Ideal S16x64 .f32) (er ei : FVec Ideal S16x1x64 .f32) (n c : Fin 16) (p : Fin 64) :
    k0_pay1 (F := Ideal) u v er ei (ix5 0 0 n c p) = -mulI (u (ix2 c p)) (v (ix2 c p)) (er (ix3 n 0 p)) (ei (ix3 n 0 p)) := by
  unfold mulI
  pointwise [k0_pay1]
  exact zero_sub _

theorem pay4_apply (p : Fin 64) : k0_pay4 (F := Ideal) ar ai k0_pay11 (ix4 0 0 0 p) = powR sixteen (ar (ix2 0 p)) (ai (ix2 0 p)) := by
  unfold powR
  pointwise [k0_pay4, k0_pay3, k0_pay2, k0_pay11]

theorem pay5_apply (p : Fin 64) : k0_pay5 (F := Ideal) ar ai k0_pay11 (ix4 0 0 0 p) = powI sixteen (ar (ix2 0 p)) (ai (ix2 0 p)) := by
  unfold powI
  pointwise [k0_pay5, k0_pay3, k0_pay2, k0_pay11]

theorem pay26_apply (n : Fin 16) (p : Fin 64) : k0_pay26 (F := Ideal) ar ai (ix3 n 0 p) = powR (stepE n) (ar (ix2 0 p)) (ai (ix2 0 p)) := by
  rw [← pay24_apply]
  unfold powR k0_pay26 k0_pay25
  generalize k0_pay24 (F := Ideal) = X
  pointwise

theorem pay27_apply (n : Fin 16) (p : Fin 64) : k0_pay27 (F := Ideal) ar ai (ix3 n 0 p) = powI (stepE n) (ar (ix2 0 p)) (ai (ix2 0 p)) := by
  rw [← pay24_apply]
  unfold powI k0_pay27 k0_pay25
  generalize k0_pay24 (F := Ideal) = X
  pointwise

/-- The response of a chunk's output channel `c`, `n` steps on, to one input channel, summed over the states. -/
theorem pay31_apply (u v : FVec Ideal S16x64 .f32) (cr ci : Vec Ideal S1x1x16x64 .f32) (n c i : Fin 16) :
    k0_pay31 (F := Ideal) u v (k0_pay23 ci) (k0_pay26 ar ai) (k0_pay28 ar ai cr ci) (k0_pay29 cr) (k0_pay30 ar ai) (ix4 0 0 ⟨n.val * 16 + c.val, by omega⟩ i)
      = (∑ p : Fin 64, mulR (cr (ix4 0 0 c p)) (ci (ix4 0 0 c p)) (powR (stepE n) (ar (ix2 0 p)) (ai (ix2 0 p))) (powI (stepE n) (ar (ix2 0 p)) (ai (ix2 0 p))) * u (ix2 i p))
        - ∑ p : Fin 64, mulI (cr (ix4 0 0 c p)) (ci (ix4 0 0 c p)) (powR (stepE n) (ar (ix2 0 p)) (ai (ix2 0 p))) (powI (stepE n) (ar (ix2 0 p)) (ai (ix2 0 p))) * v (ix2 i p) := by
  simp only [← pay26_apply, ← pay27_apply]
  unfold mulR mulI k0_pay31 k0_pay30 k0_pay29 k0_pay28 k0_pay23 k0_pay22
  generalize k0_pay26 (F := Ideal) ar ai = X
  generalize k0_pay27 (F := Ideal) ar ai = Y
  pointwise
end

section
open Cert.RPowersIdeal Cert.RPowersIdeal.Gen Cert.RPowersIdeal.Read

variable (x0 x1 : Vec Ideal S1x2x64x64 .f32) (x2 : Vec Ideal S1x2x64 .f32) (x3 x4 : Vec Ideal S1x2x64x64x16 .f32) (x5 x6 : Vec Ideal S1x2x64x16x64 .f32)
  (d : Fin 2) (g : Fin 64)

theorem ref_rateR (p : Fin 64) : val_main_v8 (F := Ideal) x0 x2 (ix3 d g p) = rateR (x0 (ix4 0 d g p)) (x2 (ix3 0 d g)) := by
  unfold rateR
  simp only [val_main_v8, val_main_v7, val_main_v6, val_main_v5, val_main_v4, val_main_v3, val_main_v2, val_main_v1, val_main_v0]
  pointwise [val_main_cst]

theorem ref_rateI (p : Fin 64) : val_main_v10 (F := Ideal) x1 x2 (ix3 d g p) = rateI (x1 (ix4 0 d g p)) (x2 (ix3 0 d g)) := by
  unfold rateI
  simp only [val_main_v10, val_main_v9, val_main_v8, val_main_v7, val_main_v6, val_main_v5, val_main_v4, val_main_v3]
  pointwise

theorem ref_gainR (p : Fin 64) : val_main_v25 (F := Ideal) x0 x1 x2 (ix3 d g p) = gainR (x0 (ix4 0 d g p)) (x1 (ix4 0 d g p)) (x2 (ix3 0 d g)) := by
  unfold gainR powR powI rateR rateI
  simp only [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  pointwise [val_main_cst, val_main_cst_0]

theorem ref_gainI (p : Fin 64) : val_main_v29 (F := Ideal) x0 x1 x2 (ix3 d g p) = gainI (x0 (ix4 0 d g p)) (x1 (ix4 0 d g p)) (x2 (ix3 0 d g)) := by
  unfold gainI powR powI rateR rateI
  simp only [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  pointwise [val_main_cst, val_main_cst_0]

theorem ref_inR (c : Fin 16) (p : Fin 64) :
    val_main_v45 (F := Ideal) x0 x1 x2 x3 x4 (ix5 d g 0 c p)
      = mulR (gainR (x0 (ix4 0 d g p)) (x1 (ix4 0 d g p)) (x2 (ix3 0 d g))) (gainI (x0 (ix4 0 d g p)) (x1 (ix4 0 d g p)) (x2 (ix3 0 d g)))
          (x3 (ix5 0 d g p c)) (x4 (ix5 0 d g p c)) := by
  rw [← ref_gainR, ← ref_gainI]
  unfold mulR
  simp only [val_main_v45, val_main_v44, val_main_v43, val_main_v42, val_main_v41, val_main_v40, val_main_v39, val_main_v38, val_main_v37, val_main_v36, val_main_v35, val_main_v34, val_main_v33, val_main_v32, val_main_v31, val_main_v30]
  generalize val_main_v25 (F := Ideal) x0 x1 x2 = X
  generalize val_main_v29 (F := Ideal) x0 x1 x2 = Y
  pointwise

theorem ref_inI (c : Fin 16) (p : Fin 64) :
    val_main_v47 (F := Ideal) x0 x1 x2 x3 x4 (ix5 d g 0 c p)
      = mulI (gainR (x0 (ix4 0 d g p)) (x1 (ix4 0 d g p)) (x2 (ix3 0 d g))) (gainI (x0 (ix4 0 d g p)) (x1 (ix4 0 d g p)) (x2 (ix3 0 d g)))
          (x3 (ix5 0 d g p c)) (x4 (ix5 0 d g p c)) := by
  rw [← ref_gainR, ← ref_gainI]
  unfold mulI
  simp only [val_main_v47, val_main_v46, val_main_v44, val_main_v43, val_main_v42, val_main_v41, val_main_v40, val_main_v39, val_main_v38, val_main_v37, val_main_v36, val_main_v35, val_main_v34, val_main_v33, val_main_v32, val_main_v31, val_main_v30]
  generalize val_main_v25 (F := Ideal) x0 x1 x2 = X
  generalize val_main_v29 (F := Ideal) x0 x1 x2 = Y
  pointwise

theorem ref_step (n : Fin 16) : val_main_v52 (F := Ideal) (ix1 n) = stepE n := by
  pointwise [val_main_v52]

theorem ref_toEnd (n : Fin 16) : val_main_v95 (F := Ideal) (ix2 d n) = toEnd d n := by
  unfold toEnd
  rw [← ref_step]
  simp only [val_main_v95, val_main_v94, val_main_v93, val_main_v92, val_main_v91]
  pointwise [val_main_cst_1]
  by_cases h : d.val < 1
  · rw [dif_pos h, if_pos h]
  · rw [dif_neg h, if_neg h]

theorem ref_fromStart (n : Fin 16) : val_main_v132 (F := Ideal) (ix2 d n) = fromStart d n := by
  unfold fromStart
  rw [← ref_step]
  simp only [val_main_v132, val_main_v131, val_main_v130, val_main_v129, val_main_v128, val_main_v127, val_main_v126]
  pointwise [val_main_cst_2, val_main_cst_3]
  by_cases h : d.val < 1
  · rw [dif_pos h, if_pos h]
  · rw [dif_neg h, if_neg h]

theorem ref_lagR (n : Fin 16) (p : Fin 64) :
    val_main_v66 (F := Ideal) x0 x1 x2 (ix4 d g n p) = powR (stepE n) (val_main_v8 (F := Ideal) x0 x2 (ix3 d g p)) (val_main_v10 (F := Ideal) x1 x2 (ix3 d g p)) := by
  rw [← ref_step]
  unfold powR
  simp only [val_main_v66, val_main_v65, val_main_v64, val_main_v63, val_main_v62, val_main_v61, val_main_v60, val_main_v59, val_main_v58, val_main_v57, val_main_v56, val_main_v55, val_main_v54, val_main_v53]
  generalize val_main_v52 (F := Ideal) = X
  generalize val_main_v8 (F := Ideal) x0 x2 = A
  generalize val_main_v10 (F := Ideal) x1 x2 = B
  pointwise

theorem ref_lagI (n : Fin 16) (p : Fin 64) :
    val_main_v68 (F := Ideal) x0 x1 x2 (ix4 d g n p) = powI (stepE n) (val_main_v8 (F := Ideal) x0 x2 (ix3 d g p)) (val_main_v10 (F := Ideal) x1 x2 (ix3 d g p)) := by
  rw [← ref_step]
  unfold powI
  simp only [val_main_v68, val_main_v67, val_main_v65, val_main_v64, val_main_v63, val_main_v62, val_main_v61, val_main_v60, val_main_v59, val_main_v58, val_main_v57, val_main_v56, val_main_v55, val_main_v54, val_main_v53]
  generalize val_main_v52 (F := Ideal) = X
  generalize val_main_v8 (F := Ideal) x0 x2 = A
  generalize val_main_v10 (F := Ideal) x1 x2 = B
  pointwise

theorem ref_endR (n : Fin 16) (p : Fin 64) :
    val_main_v107 (F := Ideal) x0 x1 x2 (ix4 d g n p) = powR (toEnd d n) (val_main_v8 (F := Ideal) x0 x2 (ix3 d g p)) (val_main_v10 (F := Ideal) x1 x2 (ix3 d g p)) := by
  rw [← ref_toEnd]
  unfold powR
  simp only [val_main_v107, val_main_v106, val_main_v105, val_main_v104, val_main_v103, val_main_v102, val_main_v101, val_main_v100, val_main_v99, val_main_v98, val_main_v97, val_main_v96]
  generalize val_main_v95 (F := Ideal) = X
  generalize val_main_v8 (F := Ideal) x0 x2 = A
  generalize val_main_v10 (F := Ideal) x1 x2 = B
  pointwise

theorem ref_endI (n : Fin 16) (p : Fin 64) :
    val_main_v109 (F := Ideal) x0 x1 x2 (ix4 d g n p) = powI (toEnd d n) (val_main_v8 (F := Ideal) x0 x2 (ix3 d g p)) (val_main_v10 (F := Ideal) x1 x2 (ix3 d g p)) := by
  rw [← ref_toEnd]
  unfold powI
  simp only [val_main_v109, val_main_v108, val_main_v106, val_main_v105, val_main_v104, val_main_v103, val_main_v102, val_main_v101, val_main_v100, val_main_v99, val_main_v98, val_main_v97, val_main_v96]
  generalize val_main_v95 (F := Ideal) = X
  generalize val_main_v8 (F := Ideal) x0 x2 = A
  generalize val_main_v10 (F := Ideal) x1 x2 = B
  pointwise

theorem ref_startR (n : Fin 16) (p : Fin 64) :
    val_main_v144 (F := Ideal) x0 x1 x2 (ix4 d g n p) = powR (fromStart d n) (val_main_v8 (F := Ideal) x0 x2 (ix3 d g p)) (val_main_v10 (F := Ideal) x1 x2 (ix3 d g p)) := by
  rw [← ref_fromStart]
  unfold powR
  simp only [val_main_v144, val_main_v143, val_main_v142, val_main_v141, val_main_v140, val_main_v139, val_main_v138, val_main_v137, val_main_v136, val_main_v135, val_main_v134, val_main_v133]
  generalize val_main_v132 (F := Ideal) = X
  generalize val_main_v8 (F := Ideal) x0 x2 = A
  generalize val_main_v10 (F := Ideal) x1 x2 = B
  pointwise

theorem ref_startI (n : Fin 16) (p : Fin 64) :
    val_main_v146 (F := Ideal) x0 x1 x2 (ix4 d g n p) = powI (fromStart d n) (val_main_v8 (F := Ideal) x0 x2 (ix3 d g p)) (val_main_v10 (F := Ideal) x1 x2 (ix3 d g p)) := by
  rw [← ref_fromStart]
  unfold powI
  simp only [val_main_v146, val_main_v145, val_main_v143, val_main_v142, val_main_v141, val_main_v140, val_main_v139, val_main_v138, val_main_v137, val_main_v136, val_main_v135, val_main_v134, val_main_v133]
  generalize val_main_v132 (F := Ideal) = X
  generalize val_main_v8 (F := Ideal) x0 x2 = A
  generalize val_main_v10 (F := Ideal) x1 x2 = B
  pointwise

theorem ref_wholeR (p : Fin 64) :
    val_main_v174 (F := Ideal) x0 x1 x2 (ix4 d g 0 p) = powR sixteen (rateR (x0 (ix4 0 d g p)) (x2 (ix3 0 d g))) (rateI (x1 (ix4 0 d g p)) (x2 (ix3 0 d g))) := by
  rw [← ref_rateR, ← ref_rateI]
  unfold powR
  simp only [val_main_v174, val_main_v173, val_main_v172, val_main_v171, val_main_v170, val_main_v169, val_main_v168, val_main_v167, val_main_v166, val_main_v165, val_main_v164, val_main_v163]
  generalize val_main_v8 (F := Ideal) x0 x2 = A
  generalize val_main_v10 (F := Ideal) x1 x2 = B
  pointwise [val_main_cst_4]

theorem ref_wholeI (p : Fin 64) :
    val_main_v176 (F := Ideal) x0 x1 x2 (ix4 d g 0 p) = powI sixteen (rateR (x0 (ix4 0 d g p)) (x2 (ix3 0 d g))) (rateI (x1 (ix4 0 d g p)) (x2 (ix3 0 d g))) := by
  rw [← ref_rateR, ← ref_rateI]
  unfold powI
  simp only [val_main_v176, val_main_v175, val_main_v173, val_main_v172, val_main_v171, val_main_v170, val_main_v169, val_main_v168, val_main_v167, val_main_v166, val_main_v165, val_main_v164, val_main_v163]
  generalize val_main_v8 (F := Ideal) x0 x2 = A
  generalize val_main_v10 (F := Ideal) x1 x2 = B
  pointwise [val_main_cst_4]

/-- What a step adds to the state at the chunk's end: the power times the input's weights. -/
theorem ref_addR (n c : Fin 16) (p : Fin 64) :
    val_main_v118 (F := Ideal) x0 x1 x2 x3 x4 (ix5 d g n c p)
      = mulR (val_main_v107 (F := Ideal) x0 x1 x2 (ix4 d g n p)) (val_main_v109 (F := Ideal) x0 x1 x2 (ix4 d g n p))
          (val_main_v45 (F := Ideal) x0 x1 x2 x3 x4 (ix5 d g 0 c p)) (val_main_v47 (F := Ideal) x0 x1 x2 x3 x4 (ix5 d g 0 c p)) := by
  unfold mulR
  simp only [val_main_v118, val_main_v117, val_main_v116, val_main_v115, val_main_v114, val_main_v113, val_main_v112, val_main_v111, val_main_v110]
  generalize val_main_v107 (F := Ideal) x0 x1 x2 = X
  generalize val_main_v109 (F := Ideal) x0 x1 x2 = Y
  generalize val_main_v45 (F := Ideal) x0 x1 x2 x3 x4 = A
  generalize val_main_v47 (F := Ideal) x0 x1 x2 x3 x4 = B
  pointwise

theorem ref_addI (n c : Fin 16) (p : Fin 64) :
    val_main_v125 (F := Ideal) x0 x1 x2 x3 x4 (ix5 d g n c p)
      = mulI (val_main_v107 (F := Ideal) x0 x1 x2 (ix4 d g n p)) (val_main_v109 (F := Ideal) x0 x1 x2 (ix4 d g n p))
          (val_main_v45 (F := Ideal) x0 x1 x2 x3 x4 (ix5 d g 0 c p)) (val_main_v47 (F := Ideal) x0 x1 x2 x3 x4 (ix5 d g 0 c p)) := by
  unfold mulI
  simp only [val_main_v125, val_main_v124, val_main_v123, val_main_v122, val_main_v121, val_main_v120, val_main_v119, val_main_v117, val_main_v116, val_main_v115, val_main_v114, val_main_v113, val_main_v112, val_main_v111, val_main_v110]
  generalize val_main_v107 (F := Ideal) x0 x1 x2 = X
  generalize val_main_v109 (F := Ideal) x0 x1 x2 = Y
  generalize val_main_v45 (F := Ideal) x0 x1 x2 x3 x4 = A
  generalize val_main_v47 (F := Ideal) x0 x1 x2 x3 x4 = B
  pointwise

/-- What the state before the chunk adds at a step: the output's weights times the power. -/
theorem ref_readR (n c : Fin 16) (p : Fin 64) :
    val_main_v155 (F := Ideal) x0 x1 x2 x5 x6 (ix5 d g n c p)
      = mulR (x5 (ix5 0 d g c p)) (x6 (ix5 0 d g c p)) (val_main_v144 (F := Ideal) x0 x1 x2 (ix4 d g n p)) (val_main_v146 (F := Ideal) x0 x1 x2 (ix4 d g n p)) := by
  unfold mulR
  simp only [val_main_v155, val_main_v154, val_main_v153, val_main_v152, val_main_v151, val_main_v150, val_main_v149, val_main_v148, val_main_v147, val_main_v51, val_main_v50, val_main_v49, val_main_v48]
  generalize val_main_v144 (F := Ideal) x0 x1 x2 = X
  generalize val_main_v146 (F := Ideal) x0 x1 x2 = Y
  pointwise

theorem ref_readI (n c : Fin 16) (p : Fin 64) :
    val_main_v177 (F := Ideal) x0 x1 x2 x5 x6 (ix5 d g n c p)
      = -mulI (x5 (ix5 0 d g c p)) (x6 (ix5 0 d g c p)) (val_main_v144 (F := Ideal) x0 x1 x2 (ix4 d g n p)) (val_main_v146 (F := Ideal) x0 x1 x2 (ix4 d g n p)) := by
  unfold mulI
  simp only [val_main_v177, val_main_v162, val_main_v161, val_main_v160, val_main_v159, val_main_v158, val_main_v157, val_main_v156, val_main_v155, val_main_v154, val_main_v153, val_main_v152, val_main_v151, val_main_v150, val_main_v149, val_main_v148, val_main_v147, val_main_v51, val_main_v50, val_main_v49, val_main_v48]
  generalize val_main_v144 (F := Ideal) x0 x1 x2 = X
  generalize val_main_v146 (F := Ideal) x0 x1 x2 = Y
  pointwise

/-- The response of output channel `c`, `n` steps on, to input channel `i`, summed over the states. -/
theorem ref_response (n c i : Fin 16) :
    val_main_v90 (F := Ideal) x0 x1 x2 x3 x4 x5 x6 (ix4 d g ⟨n.val * 16 + c.val, by omega⟩ i)
      = (∑ p : Fin 64, mulR (x5 (ix5 0 d g c p)) (x6 (ix5 0 d g c p)) (val_main_v66 (F := Ideal) x0 x1 x2 (ix4 d g n p)) (val_main_v68 (F := Ideal) x0 x1 x2 (ix4 d g n p))
            * val_main_v45 (F := Ideal) x0 x1 x2 x3 x4 (ix5 d g 0 i p))
        - ∑ p : Fin 64, mulI (x5 (ix5 0 d g c p)) (x6 (ix5 0 d g c p)) (val_main_v66 (F := Ideal) x0 x1 x2 (ix4 d g n p)) (val_main_v68 (F := Ideal) x0 x1 x2 (ix4 d g n p))
            * val_main_v47 (F := Ideal) x0 x1 x2 x3 x4 (ix5 d g 0 i p) := by
  unfold mulR mulI
  simp only [val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v51, val_main_v50, val_main_v49, val_main_v48]
  generalize val_main_v66 (F := Ideal) x0 x1 x2 = X
  generalize val_main_v68 (F := Ideal) x0 x1 x2 = Y
  generalize val_main_v45 (F := Ideal) x0 x1 x2 x3 x4 = A
  generalize val_main_v47 (F := Ideal) x0 x1 x2 x3 x4 = B
  pointwise
end

end Cert.Powers

namespace Cert.KPowersIdeal.Hand

open Cert.KPowersIdeal Cert.KPowersIdeal.Gen
open Cert.Powers
open Cert.RPowersIdeal.Read (val_main_v8 val_main_v10 val_main_v45 val_main_v47 val_main_v66 val_main_v68 val_main_v90 val_main_v107 val_main_v109
  val_main_v118 val_main_v125 val_main_v144 val_main_v146 val_main_v155 val_main_v174 val_main_v176 val_main_v177)

variable (m : (ℓ : Loc nD τ sig) → Buf (Elt Ideal) ℓ) (ρ : Dev nD → PrngReg)

/-- Device `c`'s arguments. -/
abbrev A0 (c : Dev nD) : Vec Ideal S1x2x64x64 .f32 := m ((c : Thread nD τ).loc main_arg0)
abbrev A1 (c : Dev nD) : Vec Ideal S1x2x64x64 .f32 := m ((c : Thread nD τ).loc main_arg1)
abbrev A2 (c : Dev nD) : Vec Ideal S1x2x64 .f32 := m ((c : Thread nD τ).loc main_arg2)
abbrev A3 (c : Dev nD) : Vec Ideal S1x2x64x64x16 .f32 := m ((c : Thread nD τ).loc main_arg3)
abbrev A4 (c : Dev nD) : Vec Ideal S1x2x64x64x16 .f32 := m ((c : Thread nD τ).loc main_arg4)
abbrev A5 (c : Dev nD) : Vec Ideal S1x2x64x16x64 .f32 := m ((c : Thread nD τ).loc main_arg5)
abbrev A6 (c : Dev nD) : Vec Ideal S1x2x64x16x64 .f32 := m ((c : Thread nD τ).loc main_arg6)

/-- The reference's results of device `c`'s arguments: what the kernel's result arrays are shown to hold, in their order. -/
abbrev G0 (c : Dev nD) : Vec Ideal S2x64x256x16 .f32 := val_main_v90 (F := Ideal) (A0 m c) (A1 m c) (A2 m c) (A3 m c) (A4 m c) (A5 m c) (A6 m c)
abbrev G1 (c : Dev nD) : Vec Ideal S2x64x16x16x64 .f32 := val_main_v118 (F := Ideal) (A0 m c) (A1 m c) (A2 m c) (A3 m c) (A4 m c)
abbrev G2 (c : Dev nD) : Vec Ideal S2x64x16x16x64 .f32 := val_main_v125 (F := Ideal) (A0 m c) (A1 m c) (A2 m c) (A3 m c) (A4 m c)
abbrev G3 (c : Dev nD) : Vec Ideal S2x64x16x16x64 .f32 := val_main_v155 (F := Ideal) (A0 m c) (A1 m c) (A2 m c) (A5 m c) (A6 m c)
abbrev G4 (c : Dev nD) : Vec Ideal S2x64x16x16x64 .f32 := val_main_v177 (F := Ideal) (A0 m c) (A1 m c) (A2 m c) (A5 m c) (A6 m c)
abbrev G5 (c : Dev nD) : Vec Ideal S2x64x1x64 .f32 := val_main_v174 (F := Ideal) (A0 m c) (A1 m c) (A2 m c)
abbrev G6 (c : Dev nD) : Vec Ideal S2x64x1x64 .f32 := val_main_v176 (F := Ideal) (A0 m c) (A1 m c) (A2 m c)

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

theorem state_apply (x : FVec Ideal S1x2x64x64 .f32) (d : Fin 2) (g : Fin 64) (p : Fin 64) :
    shapeCast S2x64x1x64 (shapeCast S2x64x64 x shapeCasts_S1x2x64x64_S2x64x64) shapeCasts_S2x64x64_S2x64x1x64 (ix4 d g 0 p) = x (ix4 0 d g p) := by
  pointwise
theorem step_apply (x : FVec Ideal S1x2x64 .f32) (d : Fin 2) (g : Fin 64) (p : Fin 64) :
    broadcastInDim S2x64x1x64 ![0, 1, 2, 3] bcast_S2x64x1x1_S2x64x1x64_0_1_2_3
      (broadcastInDim S2x64x1x1 ![0, 1] bcast_S2x64_S2x64x1x1_0_1 (shapeCast S2x64 x shapeCasts_S1x2x64_S2x64)) (ix4 d g 0 p) = x (ix3 0 d g) := by
  pointwise
theorem in_apply (x : FVec Ideal S1x2x64x64x16 .f32) (d : Fin 2) (g : Fin 64) (k : Fin 16) (p : Fin 64) :
    transpose S2x64x16x64 [0, 1, 3, 2] (shapeCast S2x64x64x16 x shapeCasts_S1x2x64x64x16_S2x64x64x16) transposes_S2x64x64x16_S2x64x16x64_0_1_3_2 (ix4 d g k p)
      = x (ix5 0 d g p k) := by
  pointwise
theorem out_apply (x : FVec Ideal S1x2x64x16x64 .f32) (d : Fin 2) (g : Fin 64) (k : Fin 16) (p : Fin 64) :
    shapeCast S2x64x16x64 x shapeCasts_S1x2x64x16x64_S2x64x16x64 (ix4 d g k p) = x (ix5 0 d g k p) := by
  pointwise

/-- The arrays the host prepares for the kernel, as terms of the arguments. -/
theorem V_v9 (c : Dev nD) : @Eq (FVec Ideal S2x64x1x64 .f32) (V m c main_v9)
    (shapeCast S2x64x1x64 (shapeCast S2x64x64 (A0 m c) shapeCasts_S1x2x64x64_S2x64x64) shapeCasts_S2x64x64_S2x64x1x64) := by
  unfold V; after_results <;> rfl
theorem V_v10 (c : Dev nD) : @Eq (FVec Ideal S2x64x1x64 .f32) (V m c main_v10)
    (shapeCast S2x64x1x64 (shapeCast S2x64x64 (A1 m c) shapeCasts_S1x2x64x64_S2x64x64) shapeCasts_S2x64x64_S2x64x1x64) := by
  unfold V; after_results <;> rfl
theorem V_v8 (c : Dev nD) : @Eq (FVec Ideal S2x64x1x64 .f32) (V m c main_v8)
    (broadcastInDim S2x64x1x64 ![0, 1, 2, 3] bcast_S2x64x1x1_S2x64x1x64_0_1_2_3
      (broadcastInDim S2x64x1x1 ![0, 1] bcast_S2x64_S2x64x1x1_0_1 (shapeCast S2x64 (A2 m c) shapeCasts_S1x2x64_S2x64))) := by
  unfold V; after_results <;> rfl
theorem V_v11 (c : Dev nD) : @Eq (FVec Ideal S2x64x16x64 .f32) (V m c main_v11)
    (transpose S2x64x16x64 [0, 1, 3, 2] (shapeCast S2x64x64x16 (A3 m c) shapeCasts_S1x2x64x64x16_S2x64x64x16) transposes_S2x64x64x16_S2x64x16x64_0_1_3_2) := by
  unfold V; after_results <;> rfl
theorem V_v12 (c : Dev nD) : @Eq (FVec Ideal S2x64x16x64 .f32) (V m c main_v12)
    (transpose S2x64x16x64 [0, 1, 3, 2] (shapeCast S2x64x64x16 (A4 m c) shapeCasts_S1x2x64x64x16_S2x64x64x16) transposes_S2x64x64x16_S2x64x16x64_0_1_3_2) := by
  unfold V; after_results <;> rfl
theorem V_v5 (c : Dev nD) : @Eq (FVec Ideal S2x64x16x64 .f32) (V m c main_v5)
    (shapeCast S2x64x16x64 (A5 m c) shapeCasts_S1x2x64x16x64_S2x64x16x64) := by
  unfold V; after_results <;> rfl
theorem V_v6 (c : Dev nD) : @Eq (FVec Ideal S2x64x16x64 .f32) (V m c main_v6)
    (shapeCast S2x64x16x64 (A6 m c) shapeCasts_S1x2x64x16x64_S2x64x16x64) := by
  unfold V; after_results <;> rfl

theorem lt_N (t : Fin cfg0.N) : t.val < 128 := lt_of_lt_of_eq t.isLt N_0

/-- The direction and the group of grid point `t`. -/
abbrev dir (t : Fin cfg0.N) : Fin 2 := ⟨t.val / 64, by have := lt_N t; omega⟩
abbrev grp (t : Fin cfg0.N) : Fin 64 := ⟨t.val % 64, by omega⟩

/-- The kernel's test of the direction. -/
theorem coord_dir : ∀ t : Fin cfg0.N, (grid0.coords t 0).val = t.val / 64 := by
  show ∀ t : Fin grid0.N, _
  decide +kernel
theorem back_eq (t : Fin cfg0.N) : Scalar.cmpi .eq (BitVec.ofNat 32 (grid0.coords t 0).val) 1#32 = back (dir t) := by rw [coord_dir]

/-- Where a block lies whose first two coordinates are the point's direction and group, and the others 0. -/
abbrev At4 (t : Fin cfg0.N) (f : Fin 4 → Nat) : Prop := f 0 = t.val / 64 ∧ f 1 = t.val % 64 ∧ f 2 = 0 ∧ f 3 = 0
abbrev At5 (t : Fin cfg0.N) (f : Fin 5 → Nat) : Prop := f 0 = t.val / 64 ∧ f 1 = t.val % 64 ∧ f 2 = 0 ∧ f 3 = 0 ∧ f 4 = 0

theorem index0 : ∀ t : Fin cfg0.N, At4 t (win0_0.index t) := by
  show ∀ t : Fin grid0.N, _
  decide +kernel
theorem index8 : ∀ t : Fin cfg0.N, At5 t (win0_8.index t) := by
  show ∀ t : Fin grid0.N, _
  decide +kernel
theorem index1 (t : Fin cfg0.N) : At4 t (win0_1.index t) := index0 t
theorem index2 (t : Fin cfg0.N) : At4 t (win0_2.index t) := index0 t
theorem index3 (t : Fin cfg0.N) : At4 t (win0_3.index t) := index0 t
theorem index4 (t : Fin cfg0.N) : At4 t (win0_4.index t) := index0 t
theorem index5 (t : Fin cfg0.N) : At4 t (win0_5.index t) := index0 t
theorem index6 (t : Fin cfg0.N) : At4 t (win0_6.index t) := index0 t
theorem index7 (t : Fin cfg0.N) : At4 t (win0_7.index t) := index0 t
theorem index9 (t : Fin cfg0.N) : At5 t (win0_9.index t) := index8 t
theorem index10 (t : Fin cfg0.N) : At5 t (win0_10.index t) := index8 t
theorem index11 (t : Fin cfg0.N) : At5 t (win0_11.index t) := index8 t
theorem index12 (t : Fin cfg0.N) : At4 t (win0_12.index t) := index0 t
theorem index13 (t : Fin cfg0.N) : At4 t (win0_13.index t) := index0 t

section
variable {t : Fin cfg0.N}

/-- An element of such a block lies in the array at the same place of the point's direction and group. -/
theorem spot4 {R C : Nat} {f : Fin 4 → Nat} (e : At4 t f) (k : Fin R) (p : Fin C) (a : Fin 4) :
    f a * (![1, 1, R, C] : Fin 4 → Nat) a + 1 * ((ix4 (n0 := 1) (n1 := 1) 0 0 k p) a).val = ((ix4 (dir t) (grp t) k p) a).val := by
  match a with
  | ⟨0, _⟩ => show f 0 * 1 + 1 * 0 = t.val / 64; rw [e.1]; omega
  | ⟨1, _⟩ => show f 1 * 1 + 1 * 0 = t.val % 64; rw [e.2.1]; omega
  | ⟨2, _⟩ => show f 2 * R + 1 * k.val = k.val; rw [e.2.2.1]; omega
  | ⟨3, _⟩ => show f 3 * C + 1 * p.val = p.val; rw [e.2.2.2]; omega

theorem spot5 {f : Fin 5 → Nat} (e : At5 t f) (n k : Fin 16) (p : Fin 64) (a : Fin 5) :
    f a * (![1, 1, 16, 16, 64] : Fin 5 → Nat) a + 1 * ((ix5 (n0 := 1) (n1 := 1) 0 0 n k p) a).val = ((ix5 (dir t) (grp t) n k p) a).val := by
  match a with
  | ⟨0, _⟩ => show f 0 * 1 + 1 * 0 = t.val / 64; rw [e.1]; omega
  | ⟨1, _⟩ => show f 1 * 1 + 1 * 0 = t.val % 64; rw [e.2.1]; omega
  | ⟨2, _⟩ => show f 2 * 16 + 1 * n.val = n.val; rw [e.2.2.1]; omega
  | ⟨3, _⟩ => show f 3 * 16 + 1 * k.val = k.val; rw [e.2.2.2.1]; omega
  | ⟨4, _⟩ => show f 4 * 64 + 1 * p.val = p.val; rw [e.2.2.2.2]; omega

/-- The grid point of a direction and a group. -/
abbrev point (d : Fin 2) (g : Fin 64) : Fin cfg0.N := ⟨d.val * 64 + g.val, by have : cfg0.N = 128 := N_0; omega⟩

/-- Every element of the array lies in the block of its direction and group. -/
theorem inside4 {R C : Nat} {f : Fin 4 → Nat} (i : (⟨4, ![2, 64, R, C]⟩ : Shape).Idx) (e : At4 (point (i 0) (i 1)) f) (a : Fin 4) :
    f a * (![1, 1, R, C] : Fin 4 → Nat) a ≤ (i a).val ∧ (i a).val < f a * (![1, 1, R, C] : Fin 4 → Nat) a + (![1, 1, R, C] : Fin 4 → Nat) a := by
  have h0 : (i 0).val < 2 := (i 0).isLt
  have h1 : (i 1).val < 64 := (i 1).isLt
  have h2 : (i 2).val < R := (i 2).isLt
  have h3 : (i 3).val < C := (i 3).isLt
  have e0 : f 0 = ((i 0).val * 64 + (i 1).val) / 64 := e.1
  have e1 : f 1 = ((i 0).val * 64 + (i 1).val) % 64 := e.2.1
  match a with
  | ⟨0, _⟩ => show f 0 * 1 ≤ (i 0).val ∧ (i 0).val < f 0 * 1 + 1; omega
  | ⟨1, _⟩ => show f 1 * 1 ≤ (i 1).val ∧ (i 1).val < f 1 * 1 + 1; omega
  | ⟨2, _⟩ => show f 2 * R ≤ (i 2).val ∧ (i 2).val < f 2 * R + R; rw [e.2.2.1]; omega
  | ⟨3, _⟩ => show f 3 * C ≤ (i 3).val ∧ (i 3).val < f 3 * C + C; rw [e.2.2.2]; omega

theorem inside5 {f : Fin 5 → Nat} (i : S2x64x16x16x64.Idx) (e : At5 (point (i 0) (i 1)) f) (a : Fin 5) :
    f a * (![1, 1, 16, 16, 64] : Fin 5 → Nat) a ≤ (i a).val ∧ (i a).val < f a * (![1, 1, 16, 16, 64] : Fin 5 → Nat) a + (![1, 1, 16, 16, 64] : Fin 5 → Nat) a := by
  have h0 : (i 0).val < 2 := (i 0).isLt
  have h1 : (i 1).val < 64 := (i 1).isLt
  have h2 : (i 2).val < 16 := (i 2).isLt
  have h3 : (i 3).val < 16 := (i 3).isLt
  have h4 : (i 4).val < 64 := (i 4).isLt
  have e0 : f 0 = ((i 0).val * 64 + (i 1).val) / 64 := e.1
  have e1 : f 1 = ((i 0).val * 64 + (i 1).val) % 64 := e.2.1
  match a with
  | ⟨0, _⟩ => show f 0 * 1 ≤ (i 0).val ∧ (i 0).val < f 0 * 1 + 1; omega
  | ⟨1, _⟩ => show f 1 * 1 ≤ (i 1).val ∧ (i 1).val < f 1 * 1 + 1; omega
  | ⟨2, _⟩ => show f 2 * 16 ≤ (i 2).val ∧ (i 2).val < f 2 * 16 + 16; rw [e.2.2.1]; omega
  | ⟨3, _⟩ => show f 3 * 16 ≤ (i 3).val ∧ (i 3).val < f 3 * 16 + 16; rw [e.2.2.2.1]; omega
  | ⟨4, _⟩ => show f 4 * 64 ≤ (i 4).val ∧ (i 4).val < f 4 * 64 + 64; rw [e.2.2.2.2]; omega
end

/-- The indices of a block. -/
theorem idx4 (j : S1x1x1x64.Idx) : ∃ p : Fin 64, j = ix4 0 0 0 p := by
  refine ⟨j 3, funext fun a => Fin.ext ?_⟩
  match a with
  | ⟨0, _⟩ => exact Nat.lt_one_iff.mp (j 0).isLt
  | ⟨1, _⟩ => exact Nat.lt_one_iff.mp (j 1).isLt
  | ⟨2, _⟩ => exact Nat.lt_one_iff.mp (j 2).isLt
  | ⟨3, _⟩ => rfl
theorem idx5 (j : S1x1x16x16x64.Idx) : ∃ (n k : Fin 16) (p : Fin 64), j = ix5 0 0 n k p := by
  refine ⟨j 2, j 3, j 4, funext fun a => Fin.ext ?_⟩
  match a with
  | ⟨0, _⟩ => exact Nat.lt_one_iff.mp (j 0).isLt
  | ⟨1, _⟩ => exact Nat.lt_one_iff.mp (j 1).isLt
  | ⟨2, _⟩ => rfl
  | ⟨3, _⟩ => rfl
  | ⟨4, _⟩ => rfl

section
variable (c : Dev nD) (t : Fin cfg0.N)

theorem iblk0 (p : Fin 64) : (iblk m c 0 t : Vec Ideal S1x1x1x64 .f32) (ix4 0 0 0 p) = A0 m c (ix4 0 (dir t) (grp t) p) := by
  rw [← state_apply (A0 m c), ← V_v9]
  exact congrArg (V m c main_v9 : Vec Ideal S2x64x1x64 .f32) (funext fun a => Fin.ext (spot4 (index0 t) 0 p a))
theorem iblk1 (p : Fin 64) : (iblk m c 1 t : Vec Ideal S1x1x1x64 .f32) (ix4 0 0 0 p) = A1 m c (ix4 0 (dir t) (grp t) p) := by
  rw [← state_apply (A1 m c), ← V_v10]
  exact congrArg (V m c main_v10 : Vec Ideal S2x64x1x64 .f32) (funext fun a => Fin.ext (spot4 (index1 t) 0 p a))
theorem iblk2 (p : Fin 64) : (iblk m c 2 t : Vec Ideal S1x1x1x64 .f32) (ix4 0 0 0 p) = A2 m c (ix3 0 (dir t) (grp t)) := by
  rw [← step_apply (A2 m c) _ _ p, ← V_v8]
  exact congrArg (V m c main_v8 : Vec Ideal S2x64x1x64 .f32) (funext fun a => Fin.ext (spot4 (index2 t) 0 p a))
theorem iblk3 (k : Fin 16) (p : Fin 64) : (iblk m c 3 t : Vec Ideal S1x1x16x64 .f32) (ix4 0 0 k p) = A3 m c (ix5 0 (dir t) (grp t) p k) := by
  rw [← in_apply (A3 m c), ← V_v11]
  exact congrArg (V m c main_v11 : Vec Ideal S2x64x16x64 .f32) (funext fun a => Fin.ext (spot4 (index3 t) k p a))
theorem iblk4 (k : Fin 16) (p : Fin 64) : (iblk m c 4 t : Vec Ideal S1x1x16x64 .f32) (ix4 0 0 k p) = A4 m c (ix5 0 (dir t) (grp t) p k) := by
  rw [← in_apply (A4 m c), ← V_v12]
  exact congrArg (V m c main_v12 : Vec Ideal S2x64x16x64 .f32) (funext fun a => Fin.ext (spot4 (index4 t) k p a))
theorem iblk5 (k : Fin 16) (p : Fin 64) : (iblk m c 5 t : Vec Ideal S1x1x16x64 .f32) (ix4 0 0 k p) = A5 m c (ix5 0 (dir t) (grp t) k p) := by
  rw [← out_apply (A5 m c), ← V_v5]
  exact congrArg (V m c main_v5 : Vec Ideal S2x64x16x64 .f32) (funext fun a => Fin.ext (spot4 (index5 t) k p a))
theorem iblk6 (k : Fin 16) (p : Fin 64) : (iblk m c 6 t : Vec Ideal S1x1x16x64 .f32) (ix4 0 0 k p) = A6 m c (ix5 0 (dir t) (grp t) k p) := by
  rw [← out_apply (A6 m c), ← V_v6]
  exact congrArg (V m c main_v6 : Vec Ideal S2x64x16x64 .f32) (funext fun a => Fin.ext (spot4 (index6 t) k p a))

/-- The rates and the input's weights over point `t`'s blocks. -/
abbrev AR : FVec Ideal S1x64 .f32 := k0_pay9 (F := Ideal) (iblk m c 0 t) (iblk m c 2 t)
abbrev AI : FVec Ideal S1x64 .f32 := k0_pay10 (F := Ideal) (iblk m c 1 t) (iblk m c 2 t)
abbrev BR : FVec Ideal S16x64 .f32 :=
  k0_pay20 (F := Ideal) (k0_pay16 (iblk m c 0 t) (iblk m c 1 t) (iblk m c 2 t)) (k0_pay17 (iblk m c 0 t) (iblk m c 1 t) (iblk m c 2 t)) (iblk m c 3 t) (iblk m c 4 t)
abbrev BI : FVec Ideal S16x64 .f32 :=
  k0_pay21 (F := Ideal) (k0_pay16 (iblk m c 0 t) (iblk m c 1 t) (iblk m c 2 t)) (k0_pay17 (iblk m c 0 t) (iblk m c 1 t) (iblk m c 2 t)) (iblk m c 3 t) (iblk m c 4 t)

theorem rateR_eq (p : Fin 64) : AR m c t (ix2 0 p) = val_main_v8 (F := Ideal) (A0 m c) (A2 m c) (ix3 (dir t) (grp t) p) := by
  rw [ref_rateR]
  refine (pay9_apply _ _ p).trans ?_
  rw [iblk0, iblk2]
theorem rateI_eq (p : Fin 64) : AI m c t (ix2 0 p) = val_main_v10 (F := Ideal) (A1 m c) (A2 m c) (ix3 (dir t) (grp t) p) := by
  rw [ref_rateI]
  refine (pay10_apply _ _ p).trans ?_
  rw [iblk1, iblk2]
theorem inR_eq (k : Fin 16) (p : Fin 64) :
    BR m c t (ix2 k p) = val_main_v45 (F := Ideal) (A0 m c) (A1 m c) (A2 m c) (A3 m c) (A4 m c) (ix5 (dir t) (grp t) 0 k p) := by
  rw [ref_inR]
  refine (pay20_apply _ _ _ _ k p).trans ?_
  rw [pay16_apply, pay17_apply, iblk0, iblk1, iblk2, iblk3, iblk4]
theorem inI_eq (k : Fin 16) (p : Fin 64) :
    BI m c t (ix2 k p) = val_main_v47 (F := Ideal) (A0 m c) (A1 m c) (A2 m c) (A3 m c) (A4 m c) (ix5 (dir t) (grp t) 0 k p) := by
  rw [ref_inI]
  refine (pay21_apply _ _ _ _ k p).trans ?_
  rw [pay16_apply, pay17_apply, iblk0, iblk1, iblk2, iblk3, iblk4]

/-- What point `t` writes back is the block of its direction and group of the reference's result. -/
theorem flushed7_eq : (dats m 0 c).flushed 7 t = (win0_7.blk t).view.read (Elt Ideal) (G0 m c) := by
  rw [Value.flushed7]
  unfold_out out0_7
  rw [View.canon_unit_zero hz4]
  repeat rw [View.ld_unit_zero hz4]
  refine funext fun (j : S1x1x256x16.Idx) => ?_
  obtain ⟨n, k, i, rfl⟩ : ∃ (n k i : Fin 16), j = ix4 0 0 ⟨n.val * 16 + k.val, by omega⟩ i := by
    have h2 : (j 2).val < 256 := (j 2).isLt
    refine ⟨⟨(j 2).val / 16, by omega⟩, ⟨(j 2).val % 16, by omega⟩, j 3, funext fun a => Fin.ext ?_⟩
    match a with
    | ⟨0, _⟩ => exact Nat.lt_one_iff.mp (j 0).isLt
    | ⟨1, _⟩ => exact Nat.lt_one_iff.mp (j 1).isLt
    | ⟨2, _⟩ => show (j 2).val = (j 2).val / 16 * 16 + (j 2).val % 16; omega
    | ⟨3, _⟩ => rfl
  show k0_pay31 (F := Ideal) (BR m c t) (BI m c t) (k0_pay23 (iblk m c 6 t)) (k0_pay26 (AR m c t) (AI m c t)) (k0_pay28 (AR m c t) (AI m c t) (iblk m c 5 t) (iblk m c 6 t))
    (k0_pay29 (iblk m c 5 t)) (k0_pay30 (AR m c t) (AI m c t)) _ = G0 m c _
  refine ((pay31_apply _ _ _ _ _ _ n k i).trans ?_).trans (congrArg (G0 m c) (funext fun a => Fin.ext (spot4 (index7 t) _ i a).symm))
  refine Eq.trans ?_ (ref_response _ _ _ _ _ _ _ (dir t) (grp t) n k i).symm
  simp only [ref_lagR, ref_lagI, rateR_eq, rateI_eq, inR_eq, inI_eq, iblk5, iblk6]

theorem flushed8_eq : (dats m 0 c).flushed 8 t = (win0_8.blk t).view.read (Elt Ideal) (G1 m c) := by
  rw [Value.flushed8]
  unfold_out out0_8
  rw [View.canon_unit_zero hz5]
  repeat rw [View.ld_unit_zero hz4]
  rw [back_eq]
  refine funext fun (j : S1x1x16x16x64.Idx) => ?_
  obtain ⟨n, k, p, rfl⟩ := idx5 j
  show k0_pay36 (F := Ideal) (back (dir t)) (AR m c t) (AI m c t) (BR m c t) (BI m c t) k0_pay24 _ = G1 m c _
  refine ((pay36_apply _ _ _ _ _ n k p).trans ?_).trans (congrArg (G1 m c) (funext fun a => Fin.ext (spot5 (index8 t) n k p a).symm))
  refine Eq.trans ?_ (ref_addR _ _ _ _ _ (dir t) (grp t) n k p).symm
  rw [ref_endR, ref_endI, rateR_eq, rateI_eq, inR_eq, inI_eq]

theorem flushed9_eq : (dats m 0 c).flushed 9 t = (win0_9.blk t).view.read (Elt Ideal) (G2 m c) := by
  rw [Value.flushed9]
  unfold_out out0_9
  rw [View.canon_unit_zero hz5]
  repeat rw [View.ld_unit_zero hz4]
  rw [back_eq]
  refine funext fun (j : S1x1x16x16x64.Idx) => ?_
  obtain ⟨n, k, p, rfl⟩ := idx5 j
  show k0_pay37 (F := Ideal) (BR m c t) (BI m c t) (k0_pay34 (back (dir t)) (AR m c t) (AI m c t) k0_pay24) (k0_pay35 (back (dir t)) (AR m c t) (AI m c t) k0_pay24) _ = G2 m c _
  refine ((pay37_apply _ _ _ _ n k p).trans ?_).trans (congrArg (G2 m c) (funext fun a => Fin.ext (spot5 (index9 t) n k p a).symm))
  refine Eq.trans ?_ (ref_addI _ _ _ _ _ (dir t) (grp t) n k p).symm
  rw [pay34_apply, pay35_apply, ref_endR, ref_endI, rateR_eq, rateI_eq, inR_eq, inI_eq]

theorem flushed10_eq : (dats m 0 c).flushed 10 t = (win0_10.blk t).view.read (Elt Ideal) (G3 m c) := by
  rw [Value.flushed10]
  unfold_out out0_10
  rw [View.canon_unit_zero hz5]
  repeat rw [View.ld_unit_zero hz4]
  rw [back_eq]
  refine funext fun (j : S1x1x16x16x64.Idx) => ?_
  obtain ⟨n, k, p, rfl⟩ := idx5 j
  show k0_pay42 (F := Ideal) (back (dir t)) (AR m c t) (AI m c t) (k0_pay22 (iblk m c 5 t)) (k0_pay23 (iblk m c 6 t)) k0_pay24 _ = G3 m c _
  refine ((pay42_apply _ _ _ _ _ n k p).trans ?_).trans (congrArg (G3 m c) (funext fun a => Fin.ext (spot5 (index10 t) n k p a).symm))
  refine Eq.trans ?_ (ref_readR _ _ _ _ _ (dir t) (grp t) n k p).symm
  rw [pay22_apply, pay23_apply, ref_startR, ref_startI, rateR_eq, rateI_eq, iblk5, iblk6]

theorem flushed11_eq : (dats m 0 c).flushed 11 t = (win0_11.blk t).view.read (Elt Ideal) (G4 m c) := by
  rw [Value.flushed11]
  unfold_out out0_11
  rw [View.canon_unit_zero hz5]
  repeat rw [View.ld_unit_zero hz4]
  rw [back_eq]
  refine funext fun (j : S1x1x16x16x64.Idx) => ?_
  obtain ⟨n, k, p, rfl⟩ := idx5 j
  show k0_pay1 (F := Ideal) (k0_pay22 (iblk m c 5 t)) (k0_pay23 (iblk m c 6 t)) (k0_pay40 (back (dir t)) (AR m c t) (AI m c t) k0_pay24) (k0_pay41 (back (dir t)) (AR m c t) (AI m c t) k0_pay24) _ = G4 m c _
  refine ((pay1_apply _ _ _ _ n k p).trans ?_).trans (congrArg (G4 m c) (funext fun a => Fin.ext (spot5 (index11 t) n k p a).symm))
  refine Eq.trans ?_ (ref_readI _ _ _ _ _ (dir t) (grp t) n k p).symm
  rw [pay40_apply, pay41_apply, pay22_apply, pay23_apply, ref_startR, ref_startI, rateR_eq, rateI_eq, iblk5, iblk6]

theorem flushed12_eq : (dats m 0 c).flushed 12 t = (win0_12.blk t).view.read (Elt Ideal) (G5 m c) := by
  rw [Value.flushed12]
  unfold_out out0_12
  rw [View.canon_unit_zero hz4]
  repeat rw [View.ld_unit_zero hz4]
  refine funext fun (j : S1x1x1x64.Idx) => ?_
  obtain ⟨p, rfl⟩ := idx4 j
  show k0_pay4 (F := Ideal) (AR m c t) (AI m c t) k0_pay11 _ = G5 m c _
  refine ((pay4_apply _ _ p).trans ?_).trans (congrArg (G5 m c) (funext fun a => Fin.ext (spot4 (index12 t) 0 p a).symm))
  refine Eq.trans ?_ (ref_wholeR _ _ _ (dir t) (grp t) p).symm
  rw [← ref_rateR, ← ref_rateI, rateR_eq, rateI_eq]

theorem flushed13_eq : (dats m 0 c).flushed 13 t = (win0_13.blk t).view.read (Elt Ideal) (G6 m c) := by
  rw [Value.flushed13]
  unfold_out out0_13
  rw [View.canon_unit_zero hz4]
  repeat rw [View.ld_unit_zero hz4]
  refine funext fun (j : S1x1x1x64.Idx) => ?_
  obtain ⟨p, rfl⟩ := idx4 j
  show k0_pay5 (F := Ideal) (AR m c t) (AI m c t) k0_pay11 _ = G6 m c _
  refine ((pay5_apply _ _ p).trans ?_).trans (congrArg (G6 m c) (funext fun a => Fin.ext (spot4 (index13 t) 0 p a).symm))
  refine Eq.trans ?_ (ref_wholeI _ _ _ (dir t) (grp t) p).symm
  rw [← ref_rateR, ← ref_rateI, rateR_eq, rateI_eq]
end

/-- The result arrays end holding the reference's results. -/
theorem final7 (c : Dev nD) : (dats m 0 c).arrAt 7 cfg0.N = G0 m c :=
  (dats m 0 c).arrAt_eq_of_cover 7 (G0 m c) (fun t _ => flushed7_eq m c t) fun (i : S2x64x256x16.Idx) => by
    refine ⟨point (i 0) (i 1), flush0_7 _, ?_⟩
    show i ∈ ((View.whole main_v13_0).slice (win0_7.rect (point (i 0) (i 1)))).set
    rw [View.set_slice_whole, Rect.mem_set_unit]
    exact inside4 i (index7 _)
theorem final8 (c : Dev nD) : (dats m 0 c).arrAt 8 cfg0.N = G1 m c :=
  (dats m 0 c).arrAt_eq_of_cover 8 (G1 m c) (fun t _ => flushed8_eq m c t) fun (i : S2x64x16x16x64.Idx) => by
    refine ⟨point (i 0) (i 1), flush0_8 _, ?_⟩
    show i ∈ ((View.whole main_v13_1).slice (win0_8.rect (point (i 0) (i 1)))).set
    rw [View.set_slice_whole, Rect.mem_set_unit]
    exact inside5 i (index8 _)
theorem final9 (c : Dev nD) : (dats m 0 c).arrAt 9 cfg0.N = G2 m c :=
  (dats m 0 c).arrAt_eq_of_cover 9 (G2 m c) (fun t _ => flushed9_eq m c t) fun (i : S2x64x16x16x64.Idx) => by
    refine ⟨point (i 0) (i 1), flush0_9 _, ?_⟩
    show i ∈ ((View.whole main_v13_2).slice (win0_9.rect (point (i 0) (i 1)))).set
    rw [View.set_slice_whole, Rect.mem_set_unit]
    exact inside5 i (index9 _)
theorem final10 (c : Dev nD) : (dats m 0 c).arrAt 10 cfg0.N = G3 m c :=
  (dats m 0 c).arrAt_eq_of_cover 10 (G3 m c) (fun t _ => flushed10_eq m c t) fun (i : S2x64x16x16x64.Idx) => by
    refine ⟨point (i 0) (i 1), flush0_10 _, ?_⟩
    show i ∈ ((View.whole main_v13_3).slice (win0_10.rect (point (i 0) (i 1)))).set
    rw [View.set_slice_whole, Rect.mem_set_unit]
    exact inside5 i (index10 _)
theorem final11 (c : Dev nD) : (dats m 0 c).arrAt 11 cfg0.N = G4 m c :=
  (dats m 0 c).arrAt_eq_of_cover 11 (G4 m c) (fun t _ => flushed11_eq m c t) fun (i : S2x64x16x16x64.Idx) => by
    refine ⟨point (i 0) (i 1), flush0_11 _, ?_⟩
    show i ∈ ((View.whole main_v13_4).slice (win0_11.rect (point (i 0) (i 1)))).set
    rw [View.set_slice_whole, Rect.mem_set_unit]
    exact inside5 i (index11 _)
theorem final12 (c : Dev nD) : (dats m 0 c).arrAt 12 cfg0.N = G5 m c :=
  (dats m 0 c).arrAt_eq_of_cover 12 (G5 m c) (fun t _ => flushed12_eq m c t) fun (i : S2x64x1x64.Idx) => by
    refine ⟨point (i 0) (i 1), flush0_12 _, ?_⟩
    show i ∈ ((View.whole main_v13_5).slice (win0_12.rect (point (i 0) (i 1)))).set
    rw [View.set_slice_whole, Rect.mem_set_unit]
    exact inside4 i (index12 _)
theorem final13 (c : Dev nD) : (dats m 0 c).arrAt 13 cfg0.N = G6 m c :=
  (dats m 0 c).arrAt_eq_of_cover 13 (G6 m c) (fun t _ => flushed13_eq m c t) fun (i : S2x64x1x64.Idx) => by
    refine ⟨point (i 0) (i 1), flush0_13 _, ?_⟩
    show i ∈ ((View.whole main_v13_6).slice (win0_13.rect (point (i 0) (i 1)))).set
    rw [View.set_slice_whole, Rect.mem_set_unit]
    exact inside4 i (index13 _)

end Cert.KPowersIdeal.Hand

namespace Cert.Proof.PowersClaims

theorem frame_k : Cert.quiescent_KPowers := fun m ρ _ => Cert.KPowers.Gen.frame m ρ
theorem frame_ki : Cert.quiescent_KPowersIdeal := fun m ρ _ => Cert.KPowersIdeal.Gen.frame m ρ
/-- The reference is host operations alone: its run leaves its arguments as they were. -/
theorem frame_ri : Cert.quiescent_RPowersIdeal := fun m ρ _ =>
  (θ_run Cert.RPowersIdeal.defs _ _).mono
    (fun r h => ⟨fun c => (h c).2.2.2.2.2.2.2, Idealize.ShloMosaic.sem_eq_zero_of_no_sems (by decide) r.2⟩)
    (Cert.RPowersIdeal.Value.run (F := Ideal) m ρ)

theorem preserves : Cert.preserves_KPowers_KPowersIdeal := trivial

open Cert.KPowersIdeal.Hand in
open Cert.RPowersIdeal.Read in
/-- Over the extended reals the kernel's seven result arrays and the reference's end equal, from arguments that agree. -/
theorem algebraic : Cert.algebraic_KPowersIdeal_RPowersIdeal := by
  intro m ρ m' ρ' _ hag
  refine ⟨fun c => G0 m c, fun c => G1 m c, fun c => G2 m c, fun c => G3 m c, fun c => G4 m c, fun c => G5 m c, fun c => G6 m c, ?_, ?_⟩
  · refine (θ_run Cert.KPowersIdeal.defs _ _).mono (fun _ h c => ?_) (Cert.KPowersIdeal.Value.run_blocks (F := Ideal) m ρ)
    obtain ⟨h0, h1, h2, h3, h4, h5, h6, h7⟩ := h c
    exact ⟨h0.trans (final7 m c), h1.trans (final8 m c), h2.trans (final9 m c), h3.trans (final10 m c), h4.trans (final11 m c),
      h5.trans (final12 m c), h6.trans (final13 m c), h7⟩
  · refine (θ_run Cert.RPowersIdeal.defs _ _).mono (fun _ h c => ?_) (Cert.RPowersIdeal.Value.run (F := Ideal) m' ρ')
    obtain ⟨h0, h1, h2, h3, h4, h5, h6, h7⟩ := h c
    obtain ⟨e0, e1, e2, e3, e4, e5, e6⟩ := hag c
    refine ⟨(h0.trans (val_main_v90_eq _)).trans ?_, (h1.trans (val_main_v118_eq _)).trans ?_, (h2.trans (val_main_v125_eq _)).trans ?_,
      (h3.trans (val_main_v155_eq _)).trans ?_, (h4.trans (val_main_v177_eq _)).trans ?_, (h5.trans (val_main_v174_eq _)).trans ?_,
      (h6.trans (val_main_v176_eq _)).trans ?_, h7⟩
    · exact congr (congr (congr (congr (congr (congr (congrArg (val_main_v90 (F := Ideal)) e0) e1) e2) e3) e4) e5) e6
    · exact congr (congr (congr (congr (congrArg (val_main_v118 (F := Ideal)) e0) e1) e2) e3) e4
    · exact congr (congr (congr (congr (congrArg (val_main_v125 (F := Ideal)) e0) e1) e2) e3) e4
    · exact congr (congr (congr (congr (congrArg (val_main_v155 (F := Ideal)) e0) e1) e2) e5) e6
    · exact congr (congr (congr (congr (congrArg (val_main_v177 (F := Ideal)) e0) e1) e2) e5) e6
    · exact congr (congr (congrArg (val_main_v174 (F := Ideal)) e0) e1) e2
    · exact congr (congr (congrArg (val_main_v176 (F := Ideal)) e0) e1) e2

end Cert.Proof.PowersClaims
end
-- ==== Proof.Up.lean ====
/- The first half of the gated feed-forward layer (`KUp`), against its reference. -/
module

public import proofs.«01_k».proof.Defs
public import proofs.«01_k».proof.Proof.Gen.KUp.Frame
public import proofs.«01_k».proof.Proof.Gen.KUpIdeal.Value
public import proofs.«01_k».proof.Proof.Gen.RUpIdeal.Run
public import proofs.«01_k».proof.Proof.Gen.RUpIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Up

/-- The gelu of a scalar, by its tanh form. -/
def gelu (x : EReal) : EReal :=
  x * (Ideal.ofBits .f32 0x3F000000#32 * (1
    + Ideal.tanh (Ideal.ofBits .f32 0x3F4C422A#32 * (x + Ideal.ofBits .f32 0x3D372713#32 * (x * (x * x))))))

/-- A three-tap convolution along the sequences of 256 rows, at row `R` of the whole array: nothing comes from before a
    sequence's first row or from after its last. -/
def conv (A : Fin 8192 → EReal) (w0 w1 w2 b : EReal) (R : Fin 8192) : EReal :=
  (if R.val % 256 ≠ 0 then A ⟨(R.val + 8191) % 8192, Nat.mod_lt _ (by norm_num)⟩ * w0 else 0) + A R * w1
    + (if R.val % 256 ≠ 255 then A ⟨(R.val + 1) % 8192, Nat.mod_lt _ (by norm_num)⟩ * w2 else 0) + b

/-- The same in one block of 4096 rows, which is whole sequences. -/
def convBlk (A : Fin 4096 → EReal) (w0 w1 w2 b : EReal) (r : Fin 4096) : EReal :=
  (if r.val % 256 ≠ 0 then A ⟨(r.val + 4095) % 4096, Nat.mod_lt _ (by norm_num)⟩ * w0 else 0) + A r * w1
    + (if r.val % 256 ≠ 255 then A ⟨(r.val + 1) % 4096, Nat.mod_lt _ (by norm_num)⟩ * w2 else 0) + b

/-- Row `r` of block `q` of 4096 rows. -/
abbrev row (q : Fin 2) (r : Fin 4096) : Fin 8192 := ⟨q.val * 4096 + r.val, by omega⟩

/-- The convolution of a block's rows is the block of the whole convolution. -/
theorem convBlk_eq (A : Fin 8192 → EReal) (w0 w1 w2 b : EReal) (q : Fin 2) (r : Fin 4096) :
    convBlk (fun r' => A (row q r')) w0 w1 w2 b r = conv A w0 w1 w2 b (row q r) := by
  unfold convBlk conv
  have e : (row q r).val % 256 = r.val % 256 := by show (q.val * 4096 + r.val) % 256 = _; omega
  have hq := q.isLt
  have hr := r.isLt
  rw [e]
  refine congrArg (· + b) (congrArg₂ (· + ·) (congrArg (· + A (row q r) * w1) ?_) ?_)
  · split
    · refine congrArg (fun i => A i * w0) (Fin.ext ?_)
      show q.val * 4096 + (r.val + 4095) % 4096 = (q.val * 4096 + r.val + 8191) % 8192
      omega
    · rfl
  · split
    · refine congrArg (fun i => A i * w2) (Fin.ext ?_)
      show q.val * 4096 + (r.val + 1) % 4096 = (q.val * 4096 + r.val + 1) % 8192
      omega
    · rfl

/-- One element of the layer's output: the gelu of the first half's convolution times the second half's. -/
def out (A B : Fin 8192 → EReal) (w0 w1 w2 b w0' w1' w2' b' : EReal) (R : Fin 8192) : EReal :=
  gelu (conv A w0 w1 w2 b R) * conv B w0' w1' w2' b' R

theorem select_if (p : Prop) [Decidable p] (x y : EReal) : Scalar.select (if p then 1#1 else 0#1) x y = if p then x else y := by
  by_cases h : p <;> simp [h, Scalar.select]

section
open Cert.KUpIdeal Cert.KUpIdeal.Gen

theorem rem_first : ∀ r : Fin 4096, IntOp.cmpi .ne (IntOp.remsi .vector (BitVec.ofNat 32 r.val) 256#32) 0#32 = if r.val % 256 ≠ 0 then 1#1 else 0#1 := by
  decide +kernel

theorem rem_last : ∀ r : Fin 4096, IntOp.cmpi .ne (IntOp.remsi .vector (BitVec.ofNat 32 r.val) 256#32) 255#32 = if r.val % 256 ≠ 255 then 1#1 else 0#1 := by
  decide +kernel

/-- The masks of the rows that have a row before, and one after. -/
theorem mask_first (r : Fin 4096) (l : Fin 256) : k0_pay3 (ix2 r l) = if r.val % 256 ≠ 0 then 1#1 else 0#1 := by
  rw [← rem_first r]
  pointwise [k0_pay3, k0_pay2]

theorem mask_last (r : Fin 4096) (l : Fin 256) : k0_pay4 (ix2 r l) = if r.val % 256 ≠ 255 then 1#1 else 0#1 := by
  rw [← rem_last r]
  pointwise [k0_pay4, k0_pay2]

/-- A block rotated by one row, down and up. -/
theorem rot_down (X : FVec Ideal S4096x256 .f32) (r : Fin 4096) (l : Fin 256) :
    dynamicRotate 0 1#32 none X rotates_S4096x256_d0 (ix2 r l) = X (ix2 ⟨(r.val + 4095) % 4096, Nat.mod_lt _ (by norm_num)⟩ l) := by
  unfold dynamicRotate
  refine congrArg X (funext fun b => ?_)
  match b with
  | ⟨0, _⟩ => rfl
  | ⟨1, _⟩ => rfl

theorem rot_up (X : FVec Ideal S4096x256 .f32) (r : Fin 4096) (l : Fin 256) :
    dynamicRotate 0 4095#32 none X rotates_S4096x256_d0 (ix2 r l) = X (ix2 ⟨(r.val + 1) % 4096, Nat.mod_lt _ (by norm_num)⟩ l) := by
  unfold dynamicRotate
  have h : (4095#32 : BitVec 32).toNat = 4095 := by decide
  simp only [h]
  refine congrArg X (funext fun b => ?_)
  match b with
  | ⟨0, _⟩ =>
    refine Fin.ext ?_
    show (r.val + 4096 - (4095 + 0) % 4096) % 4096 = (r.val + 1) % 4096
    exact congrArg (· % 4096) (by omega)
  | ⟨1, _⟩ => rfl

theorem pay6_apply (v7 : Vec Ideal S4096x2048 .bf16) (v34 : Vec Ideal S2048x256 .bf16) (r : Fin 4096) (l : Fin 256) :
    k0_pay6 (F := Ideal) v7 v34 (ix2 r l) = ∑ k : Fin 2048, v7 (ix2 r k) * v34 (ix2 k l) := by
  pointwise [k0_pay6]

/-- The first half's convolution in a block. -/
theorem pay5_apply (v7 : Vec Ideal S4096x2048 .bf16) (v8 : Vec Ideal S2048x256 .bf16) (v17 : Vec Ideal S9x256 .f32) (v30 : Vec Ideal S1x256 .f32)
    (r : Fin 4096) (l : Fin 256) :
    k0_pay5 (F := Ideal) v7 v8 v17 v30 (ix2 r l)
      = convBlk (fun r' => ∑ k : Fin 2048, v7 (ix2 r' k) * v8 (ix2 k l)) (v17 (ix2 3 l)) (v17 (ix2 4 l)) (v17 (ix2 5 l)) (v30 (ix2 0 l)) r := by
  have h6 := fun r' => pay6_apply v7 v8 r' l
  unfold convBlk
  simp only [← h6]
  show k0_pay5 (F := Ideal) v7 v8 v17 v30 (ix2 r l) = _
  unfold k0_pay5
  dsimp only
  show addf (F := Ideal) (addf (addf (mulf (select k0_pay3 (dynamicRotate 0 1#32 none (k0_pay6 v7 v8) rotates_S4096x256_d0) _) _) (mulf (k0_pay6 v7 v8) _))
    (mulf (select k0_pay4 (dynamicRotate 0 4095#32 none (k0_pay6 v7 v8) rotates_S4096x256_d0) _) _)) _ _ = _
  generalize k0_pay6 v7 v8 = M
  rw [← rot_down M r l, ← rot_up M r l, ← select_if, ← select_if, ← mask_first r l, ← mask_last r l]
  generalize dynamicRotate 0 1#32 none M rotates_S4096x256_d0 = L
  generalize dynamicRotate 0 4095#32 none M rotates_S4096x256_d0 = R
  pointwise

/-- What the kernel stores, at an index: the gelu of the first half's value times the second half's convolution. -/
theorem pay1_apply (v33 : FVec Ideal S4096x256 .f32) (v7 : Vec Ideal S4096x2048 .bf16) (v34 : Vec Ideal S2048x256 .bf16) (v43 : Vec Ideal S9x256 .f32) (v56 : Vec Ideal S1x256 .f32)
    (r : Fin 4096) (l : Fin 256) :
    k0_pay1 (F := Ideal) k0_pay3 k0_pay4 v33 (k0_pay6 v7 v34) (k0_pay7 v7 v34) v43 v56 (ix2 r l)
      = gelu (v33 (ix2 r l)) * convBlk (fun r' => ∑ k : Fin 2048, v7 (ix2 r' k) * v34 (ix2 k l)) (v43 (ix2 3 l)) (v43 (ix2 4 l)) (v43 (ix2 5 l)) (v56 (ix2 0 l)) r := by
  have h6 := fun r' => pay6_apply v7 v34 r' l
  unfold convBlk gelu
  simp only [← h6]
  unfold k0_pay7 k0_pay1
  dsimp only
  generalize k0_pay6 v7 v34 = M
  rw [← rot_down M r l, ← rot_up M r l, ← select_if, ← select_if, ← mask_first r l, ← mask_last r l]
  generalize dynamicRotate 0 1#32 none M rotates_S4096x256_d0 = L
  generalize dynamicRotate 0 4095#32 none M rotates_S4096x256_d0 = R
  pointwise
end

section
open Cert.RUpIdeal Cert.RUpIdeal.Gen Cert.RUpIdeal.Read

variable (x0 : Vec Ideal S8192x2048 .bf16) (x1 : Vec Ideal S1x2048x11264 .f32) (x2 : Vec Ideal S1x3x3x11264 .f32) (x3 : Vec Ideal S1x11264 .f32)

/-- The product of the rows with the first matrix: column `ch`. -/
abbrev up (ch : Fin 11264) (R : Fin 8192) : EReal := ∑ k : Fin 2048, x0 (ix2 R k) * x1 (ix3 0 k ch)

theorem v6_apply (b : Fin 32) (n : Fin 256) (ch : Fin 11264) :
    val_main_v6 (F := Ideal) x0 x1 (ix4 b 0 n ch) = up x0 x1 ch ⟨b.val * 256 + n.val, by omega⟩ := by
  unfold up
  pointwise [val_main_v6, val_main_v3, val_main_v2, val_main_v1, val_main_v0]

theorem pad_zero (i : S_.Idx) : val_main_call0_v0 (F := Ideal) i = 0 := by
  pointwise [val_main_call0_v0, val_main_c]
  show ((((0#32 : BitVec 32).toInt : ℝ)) : EReal) = 0
  simp

theorem v7_apply (b : Fin 32) (i : Fin 3) (n : Fin 258) (ch : Fin 11264) :
    val_main_v7 (F := Ideal) x0 x1 (ix4 b i n ch)
      = if h : i.val = 1 ∧ 1 ≤ n.val ∧ n.val ≤ 256 then up x0 x1 ch ⟨b.val * 256 + (n.val - 1), by omega⟩ else 0 := by
  unfold val_main_v7
  pointwise
  by_cases h : i.val = 1 ∧ 1 ≤ n.val ∧ n.val ≤ 256
  · have hp : (1 ≤ i.val ∧ i.val - 1 < 1) ∧ 1 ≤ n.val ∧ n.val - 1 < 256 := by omega
    rw [dif_pos hp, dif_pos h]
    refine Eq.trans (congrArg (val_main_v6 x0 x1) ?_) (v6_apply x0 x1 b ⟨n.val - 1, by omega⟩ ch)
    exact congrArg (fun z => ix4 b z _ ch) (Fin.ext (by show i.val - 1 = 0; omega))
  · have hp : ¬ ((1 ≤ i.val ∧ i.val - 1 < 1) ∧ 1 ≤ n.val ∧ n.val - 1 < 256) := by omega
    rw [dif_neg hp, dif_neg h]
    exact pad_zero _

/-- The rows above and below the grid's one row are padding. -/
theorem v7_outer (b : Fin 32) (i : Fin 3) (hi : i.val ≠ 1) (n : Fin 258) (ch : Fin 11264) :
    val_main_v7 (F := Ideal) x0 x1 (ix4 b i n ch) = 0 := by
  rw [v7_apply, dif_neg (fun h => hi h.1)]

/-- The reference's nine-tap convolution on a grid of one row is the three-tap one along the row. -/
theorem ref_conv (b : Fin 32) (n : Fin 256) (ch : Fin 11264) :
    val_main_v73 (F := Ideal) x0 x1 x2 x3 (ix3 b n ch)
      = conv (up x0 x1 ch) (x2 (ix4 0 1 0 ch)) (x2 (ix4 0 1 1 ch)) (x2 (ix4 0 1 2 ch)) (x3 (ix2 0 ch)) ⟨b.val * 256 + n.val, by omega⟩ := by
  simp only [val_main_v4, val_main_v5, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73]
  have h0 : ∀ n', val_main_v7 (F := Ideal) x0 x1 (ix4 b 0 n' ch) = 0 := fun n' => v7_outer x0 x1 b 0 (by norm_num) n' ch
  have h2 : ∀ n', val_main_v7 (F := Ideal) x0 x1 (ix4 b 2 n' ch) = 0 := fun n' => v7_outer x0 x1 b 2 (by norm_num) n' ch
  have h1 := fun n' => v7_apply x0 x1 b 1 n' ch
  generalize val_main_v7 x0 x1 = X at h0 h1 h2 ⊢
  pointwise
  simp only [h0, h2, h1, zero_mul, add_zero]
  unfold conv
  have hn := n.isLt
  have hb := b.isLt
  rw [add_comm (x3 _), add_right_comm _ (x3 _), add_right_comm _ (x3 _)]
  refine congrArg (· + x3 (ix2 0 ch)) (congrArg₂ (· + ·) (congrArg₂ (· + ·) ?_ ?_) ?_)
  · by_cases h : n.val = 0
    · rw [dif_neg (by show ¬ ((1 : Nat) = 1 ∧ 1 ≤ n.val ∧ n.val ≤ 256); omega), zero_mul,
        if_neg (by show ¬ ((b.val * 256 + n.val) % 256 ≠ 0); omega)]
    · rw [dif_pos (by show (1 : Nat) = 1 ∧ 1 ≤ n.val ∧ n.val ≤ 256; omega),
        if_pos (by show (b.val * 256 + n.val) % 256 ≠ 0; omega)]
      refine congrArg (fun i => up x0 x1 ch i * _) (Fin.ext ?_)
      show b.val * 256 + (n.val - 1) = (b.val * 256 + n.val + 8191) % 8192
      omega
  · rw [dif_pos (by show (1 : Nat) = 1 ∧ 1 ≤ 1 + n.val ∧ 1 + n.val ≤ 256; omega)]
    refine congrArg (fun i => up x0 x1 ch i * _) (Fin.ext ?_)
    show b.val * 256 + (1 + n.val - 1) = b.val * 256 + n.val
    omega
  · by_cases h : n.val = 255
    · rw [dif_neg (by show ¬ ((1 : Nat) = 1 ∧ 1 ≤ 2 + n.val ∧ 2 + n.val ≤ 256); omega), zero_mul,
        if_neg (by show ¬ ((b.val * 256 + n.val) % 256 ≠ 255); omega)]
    · rw [dif_pos (by show (1 : Nat) = 1 ∧ 1 ≤ 2 + n.val ∧ 2 + n.val ≤ 256; omega),
        if_pos (by show (b.val * 256 + n.val) % 256 ≠ 255; omega)]
      refine congrArg (fun i => up x0 x1 ch i * _) (Fin.ext ?_)
      show b.val * 256 + (2 + n.val - 1) = (b.val * 256 + n.val + 1) % 8192
      omega

/-- The reference's result at an index. -/
theorem ref_apply (R : Fin 8192) (l : Fin 5632) :
    val_main_v91 (F := Ideal) x0 x1 x2 x3 (ix2 R l)
      = (let l' : Fin 11264 := ⟨l.val, by omega⟩
         let l'' : Fin 11264 := ⟨5632 + l.val, by omega⟩
         out (up x0 x1 l') (up x0 x1 l'')
          (x2 (ix4 0 1 0 l')) (x2 (ix4 0 1 1 l')) (x2 (ix4 0 1 2 l')) (x3 (ix2 0 l'))
          (x2 (ix4 0 1 0 l'')) (x2 (ix4 0 1 1 l'')) (x2 (ix4 0 1 2 l'')) (x3 (ix2 0 l'')) R) := by
  have hR : (⟨R.val / 256 * 256 + R.val % 256, by omega⟩ : Fin 8192) = R := Fin.ext (by show R.val / 256 * 256 + R.val % 256 = R.val; omega)
  have h := fun ch => ref_conv x0 x1 x2 x3 ⟨R.val / 256, by omega⟩ ⟨R.val % 256, by omega⟩ ch
  simp only [val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_cst, val_main_cst_0, val_main_cst_1, val_main_cst_2]
  simp only [hR] at h
  unfold out gelu
  simp only [← h]
  generalize val_main_v73 x0 x1 x2 x3 = X
  pointwise
  rw [mul_assoc (X _) (X _) (X _)]
end

end Cert.Up

namespace Cert.KUpIdeal.Hand

open Cert.KUpIdeal Cert.KUpIdeal.Gen

variable (m : (ℓ : Loc nD τ sig) → Buf (Elt Ideal) ℓ) (ρ : Dev nD → PrngReg)

/-- The reference's result of device `c`'s arguments: what the kernel's result array is shown to hold. -/
abbrev G (c : Dev nD) : Vec Ideal S8192x5632 .bf16 :=
  Cert.RUpIdeal.Read.val_main_v91 (F := Ideal) (m ((c : Thread nD τ).loc main_arg0)) (m ((c : Thread nD τ).loc main_arg1))
    (m ((c : Thread nD τ).loc main_arg2)) (m ((c : Thread nD τ).loc main_arg3))

theorem hz2 : (![0, 0] : Fin 2 → Nat) = fun _ => 0 := funext fun a => by fin_cases a <;> rfl

theorem weight_apply (x : FVec Ideal S1x2048x11264 .f32) (k : Fin 2048) (l : Fin 11264) :
    truncf .bf16 (shapeCast S2048x11264 x shapeCasts_S1x2048x11264_S2048x11264) bitsLt_bf16_f32 (ix2 k l) = x (ix3 0 k l) := by
  pointwise

theorem tap0_apply (x : FVec Ideal S1x3x3x11264 .f32) (l : Fin 11264) :
    shapeCast S9x11264 (shapeCast S3x3x11264 x shapeCasts_S1x3x3x11264_S3x3x11264) shapeCasts_S3x3x11264_S9x11264 (ix2 3 l) = x (ix4 0 1 0 l) := by
  pointwise
theorem tap1_apply (x : FVec Ideal S1x3x3x11264 .f32) (l : Fin 11264) :
    shapeCast S9x11264 (shapeCast S3x3x11264 x shapeCasts_S1x3x3x11264_S3x3x11264) shapeCasts_S3x3x11264_S9x11264 (ix2 4 l) = x (ix4 0 1 1 l) := by
  pointwise
theorem tap2_apply (x : FVec Ideal S1x3x3x11264 .f32) (l : Fin 11264) :
    shapeCast S9x11264 (shapeCast S3x3x11264 x shapeCasts_S1x3x3x11264_S3x3x11264) shapeCasts_S3x3x11264_S9x11264 (ix2 5 l) = x (ix4 0 1 2 l) := by
  pointwise

theorem bias_apply (x : FVec Ideal S1x11264 .f32) (l : Fin 11264) :
    shapeCast S1x11264 (shapeCast S11264 x shapeCasts_S1x11264_S11264) shapeCasts_S11264_S1x11264 (ix2 0 l) = x (ix2 0 l) := by
  pointwise

/-- The arrays the host prepares for the kernel, as terms of the arguments. -/
theorem V_v1 (c : Dev nD) : @Eq (FVec Ideal S2048x11264 .bf16) (V m c main_v1)
    (truncf .bf16 (shapeCast S2048x11264 (m ((c : Thread nD τ).loc main_arg1) : Vec Ideal S1x2048x11264 .f32) shapeCasts_S1x2048x11264_S2048x11264) bitsLt_bf16_f32) := by
  unfold V; after_results <;> rfl

theorem V_v4 (c : Dev nD) : @Eq (FVec Ideal S9x11264 .f32) (V m c main_v4)
    (shapeCast S9x11264 (shapeCast S3x3x11264 (m ((c : Thread nD τ).loc main_arg2) : Vec Ideal S1x3x3x11264 .f32) shapeCasts_S1x3x3x11264_S3x3x11264) shapeCasts_S3x3x11264_S9x11264) := by
  unfold V; after_results <;> rfl

theorem V_v5 (c : Dev nD) : @Eq (FVec Ideal S1x11264 .f32) (V m c main_v5)
    (shapeCast S1x11264 (shapeCast S11264 (m ((c : Thread nD τ).loc main_arg3) : Vec Ideal S1x11264 .f32) shapeCasts_S1x11264_S11264) shapeCasts_S11264_S1x11264) := by
  unfold V; after_results <;> rfl

/-- Where the windows' blocks lie at each grid point. -/
theorem index_eq : ∀ t : Fin cfg0.N,
    (win0_0.index t 0 = t.val / 22 ∧ win0_0.index t 1 = 0) ∧ (win0_1.index t 0 = 0 ∧ win0_1.index t 1 = t.val % 22)
    ∧ (win0_2.index t 0 = 0 ∧ win0_2.index t 1 = 22 + t.val % 22) ∧ (win0_3.index t 0 = 0 ∧ win0_3.index t 1 = t.val % 22)
    ∧ (win0_4.index t 0 = 0 ∧ win0_4.index t 1 = 22 + t.val % 22) ∧ (win0_5.index t 0 = 0 ∧ win0_5.index t 1 = t.val % 22)
    ∧ (win0_6.index t 0 = 0 ∧ win0_6.index t 1 = 22 + t.val % 22) ∧ (win0_7.index t 0 = t.val / 22 ∧ win0_7.index t 1 = t.val % 22) := by
  show ∀ t : Fin grid0.N, _
  decide +kernel

theorem lt_N (t : Fin cfg0.N) : t.val < 44 := lt_of_lt_of_eq t.isLt N_0

/-- The block row of point `t`, and its two columns of channels. -/
abbrev q (t : Fin cfg0.N) : Fin 2 := ⟨t.val / 22, by have := lt_N t; omega⟩
abbrev lo (t : Fin cfg0.N) (l : Fin 256) : Fin 11264 := ⟨t.val % 22 * 256 + l.val, by omega⟩
abbrev hi (t : Fin cfg0.N) (l : Fin 256) : Fin 11264 := ⟨5632 + (t.val % 22 * 256 + l.val), by omega⟩

theorem iblk0 (c : Dev nD) (t : Fin cfg0.N) (r : Fin 4096) (k : Fin 2048) :
    (iblk m c 0 t : Vec Ideal S4096x2048 .bf16) (ix2 r k) = (m ((c : Thread nD τ).loc main_arg0) : Vec Ideal S8192x2048 .bf16) (ix2 (Cert.Up.row (q t) r) k) := by
  have e := (index_eq t).1
  rw [← V_main_arg0 m c]
  unfold iblk
  refine congrArg (V m c main_arg0 : Vec Ideal S8192x2048 .bf16) (funext fun a => Fin.ext ?_)
  match a with
  | ⟨0, _⟩ => show win0_0.index t 0 * 4096 + 1 * r.val = t.val / 22 * 4096 + r.val; rw [e.1]; omega
  | ⟨1, _⟩ => show win0_0.index t 1 * 2048 + 1 * k.val = k.val; rw [e.2]; omega

theorem iblk1 (c : Dev nD) (t : Fin cfg0.N) (k : Fin 2048) (l : Fin 256) :
    (iblk m c 1 t : Vec Ideal S2048x256 .bf16) (ix2 k l) = (V m c main_v1 : Vec Ideal S2048x11264 .bf16) (ix2 k (lo t l)) := by
  have e := (index_eq t).2.1
  unfold iblk
  refine congrArg (V m c main_v1 : Vec Ideal S2048x11264 .bf16) (funext fun a => Fin.ext ?_)
  match a with
  | ⟨0, _⟩ => show win0_1.index t 0 * 2048 + 1 * k.val = k.val; rw [e.1]; omega
  | ⟨1, _⟩ => show win0_1.index t 1 * 256 + 1 * l.val = t.val % 22 * 256 + l.val; rw [e.2]; omega

theorem iblk2 (c : Dev nD) (t : Fin cfg0.N) (k : Fin 2048) (l : Fin 256) :
    (iblk m c 2 t : Vec Ideal S2048x256 .bf16) (ix2 k l) = (V m c main_v1 : Vec Ideal S2048x11264 .bf16) (ix2 k (hi t l)) := by
  have e := (index_eq t).2.2.1
  unfold iblk
  refine congrArg (V m c main_v1 : Vec Ideal S2048x11264 .bf16) (funext fun a => Fin.ext ?_)
  match a with
  | ⟨0, _⟩ => show win0_2.index t 0 * 2048 + 1 * k.val = k.val; rw [e.1]; omega
  | ⟨1, _⟩ => show win0_2.index t 1 * 256 + 1 * l.val = 5632 + (t.val % 22 * 256 + l.val); rw [e.2]; omega

theorem iblk3 (c : Dev nD) (t : Fin cfg0.N) (k : Fin 9) (l : Fin 256) :
    (iblk m c 3 t : Vec Ideal S9x256 .f32) (ix2 k l) = (V m c main_v4 : Vec Ideal S9x11264 .f32) (ix2 k (lo t l)) := by
  have e := (index_eq t).2.2.2.1
  unfold iblk
  refine congrArg (V m c main_v4 : Vec Ideal S9x11264 .f32) (funext fun a => Fin.ext ?_)
  match a with
  | ⟨0, _⟩ => show win0_3.index t 0 * 9 + 1 * k.val = k.val; rw [e.1]; omega
  | ⟨1, _⟩ => show win0_3.index t 1 * 256 + 1 * l.val = t.val % 22 * 256 + l.val; rw [e.2]; omega

theorem iblk4 (c : Dev nD) (t : Fin cfg0.N) (k : Fin 9) (l : Fin 256) :
    (iblk m c 4 t : Vec Ideal S9x256 .f32) (ix2 k l) = (V m c main_v4 : Vec Ideal S9x11264 .f32) (ix2 k (hi t l)) := by
  have e := (index_eq t).2.2.2.2.1
  unfold iblk
  refine congrArg (V m c main_v4 : Vec Ideal S9x11264 .f32) (funext fun a => Fin.ext ?_)
  match a with
  | ⟨0, _⟩ => show win0_4.index t 0 * 9 + 1 * k.val = k.val; rw [e.1]; omega
  | ⟨1, _⟩ => show win0_4.index t 1 * 256 + 1 * l.val = 5632 + (t.val % 22 * 256 + l.val); rw [e.2]; omega

theorem iblk5 (c : Dev nD) (t : Fin cfg0.N) (k : Fin 1) (l : Fin 256) :
    (iblk m c 5 t : Vec Ideal S1x256 .f32) (ix2 k l) = (V m c main_v5 : Vec Ideal S1x11264 .f32) (ix2 k (lo t l)) := by
  have e := (index_eq t).2.2.2.2.2.1
  unfold iblk
  refine congrArg (V m c main_v5 : Vec Ideal S1x11264 .f32) (funext fun a => Fin.ext ?_)
  match a with
  | ⟨0, _⟩ => show win0_5.index t 0 * 1 + 1 * k.val = k.val; rw [e.1]; omega
  | ⟨1, _⟩ => show win0_5.index t 1 * 256 + 1 * l.val = t.val % 22 * 256 + l.val; rw [e.2]; omega

theorem iblk6 (c : Dev nD) (t : Fin cfg0.N) (k : Fin 1) (l : Fin 256) :
    (iblk m c 6 t : Vec Ideal S1x256 .f32) (ix2 k l) = (V m c main_v5 : Vec Ideal S1x11264 .f32) (ix2 k (hi t l)) := by
  have e := (index_eq t).2.2.2.2.2.2.1
  unfold iblk
  refine congrArg (V m c main_v5 : Vec Ideal S1x11264 .f32) (funext fun a => Fin.ext ?_)
  match a with
  | ⟨0, _⟩ => show win0_6.index t 0 * 1 + 1 * k.val = k.val; rw [e.1]; omega
  | ⟨1, _⟩ => show win0_6.index t 1 * 256 + 1 * l.val = 5632 + (t.val % 22 * 256 + l.val); rw [e.2]; omega

/-- What point `t` writes back is block `t` of the reference's result. -/
theorem flushed_eq (c : Dev nD) (t : Fin cfg0.N) :
    (dats m 0 c).flushed 7 t = (win0_7.blk t).view.read (Elt Ideal) (G m c) := by
  rw [Value.flushed7]
  unfold out0_7
  rw [View.canon_unit_zero hz2]
  repeat rw [View.ld_unit_zero hz2]
  have e := (index_eq t).2.2.2.2.2.2.2
  refine funext fun (j : S4096x256.Idx) => ?_
  obtain ⟨r, l, rfl⟩ : ∃ (r : Fin 4096) (l : Fin 256), j = ix2 r l := ⟨j 0, j 1, (ix2_eta j).symm⟩
  show k0_pay1 (F := Ideal) k0_pay3 k0_pay4 (k0_pay5 (iblk m c 0 t) (iblk m c 1 t) (iblk m c 3 t) (iblk m c 5 t))
    (k0_pay6 (iblk m c 0 t) (iblk m c 2 t)) (k0_pay7 (iblk m c 0 t) (iblk m c 2 t)) (iblk m c 4 t) (iblk m c 6 t) (ix2 r l) = G m c _
  refine (Cert.Up.pay1_apply _ _ _ _ _ r l).trans ?_
  rw [Cert.Up.pay5_apply]
  simp only [iblk0, iblk1, iblk2, iblk3, iblk4, iblk5, iblk6]
  rw [V_v1, V_v4, V_v5]
  simp only [weight_apply, tap0_apply, tap1_apply, tap2_apply, bias_apply]
  have h := fun ch => Cert.Up.convBlk_eq (Cert.Up.up (m ((c : Thread nD τ).loc main_arg0)) (m ((c : Thread nD τ).loc main_arg1)) ch)
  unfold Cert.Up.up at h
  rw [h, h]
  refine Eq.trans ?_ ((Cert.Up.ref_apply _ _ _ _ (Cert.Up.row (q t) r) ⟨t.val % 22 * 256 + l.val, by omega⟩).symm.trans (congrArg (G m c) (funext fun a => Fin.ext ?_)))
  · rfl
  match a with
  | ⟨0, _⟩ => show t.val / 22 * 4096 + r.val = win0_7.index t 0 * 4096 + 1 * r.val; rw [e.1]; omega
  | ⟨1, _⟩ => show t.val % 22 * 256 + l.val = win0_7.index t 1 * 256 + 1 * l.val; rw [e.2]; omega

/-- An index is in block `t` when its row and its column are. -/
theorem mem_blk (t : Fin cfg0.N) (i : S8192x5632.Idx) :
    i ∈ ((cfg0.win 7).blk t).view.set ↔ (t.val / 22 * 4096 ≤ (i 0 : Nat) ∧ (i 0 : Nat) < t.val / 22 * 4096 + 4096)
      ∧ (t.val % 22 * 256 ≤ (i 1 : Nat) ∧ (i 1 : Nat) < t.val % 22 * 256 + 256) := by
  show i ∈ ((View.whole main_v6).slice (win0_7.rect t)).set ↔ _
  rw [View.set_slice_whole, Rect.mem_set_unit]
  have e := (index_eq t).2.2.2.2.2.2.2
  refine ⟨fun h => ⟨?_, ?_⟩, fun h a => ?_⟩
  · have : win0_7.index t 0 * 4096 ≤ (i 0 : Nat) ∧ (i 0 : Nat) < win0_7.index t 0 * 4096 + 4096 := h 0
    rw [e.1] at this; exact this
  · have : win0_7.index t 1 * 256 ≤ (i 1 : Nat) ∧ (i 1 : Nat) < win0_7.index t 1 * 256 + 256 := h 1
    rw [e.2] at this; exact this
  · match a with
    | ⟨0, _⟩ => show win0_7.index t 0 * 4096 ≤ (i 0 : Nat) ∧ (i 0 : Nat) < win0_7.index t 0 * 4096 + 4096
                rw [e.1]; exact h.1
    | ⟨1, _⟩ => show win0_7.index t 1 * 256 ≤ (i 1 : Nat) ∧ (i 1 : Nat) < win0_7.index t 1 * 256 + 256
                rw [e.2]; exact h.2

theorem cover (i : S8192x5632.Idx) : ∃ t : Fin cfg0.N, (cfg0.win 7).flush t = true ∧ i ∈ ((cfg0.win 7).blk t).view.set := by
  have h0 : (i 0 : Nat) < 8192 := (i 0).isLt
  have h1 : (i 1 : Nat) < 5632 := (i 1).isLt
  have hN : cfg0.N = 44 := N_0
  refine ⟨⟨(i 0 : Nat) / 4096 * 22 + (i 1 : Nat) / 256, by omega⟩, flush0_7 _, ?_⟩
  rw [mem_blk]
  dsimp only
  generalize (i 0 : Nat) = a at *
  generalize (i 1 : Nat) = b at *
  omega

/-- The result array ends holding the reference's result. -/
theorem final (c : Dev nD) : (dats m 0 c).arrAt 7 cfg0.N = G m c :=
  (dats m 0 c).arrAt_eq_of_cover 7 (G m c) (fun t _ => flushed_eq m c t) cover

end Cert.KUpIdeal.Hand

namespace Cert.Proof.UpClaims

theorem frame_k : Cert.quiescent_KUp := fun m ρ _ => Cert.KUp.Gen.frame m ρ
theorem frame_ki : Cert.quiescent_KUpIdeal := fun m ρ _ => Cert.KUpIdeal.Gen.frame m ρ
/-- The reference is host operations alone: its run leaves its arguments as they were. -/
theorem frame_ri : Cert.quiescent_RUpIdeal := fun m ρ _ =>
  (θ_run Cert.RUpIdeal.defs _ _).mono (fun r h => ⟨fun c => (h c).2, Idealize.ShloMosaic.sem_eq_zero_of_no_sems (by decide) r.2⟩)
    (Cert.RUpIdeal.Value.run (F := Ideal) m ρ)

theorem preserves : Cert.preserves_KUp_KUpIdeal := trivial

/-- Over the extended reals the kernel's result array and the reference's end equal, from arguments that agree. -/
theorem algebraic : Cert.algebraic_KUpIdeal_RUpIdeal := by
  intro m ρ m' ρ' _ hag
  refine ⟨fun c => Cert.KUpIdeal.Hand.G m c, ?_, ?_⟩
  · exact (θ_run Cert.KUpIdeal.defs _ _).mono (fun _ h c => ⟨(h c).1.trans (Cert.KUpIdeal.Hand.final m c), (h c).2⟩)
      (Cert.KUpIdeal.Value.run_blocks (F := Ideal) m ρ)
  · refine (θ_run Cert.RUpIdeal.defs _ _).mono (fun _ h c => ⟨((h c).1.trans (Cert.RUpIdeal.Read.val_main_v91_eq m' c)).trans ?_, (h c).2⟩)
      (Cert.RUpIdeal.Value.run (F := Ideal) m' ρ')
    obtain ⟨h0, h1, h2, h3⟩ := hag c
    rw [h0, h1, h2, h3]

end Cert.Proof.UpClaims
end
-- ==== Proof.Down.lean ====
/- The second half of the gated feed-forward layer with the final norm (`KDown`), against its reference. -/
module

public import proofs.«01_k».proof.Defs
public import proofs.«01_k».proof.Proof.Gen.KDown.Frame
public import proofs.«01_k».proof.Proof.Gen.KDownIdeal.Value
public import proofs.«01_k».proof.Proof.Gen.RDownIdeal.Run
public import proofs.«01_k».proof.Proof.Gen.RDownIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Down

/-- A row of the residual stream after the layer: the old row plus the gated projection of the activations. -/
def resid (x1 g : Fin 2048 → EReal) (a : Fin 5632 → EReal) (w : Fin 5632 → Fin 2048 → EReal) (c : Fin 2048) : EReal :=
  x1 c + g c * ∑ k : Fin 5632, a k * w k c

/-- One element of the layer's output: the new row, root-mean-square normalised, times the final gain. -/
def out (x1 g fg : Fin 2048 → EReal) (a : Fin 5632 → EReal) (w : Fin 5632 → Fin 2048 → EReal) (c : Fin 2048) : EReal :=
  resid x1 g a w c
    * Ideal.rsqrt (Ideal.div (∑ k : Fin 2048, resid x1 g a w k * resid x1 g a w k) (Ideal.ofBits .f32 0x45000000#32)
        + Ideal.ofBits .f32 0x358637BD#32)
    * fg c

open Cert.KDownIdeal Cert.KDownIdeal.Gen in
/-- The kernel's payload at an index is `out` of the index's row. -/
theorem pay_apply (v0 : Vec Ideal S256x2048 .f32) (v1 : Vec Ideal S1x1x1x2048 .f32) (v3 : Vec Ideal S256x5632 .bf16)
    (v4 : Vec Ideal S5632x2048 .bf16) (v20 : Vec Ideal S1x2048 .f32) (r : Fin 256) (l : Fin 2048) :
    k0_pay1 (F := Ideal) v0 v1 v3 v4 v20 (ix2 r l)
      = out (fun c => v0 (ix2 r c)) (fun c => v1 (ix4 0 0 0 c)) (fun c => v20 (ix2 0 c)) (fun k => v3 (ix2 r k))
          (fun k c => v4 (ix2 k c)) l := by
  unfold out resid
  pointwise [k0_pay1]

open Cert.RDownIdeal Cert.RDownIdeal.Gen Cert.RDownIdeal.Read in
/-- The reference's result at an index is `out` of the index's row. -/
theorem ref_apply (x0 : Vec Ideal S8192x5632 .bf16) (x1 : Vec Ideal S1x5632x2048 .f32) (x2 : Vec Ideal S8192x2048 .f32)
    (x3 : Vec Ideal S8x6x1x2048 .f32) (x4 : Vec Ideal S2048 .f32) (r : Fin 8192) (l : Fin 2048) :
    val_main_v20 (F := Ideal) x0 x1 x2 x3 x4 (ix2 r l)
      = out (fun c => x2 (ix2 r c)) (fun c => x3 (ix4 0 5 0 c)) (fun c => x4 (ix1 c)) (fun k => x0 (ix2 r k))
          (fun k c => x1 (ix3 0 k c)) l := by
  unfold out resid
  rw [← val_main_v20_eq]
  pointwise

open Cert.KDownIdeal Cert.KDownIdeal.Gen in
/-- The layer's one matrix, cast: at an index, the matrix. -/
theorem weight_apply (x : FVec Ideal S1x5632x2048 .f32) (k : Fin 5632) (l : Fin 2048) :
    truncf .bf16 (shapeCast S5632x2048 x shapeCasts_S1x5632x2048_S5632x2048) bitsLt_bf16_f32 (ix2 k l) = x (ix3 0 k l) := by
  pointwise

open Cert.KDownIdeal Cert.KDownIdeal.Gen in
/-- A vector as one row. -/
theorem gain_apply (x : FVec Ideal S2048 .f32) (l : Fin 2048) :
    shapeCast S1x2048 x shapeCasts_S2048_S1x2048 (ix2 0 l) = x (ix1 l) := by
  pointwise

end Cert.Down

namespace Cert.KDownIdeal.Hand

open Cert.KDownIdeal Cert.KDownIdeal.Gen

variable (m : (ℓ : Loc nD τ sig) → Buf (Elt Ideal) ℓ) (ρ : Dev nD → PrngReg)

/-- The reference's result of device `c`'s arguments: what the kernel's result array is shown to hold. -/
abbrev G (c : Dev nD) : Vec Ideal S8192x2048 .f32 :=
  Cert.RDownIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The weights as the kernel stages them: the layer's one matrix. -/
theorem V_v1 (c : Dev nD) (k : Fin 5632) (l : Fin 2048) :
    (V m c main_v1 : Vec Ideal S5632x2048 .bf16) (ix2 k l)
      = (m ((c : Thread nD τ).loc main_arg1) : Vec Ideal S1x5632x2048 .f32) (ix3 0 k l) := by
  have h : @Eq (FVec Ideal S5632x2048 .bf16) (V m c main_v1)
      (truncf .bf16 (shapeCast S5632x2048 (m ((c : Thread nD τ).loc main_arg1) : Vec Ideal S1x5632x2048 .f32) shapeCasts_S1x5632x2048_S5632x2048) bitsLt_bf16_f32) := by
    unfold V; after_results <;> rfl
  rw [h]
  exact Cert.Down.weight_apply _ k l

/-- The final gain as the kernel stages it: one row. -/
theorem V_v2 (c : Dev nD) (l : Fin 2048) :
    (V m c main_v2 : Vec Ideal S1x2048 .f32) (ix2 0 l) = (m ((c : Thread nD τ).loc main_arg4) : Vec Ideal S2048 .f32) (ix1 l) := by
  have h : @Eq (FVec Ideal S1x2048 .f32) (V m c main_v2)
      (shapeCast S1x2048 (m ((c : Thread nD τ).loc main_arg4) : Vec Ideal S2048 .f32) shapeCasts_S2048_S1x2048) := by
    unfold V; after_results <;> rfl
  rw [h]
  exact Cert.Down.gain_apply _ l

/-- Where the windows' blocks lie at each grid point. -/
theorem index_eq : ∀ t : Fin cfg0.N,
    win0_0.index t 0 = t.val ∧ win0_0.index t 1 = 0 ∧ win0_1.index t 0 = 0 ∧ win0_1.index t 1 = 0
    ∧ win0_2.index t 0 = t.val ∧ win0_2.index t 1 = 0
    ∧ win0_3.index t 0 = 0 ∧ win0_3.index t 1 = 5 ∧ win0_3.index t 2 = 0 ∧ win0_3.index t 3 = 0
    ∧ win0_4.index t 0 = 0 ∧ win0_4.index t 1 = 0
    ∧ win0_5.index t 0 = t.val ∧ win0_5.index t 1 = 0 := by
  show ∀ t : Fin grid0.N, _
  decide +kernel

/-- Row `r` of block `t`. -/
abbrev row (t : Fin cfg0.N) (r : Fin 256) : Fin 8192 :=
  ⟨t.val * 256 + r.val, by have := t.isLt; have := r.isLt; have h : cfg0.N = 32 := N_0; omega⟩

theorem iblk0 (c : Dev nD) (t : Fin cfg0.N) (r : Fin 256) (k : Fin 5632) :
    (iblk m c 0 t : Vec Ideal S256x5632 .bf16) (ix2 r k) = (m ((c : Thread nD τ).loc main_arg0) : Vec Ideal S8192x5632 .bf16) (ix2 (row t r) k) := by
  have e := index_eq t
  rw [← V_main_arg0 m c]
  unfold iblk
  refine congrArg (V m c main_arg0 : Vec Ideal S8192x5632 .bf16) (funext fun a => Fin.ext ?_)
  match a with
  | ⟨0, _⟩ => show win0_0.index t 0 * 256 + 1 * r.val = t.val * 256 + r.val; rw [e.1]; omega
  | ⟨1, _⟩ => show win0_0.index t 1 * 5632 + 1 * k.val = k.val; rw [e.2.1]; omega

theorem iblk1 (c : Dev nD) (t : Fin cfg0.N) (k : Fin 5632) (l : Fin 2048) :
    (iblk m c 1 t : Vec Ideal S5632x2048 .bf16) (ix2 k l) = (m ((c : Thread nD τ).loc main_arg1) : Vec Ideal S1x5632x2048 .f32) (ix3 0 k l) := by
  have e := index_eq t
  rw [← V_v1 m c]
  unfold iblk
  refine congrArg (V m c main_v1 : Vec Ideal S5632x2048 .bf16) (funext fun a => Fin.ext ?_)
  match a with
  | ⟨0, _⟩ => show win0_1.index t 0 * 5632 + 1 * k.val = k.val; rw [e.2.2.1]; omega
  | ⟨1, _⟩ => show win0_1.index t 1 * 2048 + 1 * l.val = l.val; rw [e.2.2.2.1]; omega

theorem iblk2 (c : Dev nD) (t : Fin cfg0.N) (r : Fin 256) (k : Fin 2048) :
    (iblk m c 2 t : Vec Ideal S256x2048 .f32) (ix2 r k) = (m ((c : Thread nD τ).loc main_arg2) : Vec Ideal S8192x2048 .f32) (ix2 (row t r) k) := by
  have e := index_eq t
  rw [← V_main_arg2 m c]
  unfold iblk
  refine congrArg (V m c main_arg2 : Vec Ideal S8192x2048 .f32) (funext fun a => Fin.ext ?_)
  match a with
  | ⟨0, _⟩ => show win0_2.index t 0 * 256 + 1 * r.val = t.val * 256 + r.val; rw [e.2.2.2.2.1]; omega
  | ⟨1, _⟩ => show win0_2.index t 1 * 2048 + 1 * k.val = k.val; rw [e.2.2.2.2.2.1]; omega

theorem iblk3 (c : Dev nD) (t : Fin cfg0.N) (k : Fin 2048) :
    (iblk m c 3 t : Vec Ideal S1x1x1x2048 .f32) (ix4 0 0 0 k) = (m ((c : Thread nD τ).loc main_arg3) : Vec Ideal S8x6x1x2048 .f32) (ix4 0 5 0 k) := by
  have e := index_eq t
  rw [← V_main_arg3 m c]
  unfold iblk
  refine congrArg (V m c main_arg3 : Vec Ideal S8x6x1x2048 .f32) (funext fun a => Fin.ext ?_)
  match a with
  | ⟨0, _⟩ => show win0_3.index t 0 * 1 + 1 * 0 = 0; rw [e.2.2.2.2.2.2.1]
  | ⟨1, _⟩ => show win0_3.index t 1 * 1 + 1 * 0 = 5; rw [e.2.2.2.2.2.2.2.1]
  | ⟨2, _⟩ => show win0_3.index t 2 * 1 + 1 * 0 = 0; rw [e.2.2.2.2.2.2.2.2.1]
  | ⟨3, _⟩ => show win0_3.index t 3 * 2048 + 1 * k.val = k.val; rw [e.2.2.2.2.2.2.2.2.2.1]; omega

theorem iblk4 (c : Dev nD) (t : Fin cfg0.N) (k : Fin 2048) :
    (iblk m c 4 t : Vec Ideal S1x2048 .f32) (ix2 0 k) = (m ((c : Thread nD τ).loc main_arg4) : Vec Ideal S2048 .f32) (ix1 k) := by
  have e := index_eq t
  rw [← V_v2 m c]
  unfold iblk
  refine congrArg (V m c main_v2 : Vec Ideal S1x2048 .f32) (funext fun a => Fin.ext ?_)
  match a with
  | ⟨0, _⟩ => show win0_4.index t 0 * 1 + 1 * 0 = 0; rw [e.2.2.2.2.2.2.2.2.2.2.1]
  | ⟨1, _⟩ => show win0_4.index t 1 * 2048 + 1 * k.val = k.val; rw [e.2.2.2.2.2.2.2.2.2.2.2.1]; omega

/-- What point `t` writes back is block `t` of the reference's result. -/
theorem flushed_eq (c : Dev nD) (t : Fin cfg0.N) :
    (dats m 0 c).flushed 5 t = (win0_5.blk t).view.read (Elt Ideal) (G m c) := by
  rw [Value.flushed5]
  unfold out0_5
  rw [View.canon_unit_zero hz2, View.ld_unit_zero hz2, View.ld_unit_zero hz4, View.ld_unit_zero hz2, View.ld_unit_zero hz2, View.ld_unit_zero hz2]
  have e := index_eq t
  refine funext fun (j : S256x2048.Idx) => ?_
  obtain ⟨r, l, rfl⟩ : ∃ (r : Fin 256) (l : Fin 2048), j = ix2 r l := ⟨j 0, j 1, (ix2_eta j).symm⟩
  show k0_pay1 (F := Ideal) (iblk m c 2 t) (iblk m c 3 t) (iblk m c 0 t) (iblk m c 1 t) (iblk m c 4 t) (ix2 r l) = G m c _
  refine (Cert.Down.pay_apply _ _ _ _ _ r l).trans ?_
  simp only [iblk0, iblk1, iblk2, iblk3, iblk4]
  refine (Cert.Down.ref_apply _ _ _ _ _ (row t r) l).symm.trans (congrArg (G m c) (funext fun a => Fin.ext ?_))
  match a with
  | ⟨0, _⟩ => show t.val * 256 + r.val = win0_5.index t 0 * 256 + 1 * r.val; rw [e.2.2.2.2.2.2.2.2.2.2.2.2.1]; omega
  | ⟨1, _⟩ => show l.val = win0_5.index t 1 * 2048 + 1 * l.val; rw [e.2.2.2.2.2.2.2.2.2.2.2.2.2]; omega

/-- An index is in block `t` when its row is. -/
theorem mem_blk (t : Fin cfg0.N) (i : S8192x2048.Idx) :
    i ∈ ((cfg0.win 5).blk t).view.set ↔ t.val * 256 ≤ (i 0 : Nat) ∧ (i 0 : Nat) < t.val * 256 + 256 := by
  show i ∈ ((View.whole main_v3).slice (win0_5.rect t)).set ↔ _
  rw [View.set_slice_whole, Rect.mem_set_unit]
  have h1 : (i 1 : Nat) < 2048 := (i 1).isLt
  have e := (index_eq t).2.2.2.2.2.2.2.2.2.2.2.2
  refine ⟨fun h => ?_, fun h a => ?_⟩
  · have : win0_5.index t 0 * 256 ≤ (i 0 : Nat) ∧ (i 0 : Nat) < win0_5.index t 0 * 256 + 256 := h 0
    rw [e.1] at this; exact this
  · match a with
    | ⟨0, _⟩ => show win0_5.index t 0 * 256 ≤ (i 0 : Nat) ∧ (i 0 : Nat) < win0_5.index t 0 * 256 + 256
                rw [e.1]; exact h
    | ⟨1, _⟩ => show win0_5.index t 1 * 2048 ≤ (i 1 : Nat) ∧ (i 1 : Nat) < win0_5.index t 1 * 2048 + 2048
                rw [e.2]; exact ⟨by norm_num, by norm_num; exact h1⟩

/-- Every index lies in the block of its row. -/
theorem cover (i : S8192x2048.Idx) : ∃ t : Fin cfg0.N, (cfg0.win 5).flush t = true ∧ i ∈ ((cfg0.win 5).blk t).view.set := by
  have h0 : (i 0 : Nat) < 8192 := (i 0).isLt
  have hN : cfg0.N = 32 := N_0
  refine ⟨⟨(i 0 : Nat) / 256, by omega⟩, flush0_5 _, ?_⟩
  rw [mem_blk]
  dsimp only
  omega

/-- The result array ends holding the reference's result. -/
theorem final (c : Dev nD) : (dats m 0 c).arrAt 5 cfg0.N = G m c :=
  (dats m 0 c).arrAt_eq_of_cover 5 (G m c) (fun t _ => flushed_eq m c t) cover

end Cert.KDownIdeal.Hand

namespace Cert.Proof.DownClaims

theorem frame_k : Cert.quiescent_KDown := fun m ρ _ => Cert.KDown.Gen.frame m ρ
theorem frame_ki : Cert.quiescent_KDownIdeal := fun m ρ _ => Cert.KDownIdeal.Gen.frame m ρ
/-- The reference is host operations alone: its run leaves its arguments as they were. -/
theorem frame_ri : Cert.quiescent_RDownIdeal := fun m ρ _ =>
  (θ_run Cert.RDownIdeal.defs _ _).mono (fun r h => ⟨fun c => (h c).2, Idealize.ShloMosaic.sem_eq_zero_of_no_sems (by decide) r.2⟩)
    (Cert.RDownIdeal.Value.run (F := Ideal) m ρ)

theorem preserves : Cert.preserves_KDown_KDownIdeal := trivial

/-- Over the extended reals the kernel's result array and the reference's end equal, from arguments that agree. -/
theorem algebraic : Cert.algebraic_KDownIdeal_RDownIdeal := by
  intro m ρ m' ρ' _ hag
  refine ⟨fun c => Cert.KDownIdeal.Hand.G m c, ?_, ?_⟩
  · exact (θ_run Cert.KDownIdeal.defs _ _).mono (fun _ h c => ⟨(h c).1.trans (Cert.KDownIdeal.Hand.final m c), (h c).2⟩)
      (Cert.KDownIdeal.Value.run_blocks (F := Ideal) m ρ)
  · refine (θ_run Cert.RDownIdeal.defs _ _).mono (fun _ h c => ⟨((h c).1.trans (Cert.RDownIdeal.Read.val_main_v20_eq _ _ _ _ _)).trans ?_, (h c).2⟩)
      (Cert.RDownIdeal.Value.run (F := Ideal) m' ρ')
    obtain ⟨h0, h1, h2, h3, h4⟩ := hag c
    rw [h0, h1, h2, h3, h4]

end Cert.Proof.DownClaims
end
-- ==== Proof.Merge.lean ====
/- The layer's merge (`KMerge`): the two branches gated and projected into the residual stream, then the second norm. -/
module

public import proofs.«01_k».proof.Defs
public import proofs.«01_k».proof.Proof.Up
public import proofs.«01_k».proof.Proof.Gen.KMerge.Frame
public import proofs.«01_k».proof.Proof.Gen.KMergeIdeal.Value
public import proofs.«01_k».proof.Proof.Gen.RMergeIdeal.Run
public import proofs.«01_k».proof.Proof.Gen.RMergeIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Merge

open Cert.Up (gelu)

/-- One element of the gated linear unit over the state branch. -/
def glu (ys u d : Fin 1024 → EReal) (gw : Fin 1024 → Fin 1024 → EReal) (gb : Fin 1024 → EReal) (c : Fin 1024) : EReal :=
  gelu (ys c + u c * d c) * Ideal.logistic ((∑ k : Fin 1024, gelu (ys k + u k * d k) * gw k c) + gb c)

/-- One element of the two branches' gated sum. -/
def merged (yh s : Fin 1024 → EReal) (wbh wbs : Fin 1024 → Fin 2048 → EReal) (gh gs : Fin 2048 → EReal) (c : Fin 2048) : EReal :=
  gh c * (∑ k : Fin 1024, yh k * wbh k c) + gs c * ∑ k : Fin 1024, s k * wbs k c

/-- One element of the residual stream after the branches. -/
def resid (x g1 : Fin 2048 → EReal) (mer : Fin 2048 → EReal) (wo : Fin 2048 → Fin 2048 → EReal) (c : Fin 2048) : EReal :=
  x c + g1 c * ∑ k : Fin 2048, mer k * wo k c

/-- One element of a row root-mean-square normalised, scaled and shifted by the condition. -/
def norm (x1 n2 sc sh : Fin 2048 → EReal) (c : Fin 2048) : EReal :=
  x1 c * Ideal.rsqrt (Ideal.div (∑ k : Fin 2048, x1 k * x1 k) (Ideal.ofBits .f32 0x45000000#32) + Ideal.ofBits .f32 0x358637BD#32)
    * n2 c * (1 + sc c) + sh c

section
open Cert.KMergeIdeal Cert.KMergeIdeal.Gen

theorem pay2_apply (v0 v2 : Vec Ideal S256x1024 .bf16) (v4 : Vec Ideal S1x1024 .f32) (v23 : Vec Ideal S1024x1024 .bf16) (v26 : Vec Ideal S1x1024 .f32)
    (r : Fin 256) (l : Fin 1024) :
    k0_pay2 (F := Ideal) v0 v2 v4 v23 v26 (ix2 r l)
      = glu (fun c => v0 (ix2 r c)) (fun c => v2 (ix2 r c)) (fun c => v4 (ix2 0 c)) (fun k c => v23 (ix2 k c)) (fun c => v26 (ix2 0 c)) l := by
  unfold glu gelu
  pointwise [k0_pay2]

theorem pay3_apply (v33 : Vec Ideal S256x1024 .bf16) (v34 : Vec Ideal S1024x2048 .bf16) (r : Fin 256) (l : Fin 2048) :
    k0_pay3 (F := Ideal) v33 v34 (ix2 r l) = ∑ k : Fin 1024, v33 (ix2 r k) * v34 (ix2 k l) := by
  pointwise [k0_pay3]

theorem pay4_apply (v32 : FVec Ideal S256x1024 .bf16) (v33 : Vec Ideal S256x1024 .bf16) (v34 : Vec Ideal S1024x2048 .bf16) (v37 : Vec Ideal S1024x2048 .bf16)
    (v40 v43 : Vec Ideal S256x2048 .bf16) (v47 : Vec Ideal S256x2048 .f32) (v49 : Vec Ideal S1x1x1x2048 .f32) (v52 : Vec Ideal S2048x2048 .bf16)
    (r : Fin 256) (l : Fin 2048) :
    k0_pay4 (F := Ideal) v32 (k0_pay3 v33 v34) v37 v40 v43 v47 v49 v52 (ix2 r l)
      = resid (fun c => v47 (ix2 r c)) (fun c => v49 (ix4 0 0 0 c))
          (merged (fun k => v33 (ix2 r k)) (fun k => v32 (ix2 r k)) (fun k c => v34 (ix2 k c)) (fun k c => v37 (ix2 k c))
            (fun c => v40 (ix2 r c)) (fun c => v43 (ix2 r c)))
          (fun k c => v52 (ix2 k c)) l := by
  unfold resid merged
  pointwise [k0_pay4, k0_pay3]

theorem pay1_apply (v32 : FVec Ideal S256x1024 .bf16) (v36 : FVec Ideal S256x2048 .f32) (v37 : Vec Ideal S1024x2048 .bf16)
    (v40 v43 : Vec Ideal S256x2048 .bf16) (v47 : Vec Ideal S256x2048 .f32) (v49 : Vec Ideal S1x1x1x2048 .f32) (v52 : Vec Ideal S2048x2048 .bf16)
    (v59 : Vec Ideal S1x2048 .f32) (v61 v63 : Vec Ideal S1x1x1x2048 .f32)
    (r : Fin 256) (l : Fin 2048) :
    k0_pay1 (F := Ideal) (k0_pay4 v32 v36 v37 v40 v43 v47 v49 v52) (k0_pay5 v59) (k0_pay6 v61) (k0_pay7 v63)
        (k0_pay8 v32 v36 v37 v40 v43 v47 v49 v52) (Scalar.ofBits .f32 0x45000000#32) (ix2 r l)
      = norm (fun c => k0_pay4 (F := Ideal) v32 v36 v37 v40 v43 v47 v49 v52 (ix2 r c)) (fun c => v59 (ix2 0 c)) (fun c => v61 (ix4 0 0 0 c)) (fun c => v63 (ix4 0 0 0 c)) l := by
  unfold norm
  unfold k0_pay8
  generalize k0_pay4 v32 v36 v37 v40 v43 v47 v49 v52 = X
  pointwise [k0_pay1, k0_pay5, k0_pay6, k0_pay7]
end

section
open Cert.RMergeIdeal Cert.RMergeIdeal.Gen Cert.RMergeIdeal.Read

theorem ref_y (x1 : Vec Ideal S8192x1024 .bf16) (x2 : Vec Ideal S8192x8192 .bf16) (x5 : Vec Ideal S1x1024 .f32) (R : Fin 8192) (l : Fin 1024) :
    val_main_v17 (F := Ideal) x1 x2 x5 (ix2 R l) = x1 (ix2 R l) + x2 (ix2 R ⟨3072 + l.val, by omega⟩) * x5 (ix2 0 l) := by
  rw [add_comm (x1 _)]
  pointwise [val_main_v17, val_main_v16, val_main_v15, val_main_v14, val_main_v13, val_main_v12, val_main_v1, val_main_v0]

theorem ref_gelu (x1 : Vec Ideal S8192x1024 .bf16) (x2 : Vec Ideal S8192x8192 .bf16) (x5 : Vec Ideal S1x1024 .f32) (R : Fin 8192) (l : Fin 1024) :
    val_main_v30 (F := Ideal) x1 x2 x5 (ix2 R l) = gelu (x1 (ix2 R l) + x2 (ix2 R ⟨3072 + l.val, by omega⟩) * x5 (ix2 0 l)) := by
  rw [← ref_y]
  unfold gelu
  simp only [val_main_v30, val_main_v29, val_main_v28, val_main_v27, val_main_v26, val_main_v25, val_main_v24, val_main_v23, val_main_v22, val_main_v21, val_main_v20, val_main_v19, val_main_v18]
  generalize val_main_v17 (F := Ideal) x1 x2 x5 = X
  rw [← mul_assoc (X _) (X _) (X _)]
  pointwise [val_main_cst, val_main_cst_0, val_main_cst_1, val_main_cst_2]

theorem ref_glu (x1 : Vec Ideal S8192x1024 .bf16) (x2 : Vec Ideal S8192x8192 .bf16) (x5 : Vec Ideal S1x1024 .f32)
    (x6 : Vec Ideal S1x1024x1024 .f32) (x7 : Vec Ideal S1x1024 .f32) (R : Fin 8192) (l : Fin 1024) :
    val_main_v43 (F := Ideal) x1 x2 x5 x6 x7 (ix2 R l)
      = glu (fun c => x1 (ix2 R c)) (fun c => x2 (ix2 R ⟨3072 + c.val, by omega⟩)) (fun c => x5 (ix2 0 c)) (fun k c => x6 (ix3 0 k c)) (fun c => x7 (ix2 0 c)) l := by
  unfold glu Ideal.logistic
  have h := fun c => ref_gelu x1 x2 x5 R c
  simp only [← h]
  simp only [val_main_v43, val_main_v42, val_main_v41, val_main_v40, val_main_v39, val_main_v38, val_main_v37, val_main_v36, val_main_v35, val_main_v34, val_main_v33, val_main_v32, val_main_v31]
  generalize val_main_v30 (F := Ideal) x1 x2 x5 = X
  pointwise [val_main_cst_3, val_main_cst_4]

theorem ref_merged (x0 x1 : Vec Ideal S8192x1024 .bf16) (x2 : Vec Ideal S8192x8192 .bf16) (x5 : Vec Ideal S1x1024 .f32)
    (x6 : Vec Ideal S1x1024x1024 .f32) (x7 : Vec Ideal S1x1024 .f32) (x8 x9 : Vec Ideal S1x1024x2048 .f32) (R : Fin 8192) (l : Fin 2048) :
    val_main_v51 (F := Ideal) x0 x1 x2 x5 x6 x7 x8 x9 (ix2 R l)
      = merged (fun k => x0 (ix2 R k)) (fun k => val_main_v43 (F := Ideal) x1 x2 x5 x6 x7 (ix2 R k)) (fun k c => x8 (ix3 0 k c)) (fun k c => x9 (ix3 0 k c))
          (fun c => x2 (ix2 R ⟨4096 + c.val, by omega⟩)) (fun c => x2 (ix2 R ⟨6144 + c.val, by omega⟩)) l := by
  unfold merged
  simp only [val_main_v51, val_main_v50, val_main_v49, val_main_v48, val_main_v47, val_main_v46, val_main_v45, val_main_v44, val_main_v5, val_main_v4, val_main_v3, val_main_v2]
  generalize val_main_v43 (F := Ideal) x1 x2 x5 x6 x7 = X
  pointwise

/-- The token at row `R`, in the input's layout. -/
abbrev seg (R : Fin 8192) : Fin 32 := ⟨R.val / 256, by omega⟩
abbrev pos (R : Fin 8192) : Fin 256 := ⟨R.val % 256, by omega⟩

theorem ref_x1 (x0 x1 : Vec Ideal S8192x1024 .bf16) (x2 : Vec Ideal S8192x8192 .bf16) (x3 : Vec Ideal S32x256x2048 .f32) (x4 : Vec Ideal S8x6x1x2048 .f32)
    (x5 : Vec Ideal S1x1024 .f32) (x6 : Vec Ideal S1x1024x1024 .f32) (x7 : Vec Ideal S1x1024 .f32) (x8 x9 : Vec Ideal S1x1024x2048 .f32)
    (x10 : Vec Ideal S1x2048x2048 .f32) (R : Fin 8192) (l : Fin 2048) :
    val_main_v57 (F := Ideal) x0 x1 x2 x3 x4 x5 x6 x7 x8 x9 x10 (ix2 R l)
      = resid (fun c => x3 (ix3 (seg R) (pos R) c)) (fun c => x4 (ix4 0 2 0 c))
          (fun k => val_main_v51 (F := Ideal) x0 x1 x2 x5 x6 x7 x8 x9 (ix2 R k)) (fun k c => x10 (ix3 0 k c)) l := by
  unfold resid
  simp only [val_main_v57, val_main_v56, val_main_v55, val_main_v54, val_main_v53, val_main_v52, val_main_v7, val_main_v6]
  generalize val_main_v51 (F := Ideal) x0 x1 x2 x5 x6 x7 x8 x9 = X
  pointwise

theorem ref_h2 (x0 x1 : Vec Ideal S8192x1024 .bf16) (x2 : Vec Ideal S8192x8192 .bf16) (x3 : Vec Ideal S32x256x2048 .f32) (x4 : Vec Ideal S8x6x1x2048 .f32)
    (x5 : Vec Ideal S1x1024 .f32) (x6 : Vec Ideal S1x1024x1024 .f32) (x7 : Vec Ideal S1x1024 .f32) (x8 x9 : Vec Ideal S1x1024x2048 .f32)
    (x10 : Vec Ideal S1x2048x2048 .f32) (x11 : Vec Ideal S1x2048 .f32) (R : Fin 8192) (l : Fin 2048) :
    val_main_v78 (F := Ideal) x0 x1 x2 x3 x4 x5 x6 x7 x8 x9 x10 x11 (ix2 R l)
      = norm (fun c => val_main_v57 (F := Ideal) x0 x1 x2 x3 x4 x5 x6 x7 x8 x9 x10 (ix2 R c)) (fun c => x11 (ix2 0 c))
          (fun c => x4 (ix4 0 4 0 c)) (fun c => x4 (ix4 0 3 0 c)) l := by
  unfold norm
  simp only [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v11, val_main_v10, val_main_v9, val_main_v8]
  generalize val_main_v57 (F := Ideal) x0 x1 x2 x3 x4 x5 x6 x7 x8 x9 x10 = X
  pointwise [val_main_cst_5, val_main_cst_6, val_main_cst_7, val_main_cst_8]
end

end Cert.Merge

namespace Cert.KMergeIdeal.Hand

open Cert.KMergeIdeal Cert.KMergeIdeal.Gen
open Cert.Merge (seg pos)

variable (m : (ℓ : Loc nD τ sig) → Buf (Elt Ideal) ℓ) (ρ : Dev nD → PrngReg)

/-- The reference's residual stream of device `c`'s arguments: what the kernel's first result array is shown to hold. -/
abbrev G0 (c : Dev nD) : Vec Ideal S8192x2048 .f32 :=
  Cert.RMergeIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The reference's normalised stream of device `c`'s arguments: what the kernel's second result array is shown to hold. -/
abbrev G1 (c : Dev nD) : Vec Ideal S8192x2048 .bf16 :=
  Cert.RMergeIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem hz2 : (![0, 0] : Fin 2 → Nat) = fun _ => 0 := funext fun a => by fin_cases a <;> rfl
theorem hz4 : (![0, 0, 0, 0] : Fin 4 → Nat) = fun _ => 0 := funext fun a => by fin_cases a <;> rfl

theorem glu_apply (x : FVec Ideal S1x1024x1024 .f32) (k : Fin 1024) (l : Fin 1024) :
    truncf .bf16 (shapeCast S1024x1024 x shapeCasts_S1x1024x1024_S1024x1024) bitsLt_bf16_f32 (ix2 k l) = x (ix3 0 k l) := by
  pointwise
theorem branch_apply (x : FVec Ideal S1x1024x2048 .f32) (k : Fin 1024) (l : Fin 2048) :
    truncf .bf16 (shapeCast S1024x2048 x shapeCasts_S1x1024x2048_S1024x2048) bitsLt_bf16_f32 (ix2 k l) = x (ix3 0 k l) := by
  pointwise
theorem out_apply (x : FVec Ideal S1x2048x2048 .f32) (k : Fin 2048) (l : Fin 2048) :
    truncf .bf16 (shapeCast S2048x2048 x shapeCasts_S1x2048x2048_S2048x2048) bitsLt_bf16_f32 (ix2 k l) = x (ix3 0 k l) := by
  pointwise
theorem vec1024_apply (x : FVec Ideal S1x1024 .f32) (l : Fin 1024) :
    shapeCast S1x1024 (shapeCast S1024 x shapeCasts_S1x1024_S1024) shapeCasts_S1024_S1x1024 (ix2 0 l) = x (ix2 0 l) := by
  pointwise
theorem vec2048_apply (x : FVec Ideal S1x2048 .f32) (l : Fin 2048) :
    shapeCast S1x2048 (shapeCast S2048 x shapeCasts_S1x2048_S2048) shapeCasts_S2048_S1x2048 (ix2 0 l) = x (ix2 0 l) := by
  pointwise
theorem stream_apply (x : FVec Ideal S32x256x2048 .f32) (R : Fin 8192) (l : Fin 2048) :
    shapeCast S8192x2048 x shapeCasts_S32x256x2048_S8192x2048 (ix2 R l) = x (ix3 (seg R) (pos R) l) := by
  pointwise

/-- The arrays the host prepares for the kernel, as terms of the arguments. -/
theorem V_v0 (c : Dev nD) : @Eq (FVec Ideal S8192x2048 .f32) (V m c main_v0)
    (shapeCast S8192x2048 (m ((c : Thread nD τ).loc main_arg3) : Vec Ideal S32x256x2048 .f32) shapeCasts_S32x256x2048_S8192x2048) := by
  unfold V; after_results <;> rfl
theorem V_v3 (c : Dev nD) : @Eq (FVec Ideal S1024x1024 .bf16) (V m c main_v3)
    (truncf .bf16 (shapeCast S1024x1024 (m ((c : Thread nD τ).loc main_arg6) : Vec Ideal S1x1024x1024 .f32) shapeCasts_S1x1024x1024_S1024x1024) bitsLt_bf16_f32) := by
  unfold V; after_results <;> rfl
theorem V_v6 (c : Dev nD) : @Eq (FVec Ideal S1024x2048 .bf16) (V m c main_v6)
    (truncf .bf16 (shapeCast S1024x2048 (m ((c : Thread nD τ).loc main_arg8) : Vec Ideal S1x1024x2048 .f32) shapeCasts_S1x1024x2048_S1024x2048) bitsLt_bf16_f32) := by
  unfold V; after_results <;> rfl
theorem V_v8 (c : Dev nD) : @Eq (FVec Ideal S1024x2048 .bf16) (V m c main_v8)
    (truncf .bf16 (shapeCast S1024x2048 (m ((c : Thread nD τ).loc main_arg9) : Vec Ideal S1x1024x2048 .f32) shapeCasts_S1x1024x2048_S1024x2048) bitsLt_bf16_f32) := by
  unfold V; after_results <;> rfl
theorem V_v10 (c : Dev nD) : @Eq (FVec Ideal S2048x2048 .bf16) (V m c main_v10)
    (truncf .bf16 (shapeCast S2048x2048 (m ((c : Thread nD τ).loc main_arg10) : Vec Ideal S1x2048x2048 .f32) shapeCasts_S1x2048x2048_S2048x2048) bitsLt_bf16_f32) := by
  unfold V; after_results <;> rfl
theorem V_v12 (c : Dev nD) : @Eq (FVec Ideal S1x1024 .f32) (V m c main_v12)
    (shapeCast S1x1024 (shapeCast S1024 (m ((c : Thread nD τ).loc main_arg5) : Vec Ideal S1x1024 .f32) shapeCasts_S1x1024_S1024) shapeCasts_S1024_S1x1024) := by
  unfold V; after_results <;> rfl
theorem V_v13 (c : Dev nD) : @Eq (FVec Ideal S1x1024 .f32) (V m c main_v13)
    (shapeCast S1x1024 (shapeCast S1024 (m ((c : Thread nD τ).loc main_arg7) : Vec Ideal S1x1024 .f32) shapeCasts_S1x1024_S1024) shapeCasts_S1024_S1x1024) := by
  unfold V; after_results <;> rfl
theorem V_v14 (c : Dev nD) : @Eq (FVec Ideal S1x2048 .f32) (V m c main_v14)
    (shapeCast S1x2048 (shapeCast S2048 (m ((c : Thread nD τ).loc main_arg11) : Vec Ideal S1x2048 .f32) shapeCasts_S1x2048_S2048) shapeCasts_S2048_S1x2048) := by
  unfold V; after_results <;> rfl

/-- Where the windows' blocks lie at each grid point. -/
theorem index0 : ∀ t : Fin cfg0.N, win0_0.index t 0 = t.val ∧ win0_0.index t 1 = 0 := by
  show ∀ t : Fin grid0.N, _
  decide +kernel
theorem index1 : ∀ t : Fin cfg0.N, win0_1.index t 0 = t.val ∧ win0_1.index t 1 = 0 := by
  show ∀ t : Fin grid0.N, _
  decide +kernel
theorem index2 : ∀ t : Fin cfg0.N, win0_2.index t 0 = t.val ∧ win0_2.index t 1 = 3 := by
  show ∀ t : Fin grid0.N, _
  decide +kernel
theorem index3 : ∀ t : Fin cfg0.N, win0_3.index t 0 = t.val ∧ win0_3.index t 1 = 2 := by
  show ∀ t : Fin grid0.N, _
  decide +kernel
theorem index4 : ∀ t : Fin cfg0.N, win0_4.index t 0 = t.val ∧ win0_4.index t 1 = 3 := by
  show ∀ t : Fin grid0.N, _
  decide +kernel
theorem index5 : ∀ t : Fin cfg0.N, win0_5.index t 0 = t.val ∧ win0_5.index t 1 = 0 := by
  show ∀ t : Fin grid0.N, _
  decide +kernel
theorem index6 : ∀ t : Fin cfg0.N, win0_6.index t 0 = 0 ∧ win0_6.index t 1 = 0 := by
  show ∀ t : Fin grid0.N, _
  decide +kernel
theorem index7 : ∀ t : Fin cfg0.N, win0_7.index t 0 = 0 ∧ win0_7.index t 1 = 0 := by
  show ∀ t : Fin grid0.N, _
  decide +kernel
theorem index8 : ∀ t : Fin cfg0.N, win0_8.index t 0 = 0 ∧ win0_8.index t 1 = 0 := by
  show ∀ t : Fin grid0.N, _
  decide +kernel
theorem index9 : ∀ t : Fin cfg0.N, win0_9.index t 0 = 0 ∧ win0_9.index t 1 = 0 := by
  show ∀ t : Fin grid0.N, _
  decide +kernel
theorem index10 : ∀ t : Fin cfg0.N, win0_10.index t 0 = 0 ∧ win0_10.index t 1 = 0 := by
  show ∀ t : Fin grid0.N, _
  decide +kernel
theorem index11 : ∀ t : Fin cfg0.N, win0_11.index t 0 = 0 ∧ win0_11.index t 1 = 0 := by
  show ∀ t : Fin grid0.N, _
  decide +kernel
theorem index12 : ∀ t : Fin cfg0.N, win0_12.index t 0 = 0 ∧ win0_12.index t 1 = 2 ∧ win0_12.index t 2 = 0 ∧ win0_12.index t 3 = 0 := by
  show ∀ t : Fin grid0.N, _
  decide +kernel
theorem index13 : ∀ t : Fin cfg0.N, win0_13.index t 0 = 0 ∧ win0_13.index t 1 = 0 := by
  show ∀ t : Fin grid0.N, _
  decide +kernel
theorem index14 : ∀ t : Fin cfg0.N, win0_14.index t 0 = 0 ∧ win0_14.index t 1 = 4 ∧ win0_14.index t 2 = 0 ∧ win0_14.index t 3 = 0 := by
  show ∀ t : Fin grid0.N, _
  decide +kernel
theorem index15 : ∀ t : Fin cfg0.N, win0_15.index t 0 = 0 ∧ win0_15.index t 1 = 3 ∧ win0_15.index t 2 = 0 ∧ win0_15.index t 3 = 0 := by
  show ∀ t : Fin grid0.N, _
  decide +kernel
theorem index16 : ∀ t : Fin cfg0.N, win0_16.index t 0 = t.val ∧ win0_16.index t 1 = 0 := by
  show ∀ t : Fin grid0.N, _
  decide +kernel
theorem index17 : ∀ t : Fin cfg0.N, win0_17.index t 0 = t.val ∧ win0_17.index t 1 = 0 := by
  show ∀ t : Fin grid0.N, _
  decide +kernel

theorem lt_N (t : Fin cfg0.N) : t.val < 32 := lt_of_lt_of_eq t.isLt N_0

/-- Row `r` of point `t`'s block of rows. -/
abbrev row (t : Fin cfg0.N) (r : Fin 256) : Fin 8192 := ⟨t.val * 256 + r.val, by have := lt_N t; omega⟩

theorem iblk0 (c : Dev nD) (t : Fin cfg0.N) (r : Fin 256) (l : Fin 1024) :
    (iblk m c 0 t : Vec Ideal S256x1024 .bf16) (ix2 r l) = (m ((c : Thread nD τ).loc main_arg0) : Vec Ideal S8192x1024 .bf16) (ix2 (row t r) l) := by
  have e := index0 t
  rw [← V_main_arg0 m c]
  unfold iblk
  refine congrArg (V m c main_arg0 : Vec Ideal S8192x1024 .bf16) (funext fun a => Fin.ext ?_)
  match a with
  | ⟨0, _⟩ => show win0_0.index t 0 * 256 + 1 * r.val = t.val * 256 + r.val; rw [e.1]; omega
  | ⟨1, _⟩ => show win0_0.index t 1 * 1024 + 1 * l.val = l.val; rw [e.2]; omega

theorem iblk1 (c : Dev nD) (t : Fin cfg0.N) (r : Fin 256) (l : Fin 1024) :
    (iblk m c 1 t : Vec Ideal S256x1024 .bf16) (ix2 r l) = (m ((c : Thread nD τ).loc main_arg1) : Vec Ideal S8192x1024 .bf16) (ix2 (row t r) l) := by
  have e := index1 t
  rw [← V_main_arg1 m c]
  unfold iblk
  refine congrArg (V m c main_arg1 : Vec Ideal S8192x1024 .bf16) (funext fun a => Fin.ext ?_)
  match a with
  | ⟨0, _⟩ => show win0_1.index t 0 * 256 + 1 * r.val = t.val * 256 + r.val; rw [e.1]; omega
  | ⟨1, _⟩ => show win0_1.index t 1 * 1024 + 1 * l.val = l.val; rw [e.2]; omega

theorem iblk2 (c : Dev nD) (t : Fin cfg0.N) (r : Fin 256) (l : Fin 1024) :
    (iblk m c 2 t : Vec Ideal S256x1024 .bf16) (ix2 r l) = (m ((c : Thread nD τ).loc main_arg2) : Vec Ideal S8192x8192 .bf16) (ix2 (row t r) ⟨3072 + l.val, by omega⟩) := by
  have e := index2 t
  rw [← V_main_arg2 m c]
  unfold iblk
  refine congrArg (V m c main_arg2 : Vec Ideal S8192x8192 .bf16) (funext fun a => Fin.ext ?_)
  match a with
  | ⟨0, _⟩ => show win0_2.index t 0 * 256 + 1 * r.val = t.val * 256 + r.val; rw [e.1]; omega
  | ⟨1, _⟩ => show win0_2.index t 1 * 1024 + 1 * l.val = 3072 + l.val; rw [e.2]; omega

theorem iblk3 (c : Dev nD) (t : Fin cfg0.N) (r : Fin 256) (l : Fin 2048) :
    (iblk m c 3 t : Vec Ideal S256x2048 .bf16) (ix2 r l) = (m ((c : Thread nD τ).loc main_arg2) : Vec Ideal S8192x8192 .bf16) (ix2 (row t r) ⟨4096 + l.val, by omega⟩) := by
  have e := index3 t
  rw [← V_main_arg2 m c]
  unfold iblk
  refine congrArg (V m c main_arg2 : Vec Ideal S8192x8192 .bf16) (funext fun a => Fin.ext ?_)
  match a with
  | ⟨0, _⟩ => show win0_3.index t 0 * 256 + 1 * r.val = t.val * 256 + r.val; rw [e.1]; omega
  | ⟨1, _⟩ => show win0_3.index t 1 * 2048 + 1 * l.val = 4096 + l.val; rw [e.2]; omega

theorem iblk4 (c : Dev nD) (t : Fin cfg0.N) (r : Fin 256) (l : Fin 2048) :
    (iblk m c 4 t : Vec Ideal S256x2048 .bf16) (ix2 r l) = (m ((c : Thread nD τ).loc main_arg2) : Vec Ideal S8192x8192 .bf16) (ix2 (row t r) ⟨6144 + l.val, by omega⟩) := by
  have e := index4 t
  rw [← V_main_arg2 m c]
  unfold iblk
  refine congrArg (V m c main_arg2 : Vec Ideal S8192x8192 .bf16) (funext fun a => Fin.ext ?_)
  match a with
  | ⟨0, _⟩ => show win0_4.index t 0 * 256 + 1 * r.val = t.val * 256 + r.val; rw [e.1]; omega
  | ⟨1, _⟩ => show win0_4.index t 1 * 2048 + 1 * l.val = 6144 + l.val; rw [e.2]; omega

theorem iblk5 (c : Dev nD) (t : Fin cfg0.N) (r : Fin 256) (l : Fin 2048) :
    (iblk m c 5 t : Vec Ideal S256x2048 .f32) (ix2 r l) = (V m c main_v0 : Vec Ideal S8192x2048 .f32) (ix2 (row t r) l) := by
  have e := index5 t
  unfold iblk
  refine congrArg (V m c main_v0 : Vec Ideal S8192x2048 .f32) (funext fun a => Fin.ext ?_)
  match a with
  | ⟨0, _⟩ => show win0_5.index t 0 * 256 + 1 * r.val = t.val * 256 + r.val; rw [e.1]; omega
  | ⟨1, _⟩ => show win0_5.index t 1 * 2048 + 1 * l.val = l.val; rw [e.2]; omega

theorem iblk6 (c : Dev nD) (t : Fin cfg0.N) (r : Fin 1) (l : Fin 1024) :
    (iblk m c 6 t : Vec Ideal S1x1024 .f32) (ix2 r l) = (V m c main_v12 : Vec Ideal S1x1024 .f32) (ix2 (r) l) := by
  have e := index6 t
  unfold iblk
  refine congrArg (V m c main_v12 : Vec Ideal S1x1024 .f32) (funext fun a => Fin.ext ?_)
  match a with
  | ⟨0, _⟩ => show win0_6.index t 0 * 1 + 1 * r.val = r.val; rw [e.1]; omega
  | ⟨1, _⟩ => show win0_6.index t 1 * 1024 + 1 * l.val = l.val; rw [e.2]; omega

theorem iblk7 (c : Dev nD) (t : Fin cfg0.N) (r : Fin 1024) (l : Fin 1024) :
    (iblk m c 7 t : Vec Ideal S1024x1024 .bf16) (ix2 r l) = (V m c main_v3 : Vec Ideal S1024x1024 .bf16) (ix2 (r) l) := by
  have e := index7 t
  unfold iblk
  refine congrArg (V m c main_v3 : Vec Ideal S1024x1024 .bf16) (funext fun a => Fin.ext ?_)
  match a with
  | ⟨0, _⟩ => show win0_7.index t 0 * 1024 + 1 * r.val = r.val; rw [e.1]; omega
  | ⟨1, _⟩ => show win0_7.index t 1 * 1024 + 1 * l.val = l.val; rw [e.2]; omega

theorem iblk8 (c : Dev nD) (t : Fin cfg0.N) (r : Fin 1) (l : Fin 1024) :
    (iblk m c 8 t : Vec Ideal S1x1024 .f32) (ix2 r l) = (V m c main_v13 : Vec Ideal S1x1024 .f32) (ix2 (r) l) := by
  have e := index8 t
  unfold iblk
  refine congrArg (V m c main_v13 : Vec Ideal S1x1024 .f32) (funext fun a => Fin.ext ?_)
  match a with
  | ⟨0, _⟩ => show win0_8.index t 0 * 1 + 1 * r.val = r.val; rw [e.1]; omega
  | ⟨1, _⟩ => show win0_8.index t 1 * 1024 + 1 * l.val = l.val; rw [e.2]; omega

theorem iblk9 (c : Dev nD) (t : Fin cfg0.N) (r : Fin 1024) (l : Fin 2048) :
    (iblk m c 9 t : Vec Ideal S1024x2048 .bf16) (ix2 r l) = (V m c main_v6 : Vec Ideal S1024x2048 .bf16) (ix2 (r) l) := by
  have e := index9 t
  unfold iblk
  refine congrArg (V m c main_v6 : Vec Ideal S1024x2048 .bf16) (funext fun a => Fin.ext ?_)
  match a with
  | ⟨0, _⟩ => show win0_9.index t 0 * 1024 + 1 * r.val = r.val; rw [e.1]; omega
  | ⟨1, _⟩ => show win0_9.index t 1 * 2048 + 1 * l.val = l.val; rw [e.2]; omega

theorem iblk10 (c : Dev nD) (t : Fin cfg0.N) (r : Fin 1024) (l : Fin 2048) :
    (iblk m c 10 t : Vec Ideal S1024x2048 .bf16) (ix2 r l) = (V m c main_v8 : Vec Ideal S1024x2048 .bf16) (ix2 (r) l) := by
  have e := index10 t
  unfold iblk
  refine congrArg (V m c main_v8 : Vec Ideal S1024x2048 .bf16) (funext fun a => Fin.ext ?_)
  match a with
  | ⟨0, _⟩ => show win0_10.index t 0 * 1024 + 1 * r.val = r.val; rw [e.1]; omega
  | ⟨1, _⟩ => show win0_10.index t 1 * 2048 + 1 * l.val = l.val; rw [e.2]; omega

theorem iblk11 (c : Dev nD) (t : Fin cfg0.N) (r : Fin 2048) (l : Fin 2048) :
    (iblk m c 11 t : Vec Ideal S2048x2048 .bf16) (ix2 r l) = (V m c main_v10 : Vec Ideal S2048x2048 .bf16) (ix2 (r) l) := by
  have e := index11 t
  unfold iblk
  refine congrArg (V m c main_v10 : Vec Ideal S2048x2048 .bf16) (funext fun a => Fin.ext ?_)
  match a with
  | ⟨0, _⟩ => show win0_11.index t 0 * 2048 + 1 * r.val = r.val; rw [e.1]; omega
  | ⟨1, _⟩ => show win0_11.index t 1 * 2048 + 1 * l.val = l.val; rw [e.2]; omega

theorem iblk12 (c : Dev nD) (t : Fin cfg0.N) (l : Fin 2048) :
    (iblk m c 12 t : Vec Ideal S1x1x1x2048 .f32) (ix4 0 0 0 l) = (m ((c : Thread nD τ).loc main_arg4) : Vec Ideal S8x6x1x2048 .f32) (ix4 0 2 0 l) := by
  have e := index12 t
  rw [← V_main_arg4 m c]
  unfold iblk
  refine congrArg (V m c main_arg4 : Vec Ideal S8x6x1x2048 .f32) (funext fun a => Fin.ext ?_)
  match a with
  | ⟨0, _⟩ => show win0_12.index t 0 * 1 + 1 * 0 = 0; rw [e.1]
  | ⟨1, _⟩ => show win0_12.index t 1 * 1 + 1 * 0 = 2; rw [e.2.1]
  | ⟨2, _⟩ => show win0_12.index t 2 * 1 + 1 * 0 = 0; rw [e.2.2.1]
  | ⟨3, _⟩ => show win0_12.index t 3 * 2048 + 1 * l.val = l.val; rw [e.2.2.2]; omega

theorem iblk13 (c : Dev nD) (t : Fin cfg0.N) (r : Fin 1) (l : Fin 2048) :
    (iblk m c 13 t : Vec Ideal S1x2048 .f32) (ix2 r l) = (V m c main_v14 : Vec Ideal S1x2048 .f32) (ix2 (r) l) := by
  have e := index13 t
  unfold iblk
  refine congrArg (V m c main_v14 : Vec Ideal S1x2048 .f32) (funext fun a => Fin.ext ?_)
  match a with
  | ⟨0, _⟩ => show win0_13.index t 0 * 1 + 1 * r.val = r.val; rw [e.1]; omega
  | ⟨1, _⟩ => show win0_13.index t 1 * 2048 + 1 * l.val = l.val; rw [e.2]; omega

theorem iblk14 (c : Dev nD) (t : Fin cfg0.N) (l : Fin 2048) :
    (iblk m c 14 t : Vec Ideal S1x1x1x2048 .f32) (ix4 0 0 0 l) = (m ((c : Thread nD τ).loc main_arg4) : Vec Ideal S8x6x1x2048 .f32) (ix4 0 4 0 l) := by
  have e := index14 t
  rw [← V_main_arg4 m c]
  unfold iblk
  refine congrArg (V m c main_arg4 : Vec Ideal S8x6x1x2048 .f32) (funext fun a => Fin.ext ?_)
  match a with
  | ⟨0, _⟩ => show win0_14.index t 0 * 1 + 1 * 0 = 0; rw [e.1]
  | ⟨1, _⟩ => show win0_14.index t 1 * 1 + 1 * 0 = 4; rw [e.2.1]
  | ⟨2, _⟩ => show win0_14.index t 2 * 1 + 1 * 0 = 0; rw [e.2.2.1]
  | ⟨3, _⟩ => show win0_14.index t 3 * 2048 + 1 * l.val = l.val; rw [e.2.2.2]; omega

theorem iblk15 (c : Dev nD) (t : Fin cfg0.N) (l : Fin 2048) :
    (iblk m c 15 t : Vec Ideal S1x1x1x2048 .f32) (ix4 0 0 0 l) = (m ((c : Thread nD τ).loc main_arg4) : Vec Ideal S8x6x1x2048 .f32) (ix4 0 3 0 l) := by
  have e := index15 t
  rw [← V_main_arg4 m c]
  unfold iblk
  refine congrArg (V m c main_arg4 : Vec Ideal S8x6x1x2048 .f32) (funext fun a => Fin.ext ?_)
  match a with
  | ⟨0, _⟩ => show win0_15.index t 0 * 1 + 1 * 0 = 0; rw [e.1]
  | ⟨1, _⟩ => show win0_15.index t 1 * 1 + 1 * 0 = 3; rw [e.2.1]
  | ⟨2, _⟩ => show win0_15.index t 2 * 1 + 1 * 0 = 0; rw [e.2.2.1]
  | ⟨3, _⟩ => show win0_15.index t 3 * 2048 + 1 * l.val = l.val; rw [e.2.2.2]; omega

/-- The residual stream over point `t`'s blocks is the reference's at the rows of the block. -/
theorem x1_eq (c : Dev nD) (t : Fin cfg0.N) (r : Fin 256) (l : Fin 2048) :
    k0_pay4 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t) (ix2 r l)
      = G0 m c (ix2 (row t r) l) := by
  refine (Cert.Merge.pay4_apply _ _ _ _ _ _ _ _ _ r l).trans ?_
  simp only [Cert.Merge.pay2_apply]
  simp only [iblk0, iblk1, iblk2, iblk3, iblk4, iblk5, iblk6, iblk7, iblk8, iblk9, iblk10, iblk11, iblk12]
  rw [V_v0, V_v3, V_v6, V_v8, V_v10, V_v12, V_v13]
  simp only [glu_apply, branch_apply, out_apply, vec1024_apply, stream_apply]
  refine Eq.trans ?_ (Cert.Merge.ref_x1 _ _ _ _ _ _ _ _ _ _ _ (row t r) l).symm
  simp only [Cert.Merge.ref_merged, Cert.Merge.ref_glu]

/-- What point `t` writes back is block `t` of the reference's result. -/
theorem flushed16_eq (c : Dev nD) (t : Fin cfg0.N) :
    (dats m 0 c).flushed 16 t = (win0_16.blk t).view.read (Elt Ideal) (G0 m c) := by
  rw [Value.flushed16]
  unfold_out out0_16
  rw [View.canon_unit_zero hz2]
  repeat first | rw [View.ld_unit_zero hz2] | rw [View.ld_unit_zero hz4]
  have e := index16 t
  refine funext fun (j : S256x2048.Idx) => ?_
  obtain ⟨r, l, rfl⟩ : ∃ (r : Fin 256) (l : Fin 2048), j = ix2 r l := ⟨j 0, j 1, (ix2_eta j).symm⟩
  show k0_pay4 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t) (ix2 r l) = G0 m c _
  refine (x1_eq m c t r l).trans (congrArg (G0 m c) (funext fun a => Fin.ext ?_))
  match a with
  | ⟨0, _⟩ => show t.val * 256 + r.val = win0_16.index t 0 * 256 + 1 * r.val; rw [e.1]; omega
  | ⟨1, _⟩ => show l.val = win0_16.index t 1 * 2048 + 1 * l.val; rw [e.2]; omega

/-- An index is in block `t` when its row is. -/
theorem mem_blk16 (t : Fin cfg0.N) (i : S8192x2048.Idx) :
    i ∈ ((cfg0.win 16).blk t).view.set ↔ t.val * 256 ≤ (i 0 : Nat) ∧ (i 0 : Nat) < t.val * 256 + 256 := by
  show i ∈ ((View.whole main_v15_0).slice (win0_16.rect t)).set ↔ _
  rw [View.set_slice_whole, Rect.mem_set_unit]
  have e := index16 t
  have h1 : (i 1 : Nat) < 2048 := (i 1).isLt
  refine ⟨fun h => ?_, fun h a => ?_⟩
  · have : win0_16.index t 0 * 256 ≤ (i 0 : Nat) ∧ (i 0 : Nat) < win0_16.index t 0 * 256 + 256 := h 0
    rw [e.1] at this; exact this
  · match a with
    | ⟨0, _⟩ => show win0_16.index t 0 * 256 ≤ (i 0 : Nat) ∧ (i 0 : Nat) < win0_16.index t 0 * 256 + 256
                rw [e.1]; exact h
    | ⟨1, _⟩ => show win0_16.index t 1 * 2048 ≤ (i 1 : Nat) ∧ (i 1 : Nat) < win0_16.index t 1 * 2048 + 2048
                rw [e.2]; exact ⟨by norm_num, by norm_num; exact h1⟩

theorem cover16 (i : S8192x2048.Idx) : ∃ t : Fin cfg0.N, (cfg0.win 16).flush t = true ∧ i ∈ ((cfg0.win 16).blk t).view.set := by
  have h0 : (i 0 : Nat) < 8192 := (i 0).isLt
  have hN : cfg0.N = 32 := N_0
  refine ⟨⟨(i 0 : Nat) / 256, by omega⟩, flush0_16 _, ?_⟩
  rw [mem_blk16]
  dsimp only
  generalize (i 0 : Nat) = a at *
  omega

/-- The result array ends holding the reference's result. -/
theorem final16 (c : Dev nD) : (dats m 0 c).arrAt 16 cfg0.N = G0 m c :=
  (dats m 0 c).arrAt_eq_of_cover 16 (G0 m c) (fun t _ => flushed16_eq m c t) cover16

/-- What point `t` writes back is block `t` of the reference's result. -/
theorem flushed17_eq (c : Dev nD) (t : Fin cfg0.N) :
    (dats m 0 c).flushed 17 t = (win0_17.blk t).view.read (Elt Ideal) (G1 m c) := by
  rw [Value.flushed17]
  unfold_out out0_17
  rw [View.canon_unit_zero hz2]
  repeat first | rw [View.ld_unit_zero hz2] | rw [View.ld_unit_zero hz4]
  have e := index17 t
  refine funext fun (j : S256x2048.Idx) => ?_
  obtain ⟨r, l, rfl⟩ : ∃ (r : Fin 256) (l : Fin 2048), j = ix2 r l := ⟨j 0, j 1, (ix2_eta j).symm⟩
  show k0_pay1 (F := Ideal) (k0_pay4 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t)) (k0_pay5 (iblk m c 13 t)) (k0_pay6 (iblk m c 14 t)) (k0_pay7 (iblk m c 15 t))
    (k0_pay8 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t)) (Scalar.ofBits .f32 0x45000000#32) (ix2 r l) = G1 m c _
  refine (Cert.Merge.pay1_apply _ _ _ _ _ _ _ _ _ _ _ r l).trans ?_
  simp only [x1_eq, iblk13, iblk14, iblk15]
  rw [V_v14]
  simp only [vec2048_apply]
  refine (Cert.Merge.ref_h2 _ _ _ _ _ _ _ _ _ _ _ _ (row t r) l).symm.trans (congrArg (G1 m c) (funext fun a => Fin.ext ?_))
  match a with
  | ⟨0, _⟩ => show t.val * 256 + r.val = win0_17.index t 0 * 256 + 1 * r.val; rw [e.1]; omega
  | ⟨1, _⟩ => show l.val = win0_17.index t 1 * 2048 + 1 * l.val; rw [e.2]; omega

/-- An index is in block `t` when its row is. -/
theorem mem_blk17 (t : Fin cfg0.N) (i : S8192x2048.Idx) :
    i ∈ ((cfg0.win 17).blk t).view.set ↔ t.val * 256 ≤ (i 0 : Nat) ∧ (i 0 : Nat) < t.val * 256 + 256 := by
  show i ∈ ((View.whole main_v15_1).slice (win0_17.rect t)).set ↔ _
  rw [View.set_slice_whole, Rect.mem_set_unit]
  have e := index17 t
  have h1 : (i 1 : Nat) < 2048 := (i 1).isLt
  refine ⟨fun h => ?_, fun h a => ?_⟩
  · have : win0_17.index t 0 * 256 ≤ (i 0 : Nat) ∧ (i 0 : Nat) < win0_17.index t 0 * 256 + 256 := h 0
    rw [e.1] at this; exact this
  · match a with
    | ⟨0, _⟩ => show win0_17.index t 0 * 256 ≤ (i 0 : Nat) ∧ (i 0 : Nat) < win0_17.index t 0 * 256 + 256
                rw [e.1]; exact h
    | ⟨1, _⟩ => show win0_17.index t 1 * 2048 ≤ (i 1 : Nat) ∧ (i 1 : Nat) < win0_17.index t 1 * 2048 + 2048
                rw [e.2]; exact ⟨by norm_num, by norm_num; exact h1⟩

theorem cover17 (i : S8192x2048.Idx) : ∃ t : Fin cfg0.N, (cfg0.win 17).flush t = true ∧ i ∈ ((cfg0.win 17).blk t).view.set := by
  have h0 : (i 0 : Nat) < 8192 := (i 0).isLt
  have hN : cfg0.N = 32 := N_0
  refine ⟨⟨(i 0 : Nat) / 256, by omega⟩, flush0_17 _, ?_⟩
  rw [mem_blk17]
  dsimp only
  generalize (i 0 : Nat) = a at *
  omega

/-- The result array ends holding the reference's result. -/
theorem final17 (c : Dev nD) : (dats m 0 c).arrAt 17 cfg0.N = G1 m c :=
  (dats m 0 c).arrAt_eq_of_cover 17 (G1 m c) (fun t _ => flushed17_eq m c t) cover17

end Cert.KMergeIdeal.Hand

namespace Cert.Proof.MergeClaims

theorem frame_k : Cert.quiescent_KMerge := fun m ρ _ => Cert.KMerge.Gen.frame m ρ
theorem frame_ki : Cert.quiescent_KMergeIdeal := fun m ρ _ => Cert.KMergeIdeal.Gen.frame m ρ
/-- The reference is host operations alone: its run leaves its arguments as they were. -/
theorem frame_ri : Cert.quiescent_RMergeIdeal := fun m ρ _ =>
  (θ_run Cert.RMergeIdeal.defs _ _).mono (fun r h => ⟨fun c => (h c).2.2, Idealize.ShloMosaic.sem_eq_zero_of_no_sems (by decide) r.2⟩)
    (Cert.RMergeIdeal.Value.run (F := Ideal) m ρ)

theorem preserves : Cert.preserves_KMerge_KMergeIdeal := trivial

/-- Over the extended reals the kernel's two result arrays and the reference's end equal, from arguments that agree. -/
theorem algebraic : Cert.algebraic_KMergeIdeal_RMergeIdeal := by
  intro m ρ m' ρ' _ hag
  refine ⟨fun c => Cert.KMergeIdeal.Hand.G0 m c, fun c => Cert.KMergeIdeal.Hand.G1 m c, ?_, ?_⟩
  · exact (θ_run Cert.KMergeIdeal.defs _ _).mono
      (fun _ h c => ⟨(h c).1.trans (Cert.KMergeIdeal.Hand.final16 m c), (h c).2.1.trans (Cert.KMergeIdeal.Hand.final17 m c), (h c).2.2⟩)
      (Cert.KMergeIdeal.Value.run_blocks (F := Ideal) m ρ)
  · refine (θ_run Cert.RMergeIdeal.defs _ _).mono
      (fun _ h c => ⟨((h c).1.trans (Cert.RMergeIdeal.Read.val_main_v57_eq m' c)).trans ?_,
        ((h c).2.1.trans (Cert.RMergeIdeal.Read.val_main_v78_eq m' c)).trans ?_, (h c).2.2⟩)
      (Cert.RMergeIdeal.Value.run (F := Ideal) m' ρ')
    · obtain ⟨h0, h1, h2, h3, h4, h5, h6, h7, h8, h9, h10, h11⟩ := hag c
      rw [h0, h1, h2, h3, h4, h5, h6, h7, h8, h9, h10]
    · obtain ⟨h0, h1, h2, h3, h4, h5, h6, h7, h8, h9, h10, h11⟩ := hag c
      rw [h0, h1, h2, h3, h4, h5, h6, h7, h8, h9, h10, h11]

end Cert.Proof.MergeClaims
end
-- ==== Proof.In.lean ====
/- The layer's input projection (`KIn`): the first norm, conditioned, and the joint projection into the branches and gates. -/
module

public import proofs.«01_k».proof.Defs
public import proofs.«01_k».proof.Proof.Merge
public import proofs.«01_k».proof.Proof.Gen.KIn.Frame
public import proofs.«01_k».proof.Proof.Gen.KInIdeal.Value
public import proofs.«01_k».proof.Proof.Gen.RInIdeal.Run
public import proofs.«01_k».proof.Proof.Gen.RInIdeal.Read
public import Idealize.ShloMosaic.Lib.Pointwise
public import Idealize.ShloMosaic.Lib.Exec
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.In

open Cert.Merge (norm seg pos)

/-- One element of a row's projection. -/
def proj (h : Fin 2048 → EReal) (w : Fin 2048 → EReal) (b : EReal) : EReal := (∑ k : Fin 2048, h k * w k) + b

section
open Cert.KInIdeal Cert.KInIdeal.Gen

theorem pay1_apply (v17 : Vec Ideal S1024x2048 .f32) (v19 : Vec Ideal S1x2048 .f32) (v21 v23 : Vec Ideal S1x1x1x2048 .f32) (r : Fin 1024) (l : Fin 2048) :
    k0_pay1 (F := Ideal) v17 v19 v21 v23 (ix2 r l)
      = norm (fun c => v17 (ix2 r c)) (fun c => v19 (ix2 0 c)) (fun c => v21 (ix4 0 0 0 c)) (fun c => v23 (ix4 0 0 0 c)) l := by
  unfold Cert.Merge.norm
  pointwise [k0_pay1]

theorem pay3_apply (v3 : Vec Ideal S1024x2048 .bf16) (v4 : Vec Ideal S2048x1024 .bf16) (v7 : Vec Ideal S1x1024 .f32) (r l : Fin 1024) :
    k0_pay3 (F := Ideal) v3 v4 v7 (ix2 r l) = proj (fun k => v3 (ix2 r k)) (fun k => v4 (ix2 k l)) (v7 (ix2 0 l)) := by
  unfold proj
  pointwise [k0_pay3, k0_pay2]

theorem pay4_apply (v3 : Vec Ideal S1024x2048 .bf16) (v4 : Vec Ideal S2048x1024 .bf16) (v7 : Vec Ideal S1x1024 .f32) (r l : Fin 1024) :
    k0_pay4 (F := Ideal) v3 v4 v7 (ix2 r l) = Ideal.logistic (proj (fun k => v3 (ix2 r k)) (fun k => v4 (ix2 k l)) (v7 (ix2 0 l))) := by
  unfold proj
  pointwise [k0_pay4, k0_pay2]
end

section
open Cert.RInIdeal Cert.RInIdeal.Gen Cert.RInIdeal.Read

theorem ref_norm (x0 : Vec Ideal S32x256x2048 .f32) (x1 : Vec Ideal S8x6x1x2048 .f32) (x2 : Vec Ideal S1x2048 .f32) (s : Fin 32) (p : Fin 256) (l : Fin 2048) :
    val_main_v25 (F := Ideal) x0 x1 x2 (ix3 s p l)
      = norm (fun c => x0 (ix3 s p c)) (fun c => x2 (ix2 0 c)) (fun c => x1 (ix4 0 1 0 c)) (fun c => x1 (ix4 0 0 0 c)) l := by
  unfold Cert.Merge.norm
  simp only [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  pointwise [val_main_cst, val_main_cst_0, val_main_cst_1, val_main_cst_2]

theorem ref_proj (x0 : Vec Ideal S32x256x2048 .f32) (x1 : Vec Ideal S8x6x1x2048 .f32) (x2 : Vec Ideal S1x2048 .f32) (x3 : Vec Ideal S1x2048x8192 .f32)
    (x4 : Vec Ideal S1x8192 .f32) (R : Fin 8192) (l : Fin 8192) :
    val_main_v32 (F := Ideal) x0 x1 x2 x3 x4 (ix2 R l)
      = proj (fun k => norm (fun c => x0 (ix3 (seg R) (pos R) c)) (fun c => x2 (ix2 0 c)) (fun c => x1 (ix4 0 1 0 c)) (fun c => x1 (ix4 0 0 0 c)) k)
          (fun k => x3 (ix3 0 k l)) (x4 (ix2 0 l)) := by
  simp only [← ref_norm]
  unfold proj
  simp only [val_main_v32, val_main_v31, val_main_v30, val_main_v29, val_main_v28, val_main_v27, val_main_v26]
  generalize val_main_v25 (F := Ideal) x0 x1 x2 = X
  pointwise

/-- The first half of the projection is left as it is. -/
theorem ref_plain (x0 : Vec Ideal S32x256x2048 .f32) (x1 : Vec Ideal S8x6x1x2048 .f32) (x2 : Vec Ideal S1x2048 .f32) (x3 : Vec Ideal S1x2048x8192 .f32)
    (x4 : Vec Ideal S1x8192 .f32) (R : Fin 8192) (l : Fin 8192) (hl : l.val < 4096) :
    val_main_v42 (F := Ideal) x0 x1 x2 x3 x4 (ix2 R l) = val_main_v32 (F := Ideal) x0 x1 x2 x3 x4 (ix2 R l) := by
  simp only [val_main_v42, val_main_v41, val_main_v40, val_main_v39, val_main_v38, val_main_v37, val_main_v36, val_main_v35, val_main_v34, val_main_v33]
  generalize val_main_v32 (F := Ideal) x0 x1 x2 x3 x4 = X
  pointwise [val_main_cst_3, val_main_cst_4]
  exact dif_pos hl

/-- The second half goes through the logistic function. -/
theorem ref_gate (x0 : Vec Ideal S32x256x2048 .f32) (x1 : Vec Ideal S8x6x1x2048 .f32) (x2 : Vec Ideal S1x2048 .f32) (x3 : Vec Ideal S1x2048x8192 .f32)
    (x4 : Vec Ideal S1x8192 .f32) (R : Fin 8192) (l : Fin 8192) (hl : 4096 ≤ l.val) :
    val_main_v42 (F := Ideal) x0 x1 x2 x3 x4 (ix2 R l) = Ideal.logistic (val_main_v32 (F := Ideal) x0 x1 x2 x3 x4 (ix2 R l)) := by
  unfold Ideal.logistic
  simp only [val_main_v42, val_main_v41, val_main_v40, val_main_v39, val_main_v38, val_main_v37, val_main_v36, val_main_v35, val_main_v34, val_main_v33]
  generalize val_main_v32 (F := Ideal) x0 x1 x2 x3 x4 = X
  pointwise [val_main_cst_3, val_main_cst_4]
  have e : (⟨4096 + (l.val - 4096), by omega⟩ : Fin 8192) = l := Fin.ext (by show 4096 + (l.val - 4096) = l.val; omega)
  rw [dif_neg (by omega), e]
end

end Cert.In

namespace Cert.KInIdeal.Hand

open Cert.KInIdeal Cert.KInIdeal.Gen

theorem hz2 : (![0, 0] : Fin 2 → Nat) = fun _ => 0 := funext fun a => by fin_cases a <;> rfl
theorem hz4 : (![0, 0, 0, 0] : Fin 4 → Nat) = fun _ => 0 := funext fun a => by fin_cases a <;> rfl

theorem out_A (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : cond0_0 i) (hc1 : cond0_1 i) (hc2 : ¬cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) :
    out0_A_6 c i a2 h2 a3 h3 a4 h4 a5 h5 a6 h6 a7 h7 a8 h8 a9 h9 hc0 hc1 hc2 x0 x1 x2 x3 x4 x5 = k0_pay3 (k0_pay1 x0 x1 x2 x3) x4 x5 := by
  unfold out0_A_6
  rw [View.read_writes_eq_canon _ _ _ (cover0_A_6 c i a2 h2 a3 h3 a4 h4 a5 h5 a6 h6 a7 h7 a8 h8 a9 h9 hc0 hc1 hc2 x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread, h9.read_unread]
  rw [View.readCov_unit_zero (S := S1024x2048) _ hz2]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

theorem scratch_A (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : cond0_0 i) (hc1 : cond0_1 i) (hc2 : ¬cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) :
    sout0_A_0 c i a2 h2 a3 h3 a4 h4 a5 h5 a6 h6 a7 h7 a8 h8 a9 h9 hc0 hc1 hc2 x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 hc0 hc1 hc2 x0 x1 x2 x3 x4 x5)]
  unfold kernelRun0_A
  dsimp only
  sl_unfold_words
  rw [View.canon_unit_zero hz2]
  simp only [View.readAt_eq_ld, h2.read_unread, h3.read_unread, h4.read_unread, h5.read_unread]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

theorem out_B (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : ¬cond0_0 i) (hc1 : cond0_1 i) (hc2 : ¬cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) (xs0 : Vec Ideal S1024x2048 .bf16) :
    out0_B_6 c i a2 h2 a3 h3 a4 h4 a5 h5 a6 h6 a7 h7 a8 h8 a9 h9 hc0 hc1 hc2 x0 x1 x2 x3 x4 x5 xs0 = k0_pay3 xs0 x4 x5 := by
  unfold out0_B_6
  rw [View.read_writes_eq_canon _ _ _ (cover0_B_6 c i a2 h2 a3 h3 a4 h4 a5 h5 a6 h6 a7 h7 a8 h8 a9 h9 hc0 hc1 hc2 x0 x1 x2 x3 x4 x5 xs0)]
  unfold kernelRun0_B
  dsimp only
  sl_unfold_words
  rw [View.canon_unit_zero hz2]
  simp only [View.readAt_eq_ld, h2.read_unread, h3.read_unread, h4.read_unread, h5.read_unread, h6.read_unread, h7.read_unread, h9.read_unread]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

theorem out_C (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : ¬cond0_0 i) (hc1 : ¬cond0_1 i) (hc2 : cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) (xs0 : Vec Ideal S1024x2048 .bf16) :
    out0_C_6 c i a2 h2 a3 h3 a4 h4 a5 h5 a6 h6 a7 h7 a8 h8 a9 h9 hc0 hc1 hc2 x0 x1 x2 x3 x4 x5 xs0 = k0_pay4 xs0 x4 x5 := by
  unfold out0_C_6
  rw [View.read_writes_eq_canon _ _ _ (cover0_C_6 c i a2 h2 a3 h3 a4 h4 a5 h5 a6 h6 a7 h7 a8 h8 a9 h9 hc0 hc1 hc2 x0 x1 x2 x3 x4 x5 xs0)]
  unfold kernelRun0_C
  dsimp only
  sl_unfold_words
  rw [View.canon_unit_zero hz2]
  simp only [View.readAt_eq_ld, h2.read_unread, h3.read_unread, h4.read_unread, h5.read_unread, h6.read_unread, h7.read_unread, h9.read_unread]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

variable (m : (ℓ : Loc nD τ sig) → Buf (Elt Ideal) ℓ) (ρ : Dev nD → PrngReg)

open Cert.Merge (norm seg pos)

/-- The reference's result of device `c`'s arguments: what the kernel's result array is shown to hold. -/
abbrev G (c : Dev nD) : Vec Ideal S8192x8192 .bf16 :=
  Cert.RInIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem weight_apply (x : FVec Ideal S1x2048x8192 .f32) (k : Fin 2048) (l : Fin 8192) :
    truncf .bf16 (shapeCast S2048x8192 x shapeCasts_S1x2048x8192_S2048x8192) bitsLt_bf16_f32 (ix2 k l) = x (ix3 0 k l) := by
  pointwise
theorem vec2048_apply (x : FVec Ideal S1x2048 .f32) (l : Fin 2048) :
    shapeCast S1x2048 (shapeCast S2048 x shapeCasts_S1x2048_S2048) shapeCasts_S2048_S1x2048 (ix2 0 l) = x (ix2 0 l) := by
  pointwise
theorem vec8192_apply (x : FVec Ideal S1x8192 .f32) (l : Fin 8192) :
    shapeCast S1x8192 (shapeCast S8192 x shapeCasts_S1x8192_S8192) shapeCasts_S8192_S1x8192 (ix2 0 l) = x (ix2 0 l) := by
  pointwise
theorem stream_apply (x : FVec Ideal S32x256x2048 .f32) (R : Fin 8192) (l : Fin 2048) :
    shapeCast S8192x2048 x shapeCasts_S32x256x2048_S8192x2048 (ix2 R l) = x (ix3 (seg R) (pos R) l) := by
  pointwise

/-- The arrays the host prepares for the kernel, as terms of the arguments. -/
theorem V_v0 (c : Dev nD) : @Eq (FVec Ideal S8192x2048 .f32) (V m c main_v0)
    (shapeCast S8192x2048 (m ((c : Thread nD τ).loc main_arg0) : Vec Ideal S32x256x2048 .f32) shapeCasts_S32x256x2048_S8192x2048) := by
  unfold V; after_results <;> rfl
theorem V_v3 (c : Dev nD) : @Eq (FVec Ideal S2048x8192 .bf16) (V m c main_v3)
    (truncf .bf16 (shapeCast S2048x8192 (m ((c : Thread nD τ).loc main_arg3) : Vec Ideal S1x2048x8192 .f32) shapeCasts_S1x2048x8192_S2048x8192) bitsLt_bf16_f32) := by
  unfold V; after_results <;> rfl
theorem V_v5 (c : Dev nD) : @Eq (FVec Ideal S1x2048 .f32) (V m c main_v5)
    (shapeCast S1x2048 (shapeCast S2048 (m ((c : Thread nD τ).loc main_arg2) : Vec Ideal S1x2048 .f32) shapeCasts_S1x2048_S2048) shapeCasts_S2048_S1x2048) := by
  unfold V; after_results <;> rfl
theorem V_v6 (c : Dev nD) : @Eq (FVec Ideal S1x8192 .f32) (V m c main_v6)
    (shapeCast S1x8192 (shapeCast S8192 (m ((c : Thread nD τ).loc main_arg4) : Vec Ideal S1x8192 .f32) shapeCasts_S1x8192_S8192) shapeCasts_S8192_S1x8192) := by
  unfold V; after_results <;> rfl

/-- Where the windows' blocks lie at each grid point. -/
theorem index0 : ∀ t : Fin cfg0.N, win0_0.index t 0 = t.val / 8 ∧ win0_0.index t 1 = 0 := by
  show ∀ t : Fin grid0.N, _
  decide +kernel
theorem index1 : ∀ t : Fin cfg0.N, win0_1.index t 0 = 0 ∧ win0_1.index t 1 = 0 := by
  show ∀ t : Fin grid0.N, _
  decide +kernel
theorem index2 : ∀ t : Fin cfg0.N, win0_2.index t 0 = 0 ∧ win0_2.index t 1 = 1 ∧ win0_2.index t 2 = 0 ∧ win0_2.index t 3 = 0 := by
  show ∀ t : Fin grid0.N, _
  decide +kernel
theorem index3 : ∀ t : Fin cfg0.N, win0_3.index t 0 = 0 ∧ win0_3.index t 1 = 0 ∧ win0_3.index t 2 = 0 ∧ win0_3.index t 3 = 0 := by
  show ∀ t : Fin grid0.N, _
  decide +kernel
theorem index4 : ∀ t : Fin cfg0.N, win0_4.index t 0 = 0 ∧ win0_4.index t 1 = t.val % 8 := by
  show ∀ t : Fin grid0.N, _
  decide +kernel
theorem index5 : ∀ t : Fin cfg0.N, win0_5.index t 0 = 0 ∧ win0_5.index t 1 = t.val % 8 := by
  show ∀ t : Fin grid0.N, _
  decide +kernel
theorem index6 : ∀ t : Fin cfg0.N, win0_6.index t 0 = t.val / 8 ∧ win0_6.index t 1 = t.val % 8 := by
  show ∀ t : Fin grid0.N, _
  decide +kernel

theorem lt_N (t : Fin cfg0.N) : t.val < 64 := lt_of_lt_of_eq t.isLt N_0

/-- Row `r` of point `t`'s block of rows, and column `l` of its block of columns. -/
abbrev row (n : ℕ) (h : n < cfg0.N) (r : Fin 1024) : Fin 8192 := ⟨n / 8 * 1024 + r.val, by have := lt_N ⟨n, h⟩; dsimp only at this; omega⟩
abbrev col (n : ℕ) (l : Fin 1024) : Fin 8192 := ⟨n % 8 * 1024 + l.val, by omega⟩

theorem iblk0 (c : Dev nD) (t : Fin cfg0.N) (r : Fin 1024) (l : Fin 2048) :
    (iblk m c 0 t : Vec Ideal S1024x2048 .f32) (ix2 r l) = (V m c main_v0 : Vec Ideal S8192x2048 .f32) (ix2 (row t.val t.isLt r) l) := by
  have e := index0 t
  unfold iblk
  refine congrArg (V m c main_v0 : Vec Ideal S8192x2048 .f32) (funext fun a => Fin.ext ?_)
  match a with
  | ⟨0, _⟩ => show win0_0.index t 0 * 1024 + 1 * r.val = t.val / 8 * 1024 + r.val; rw [e.1]; omega
  | ⟨1, _⟩ => show win0_0.index t 1 * 2048 + 1 * l.val = l.val; rw [e.2]; omega

theorem iblk1 (c : Dev nD) (t : Fin cfg0.N) (r : Fin 1) (l : Fin 2048) :
    (iblk m c 1 t : Vec Ideal S1x2048 .f32) (ix2 r l) = (V m c main_v5 : Vec Ideal S1x2048 .f32) (ix2 (r) l) := by
  have e := index1 t
  unfold iblk
  refine congrArg (V m c main_v5 : Vec Ideal S1x2048 .f32) (funext fun a => Fin.ext ?_)
  match a with
  | ⟨0, _⟩ => show win0_1.index t 0 * 1 + 1 * r.val = r.val; rw [e.1]; omega
  | ⟨1, _⟩ => show win0_1.index t 1 * 2048 + 1 * l.val = l.val; rw [e.2]; omega

theorem iblk2 (c : Dev nD) (t : Fin cfg0.N) (l : Fin 2048) :
    (iblk m c 2 t : Vec Ideal S1x1x1x2048 .f32) (ix4 0 0 0 l) = (m ((c : Thread nD τ).loc main_arg1) : Vec Ideal S8x6x1x2048 .f32) (ix4 0 1 0 l) := by
  have e := index2 t
  rw [← V_main_arg1 m c]
  unfold iblk
  refine congrArg (V m c main_arg1 : Vec Ideal S8x6x1x2048 .f32) (funext fun a => Fin.ext ?_)
  match a with
  | ⟨0, _⟩ => show win0_2.index t 0 * 1 + 1 * 0 = 0; rw [e.1]
  | ⟨1, _⟩ => show win0_2.index t 1 * 1 + 1 * 0 = 1; rw [e.2.1]
  | ⟨2, _⟩ => show win0_2.index t 2 * 1 + 1 * 0 = 0; rw [e.2.2.1]
  | ⟨3, _⟩ => show win0_2.index t 3 * 2048 + 1 * l.val = l.val; rw [e.2.2.2]; omega

theorem iblk3 (c : Dev nD) (t : Fin cfg0.N) (l : Fin 2048) :
    (iblk m c 3 t : Vec Ideal S1x1x1x2048 .f32) (ix4 0 0 0 l) = (m ((c : Thread nD τ).loc main_arg1) : Vec Ideal S8x6x1x2048 .f32) (ix4 0 0 0 l) := by
  have e := index3 t
  rw [← V_main_arg1 m c]
  unfold iblk
  refine congrArg (V m c main_arg1 : Vec Ideal S8x6x1x2048 .f32) (funext fun a => Fin.ext ?_)
  match a with
  | ⟨0, _⟩ => show win0_3.index t 0 * 1 + 1 * 0 = 0; rw [e.1]
  | ⟨1, _⟩ => show win0_3.index t 1 * 1 + 1 * 0 = 0; rw [e.2.1]
  | ⟨2, _⟩ => show win0_3.index t 2 * 1 + 1 * 0 = 0; rw [e.2.2.1]
  | ⟨3, _⟩ => show win0_3.index t 3 * 2048 + 1 * l.val = l.val; rw [e.2.2.2]; omega

theorem iblk4 (c : Dev nD) (t : Fin cfg0.N) (r : Fin 2048) (l : Fin 1024) :
    (iblk m c 4 t : Vec Ideal S2048x1024 .bf16) (ix2 r l) = (V m c main_v3 : Vec Ideal S2048x8192 .bf16) (ix2 (r) (col t.val l)) := by
  have e := index4 t
  unfold iblk
  refine congrArg (V m c main_v3 : Vec Ideal S2048x8192 .bf16) (funext fun a => Fin.ext ?_)
  match a with
  | ⟨0, _⟩ => show win0_4.index t 0 * 2048 + 1 * r.val = r.val; rw [e.1]; omega
  | ⟨1, _⟩ => show win0_4.index t 1 * 1024 + 1 * l.val = t.val % 8 * 1024 + l.val; rw [e.2]; omega

theorem iblk5 (c : Dev nD) (t : Fin cfg0.N) (r : Fin 1) (l : Fin 1024) :
    (iblk m c 5 t : Vec Ideal S1x1024 .f32) (ix2 r l) = (V m c main_v6 : Vec Ideal S1x8192 .f32) (ix2 (r) (col t.val l)) := by
  have e := index5 t
  unfold iblk
  refine congrArg (V m c main_v6 : Vec Ideal S1x8192 .f32) (funext fun a => Fin.ext ?_)
  match a with
  | ⟨0, _⟩ => show win0_5.index t 0 * 1 + 1 * r.val = r.val; rw [e.1]; omega
  | ⟨1, _⟩ => show win0_5.index t 1 * 1024 + 1 * l.val = t.val % 8 * 1024 + l.val; rw [e.2]; omega

/-- Row `R` of the normalised input, from device `c`'s arguments. -/
abbrev hrow (c : Dev nD) (R : Fin 8192) : Fin 2048 → EReal :=
  norm (fun k => (m ((c : Thread nD τ).loc main_arg0) : Vec Ideal S32x256x2048 .f32) (ix3 (seg R) (pos R) k)) (fun k => (m ((c : Thread nD τ).loc main_arg2) : Vec Ideal S1x2048 .f32) (ix2 0 k))
    (fun k => (m ((c : Thread nD τ).loc main_arg1) : Vec Ideal S8x6x1x2048 .f32) (ix4 0 1 0 k)) (fun k => (m ((c : Thread nD τ).loc main_arg1) : Vec Ideal S8x6x1x2048 .f32) (ix4 0 0 0 k))

/-- What the first point of a block of rows stores in the scratch: the rows, normalised. -/
theorem store_eq (c : Dev nD) (t : Fin cfg0.N) (r : Fin 1024) (k : Fin 2048) :
    k0_pay1 (F := Ideal) (iblk m c 0 t) (iblk m c 1 t) (iblk m c 2 t) (iblk m c 3 t) (ix2 r k) = hrow m c (row t.val t.isLt r) k := by
  refine (Cert.In.pay1_apply _ _ _ _ r k).trans ?_
  simp only [iblk0, iblk1, iblk2, iblk3]
  rw [V_v0, V_v5]
  simp only [vec2048_apply, stream_apply]

/-- After every point the scratch holds the normalised rows of the point's block of rows. -/
theorem scratch_eq (c : Dev nD) : ∀ (n : ℕ) (h : n < cfg0.N) (r : Fin 1024) (k : Fin 2048),
    (outsAt0 m c n h).2 (ix2 r k) = hrow m c (row n h r) k
  | n, h, r, k => by
    have hN : n < 64 := lt_N ⟨n, h⟩
    by_cases h0 : n % 8 = 0
    · have e := outsAt0_A m c ⟨n, h⟩ h0 (by dsimp only; omega) (by dsimp only; omega)
      dsimp only at e
      rw [e, scratch_A]
      exact store_eq m c ⟨n, h⟩ r k
    · have hs : (outsAt0 m c n h).2 = (outsAt0 m c (n - 1) (Nat.lt_of_le_of_lt (Nat.sub_le _ _) h)).2 := by
        by_cases h1 : n % 8 ≤ 3
        · rw [outsAt0_B m c ⟨n, h⟩ h0 h1 (by dsimp only; omega)]; rfl
        · rw [outsAt0_C m c ⟨n, h⟩ h0 h1 (by dsimp only; omega)]; rfl
      rw [hs, scratch_eq c (n - 1)]
      have hr : row (n - 1) (Nat.lt_of_le_of_lt (Nat.sub_le _ _) h) r = row n h r := Fin.ext (by show (n - 1) / 8 * 1024 + r.val = n / 8 * 1024 + r.val; omega)
      rw [hr]
  termination_by n => n
  decreasing_by omega

/-- One element of the projection at point `t`'s block, from what the scratch holds. -/
theorem proj_eq (c : Dev nD) (t : Fin cfg0.N) (s : Vec Ideal S1024x2048 .bf16) (hs : ∀ r k, s (ix2 r k) = hrow m c (row t.val t.isLt r) k) (r l : Fin 1024) :
    Cert.In.proj (fun k => s (ix2 r k)) (fun k => (iblk m c 4 t : Vec Ideal S2048x1024 .bf16) (ix2 k l)) ((iblk m c 5 t : Vec Ideal S1x1024 .f32) (ix2 0 l))
      = Cert.RInIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t.val t.isLt r) (col t.val l)) := by
  refine Eq.trans ?_ (Cert.In.ref_proj _ _ _ _ _ _ _).symm
  simp only [hs, iblk4, iblk5]
  rw [V_v3, V_v6]
  simp only [weight_apply, vec8192_apply]

theorem plain_eq (c : Dev nD) (t : Fin cfg0.N) (ht : t.val % 8 ≤ 3) (s : Vec Ideal S1024x2048 .bf16)
    (hs : ∀ r k, s (ix2 r k) = hrow m c (row t.val t.isLt r) k) (r l : Fin 1024) :
    k0_pay3 (F := Ideal) s (iblk m c 4 t) (iblk m c 5 t) (ix2 r l) = G m c (ix2 (row t.val t.isLt r) (col t.val l)) :=
  (Cert.In.pay3_apply _ _ _ r l).trans ((proj_eq m c t s hs r l).trans
    (Cert.In.ref_plain _ _ _ _ _ _ _ (by show t.val % 8 * 1024 + l.val < 4096; omega)).symm)

theorem gate_eq (c : Dev nD) (t : Fin cfg0.N) (ht : 4 ≤ t.val % 8) (s : Vec Ideal S1024x2048 .bf16)
    (hs : ∀ r k, s (ix2 r k) = hrow m c (row t.val t.isLt r) k) (r l : Fin 1024) :
    k0_pay4 (F := Ideal) s (iblk m c 4 t) (iblk m c 5 t) (ix2 r l) = G m c (ix2 (row t.val t.isLt r) (col t.val l)) :=
  (Cert.In.pay4_apply _ _ _ r l).trans ((congrArg Ideal.logistic (proj_eq m c t s hs r l)).trans
    (Cert.In.ref_gate _ _ _ _ _ _ _ (by show 4096 ≤ t.val % 8 * 1024 + l.val; omega)).symm)

/-- What point `t` leaves in the output's staging buffer is block `t` of the reference's result. -/
theorem out_eq (c : Dev nD) (t : Fin cfg0.N) (r l : Fin 1024) :
    (outsAt0 m c t.val t.isLt).1 (ix2 r l) = G m c (ix2 (row t.val t.isLt r) (col t.val l)) := by
  by_cases h0 : t.val % 8 = 0
  · rw [outsAt0_A m c t h0 (by omega) (by omega)]
    dsimp only
    rw [out_A]
    exact plain_eq m c t (by omega) _ (store_eq m c t) r l
  · have hr : ∀ r', row (t.val - 1) (Nat.lt_of_le_of_lt (Nat.sub_le _ _) t.isLt) r' = row t.val t.isLt r' :=
      fun r' => Fin.ext (by show (t.val - 1) / 8 * 1024 + r'.val = t.val / 8 * 1024 + r'.val; omega)
    have hs : ∀ r' k, (outsAt0 m c (t.val - 1) (Nat.lt_of_le_of_lt (Nat.sub_le _ _) t.isLt)).2 (ix2 r' k) = hrow m c (row t.val t.isLt r') k :=
      fun r' k => (scratch_eq m c _ _ r' k).trans (by rw [hr])
    by_cases h1 : t.val % 8 ≤ 3
    · rw [outsAt0_B m c t h0 h1 (by omega)]
      dsimp only
      rw [out_B]
      exact plain_eq m c t h1 _ hs r l
    · rw [outsAt0_C m c t h0 h1 (by omega)]
      dsimp only
      rw [out_C]
      exact gate_eq m c t (by omega) _ hs r l

/-- What point `t` writes back is block `t` of the reference's result. -/
theorem flushed_eq (c : Dev nD) (t : Fin cfg0.N) :
    (dats m 0 c).flushed 6 t = (win0_6.blk t).view.read (Elt Ideal) (G m c) := by
  rw [Value.flushed6]
  have e := index6 t
  refine funext fun (j : S1024x1024.Idx) => ?_
  obtain ⟨r, l, rfl⟩ : ∃ (r : Fin 1024) (l : Fin 1024), j = ix2 r l := ⟨j 0, j 1, (ix2_eta j).symm⟩
  show (outsAt0 m c t.val t.isLt).1 (ix2 r l) = G m c _
  refine (out_eq m c t r l).trans (congrArg (G m c) (funext fun a => Fin.ext ?_))
  match a with
  | ⟨0, _⟩ => show t.val / 8 * 1024 + r.val = win0_6.index t 0 * 1024 + 1 * r.val; rw [e.1]; omega
  | ⟨1, _⟩ => show t.val % 8 * 1024 + l.val = win0_6.index t 1 * 1024 + 1 * l.val; rw [e.2]; omega

/-- An index is in block `t` when its row and its column are. -/
theorem mem_blk (t : Fin cfg0.N) (i : S8192x8192.Idx) :
    i ∈ ((cfg0.win 6).blk t).view.set ↔ (t.val / 8 * 1024 ≤ (i 0 : Nat) ∧ (i 0 : Nat) < t.val / 8 * 1024 + 1024)
      ∧ (t.val % 8 * 1024 ≤ (i 1 : Nat) ∧ (i 1 : Nat) < t.val % 8 * 1024 + 1024) := by
  show i ∈ ((View.whole main_v7).slice (win0_6.rect t)).set ↔ _
  rw [View.set_slice_whole, Rect.mem_set_unit]
  have e := index6 t
  refine ⟨fun h => ⟨?_, ?_⟩, fun h a => ?_⟩
  · have : win0_6.index t 0 * 1024 ≤ (i 0 : Nat) ∧ (i 0 : Nat) < win0_6.index t 0 * 1024 + 1024 := h 0
    rw [e.1] at this; exact this
  · have : win0_6.index t 1 * 1024 ≤ (i 1 : Nat) ∧ (i 1 : Nat) < win0_6.index t 1 * 1024 + 1024 := h 1
    rw [e.2] at this; exact this
  · match a with
    | ⟨0, _⟩ => show win0_6.index t 0 * 1024 ≤ (i 0 : Nat) ∧ (i 0 : Nat) < win0_6.index t 0 * 1024 + 1024
                rw [e.1]; exact h.1
    | ⟨1, _⟩ => show win0_6.index t 1 * 1024 ≤ (i 1 : Nat) ∧ (i 1 : Nat) < win0_6.index t 1 * 1024 + 1024
                rw [e.2]; exact h.2

theorem cover (i : S8192x8192.Idx) : ∃ t : Fin cfg0.N, (cfg0.win 6).flush t = true ∧ i ∈ ((cfg0.win 6).blk t).view.set := by
  have h0 : (i 0 : Nat) < 8192 := (i 0).isLt
  have h1 : (i 1 : Nat) < 8192 := (i 1).isLt
  have hN : cfg0.N = 64 := N_0
  refine ⟨⟨(i 0 : Nat) / 1024 * 8 + (i 1 : Nat) / 1024, by omega⟩, flush0_6 _, ?_⟩
  rw [mem_blk]
  dsimp only
  generalize (i 0 : Nat) = a at *
  generalize (i 1 : Nat) = b at *
  omega

/-- The result array ends holding the reference's result. -/
theorem final (c : Dev nD) : (dats m 0 c).arrAt 6 cfg0.N = G m c :=
  (dats m 0 c).arrAt_eq_of_cover 6 (G m c) (fun t _ => flushed_eq m c t) cover

end Cert.KInIdeal.Hand

namespace Cert.Proof.InClaims

theorem frame_k : Cert.quiescent_KIn := fun m ρ _ => Cert.KIn.Gen.frame m ρ
theorem frame_ki : Cert.quiescent_KInIdeal := fun m ρ _ => Cert.KInIdeal.Gen.frame m ρ
/-- The reference is host operations alone: its run leaves its arguments as they were. -/
theorem frame_ri : Cert.quiescent_RInIdeal := fun m ρ _ =>
  (θ_run Cert.RInIdeal.defs _ _).mono (fun r h => ⟨fun c => (h c).2, Idealize.ShloMosaic.sem_eq_zero_of_no_sems (by decide) r.2⟩)
    (Cert.RInIdeal.Value.run (F := Ideal) m ρ)

theorem preserves : Cert.preserves_KIn_KInIdeal := trivial

/-- Over the extended reals the kernel's result array and the reference's end equal, from arguments that agree. -/
theorem algebraic : Cert.algebraic_KInIdeal_RInIdeal := by
  intro m ρ m' ρ' _ hag
  refine ⟨fun c => Cert.KInIdeal.Hand.G m c, ?_, ?_⟩
  · exact (θ_run Cert.KInIdeal.defs _ _).mono (fun _ h c => ⟨(h c).1.trans (Cert.KInIdeal.Hand.final m c), (h c).2⟩)
      (Cert.KInIdeal.Value.run_blocks (F := Ideal) m ρ)
  · refine (θ_run Cert.RInIdeal.defs _ _).mono (fun _ h c => ⟨((h c).1.trans (Cert.RInIdeal.Read.val_main_v42_eq m' c)).trans ?_, (h c).2⟩)
      (Cert.RInIdeal.Value.run (F := Ideal) m' ρ')
    obtain ⟨h0, h1, h2, h3, h4⟩ := hag c
    rw [h0, h1, h2, h3, h4]

end Cert.Proof.InClaims
end
-- ==== Proof.Last.lean ====
/- The second half of the gated feed-forward layer with the final norm, for the sample batch (`KLast`): each of its two sequences has a modulation of its own. -/
module

public import proofs.«01_k».proof.Defs
public import proofs.«01_k».proof.Proof.Down
public import proofs.«01_k».proof.Proof.Gen.KLast.Frame
public import proofs.«01_k».proof.Proof.Gen.KLastIdeal.Value
public import proofs.«01_k».proof.Proof.Gen.RLastIdeal.Run
public import proofs.«01_k».proof.Proof.Gen.RLastIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Last

open Cert.Down (out resid)

/-- The modulation row of a row of the batch: the two sequences' follow the context's. -/
abbrev cond (r : Fin 8192) : Fin 8 := ⟨1 + r.val / 4096, by omega⟩

open Cert.KLastIdeal Cert.KLastIdeal.Gen in
/-- The kernel's payload at an index is `out` of the index's row. -/
theorem pay_apply (v0 : Vec Ideal S256x2048 .f32) (v1 : Vec Ideal S1x1x1x2048 .f32) (v3 : Vec Ideal S256x5632 .bf16)
    (v4 : Vec Ideal S5632x2048 .bf16) (v20 : Vec Ideal S1x2048 .f32) (r : Fin 256) (l : Fin 2048) :
    k0_pay1 (F := Ideal) v0 v1 v3 v4 v20 (ix2 r l)
      = out (fun c => v0 (ix2 r c)) (fun c => v1 (ix4 0 0 0 c)) (fun c => v20 (ix2 0 c)) (fun k => v3 (ix2 r k))
          (fun k c => v4 (ix2 k c)) l :=
  Cert.Down.pay_apply v0 v1 v3 v4 v20 r l

open Cert.RLastIdeal Cert.RLastIdeal.Gen Cert.RLastIdeal.Read in
/-- The reference's result at an index is `out` of the index's row, under the row's modulation. -/
theorem ref_apply (x0 : Vec Ideal S8192x5632 .bf16) (x1 : Vec Ideal S1x5632x2048 .f32) (x2 : Vec Ideal S8192x2048 .f32)
    (x3 : Vec Ideal S8x6x1x2048 .f32) (x4 : Vec Ideal S2048 .f32) (r : Fin 8192) (l : Fin 2048) :
    val_main_v23 (F := Ideal) x0 x1 x2 x3 x4 (ix2 r l)
      = out (fun c => x2 (ix2 r c)) (fun c => x3 (ix4 (cond r) 5 0 c)) (fun c => x4 (ix1 c)) (fun k => x0 (ix2 r k))
          (fun k c => x1 (ix3 0 k c)) l := by
  unfold out resid
  rw [← val_main_v23_eq]
  pointwise

end Cert.Last

namespace Cert.KLastIdeal.Hand

open Cert.KLastIdeal Cert.KLastIdeal.Gen

variable (m : (ℓ : Loc nD τ sig) → Buf (Elt Ideal) ℓ) (ρ : Dev nD → PrngReg)

/-- The reference's result of device `c`'s arguments: what the kernel's result array is shown to hold. -/
abbrev G (c : Dev nD) : Vec Ideal S8192x2048 .f32 :=
  Cert.RLastIdeal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The weights as the kernel stages them: the layer's one matrix. -/
theorem V_v1 (c : Dev nD) (k : Fin 5632) (l : Fin 2048) :
    (V m c main_v1 : Vec Ideal S5632x2048 .bf16) (ix2 k l)
      = (m ((c : Thread nD τ).loc main_arg1) : Vec Ideal S1x5632x2048 .f32) (ix3 0 k l) := by
  have h : @Eq (FVec Ideal S5632x2048 .bf16) (V m c main_v1)
      (truncf .bf16 (shapeCast S5632x2048 (m ((c : Thread nD τ).loc main_arg1) : Vec Ideal S1x5632x2048 .f32) shapeCasts_S1x5632x2048_S5632x2048) bitsLt_bf16_f32) := by
    unfold V; after_results <;> rfl
  rw [h]
  exact Cert.Down.weight_apply _ k l

/-- The final gain as the kernel stages it: one row. -/
theorem V_v2 (c : Dev nD) (l : Fin 2048) :
    (V m c main_v2 : Vec Ideal S1x2048 .f32) (ix2 0 l) = (m ((c : Thread nD τ).loc main_arg4) : Vec Ideal S2048 .f32) (ix1 l) := by
  have h : @Eq (FVec Ideal S1x2048 .f32) (V m c main_v2)
      (shapeCast S1x2048 (m ((c : Thread nD τ).loc main_arg4) : Vec Ideal S2048 .f32) shapeCasts_S2048_S1x2048) := by
    unfold V; after_results <;> rfl
  rw [h]
  exact Cert.Down.gain_apply _ l

/-- Where the windows' blocks lie at each grid point. -/
theorem index_eq : ∀ t : Fin cfg0.N,
    win0_0.index t 0 = t.val ∧ win0_0.index t 1 = 0 ∧ win0_1.index t 0 = 0 ∧ win0_1.index t 1 = 0
    ∧ win0_2.index t 0 = t.val ∧ win0_2.index t 1 = 0
    ∧ win0_3.index t 0 = 1 + t.val / 16 ∧ win0_3.index t 1 = 5 ∧ win0_3.index t 2 = 0 ∧ win0_3.index t 3 = 0
    ∧ win0_4.index t 0 = 0 ∧ win0_4.index t 1 = 0
    ∧ win0_5.index t 0 = t.val ∧ win0_5.index t 1 = 0 := by
  show ∀ t : Fin grid0.N, _
  decide +kernel

/-- Row `r` of block `t`. -/
abbrev row (t : Fin cfg0.N) (r : Fin 256) : Fin 8192 :=
  ⟨t.val * 256 + r.val, by have := t.isLt; have := r.isLt; have h : cfg0.N = 32 := N_0; omega⟩

theorem iblk0 (c : Dev nD) (t : Fin cfg0.N) (r : Fin 256) (k : Fin 5632) :
    (iblk m c 0 t : Vec Ideal S256x5632 .bf16) (ix2 r k) = (m ((c : Thread nD τ).loc main_arg0) : Vec Ideal S8192x5632 .bf16) (ix2 (row t r) k) := by
  have e := index_eq t
  rw [← V_main_arg0 m c]
  unfold iblk
  refine congrArg (V m c main_arg0 : Vec Ideal S8192x5632 .bf16) (funext fun a => Fin.ext ?_)
  match a with
  | ⟨0, _⟩ => show win0_0.index t 0 * 256 + 1 * r.val = t.val * 256 + r.val; rw [e.1]; omega
  | ⟨1, _⟩ => show win0_0.index t 1 * 5632 + 1 * k.val = k.val; rw [e.2.1]; omega

theorem iblk1 (c : Dev nD) (t : Fin cfg0.N) (k : Fin 5632) (l : Fin 2048) :
    (iblk m c 1 t : Vec Ideal S5632x2048 .bf16) (ix2 k l) = (m ((c : Thread nD τ).loc main_arg1) : Vec Ideal S1x5632x2048 .f32) (ix3 0 k l) := by
  have e := index_eq t
  rw [← V_v1 m c]
  unfold iblk
  refine congrArg (V m c main_v1 : Vec Ideal S5632x2048 .bf16) (funext fun a => Fin.ext ?_)
  match a with
  | ⟨0, _⟩ => show win0_1.index t 0 * 5632 + 1 * k.val = k.val; rw [e.2.2.1]; omega
  | ⟨1, _⟩ => show win0_1.index t 1 * 2048 + 1 * l.val = l.val; rw [e.2.2.2.1]; omega

theorem iblk2 (c : Dev nD) (t : Fin cfg0.N) (r : Fin 256) (k : Fin 2048) :
    (iblk m c 2 t : Vec Ideal S256x2048 .f32) (ix2 r k) = (m ((c : Thread nD τ).loc main_arg2) : Vec Ideal S8192x2048 .f32) (ix2 (row t r) k) := by
  have e := index_eq t
  rw [← V_main_arg2 m c]
  unfold iblk
  refine congrArg (V m c main_arg2 : Vec Ideal S8192x2048 .f32) (funext fun a => Fin.ext ?_)
  match a with
  | ⟨0, _⟩ => show win0_2.index t 0 * 256 + 1 * r.val = t.val * 256 + r.val; rw [e.2.2.2.2.1]; omega
  | ⟨1, _⟩ => show win0_2.index t 1 * 2048 + 1 * k.val = k.val; rw [e.2.2.2.2.2.1]; omega

theorem iblk3 (c : Dev nD) (t : Fin cfg0.N) (r : Fin 256) (k : Fin 2048) :
    (iblk m c 3 t : Vec Ideal S1x1x1x2048 .f32) (ix4 0 0 0 k) = (m ((c : Thread nD τ).loc main_arg3) : Vec Ideal S8x6x1x2048 .f32) (ix4 (Cert.Last.cond (row t r)) 5 0 k) := by
  have e := index_eq t
  rw [← V_main_arg3 m c]
  unfold iblk
  refine congrArg (V m c main_arg3 : Vec Ideal S8x6x1x2048 .f32) (funext fun a => Fin.ext ?_)
  match a with
  | ⟨0, _⟩ => show win0_3.index t 0 * 1 + 1 * 0 = 1 + (t.val * 256 + r.val) / 4096; rw [e.2.2.2.2.2.2.1]; omega
  | ⟨1, _⟩ => show win0_3.index t 1 * 1 + 1 * 0 = 5; rw [e.2.2.2.2.2.2.2.1]
  | ⟨2, _⟩ => show win0_3.index t 2 * 1 + 1 * 0 = 0; rw [e.2.2.2.2.2.2.2.2.1]
  | ⟨3, _⟩ => show win0_3.index t 3 * 2048 + 1 * k.val = k.val; rw [e.2.2.2.2.2.2.2.2.2.1]; omega

theorem iblk4 (c : Dev nD) (t : Fin cfg0.N) (k : Fin 2048) :
    (iblk m c 4 t : Vec Ideal S1x2048 .f32) (ix2 0 k) = (m ((c : Thread nD τ).loc main_arg4) : Vec Ideal S2048 .f32) (ix1 k) := by
  have e := index_eq t
  rw [← V_v2 m c]
  unfold iblk
  refine congrArg (V m c main_v2 : Vec Ideal S1x2048 .f32) (funext fun a => Fin.ext ?_)
  match a with
  | ⟨0, _⟩ => show win0_4.index t 0 * 1 + 1 * 0 = 0; rw [e.2.2.2.2.2.2.2.2.2.2.1]
  | ⟨1, _⟩ => show win0_4.index t 1 * 2048 + 1 * k.val = k.val; rw [e.2.2.2.2.2.2.2.2.2.2.2.1]; omega

/-- What point `t` writes back is block `t` of the reference's result. -/
theorem flushed_eq (c : Dev nD) (t : Fin cfg0.N) :
    (dats m 0 c).flushed 5 t = (win0_5.blk t).view.read (Elt Ideal) (G m c) := by
  rw [Value.flushed5]
  unfold out0_5
  rw [View.canon_unit_zero hz2, View.ld_unit_zero hz2, View.ld_unit_zero hz4, View.ld_unit_zero hz2, View.ld_unit_zero hz2, View.ld_unit_zero hz2]
  have e := index_eq t
  refine funext fun (j : S256x2048.Idx) => ?_
  obtain ⟨r, l, rfl⟩ : ∃ (r : Fin 256) (l : Fin 2048), j = ix2 r l := ⟨j 0, j 1, (ix2_eta j).symm⟩
  show k0_pay1 (F := Ideal) (iblk m c 2 t) (iblk m c 3 t) (iblk m c 0 t) (iblk m c 1 t) (iblk m c 4 t) (ix2 r l) = G m c _
  refine (Cert.Last.pay_apply _ _ _ _ _ r l).trans ?_
  simp only [iblk0, iblk1, iblk2, iblk3 m c t r, iblk4]
  refine (Cert.Last.ref_apply _ _ _ _ _ (row t r) l).symm.trans (congrArg (G m c) (funext fun a => Fin.ext ?_))
  match a with
  | ⟨0, _⟩ => show t.val * 256 + r.val = win0_5.index t 0 * 256 + 1 * r.val; rw [e.2.2.2.2.2.2.2.2.2.2.2.2.1]; omega
  | ⟨1, _⟩ => show l.val = win0_5.index t 1 * 2048 + 1 * l.val; rw [e.2.2.2.2.2.2.2.2.2.2.2.2.2]; omega

/-- An index is in block `t` when its row is. -/
theorem mem_blk (t : Fin cfg0.N) (i : S8192x2048.Idx) :
    i ∈ ((cfg0.win 5).blk t).view.set ↔ t.val * 256 ≤ (i 0 : Nat) ∧ (i 0 : Nat) < t.val * 256 + 256 := by
  show i ∈ ((View.whole main_v3).slice (win0_5.rect t)).set ↔ _
  rw [View.set_slice_whole, Rect.mem_set_unit]
  have h1 : (i 1 : Nat) < 2048 := (i 1).isLt
  have e := (index_eq t).2.2.2.2.2.2.2.2.2.2.2.2
  refine ⟨fun h => ?_, fun h a => ?_⟩
  · have : win0_5.index t 0 * 256 ≤ (i 0 : Nat) ∧ (i 0 : Nat) < win0_5.index t 0 * 256 + 256 := h 0
    rw [e.1] at this; exact this
  · match a with
    | ⟨0, _⟩ => show win0_5.index t 0 * 256 ≤ (i 0 : Nat) ∧ (i 0 : Nat) < win0_5.index t 0 * 256 + 256
                rw [e.1]; exact h
    | ⟨1, _⟩ => show win0_5.index t 1 * 2048 ≤ (i 1 : Nat) ∧ (i 1 : Nat) < win0_5.index t 1 * 2048 + 2048
                rw [e.2]; exact ⟨by norm_num, by norm_num; exact h1⟩

/-- Every index lies in the block of its row. -/
theorem cover (i : S8192x2048.Idx) : ∃ t : Fin cfg0.N, (cfg0.win 5).flush t = true ∧ i ∈ ((cfg0.win 5).blk t).view.set := by
  have h0 : (i 0 : Nat) < 8192 := (i 0).isLt
  have hN : cfg0.N = 32 := N_0
  refine ⟨⟨(i 0 : Nat) / 256, by omega⟩, flush0_5 _, ?_⟩
  rw [mem_blk]
  dsimp only
  omega

/-- The result array ends holding the reference's result. -/
theorem final (c : Dev nD) : (dats m 0 c).arrAt 5 cfg0.N = G m c :=
  (dats m 0 c).arrAt_eq_of_cover 5 (G m c) (fun t _ => flushed_eq m c t) cover

end Cert.KLastIdeal.Hand

namespace Cert.Proof.LastClaims

theorem frame_k : Cert.quiescent_KLast := fun m ρ _ => Cert.KLast.Gen.frame m ρ
theorem frame_ki : Cert.quiescent_KLastIdeal := fun m ρ _ => Cert.KLastIdeal.Gen.frame m ρ
/-- The reference is host operations alone: its run leaves its arguments as they were. -/
theorem frame_ri : Cert.quiescent_RLastIdeal := fun m ρ _ =>
  (θ_run Cert.RLastIdeal.defs _ _).mono (fun r h => ⟨fun c => (h c).2, Idealize.ShloMosaic.sem_eq_zero_of_no_sems (by decide) r.2⟩)
    (Cert.RLastIdeal.Value.run (F := Ideal) m ρ)

theorem preserves : Cert.preserves_KLast_KLastIdeal := trivial

/-- Over the extended reals the kernel's result array and the reference's end equal, from arguments that agree. -/
theorem algebraic : Cert.algebraic_KLastIdeal_RLastIdeal := by
  intro m ρ m' ρ' _ hag
  refine ⟨fun c => Cert.KLastIdeal.Hand.G m c, ?_, ?_⟩
  · exact (θ_run Cert.KLastIdeal.defs _ _).mono (fun _ h c => ⟨(h c).1.trans (Cert.KLastIdeal.Hand.final m c), (h c).2⟩)
      (Cert.KLastIdeal.Value.run_blocks (F := Ideal) m ρ)
  · refine (θ_run Cert.RLastIdeal.defs _ _).mono (fun _ h c => ⟨((h c).1.trans (Cert.RLastIdeal.Read.val_main_v23_eq _ _ _ _ _)).trans ?_, (h c).2⟩)
      (Cert.RLastIdeal.Value.run (F := Ideal) m' ρ')
    obtain ⟨h0, h1, h2, h3, h4⟩ := hag c
    rw [h0, h1, h2, h3, h4]

end Cert.Proof.LastClaims
end
-- ==== Proof.Enter.lean ====
/- The layer's input projection for the sample batch (`KEnter`): each of its two sequences has a modulation of its own. -/
module

public import proofs.«01_k».proof.Defs
public import proofs.«01_k».proof.Proof.In
public import proofs.«01_k».proof.Proof.Last
public import proofs.«01_k».proof.Proof.Gen.KEnter.Frame
public import proofs.«01_k».proof.Proof.Gen.KEnterIdeal.Value
public import proofs.«01_k».proof.Proof.Gen.REnterIdeal.Run
public import proofs.«01_k».proof.Proof.Gen.REnterIdeal.Read
public import Idealize.ShloMosaic.Lib.Pointwise
public import Idealize.ShloMosaic.Lib.Exec
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Enter

open Cert.Merge (norm)
open Cert.In (proj)
open Cert.Last (cond)

/-- The token at row `R`, in the input's layout. -/
abbrev seg (R : Fin 8192) : Fin 2 := ⟨R.val / 4096, by omega⟩
abbrev pos (R : Fin 8192) : Fin 4096 := ⟨R.val % 4096, by omega⟩

section
open Cert.KEnterIdeal Cert.KEnterIdeal.Gen

theorem pay1_apply (v17 : Vec Ideal S1024x2048 .f32) (v19 : Vec Ideal S1x2048 .f32) (v21 v23 : Vec Ideal S1x1x1x2048 .f32) (r : Fin 1024) (l : Fin 2048) :
    k0_pay1 (F := Ideal) v17 v19 v21 v23 (ix2 r l)
      = norm (fun c => v17 (ix2 r c)) (fun c => v19 (ix2 0 c)) (fun c => v21 (ix4 0 0 0 c)) (fun c => v23 (ix4 0 0 0 c)) l :=
  Cert.In.pay1_apply v17 v19 v21 v23 r l

theorem pay3_apply (v3 : Vec Ideal S1024x2048 .bf16) (v4 : Vec Ideal S2048x1024 .bf16) (v7 : Vec Ideal S1x1024 .f32) (r l : Fin 1024) :
    k0_pay3 (F := Ideal) v3 v4 v7 (ix2 r l) = proj (fun k => v3 (ix2 r k)) (fun k => v4 (ix2 k l)) (v7 (ix2 0 l)) :=
  Cert.In.pay3_apply v3 v4 v7 r l

theorem pay4_apply (v3 : Vec Ideal S1024x2048 .bf16) (v4 : Vec Ideal S2048x1024 .bf16) (v7 : Vec Ideal S1x1024 .f32) (r l : Fin 1024) :
    k0_pay4 (F := Ideal) v3 v4 v7 (ix2 r l) = Ideal.logistic (proj (fun k => v3 (ix2 r k)) (fun k => v4 (ix2 k l)) (v7 (ix2 0 l))) :=
  Cert.In.pay4_apply v3 v4 v7 r l
end

section
open Cert.REnterIdeal Cert.REnterIdeal.Gen Cert.REnterIdeal.Read

theorem ref_norm (x0 : Vec Ideal S2x4096x2048 .f32) (x1 : Vec Ideal S8x6x1x2048 .f32) (x2 : Vec Ideal S1x2048 .f32) (s : Fin 2) (p : Fin 4096) (l : Fin 2048) :
    val_main_v23 (F := Ideal) x0 x1 x2 (ix3 s p l)
      = norm (fun c => x0 (ix3 s p c)) (fun c => x2 (ix2 0 c)) (fun c => x1 (ix4 ⟨1 + s.val, by omega⟩ 1 0 c)) (fun c => x1 (ix4 ⟨1 + s.val, by omega⟩ 0 0 c)) l := by
  unfold Cert.Merge.norm
  simp only [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  pointwise [val_main_cst, val_main_cst_0, val_main_cst_1, val_main_cst_2]

theorem ref_proj (x0 : Vec Ideal S2x4096x2048 .f32) (x1 : Vec Ideal S8x6x1x2048 .f32) (x2 : Vec Ideal S1x2048 .f32) (x3 : Vec Ideal S1x2048x8192 .f32)
    (x4 : Vec Ideal S1x8192 .f32) (R : Fin 8192) (l : Fin 8192) :
    val_main_v30 (F := Ideal) x0 x1 x2 x3 x4 (ix2 R l)
      = proj (fun k => norm (fun c => x0 (ix3 (seg R) (pos R) c)) (fun c => x2 (ix2 0 c)) (fun c => x1 (ix4 (cond R) 1 0 c)) (fun c => x1 (ix4 (cond R) 0 0 c)) k)
          (fun k => x3 (ix3 0 k l)) (x4 (ix2 0 l)) := by
  have h := fun k => ref_norm x0 x1 x2 (seg R) (pos R) k
  simp only [← h]
  unfold proj
  simp only [val_main_v30, val_main_v29, val_main_v28, val_main_v27, val_main_v26, val_main_v25, val_main_v24]
  generalize val_main_v23 (F := Ideal) x0 x1 x2 = X
  pointwise

/-- The first half of the projection is left as it is. -/
theorem ref_plain (x0 : Vec Ideal S2x4096x2048 .f32) (x1 : Vec Ideal S8x6x1x2048 .f32) (x2 : Vec Ideal S1x2048 .f32) (x3 : Vec Ideal S1x2048x8192 .f32)
    (x4 : Vec Ideal S1x8192 .f32) (R : Fin 8192) (l : Fin 8192) (hl : l.val < 4096) :
    val_main_v40 (F := Ideal) x0 x1 x2 x3 x4 (ix2 R l) = val_main_v30 (F := Ideal) x0 x1 x2 x3 x4 (ix2 R l) := by
  simp only [val_main_v40, val_main_v39, val_main_v38, val_main_v37, val_main_v36, val_main_v35, val_main_v34, val_main_v33, val_main_v32, val_main_v31]
  generalize val_main_v30 (F := Ideal) x0 x1 x2 x3 x4 = X
  pointwise [val_main_cst_3, val_main_cst_4]
  exact dif_pos hl

/-- The second half goes through the logistic function. -/
theorem ref_gate (x0 : Vec Ideal S2x4096x2048 .f32) (x1 : Vec Ideal S8x6x1x2048 .f32) (x2 : Vec Ideal S1x2048 .f32) (x3 : Vec Ideal S1x2048x8192 .f32)
    (x4 : Vec Ideal S1x8192 .f32) (R : Fin 8192) (l : Fin 8192) (hl : 4096 ≤ l.val) :
    val_main_v40 (F := Ideal) x0 x1 x2 x3 x4 (ix2 R l) = Ideal.logistic (val_main_v30 (F := Ideal) x0 x1 x2 x3 x4 (ix2 R l)) := by
  unfold Ideal.logistic
  simp only [val_main_v40, val_main_v39, val_main_v38, val_main_v37, val_main_v36, val_main_v35, val_main_v34, val_main_v33, val_main_v32, val_main_v31]
  generalize val_main_v30 (F := Ideal) x0 x1 x2 x3 x4 = X
  pointwise [val_main_cst_3, val_main_cst_4]
  have e : (⟨4096 + (l.val - 4096), by omega⟩ : Fin 8192) = l := Fin.ext (by show 4096 + (l.val - 4096) = l.val; omega)
  rw [dif_neg (by omega), e]
end

end Cert.Enter

namespace Cert.KEnterIdeal.Hand

open Cert.KEnterIdeal Cert.KEnterIdeal.Gen

theorem hz2 : (![0, 0] : Fin 2 → Nat) = fun _ => 0 := funext fun a => by fin_cases a <;> rfl
theorem hz4 : (![0, 0, 0, 0] : Fin 4 → Nat) = fun _ => 0 := funext fun a => by fin_cases a <;> rfl

theorem out_A (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : cond0_0 i) (hc1 : cond0_1 i) (hc2 : ¬cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) :
    out0_A_6 c i a2 h2 a3 h3 a4 h4 a5 h5 a6 h6 a7 h7 a8 h8 a9 h9 hc0 hc1 hc2 x0 x1 x2 x3 x4 x5 = k0_pay3 (k0_pay1 x0 x1 x2 x3) x4 x5 := by
  unfold out0_A_6
  rw [View.read_writes_eq_canon _ _ _ (cover0_A_6 c i a2 h2 a3 h3 a4 h4 a5 h5 a6 h6 a7 h7 a8 h8 a9 h9 hc0 hc1 hc2 x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread, h9.read_unread]
  rw [View.readCov_unit_zero (S := S1024x2048) _ hz2]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

theorem scratch_A (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : cond0_0 i) (hc1 : cond0_1 i) (hc2 : ¬cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) :
    sout0_A_0 c i a2 h2 a3 h3 a4 h4 a5 h5 a6 h6 a7 h7 a8 h8 a9 h9 hc0 hc1 hc2 x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 hc0 hc1 hc2 x0 x1 x2 x3 x4 x5)]
  unfold kernelRun0_A
  dsimp only
  sl_unfold_words
  rw [View.canon_unit_zero hz2]
  simp only [View.readAt_eq_ld, h2.read_unread, h3.read_unread, h4.read_unread, h5.read_unread]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

theorem out_B (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : ¬cond0_0 i) (hc1 : cond0_1 i) (hc2 : ¬cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) (xs0 : Vec Ideal S1024x2048 .bf16) :
    out0_B_6 c i a2 h2 a3 h3 a4 h4 a5 h5 a6 h6 a7 h7 a8 h8 a9 h9 hc0 hc1 hc2 x0 x1 x2 x3 x4 x5 xs0 = k0_pay3 xs0 x4 x5 := by
  unfold out0_B_6
  rw [View.read_writes_eq_canon _ _ _ (cover0_B_6 c i a2 h2 a3 h3 a4 h4 a5 h5 a6 h6 a7 h7 a8 h8 a9 h9 hc0 hc1 hc2 x0 x1 x2 x3 x4 x5 xs0)]
  unfold kernelRun0_B
  dsimp only
  sl_unfold_words
  rw [View.canon_unit_zero hz2]
  simp only [View.readAt_eq_ld, h2.read_unread, h3.read_unread, h4.read_unread, h5.read_unread, h6.read_unread, h7.read_unread, h9.read_unread]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

theorem out_C (c : Dev nD) (i : grid0.Coords)
    (a2 : Memref sig .tc .vmem S1024x2048 .f32) (h2 : a2.IsWhole)
    (a3 : Memref sig .tc .vmem S1x2048 .f32) (h3 : a3.IsWhole)
    (a4 : Memref sig .tc .vmem S1x1x1x2048 .f32) (h4 : a4.IsWhole)
    (a5 : Memref sig .tc .vmem S1x1x1x2048 .f32) (h5 : a5.IsWhole)
    (a6 : Memref sig .tc .vmem S2048x1024 .bf16) (h6 : a6.IsWhole)
    (a7 : Memref sig .tc .vmem S1x1024 .f32) (h7 : a7.IsWhole)
    (a8 : Memref sig .tc .vmem S1024x1024 .bf16) (h8 : a8.IsWhole)
    (a9 : Memref sig .tc .vmem S1024x2048 .bf16) (h9 : a9.IsWhole)
    (hc0 : ¬cond0_0 i) (hc1 : ¬cond0_1 i) (hc2 : cond0_2 i) (x0 : Vec Ideal S1024x2048 .f32) (x1 : Vec Ideal S1x2048 .f32) (x2 x3 : Vec Ideal S1x1x1x2048 .f32) (x4 : Vec Ideal S2048x1024 .bf16) (x5 : Vec Ideal S1x1024 .f32) (xs0 : Vec Ideal S1024x2048 .bf16) :
    out0_C_6 c i a2 h2 a3 h3 a4 h4 a5 h5 a6 h6 a7 h7 a8 h8 a9 h9 hc0 hc1 hc2 x0 x1 x2 x3 x4 x5 xs0 = k0_pay4 xs0 x4 x5 := by
  unfold out0_C_6
  rw [View.read_writes_eq_canon _ _ _ (cover0_C_6 c i a2 h2 a3 h3 a4 h4 a5 h5 a6 h6 a7 h7 a8 h8 a9 h9 hc0 hc1 hc2 x0 x1 x2 x3 x4 x5 xs0)]
  unfold kernelRun0_C
  dsimp only
  sl_unfold_words
  rw [View.canon_unit_zero hz2]
  simp only [View.readAt_eq_ld, h2.read_unread, h3.read_unread, h4.read_unread, h5.read_unread, h6.read_unread, h7.read_unread, h9.read_unread]
  simp only [View.ld_unit_zero (S := S1024x2048) hz2, View.ld_unit_zero (S := S1x2048) hz2, View.ld_unit_zero (S := S1x1x1x2048) hz4, View.ld_unit_zero (S := S2048x1024) hz2, View.ld_unit_zero (S := S1x1024) hz2]

variable (m : (ℓ : Loc nD τ sig) → Buf (Elt Ideal) ℓ) (ρ : Dev nD → PrngReg)

open Cert.Merge (norm)
open Cert.Enter (seg pos)
open Cert.Last (cond)

/-- The reference's result of device `c`'s arguments: what the kernel's result array is shown to hold. -/
abbrev G (c : Dev nD) : Vec Ideal S8192x8192 .bf16 :=
  Cert.REnterIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem weight_apply (x : FVec Ideal S1x2048x8192 .f32) (k : Fin 2048) (l : Fin 8192) :
    truncf .bf16 (shapeCast S2048x8192 x shapeCasts_S1x2048x8192_S2048x8192) bitsLt_bf16_f32 (ix2 k l) = x (ix3 0 k l) := by
  pointwise
theorem vec2048_apply (x : FVec Ideal S1x2048 .f32) (l : Fin 2048) :
    shapeCast S1x2048 (shapeCast S2048 x shapeCasts_S1x2048_S2048) shapeCasts_S2048_S1x2048 (ix2 0 l) = x (ix2 0 l) := by
  pointwise
theorem vec8192_apply (x : FVec Ideal S1x8192 .f32) (l : Fin 8192) :
    shapeCast S1x8192 (shapeCast S8192 x shapeCasts_S1x8192_S8192) shapeCasts_S8192_S1x8192 (ix2 0 l) = x (ix2 0 l) := by
  pointwise
theorem stream_apply (x : FVec Ideal S2x4096x2048 .f32) (R : Fin 8192) (l : Fin 2048) :
    shapeCast S8192x2048 x shapeCasts_S2x4096x2048_S8192x2048 (ix2 R l) = x (ix3 (seg R) (pos R) l) := by
  pointwise

/-- The arrays the host prepares for the kernel, as terms of the arguments. -/
theorem V_v0 (c : Dev nD) : @Eq (FVec Ideal S8192x2048 .f32) (V m c main_v0)
    (shapeCast S8192x2048 (m ((c : Thread nD τ).loc main_arg0) : Vec Ideal S2x4096x2048 .f32) shapeCasts_S2x4096x2048_S8192x2048) := by
  unfold V; after_results <;> rfl
theorem V_v3 (c : Dev nD) : @Eq (FVec Ideal S2048x8192 .bf16) (V m c main_v3)
    (truncf .bf16 (shapeCast S2048x8192 (m ((c : Thread nD τ).loc main_arg3) : Vec Ideal S1x2048x8192 .f32) shapeCasts_S1x2048x8192_S2048x8192) bitsLt_bf16_f32) := by
  unfold V; after_results <;> rfl
theorem V_v5 (c : Dev nD) : @Eq (FVec Ideal S1x2048 .f32) (V m c main_v5)
    (shapeCast S1x2048 (shapeCast S2048 (m ((c : Thread nD τ).loc main_arg2) : Vec Ideal S1x2048 .f32) shapeCasts_S1x2048_S2048) shapeCasts_S2048_S1x2048) := by
  unfold V; after_results <;> rfl
theorem V_v6 (c : Dev nD) : @Eq (FVec Ideal S1x8192 .f32) (V m c main_v6)
    (shapeCast S1x8192 (shapeCast S8192 (m ((c : Thread nD τ).loc main_arg4) : Vec Ideal S1x8192 .f32) shapeCasts_S1x8192_S8192) shapeCasts_S8192_S1x8192) := by
  unfold V; after_results <;> rfl

/-- Where the windows' blocks lie at each grid point. -/
theorem index0 : ∀ t : Fin cfg0.N, win0_0.index t 0 = t.val / 8 ∧ win0_0.index t 1 = 0 := by
  show ∀ t : Fin grid0.N, _
  decide +kernel
theorem index1 : ∀ t : Fin cfg0.N, win0_1.index t 0 = 0 ∧ win0_1.index t 1 = 0 := by
  show ∀ t : Fin grid0.N, _
  decide +kernel
theorem index2 : ∀ t : Fin cfg0.N, win0_2.index t 0 = 1 + t.val / 32 ∧ win0_2.index t 1 = 1 ∧ win0_2.index t 2 = 0 ∧ win0_2.index t 3 = 0 := by
  show ∀ t : Fin grid0.N, _
  decide +kernel
theorem index3 : ∀ t : Fin cfg0.N, win0_3.index t 0 = 1 + t.val / 32 ∧ win0_3.index t 1 = 0 ∧ win0_3.index t 2 = 0 ∧ win0_3.index t 3 = 0 := by
  show ∀ t : Fin grid0.N, _
  decide +kernel
theorem index4 : ∀ t : Fin cfg0.N, win0_4.index t 0 = 0 ∧ win0_4.index t 1 = t.val % 8 := by
  show ∀ t : Fin grid0.N, _
  decide +kernel
theorem index5 : ∀ t : Fin cfg0.N, win0_5.index t 0 = 0 ∧ win0_5.index t 1 = t.val % 8 := by
  show ∀ t : Fin grid0.N, _
  decide +kernel
theorem index6 : ∀ t : Fin cfg0.N, win0_6.index t 0 = t.val / 8 ∧ win0_6.index t 1 = t.val % 8 := by
  show ∀ t : Fin grid0.N, _
  decide +kernel

theorem lt_N (t : Fin cfg0.N) : t.val < 64 := lt_of_lt_of_eq t.isLt N_0

/-- Row `r` of point `t`'s block of rows, and column `l` of its block of columns. -/
abbrev row (n : ℕ) (h : n < cfg0.N) (r : Fin 1024) : Fin 8192 := ⟨n / 8 * 1024 + r.val, by have := lt_N ⟨n, h⟩; dsimp only at this; omega⟩
abbrev col (n : ℕ) (l : Fin 1024) : Fin 8192 := ⟨n % 8 * 1024 + l.val, by omega⟩

theorem iblk0 (c : Dev nD) (t : Fin cfg0.N) (r : Fin 1024) (l : Fin 2048) :
    (iblk m c 0 t : Vec Ideal S1024x2048 .f32) (ix2 r l) = (V m c main_v0 : Vec Ideal S8192x2048 .f32) (ix2 (row t.val t.isLt r) l) := by
  have e := index0 t
  unfold iblk
  refine congrArg (V m c main_v0 : Vec Ideal S8192x2048 .f32) (funext fun a => Fin.ext ?_)
  match a with
  | ⟨0, _⟩ => show win0_0.index t 0 * 1024 + 1 * r.val = t.val / 8 * 1024 + r.val; rw [e.1]; omega
  | ⟨1, _⟩ => show win0_0.index t 1 * 2048 + 1 * l.val = l.val; rw [e.2]; omega

theorem iblk1 (c : Dev nD) (t : Fin cfg0.N) (r : Fin 1) (l : Fin 2048) :
    (iblk m c 1 t : Vec Ideal S1x2048 .f32) (ix2 r l) = (V m c main_v5 : Vec Ideal S1x2048 .f32) (ix2 (r) l) := by
  have e := index1 t
  unfold iblk
  refine congrArg (V m c main_v5 : Vec Ideal S1x2048 .f32) (funext fun a => Fin.ext ?_)
  match a with
  | ⟨0, _⟩ => show win0_1.index t 0 * 1 + 1 * r.val = r.val; rw [e.1]; omega
  | ⟨1, _⟩ => show win0_1.index t 1 * 2048 + 1 * l.val = l.val; rw [e.2]; omega

theorem iblk2 (c : Dev nD) (t : Fin cfg0.N) (r : Fin 1024) (l : Fin 2048) :
    (iblk m c 2 t : Vec Ideal S1x1x1x2048 .f32) (ix4 0 0 0 l) = (m ((c : Thread nD τ).loc main_arg1) : Vec Ideal S8x6x1x2048 .f32) (ix4 (cond (row t.val t.isLt r)) 1 0 l) := by
  have e := index2 t
  rw [← V_main_arg1 m c]
  unfold iblk
  refine congrArg (V m c main_arg1 : Vec Ideal S8x6x1x2048 .f32) (funext fun a => Fin.ext ?_)
  match a with
  | ⟨0, _⟩ => show win0_2.index t 0 * 1 + 1 * 0 = 1 + (t.val / 8 * 1024 + r.val) / 4096; rw [e.1]; omega
  | ⟨1, _⟩ => show win0_2.index t 1 * 1 + 1 * 0 = 1; rw [e.2.1]
  | ⟨2, _⟩ => show win0_2.index t 2 * 1 + 1 * 0 = 0; rw [e.2.2.1]
  | ⟨3, _⟩ => show win0_2.index t 3 * 2048 + 1 * l.val = l.val; rw [e.2.2.2]; omega

theorem iblk3 (c : Dev nD) (t : Fin cfg0.N) (r : Fin 1024) (l : Fin 2048) :
    (iblk m c 3 t : Vec Ideal S1x1x1x2048 .f32) (ix4 0 0 0 l) = (m ((c : Thread nD τ).loc main_arg1) : Vec Ideal S8x6x1x2048 .f32) (ix4 (cond (row t.val t.isLt r)) 0 0 l) := by
  have e := index3 t
  rw [← V_main_arg1 m c]
  unfold iblk
  refine congrArg (V m c main_arg1 : Vec Ideal S8x6x1x2048 .f32) (funext fun a => Fin.ext ?_)
  match a with
  | ⟨0, _⟩ => show win0_3.index t 0 * 1 + 1 * 0 = 1 + (t.val / 8 * 1024 + r.val) / 4096; rw [e.1]; omega
  | ⟨1, _⟩ => show win0_3.index t 1 * 1 + 1 * 0 = 0; rw [e.2.1]
  | ⟨2, _⟩ => show win0_3.index t 2 * 1 + 1 * 0 = 0; rw [e.2.2.1]
  | ⟨3, _⟩ => show win0_3.index t 3 * 2048 + 1 * l.val = l.val; rw [e.2.2.2]; omega

theorem iblk4 (c : Dev nD) (t : Fin cfg0.N) (r : Fin 2048) (l : Fin 1024) :
    (iblk m c 4 t : Vec Ideal S2048x1024 .bf16) (ix2 r l) = (V m c main_v3 : Vec Ideal S2048x8192 .bf16) (ix2 (r) (col t.val l)) := by
  have e := index4 t
  unfold iblk
  refine congrArg (V m c main_v3 : Vec Ideal S2048x8192 .bf16) (funext fun a => Fin.ext ?_)
  match a with
  | ⟨0, _⟩ => show win0_4.index t 0 * 2048 + 1 * r.val = r.val; rw [e.1]; omega
  | ⟨1, _⟩ => show win0_4.index t 1 * 1024 + 1 * l.val = t.val % 8 * 1024 + l.val; rw [e.2]; omega

theorem iblk5 (c : Dev nD) (t : Fin cfg0.N) (r : Fin 1) (l : Fin 1024) :
    (iblk m c 5 t : Vec Ideal S1x1024 .f32) (ix2 r l) = (V m c main_v6 : Vec Ideal S1x8192 .f32) (ix2 (r) (col t.val l)) := by
  have e := index5 t
  unfold iblk
  refine congrArg (V m c main_v6 : Vec Ideal S1x8192 .f32) (funext fun a => Fin.ext ?_)
  match a with
  | ⟨0, _⟩ => show win0_5.index t 0 * 1 + 1 * r.val = r.val; rw [e.1]; omega
  | ⟨1, _⟩ => show win0_5.index t 1 * 1024 + 1 * l.val = t.val % 8 * 1024 + l.val; rw [e.2]; omega

/-- Row `R` of the normalised input, from device `c`'s arguments. -/
abbrev hrow (c : Dev nD) (R : Fin 8192) : Fin 2048 → EReal :=
  norm (fun k => (m ((c : Thread nD τ).loc main_arg0) : Vec Ideal S2x4096x2048 .f32) (ix3 (seg R) (pos R) k)) (fun k => (m ((c : Thread nD τ).loc main_arg2) : Vec Ideal S1x2048 .f32) (ix2 0 k))
    (fun k => (m ((c : Thread nD τ).loc main_arg1) : Vec Ideal S8x6x1x2048 .f32) (ix4 (cond R) 1 0 k)) (fun k => (m ((c : Thread nD τ).loc main_arg1) : Vec Ideal S8x6x1x2048 .f32) (ix4 (cond R) 0 0 k))

/-- What the first point of a block of rows stores in the scratch: the rows, normalised. -/
theorem store_eq (c : Dev nD) (t : Fin cfg0.N) (r : Fin 1024) (k : Fin 2048) :
    k0_pay1 (F := Ideal) (iblk m c 0 t) (iblk m c 1 t) (iblk m c 2 t) (iblk m c 3 t) (ix2 r k) = hrow m c (row t.val t.isLt r) k := by
  refine (Cert.Enter.pay1_apply _ _ _ _ r k).trans ?_
  simp only [iblk0, iblk1, iblk2 m c t r, iblk3 m c t r]
  rw [V_v0, V_v5]
  simp only [vec2048_apply, stream_apply]

/-- After every point the scratch holds the normalised rows of the point's block of rows. -/
theorem scratch_eq (c : Dev nD) : ∀ (n : ℕ) (h : n < cfg0.N) (r : Fin 1024) (k : Fin 2048),
    (outsAt0 m c n h).2 (ix2 r k) = hrow m c (row n h r) k
  | n, h, r, k => by
    have hN : n < 64 := lt_N ⟨n, h⟩
    by_cases h0 : n % 8 = 0
    · have e := outsAt0_A m c ⟨n, h⟩ h0 (by dsimp only; omega) (by dsimp only; omega)
      dsimp only at e
      rw [e, scratch_A]
      exact store_eq m c ⟨n, h⟩ r k
    · have hs : (outsAt0 m c n h).2 = (outsAt0 m c (n - 1) (Nat.lt_of_le_of_lt (Nat.sub_le _ _) h)).2 := by
        by_cases h1 : n % 8 ≤ 3
        · rw [outsAt0_B m c ⟨n, h⟩ h0 h1 (by dsimp only; omega)]; rfl
        · rw [outsAt0_C m c ⟨n, h⟩ h0 h1 (by dsimp only; omega)]; rfl
      rw [hs, scratch_eq c (n - 1)]
      have hr : row (n - 1) (Nat.lt_of_le_of_lt (Nat.sub_le _ _) h) r = row n h r := Fin.ext (by show (n - 1) / 8 * 1024 + r.val = n / 8 * 1024 + r.val; omega)
      rw [hr]
  termination_by n => n
  decreasing_by omega

/-- One element of the projection at point `t`'s block, from what the scratch holds. -/
theorem proj_eq (c : Dev nD) (t : Fin cfg0.N) (s : Vec Ideal S1024x2048 .bf16) (hs : ∀ r k, s (ix2 r k) = hrow m c (row t.val t.isLt r) k) (r l : Fin 1024) :
    Cert.In.proj (fun k => s (ix2 r k)) (fun k => (iblk m c 4 t : Vec Ideal S2048x1024 .bf16) (ix2 k l)) ((iblk m c 5 t : Vec Ideal S1x1024 .f32) (ix2 0 l))
      = Cert.REnterIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t.val t.isLt r) (col t.val l)) := by
  refine Eq.trans ?_ (Cert.Enter.ref_proj _ _ _ _ _ _ _).symm
  simp only [hs, iblk4, iblk5]
  rw [V_v3, V_v6]
  simp only [weight_apply, vec8192_apply]

theorem plain_eq (c : Dev nD) (t : Fin cfg0.N) (ht : t.val % 8 ≤ 3) (s : Vec Ideal S1024x2048 .bf16)
    (hs : ∀ r k, s (ix2 r k) = hrow m c (row t.val t.isLt r) k) (r l : Fin 1024) :
    k0_pay3 (F := Ideal) s (iblk m c 4 t) (iblk m c 5 t) (ix2 r l) = G m c (ix2 (row t.val t.isLt r) (col t.val l)) :=
  (Cert.Enter.pay3_apply _ _ _ r l).trans ((proj_eq m c t s hs r l).trans
    (Cert.Enter.ref_plain _ _ _ _ _ _ _ (by show t.val % 8 * 1024 + l.val < 4096; omega)).symm)

theorem gate_eq (c : Dev nD) (t : Fin cfg0.N) (ht : 4 ≤ t.val % 8) (s : Vec Ideal S1024x2048 .bf16)
    (hs : ∀ r k, s (ix2 r k) = hrow m c (row t.val t.isLt r) k) (r l : Fin 1024) :
    k0_pay4 (F := Ideal) s (iblk m c 4 t) (iblk m c 5 t) (ix2 r l) = G m c (ix2 (row t.val t.isLt r) (col t.val l)) :=
  (Cert.Enter.pay4_apply _ _ _ r l).trans ((congrArg Ideal.logistic (proj_eq m c t s hs r l)).trans
    (Cert.Enter.ref_gate _ _ _ _ _ _ _ (by show 4096 ≤ t.val % 8 * 1024 + l.val; omega)).symm)

/-- What point `t` leaves in the output's staging buffer is block `t` of the reference's result. -/
theorem out_eq (c : Dev nD) (t : Fin cfg0.N) (r l : Fin 1024) :
    (outsAt0 m c t.val t.isLt).1 (ix2 r l) = G m c (ix2 (row t.val t.isLt r) (col t.val l)) := by
  by_cases h0 : t.val % 8 = 0
  · rw [outsAt0_A m c t h0 (by omega) (by omega)]
    dsimp only
    rw [out_A]
    exact plain_eq m c t (by omega) _ (store_eq m c t) r l
  · have hr : ∀ r', row (t.val - 1) (Nat.lt_of_le_of_lt (Nat.sub_le _ _) t.isLt) r' = row t.val t.isLt r' :=
      fun r' => Fin.ext (by show (t.val - 1) / 8 * 1024 + r'.val = t.val / 8 * 1024 + r'.val; omega)
    have hs : ∀ r' k, (outsAt0 m c (t.val - 1) (Nat.lt_of_le_of_lt (Nat.sub_le _ _) t.isLt)).2 (ix2 r' k) = hrow m c (row t.val t.isLt r') k :=
      fun r' k => (scratch_eq m c _ _ r' k).trans (by rw [hr])
    by_cases h1 : t.val % 8 ≤ 3
    · rw [outsAt0_B m c t h0 h1 (by omega)]
      dsimp only
      rw [out_B]
      exact plain_eq m c t h1 _ hs r l
    · rw [outsAt0_C m c t h0 h1 (by omega)]
      dsimp only
      rw [out_C]
      exact gate_eq m c t (by omega) _ hs r l

/-- What point `t` writes back is block `t` of the reference's result. -/
theorem flushed_eq (c : Dev nD) (t : Fin cfg0.N) :
    (dats m 0 c).flushed 6 t = (win0_6.blk t).view.read (Elt Ideal) (G m c) := by
  rw [Value.flushed6]
  have e := index6 t
  refine funext fun (j : S1024x1024.Idx) => ?_
  obtain ⟨r, l, rfl⟩ : ∃ (r : Fin 1024) (l : Fin 1024), j = ix2 r l := ⟨j 0, j 1, (ix2_eta j).symm⟩
  show (outsAt0 m c t.val t.isLt).1 (ix2 r l) = G m c _
  refine (out_eq m c t r l).trans (congrArg (G m c) (funext fun a => Fin.ext ?_))
  match a with
  | ⟨0, _⟩ => show t.val / 8 * 1024 + r.val = win0_6.index t 0 * 1024 + 1 * r.val; rw [e.1]; omega
  | ⟨1, _⟩ => show t.val % 8 * 1024 + l.val = win0_6.index t 1 * 1024 + 1 * l.val; rw [e.2]; omega

/-- An index is in block `t` when its row and its column are. -/
theorem mem_blk (t : Fin cfg0.N) (i : S8192x8192.Idx) :
    i ∈ ((cfg0.win 6).blk t).view.set ↔ (t.val / 8 * 1024 ≤ (i 0 : Nat) ∧ (i 0 : Nat) < t.val / 8 * 1024 + 1024)
      ∧ (t.val % 8 * 1024 ≤ (i 1 : Nat) ∧ (i 1 : Nat) < t.val % 8 * 1024 + 1024) := by
  show i ∈ ((View.whole main_v7).slice (win0_6.rect t)).set ↔ _
  rw [View.set_slice_whole, Rect.mem_set_unit]
  have e := index6 t
  refine ⟨fun h => ⟨?_, ?_⟩, fun h a => ?_⟩
  · have : win0_6.index t 0 * 1024 ≤ (i 0 : Nat) ∧ (i 0 : Nat) < win0_6.index t 0 * 1024 + 1024 := h 0
    rw [e.1] at this; exact this
  · have : win0_6.index t 1 * 1024 ≤ (i 1 : Nat) ∧ (i 1 : Nat) < win0_6.index t 1 * 1024 + 1024 := h 1
    rw [e.2] at this; exact this
  · match a with
    | ⟨0, _⟩ => show win0_6.index t 0 * 1024 ≤ (i 0 : Nat) ∧ (i 0 : Nat) < win0_6.index t 0 * 1024 + 1024
                rw [e.1]; exact h.1
    | ⟨1, _⟩ => show win0_6.index t 1 * 1024 ≤ (i 1 : Nat) ∧ (i 1 : Nat) < win0_6.index t 1 * 1024 + 1024
                rw [e.2]; exact h.2

theorem cover (i : S8192x8192.Idx) : ∃ t : Fin cfg0.N, (cfg0.win 6).flush t = true ∧ i ∈ ((cfg0.win 6).blk t).view.set := by
  have h0 : (i 0 : Nat) < 8192 := (i 0).isLt
  have h1 : (i 1 : Nat) < 8192 := (i 1).isLt
  have hN : cfg0.N = 64 := N_0
  refine ⟨⟨(i 0 : Nat) / 1024 * 8 + (i 1 : Nat) / 1024, by omega⟩, flush0_6 _, ?_⟩
  rw [mem_blk]
  dsimp only
  generalize (i 0 : Nat) = a at *
  generalize (i 1 : Nat) = b at *
  omega

/-- The result array ends holding the reference's result. -/
theorem final (c : Dev nD) : (dats m 0 c).arrAt 6 cfg0.N = G m c :=
  (dats m 0 c).arrAt_eq_of_cover 6 (G m c) (fun t _ => flushed_eq m c t) cover

end Cert.KEnterIdeal.Hand

namespace Cert.Proof.EnterClaims

theorem frame_k : Cert.quiescent_KEnter := fun m ρ _ => Cert.KEnter.Gen.frame m ρ
theorem frame_ki : Cert.quiescent_KEnterIdeal := fun m ρ _ => Cert.KEnterIdeal.Gen.frame m ρ
/-- The reference is host operations alone: its run leaves its arguments as they were. -/
theorem frame_ri : Cert.quiescent_REnterIdeal := fun m ρ _ =>
  (θ_run Cert.REnterIdeal.defs _ _).mono (fun r h => ⟨fun c => (h c).2, Idealize.ShloMosaic.sem_eq_zero_of_no_sems (by decide) r.2⟩)
    (Cert.REnterIdeal.Value.run (F := Ideal) m ρ)

theorem preserves : Cert.preserves_KEnter_KEnterIdeal := trivial

/-- Over the extended reals the kernel's result array and the reference's end equal, from arguments that agree. -/
theorem algebraic : Cert.algebraic_KEnterIdeal_REnterIdeal := by
  intro m ρ m' ρ' _ hag
  refine ⟨fun c => Cert.KEnterIdeal.Hand.G m c, ?_, ?_⟩
  · exact (θ_run Cert.KEnterIdeal.defs _ _).mono (fun _ h c => ⟨(h c).1.trans (Cert.KEnterIdeal.Hand.final m c), (h c).2⟩)
      (Cert.KEnterIdeal.Value.run_blocks (F := Ideal) m ρ)
  · refine (θ_run Cert.REnterIdeal.defs _ _).mono (fun _ h c => ⟨((h c).1.trans (Cert.REnterIdeal.Read.val_main_v40_eq m' c)).trans ?_, (h c).2⟩)
      (Cert.REnterIdeal.Value.run (F := Ideal) m' ρ')
    obtain ⟨h0, h1, h2, h3, h4⟩ := hag c
    rw [h0, h1, h2, h3, h4]

end Cert.Proof.EnterClaims
end
-- ==== Proof.Join.lean ====
/- The layer's merge for the sample batch (`KJoin`): each of its two sequences has a modulation of its own. -/
module

public import proofs.«01_k».proof.Defs
public import proofs.«01_k».proof.Proof.Merge
public import proofs.«01_k».proof.Proof.Enter
public import proofs.«01_k».proof.Proof.Gen.KJoin.Frame
public import proofs.«01_k».proof.Proof.Gen.KJoinIdeal.Value
public import proofs.«01_k».proof.Proof.Gen.RJoinIdeal.Run
public import proofs.«01_k».proof.Proof.Gen.RJoinIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Join

open Cert.Merge (glu merged resid norm)
open Cert.Enter (seg pos)
open Cert.Last (cond)

/-- The row of the token at place `p` of sequence `s`. -/
abbrev line (s : Fin 2) (p : Fin 4096) : Fin 8192 := ⟨s.val * 4096 + p.val, by omega⟩

section
open Cert.KJoinIdeal Cert.KJoinIdeal.Gen

theorem pay2_apply (v0 v2 : Vec Ideal S256x1024 .bf16) (v4 : Vec Ideal S1x1024 .f32) (v23 : Vec Ideal S1024x1024 .bf16) (v26 : Vec Ideal S1x1024 .f32)
    (r : Fin 256) (l : Fin 1024) :
    k0_pay2 (F := Ideal) v0 v2 v4 v23 v26 (ix2 r l)
      = glu (fun c => v0 (ix2 r c)) (fun c => v2 (ix2 r c)) (fun c => v4 (ix2 0 c)) (fun k c => v23 (ix2 k c)) (fun c => v26 (ix2 0 c)) l :=
  Cert.Merge.pay2_apply v0 v2 v4 v23 v26 r l

theorem pay3_apply (v33 : Vec Ideal S256x1024 .bf16) (v34 : Vec Ideal S1024x2048 .bf16) (r : Fin 256) (l : Fin 2048) :
    k0_pay3 (F := Ideal) v33 v34 (ix2 r l) = ∑ k : Fin 1024, v33 (ix2 r k) * v34 (ix2 k l) :=
  Cert.Merge.pay3_apply v33 v34 r l

theorem pay4_apply (v32 : FVec Ideal S256x1024 .bf16) (v33 : Vec Ideal S256x1024 .bf16) (v34 : Vec Ideal S1024x2048 .bf16) (v37 : Vec Ideal S1024x2048 .bf16)
    (v40 v43 : Vec Ideal S256x2048 .bf16) (v47 : Vec Ideal S256x2048 .f32) (v49 : Vec Ideal S1x1x1x2048 .f32) (v52 : Vec Ideal S2048x2048 .bf16)
    (r : Fin 256) (l : Fin 2048) :
    k0_pay4 (F := Ideal) v32 (k0_pay3 v33 v34) v37 v40 v43 v47 v49 v52 (ix2 r l)
      = resid (fun c => v47 (ix2 r c)) (fun c => v49 (ix4 0 0 0 c))
          (merged (fun k => v33 (ix2 r k)) (fun k => v32 (ix2 r k)) (fun k c => v34 (ix2 k c)) (fun k c => v37 (ix2 k c))
            (fun c => v40 (ix2 r c)) (fun c => v43 (ix2 r c)))
          (fun k c => v52 (ix2 k c)) l :=
  Cert.Merge.pay4_apply v32 v33 v34 v37 v40 v43 v47 v49 v52 r l

theorem pay1_apply (v32 : FVec Ideal S256x1024 .bf16) (v36 : FVec Ideal S256x2048 .f32) (v37 : Vec Ideal S1024x2048 .bf16)
    (v40 v43 : Vec Ideal S256x2048 .bf16) (v47 : Vec Ideal S256x2048 .f32) (v49 : Vec Ideal S1x1x1x2048 .f32) (v52 : Vec Ideal S2048x2048 .bf16)
    (v59 : Vec Ideal S1x2048 .f32) (v61 v63 : Vec Ideal S1x1x1x2048 .f32)
    (r : Fin 256) (l : Fin 2048) :
    k0_pay1 (F := Ideal) (k0_pay4 v32 v36 v37 v40 v43 v47 v49 v52) (k0_pay5 v59) (k0_pay6 v61) (k0_pay7 v63)
        (k0_pay8 v32 v36 v37 v40 v43 v47 v49 v52) (Scalar.ofBits .f32 0x45000000#32) (ix2 r l)
      = norm (fun c => k0_pay4 (F := Ideal) v32 v36 v37 v40 v43 v47 v49 v52 (ix2 r c)) (fun c => v59 (ix2 0 c)) (fun c => v61 (ix4 0 0 0 c)) (fun c => v63 (ix4 0 0 0 c)) l :=
  Cert.Merge.pay1_apply v32 v36 v37 v40 v43 v47 v49 v52 v59 v61 v63 r l
end

section
open Cert.RJoinIdeal Cert.RJoinIdeal.Gen Cert.RJoinIdeal.Read

/-- Up to the branches' gated sum the two batches' references are one. -/
theorem ref_merged (x0 x1 : Vec Ideal S8192x1024 .bf16) (x2 : Vec Ideal S8192x8192 .bf16) (x5 : Vec Ideal S1x1024 .f32)
    (x6 : Vec Ideal S1x1024x1024 .f32) (x7 : Vec Ideal S1x1024 .f32) (x8 x9 : Vec Ideal S1x1024x2048 .f32) :
    val_main_v51 (F := Ideal) x0 x1 x2 x5 x6 x7 x8 x9 = Cert.RMergeIdeal.Read.val_main_v51 (F := Ideal) x0 x1 x2 x5 x6 x7 x8 x9 := rfl

theorem ref_stream (x0 x1 : Vec Ideal S8192x1024 .bf16) (x2 : Vec Ideal S8192x8192 .bf16) (x3 : Vec Ideal S2x4096x2048 .f32) (x4 : Vec Ideal S8x6x1x2048 .f32)
    (x5 : Vec Ideal S1x1024 .f32) (x6 : Vec Ideal S1x1024x1024 .f32) (x7 : Vec Ideal S1x1024 .f32) (x8 x9 : Vec Ideal S1x1024x2048 .f32)
    (x10 : Vec Ideal S1x2048x2048 .f32) (s : Fin 2) (p : Fin 4096) (l : Fin 2048) :
    val_main_v57 (F := Ideal) x0 x1 x2 x3 x4 x5 x6 x7 x8 x9 x10 (ix3 s p l)
      = resid (fun c => x3 (ix3 s p c)) (fun c => x4 (ix4 ⟨1 + s.val, by omega⟩ 2 0 c))
          (fun k => Cert.RMergeIdeal.Read.val_main_v51 (F := Ideal) x0 x1 x2 x5 x6 x7 x8 x9 (ix2 (line s p) k)) (fun k c => x10 (ix3 0 k c)) l := by
  unfold resid
  simp only [val_main_v57, val_main_v56, val_main_v55, val_main_v54, val_main_v53, val_main_v52, val_main_v7, val_main_v6]
  rw [ref_merged]
  generalize Cert.RMergeIdeal.Read.val_main_v51 (F := Ideal) x0 x1 x2 x5 x6 x7 x8 x9 = X
  pointwise

theorem row_eq (R : Fin 8192) : line (seg R) (pos R) = R := Fin.ext (by show R.val / 4096 * 4096 + R.val % 4096 = R.val; omega)

theorem ref_x1 (x0 x1 : Vec Ideal S8192x1024 .bf16) (x2 : Vec Ideal S8192x8192 .bf16) (x3 : Vec Ideal S2x4096x2048 .f32) (x4 : Vec Ideal S8x6x1x2048 .f32)
    (x5 : Vec Ideal S1x1024 .f32) (x6 : Vec Ideal S1x1024x1024 .f32) (x7 : Vec Ideal S1x1024 .f32) (x8 x9 : Vec Ideal S1x1024x2048 .f32)
    (x10 : Vec Ideal S1x2048x2048 .f32) (R : Fin 8192) (l : Fin 2048) :
    val_main_v78 (F := Ideal) x0 x1 x2 x3 x4 x5 x6 x7 x8 x9 x10 (ix2 R l)
      = resid (fun c => x3 (ix3 (seg R) (pos R) c)) (fun c => x4 (ix4 (cond R) 2 0 c))
          (fun k => Cert.RMergeIdeal.Read.val_main_v51 (F := Ideal) x0 x1 x2 x5 x6 x7 x8 x9 (ix2 R k)) (fun k c => x10 (ix3 0 k c)) l := by
  have h := ref_stream x0 x1 x2 x3 x4 x5 x6 x7 x8 x9 x10 (seg R) (pos R) l
  rw [row_eq] at h
  refine Eq.trans ?_ h
  unfold val_main_v78
  generalize val_main_v57 (F := Ideal) x0 x1 x2 x3 x4 x5 x6 x7 x8 x9 x10 = X
  pointwise

theorem ref_h2 (x0 x1 : Vec Ideal S8192x1024 .bf16) (x2 : Vec Ideal S8192x8192 .bf16) (x3 : Vec Ideal S2x4096x2048 .f32) (x4 : Vec Ideal S8x6x1x2048 .f32)
    (x5 : Vec Ideal S1x1024 .f32) (x6 : Vec Ideal S1x1024x1024 .f32) (x7 : Vec Ideal S1x1024 .f32) (x8 x9 : Vec Ideal S1x1024x2048 .f32)
    (x10 : Vec Ideal S1x2048x2048 .f32)
    (x11 : Vec Ideal S1x2048 .f32) (R : Fin 8192) (l : Fin 2048) :
    val_main_v80 (F := Ideal) x0 x1 x2 x3 x4 x5 x6 x7 x8 x9 x10 x11 (ix2 R l)
      = norm (fun c => val_main_v78 (F := Ideal) x0 x1 x2 x3 x4 x5 x6 x7 x8 x9 x10 (ix2 R c)) (fun c => x11 (ix2 0 c))
          (fun c => x4 (ix4 (cond R) 4 0 c)) (fun c => x4 (ix4 (cond R) 3 0 c)) l := by
  unfold Cert.Merge.norm
  simp only [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v11, val_main_v10, val_main_v9, val_main_v8]
  generalize val_main_v57 (F := Ideal) x0 x1 x2 x3 x4 x5 x6 x7 x8 x9 x10 = X
  pointwise [val_main_cst_5, val_main_cst_6, val_main_cst_7, val_main_cst_8]
end

end Cert.Join

namespace Cert.KJoinIdeal.Hand

open Cert.KJoinIdeal Cert.KJoinIdeal.Gen
open Cert.Enter (seg pos)
open Cert.Last (cond)

variable (m : (ℓ : Loc nD τ sig) → Buf (Elt Ideal) ℓ) (ρ : Dev nD → PrngReg)

/-- The reference's residual stream of device `c`'s arguments: what the kernel's first result array is shown to hold. -/
abbrev G0 (c : Dev nD) : Vec Ideal S8192x2048 .f32 :=
  Cert.RJoinIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The reference's normalised stream of device `c`'s arguments: what the kernel's second result array is shown to hold. -/
abbrev G1 (c : Dev nD) : Vec Ideal S8192x2048 .bf16 :=
  Cert.RJoinIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem hz2 : (![0, 0] : Fin 2 → Nat) = fun _ => 0 := funext fun a => by fin_cases a <;> rfl
theorem hz4 : (![0, 0, 0, 0] : Fin 4 → Nat) = fun _ => 0 := funext fun a => by fin_cases a <;> rfl

theorem glu_apply (x : FVec Ideal S1x1024x1024 .f32) (k : Fin 1024) (l : Fin 1024) :
    truncf .bf16 (shapeCast S1024x1024 x shapeCasts_S1x1024x1024_S1024x1024) bitsLt_bf16_f32 (ix2 k l) = x (ix3 0 k l) := by
  pointwise
theorem branch_apply (x : FVec Ideal S1x1024x2048 .f32) (k : Fin 1024) (l : Fin 2048) :
    truncf .bf16 (shapeCast S1024x2048 x shapeCasts_S1x1024x2048_S1024x2048) bitsLt_bf16_f32 (ix2 k l) = x (ix3 0 k l) := by
  pointwise
theorem out_apply (x : FVec Ideal S1x2048x2048 .f32) (k : Fin 2048) (l : Fin 2048) :
    truncf .bf16 (shapeCast S2048x2048 x shapeCasts_S1x2048x2048_S2048x2048) bitsLt_bf16_f32 (ix2 k l) = x (ix3 0 k l) := by
  pointwise
theorem vec1024_apply (x : FVec Ideal S1x1024 .f32) (l : Fin 1024) :
    shapeCast S1x1024 (shapeCast S1024 x shapeCasts_S1x1024_S1024) shapeCasts_S1024_S1x1024 (ix2 0 l) = x (ix2 0 l) := by
  pointwise
theorem vec2048_apply (x : FVec Ideal S1x2048 .f32) (l : Fin 2048) :
    shapeCast S1x2048 (shapeCast S2048 x shapeCasts_S1x2048_S2048) shapeCasts_S2048_S1x2048 (ix2 0 l) = x (ix2 0 l) := by
  pointwise
theorem stream_apply (x : FVec Ideal S2x4096x2048 .f32) (R : Fin 8192) (l : Fin 2048) :
    shapeCast S8192x2048 x shapeCasts_S2x4096x2048_S8192x2048 (ix2 R l) = x (ix3 (seg R) (pos R) l) := by
  pointwise

/-- The arrays the host prepares for the kernel, as terms of the arguments. -/
theorem V_v0 (c : Dev nD) : @Eq (FVec Ideal S8192x2048 .f32) (V m c main_v0)
    (shapeCast S8192x2048 (m ((c : Thread nD τ).loc main_arg3) : Vec Ideal S2x4096x2048 .f32) shapeCasts_S2x4096x2048_S8192x2048) := by
  unfold V; after_results <;> rfl
theorem V_v3 (c : Dev nD) : @Eq (FVec Ideal S1024x1024 .bf16) (V m c main_v3)
    (truncf .bf16 (shapeCast S1024x1024 (m ((c : Thread nD τ).loc main_arg6) : Vec Ideal S1x1024x1024 .f32) shapeCasts_S1x1024x1024_S1024x1024) bitsLt_bf16_f32) := by
  unfold V; after_results <;> rfl
theorem V_v6 (c : Dev nD) : @Eq (FVec Ideal S1024x2048 .bf16) (V m c main_v6)
    (truncf .bf16 (shapeCast S1024x2048 (m ((c : Thread nD τ).loc main_arg8) : Vec Ideal S1x1024x2048 .f32) shapeCasts_S1x1024x2048_S1024x2048) bitsLt_bf16_f32) := by
  unfold V; after_results <;> rfl
theorem V_v8 (c : Dev nD) : @Eq (FVec Ideal S1024x2048 .bf16) (V m c main_v8)
    (truncf .bf16 (shapeCast S1024x2048 (m ((c : Thread nD τ).loc main_arg9) : Vec Ideal S1x1024x2048 .f32) shapeCasts_S1x1024x2048_S1024x2048) bitsLt_bf16_f32) := by
  unfold V; after_results <;> rfl
theorem V_v10 (c : Dev nD) : @Eq (FVec Ideal S2048x2048 .bf16) (V m c main_v10)
    (truncf .bf16 (shapeCast S2048x2048 (m ((c : Thread nD τ).loc main_arg10) : Vec Ideal S1x2048x2048 .f32) shapeCasts_S1x2048x2048_S2048x2048) bitsLt_bf16_f32) := by
  unfold V; after_results <;> rfl
theorem V_v12 (c : Dev nD) : @Eq (FVec Ideal S1x1024 .f32) (V m c main_v12)
    (shapeCast S1x1024 (shapeCast S1024 (m ((c : Thread nD τ).loc main_arg5) : Vec Ideal S1x1024 .f32) shapeCasts_S1x1024_S1024) shapeCasts_S1024_S1x1024) := by
  unfold V; after_results <;> rfl
theorem V_v13 (c : Dev nD) : @Eq (FVec Ideal S1x1024 .f32) (V m c main_v13)
    (shapeCast S1x1024 (shapeCast S1024 (m ((c : Thread nD τ).loc main_arg7) : Vec Ideal S1x1024 .f32) shapeCasts_S1x1024_S1024) shapeCasts_S1024_S1x1024) := by
  unfold V; after_results <;> rfl
theorem V_v14 (c : Dev nD) : @Eq (FVec Ideal S1x2048 .f32) (V m c main_v14)
    (shapeCast S1x2048 (shapeCast S2048 (m ((c : Thread nD τ).loc main_arg11) : Vec Ideal S1x2048 .f32) shapeCasts_S1x2048_S2048) shapeCasts_S2048_S1x2048) := by
  unfold V; after_results <;> rfl

/-- Where the windows' blocks lie at each grid point. -/
theorem index0 : ∀ t : Fin cfg0.N, win0_0.index t 0 = t.val ∧ win0_0.index t 1 = 0 := by
  show ∀ t : Fin grid0.N, _
  decide +kernel
theorem index1 : ∀ t : Fin cfg0.N, win0_1.index t 0 = t.val ∧ win0_1.index t 1 = 0 := by
  show ∀ t : Fin grid0.N, _
  decide +kernel
theorem index2 : ∀ t : Fin cfg0.N, win0_2.index t 0 = t.val ∧ win0_2.index t 1 = 3 := by
  show ∀ t : Fin grid0.N, _
  decide +kernel
theorem index3 : ∀ t : Fin cfg0.N, win0_3.index t 0 = t.val ∧ win0_3.index t 1 = 2 := by
  show ∀ t : Fin grid0.N, _
  decide +kernel
theorem index4 : ∀ t : Fin cfg0.N, win0_4.index t 0 = t.val ∧ win0_4.index t 1 = 3 := by
  show ∀ t : Fin grid0.N, _
  decide +kernel
theorem index5 : ∀ t : Fin cfg0.N, win0_5.index t 0 = t.val ∧ win0_5.index t 1 = 0 := by
  show ∀ t : Fin grid0.N, _
  decide +kernel
theorem index6 : ∀ t : Fin cfg0.N, win0_6.index t 0 = 0 ∧ win0_6.index t 1 = 0 := by
  show ∀ t : Fin grid0.N, _
  decide +kernel
theorem index7 : ∀ t : Fin cfg0.N, win0_7.index t 0 = 0 ∧ win0_7.index t 1 = 0 := by
  show ∀ t : Fin grid0.N, _
  decide +kernel
theorem index8 : ∀ t : Fin cfg0.N, win0_8.index t 0 = 0 ∧ win0_8.index t 1 = 0 := by
  show ∀ t : Fin grid0.N, _
  decide +kernel
theorem index9 : ∀ t : Fin cfg0.N, win0_9.index t 0 = 0 ∧ win0_9.index t 1 = 0 := by
  show ∀ t : Fin grid0.N, _
  decide +kernel
theorem index10 : ∀ t : Fin cfg0.N, win0_10.index t 0 = 0 ∧ win0_10.index t 1 = 0 := by
  show ∀ t : Fin grid0.N, _
  decide +kernel
theorem index11 : ∀ t : Fin cfg0.N, win0_11.index t 0 = 0 ∧ win0_11.index t 1 = 0 := by
  show ∀ t : Fin grid0.N, _
  decide +kernel
theorem index12 : ∀ t : Fin cfg0.N, win0_12.index t 0 = 1 + t.val / 16 ∧ win0_12.index t 1 = 2 ∧ win0_12.index t 2 = 0 ∧ win0_12.index t 3 = 0 := by
  show ∀ t : Fin grid0.N, _
  decide +kernel
theorem index13 : ∀ t : Fin cfg0.N, win0_13.index t 0 = 0 ∧ win0_13.index t 1 = 0 := by
  show ∀ t : Fin grid0.N, _
  decide +kernel
theorem index14 : ∀ t : Fin cfg0.N, win0_14.index t 0 = 1 + t.val / 16 ∧ win0_14.index t 1 = 4 ∧ win0_14.index t 2 = 0 ∧ win0_14.index t 3 = 0 := by
  show ∀ t : Fin grid0.N, _
  decide +kernel
theorem index15 : ∀ t : Fin cfg0.N, win0_15.index t 0 = 1 + t.val / 16 ∧ win0_15.index t 1 = 3 ∧ win0_15.index t 2 = 0 ∧ win0_15.index t 3 = 0 := by
  show ∀ t : Fin grid0.N, _
  decide +kernel
theorem index16 : ∀ t : Fin cfg0.N, win0_16.index t 0 = t.val ∧ win0_16.index t 1 = 0 := by
  show ∀ t : Fin grid0.N, _
  decide +kernel
theorem index17 : ∀ t : Fin cfg0.N, win0_17.index t 0 = t.val ∧ win0_17.index t 1 = 0 := by
  show ∀ t : Fin grid0.N, _
  decide +kernel

theorem lt_N (t : Fin cfg0.N) : t.val < 32 := lt_of_lt_of_eq t.isLt N_0

/-- Row `r` of point `t`'s block of rows. -/
abbrev row (t : Fin cfg0.N) (r : Fin 256) : Fin 8192 := ⟨t.val * 256 + r.val, by have := lt_N t; omega⟩

theorem iblk0 (c : Dev nD) (t : Fin cfg0.N) (r : Fin 256) (l : Fin 1024) :
    (iblk m c 0 t : Vec Ideal S256x1024 .bf16) (ix2 r l) = (m ((c : Thread nD τ).loc main_arg0) : Vec Ideal S8192x1024 .bf16) (ix2 (row t r) l) := by
  have e := index0 t
  rw [← V_main_arg0 m c]
  unfold iblk
  refine congrArg (V m c main_arg0 : Vec Ideal S8192x1024 .bf16) (funext fun a => Fin.ext ?_)
  match a with
  | ⟨0, _⟩ => show win0_0.index t 0 * 256 + 1 * r.val = t.val * 256 + r.val; rw [e.1]; omega
  | ⟨1, _⟩ => show win0_0.index t 1 * 1024 + 1 * l.val = l.val; rw [e.2]; omega

theorem iblk1 (c : Dev nD) (t : Fin cfg0.N) (r : Fin 256) (l : Fin 1024) :
    (iblk m c 1 t : Vec Ideal S256x1024 .bf16) (ix2 r l) = (m ((c : Thread nD τ).loc main_arg1) : Vec Ideal S8192x1024 .bf16) (ix2 (row t r) l) := by
  have e := index1 t
  rw [← V_main_arg1 m c]
  unfold iblk
  refine congrArg (V m c main_arg1 : Vec Ideal S8192x1024 .bf16) (funext fun a => Fin.ext ?_)
  match a with
  | ⟨0, _⟩ => show win0_1.index t 0 * 256 + 1 * r.val = t.val * 256 + r.val; rw [e.1]; omega
  | ⟨1, _⟩ => show win0_1.index t 1 * 1024 + 1 * l.val = l.val; rw [e.2]; omega

theorem iblk2 (c : Dev nD) (t : Fin cfg0.N) (r : Fin 256) (l : Fin 1024) :
    (iblk m c 2 t : Vec Ideal S256x1024 .bf16) (ix2 r l) = (m ((c : Thread nD τ).loc main_arg2) : Vec Ideal S8192x8192 .bf16) (ix2 (row t r) ⟨3072 + l.val, by omega⟩) := by
  have e := index2 t
  rw [← V_main_arg2 m c]
  unfold iblk
  refine congrArg (V m c main_arg2 : Vec Ideal S8192x8192 .bf16) (funext fun a => Fin.ext ?_)
  match a with
  | ⟨0, _⟩ => show win0_2.index t 0 * 256 + 1 * r.val = t.val * 256 + r.val; rw [e.1]; omega
  | ⟨1, _⟩ => show win0_2.index t 1 * 1024 + 1 * l.val = 3072 + l.val; rw [e.2]; omega

theorem iblk3 (c : Dev nD) (t : Fin cfg0.N) (r : Fin 256) (l : Fin 2048) :
    (iblk m c 3 t : Vec Ideal S256x2048 .bf16) (ix2 r l) = (m ((c : Thread nD τ).loc main_arg2) : Vec Ideal S8192x8192 .bf16) (ix2 (row t r) ⟨4096 + l.val, by omega⟩) := by
  have e := index3 t
  rw [← V_main_arg2 m c]
  unfold iblk
  refine congrArg (V m c main_arg2 : Vec Ideal S8192x8192 .bf16) (funext fun a => Fin.ext ?_)
  match a with
  | ⟨0, _⟩ => show win0_3.index t 0 * 256 + 1 * r.val = t.val * 256 + r.val; rw [e.1]; omega
  | ⟨1, _⟩ => show win0_3.index t 1 * 2048 + 1 * l.val = 4096 + l.val; rw [e.2]; omega

theorem iblk4 (c : Dev nD) (t : Fin cfg0.N) (r : Fin 256) (l : Fin 2048) :
    (iblk m c 4 t : Vec Ideal S256x2048 .bf16) (ix2 r l) = (m ((c : Thread nD τ).loc main_arg2) : Vec Ideal S8192x8192 .bf16) (ix2 (row t r) ⟨6144 + l.val, by omega⟩) := by
  have e := index4 t
  rw [← V_main_arg2 m c]
  unfold iblk
  refine congrArg (V m c main_arg2 : Vec Ideal S8192x8192 .bf16) (funext fun a => Fin.ext ?_)
  match a with
  | ⟨0, _⟩ => show win0_4.index t 0 * 256 + 1 * r.val = t.val * 256 + r.val; rw [e.1]; omega
  | ⟨1, _⟩ => show win0_4.index t 1 * 2048 + 1 * l.val = 6144 + l.val; rw [e.2]; omega

theorem iblk5 (c : Dev nD) (t : Fin cfg0.N) (r : Fin 256) (l : Fin 2048) :
    (iblk m c 5 t : Vec Ideal S256x2048 .f32) (ix2 r l) = (V m c main_v0 : Vec Ideal S8192x2048 .f32) (ix2 (row t r) l) := by
  have e := index5 t
  unfold iblk
  refine congrArg (V m c main_v0 : Vec Ideal S8192x2048 .f32) (funext fun a => Fin.ext ?_)
  match a with
  | ⟨0, _⟩ => show win0_5.index t 0 * 256 + 1 * r.val = t.val * 256 + r.val; rw [e.1]; omega
  | ⟨1, _⟩ => show win0_5.index t 1 * 2048 + 1 * l.val = l.val; rw [e.2]; omega

theorem iblk6 (c : Dev nD) (t : Fin cfg0.N) (r : Fin 1) (l : Fin 1024) :
    (iblk m c 6 t : Vec Ideal S1x1024 .f32) (ix2 r l) = (V m c main_v12 : Vec Ideal S1x1024 .f32) (ix2 (r) l) := by
  have e := index6 t
  unfold iblk
  refine congrArg (V m c main_v12 : Vec Ideal S1x1024 .f32) (funext fun a => Fin.ext ?_)
  match a with
  | ⟨0, _⟩ => show win0_6.index t 0 * 1 + 1 * r.val = r.val; rw [e.1]; omega
  | ⟨1, _⟩ => show win0_6.index t 1 * 1024 + 1 * l.val = l.val; rw [e.2]; omega

theorem iblk7 (c : Dev nD) (t : Fin cfg0.N) (r : Fin 1024) (l : Fin 1024) :
    (iblk m c 7 t : Vec Ideal S1024x1024 .bf16) (ix2 r l) = (V m c main_v3 : Vec Ideal S1024x1024 .bf16) (ix2 (r) l) := by
  have e := index7 t
  unfold iblk
  refine congrArg (V m c main_v3 : Vec Ideal S1024x1024 .bf16) (funext fun a => Fin.ext ?_)
  match a with
  | ⟨0, _⟩ => show win0_7.index t 0 * 1024 + 1 * r.val = r.val; rw [e.1]; omega
  | ⟨1, _⟩ => show win0_7.index t 1 * 1024 + 1 * l.val = l.val; rw [e.2]; omega

theorem iblk8 (c : Dev nD) (t : Fin cfg0.N) (r : Fin 1) (l : Fin 1024) :
    (iblk m c 8 t : Vec Ideal S1x1024 .f32) (ix2 r l) = (V m c main_v13 : Vec Ideal S1x1024 .f32) (ix2 (r) l) := by
  have e := index8 t
  unfold iblk
  refine congrArg (V m c main_v13 : Vec Ideal S1x1024 .f32) (funext fun a => Fin.ext ?_)
  match a with
  | ⟨0, _⟩ => show win0_8.index t 0 * 1 + 1 * r.val = r.val; rw [e.1]; omega
  | ⟨1, _⟩ => show win0_8.index t 1 * 1024 + 1 * l.val = l.val; rw [e.2]; omega

theorem iblk9 (c : Dev nD) (t : Fin cfg0.N) (r : Fin 1024) (l : Fin 2048) :
    (iblk m c 9 t : Vec Ideal S1024x2048 .bf16) (ix2 r l) = (V m c main_v6 : Vec Ideal S1024x2048 .bf16) (ix2 (r) l) := by
  have e := index9 t
  unfold iblk
  refine congrArg (V m c main_v6 : Vec Ideal S1024x2048 .bf16) (funext fun a => Fin.ext ?_)
  match a with
  | ⟨0, _⟩ => show win0_9.index t 0 * 1024 + 1 * r.val = r.val; rw [e.1]; omega
  | ⟨1, _⟩ => show win0_9.index t 1 * 2048 + 1 * l.val = l.val; rw [e.2]; omega

theorem iblk10 (c : Dev nD) (t : Fin cfg0.N) (r : Fin 1024) (l : Fin 2048) :
    (iblk m c 10 t : Vec Ideal S1024x2048 .bf16) (ix2 r l) = (V m c main_v8 : Vec Ideal S1024x2048 .bf16) (ix2 (r) l) := by
  have e := index10 t
  unfold iblk
  refine congrArg (V m c main_v8 : Vec Ideal S1024x2048 .bf16) (funext fun a => Fin.ext ?_)
  match a with
  | ⟨0, _⟩ => show win0_10.index t 0 * 1024 + 1 * r.val = r.val; rw [e.1]; omega
  | ⟨1, _⟩ => show win0_10.index t 1 * 2048 + 1 * l.val = l.val; rw [e.2]; omega

theorem iblk11 (c : Dev nD) (t : Fin cfg0.N) (r : Fin 2048) (l : Fin 2048) :
    (iblk m c 11 t : Vec Ideal S2048x2048 .bf16) (ix2 r l) = (V m c main_v10 : Vec Ideal S2048x2048 .bf16) (ix2 (r) l) := by
  have e := index11 t
  unfold iblk
  refine congrArg (V m c main_v10 : Vec Ideal S2048x2048 .bf16) (funext fun a => Fin.ext ?_)
  match a with
  | ⟨0, _⟩ => show win0_11.index t 0 * 2048 + 1 * r.val = r.val; rw [e.1]; omega
  | ⟨1, _⟩ => show win0_11.index t 1 * 2048 + 1 * l.val = l.val; rw [e.2]; omega

theorem iblk12 (c : Dev nD) (t : Fin cfg0.N) (r : Fin 256) (l : Fin 2048) :
    (iblk m c 12 t : Vec Ideal S1x1x1x2048 .f32) (ix4 0 0 0 l) = (m ((c : Thread nD τ).loc main_arg4) : Vec Ideal S8x6x1x2048 .f32) (ix4 (cond (row t r)) 2 0 l) := by
  have e := index12 t
  rw [← V_main_arg4 m c]
  unfold iblk
  refine congrArg (V m c main_arg4 : Vec Ideal S8x6x1x2048 .f32) (funext fun a => Fin.ext ?_)
  match a with
  | ⟨0, _⟩ => show win0_12.index t 0 * 1 + 1 * 0 = 1 + (t.val * 256 + r.val) / 4096; rw [e.1]; omega
  | ⟨1, _⟩ => show win0_12.index t 1 * 1 + 1 * 0 = 2; rw [e.2.1]
  | ⟨2, _⟩ => show win0_12.index t 2 * 1 + 1 * 0 = 0; rw [e.2.2.1]
  | ⟨3, _⟩ => show win0_12.index t 3 * 2048 + 1 * l.val = l.val; rw [e.2.2.2]; omega

theorem iblk13 (c : Dev nD) (t : Fin cfg0.N) (r : Fin 1) (l : Fin 2048) :
    (iblk m c 13 t : Vec Ideal S1x2048 .f32) (ix2 r l) = (V m c main_v14 : Vec Ideal S1x2048 .f32) (ix2 (r) l) := by
  have e := index13 t
  unfold iblk
  refine congrArg (V m c main_v14 : Vec Ideal S1x2048 .f32) (funext fun a => Fin.ext ?_)
  match a with
  | ⟨0, _⟩ => show win0_13.index t 0 * 1 + 1 * r.val = r.val; rw [e.1]; omega
  | ⟨1, _⟩ => show win0_13.index t 1 * 2048 + 1 * l.val = l.val; rw [e.2]; omega

theorem iblk14 (c : Dev nD) (t : Fin cfg0.N) (r : Fin 256) (l : Fin 2048) :
    (iblk m c 14 t : Vec Ideal S1x1x1x2048 .f32) (ix4 0 0 0 l) = (m ((c : Thread nD τ).loc main_arg4) : Vec Ideal S8x6x1x2048 .f32) (ix4 (cond (row t r)) 4 0 l) := by
  have e := index14 t
  rw [← V_main_arg4 m c]
  unfold iblk
  refine congrArg (V m c main_arg4 : Vec Ideal S8x6x1x2048 .f32) (funext fun a => Fin.ext ?_)
  match a with
  | ⟨0, _⟩ => show win0_14.index t 0 * 1 + 1 * 0 = 1 + (t.val * 256 + r.val) / 4096; rw [e.1]; omega
  | ⟨1, _⟩ => show win0_14.index t 1 * 1 + 1 * 0 = 4; rw [e.2.1]
  | ⟨2, _⟩ => show win0_14.index t 2 * 1 + 1 * 0 = 0; rw [e.2.2.1]
  | ⟨3, _⟩ => show win0_14.index t 3 * 2048 + 1 * l.val = l.val; rw [e.2.2.2]; omega

theorem iblk15 (c : Dev nD) (t : Fin cfg0.N) (r : Fin 256) (l : Fin 2048) :
    (iblk m c 15 t : Vec Ideal S1x1x1x2048 .f32) (ix4 0 0 0 l) = (m ((c : Thread nD τ).loc main_arg4) : Vec Ideal S8x6x1x2048 .f32) (ix4 (cond (row t r)) 3 0 l) := by
  have e := index15 t
  rw [← V_main_arg4 m c]
  unfold iblk
  refine congrArg (V m c main_arg4 : Vec Ideal S8x6x1x2048 .f32) (funext fun a => Fin.ext ?_)
  match a with
  | ⟨0, _⟩ => show win0_15.index t 0 * 1 + 1 * 0 = 1 + (t.val * 256 + r.val) / 4096; rw [e.1]; omega
  | ⟨1, _⟩ => show win0_15.index t 1 * 1 + 1 * 0 = 3; rw [e.2.1]
  | ⟨2, _⟩ => show win0_15.index t 2 * 1 + 1 * 0 = 0; rw [e.2.2.1]
  | ⟨3, _⟩ => show win0_15.index t 3 * 2048 + 1 * l.val = l.val; rw [e.2.2.2]; omega

/-- The residual stream over point `t`'s blocks is the reference's at the rows of the block. -/
theorem x1_eq (c : Dev nD) (t : Fin cfg0.N) (r : Fin 256) (l : Fin 2048) :
    k0_pay4 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t) (ix2 r l)
      = G0 m c (ix2 (row t r) l) := by
  refine (Cert.Join.pay4_apply _ _ _ _ _ _ _ _ _ r l).trans ?_
  simp only [Cert.Join.pay2_apply]
  simp only [iblk0, iblk1, iblk2, iblk3, iblk4, iblk5, iblk6, iblk7, iblk8, iblk9, iblk10, iblk11, iblk12 m c t r]
  rw [V_v0, V_v3, V_v6, V_v8, V_v10, V_v12, V_v13]
  simp only [glu_apply, branch_apply, out_apply, vec1024_apply, stream_apply]
  refine Eq.trans ?_ (Cert.Join.ref_x1 _ _ _ _ _ _ _ _ _ _ _ (row t r) l).symm
  simp only [Cert.Merge.ref_merged, Cert.Merge.ref_glu]

/-- What point `t` writes back is block `t` of the reference's result. -/
theorem flushed16_eq (c : Dev nD) (t : Fin cfg0.N) :
    (dats m 0 c).flushed 16 t = (win0_16.blk t).view.read (Elt Ideal) (G0 m c) := by
  rw [Value.flushed16]
  unfold_out out0_16
  rw [View.canon_unit_zero hz2]
  repeat first | rw [View.ld_unit_zero hz2] | rw [View.ld_unit_zero hz4]
  have e := index16 t
  refine funext fun (j : S256x2048.Idx) => ?_
  obtain ⟨r, l, rfl⟩ : ∃ (r : Fin 256) (l : Fin 2048), j = ix2 r l := ⟨j 0, j 1, (ix2_eta j).symm⟩
  show k0_pay4 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t) (ix2 r l) = G0 m c _
  refine (x1_eq m c t r l).trans (congrArg (G0 m c) (funext fun a => Fin.ext ?_))
  match a with
  | ⟨0, _⟩ => show t.val * 256 + r.val = win0_16.index t 0 * 256 + 1 * r.val; rw [e.1]; omega
  | ⟨1, _⟩ => show l.val = win0_16.index t 1 * 2048 + 1 * l.val; rw [e.2]; omega

/-- An index is in block `t` when its row is. -/
theorem mem_blk16 (t : Fin cfg0.N) (i : S8192x2048.Idx) :
    i ∈ ((cfg0.win 16).blk t).view.set ↔ t.val * 256 ≤ (i 0 : Nat) ∧ (i 0 : Nat) < t.val * 256 + 256 := by
  show i ∈ ((View.whole main_v15_0).slice (win0_16.rect t)).set ↔ _
  rw [View.set_slice_whole, Rect.mem_set_unit]
  have e := index16 t
  have h1 : (i 1 : Nat) < 2048 := (i 1).isLt
  refine ⟨fun h => ?_, fun h a => ?_⟩
  · have : win0_16.index t 0 * 256 ≤ (i 0 : Nat) ∧ (i 0 : Nat) < win0_16.index t 0 * 256 + 256 := h 0
    rw [e.1] at this; exact this
  · match a with
    | ⟨0, _⟩ => show win0_16.index t 0 * 256 ≤ (i 0 : Nat) ∧ (i 0 : Nat) < win0_16.index t 0 * 256 + 256
                rw [e.1]; exact h
    | ⟨1, _⟩ => show win0_16.index t 1 * 2048 ≤ (i 1 : Nat) ∧ (i 1 : Nat) < win0_16.index t 1 * 2048 + 2048
                rw [e.2]; exact ⟨by norm_num, by norm_num; exact h1⟩

theorem cover16 (i : S8192x2048.Idx) : ∃ t : Fin cfg0.N, (cfg0.win 16).flush t = true ∧ i ∈ ((cfg0.win 16).blk t).view.set := by
  have h0 : (i 0 : Nat) < 8192 := (i 0).isLt
  have hN : cfg0.N = 32 := N_0
  refine ⟨⟨(i 0 : Nat) / 256, by omega⟩, flush0_16 _, ?_⟩
  rw [mem_blk16]
  dsimp only
  generalize (i 0 : Nat) = a at *
  omega

/-- The result array ends holding the reference's result. -/
theorem final16 (c : Dev nD) : (dats m 0 c).arrAt 16 cfg0.N = G0 m c :=
  (dats m 0 c).arrAt_eq_of_cover 16 (G0 m c) (fun t _ => flushed16_eq m c t) cover16

/-- What point `t` writes back is block `t` of the reference's result. -/
theorem flushed17_eq (c : Dev nD) (t : Fin cfg0.N) :
    (dats m 0 c).flushed 17 t = (win0_17.blk t).view.read (Elt Ideal) (G1 m c) := by
  rw [Value.flushed17]
  unfold_out out0_17
  rw [View.canon_unit_zero hz2]
  repeat first | rw [View.ld_unit_zero hz2] | rw [View.ld_unit_zero hz4]
  have e := index17 t
  refine funext fun (j : S256x2048.Idx) => ?_
  obtain ⟨r, l, rfl⟩ : ∃ (r : Fin 256) (l : Fin 2048), j = ix2 r l := ⟨j 0, j 1, (ix2_eta j).symm⟩
  show k0_pay1 (F := Ideal) (k0_pay4 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t)) (k0_pay5 (iblk m c 13 t)) (k0_pay6 (iblk m c 14 t)) (k0_pay7 (iblk m c 15 t))
    (k0_pay8 (F := Ideal) (k0_pay2 (iblk m c 1 t) (iblk m c 2 t) (iblk m c 6 t) (iblk m c 7 t) (iblk m c 8 t)) (k0_pay3 (iblk m c 0 t) (iblk m c 9 t)) (iblk m c 10 t) (iblk m c 3 t) (iblk m c 4 t) (iblk m c 5 t) (iblk m c 12 t) (iblk m c 11 t)) (Scalar.ofBits .f32 0x45000000#32) (ix2 r l) = G1 m c _
  refine (Cert.Join.pay1_apply _ _ _ _ _ _ _ _ _ _ _ r l).trans ?_
  simp only [x1_eq, iblk13, iblk14 m c t r, iblk15 m c t r]
  rw [V_v14]
  simp only [vec2048_apply]
  refine (Cert.Join.ref_h2 _ _ _ _ _ _ _ _ _ _ _ _ (row t r) l).symm.trans (congrArg (G1 m c) (funext fun a => Fin.ext ?_))
  match a with
  | ⟨0, _⟩ => show t.val * 256 + r.val = win0_17.index t 0 * 256 + 1 * r.val; rw [e.1]; omega
  | ⟨1, _⟩ => show l.val = win0_17.index t 1 * 2048 + 1 * l.val; rw [e.2]; omega

/-- An index is in block `t` when its row is. -/
theorem mem_blk17 (t : Fin cfg0.N) (i : S8192x2048.Idx) :
    i ∈ ((cfg0.win 17).blk t).view.set ↔ t.val * 256 ≤ (i 0 : Nat) ∧ (i 0 : Nat) < t.val * 256 + 256 := by
  show i ∈ ((View.whole main_v15_1).slice (win0_17.rect t)).set ↔ _
  rw [View.set_slice_whole, Rect.mem_set_unit]
  have e := index17 t
  have h1 : (i 1 : Nat) < 2048 := (i 1).isLt
  refine ⟨fun h => ?_, fun h a => ?_⟩
  · have : win0_17.index t 0 * 256 ≤ (i 0 : Nat) ∧ (i 0 : Nat) < win0_17.index t 0 * 256 + 256 := h 0
    rw [e.1] at this; exact this
  · match a with
    | ⟨0, _⟩ => show win0_17.index t 0 * 256 ≤ (i 0 : Nat) ∧ (i 0 : Nat) < win0_17.index t 0 * 256 + 256
                rw [e.1]; exact h
    | ⟨1, _⟩ => show win0_17.index t 1 * 2048 ≤ (i 1 : Nat) ∧ (i 1 : Nat) < win0_17.index t 1 * 2048 + 2048
                rw [e.2]; exact ⟨by norm_num, by norm_num; exact h1⟩

theorem cover17 (i : S8192x2048.Idx) : ∃ t : Fin cfg0.N, (cfg0.win 17).flush t = true ∧ i ∈ ((cfg0.win 17).blk t).view.set := by
  have h0 : (i 0 : Nat) < 8192 := (i 0).isLt
  have hN : cfg0.N = 32 := N_0
  refine ⟨⟨(i 0 : Nat) / 256, by omega⟩, flush0_17 _, ?_⟩
  rw [mem_blk17]
  dsimp only
  generalize (i 0 : Nat) = a at *
  omega

/-- The result array ends holding the reference's result. -/
theorem final17 (c : Dev nD) : (dats m 0 c).arrAt 17 cfg0.N = G1 m c :=
  (dats m 0 c).arrAt_eq_of_cover 17 (G1 m c) (fun t _ => flushed17_eq m c t) cover17

end Cert.KJoinIdeal.Hand

namespace Cert.Proof.JoinClaims

theorem frame_k : Cert.quiescent_KJoin := fun m ρ _ => Cert.KJoin.Gen.frame m ρ
theorem frame_ki : Cert.quiescent_KJoinIdeal := fun m ρ _ => Cert.KJoinIdeal.Gen.frame m ρ
/-- The reference is host operations alone: its run leaves its arguments as they were. -/
theorem frame_ri : Cert.quiescent_RJoinIdeal := fun m ρ _ =>
  (θ_run Cert.RJoinIdeal.defs _ _).mono (fun r h => ⟨fun c => (h c).2.2, Idealize.ShloMosaic.sem_eq_zero_of_no_sems (by decide) r.2⟩)
    (Cert.RJoinIdeal.Value.run (F := Ideal) m ρ)

theorem preserves : Cert.preserves_KJoin_KJoinIdeal := trivial

/-- Over the extended reals the kernel's two result arrays and the reference's end equal, from arguments that agree. -/
theorem algebraic : Cert.algebraic_KJoinIdeal_RJoinIdeal := by
  intro m ρ m' ρ' _ hag
  refine ⟨fun c => Cert.KJoinIdeal.Hand.G0 m c, fun c => Cert.KJoinIdeal.Hand.G1 m c, ?_, ?_⟩
  · exact (θ_run Cert.KJoinIdeal.defs _ _).mono
      (fun _ h c => ⟨(h c).1.trans (Cert.KJoinIdeal.Hand.final16 m c), (h c).2.1.trans (Cert.KJoinIdeal.Hand.final17 m c), (h c).2.2⟩)
      (Cert.KJoinIdeal.Value.run_blocks (F := Ideal) m ρ)
  · refine (θ_run Cert.RJoinIdeal.defs _ _).mono
      (fun _ h c => ⟨((h c).1.trans (Cert.RJoinIdeal.Read.val_main_v78_eq m' c)).trans ?_,
        ((h c).2.1.trans (Cert.RJoinIdeal.Read.val_main_v80_eq m' c)).trans ?_, (h c).2.2⟩)
      (Cert.RJoinIdeal.Value.run (F := Ideal) m' ρ')
    · obtain ⟨h0, h1, h2, h3, h4, h5, h6, h7, h8, h9, h10, h11⟩ := hag c
      rw [h0, h1, h2, h3, h4, h5, h6, h7, h8, h9, h10]
    · obtain ⟨h0, h1, h2, h3, h4, h5, h6, h7, h8, h9, h10, h11⟩ := hag c
      rw [h0, h1, h2, h3, h4, h5, h6, h7, h8, h9, h10, h11]

end Cert.Proof.JoinClaims
end
-- ==== Proof.Grid.lean ====
/- The first half of the gated feed-forward layer on the sample's grid (`KGrid`), against its reference. -/
module

public import proofs.«01_k».proof.Defs
public import proofs.«01_k».proof.Proof.Up
public import proofs.«01_k».proof.Proof.Gen.KGrid.Frame
public import proofs.«01_k».proof.Proof.Gen.KGridIdeal.Value
public import proofs.«01_k».proof.Proof.Gen.RGridIdeal.Run
public import proofs.«01_k».proof.Proof.Gen.RGridIdeal.Read
public import Idealize.ShloMosaic.Lib.Pointwise
public import Idealize.ShloMosaic.Lib.Exec
public import Idealize.ShloMosaic.Lib.WritesUnit
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Grid

/-- Three taps along a grid's row, at row `r` of one sequence's 4096: nothing comes from before the grid's first column or
    from after its last. -/
def tap (A : Fin 4096 → EReal) (u v w : EReal) (r : Fin 4096) : EReal :=
  (if r.val % 64 ≠ 0 then A ⟨(r.val + 4095) % 4096, Nat.mod_lt _ (by norm_num)⟩ else 0) * u + A r * v
    + (if r.val % 64 ≠ 63 then A ⟨(r.val + 1) % 4096, Nat.mod_lt _ (by norm_num)⟩ else 0) * w

/-- The nine taps as the kernel adds them: the row's own and the bias, then the row before's, then the row after's. -/
def convBlk (A : Fin 4096 → EReal) (w : Fin 9 → EReal) (b : EReal) (r : Fin 4096) : EReal :=
  tap A (w 3) (w 4) (w 5) r + b + (if h : r.val < 64 then 0 else tap A (w 0) (w 1) (w 2) ⟨r.val - 64, by omega⟩)
    + (if h : r.val + 64 < 4096 then tap A (w 6) (w 7) (w 8) ⟨r.val + 64, by omega⟩ else 0)

/-- The grid of 64 rows and columns with a border of zeros. -/
def cell (A : Fin 4096 → EReal) (i j : ℕ) : EReal :=
  if h : (1 ≤ i ∧ i ≤ 64) ∧ 1 ≤ j ∧ j ≤ 64 then A ⟨(i - 1) * 64 + (j - 1), by omega⟩ else 0

/-- The nine taps on the bordered grid, in the reference's order. -/
def conv (A : Fin 4096 → EReal) (w : Fin 9 → EReal) (b : EReal) (i j : ℕ) : EReal :=
  b + cell A i j * w 0 + cell A i (1 + j) * w 1 + cell A i (2 + j) * w 2
    + cell A (1 + i) j * w 3 + cell A (1 + i) (1 + j) * w 4 + cell A (1 + i) (2 + j) * w 5
    + cell A (2 + i) j * w 6 + cell A (2 + i) (1 + j) * w 7 + cell A (2 + i) (2 + j) * w 8

/-- A bordered row's three taps are the row's, and those of the border's rows are zero. -/
theorem tap_cell (A : Fin 4096 → EReal) (u v w : EReal) (r : Fin 4096) (i j : ℕ) (hi : i = r.val / 64 + 1) (hj : j = r.val % 64) :
    tap A u v w r = cell A i j * u + cell A i (1 + j) * v + cell A i (2 + j) * w := by
  have hr := r.isLt
  unfold tap cell
  refine congrArg₂ (· + ·) (congrArg₂ (· + ·) (congrArg (· * u) ?_) (congrArg (· * v) ?_)) (congrArg (· * w) ?_)
  · by_cases h : r.val % 64 = 0
    · rw [if_neg (by omega), dif_neg (by omega)]
    · rw [if_pos h, dif_pos (by omega)]
      exact congrArg A (Fin.ext (by show (r.val + 4095) % 4096 = (i - 1) * 64 + (j - 1); omega))
  · rw [dif_pos (by omega)]
    exact congrArg A (Fin.ext (by show r.val = (i - 1) * 64 + (1 + j - 1); omega))
  · by_cases h : r.val % 64 = 63
    · rw [if_neg (by omega), dif_neg (by omega)]
    · rw [if_pos h, dif_pos (by omega)]
      exact congrArg A (Fin.ext (by show (r.val + 1) % 4096 = (i - 1) * 64 + (2 + j - 1); omega))

theorem cell_out (A : Fin 4096 → EReal) (i j : ℕ) (hi : i = 0 ∨ 64 < i) : cell A i j = 0 := dif_neg (by omega)

theorem convBlk_eq (A : Fin 4096 → EReal) (w : Fin 9 → EReal) (b : EReal) (r : Fin 4096) :
    convBlk A w b r = conv A w b (r.val / 64) (r.val % 64) := by
  have hr := r.isLt
  have hu : (if h : r.val < 64 then 0 else tap A (w 0) (w 1) (w 2) ⟨r.val - 64, by omega⟩)
      = cell A (r.val / 64) (r.val % 64) * w 0 + cell A (r.val / 64) (1 + r.val % 64) * w 1 + cell A (r.val / 64) (2 + r.val % 64) * w 2 := by
    by_cases h : r.val < 64
    · rw [dif_pos h, cell_out, cell_out, cell_out, zero_mul, zero_mul, zero_mul, add_zero, add_zero] <;> exact Or.inl (by omega)
    · rw [dif_neg h]
      exact tap_cell A _ _ _ _ _ _ (by show _ = (r.val - 64) / 64 + 1; omega) (by show _ = (r.val - 64) % 64; omega)
  have hd : (if h : r.val + 64 < 4096 then tap A (w 6) (w 7) (w 8) ⟨r.val + 64, by omega⟩ else 0)
      = cell A (2 + r.val / 64) (r.val % 64) * w 6 + cell A (2 + r.val / 64) (1 + r.val % 64) * w 7 + cell A (2 + r.val / 64) (2 + r.val % 64) * w 8 := by
    by_cases h : r.val + 64 < 4096
    · rw [dif_pos h]
      exact tap_cell A _ _ _ _ _ _ (by show _ = (r.val + 64) / 64 + 1; omega) (by show _ = (r.val + 64) % 64; omega)
    · rw [dif_neg h, cell_out, cell_out, cell_out, zero_mul, zero_mul, zero_mul, add_zero, add_zero] <;> exact Or.inr (by omega)
  have hm := tap_cell A (w 3) (w 4) (w 5) r (1 + r.val / 64) (r.val % 64) (Nat.add_comm _ _) rfl
  unfold convBlk conv
  rw [hu, hd, hm]
  abel

/-- One element of the layer's output: the gelu of the first half's convolution times the second half's. -/
def out (A B : Fin 4096 → EReal) (w w' : Fin 9 → EReal) (b b' : EReal) (i j : ℕ) : EReal := Up.gelu (conv A w b i j) * conv B w' b' i j

/-- Row `r` of sequence `q`. -/
abbrev row (q : Fin 2) (r : Fin 4096) : Fin 8192 := ⟨q.val * 4096 + r.val, by omega⟩

/-- Tap `t` of the nine, of one channel. -/
abbrev taps (x : (⟨4, ![1, 3, 3, 11264]⟩ : Shape).Idx → EReal) (ch : Fin 11264) (t : Fin 9) : EReal :=
  x (ix4 0 ⟨t.val / 3, by omega⟩ ⟨t.val % 3, by omega⟩ ch)

section
open Cert.KGridIdeal Cert.KGridIdeal.Gen

theorem rem_first : ∀ r : Fin 4096, IntOp.cmpi .ne (IntOp.remsi .vector (BitVec.ofNat 32 r.val) 64#32) 0#32 = if r.val % 64 ≠ 0 then 1#1 else 0#1 := by
  decide +kernel

theorem rem_last : ∀ r : Fin 4096, IntOp.cmpi .ne (IntOp.remsi .vector (BitVec.ofNat 32 r.val) 64#32) 63#32 = if r.val % 64 ≠ 63 then 1#1 else 0#1 := by
  decide +kernel

/-- The masks of the rows that have a column before, and one after. -/
theorem mask_first (r : Fin 4096) (l : Fin 256) : k0_pay4 (ix2 r l) = if r.val % 64 ≠ 0 then 1#1 else 0#1 := by
  rw [← rem_first r]
  pointwise [k0_pay4, k0_pay3]

theorem mask_last (r : Fin 4096) (l : Fin 256) : k0_pay5 (ix2 r l) = if r.val % 64 ≠ 63 then 1#1 else 0#1 := by
  rw [← rem_last r]
  pointwise [k0_pay5, k0_pay3]

variable (x : Vec Ideal S4096x2048 .bf16) (w : Vec Ideal S2048x256 .bf16) (cw : Vec Ideal S9x256 .f32) (cb : Vec Ideal S1x256 .f32)

/-- The product of a block's rows with one column of the weights. -/
abbrev prod (l : Fin 256) (r : Fin 4096) : EReal := ∑ k : Fin 2048, x (ix2 r k) * w (ix2 k l)

theorem pay6_apply (r : Fin 4096) (l : Fin 256) : k0_pay6 (F := Ideal) x w (ix2 r l) = prod x w l r := by
  unfold prod
  pointwise [k0_pay6]

/-- The product's row before and row after, where the grid's row has them. -/
theorem pay7_apply (r : Fin 4096) (l : Fin 256) :
    k0_pay7 (F := Ideal) x w (ix2 r l) = if r.val % 64 ≠ 0 then prod x w l ⟨(r.val + 4095) % 4096, Nat.mod_lt _ (by norm_num)⟩ else 0 := by
  rw [← pay6_apply, ← Up.select_if, ← mask_first r l, ← Up.rot_down (k0_pay6 x w) r l]
  show select k0_pay4 (dynamicRotate 0 1#32 none (k0_pay6 x w) rotates_S4096x256_d0) (broadcast S4096x256 (Scalar.ofBits (F := Ideal) .f32 0x00000000#32)) (ix2 r l) = _
  generalize dynamicRotate 0 1#32 none (k0_pay6 x w) rotates_S4096x256_d0 = L
  generalize k0_pay4 = M
  pointwise

theorem pay8_apply (r : Fin 4096) (l : Fin 256) :
    k0_pay8 (F := Ideal) x w (ix2 r l) = if r.val % 64 ≠ 63 then prod x w l ⟨(r.val + 1) % 4096, Nat.mod_lt _ (by norm_num)⟩ else 0 := by
  rw [← pay6_apply, ← Up.select_if, ← mask_last r l, ← Up.rot_up (k0_pay6 x w) r l]
  show select k0_pay5 (dynamicRotate 0 4095#32 none (k0_pay6 x w) rotates_S4096x256_d0) (broadcast S4096x256 (Scalar.ofBits (F := Ideal) .f32 0x00000000#32)) (ix2 r l) = _
  generalize dynamicRotate 0 4095#32 none (k0_pay6 x w) rotates_S4096x256_d0 = L
  generalize k0_pay5 = M
  pointwise

/-- The three rows of taps. -/
theorem pay10_apply (r : Fin 4096) (l : Fin 256) :
    k0_pay10 (F := Ideal) x w cw cb (ix2 r l) = tap (prod x w l) (cw (ix2 3 l)) (cw (ix2 4 l)) (cw (ix2 5 l)) r + cb (ix2 0 l) := by
  unfold tap
  rw [← pay7_apply, ← pay8_apply, ← pay6_apply]
  unfold k0_pay10
  generalize k0_pay6 x w = M
  generalize k0_pay7 x w = L
  generalize k0_pay8 x w = R
  pointwise [k0_pay9]

theorem pay13_apply (r : Fin 4096) (l : Fin 256) :
    k0_pay13 (F := Ideal) (k0_pay6 x w) (k0_pay7 x w) (k0_pay8 x w) (k0_pay9 cw) (ix2 r l) = tap (prod x w l) (cw (ix2 0 l)) (cw (ix2 1 l)) (cw (ix2 2 l)) r := by
  unfold tap
  rw [← pay7_apply, ← pay8_apply, ← pay6_apply]
  generalize k0_pay6 x w = M
  generalize k0_pay7 x w = L
  generalize k0_pay8 x w = R
  pointwise [k0_pay13, k0_pay9]

theorem pay15_apply (r : Fin 4096) (l : Fin 256) :
    k0_pay15 (F := Ideal) (k0_pay6 x w) (k0_pay7 x w) (k0_pay8 x w) (k0_pay9 cw) (ix2 r l) = tap (prod x w l) (cw (ix2 6 l)) (cw (ix2 7 l)) (cw (ix2 8 l)) r := by
  unfold tap
  rw [← pay7_apply, ← pay8_apply, ← pay6_apply]
  generalize k0_pay6 x w = M
  generalize k0_pay7 x w = L
  generalize k0_pay8 x w = R
  pointwise [k0_pay15, k0_pay9]

/-- The second half of the channels is computed by the same terms. -/
theorem pay17_eq : k0_pay17 (F := Ideal) x w = k0_pay6 x w := rfl
theorem pay18_eq : k0_pay18 (F := Ideal) k0_pay4 x w = k0_pay7 x w := rfl
theorem pay19_eq : k0_pay19 (F := Ideal) k0_pay5 (k0_pay6 x w) 4095#32 = k0_pay8 x w := rfl
theorem pay21_eq : k0_pay21 (F := Ideal) k0_pay5 (k0_pay6 x w) (k0_pay7 x w) 4095#32 cw cb = k0_pay10 x w cw cb := rfl
theorem pay24_eq : k0_pay24 (F := Ideal) k0_pay5 (k0_pay6 x w) (k0_pay7 x w) 4095#32 cw = k0_pay13 (k0_pay6 x w) (k0_pay7 x w) (k0_pay8 x w) (k0_pay9 cw) := rfl
theorem pay1_eq : k0_pay1 (F := Ideal) (k0_pay6 x w) (k0_pay8 x w) (k0_pay20 cw) (k0_pay26 (k0_pay7 x w) cw) (k0_pay27 cw)
    = k0_pay15 (k0_pay6 x w) (k0_pay7 x w) (k0_pay8 x w) (k0_pay9 cw) := rfl

theorem pay12_apply (r : Fin 64) (l : Fin 256) : k0_pay12 (F := Ideal) (ix2 r l) = 0 := by
  pointwise [k0_pay12, k0_pay11]
theorem pay23_eq : k0_pay23 (F := Ideal) = k0_pay12 := rfl
theorem pay14_eq : k0_pay14 (F := Ideal) k0_pay11 = k0_pay12 := rfl
theorem pay25_eq : k0_pay25 (F := Ideal) = k0_pay12 := rfl

theorem pay16_apply (a b c : FVec Ideal S4096x256 .f32) (r : Fin 4096) (l : Fin 256) :
    k0_pay16 (F := Ideal) a b c (ix2 r l) = a (ix2 r l) + b (ix2 r l) + c (ix2 r l) := by
  pointwise [k0_pay16]

/-- What the kernel stores: the gelu of the first half's convolution times the second half's. -/
theorem pay2_apply (a b c d : FVec Ideal S4096x256 .f32) (r : Fin 4096) (l : Fin 256) :
    k0_pay2 (F := Ideal) a b c d (ix2 r l) = Up.gelu (a (ix2 r l)) * (b (ix2 r l) + c (ix2 r l) + d (ix2 r l)) := by
  unfold Up.gelu
  pointwise [k0_pay2]
end

section
open Cert.RGridIdeal Cert.RGridIdeal.Gen Cert.RGridIdeal.Read

variable (x0 : Vec Ideal S8192x2048 .bf16) (x1 : Vec Ideal S1x2048x11264 .f32) (x2 : Vec Ideal S1x3x3x11264 .f32) (x3 : Vec Ideal S1x11264 .f32)

/-- The product of a sequence's rows with the first matrix: column `ch`. -/
abbrev up (q : Fin 2) (ch : Fin 11264) (r : Fin 4096) : EReal := ∑ k : Fin 2048, x0 (ix2 (row q r) k) * x1 (ix3 0 k ch)

theorem v6_apply (q : Fin 2) (i j : Fin 64) (ch : Fin 11264) :
    val_main_v6 (F := Ideal) x0 x1 (ix4 q i j ch) = up x0 x1 q ch ⟨i.val * 64 + j.val, by omega⟩ := by
  unfold up
  pointwise [val_main_v6, val_main_v3, val_main_v2, val_main_v1, val_main_v0]

theorem pad_zero (i : S_.Idx) : val_main_call0_v0 (F := Ideal) i = 0 := by
  pointwise [val_main_call0_v0, val_main_c]
  show ((((0#32 : BitVec 32).toInt : ℝ)) : EReal) = 0
  simp

theorem v7_apply (q : Fin 2) (i j : Fin 66) (ch : Fin 11264) :
    val_main_v7 (F := Ideal) x0 x1 (ix4 q i j ch) = cell (up x0 x1 q ch) i.val j.val := by
  unfold val_main_v7 cell
  pointwise
  by_cases h : (1 ≤ i.val ∧ i.val ≤ 64) ∧ 1 ≤ j.val ∧ j.val ≤ 64
  · have hp : (1 ≤ i.val ∧ i.val - 1 < 64) ∧ 1 ≤ j.val ∧ j.val - 1 < 64 := by omega
    rw [dif_pos hp, dif_pos h]
    exact v6_apply x0 x1 q ⟨i.val - 1, by omega⟩ ⟨j.val - 1, by omega⟩ ch
  · have hp : ¬ ((1 ≤ i.val ∧ i.val - 1 < 64) ∧ 1 ≤ j.val ∧ j.val - 1 < 64) := by omega
    rw [dif_neg hp, dif_neg h]
    exact pad_zero _

/-- The reference's nine-tap convolution. -/
theorem ref_conv (q : Fin 2) (r : Fin 4096) (ch : Fin 11264) :
    val_main_v73 (F := Ideal) x0 x1 x2 x3 (ix3 q r ch)
      = conv (up x0 x1 q ch) (taps x2 ch) (x3 (ix2 0 ch)) (r.val / 64) (r.val % 64) := by
  simp only [val_main_v4, val_main_v5, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73]
  have h7 := fun i j => v7_apply x0 x1 q i j ch
  generalize val_main_v7 x0 x1 = X at h7 ⊢
  pointwise
  simp only [h7]
  rfl

/-- The reference's result at an index. -/
theorem ref_apply (q : Fin 2) (r : Fin 4096) (l : Fin 5632) :
    val_main_v91 (F := Ideal) x0 x1 x2 x3 (ix2 (row q r) l)
      = (let l' : Fin 11264 := ⟨l.val, by omega⟩
         let l'' : Fin 11264 := ⟨5632 + l.val, by omega⟩
         out (up x0 x1 q l') (up x0 x1 q l'') (taps x2 l') (taps x2 l'') (x3 (ix2 0 l')) (x3 (ix2 0 l'')) (r.val / 64) (r.val % 64)) := by
  have h := fun ch => ref_conv x0 x1 x2 x3 q r ch
  simp only [val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_cst, val_main_cst_0, val_main_cst_1, val_main_cst_2]
  unfold out Up.gelu
  simp only [← h]
  generalize val_main_v73 x0 x1 x2 x3 = X
  pointwise
  have e : (⟨(row q r).val / 4096, by omega⟩ : Fin 2) = q := Fin.ext (by show (q.val * 4096 + r.val) / 4096 = q.val; omega)
  have e' : (⟨(row q r).val % 4096, by omega⟩ : Fin 4096) = r := Fin.ext (by show (q.val * 4096 + r.val) % 4096 = r.val; omega)
  simp only [e, e']
  rw [mul_assoc (X _) (X _) (X _)]
end

section
open Cert.KGridIdeal Cert.KGridIdeal.Gen

section
variable {e : EltTy} {n k : ℕ}

/-- A whole window read from its buffer. -/
theorem load_whole (M : Memref sig .tc .vmem (⟨2, ![n, k]⟩ : Shape) e) (hM : M.IsWhole) (x : (⟨2, ![n, k]⟩ : Shape).Idx → Elt Ideal e)
    (inb : ∀ a : Fin 2, (![0, 0] : Fin 2 → ℕ) a + (![n, k] : Fin 2 → ℕ) a ≤ (![n, k] : Fin 2 → ℕ) a) :
    M.view.readAt (Elt Ideal) (Rect.unit (s := (⟨2, ![n, k]⟩ : Shape)) ![0, 0] (![n, k] : Fin 2 → ℕ) inb).toLoadRect (hM.unread x) = x := by
  refine (funext fun y => congrArg (M.view.read (Elt Ideal) (hM.unread x)) (funext fun a => Fin.ext ?_) : _ = M.view.read (Elt Ideal) (hM.unread x)).trans (hM.read_unread x)
  match a with
  | ⟨0, _⟩ => show 0 + 1 * (y 0).val = (y 0).val; omega
  | ⟨1, _⟩ => show 0 + 1 * (y 1).val = (y 1).val; omega
end

section
variable {κ : Kind} {sp : Space} {e : EltTy} {N n p k : ℕ} (v : View sig κ sp (⟨2, ![N, k]⟩ : Shape) e) (L : List (View.Piece (Elt Ideal) (⟨2, ![N, k]⟩ : Shape) e))

/-- Rows `o` and on, read from a buffer of more rows. -/
theorem load_rows (f : v.ty.Contents (Elt Ideal)) (o : ℕ) (inb : ∀ a : Fin 2, (![o, 0] : Fin 2 → ℕ) a + (![n, k] : Fin 2 → ℕ) a ≤ (![N, k] : Fin 2 → ℕ) a)
    (r : Fin n) (l : Fin k) (R : Fin N) (hR : R.val = o + r.val) :
    v.readAt (Elt Ideal) (Rect.unit (s := (⟨2, ![N, k]⟩ : Shape)) ![o, 0] (![n, k] : Fin 2 → ℕ) inb).toLoadRect f (ix2 r l) = v.read (Elt Ideal) f (ix2 R l) := by
  refine congrArg (v.read (Elt Ideal) f) (funext fun a => Fin.ext ?_)
  match a with
  | ⟨0, _⟩ => show o + 1 * r.val = R.val; omega
  | ⟨1, _⟩ => show 0 + 1 * l.val = l.val; omega

/-- A buffer that holds `p` rows of one value and then `n` of another, read at a row of the first … -/
theorem read_two_fst (i1 : ∀ a : Fin 2, (![p, 0] : Fin 2 → ℕ) a + (![n, k] : Fin 2 → ℕ) a ≤ (![N, k] : Fin 2 → ℕ) a)
    (i0 : ∀ a : Fin 2, (![0, 0] : Fin 2 → ℕ) a + (![p, k] : Fin 2 → ℕ) a ≤ (![N, k] : Fin 2 → ℕ) a)
    (T : (⟨2, ![n, k]⟩ : Shape).Idx → Elt Ideal e) (Z : (⟨2, ![p, k]⟩ : Shape).Idx → Elt Ideal e) (f : v.ty.Contents (Elt Ideal)) (R : Fin N) (l : Fin k) (h : R.val < p) :
    v.read (Elt Ideal) (v.writes (Elt Ideal) f (⟨Rect.unit (s := (⟨2, ![N, k]⟩ : Shape)) ![p, 0] (![n, k] : Fin 2 → ℕ) i1, T⟩
        :: ⟨Rect.unit (s := (⟨2, ![N, k]⟩ : Shape)) ![0, 0] (![p, k] : Fin 2 → ℕ) i0, Z⟩ :: L)) (ix2 R l) = Z (ix2 ⟨R.val, h⟩ l) := by
  rw [View.read_writes_cons_unit_of_not_mem v f i1 T _ (ix2 R l) rfl (0 : Fin 2) (Or.inl h)]
  exact View.read_writes_cons_unit_of_mem v f i0 Z _ (ix2 R l) (ix2 ⟨R.val, h⟩ l) rfl fun a => match a with
    | ⟨0, _⟩ => (Nat.zero_add _).symm
    | ⟨1, _⟩ => (Nat.zero_add _).symm

/-- … and, the first value stored last, at a row of the second. -/
theorem read_two_snd (i1 : ∀ a : Fin 2, (![0, 0] : Fin 2 → ℕ) a + (![n, k] : Fin 2 → ℕ) a ≤ (![N, k] : Fin 2 → ℕ) a)
    (i0 : ∀ a : Fin 2, (![n, 0] : Fin 2 → ℕ) a + (![p, k] : Fin 2 → ℕ) a ≤ (![N, k] : Fin 2 → ℕ) a)
    (T : (⟨2, ![n, k]⟩ : Shape).Idx → Elt Ideal e) (Z : (⟨2, ![p, k]⟩ : Shape).Idx → Elt Ideal e) (f : v.ty.Contents (Elt Ideal)) (R : Fin N) (l : Fin k) (r : Fin p) (h : R.val = n + r.val) :
    v.read (Elt Ideal) (v.writes (Elt Ideal) f (⟨Rect.unit (s := (⟨2, ![N, k]⟩ : Shape)) ![0, 0] (![n, k] : Fin 2 → ℕ) i1, T⟩
        :: ⟨Rect.unit (s := (⟨2, ![N, k]⟩ : Shape)) ![n, 0] (![p, k] : Fin 2 → ℕ) i0, Z⟩ :: L)) (ix2 R l) = Z (ix2 r l) := by
  rw [View.read_writes_cons_unit_of_not_mem v f i1 T _ (ix2 R l) rfl (0 : Fin 2) (Or.inr (show 0 + n ≤ R.val by omega))]
  exact View.read_writes_cons_unit_of_mem v f i0 Z _ (ix2 R l) (ix2 r l) rfl fun a => match a with
    | ⟨0, _⟩ => h
    | ⟨1, _⟩ => (Nat.zero_add _).symm

/-- The row of the value stored last. -/
theorem read_last (o : ℕ) (i1 : ∀ a : Fin 2, (![o, 0] : Fin 2 → ℕ) a + (![n, k] : Fin 2 → ℕ) a ≤ (![N, k] : Fin 2 → ℕ) a)
    (T : (⟨2, ![n, k]⟩ : Shape).Idx → Elt Ideal e) (f : v.ty.Contents (Elt Ideal)) (R : Fin N) (l : Fin k) (r : Fin n) (h : R.val = o + r.val) :
    v.read (Elt Ideal) (v.writes (Elt Ideal) f (⟨Rect.unit (s := (⟨2, ![N, k]⟩ : Shape)) ![o, 0] (![n, k] : Fin 2 → ℕ) i1, T⟩ :: L)) (ix2 R l) = T (ix2 r l) :=
  View.read_writes_cons_unit_of_mem v f i1 T _ (ix2 R l) (ix2 r l) rfl fun a => match a with
    | ⟨0, _⟩ => h
    | ⟨1, _⟩ => (Nat.zero_add _).symm

/-- The buffer that holds `p` rows of one value and then `n` of another: its first `n` rows. -/
theorem load_lower (i1 : ∀ a : Fin 2, (![p, 0] : Fin 2 → ℕ) a + (![n, k] : Fin 2 → ℕ) a ≤ (![N, k] : Fin 2 → ℕ) a)
    (i0 : ∀ a : Fin 2, (![0, 0] : Fin 2 → ℕ) a + (![p, k] : Fin 2 → ℕ) a ≤ (![N, k] : Fin 2 → ℕ) a)
    (inb : ∀ a : Fin 2, (![0, 0] : Fin 2 → ℕ) a + (![n, k] : Fin 2 → ℕ) a ≤ (![N, k] : Fin 2 → ℕ) a)
    (T : (⟨2, ![n, k]⟩ : Shape).Idx → Elt Ideal e) (Z : (⟨2, ![p, k]⟩ : Shape).Idx → Elt Ideal e) (hN : N = n + p) (r : Fin n) (l : Fin k) :
    v.readCov (Val := Elt Ideal) (⟨Rect.unit (s := (⟨2, ![N, k]⟩ : Shape)) ![p, 0] (![n, k] : Fin 2 → ℕ) i1, T⟩
        :: ⟨Rect.unit (s := (⟨2, ![N, k]⟩ : Shape)) ![0, 0] (![p, k] : Fin 2 → ℕ) i0, Z⟩ :: L)
        (Rect.unit (s := (⟨2, ![N, k]⟩ : Shape)) ![0, 0] (![n, k] : Fin 2 → ℕ) inb).toLoadRect (ix2 r l)
      = if h : r.val < p then Z (ix2 ⟨r.val, h⟩ l) else T (ix2 ⟨r.val - p, by omega⟩ l) := by
  refine (load_rows v _ 0 inb r l ⟨r.val, by omega⟩ (Nat.zero_add _).symm).trans ?_
  by_cases h : r.val < p
  · rw [dif_pos h]
    exact read_two_fst v L i1 i0 T Z _ ⟨r.val, by omega⟩ l h
  · rw [dif_neg h]
    exact read_last v _ p i1 T _ ⟨r.val, by omega⟩ l ⟨r.val - p, by omega⟩ (by show r.val = p + (r.val - p); omega)

/-- The buffer that holds `n` rows of one value and then `p` of another: its last `n` rows. -/
theorem load_higher (i1 : ∀ a : Fin 2, (![0, 0] : Fin 2 → ℕ) a + (![n, k] : Fin 2 → ℕ) a ≤ (![N, k] : Fin 2 → ℕ) a)
    (i0 : ∀ a : Fin 2, (![n, 0] : Fin 2 → ℕ) a + (![p, k] : Fin 2 → ℕ) a ≤ (![N, k] : Fin 2 → ℕ) a)
    (inb : ∀ a : Fin 2, (![p, 0] : Fin 2 → ℕ) a + (![n, k] : Fin 2 → ℕ) a ≤ (![N, k] : Fin 2 → ℕ) a)
    (T : (⟨2, ![n, k]⟩ : Shape).Idx → Elt Ideal e) (Z : (⟨2, ![p, k]⟩ : Shape).Idx → Elt Ideal e) (hN : N = n + p) (r : Fin n) (l : Fin k) :
    v.readCov (Val := Elt Ideal) (⟨Rect.unit (s := (⟨2, ![N, k]⟩ : Shape)) ![0, 0] (![n, k] : Fin 2 → ℕ) i1, T⟩
        :: ⟨Rect.unit (s := (⟨2, ![N, k]⟩ : Shape)) ![n, 0] (![p, k] : Fin 2 → ℕ) i0, Z⟩ :: L)
        (Rect.unit (s := (⟨2, ![N, k]⟩ : Shape)) ![p, 0] (![n, k] : Fin 2 → ℕ) inb).toLoadRect (ix2 r l)
      = if h : r.val + p < n then T (ix2 ⟨r.val + p, h⟩ l) else Z (ix2 ⟨r.val + p - n, by omega⟩ l) := by
  refine (load_rows v _ p inb r l ⟨r.val + p, by omega⟩ (Nat.add_comm _ _)).trans ?_
  by_cases h : r.val + p < n
  · rw [dif_pos h]
    exact read_last v _ 0 i1 T _ ⟨r.val + p, by omega⟩ l ⟨r.val + p, h⟩ (Nat.zero_add _).symm
  · rw [dif_neg h]
    exact read_two_snd v L i1 i0 T Z _ ⟨r.val + p, by omega⟩ l ⟨r.val + p - n, by omega⟩ (by show r.val + p = n + (r.val + p - n); omega)
end

/-- What the kernel's body leaves in its output window. -/
theorem out_apply (c : Dev nD) (i : grid0.Coords) (arg2 : Memref sig .tc .vmem S4096x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S9x256 .f32) (harg5 : arg5.IsWhole) (arg6 : Memref sig .tc .vmem S9x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S4096x256 .bf16) (harg9 : arg9.IsWhole) (arg10 : Memref sig .tc .vmem S4160x256 .f32) (harg10 : arg10.IsWhole) (arg11 : Memref sig .tc .vmem S4160x256 .f32) (harg11 : arg11.IsWhole)
    (x0 : Vec Ideal S4096x2048 .bf16) (x1 : Vec Ideal S2048x256 .bf16) (x2 : Vec Ideal S2048x256 .bf16) (x3 : Vec Ideal S9x256 .f32) (x4 : Vec Ideal S9x256 .f32) (x5 : Vec Ideal S1x256 .f32) (x6 : Vec Ideal S1x256 .f32)
    (r : Fin 4096) (l : Fin 256) :
    out0_A_7 (F := Ideal) c i arg2 harg2 arg3 harg3 arg4 harg4 arg5 harg5 arg6 harg6 arg7 harg7 arg8 harg8 arg9 harg9 arg10 harg10 arg11 harg11 x0 x1 x2 x3 x4 x5 x6 (ix2 r l)
      = Up.gelu (convBlk (prod x0 x1 l) (fun t => x3 (ix2 t l)) (x5 (ix2 0 l)) r) * convBlk (prod x0 x2 l) (fun t => x4 (ix2 t l)) (x6 (ix2 0 l)) r := by
  unfold out0_A_7 kernelRun0_A
  refine (View.read_writes_cons_unit_of_mem VO0_7 _ _ _ _ (ix2 r l) (ix2 r l) rfl fun a => match a with
    | ⟨0, _⟩ => (Nat.zero_add _).symm
    | ⟨1, _⟩ => (Nat.zero_add _).symm).trans ?_
  refine (pay2_apply _ _ _ _ r l).trans ?_
  unfold kernelRun0_A.sl.r_6
  rw [pay16_apply]
  unfold kernelRun0_A.sl.v69 kernelRun0_A.sl.v71 kernelRun0_A.sl.v134 kernelRun0_A.sl.v136 kernelRun0_A.sl.HS0_4 kernelRun0_A.sl.HS1_4
  unfold kernelRun0_A.sl.HS0_2 kernelRun0_A.sl.HS1_2
  unfold kernelRun0_A.sl.r_5 kernelRun0_A.sl.r_11 kernelRun0_A.sl.r_12 kernelRun0_A.sl.r_13 kernelRun0_A.sl.r_10 kernelRun0_A.sl.r_9
  unfold kernelRun0_A.sl.r_8 kernelRun0_A.sl.r_7 kernelRun0_A.sl.r_4 kernelRun0_A.sl.r_3 kernelRun0_A.sl.r_2 kernelRun0_A.sl.r_1 kernelRun0_A.sl.r
  rw [load_whole (n := 4096) (k := 2048) arg2 harg2 x0, load_whole (n := 2048) (k := 256) arg3 harg3 x1, load_whole (n := 2048) (k := 256) arg4 harg4 x2,
    load_whole (n := 9) (k := 256) arg5 harg5 x3, load_whole (n := 9) (k := 256) arg6 harg6 x4, load_whole (n := 1) (k := 256) arg7 harg7 x5,
    load_whole (n := 1) (k := 256) arg8 harg8 x6]
  rw [pay17_eq, pay18_eq, pay19_eq, pay21_eq, pay24_eq, pay1_eq, pay23_eq, pay14_eq, pay25_eq]
  unfold convBlk
  refine congrArg₂ (fun a b => Up.gelu a * b) (congrArg₂ (· + ·) (congrArg₂ (· + ·) (pay10_apply x0 x1 x3 x5 r l) ?_) ?_)
    (congrArg₂ (· + ·) (congrArg₂ (· + ·) (pay10_apply x0 x2 x4 x6 r l) ?_) ?_)
  · refine (load_lower (N := 4160) (n := 4096) (p := 64) (k := 256) arg10.view [] _ _ _ _ _ rfl r l).trans ?_
    simp only [pay12_apply, pay13_apply]
  · refine (load_higher (N := 4160) (n := 4096) (p := 64) (k := 256) arg11.view [] _ _ _ _ _ rfl r l).trans ?_
    simp only [pay12_apply, pay15_apply]
  · refine (load_lower (N := 4160) (n := 4096) (p := 64) (k := 256) arg10.view _ _ _ _ _ _ rfl r l).trans ?_
    simp only [pay12_apply, pay13_apply]
  · refine (load_higher (N := 4160) (n := 4096) (p := 64) (k := 256) arg11.view _ _ _ _ _ _ rfl r l).trans ?_
    simp only [pay12_apply, pay15_apply]
end

end Cert.Grid

namespace Cert.KGridIdeal.Hand

open Cert.KGridIdeal Cert.KGridIdeal.Gen

variable (m : (ℓ : Loc nD τ sig) → Buf (Elt Ideal) ℓ) (ρ : Dev nD → PrngReg)

/-- The reference's result of device `c`'s arguments: what the kernel's result array is shown to hold. -/
abbrev G (c : Dev nD) : Vec Ideal S8192x5632 .bf16 :=
  Cert.RGridIdeal.Read.val_main_v91 (F := Ideal) (m ((c : Thread nD τ).loc main_arg0)) (m ((c : Thread nD τ).loc main_arg1))
    (m ((c : Thread nD τ).loc main_arg2)) (m ((c : Thread nD τ).loc main_arg3))

theorem hz2 : (![0, 0] : Fin 2 → Nat) = fun _ => 0 := funext fun a => by fin_cases a <;> rfl

theorem weight_apply (x : FVec Ideal S1x2048x11264 .f32) (k : Fin 2048) (l : Fin 11264) :
    truncf .bf16 (shapeCast S2048x11264 x shapeCasts_S1x2048x11264_S2048x11264) bitsLt_bf16_f32 (ix2 k l) = x (ix3 0 k l) := by
  pointwise

theorem taps_apply (x : FVec Ideal S1x3x3x11264 .f32) (t : Fin 9) (l : Fin 11264) :
    shapeCast S9x11264 (shapeCast S3x3x11264 x shapeCasts_S1x3x3x11264_S3x3x11264) shapeCasts_S3x3x11264_S9x11264 (ix2 t l) = Cert.Grid.taps x l t := by
  pointwise

theorem bias_apply (x : FVec Ideal S1x11264 .f32) (l : Fin 11264) :
    shapeCast S1x11264 (shapeCast S11264 x shapeCasts_S1x11264_S11264) shapeCasts_S11264_S1x11264 (ix2 0 l) = x (ix2 0 l) := by
  pointwise

/-- The arrays the host prepares for the kernel, as terms of the arguments. -/
theorem V_v1 (c : Dev nD) : @Eq (FVec Ideal S2048x11264 .bf16) (V m c main_v1)
    (truncf .bf16 (shapeCast S2048x11264 (m ((c : Thread nD τ).loc main_arg1) : Vec Ideal S1x2048x11264 .f32) shapeCasts_S1x2048x11264_S2048x11264) bitsLt_bf16_f32) := by
  unfold V; after_results <;> rfl

theorem V_v4 (c : Dev nD) : @Eq (FVec Ideal S9x11264 .f32) (V m c main_v4)
    (shapeCast S9x11264 (shapeCast S3x3x11264 (m ((c : Thread nD τ).loc main_arg2) : Vec Ideal S1x3x3x11264 .f32) shapeCasts_S1x3x3x11264_S3x3x11264) shapeCasts_S3x3x11264_S9x11264) := by
  unfold V; after_results <;> rfl

theorem V_v5 (c : Dev nD) : @Eq (FVec Ideal S1x11264 .f32) (V m c main_v5)
    (shapeCast S1x11264 (shapeCast S11264 (m ((c : Thread nD τ).loc main_arg3) : Vec Ideal S1x11264 .f32) shapeCasts_S1x11264_S11264) shapeCasts_S11264_S1x11264) := by
  unfold V; after_results <;> rfl

/-- Where the windows' blocks lie at each grid point. -/
theorem index_eq : ∀ t : Fin cfg0.N,
    (win0_0.index t 0 = t.val / 22 ∧ win0_0.index t 1 = 0) ∧ (win0_1.index t 0 = 0 ∧ win0_1.index t 1 = t.val % 22)
    ∧ (win0_2.index t 0 = 0 ∧ win0_2.index t 1 = 22 + t.val % 22) ∧ (win0_3.index t 0 = 0 ∧ win0_3.index t 1 = t.val % 22)
    ∧ (win0_4.index t 0 = 0 ∧ win0_4.index t 1 = 22 + t.val % 22) ∧ (win0_5.index t 0 = 0 ∧ win0_5.index t 1 = t.val % 22)
    ∧ (win0_6.index t 0 = 0 ∧ win0_6.index t 1 = 22 + t.val % 22) ∧ (win0_7.index t 0 = t.val / 22 ∧ win0_7.index t 1 = t.val % 22) := by
  show ∀ t : Fin grid0.N, _
  decide +kernel

theorem lt_N (t : Fin cfg0.N) : t.val < 44 := lt_of_lt_of_eq t.isLt N_0

/-- The block row of point `t`, and its two columns of channels. -/
abbrev q (t : Fin cfg0.N) : Fin 2 := ⟨t.val / 22, by have := lt_N t; omega⟩
abbrev lo (t : Fin cfg0.N) (l : Fin 256) : Fin 11264 := ⟨t.val % 22 * 256 + l.val, by omega⟩
abbrev hi (t : Fin cfg0.N) (l : Fin 256) : Fin 11264 := ⟨5632 + (t.val % 22 * 256 + l.val), by omega⟩

theorem iblk0 (c : Dev nD) (t : Fin cfg0.N) (r : Fin 4096) (k : Fin 2048) :
    (iblk m c 0 t : Vec Ideal S4096x2048 .bf16) (ix2 r k) = (m ((c : Thread nD τ).loc main_arg0) : Vec Ideal S8192x2048 .bf16) (ix2 (Cert.Grid.row (q t) r) k) := by
  have e := (index_eq t).1
  rw [← V_main_arg0 m c]
  unfold iblk
  refine congrArg (V m c main_arg0 : Vec Ideal S8192x2048 .bf16) (funext fun a => Fin.ext ?_)
  match a with
  | ⟨0, _⟩ => show win0_0.index t 0 * 4096 + 1 * r.val = t.val / 22 * 4096 + r.val; rw [e.1]; omega
  | ⟨1, _⟩ => show win0_0.index t 1 * 2048 + 1 * k.val = k.val; rw [e.2]; omega

theorem iblk1 (c : Dev nD) (t : Fin cfg0.N) (k : Fin 2048) (l : Fin 256) :
    (iblk m c 1 t : Vec Ideal S2048x256 .bf16) (ix2 k l) = (V m c main_v1 : Vec Ideal S2048x11264 .bf16) (ix2 k (lo t l)) := by
  have e := (index_eq t).2.1
  unfold iblk
  refine congrArg (V m c main_v1 : Vec Ideal S2048x11264 .bf16) (funext fun a => Fin.ext ?_)
  match a with
  | ⟨0, _⟩ => show win0_1.index t 0 * 2048 + 1 * k.val = k.val; rw [e.1]; omega
  | ⟨1, _⟩ => show win0_1.index t 1 * 256 + 1 * l.val = t.val % 22 * 256 + l.val; rw [e.2]; omega

theorem iblk2 (c : Dev nD) (t : Fin cfg0.N) (k : Fin 2048) (l : Fin 256) :
    (iblk m c 2 t : Vec Ideal S2048x256 .bf16) (ix2 k l) = (V m c main_v1 : Vec Ideal S2048x11264 .bf16) (ix2 k (hi t l)) := by
  have e := (index_eq t).2.2.1
  unfold iblk
  refine congrArg (V m c main_v1 : Vec Ideal S2048x11264 .bf16) (funext fun a => Fin.ext ?_)
  match a with
  | ⟨0, _⟩ => show win0_2.index t 0 * 2048 + 1 * k.val = k.val; rw [e.1]; omega
  | ⟨1, _⟩ => show win0_2.index t 1 * 256 + 1 * l.val = 5632 + (t.val % 22 * 256 + l.val); rw [e.2]; omega

theorem iblk3 (c : Dev nD) (t : Fin cfg0.N) (k : Fin 9) (l : Fin 256) :
    (iblk m c 3 t : Vec Ideal S9x256 .f32) (ix2 k l) = (V m c main_v4 : Vec Ideal S9x11264 .f32) (ix2 k (lo t l)) := by
  have e := (index_eq t).2.2.2.1
  unfold iblk
  refine congrArg (V m c main_v4 : Vec Ideal S9x11264 .f32) (funext fun a => Fin.ext ?_)
  match a with
  | ⟨0, _⟩ => show win0_3.index t 0 * 9 + 1 * k.val = k.val; rw [e.1]; omega
  | ⟨1, _⟩ => show win0_3.index t 1 * 256 + 1 * l.val = t.val % 22 * 256 + l.val; rw [e.2]; omega

theorem iblk4 (c : Dev nD) (t : Fin cfg0.N) (k : Fin 9) (l : Fin 256) :
    (iblk m c 4 t : Vec Ideal S9x256 .f32) (ix2 k l) = (V m c main_v4 : Vec Ideal S9x11264 .f32) (ix2 k (hi t l)) := by
  have e := (index_eq t).2.2.2.2.1
  unfold iblk
  refine congrArg (V m c main_v4 : Vec Ideal S9x11264 .f32) (funext fun a => Fin.ext ?_)
  match a with
  | ⟨0, _⟩ => show win0_4.index t 0 * 9 + 1 * k.val = k.val; rw [e.1]; omega
  | ⟨1, _⟩ => show win0_4.index t 1 * 256 + 1 * l.val = 5632 + (t.val % 22 * 256 + l.val); rw [e.2]; omega

theorem iblk5 (c : Dev nD) (t : Fin cfg0.N) (k : Fin 1) (l : Fin 256) :
    (iblk m c 5 t : Vec Ideal S1x256 .f32) (ix2 k l) = (V m c main_v5 : Vec Ideal S1x11264 .f32) (ix2 k (lo t l)) := by
  have e := (index_eq t).2.2.2.2.2.1
  unfold iblk
  refine congrArg (V m c main_v5 : Vec Ideal S1x11264 .f32) (funext fun a => Fin.ext ?_)
  match a with
  | ⟨0, _⟩ => show win0_5.index t 0 * 1 + 1 * k.val = k.val; rw [e.1]; omega
  | ⟨1, _⟩ => show win0_5.index t 1 * 256 + 1 * l.val = t.val % 22 * 256 + l.val; rw [e.2]; omega

theorem iblk6 (c : Dev nD) (t : Fin cfg0.N) (k : Fin 1) (l : Fin 256) :
    (iblk m c 6 t : Vec Ideal S1x256 .f32) (ix2 k l) = (V m c main_v5 : Vec Ideal S1x11264 .f32) (ix2 k (hi t l)) := by
  have e := (index_eq t).2.2.2.2.2.2.1
  unfold iblk
  refine congrArg (V m c main_v5 : Vec Ideal S1x11264 .f32) (funext fun a => Fin.ext ?_)
  match a with
  | ⟨0, _⟩ => show win0_6.index t 0 * 1 + 1 * k.val = k.val; rw [e.1]; omega
  | ⟨1, _⟩ => show win0_6.index t 1 * 256 + 1 * l.val = 5632 + (t.val % 22 * 256 + l.val); rw [e.2]; omega

/-- What point `t` writes back is block `t` of the reference's result. -/
theorem flushed_eq (c : Dev nD) (t : Fin cfg0.N) :
    (dats m 0 c).flushed 7 t = (win0_7.blk t).view.read (Elt Ideal) (G m c) := by
  rw [Value.flushed7_A]
  have e := (index_eq t).2.2.2.2.2.2.2
  refine funext fun (j : S4096x256.Idx) => ?_
  obtain ⟨r, l, rfl⟩ : ∃ (r : Fin 4096) (l : Fin 256), j = ix2 r l := ⟨j 0, j 1, (ix2_eta j).symm⟩
  refine (Cert.Grid.out_apply c _ _ _ _ _ _ _ _ _ _ _ _ _ _ _ _ _ _ _ _ _ _ _ _ _ _ _ _ r l : _).trans ?_
  unfold Cert.Grid.prod
  simp only [iblk0, iblk1, iblk2, iblk3, iblk4, iblk5, iblk6]
  rw [V_v1, V_v4, V_v5]
  simp only [weight_apply, taps_apply, bias_apply]
  have h := fun ch => Cert.Grid.convBlk_eq (Cert.Grid.up (m ((c : Thread nD τ).loc main_arg0)) (m ((c : Thread nD τ).loc main_arg1)) (q t) ch)
  unfold Cert.Grid.up at h
  rw [h, h]
  refine Eq.trans ?_ ((Cert.Grid.ref_apply _ _ _ _ (q t) r ⟨t.val % 22 * 256 + l.val, by omega⟩).symm.trans (congrArg (G m c) (funext fun a => Fin.ext ?_)))
  · rfl
  match a with
  | ⟨0, _⟩ => show t.val / 22 * 4096 + r.val = win0_7.index t 0 * 4096 + 1 * r.val; rw [e.1]; omega
  | ⟨1, _⟩ => show t.val % 22 * 256 + l.val = win0_7.index t 1 * 256 + 1 * l.val; rw [e.2]; omega

/-- An index is in block `t` when its row and its column are. -/
theorem mem_blk (t : Fin cfg0.N) (i : S8192x5632.Idx) :
    i ∈ ((cfg0.win 7).blk t).view.set ↔ (t.val / 22 * 4096 ≤ (i 0 : Nat) ∧ (i 0 : Nat) < t.val / 22 * 4096 + 4096)
      ∧ (t.val % 22 * 256 ≤ (i 1 : Nat) ∧ (i 1 : Nat) < t.val % 22 * 256 + 256) := by
  show i ∈ ((View.whole main_v6).slice (win0_7.rect t)).set ↔ _
  rw [View.set_slice_whole, Rect.mem_set_unit]
  have e := (index_eq t).2.2.2.2.2.2.2
  refine ⟨fun h => ⟨?_, ?_⟩, fun h a => ?_⟩
  · have : win0_7.index t 0 * 4096 ≤ (i 0 : Nat) ∧ (i 0 : Nat) < win0_7.index t 0 * 4096 + 4096 := h 0
    rw [e.1] at this; exact this
  · have : win0_7.index t 1 * 256 ≤ (i 1 : Nat) ∧ (i 1 : Nat) < win0_7.index t 1 * 256 + 256 := h 1
    rw [e.2] at this; exact this
  · match a with
    | ⟨0, _⟩ => show win0_7.index t 0 * 4096 ≤ (i 0 : Nat) ∧ (i 0 : Nat) < win0_7.index t 0 * 4096 + 4096
                rw [e.1]; exact h.1
    | ⟨1, _⟩ => show win0_7.index t 1 * 256 ≤ (i 1 : Nat) ∧ (i 1 : Nat) < win0_7.index t 1 * 256 + 256
                rw [e.2]; exact h.2

theorem cover (i : S8192x5632.Idx) : ∃ t : Fin cfg0.N, (cfg0.win 7).flush t = true ∧ i ∈ ((cfg0.win 7).blk t).view.set := by
  have h0 : (i 0 : Nat) < 8192 := (i 0).isLt
  have h1 : (i 1 : Nat) < 5632 := (i 1).isLt
  have hN : cfg0.N = 44 := N_0
  refine ⟨⟨(i 0 : Nat) / 4096 * 22 + (i 1 : Nat) / 256, by omega⟩, flush0_7 _, ?_⟩
  rw [mem_blk]
  dsimp only
  generalize (i 0 : Nat) = a at *
  generalize (i 1 : Nat) = b at *
  omega

/-- The result array ends holding the reference's result. -/
theorem final (c : Dev nD) : (dats m 0 c).arrAt 7 cfg0.N = G m c :=
  (dats m 0 c).arrAt_eq_of_cover 7 (G m c) (fun t _ => flushed_eq m c t) cover

end Cert.KGridIdeal.Hand

namespace Cert.Proof.GridClaims

theorem frame_k : Cert.quiescent_KGrid := fun m ρ _ => Cert.KGrid.Gen.frame m ρ
theorem frame_ki : Cert.quiescent_KGridIdeal := fun m ρ _ => Cert.KGridIdeal.Gen.frame m ρ
/-- The reference is host operations alone: its run leaves its arguments as they were. -/
theorem frame_ri : Cert.quiescent_RGridIdeal := fun m ρ _ =>
  (θ_run Cert.RGridIdeal.defs _ _).mono (fun r h => ⟨fun c => (h c).2, Idealize.ShloMosaic.sem_eq_zero_of_no_sems (by decide) r.2⟩)
    (Cert.RGridIdeal.Value.run (F := Ideal) m ρ)

theorem preserves : Cert.preserves_KGrid_KGridIdeal := trivial

/-- Over the extended reals the kernel's result array and the reference's end equal, from arguments that agree. -/
theorem algebraic : Cert.algebraic_KGridIdeal_RGridIdeal := by
  intro m ρ m' ρ' _ hag
  refine ⟨fun c => Cert.KGridIdeal.Hand.G m c, ?_, ?_⟩
  · exact (θ_run Cert.KGridIdeal.defs _ _).mono (fun _ h c => ⟨(h c).1.trans (Cert.KGridIdeal.Hand.final m c), (h c).2⟩)
      (Cert.KGridIdeal.Value.run_blocks (F := Ideal) m ρ)
  · refine (θ_run Cert.RGridIdeal.defs _ _).mono (fun _ h c => ⟨((h c).1.trans (Cert.RGridIdeal.Read.val_main_v91_eq m' c)).trans ?_, (h c).2⟩)
      (Cert.RGridIdeal.Value.run (F := Ideal) m' ρ')
    obtain ⟨h0, h1, h2, h3⟩ := hag c
    rw [h0, h1, h2, h3]

end Cert.Proof.GridClaims
end
-- ==== Proof.Ada.lean ====
/- The modulation (`KAda`): the silu of the conditions through one projection, against its reference. -/
module

public import proofs.«01_k».proof.Defs
public import proofs.«01_k».proof.Proof.Gen.KAda.Frame
public import proofs.«01_k».proof.Proof.Gen.KAdaIdeal.Value
public import proofs.«01_k».proof.Proof.Gen.RAdaIdeal.Run
public import proofs.«01_k».proof.Proof.Gen.RAdaIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ada

/-- One element of the modulation: the silu of a condition times a column of weights, plus its bias. -/
def mod (x : Fin 2048 → EReal) (w : Fin 2048 → EReal) (b : EReal) : EReal := (∑ k : Fin 2048, x k * Ideal.logistic (x k) * w k) + b

open Cert.KAdaIdeal Cert.KAdaIdeal.Gen in
/-- The kernel's payload at an index. -/
theorem pay_apply (v0 : Vec Ideal S8x2048 .f32) (v3 : Vec Ideal S2048x1024 .f32) (v6 : Vec Ideal S1x1024 .f32) (r : Fin 8) (l : Fin 1024) :
    k0_pay1 (F := Ideal) v0 v3 v6 (ix2 r l) = mod (fun k => v0 (ix2 r k)) (fun k => v3 (ix2 k l)) (v6 (ix2 0 l)) := by
  unfold mod
  pointwise [k0_pay1]

open Cert.RAdaIdeal Cert.RAdaIdeal.Gen Cert.RAdaIdeal.Read in
/-- The reference's result at an index. -/
theorem ref_apply (x0 : Vec Ideal S8x2048 .f32) (x1 : Vec Ideal S1x2048x12288 .f32) (x2 : Vec Ideal S1x12288 .f32) (r : Fin 8) (l : Fin 12288) :
    val_main_v6 (F := Ideal) x0 x1 x2 (ix2 r l) = mod (fun k => x0 (ix2 r k)) (fun k => x1 (ix3 0 k l)) (x2 (ix2 0 l)) := by
  unfold mod
  rw [← val_main_v6_eq]
  pointwise
  rfl

open Cert.KAdaIdeal Cert.KAdaIdeal.Gen in
theorem weight_apply (x : FVec Ideal S1x2048x12288 .f32) (k : Fin 2048) (l : Fin 12288) :
    shapeCast S2048x12288 x shapeCasts_S1x2048x12288_S2048x12288 (ix2 k l) = x (ix3 0 k l) := by
  pointwise

open Cert.KAdaIdeal Cert.KAdaIdeal.Gen in
theorem bias_apply (x : FVec Ideal S1x12288 .f32) (l : Fin 12288) :
    shapeCast S1x12288 (shapeCast S12288 x shapeCasts_S1x12288_S12288) shapeCasts_S12288_S1x12288 (ix2 0 l) = x (ix2 0 l) := by
  pointwise

end Cert.Ada

namespace Cert.KAdaIdeal.Hand

open Cert.KAdaIdeal Cert.KAdaIdeal.Gen

variable (m : (ℓ : Loc nD τ sig) → Buf (Elt Ideal) ℓ) (ρ : Dev nD → PrngReg)

/-- The reference's result of device `c`'s arguments: what the kernel's result array is shown to hold. -/
abbrev G (c : Dev nD) : Vec Ideal S8x12288 .f32 :=
  Cert.RAdaIdeal.Read.val_main_v6 (F := Ideal) (m ((c : Thread nD τ).loc main_arg0)) (m ((c : Thread nD τ).loc main_arg1)) (m ((c : Thread nD τ).loc main_arg2))

theorem hz2 : (![0, 0] : Fin 2 → Nat) = fun _ => 0 := funext fun a => by fin_cases a <;> rfl

/-- The arrays the host prepares for the kernel, as terms of the arguments. -/
theorem V_w (c : Dev nD) : @Eq (FVec Ideal S2048x12288 .f32) (V m c main_v0)
    (shapeCast S2048x12288 (m ((c : Thread nD τ).loc main_arg1) : Vec Ideal S1x2048x12288 .f32) shapeCasts_S1x2048x12288_S2048x12288) := by
  unfold V; after_results <;> rfl

theorem V_b (c : Dev nD) : @Eq (FVec Ideal S1x12288 .f32) (V m c main_v2)
    (shapeCast S1x12288 (shapeCast S12288 (m ((c : Thread nD τ).loc main_arg2) : Vec Ideal S1x12288 .f32) shapeCasts_S1x12288_S12288) shapeCasts_S12288_S1x12288) := by
  unfold V; after_results <;> rfl

/-- Where the windows' blocks lie at each grid point: all the conditions, and 1024 columns. -/
theorem index_eq : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) := by
  show ∀ t : Fin grid0.N, _
  decide +kernel

theorem lt_N (t : Fin cfg0.N) : t.val < 12 := lt_of_lt_of_eq t.isLt N_0

/-- Column `l` of point `t`'s block. -/
abbrev col (t : Fin cfg0.N) (l : Fin 1024) : Fin 12288 := ⟨t.val * 1024 + l.val, by have := lt_N t; omega⟩

theorem iblk0 (c : Dev nD) (t : Fin cfg0.N) (r : Fin 8) (k : Fin 2048) :
    (iblk m c 0 t : Vec Ideal S8x2048 .f32) (ix2 r k) = (m ((c : Thread nD τ).loc main_arg0) : Vec Ideal S8x2048 .f32) (ix2 r k) := by
  have e := (index_eq t).1
  rw [← V_main_arg0 m c]
  unfold iblk
  refine congrArg (V m c main_arg0 : Vec Ideal S8x2048 .f32) (funext fun a => Fin.ext ?_)
  match a with
  | ⟨0, _⟩ => show win0_0.index t 0 * 8 + 1 * r.val = r.val; rw [e.1]; omega
  | ⟨1, _⟩ => show win0_0.index t 1 * 2048 + 1 * k.val = k.val; rw [e.2]; omega

theorem iblk1 (c : Dev nD) (t : Fin cfg0.N) (k : Fin 2048) (l : Fin 1024) :
    (iblk m c 1 t : Vec Ideal S2048x1024 .f32) (ix2 k l) = (m ((c : Thread nD τ).loc main_arg1) : Vec Ideal S1x2048x12288 .f32) (ix3 0 k (col t l)) := by
  have e := (index_eq t).2.1
  refine Eq.trans ?_ ((congrFun (V_w m c) (ix2 k (col t l))).trans (Cert.Ada.weight_apply _ k (col t l)))
  unfold iblk
  refine congrArg (V m c main_v0 : Vec Ideal S2048x12288 .f32) (funext fun a => Fin.ext ?_)
  match a with
  | ⟨0, _⟩ => show win0_1.index t 0 * 2048 + 1 * k.val = k.val; rw [e.1]; omega
  | ⟨1, _⟩ => show win0_1.index t 1 * 1024 + 1 * l.val = t.val * 1024 + l.val; rw [e.2]; omega

theorem iblk2 (c : Dev nD) (t : Fin cfg0.N) (l : Fin 1024) :
    (iblk m c 2 t : Vec Ideal S1x1024 .f32) (ix2 0 l) = (m ((c : Thread nD τ).loc main_arg2) : Vec Ideal S1x12288 .f32) (ix2 0 (col t l)) := by
  have e := (index_eq t).2.2.1
  refine Eq.trans ?_ ((congrFun (V_b m c) (ix2 0 (col t l))).trans (Cert.Ada.bias_apply _ (col t l)))
  unfold iblk
  refine congrArg (V m c main_v2 : Vec Ideal S1x12288 .f32) (funext fun a => Fin.ext ?_)
  match a with
  | ⟨0, _⟩ => show win0_2.index t 0 * 1 + 1 * 0 = 0; rw [e.1]
  | ⟨1, _⟩ => show win0_2.index t 1 * 1024 + 1 * l.val = t.val * 1024 + l.val; rw [e.2]; omega

/-- What point `t` writes back is block `t` of the reference's result. -/
theorem flushed_eq (c : Dev nD) (t : Fin cfg0.N) :
    (dats m 0 c).flushed 3 t = (win0_3.blk t).view.read (Elt Ideal) (G m c) := by
  rw [Value.flushed3]
  unfold out0_3
  rw [View.canon_unit_zero hz2, View.ld_unit_zero hz2, View.ld_unit_zero hz2, View.ld_unit_zero hz2]
  have e := (index_eq t).2.2.2
  refine funext fun (j : S8x1024.Idx) => ?_
  obtain ⟨r, l, rfl⟩ : ∃ (r : Fin 8) (l : Fin 1024), j = ix2 r l := ⟨j 0, j 1, (ix2_eta j).symm⟩
  show k0_pay1 (F := Ideal) (iblk m c 0 t) (iblk m c 1 t) (iblk m c 2 t) (ix2 r l) = G m c _
  refine (Cert.Ada.pay_apply _ _ _ r l).trans ?_
  simp only [iblk0, iblk1, iblk2]
  refine (Cert.Ada.ref_apply _ _ _ r (col t l)).symm.trans (congrArg (G m c) (funext fun a => Fin.ext ?_))
  match a with
  | ⟨0, _⟩ => show r.val = win0_3.index t 0 * 8 + 1 * r.val; rw [e.1]; omega
  | ⟨1, _⟩ => show t.val * 1024 + l.val = win0_3.index t 1 * 1024 + 1 * l.val; rw [e.2]; omega

/-- An index is in block `t` when its column is. -/
theorem mem_blk (t : Fin cfg0.N) (i : S8x12288.Idx) :
    i ∈ ((cfg0.win 3).blk t).view.set ↔ t.val * 1024 ≤ (i 1 : Nat) ∧ (i 1 : Nat) < t.val * 1024 + 1024 := by
  show i ∈ ((View.whole main_v3).slice (win0_3.rect t)).set ↔ _
  rw [View.set_slice_whole, Rect.mem_set_unit]
  have h0 : (i 0 : Nat) < 8 := (i 0).isLt
  have e := (index_eq t).2.2.2
  refine ⟨fun h => ?_, fun h a => ?_⟩
  · have : win0_3.index t 1 * 1024 ≤ (i 1 : Nat) ∧ (i 1 : Nat) < win0_3.index t 1 * 1024 + 1024 := h 1
    rw [e.2] at this; exact this
  · match a with
    | ⟨0, _⟩ => show win0_3.index t 0 * 8 ≤ (i 0 : Nat) ∧ (i 0 : Nat) < win0_3.index t 0 * 8 + 8
                rw [e.1]; exact ⟨by norm_num, by norm_num; exact h0⟩
    | ⟨1, _⟩ => show win0_3.index t 1 * 1024 ≤ (i 1 : Nat) ∧ (i 1 : Nat) < win0_3.index t 1 * 1024 + 1024
                rw [e.2]; exact h

/-- Every index lies in the block of its column. -/
theorem cover (i : S8x12288.Idx) : ∃ t : Fin cfg0.N, (cfg0.win 3).flush t = true ∧ i ∈ ((cfg0.win 3).blk t).view.set := by
  have h1 : (i 1 : Nat) < 12288 := (i 1).isLt
  have hN : cfg0.N = 12 := N_0
  refine ⟨⟨(i 1 : Nat) / 1024, by omega⟩, flush0_3 _, ?_⟩
  rw [mem_blk]
  dsimp only
  generalize (i 1 : Nat) = a at *
  omega

/-- The result array ends holding the reference's result. -/
theorem final (c : Dev nD) : (dats m 0 c).arrAt 3 cfg0.N = G m c :=
  (dats m 0 c).arrAt_eq_of_cover 3 (G m c) (fun t _ => flushed_eq m c t) cover

end Cert.KAdaIdeal.Hand

namespace Cert.Proof.AdaClaims

theorem frame_k : Cert.quiescent_KAda := fun m ρ _ => Cert.KAda.Gen.frame m ρ
theorem frame_ki : Cert.quiescent_KAdaIdeal := fun m ρ _ => Cert.KAdaIdeal.Gen.frame m ρ
/-- The reference is host operations alone: its run leaves its arguments as they were. -/
theorem frame_ri : Cert.quiescent_RAdaIdeal := fun m ρ _ =>
  (θ_run Cert.RAdaIdeal.defs _ _).mono (fun r h => ⟨fun c => (h c).2, Idealize.ShloMosaic.sem_eq_zero_of_no_sems (by decide) r.2⟩)
    (Cert.RAdaIdeal.Value.run (F := Ideal) m ρ)

theorem preserves : Cert.preserves_KAda_KAdaIdeal := trivial

/-- Over the extended reals the kernel's result array and the reference's end equal, from arguments that agree. -/
theorem algebraic : Cert.algebraic_KAdaIdeal_RAdaIdeal := by
  intro m ρ m' ρ' _ hag
  refine ⟨fun c => Cert.KAdaIdeal.Hand.G m c, ?_, ?_⟩
  · exact (θ_run Cert.KAdaIdeal.defs _ _).mono (fun _ h c => ⟨(h c).1.trans (Cert.KAdaIdeal.Hand.final m c), (h c).2⟩)
      (Cert.KAdaIdeal.Value.run_blocks (F := Ideal) m ρ)
  · refine (θ_run Cert.RAdaIdeal.defs _ _).mono (fun _ h c => ⟨((h c).1.trans (Cert.RAdaIdeal.Read.val_main_v6_eq _ _ _)).trans ?_, (h c).2⟩)
      (Cert.RAdaIdeal.Value.run (F := Ideal) m' ρ')
    obtain ⟨h0, h1, h2⟩ := hag c
    rw [h0, h1, h2]

end Cert.Proof.AdaClaims
end
-- ==== Proof.Mlp.lean ====
/- The hidden layers of the Hyena filters (`KMlp`): the encoded positions, padded with lanes that meet zero weights, through three sines, against the reference. -/
module

public import proofs.«01_k».proof.Defs
public import proofs.«01_k».proof.Proof.Gen.KMlp.Frame
public import proofs.«01_k».proof.Proof.Gen.KMlpIdeal.Value
public import proofs.«01_k».proof.Proof.Gen.RMlpIdeal.Run
public import proofs.«01_k».proof.Proof.Gen.RMlpIdeal.Read
public import Idealize.ShloMosaic.Lib.Pointwise
public import Idealize.ShloMosaic.Lib.Pipeline.Value
public import Idealize.ShloMosaic.Lib.Quiescent
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.Mlp

/-- One unit of a layer: the sine of its frequency times a column of weights, plus its bias. -/
def unit {n : Nat} (x w : Fin n → EReal) (b f : EReal) : EReal := Ideal.sin (f * ((∑ k : Fin n, x k * w k) + b))

/-- Lane `l` of the three layers, from the encoded position `z`. -/
def mlp {n : Nat} (z : Fin n → EReal) (w1 : Fin n → Fin 64 → EReal) (b1 : Fin 64 → EReal) (w2 : Fin 64 → Fin 64 → EReal) (b2 : Fin 64 → EReal)
    (w3 : Fin 64 → Fin 64 → EReal) (b3 f : Fin 64 → EReal) (l : Fin 64) : EReal :=
  unit (fun j => unit (fun i => unit z (fun k => w1 k i) (b1 i) (f i)) (fun i => w2 i j) (b2 j) (f j)) (fun j => w3 j l) (b3 l) (f l)

/-- Lanes that meet zero weights add nothing. -/
theorem unit_pad (x : Fin 128 → EReal) (w : Fin 33 → EReal) (b f : EReal) :
    unit x (fun k => if h : k.val < 33 then w ⟨k.val, h⟩ else 0) b f = unit (fun k : Fin 33 => x ⟨k.val, by omega⟩) w b f := by
  unfold unit
  have e : (∑ k : Fin (33 + 95), x k * (if h : k.val < 33 then w ⟨k.val, h⟩ else 0)) = ∑ k : Fin 33, x ⟨k.val, by omega⟩ * w k := by
    rw [Fin.sum_univ_add]
    have z : (∑ k : Fin 95, x (Fin.natAdd 33 k) * (if h : (Fin.natAdd 33 k : Fin (33 + 95)).val < 33 then w ⟨(Fin.natAdd 33 k : Fin (33 + 95)).val, h⟩ else 0)) = 0 :=
      Finset.sum_eq_zero fun k _ => by
        rw [dif_neg (by show ¬ 33 + k.val < 33; omega), mul_zero]
    rw [z, add_zero]
    refine Finset.sum_congr rfl fun k _ => ?_
    rw [dif_pos (show (Fin.castAdd 95 k : Fin (33 + 95)).val < 33 from k.isLt)]
    rfl
  exact congrArg (fun s => Ideal.sin (f * (s + b))) e

theorem mlp_pad (z : Fin 128 → EReal) (w1 : Fin 33 → Fin 64 → EReal) (b1 : Fin 64 → EReal) (w2 : Fin 64 → Fin 64 → EReal) (b2 : Fin 64 → EReal)
    (w3 : Fin 64 → Fin 64 → EReal) (b3 f : Fin 64 → EReal) (l : Fin 64) :
    mlp z (fun k i => if h : k.val < 33 then w1 ⟨k.val, h⟩ i else 0) b1 w2 b2 w3 b3 f l = mlp (fun k : Fin 33 => z ⟨k.val, by omega⟩) w1 b1 w2 b2 w3 b3 f l := by
  have h := fun i => unit_pad z (fun k => w1 k i) (b1 i) (f i)
  unfold mlp
  simp only [h]

open Cert.KMlpIdeal Cert.KMlpIdeal.Gen in
/-- The kernel's payload at an index. -/
theorem pay_apply (fq : Vec Ideal S1x64 .f32) (z : Vec Ideal S512x128 .f32) (w1 : Vec Ideal S128x64 .f32) (b1 : Vec Ideal S1x64 .f32)
    (w2 : Vec Ideal S64x64 .f32) (b2 : Vec Ideal S1x64 .f32) (w3 : Vec Ideal S64x64 .f32) (b3 : Vec Ideal S1x64 .f32) (r : Fin 512) (l : Fin 64) :
    k0_pay1 (F := Ideal) fq z w1 b1 w2 b2 w3 b3 (ix2 r l)
      = mlp (fun k => z (ix2 r k)) (fun k i => w1 (ix2 k i)) (fun i => b1 (ix2 0 i)) (fun k i => w2 (ix2 k i)) (fun i => b2 (ix2 0 i))
          (fun k i => w3 (ix2 k i)) (fun i => b3 (ix2 0 i)) (fun i => fq (ix2 0 i)) l := by
  unfold mlp unit
  pointwise [k0_pay1]

open Cert.RMlpIdeal Cert.RMlpIdeal.Gen Cert.RMlpIdeal.Read in
/-- The reference's result at an index. -/
theorem ref_apply (z : Vec Ideal S512x128 .f32) (w1 : Vec Ideal S1x33x64 .f32) (b1 : Vec Ideal S1x64 .f32) (w2 : Vec Ideal S1x64x64 .f32) (b2 : Vec Ideal S1x64 .f32)
    (w3 : Vec Ideal S1x64x64 .f32) (b3 fq : Vec Ideal S1x64 .f32) (r : Fin 512) (l : Fin 64) :
    val_main_v33 (F := Ideal) z w1 b1 w2 b2 w3 b3 fq (ix2 r l)
      = mlp (fun k : Fin 33 => z (ix2 r ⟨k.val, by omega⟩)) (fun k i => w1 (ix3 0 k i)) (fun i => b1 (ix2 0 i)) (fun k i => w2 (ix3 0 k i)) (fun i => b2 (ix2 0 i))
          (fun k i => w3 (ix3 0 k i)) (fun i => b3 (ix2 0 i)) (fun i => fq (ix2 0 i)) l := by
  unfold mlp unit
  rw [← val_main_v33_eq]
  pointwise

open Cert.KMlpIdeal Cert.KMlpIdeal.Gen in
/-- Where an element of the first weights lands in the padded array: at its own row and column. -/
theorem lands (idx : IVec S1 32) (hidx : (idx (ix1 0)).toInt = 0) (a : Fin 33) (b : Fin 64) (k : Fin 128) (l : Fin 64) :
    scatter_S128x64_S1_S33x64_01_n_0_0.resultIdx? (ix2 a b) idx = some (ix2 k l) ↔ a.val = k.val ∧ b = l := by
  have hs0 : scatter_S128x64_S1_S33x64_01_n_0_0.start (ix2 a b) idx 0 = 0 := by
    unfold ScatterDims.start
    rw [dif_pos (show (0 : Fin 2) ∈ scatter_S128x64_S1_S33x64_01_n_0_0.scatterDimsToOperandDims from List.mem_singleton.2 rfl)]
    refine Eq.trans (congrArg (fun i => (idx i).toInt) (funext fun q => ?_)) hidx
    match q with
    | ⟨0, _⟩ => exact Subsingleton.elim (α := Fin 1) _ _
  have hs1 : scatter_S128x64_S1_S33x64_01_n_0_0.start (ix2 a b) idx 1 = 0 := by
    unfold ScatterDims.start
    rw [dif_neg (show (1 : Fin 2) ∉ scatter_S128x64_S1_S33x64_01_n_0_0.scatterDimsToOperandDims by decide)]
  have hw0 : scatter_S128x64_S1_S33x64_01_n_0_0.window (ix2 a b) 0 = a.val := rfl
  have hw1 : scatter_S128x64_S1_S33x64_01_n_0_0.window (ix2 a b) 1 = b.val := rfl
  refine (Routing.resultIdx?_ix2 (R := 128) (C := 64) scatter_S128x64_S1_S33x64_01_n_0_0 (ix2 a b) idx k l).trans ?_
  rw [hs0, hs1, hw0, hw1, Fin.ext_iff]
  omega

open Cert.KMlpIdeal Cert.KMlpIdeal.Gen in
/-- The first weights padded with zero rows, at an index. -/
theorem pad_apply (x : Vec Ideal S1x33x64 .f32) (k : Fin 128) (l : Fin 64) :
    Host.scatter scatter_S128x64_S1_S33x64_01_n_0_0 (fun _ b => b) (broadcastInDim S128x64 ![] bcast_S_S128x64 (constant (F := Ideal) S_ .f32 0x00000000#32))
      (broadcastInDim S1 ![] bcast_S_S1 (constantI S_ 32 0#32)) (shapeCast S33x64 x shapeCasts_S1x33x64_S33x64) (ix2 k l)
      = if h : k.val < 33 then x (ix3 0 ⟨k.val, h⟩ l) else 0 := by
  have hidx : ((broadcastInDim S1 ![] bcast_S_S1 (constantI S_ 32 0#32) : IVec S1 32) (ix1 0)).toInt = 0 := rfl
  by_cases h : k.val < 33
  · rw [dif_pos h]
    have at_kl : (shapeCast S33x64 x shapeCasts_S1x33x64_S33x64 : FVec Ideal S33x64 .f32) (ix2 ⟨k.val, h⟩ l) = x (ix3 0 ⟨k.val, h⟩ l) := by pointwise
    rw [← at_kl]
    refine Routing.scatter_set_hit _ _ _ _ _ _ (fun j hj => ?_) (ix2 ⟨k.val, h⟩ l) ((lands _ hidx _ _ _ _).2 ⟨rfl, rfl⟩)
    obtain ⟨a, b, rfl⟩ : ∃ (a : Fin 33) (b : Fin 64), j = ix2 a b := ⟨j 0, j 1, (ix2_eta j).symm⟩
    obtain ⟨ha, rfl⟩ := (lands _ hidx _ _ _ _).1 hj
    obtain rfl : a = ⟨k.val, h⟩ := Fin.ext ha
    rfl
  · rw [dif_neg h]
    refine Eq.trans (Routing.scatter_set_miss _ _ _ _ _ fun j hj => ?_) ?_
    · obtain ⟨a, b, rfl⟩ : ∃ (a : Fin 33) (b : Fin 64), j = ix2 a b := ⟨j 0, j 1, (ix2_eta j).symm⟩
      have := ((lands _ hidx _ _ _ _).1 hj).1
      omega
    · pointwise

open Cert.KMlpIdeal Cert.KMlpIdeal.Gen in
theorem square_apply (x : FVec Ideal S1x64x64 .f32) (k l : Fin 64) : shapeCast S64x64 x shapeCasts_S1x64x64_S64x64 (ix2 k l) = x (ix3 0 k l) := by
  pointwise

open Cert.KMlpIdeal Cert.KMlpIdeal.Gen in
theorem row_apply (x : FVec Ideal S1x64 .f32) (l : Fin 64) :
    shapeCast S1x64 (shapeCast S64 x shapeCasts_S1x64_S64) shapeCasts_S64_S1x64 (ix2 0 l) = x (ix2 0 l) := by
  pointwise

end Cert.Mlp

namespace Cert.KMlpIdeal.Hand

open Cert.KMlpIdeal Cert.KMlpIdeal.Gen

variable (m : (ℓ : Loc nD τ sig) → Buf (Elt Ideal) ℓ) (ρ : Dev nD → PrngReg)

/-- The reference's result of device `c`'s arguments: what the kernel's result array is shown to hold. -/
abbrev G (c : Dev nD) : Vec Ideal S512x64 .f32 :=
  Cert.RMlpIdeal.Read.val_main_v33 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

theorem hz2 : (![0, 0] : Fin 2 → Nat) = fun _ => 0 := funext fun a => by fin_cases a <;> rfl

/-- The arrays the host prepares for the kernel, as terms of the arguments. -/
theorem V_w1 (c : Dev nD) : @Eq (FVec Ideal S128x64 .f32) (V m c main_v3)
    (Host.scatter scatter_S128x64_S1_S33x64_01_n_0_0 (fun _ b => b) (broadcastInDim S128x64 ![] bcast_S_S128x64 (constant (F := Ideal) S_ .f32 0x00000000#32))
      (broadcastInDim S1 ![] bcast_S_S1 (constantI S_ 32 0#32)) (shapeCast S33x64 (m ((c : Thread nD τ).loc main_arg1) : Vec Ideal S1x33x64 .f32) shapeCasts_S1x33x64_S33x64)) := by
  unfold V; after_results <;> rfl

theorem V_w2 (c : Dev nD) : @Eq (FVec Ideal S64x64 .f32) (V m c main_v5)
    (shapeCast S64x64 (m ((c : Thread nD τ).loc main_arg3) : Vec Ideal S1x64x64 .f32) shapeCasts_S1x64x64_S64x64) := by
  unfold V; after_results <;> rfl

theorem V_w3 (c : Dev nD) : @Eq (FVec Ideal S64x64 .f32) (V m c main_v7)
    (shapeCast S64x64 (m ((c : Thread nD τ).loc main_arg5) : Vec Ideal S1x64x64 .f32) shapeCasts_S1x64x64_S64x64) := by
  unfold V; after_results <;> rfl

theorem V_b1 (c : Dev nD) : @Eq (FVec Ideal S1x64 .f32) (V m c main_v10)
    (shapeCast S1x64 (shapeCast S64 (m ((c : Thread nD τ).loc main_arg2) : Vec Ideal S1x64 .f32) shapeCasts_S1x64_S64) shapeCasts_S64_S1x64) := by
  unfold V; after_results <;> rfl

theorem V_b2 (c : Dev nD) : @Eq (FVec Ideal S1x64 .f32) (V m c main_v11)
    (shapeCast S1x64 (shapeCast S64 (m ((c : Thread nD τ).loc main_arg4) : Vec Ideal S1x64 .f32) shapeCasts_S1x64_S64) shapeCasts_S64_S1x64) := by
  unfold V; after_results <;> rfl

theorem V_b3 (c : Dev nD) : @Eq (FVec Ideal S1x64 .f32) (V m c main_v12)
    (shapeCast S1x64 (shapeCast S64 (m ((c : Thread nD τ).loc main_arg6) : Vec Ideal S1x64 .f32) shapeCasts_S1x64_S64) shapeCasts_S64_S1x64) := by
  unfold V; after_results <;> rfl

theorem V_f (c : Dev nD) : @Eq (FVec Ideal S1x64 .f32) (V m c main_v13)
    (shapeCast S1x64 (shapeCast S64 (m ((c : Thread nD τ).loc main_arg7) : Vec Ideal S1x64 .f32) shapeCasts_S1x64_S64) shapeCasts_S64_S1x64) := by
  unfold V; after_results <;> rfl

/-- Every window's block is its whole array. -/
theorem index_eq : ∀ t : Fin cfg0.N, ∀ a : Fin 2,
    win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 := by
  show ∀ t : Fin grid0.N, _
  decide +kernel

/-- A block that is its whole array is read where it is asked. -/
theorem at_own {n k : Nat} (f : Fin 2 → Nat) (hf : ∀ a, f a = 0) (g : (⟨2, ![n, k]⟩ : Shape).Idx) (r : Fin n) (l : Fin k)
    (h0 : (g 0 : Nat) = f 0 * n + 1 * r.val) (h1 : (g 1 : Nat) = f 1 * k + 1 * l.val) : g = ix2 r l := by
  refine funext fun a => Fin.ext ?_
  match a with
  | ⟨0, _⟩ => exact h0.trans (by rw [hf 0, Nat.zero_mul]; exact (Nat.zero_add _).trans (Nat.one_mul _))
  | ⟨1, _⟩ => exact h1.trans (by rw [hf 1, Nat.zero_mul]; exact (Nat.zero_add _).trans (Nat.one_mul _))

theorem iblk0 (c : Dev nD) (t : Fin cfg0.N) (r : Fin 512) (k : Fin 128) :
    (iblk m c 0 t : Vec Ideal S512x128 .f32) (ix2 r k) = (m ((c : Thread nD τ).loc main_arg0) : Vec Ideal S512x128 .f32) (ix2 r k) := by
  rw [← V_main_arg0 m c]
  unfold iblk
  exact congrArg (V m c main_arg0 : Vec Ideal S512x128 .f32) (at_own (win0_0.index t) (fun a => (index_eq t a).1) _ r k rfl rfl)

theorem iblk1 (c : Dev nD) (t : Fin cfg0.N) (k : Fin 128) (l : Fin 64) :
    @Eq EReal ((iblk m c 1 t : Vec Ideal S128x64 .f32) (ix2 k l))
      (if h : k.val < 33 then (m ((c : Thread nD τ).loc main_arg1) : Vec Ideal S1x33x64 .f32) (ix3 0 ⟨k.val, h⟩ l) else (0 : EReal)) := by
  refine Eq.trans ?_ ((congrFun (V_w1 m c) (ix2 k l)).trans (Cert.Mlp.pad_apply _ k l))
  unfold iblk
  exact congrArg (V m c main_v3 : Vec Ideal S128x64 .f32) (at_own (win0_1.index t) (fun a => (index_eq t a).2.1) _ k l rfl rfl)

theorem iblk2 (c : Dev nD) (t : Fin cfg0.N) (l : Fin 64) :
    (iblk m c 2 t : Vec Ideal S1x64 .f32) (ix2 0 l) = (m ((c : Thread nD τ).loc main_arg2) : Vec Ideal S1x64 .f32) (ix2 0 l) := by
  refine Eq.trans ?_ ((congrFun (V_b1 m c) (ix2 0 l)).trans (Cert.Mlp.row_apply _ l))
  unfold iblk
  exact congrArg (V m c main_v10 : Vec Ideal S1x64 .f32) (at_own (win0_2.index t) (fun a => (index_eq t a).2.2.1) _ 0 l rfl rfl)

theorem iblk4 (c : Dev nD) (t : Fin cfg0.N) (l : Fin 64) :
    (iblk m c 4 t : Vec Ideal S1x64 .f32) (ix2 0 l) = (m ((c : Thread nD τ).loc main_arg4) : Vec Ideal S1x64 .f32) (ix2 0 l) := by
  refine Eq.trans ?_ ((congrFun (V_b2 m c) (ix2 0 l)).trans (Cert.Mlp.row_apply _ l))
  unfold iblk
  exact congrArg (V m c main_v11 : Vec Ideal S1x64 .f32) (at_own (win0_4.index t) (fun a => (index_eq t a).2.2.2.2.1) _ 0 l rfl rfl)

theorem iblk6 (c : Dev nD) (t : Fin cfg0.N) (l : Fin 64) :
    (iblk m c 6 t : Vec Ideal S1x64 .f32) (ix2 0 l) = (m ((c : Thread nD τ).loc main_arg6) : Vec Ideal S1x64 .f32) (ix2 0 l) := by
  refine Eq.trans ?_ ((congrFun (V_b3 m c) (ix2 0 l)).trans (Cert.Mlp.row_apply _ l))
  unfold iblk
  exact congrArg (V m c main_v12 : Vec Ideal S1x64 .f32) (at_own (win0_6.index t) (fun a => (index_eq t a).2.2.2.2.2.2.1) _ 0 l rfl rfl)

theorem iblk7 (c : Dev nD) (t : Fin cfg0.N) (l : Fin 64) :
    (iblk m c 7 t : Vec Ideal S1x64 .f32) (ix2 0 l) = (m ((c : Thread nD τ).loc main_arg7) : Vec Ideal S1x64 .f32) (ix2 0 l) := by
  refine Eq.trans ?_ ((congrFun (V_f m c) (ix2 0 l)).trans (Cert.Mlp.row_apply _ l))
  unfold iblk
  exact congrArg (V m c main_v13 : Vec Ideal S1x64 .f32) (at_own (win0_7.index t) (fun a => (index_eq t a).2.2.2.2.2.2.2.1) _ 0 l rfl rfl)

theorem iblk3 (c : Dev nD) (t : Fin cfg0.N) (k l : Fin 64) :
    (iblk m c 3 t : Vec Ideal S64x64 .f32) (ix2 k l) = (m ((c : Thread nD τ).loc main_arg3) : Vec Ideal S1x64x64 .f32) (ix3 0 k l) := by
  refine Eq.trans ?_ ((congrFun (V_w2 m c) (ix2 k l)).trans (Cert.Mlp.square_apply _ k l))
  unfold iblk
  exact congrArg (V m c main_v5 : Vec Ideal S64x64 .f32) (at_own (win0_3.index t) (fun a => (index_eq t a).2.2.2.1) _ k l rfl rfl)

theorem iblk5 (c : Dev nD) (t : Fin cfg0.N) (k l : Fin 64) :
    (iblk m c 5 t : Vec Ideal S64x64 .f32) (ix2 k l) = (m ((c : Thread nD τ).loc main_arg5) : Vec Ideal S1x64x64 .f32) (ix3 0 k l) := by
  refine Eq.trans ?_ ((congrFun (V_w3 m c) (ix2 k l)).trans (Cert.Mlp.square_apply _ k l))
  unfold iblk
  exact congrArg (V m c main_v7 : Vec Ideal S64x64 .f32) (at_own (win0_5.index t) (fun a => (index_eq t a).2.2.2.2.2.1) _ k l rfl rfl)

/-- What the one point writes back is the reference's result. -/
theorem flushed_eq (c : Dev nD) (t : Fin cfg0.N) :
    (dats m 0 c).flushed 8 t = (win0_8.blk t).view.read (Elt Ideal) (G m c) := by
  rw [Value.flushed8]
  unfold out0_8
  rw [View.canon_unit_zero hz2, View.ld_unit_zero hz2, View.ld_unit_zero hz2, View.ld_unit_zero hz2, View.ld_unit_zero hz2, View.ld_unit_zero hz2, View.ld_unit_zero hz2, View.ld_unit_zero hz2, View.ld_unit_zero hz2]
  refine funext fun (j : S512x64.Idx) => ?_
  obtain ⟨r, l, rfl⟩ : ∃ (r : Fin 512) (l : Fin 64), j = ix2 r l := ⟨j 0, j 1, (ix2_eta j).symm⟩
  show k0_pay1 (F := Ideal) (iblk m c 7 t) (iblk m c 0 t) (iblk m c 1 t) (iblk m c 2 t) (iblk m c 3 t) (iblk m c 4 t) (iblk m c 5 t) (iblk m c 6 t) (ix2 r l) = G m c _
  refine (Cert.Mlp.pay_apply _ _ _ _ _ _ _ _ r l).trans ?_
  simp only [iblk0, iblk1, iblk2, iblk3, iblk4, iblk5, iblk6, iblk7]
  refine (Cert.Mlp.mlp_pad _ (fun k i => (m ((c : Thread nD τ).loc main_arg1) : Vec Ideal S1x33x64 .f32) (ix3 0 k i)) _ _ _ _ _ _ l).trans ?_
  exact (Cert.Mlp.ref_apply _ _ _ _ _ _ _ _ r l).symm.trans (congrArg (G m c) (at_own (win0_8.index t) (fun a => (index_eq t a).2.2.2.2.2.2.2.2) _ r l rfl rfl).symm)

/-- Every index lies in the one block. -/
theorem cover (i : S512x64.Idx) : ∃ t : Fin cfg0.N, (cfg0.win 8).flush t = true ∧ i ∈ ((cfg0.win 8).blk t).view.set := by
  have h0 : (i 0 : Nat) < 512 := (i 0).isLt
  have h1 : (i 1 : Nat) < 64 := (i 1).isLt
  have hN : cfg0.N = 1 := N_0
  refine ⟨⟨0, by omega⟩, flush0_8 _, ?_⟩
  generalize (⟨0, _⟩ : Fin cfg0.N) = t
  have e := fun a => (index_eq t a).2.2.2.2.2.2.2.2
  show i ∈ ((View.whole main_v14).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512
              rw [e 0]; omega
  | ⟨1, _⟩ => show win0_8.index t 1 * 64 ≤ (i 1 : Nat) ∧ (i 1 : Nat) < win0_8.index t 1 * 64 + 64
              rw [e 1]; omega

/-- The result array ends holding the reference's result. -/
theorem final (c : Dev nD) : (dats m 0 c).arrAt 8 cfg0.N = G m c :=
  (dats m 0 c).arrAt_eq_of_cover 8 (G m c) (fun t _ => flushed_eq m c t) cover

end Cert.KMlpIdeal.Hand

namespace Cert.Proof.MlpClaims

theorem frame_k : Cert.quiescent_KMlp := fun m ρ _ => Cert.KMlp.Gen.frame m ρ
theorem frame_ki : Cert.quiescent_KMlpIdeal := fun m ρ _ => Cert.KMlpIdeal.Gen.frame m ρ
/-- The reference is host operations alone: its run leaves its arguments as they were. -/
theorem frame_ri : Cert.quiescent_RMlpIdeal := fun m ρ _ =>
  (θ_run Cert.RMlpIdeal.defs _ _).mono (fun r h => ⟨fun c => (h c).2, Idealize.ShloMosaic.sem_eq_zero_of_no_sems (by decide) r.2⟩)
    (Cert.RMlpIdeal.Value.run (F := Ideal) m ρ)

theorem preserves : Cert.preserves_KMlp_KMlpIdeal := trivial

/-- Over the extended reals the kernel's result array and the reference's end equal, from arguments that agree. -/
theorem algebraic : Cert.algebraic_KMlpIdeal_RMlpIdeal := by
  intro m ρ m' ρ' _ hag
  refine ⟨fun c => Cert.KMlpIdeal.Hand.G m c, ?_, ?_⟩
  · exact (θ_run Cert.KMlpIdeal.defs _ _).mono (fun _ h c => ⟨(h c).1.trans (Cert.KMlpIdeal.Hand.final m c), (h c).2⟩)
      (Cert.KMlpIdeal.Value.run_blocks (F := Ideal) m ρ)
  · refine (θ_run Cert.RMlpIdeal.defs _ _).mono (fun _ h c => ⟨((h c).1.trans (Cert.RMlpIdeal.Read.val_main_v33_eq _ _ _ _ _ _ _ _)).trans ?_, (h c).2⟩)
      (Cert.RMlpIdeal.Value.run (F := Ideal) m' ρ')
    obtain ⟨h0, h1, h2, h3, h4, h5, h6, h7⟩ := hag c
    rw [h0, h1, h2, h3, h4, h5, h6, h7]

end Cert.Proof.MlpClaims
end
-- ==== Proof.lean ====
/- The certificate: the frames, the idealizations and the value claims of the layer's calls, put together. -/
module

public import proofs.«01_k».proof.Defs
public import proofs.«01_k».proof.Proof.Scan
public import proofs.«01_k».proof.Proof.Powers
public import proofs.«01_k».proof.Proof.Up
public import proofs.«01_k».proof.Proof.Down
public import proofs.«01_k».proof.Proof.Merge
public import proofs.«01_k».proof.Proof.In
public import proofs.«01_k».proof.Proof.Join
public import proofs.«01_k».proof.Proof.Enter
public import proofs.«01_k».proof.Proof.Grid
public import proofs.«01_k».proof.Proof.Last
public import proofs.«01_k».proof.Proof.Ada
public import proofs.«01_k».proof.Proof.Mlp
public import Idealize.ShloMosaic.Adequacy
public import Idealize.ShloMosaic.Init

@[expose] public section

noncomputable section

namespace Cert.Proof

open Idealize.ShloMosaic Idealize.SL.Sem Cert.KScan

/-- Every claim that the statement makes. -/
theorem claim : Cert.Claim := ⟨Cert.KScan.Gen.facts, Cert.KScanIdeal.Gen.facts, Cert.RScanIdeal.Gen.facts, Cert.KPowers.Gen.facts, Cert.KPowersIdeal.Gen.facts, Cert.RPowersIdeal.Gen.facts, Cert.KUp.Gen.facts, Cert.KUpIdeal.Gen.facts, Cert.RUpIdeal.Gen.facts, Cert.KDown.Gen.facts, Cert.KDownIdeal.Gen.facts, Cert.RDownIdeal.Gen.facts, Cert.KMerge.Gen.facts, Cert.KMergeIdeal.Gen.facts, Cert.RMergeIdeal.Gen.facts, Cert.KIn.Gen.facts, Cert.KInIdeal.Gen.facts, Cert.RInIdeal.Gen.facts, Cert.KJoin.Gen.facts, Cert.KJoinIdeal.Gen.facts, Cert.RJoinIdeal.Gen.facts, Cert.KEnter.Gen.facts, Cert.KEnterIdeal.Gen.facts, Cert.REnterIdeal.Gen.facts, Cert.KGrid.Gen.facts, Cert.KGridIdeal.Gen.facts, Cert.RGridIdeal.Gen.facts, Cert.KLast.Gen.facts, Cert.KLastIdeal.Gen.facts, Cert.RLastIdeal.Gen.facts, Cert.KAda.Gen.facts, Cert.KAdaIdeal.Gen.facts, Cert.RAdaIdeal.Gen.facts, Cert.KMlp.Gen.facts, Cert.KMlpIdeal.Gen.facts, Cert.RMlpIdeal.Gen.facts,
  Cert.Proof.ScanClaims.frame_k,
  Cert.Proof.ScanClaims.frame_ki,
  Cert.Proof.ScanClaims.frame_ri,
  Cert.Proof.PowersClaims.frame_k,
  Cert.Proof.PowersClaims.frame_ki,
  Cert.Proof.PowersClaims.frame_ri,
  Cert.Proof.UpClaims.frame_k,
  Cert.Proof.UpClaims.frame_ki,
  Cert.Proof.UpClaims.frame_ri,
  Cert.Proof.DownClaims.frame_k,
  Cert.Proof.DownClaims.frame_ki,
  Cert.Proof.DownClaims.frame_ri,
  Cert.Proof.MergeClaims.frame_k,
  Cert.Proof.MergeClaims.frame_ki,
  Cert.Proof.MergeClaims.frame_ri,
  Cert.Proof.InClaims.frame_k,
  Cert.Proof.InClaims.frame_ki,
  Cert.Proof.InClaims.frame_ri,
  Cert.Proof.JoinClaims.frame_k,
  Cert.Proof.JoinClaims.frame_ki,
  Cert.Proof.JoinClaims.frame_ri,
  Cert.Proof.EnterClaims.frame_k,
  Cert.Proof.EnterClaims.frame_ki,
  Cert.Proof.EnterClaims.frame_ri,
  Cert.Proof.GridClaims.frame_k,
  Cert.Proof.GridClaims.frame_ki,
  Cert.Proof.GridClaims.frame_ri,
  Cert.Proof.LastClaims.frame_k,
  Cert.Proof.LastClaims.frame_ki,
  Cert.Proof.LastClaims.frame_ri,
  Cert.Proof.AdaClaims.frame_k,
  Cert.Proof.AdaClaims.frame_ki,
  Cert.Proof.AdaClaims.frame_ri,
  Cert.Proof.MlpClaims.frame_k,
  Cert.Proof.MlpClaims.frame_ki,
  Cert.Proof.MlpClaims.frame_ri,
  Cert.Proof.ScanClaims.preserves,
  Cert.Proof.ScanClaims.algebraic,
  Cert.Proof.PowersClaims.preserves,
  Cert.Proof.PowersClaims.algebraic,
  Cert.Proof.UpClaims.preserves,
  Cert.Proof.UpClaims.algebraic,
  Cert.Proof.DownClaims.preserves,
  Cert.Proof.DownClaims.algebraic,
  Cert.Proof.MergeClaims.preserves,
  Cert.Proof.MergeClaims.algebraic,
  Cert.Proof.InClaims.preserves,
  Cert.Proof.InClaims.algebraic,
  Cert.Proof.JoinClaims.preserves,
  Cert.Proof.JoinClaims.algebraic,
  Cert.Proof.EnterClaims.preserves,
  Cert.Proof.EnterClaims.algebraic,
  Cert.Proof.GridClaims.preserves,
  Cert.Proof.GridClaims.algebraic,
  Cert.Proof.LastClaims.preserves,
  Cert.Proof.LastClaims.algebraic,
  Cert.Proof.AdaClaims.preserves,
  Cert.Proof.AdaClaims.algebraic,
  Cert.Proof.MlpClaims.preserves,
  Cert.Proof.MlpClaims.algebraic⟩

end Cert.Proof

end
